-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWReferenceIdeal (m : (ℓ : Loc Cert.GradWReferenceIdeal.nD Cert.GradWReferenceIdeal.τ Cert.GradWReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWReferenceIdeal [hGradWReferenceIdeal : Cert.GradWReferenceIdeal.Facts] : Prop :=
  ∀ (m : (ℓ : Loc Cert.GradWReferenceIdeal.nD Cert.GradWReferenceIdeal.τ Cert.GradWReferenceIdeal.sig) → Buf (Elt Ideal) ℓ) (g : Dev Cert.GradWReferenceIdeal.nD → PrngReg), Pre_GradWReferenceIdeal m →
    θ_run (Cert.GradWReferenceIdeal.defs (F := Ideal)) (onTc (τ := Cert.GradWReferenceIdeal.τ) (Cert.GradWReferenceIdeal.main (F := Ideal))) ⟨m, fun _ => 0, g⟩ (fun r => (∀ c : Dev Cert.GradWReferenceIdeal.nD,
      r.2.mem ((c.tc : Thread Cert.GradWReferenceIdeal.nD Cert.GradWReferenceIdeal.τ).loc Cert.GradWReferenceIdeal.main_arg0) = m ((c.tc : Thread Cert.GradWReferenceIdeal.nD Cert.GradWReferenceIdeal.τ).loc Cert.GradWReferenceIdeal.main_arg0)
      ∧ r.2.mem ((c.tc : Thread Cert.GradWReferenceIdeal.nD Cert.GradWReferenceIdeal.τ).loc Cert.GradWReferenceIdeal.main_arg1) = m ((c.tc : Thread Cert.GradWReferenceIdeal.nD Cert.GradWReferenceIdeal.τ).loc Cert.GradWReferenceIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1)
      ∧ r.2.mem ((c.tc : Thread Cert.InGradReferenceIdeal.nD Cert.InGradReferenceIdeal.τ).loc Cert.InGradReferenceIdeal.main_arg2) = m ((c.tc : Thread Cert.InGradReferenceIdeal.nD Cert.InGradReferenceIdeal.τ).loc Cert.InGradReferenceIdeal.main_arg2)
      ∧ r.2.mem ((c.tc : Thread Cert.InGradReferenceIdeal.nD Cert.InGradReferenceIdeal.τ).loc Cert.InGradReferenceIdeal.main_arg3) = m ((c.tc : Thread Cert.InGradReferenceIdeal.nD Cert.InGradReferenceIdeal.τ).loc Cert.InGradReferenceIdeal.main_arg3)
      ∧ r.2.mem ((c.tc : Thread Cert.InGradReferenceIdeal.nD Cert.InGradReferenceIdeal.τ).loc Cert.InGradReferenceIdeal.main_arg4) = m ((c.tc : Thread Cert.InGradReferenceIdeal.nD Cert.InGradReferenceIdeal.τ).loc Cert.InGradReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v58) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v5) = v0 c
          ∧ r.2.mem ((c.tc : Thread Cert.InProjReferenceIdeal.nD Cert.InProjReferenceIdeal.τ).loc Cert.InProjReferenceIdeal.main_v6) = v1 c
          ∧ r.2.mem ((c.tc : Thread Cert.InProjReferenceIdeal.nD Cert.InProjReferenceIdeal.τ).loc Cert.InProjReferenceIdeal.main_v7) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_GradW_GradWIdeal : Prop :=
  True

def algebraic_GradWIdeal_GradWReferenceIdeal [hGradWIdeal : Cert.GradWIdeal.Facts] [hGradWReferenceIdeal : Cert.GradWReferenceIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWReferenceIdeal.nD Cert.GradWReferenceIdeal.τ Cert.GradWReferenceIdeal.sig) → Buf (Elt Ideal) ℓ) (g' : Dev Cert.GradWReferenceIdeal.nD → PrngReg), Pre_GradWIdeal m →
    (∀ c : Dev Cert.GradWIdeal.nD,
      m' ((c.tc : Thread Cert.GradWReferenceIdeal.nD Cert.GradWReferenceIdeal.τ).loc Cert.GradWReferenceIdeal.main_arg0) = m ((c.tc : Thread Cert.GradWIdeal.nD Cert.GradWIdeal.τ).loc Cert.GradWIdeal.main_arg0)
      ∧ m' ((c.tc : Thread Cert.GradWReferenceIdeal.nD Cert.GradWReferenceIdeal.τ).loc Cert.GradWReferenceIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWReferenceIdeal.defs (F := Ideal)) (onTc (τ := Cert.GradWReferenceIdeal.τ) (Cert.GradWReferenceIdeal.main (F := Ideal))) ⟨m', fun _ => 0, g'⟩ (fun r => ∀ c : Dev Cert.GradWReferenceIdeal.nD,
          r.2.mem ((c.tc : Thread Cert.GradWReferenceIdeal.nD Cert.GradWReferenceIdeal.τ).loc Cert.GradWReferenceIdeal.main_v16) = v0 c
          ∧ r.2.mem ((c.tc : Thread Cert.GradWReferenceIdeal.nD Cert.GradWReferenceIdeal.τ).loc Cert.GradWReferenceIdeal.main_arg0) = m' ((c.tc : Thread Cert.GradWReferenceIdeal.nD Cert.GradWReferenceIdeal.τ).loc Cert.GradWReferenceIdeal.main_arg0)
          ∧ r.2.mem ((c.tc : Thread Cert.GradWReferenceIdeal.nD Cert.GradWReferenceIdeal.τ).loc Cert.GradWReferenceIdeal.main_arg1) = m' ((c.tc : Thread Cert.GradWReferenceIdeal.nD Cert.GradWReferenceIdeal.τ).loc Cert.GradWReferenceIdeal.main_arg1))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)
      ∧ m' ((c.tc : Thread Cert.InGradReferenceIdeal.nD Cert.InGradReferenceIdeal.τ).loc Cert.InGradReferenceIdeal.main_arg2) = m ((c.tc : Thread Cert.InGradIdeal.nD Cert.InGradIdeal.τ).loc Cert.InGradIdeal.main_arg2)
      ∧ m' ((c.tc : Thread Cert.InGradReferenceIdeal.nD Cert.InGradReferenceIdeal.τ).loc Cert.InGradReferenceIdeal.main_arg3) = m ((c.tc : Thread Cert.InGradIdeal.nD Cert.InGradIdeal.τ).loc Cert.InGradIdeal.main_arg3)
      ∧ m' ((c.tc : Thread Cert.InGradReferenceIdeal.nD Cert.InGradReferenceIdeal.τ).loc Cert.InGradReferenceIdeal.main_arg4) = m ((c.tc : Thread Cert.InGradIdeal.nD Cert.InGradIdeal.τ).loc Cert.InGradIdeal.main_arg4)) →
    ∃ (v0 : (c : Dev Cert.InGradIdeal.nD) → Buf (Elt Ideal) ((c.tc : Thread Cert.InGradIdeal.nD Cert.InGradIdeal.τ).loc Cert.InGradIdeal.main_v0_0)) (v1 : (c : Dev Cert.InGradIdeal.nD) → Buf (Elt Ideal) ((c.tc : Thread Cert.InGradIdeal.nD Cert.InGradIdeal.τ).loc Cert.InGradIdeal.main_v0_1)) (v2 : (c : Dev Cert.InGradIdeal.nD) → Buf (Elt Ideal) ((c.tc : Thread Cert.InGradIdeal.nD Cert.InGradIdeal.τ).loc Cert.InGradIdeal.main_v0_2)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0_0) = v0 c
          ∧ r.2.mem ((c.tc : Thread Cert.InGradIdeal.nD Cert.InGradIdeal.τ).loc Cert.InGradIdeal.main_v0_1) = v1 c
          ∧ r.2.mem ((c.tc : Thread Cert.InGradIdeal.nD Cert.InGradIdeal.τ).loc Cert.InGradIdeal.main_v0_2) = v2 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v40) = v0 c
          ∧ r.2.mem ((c.tc : Thread Cert.InGradReferenceIdeal.nD Cert.InGradReferenceIdeal.τ).loc Cert.InGradReferenceIdeal.main_v41) = v1 c
          ∧ r.2.mem ((c.tc : Thread Cert.InGradReferenceIdeal.nD Cert.InGradReferenceIdeal.τ).loc Cert.InGradReferenceIdeal.main_v22) = v2 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1)
          ∧ r.2.mem ((c.tc : Thread Cert.InGradReferenceIdeal.nD Cert.InGradReferenceIdeal.τ).loc Cert.InGradReferenceIdeal.main_arg2) = m' ((c.tc : Thread Cert.InGradReferenceIdeal.nD Cert.InGradReferenceIdeal.τ).loc Cert.InGradReferenceIdeal.main_arg2)
          ∧ r.2.mem ((c.tc : Thread Cert.InGradReferenceIdeal.nD Cert.InGradReferenceIdeal.τ).loc Cert.InGradReferenceIdeal.main_arg3) = m' ((c.tc : Thread Cert.InGradReferenceIdeal.nD Cert.InGradReferenceIdeal.τ).loc Cert.InGradReferenceIdeal.main_arg3)
          ∧ r.2.mem ((c.tc : Thread Cert.InGradReferenceIdeal.nD Cert.InGradReferenceIdeal.τ).loc Cert.InGradReferenceIdeal.main_arg4) = m' ((c.tc : Thread Cert.InGradReferenceIdeal.nD Cert.InGradReferenceIdeal.τ).loc Cert.InGradReferenceIdeal.main_arg4))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_3)) (v3 : (c : Dev Cert.TailIdeal.nD) → Buf (Elt Ideal) ((c.tc : Thread Cert.TailIdeal.nD Cert.TailIdeal.τ).loc Cert.TailIdeal.main_v0_4)) (v4 : (c : Dev Cert.TailIdeal.nD) → Buf (Elt Ideal) ((c.tc : Thread Cert.TailIdeal.nD Cert.TailIdeal.τ).loc Cert.TailIdeal.main_v0_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_3) = v2 c
          ∧ r.2.mem ((c.tc : Thread Cert.TailIdeal.nD Cert.TailIdeal.τ).loc Cert.TailIdeal.main_v0_4) = v3 c
          ∧ r.2.mem ((c.tc : Thread Cert.TailIdeal.nD Cert.TailIdeal.τ).loc Cert.TailIdeal.main_v0_5) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v95) = v0 c
          ∧ r.2.mem ((c.tc : Thread Cert.TailReferenceIdeal.nD Cert.TailReferenceIdeal.τ).loc Cert.TailReferenceIdeal.main_v75) = v1 c
          ∧ r.2.mem ((c.tc : Thread Cert.TailReferenceIdeal.nD Cert.TailReferenceIdeal.τ).loc Cert.TailReferenceIdeal.main_v52) = v2 c
          ∧ r.2.mem ((c.tc : Thread Cert.TailReferenceIdeal.nD Cert.TailReferenceIdeal.τ).loc Cert.TailReferenceIdeal.main_v78) = v3 c
          ∧ r.2.mem ((c.tc : Thread Cert.TailReferenceIdeal.nD Cert.TailReferenceIdeal.τ).loc Cert.TailReferenceIdeal.main_v58) = v4 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)
      ∧ m' ((c.tc : Thread Cert.HeadReferenceIdeal.nD Cert.HeadReferenceIdeal.τ).loc Cert.HeadReferenceIdeal.main_arg7) = m ((c.tc : Thread Cert.HeadIdeal.nD Cert.HeadIdeal.τ).loc Cert.HeadIdeal.main_arg7)
      ∧ m' ((c.tc : Thread Cert.HeadReferenceIdeal.nD Cert.HeadReferenceIdeal.τ).loc Cert.HeadReferenceIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v84) = v0 c
          ∧ r.2.mem ((c.tc : Thread Cert.HeadReferenceIdeal.nD Cert.HeadReferenceIdeal.τ).loc Cert.HeadReferenceIdeal.main_v87) = v1 c
          ∧ r.2.mem ((c.tc : Thread Cert.HeadReferenceIdeal.nD Cert.HeadReferenceIdeal.τ).loc Cert.HeadReferenceIdeal.main_v68) = v2 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6)
          ∧ r.2.mem ((c.tc : Thread Cert.HeadReferenceIdeal.nD Cert.HeadReferenceIdeal.τ).loc Cert.HeadReferenceIdeal.main_arg7) = m' ((c.tc : Thread Cert.HeadReferenceIdeal.nD Cert.HeadReferenceIdeal.τ).loc Cert.HeadReferenceIdeal.main_arg7)
          ∧ r.2.mem ((c.tc : Thread Cert.HeadReferenceIdeal.nD Cert.HeadReferenceIdeal.τ).loc Cert.HeadReferenceIdeal.main_arg8) = m' ((c.tc : Thread Cert.HeadReferenceIdeal.nD Cert.HeadReferenceIdeal.τ).loc Cert.HeadReferenceIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hGradW : Cert.GradW.Facts) (hGradWIdeal : Cert.GradWIdeal.Facts) (hGradWReferenceIdeal : Cert.GradWReferenceIdeal.Facts) (hInGrad : Cert.InGrad.Facts) (hInGradIdeal : Cert.InGradIdeal.Facts) (hInGradReferenceIdeal : Cert.InGradReferenceIdeal.Facts) (hTail : Cert.Tail.Facts) (hTailIdeal : Cert.TailIdeal.Facts) (hTailReferenceIdeal : Cert.TailReferenceIdeal.Facts) (hHead : Cert.Head.Facts) (hHeadIdeal : Cert.HeadIdeal.Facts) (hHeadReferenceIdeal : Cert.HeadReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_GradW (hGradW := hGradW)
    ∧ quiescent_GradWIdeal (hGradWIdeal := hGradWIdeal)
    ∧ quiescent_GradWReferenceIdeal (hGradWReferenceIdeal := hGradWReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_Tail (hTail := hTail)
    ∧ quiescent_TailIdeal (hTailIdeal := hTailIdeal)
    ∧ quiescent_TailReferenceIdeal (hTailReferenceIdeal := hTailReferenceIdeal)
    ∧ quiescent_Head (hHead := hHead)
    ∧ quiescent_HeadIdeal (hHeadIdeal := hHeadIdeal)
    ∧ quiescent_HeadReferenceIdeal (hHeadReferenceIdeal := hHeadReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_GradW_GradWIdeal
    ∧ algebraic_GradWIdeal_GradWReferenceIdeal (hGradWIdeal := hGradWIdeal) (hGradWReferenceIdeal := hGradWReferenceIdeal)
    ∧ preserves_InGrad_InGradIdeal
    ∧ algebraic_InGradIdeal_InGradReferenceIdeal (hInGradIdeal := hInGradIdeal) (hInGradReferenceIdeal := hInGradReferenceIdeal)
    ∧ preserves_Tail_TailIdeal
    ∧ algebraic_TailIdeal_TailReferenceIdeal (hTailIdeal := hTailIdeal) (hTailReferenceIdeal := hTailReferenceIdeal)
    ∧ preserves_Head_HeadIdeal
    ∧ algebraic_HeadIdeal_HeadReferenceIdeal (hHeadIdeal := hHeadIdeal) (hHeadReferenceIdeal := hHeadReferenceIdeal)
-- ==== Pre_finite.lean ====
abbrev S2176x1536 : Shape := ⟨2, ![2176, 1536]⟩
abbrev S2176x16 : Shape := ⟨2, ![2176, 16]⟩
abbrev S1x16 : Shape := ⟨2, ![1, 16]⟩
abbrev S2176x1024 : Shape := ⟨2, ![2176, 1024]⟩
abbrev S_ : Shape := ⟨0, ![]⟩

class Facts : Prop where
  bcast_S_S2176x1536 : S_.BroadcastsInDim S2176x1536 (![] : Fin 0 → Fin S2176x1536.rank)
  reducesTo_S2176x1536_S_d0_1 : S2176x1536.ReducesTo [0, 1] S_
  h_S_ : 0 < S_.numel
  bcast_S_S2176x16 : S_.BroadcastsInDim S2176x16 (![] : Fin 0 → Fin S2176x16.rank)
  reducesTo_S2176x16_S_d0_1 : S2176x16.ReducesTo [0, 1] S_
  bcast_S_S1x16 : S_.BroadcastsInDim S1x16 (![] : Fin 0 → Fin S1x16.rank)
  reducesTo_S1x16_S_d0_1 : S1x16.ReducesTo [0, 1] S_
  bcast_S_S2176x1024 : S_.BroadcastsInDim S2176x1024 (![] : Fin 0 → Fin S2176x1024.rank)
  reducesTo_S2176x1024_S_d0_1 : S2176x1024.ReducesTo [0, 1] S_

variable [Facts]

def fn_part1 {F : FTy → Type} [FloatOps F] (main_arg1 : FVec F S2176x16 .f32) (main_arg4 : FVec F S2176x1024 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S2176x1024 .f32 := Host.absf main_arg4
  let main_cst_6 : FVec F S_ .f32 := constant S_ .f32 0x7F800000#32
  let main_v20 : FVec F S2176x1024 .f32 := broadcastInDim S2176x1024 ![] bcast_S_S2176x1024 main_cst_6
  let main_v21 : IVec S2176x1024 1 := cmpf .olt main_v19 main_v20
  let main_c_7 : IVec S_ 1 := constantI S_ 1 1#1
  let main_v22 : IVec S_ 1 := (fun x v => Host.reduce IntOp.andi x v reducesTo_S2176x1024_S_d0_1 h_S_) main_v21 main_c_7
  let main_v23 : IVec S_ 1 := andi main_v18 main_v22
  let main_cst_8 : FVec F S_ .f32 := constant S_ .f32 0x00000000#32
  let main_v24 : FVec F S2176x16 .f32 := broadcastInDim S2176x16 ![] bcast_S_S2176x16 main_cst_8
  let main_v25 : IVec S2176x16 1 := cmpf .oge main_arg1 main_v24
  let main_c_9 : IVec S_ 1 := constantI S_ 1 1#1
  let main_v26 : IVec S_ 1 := (fun x v => Host.reduce IntOp.andi x v reducesTo_S2176x16_S_d0_1 h_S_) main_v25 main_c_9
  let main_v27 : IVec S_ 1 := andi main_v23 main_v26
  main_v27

def fn {F : FTy → Type} [FloatOps F] (main_arg0 : FVec F S2176x1536 .f32) (main_arg1 : FVec F S2176x16 .f32) (main_arg2 : FVec F S1x16 .f32) (main_arg3 : FVec F S1x16 .f32) (main_arg4 : FVec F S2176x1024 .f32) : IVec S_ 1 :=
  let main_v0 : FVec F S2176x1536 .f32 := Host.absf main_arg0
  let main_cst : FVec F S_ .f32 := constant S_ .f32 0x7F800000#32
  let main_v1 : FVec F S2176x1536 .f32 := broadcastInDim S2176x1536 ![] bcast_S_S2176x1536 main_cst
  let main_v2 : IVec S2176x1536 1 := cmpf .olt main_v0 main_v1
  let main_c : IVec S_ 1 := constantI S_ 1 1#1
  let main_v3 : IVec S_ 1 := (fun x v => Host.reduce IntOp.andi x v reducesTo_S2176x1536_S_d0_1 h_S_) main_v2 main_c
  let main_v4 : FVec F S2176x16 .f32 := Host.absf main_arg1
  let main_cst_0 : FVec F S_ .f32 := constant S_ .f32 0x7F800000#32
  let main_v5 : FVec F S2176x16 .f32 := broadcastInDim S2176x16 ![] bcast_S_S2176x16 main_cst_0
  let main_v6 : IVec S2176x16 1 := cmpf .olt main_v4 main_v5
  let main_c_1 : IVec S_ 1 := constantI S_ 1 1#1
  let main_v7 : IVec S_ 1 := (fun x v => Host.reduce IntOp.andi x v reducesTo_S2176x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg1 main_arg4 main_v13 main_v16
-- ==== Kernel.lean ====
abbrev S2176x1536 : Shape := ⟨2, ![2176, 1536]⟩
abbrev S2176x16 : Shape := ⟨2, ![2176, 16]⟩
abbrev S1x16 : Shape := ⟨2, ![1, 16]⟩
abbrev S2176x1024 : Shape := ⟨2, ![2176, 1024]⟩
abbrev S2176x16x64 : Shape := ⟨3, ![2176, 16, 64]⟩
abbrev S2176x256 : Shape := ⟨2, ![2176, 256]⟩
abbrev S2176x2x128 : Shape := ⟨3, ![2176, 2, 128]⟩
abbrev S2176x2176 : Shape := ⟨2, ![2176, 2176]⟩
abbrev S34x2176 : Shape := ⟨2, ![34, 2176]⟩
abbrev S_ : Shape := ⟨0, ![]⟩
abbrev S2176x2176x1 : Shape := ⟨3, ![2176, 2176, 1]⟩
abbrev S1x2176x16 : Shape := ⟨3, ![1, 2176, 16]⟩
abbrev S2176x2176x16 : Shape := ⟨3, ![2176, 2176, 16]⟩
abbrev S34x2176x1 : Shape := ⟨3, ![34, 2176, 1]⟩
abbrev S34x2176x16 : Shape := ⟨3, ![34, 2176, 16]⟩
abbrev S34x16 : Shape := ⟨2, ![34, 16]⟩
abbrev S34x1x16 : Shape := ⟨3, ![34, 1, 16]⟩
abbrev S34x2176x16x1 : Shape := ⟨4, ![34, 2176, 16, 1]⟩
abbrev S2176x16x1 : Shape := ⟨3, ![2176, 16, 1]⟩
abbrev S1x2176x16x64 : Shape := ⟨4, ![1, 2176, 16, 64]⟩
abbrev S34x2176x16x64 : Shape := ⟨4, ![34, 2176, 16, 64]⟩
abbrev S34x2176x2x512 : Shape := ⟨4, ![34, 2176, 2, 512]⟩
abbrev S2x34x512x128 : Shape := ⟨4, ![2, 34, 512, 128]⟩
abbrev S34x2x128x512 : Shape := ⟨4, ![34, 2, 128, 512]⟩
abbrev S34x256x512 : Shape := ⟨3, ![34, 256, 512]⟩
abbrev S34x64x16 : Shape := ⟨3, ![34, 64, 16]⟩
abbrev S34x16x64 : Shape := ⟨3, ![34, 16, 64]⟩
abbrev S16x1 : Shape := ⟨2, ![16, 1]⟩
abbrev S1x16x64 : Shape := ⟨3, ![1, 16, 64]⟩
abbrev S1x1024 : Shape := ⟨2, ![1, 1024]⟩
abbrev S64x1536 : Shape := ⟨2, ![64, 1536]⟩
abbrev S1x64x16 : Shape := ⟨3, ![1, 64, 16]⟩
abbrev S1x256x512 : Shape := ⟨3, ![1, 256, 512]⟩
abbrev S64x1024 : Shape := ⟨2, ![64, 1024]⟩
abbrev S256x512 : Shape := ⟨2, ![256, 512]⟩
abbrev S8x1024 : Shape := ⟨2, ![8, 1024]⟩
abbrev S64x16 : Shape := ⟨2, ![64, 16]⟩
abbrev S16x64 : Shape := ⟨2, ![16, 64]⟩
abbrev S64x64 : Shape := ⟨2, ![64, 64]⟩
abbrev S16x1024 : Shape := ⟨2, ![16, 1024]⟩
abbrev S1024x16 : Shape := ⟨2, ![1024, 16]⟩
abbrev S64x128 : Shape := ⟨2, ![64, 128]⟩
abbrev S1x128x512 : Shape := ⟨3, ![1, 128, 512]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S8x512 : Shape := ⟨2, ![8, 512]⟩
abbrev S1x64 : Shape := ⟨2, ![1, 64]⟩
abbrev S64 : Shape := ⟨1, ![64]⟩
abbrev S64x1 : Shape := ⟨2, ![64, 1]⟩
abbrev S8x16 : Shape := ⟨2, ![8, 16]⟩
abbrev S16 : Shape := ⟨1, ![16]⟩
abbrev S1024 : Shape := ⟨1, ![1024]⟩

abbrev nBuf : Space → Nat
  | .hbm => 87
  | .vmem => 27
  | .smem => 0
  | _ => 0

abbrev bufTy : (tb : Table) → Fin (tcTables nBuf tb) → BufTy
  | .hbm, ⟨0, _⟩ => ⟨S2176x1536, .f32⟩
  | .hbm, ⟨1, _⟩ => ⟨S2176x16, .f32⟩
  | .hbm, ⟨2, _⟩ => ⟨S1x16, .f32⟩
  | .hbm, ⟨3, _⟩ => ⟨S1x16, .f32⟩
  | .hbm, ⟨4, _⟩ => ⟨S2176x1024, .f32⟩
  | .hbm, ⟨5, _⟩ => ⟨S1x16, .f32⟩
  | .hbm, ⟨6, _⟩ => ⟨S1x16, .f32⟩
  | .hbm, ⟨7, _⟩ => ⟨S2176x1024, .f32⟩
  | .hbm, ⟨8, _⟩ => ⟨S2176x16x64, .f32⟩
  | .hbm, ⟨9, _⟩ => ⟨S2176x256, .f32⟩
  | .hbm, ⟨10, _⟩ => ⟨S2176x2x128, .f32⟩
  | .hbm, ⟨11, _⟩ => ⟨S2176x16, .f32⟩
  | .hbm, ⟨12, _⟩ => ⟨S2176x16, .f32⟩
  | .hbm, ⟨13, _⟩ => ⟨S2176x2176, .i32⟩
  | .hbm, ⟨14, _⟩ => ⟨S2176x2176, .i32⟩
  | .hbm, ⟨15, _⟩ => ⟨S2176x2176, .i1⟩
  | .hbm, ⟨16, _⟩ => ⟨S34x2176, .i32⟩
  | .hbm, ⟨17, _⟩ => ⟨S34x2176, .i32⟩
  | .hbm, ⟨18, _⟩ => ⟨S_, .i32⟩
  | .hbm, ⟨19, _⟩ => ⟨S34x2176, .i32⟩
  | .hbm, ⟨20, _⟩ => ⟨S34x2176, .i32⟩
  | .hbm, ⟨21, _⟩ => ⟨S34x2176, .i1⟩
  | .hbm, ⟨22, _⟩ => ⟨S2176x2176x1, .i1⟩
  | .hbm, ⟨23, _⟩ => ⟨S1x2176x16, .f32⟩
  | .hbm, ⟨24, _⟩ => ⟨S_, .f32⟩
  | .hbm, ⟨25, _⟩ => ⟨S_, .f32⟩
  | .hbm, ⟨26, _⟩ => ⟨S2176x2176x16, .i1⟩
  | .hbm, ⟨27, _⟩ => ⟨S2176x2176x16, .f32⟩
  | .hbm, ⟨28, _⟩ => ⟨S2176x2176x16, .f32⟩
  | .hbm, ⟨29, _⟩ => ⟨S2176x2176x16, .f32⟩
  | .hbm, ⟨30, _⟩ => ⟨S_, .f32⟩
  | .hbm, ⟨31, _⟩ => ⟨S2176x16, .f32⟩
  | .hbm, ⟨32, _⟩ => ⟨S34x2176x1, .i1⟩
  | .hbm, ⟨33, _⟩ => ⟨S1x2176x16, .f32⟩
  | .hbm, ⟨34, _⟩ => ⟨S_, .f32⟩
  | .hbm, ⟨35, _⟩ => ⟨S_, .f32⟩
  | .hbm, ⟨36, _⟩ => ⟨S34x2176x16, .i1⟩
  | .hbm, ⟨37, _⟩ => ⟨S34x2176x16, .f32⟩
  | .hbm, ⟨38, _⟩ => ⟨S34x2176x16, .f32⟩
  | .hbm, ⟨39, _⟩ => ⟨S34x2176x16, .f32⟩
  | .hbm, ⟨40, _⟩ => ⟨S_, .f32⟩
  | .hbm, ⟨41, _⟩ => ⟨S34x16, .f32⟩
  | .hbm, ⟨42, _⟩ => ⟨S34x1x16, .f32⟩
  | .hbm, ⟨43, _⟩ => ⟨S1x2176x16, .f32⟩
  | .hbm, ⟨44, _⟩ => ⟨S34x2176x16, .f32⟩
  | .hbm, ⟨45, _⟩ => ⟨S34x2176x16, .f32⟩
  | .hbm, ⟨46, _⟩ => ⟨S34x2176x16, .f32⟩
  | .hbm, ⟨47, _⟩ => ⟨S34x2176x1, .i1⟩
  | .hbm, ⟨48, _⟩ => ⟨S_, .f32⟩
  | .hbm, ⟨49, _⟩ => ⟨S_, .f32⟩
  | .hbm, ⟨50, _⟩ => ⟨S34x2176x16, .i1⟩
  | .hbm, ⟨51, _⟩ => ⟨S34x2176x16, .f32⟩
  | .hbm, ⟨52, _⟩ => ⟨S34x2176x16, .f32⟩
  | .hbm, ⟨53, _⟩ => ⟨S34x2176x16, .f32⟩
  | .hbm, ⟨54, _⟩ => ⟨S34x2176x16x1, .f32⟩
  | .hbm, ⟨55, _⟩ => ⟨S2176x16x1, .f32⟩
  | .hbm, ⟨56, _⟩ => ⟨S2176x16x64, .f32⟩
  | .hbm, ⟨57, _⟩ => ⟨S2176x16x64, .f32⟩
  | .hbm, ⟨58, _⟩ => ⟨S1x2176x16x64, .f32⟩
  | .hbm, ⟨59, _⟩ => ⟨S34x2176x16x64, .f32⟩
  | .hbm, ⟨60, _⟩ => ⟨S34x2176x16x64, .f32⟩
  | .hbm, ⟨61, _⟩ => ⟨S34x2176x16x64, .f32⟩
  | .hbm, ⟨62, _⟩ => ⟨S34x2176x2x512, .f32⟩
  | .hbm, ⟨63, _⟩ => ⟨S2x34x512x128, .f32⟩
  | .hbm, ⟨64, _⟩ => ⟨S34x2x128x512, .f32⟩
  | .hbm, ⟨65, _⟩ => ⟨S34x256x512, .f32⟩
  | .hbm, ⟨66, _⟩ => ⟨S34x64x16, .f32⟩
  | .hbm, ⟨67, _⟩ => ⟨S34x16x64, .f32⟩
  | .hbm, ⟨68, _⟩ => ⟨S16x1, .f32⟩
  | .hbm, ⟨69, _⟩ => ⟨S1x16x64, .f32⟩
  | .hbm, ⟨70, _⟩ => ⟨S1x1024, .f32⟩
  | .hbm, ⟨71, _⟩ => ⟨S2176x1536, .f32⟩
  | .hbm, ⟨72, _⟩ => ⟨S34x64x16, .f32⟩
  | .hbm, ⟨73, _⟩ => ⟨S34x16x64, .f32⟩
  | .hbm, ⟨74, _⟩ => ⟨S1x16, .f32⟩
  | .hbm, ⟨75, _⟩ => ⟨S16x1, .f32⟩
  | .hbm, ⟨76, _⟩ => ⟨S1x1024, .f32⟩
  | .hbm, ⟨77, _⟩ => ⟨S34x64x16, .f32⟩
  | .hbm, ⟨78, _⟩ => ⟨S34x64x16, .f32⟩
  | .hbm, ⟨79, _⟩ => ⟨S2176x16, .f32⟩
  | .hbm, ⟨80, _⟩ => ⟨S1x16, .f32⟩
  | .hbm, ⟨81, _⟩ => ⟨S1x16, .f32⟩
  | .hbm, ⟨82, _⟩ => ⟨S1x16, .f32⟩
  | .hbm, ⟨83, _⟩ => ⟨S16x64, .f32⟩
  | .hbm, ⟨84, _⟩ => ⟨S_, .f32⟩
  | .hbm, ⟨85, _⟩ => ⟨S16, .f32⟩
  | .hbm, ⟨86, _⟩ => ⟨S1x16, .f32⟩
  | .local _ .vmem, ⟨0, _⟩ => ⟨S64x1536, .f32⟩
  | .local _ .vmem, ⟨1, _⟩ => ⟨S64x1536, .f32⟩
  | .local _ .vmem, ⟨2, _⟩ => ⟨S1x64x16, .f32⟩
  | .local _ .vmem, ⟨3, _⟩ => ⟨S1x64x16, .f32⟩
  | .local _ .vmem, ⟨4, _⟩ => ⟨S1x16x64, .f32⟩
  | .local _ .vmem, ⟨5, _⟩ => ⟨S1x16x64, .f32⟩
  | .local _ .vmem, ⟨6, _⟩ => ⟨S1x16, .f32⟩
  | .local _ .vmem, ⟨7, _⟩ => ⟨S16x1, .f32⟩
  | .local _ .vmem, ⟨8, _⟩ => ⟨S1x1024, .f32⟩
  | .local _ .vmem, ⟨9, _⟩ => ⟨S1x256x512, .f32⟩
  | .local _ .vmem, ⟨10, _⟩ => ⟨S1x256x512, .f32⟩
  | .local _ .vmem, ⟨11, _⟩ => ⟨S64x1024, .f32⟩
  | .local _ .vmem, ⟨12, _⟩ => ⟨S64x1024, .f32⟩
  | .local _ .vmem, ⟨13, _⟩ => ⟨S64x1536, .f32⟩
  | .local _ .vmem, ⟨14, _⟩ => ⟨S64x1536, .f32⟩
  | .local _ .vmem, ⟨15, _⟩ => ⟨S1x64x16, .f32⟩
  | .local _ .vmem, ⟨16, _⟩ => ⟨S1x64x16, .f32⟩
  | .local _ .vmem, ⟨17, _⟩ => ⟨S1x16x64, .f32⟩
  | .local _ .vmem, ⟨18, _⟩ => ⟨S1x16x64, .f32⟩
  | .local _ .vmem, ⟨19, _⟩ => ⟨S1x16, .f32⟩
  | .local _ .vmem, ⟨20, _⟩ => ⟨S16x1, .f32⟩
  | .local _ .vmem, ⟨21, _⟩ => ⟨S1x1024, .f32⟩
  | .local _ .vmem, ⟨22, _⟩ => ⟨S256x512, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S8x1024, .f32⟩
  | _, _ => ⟨S2176x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev main_v49_3 : Ref sig .tc := ⟨.hbm, 74, rfl⟩
abbrev main_v49_4 : Ref sig .tc := ⟨.hbm, 75, rfl⟩
abbrev main_v49_5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S2176x1536 : Shape := ⟨2, ![2176, 1536]⟩
abbrev S2176x16 : Shape := ⟨2, ![2176, 16]⟩
abbrev S1x16 : Shape := ⟨2, ![1, 16]⟩
abbrev S2176x1024 : Shape := ⟨2, ![2176, 1024]⟩
abbrev S2176x2x8x64 : Shape := ⟨4, ![2176, 2, 8, 64]⟩
abbrev S2176x256 : Shape := ⟨2, ![2176, 256]⟩
abbrev S2176x2x128 : Shape := ⟨3, ![2176, 2, 128]⟩
abbrev S2176x2176 : Shape := ⟨2, ![2176, 2176]⟩
abbrev S2176x2176x1 : Shape := ⟨3, ![2176, 2176, 1]⟩
abbrev S1x2176x16 : Shape := ⟨3, ![1, 2176, 16]⟩
abbrev S_ : Shape := ⟨0, ![]⟩
abbrev S2176x2176x16 : Shape := ⟨3, ![2176, 2176, 16]⟩
abbrev S2176x1x16 : Shape := ⟨3, ![2176, 1, 16]⟩
abbrev S2176x2176x2x8 : Shape := ⟨4, ![2176, 2176, 2, 8]⟩
abbrev S2x2176x2176 : Shape := ⟨3, ![2, 2176, 2176]⟩
abbrev S2176x2176x2 : Shape := ⟨3, ![2176, 2176, 2]⟩
abbrev S2176x2176x2x1 : Shape := ⟨4, ![2176, 2176, 2, 1]⟩
abbrev S2176x2x8 : Shape := ⟨3, ![2176, 2, 8]⟩
abbrev S2176x2x8x1 : Shape := ⟨4, ![2176, 2, 8, 1]⟩
abbrev S2x8x64x2176 : Shape := ⟨4, ![2, 8, 64, 2176]⟩
abbrev S2x8 : Shape := ⟨2, ![2, 8]⟩
abbrev S2x8x1 : Shape := ⟨3, ![2, 8, 1]⟩
abbrev S1x2x8x1 : Shape := ⟨4, ![1, 2, 8, 1]⟩
abbrev S2x8x2176x2176 : Shape := ⟨4, ![2, 8, 2176, 2176]⟩
abbrev S2x2176x128 : Shape := ⟨3, ![2, 2176, 128]⟩
abbrev S16 : Shape := ⟨1, ![16]⟩

abbrev nBuf : Space → Nat
  | .hbm => 150
  | .vmem => 0
  | .smem => 0
  | _ => 0

abbrev hbmTy0_0 (i : Nat) : BufTy := match i % 128 with
  | 0 => ⟨S2176x1536, .f32⟩
  | 1 => ⟨S2176x16, .f32⟩
  | 2 => ⟨S1x16, .f32⟩
  | 3 => ⟨S1x16, .f32⟩
  | 4 => ⟨S2176x1024, .f32⟩
  | 5 => ⟨S2176x1024, .f32⟩
  | 6 => ⟨S2176x2x8x64, .f32⟩
  | 7 => ⟨S2176x256, .f32⟩
  | 8 => ⟨S2176x2x128, .f32⟩
  | 9 => ⟨S2176x256, .f32⟩
  | 10 => ⟨S2176x2x128, .f32⟩
  | 11 => ⟨S1x16, .f32⟩
  | 12 => ⟨S1x16, .f32⟩
  | 13 => ⟨S2176x2176, .i32⟩
  | 14 => ⟨S2176x2176, .i32⟩
  | 15 => ⟨S2176x2176, .i1⟩
  | 16 => ⟨S2176x2176x1, .i1⟩
  | 17 => ⟨S2176x16, .f32⟩
  | 18 => ⟨S2176x16, .f32⟩
  | 19 => ⟨S1x2176x16, .f32⟩
  | 20 => ⟨S_, .f32⟩
  | 21 => ⟨S_, .f32⟩
  | 22 => ⟨S2176x2176x16, .i1⟩
  | 23 => ⟨S2176x2176x16, .f32⟩
  | 24 => ⟨S2176x2176x16, .f32⟩
  | 25 => ⟨S2176x2176x16, .f32⟩
  | 26 => ⟨S_, .f32⟩
  | 27 => ⟨S2176x2176x16, .f32⟩
  | 28 => ⟨S_, .f32⟩
  | 29 => ⟨S2176x16, .f32⟩
  | 30 => ⟨S2176x1x16, .f32⟩
  | 31 => ⟨S1x2176x16, .f32⟩
  | 32 => ⟨S2176x2176x16, .f32⟩
  | 33 => ⟨S2176x2176x16, .f32⟩
  | 34 => ⟨S2176x2176x16, .f32⟩
  | 35 => ⟨S2176x2176x1, .i1⟩
  | 36 => ⟨S_, .f32⟩
  | 37 => ⟨S_, .f32⟩
  | 38 => ⟨S2176x2176x16, .i1⟩
  | 39 => ⟨S2176x2176x16, .f32⟩
  | 40 => ⟨S2176x2176x16, .f32⟩
  | 41 => ⟨S_, .f32⟩
  | 42 => ⟨S2176x2176x16, .f32⟩
  | 43 => ⟨S2176x2176x16, .f32⟩
  | 44 => ⟨S2176x2176x2x8, .f32⟩
  | 45 => ⟨S2x2176x2176, .f32⟩
  | 46 => ⟨S2176x2176x2, .f32⟩
  | 47 => ⟨S2176x2176x2x1, .f32⟩
  | 48 => ⟨S2176x2176x2x8, .f32⟩
  | 49 => ⟨S2176x2176x2x8, .f32⟩
  | 50 => ⟨S2176x2x8, .f32⟩
  | 51 => ⟨S2176x2x8x1, .f32⟩
  | 52 => ⟨S2176x2x8x64, .f32⟩
  | 53 => ⟨S2176x2x8x64, .f32⟩
  | 54 => ⟨S2x8x64x2176, .f32⟩
  | 55 => ⟨S2176x2x8x64, .f32⟩
  | 56 => ⟨S2x8, .f32⟩
  | 57 => ⟨S2x8x1, .f32⟩
  | 58 => ⟨S1x2x8x1, .f32⟩
  | 59 => ⟨S2176x2x8x64, .f32⟩
  | 60 => ⟨S2176x2x8x64, .f32⟩
  | 61 => ⟨S2176x2x8x64, .f32⟩
  | 62 => ⟨S2176x1024, .f32⟩
  | 63 => ⟨S2176x2x8x64, .f32⟩
  | 64 => ⟨S2176x2x8x64, .f32⟩
  | 65 => ⟨S_, .f32⟩
  | 66 => ⟨S2x8, .f32⟩
  | 67 => ⟨S1x2x8x1, .f32⟩
  | 68 => ⟨S2176x2x8x64, .f32⟩
  | 69 => ⟨S2176x2x8x64, .f32⟩
  | 70 => ⟨S_, .f32⟩
  | 71 => ⟨S2x8, .f32⟩
  | 72 => ⟨S2x8x1, .f32⟩
  | 73 => ⟨S_, .f32⟩
  | 74 => ⟨S2x8, .f32⟩
  | 75 => ⟨S1x16, .f32⟩
  | 76 => ⟨S2x8x64x2176, .f32⟩
  | 77 => ⟨S2x8x2176x2176, .f32⟩
  | 78 => ⟨S2176x2176x2x8, .f32⟩
  | 79 => ⟨S2x8x64x2176, .f32⟩
  | 80 => ⟨S2176x2x8x64, .f32⟩
  | 81 => ⟨S2176x2x8x64, .f32⟩
  | 82 => ⟨S_, .f32⟩
  | 83 => ⟨S2176x2x8, .f32⟩
  | 84 => ⟨S2176x2x8x1, .f32⟩
  | 85 => ⟨S2176x2x8x64, .f32⟩
  | 86 => ⟨S2176x2x8x64, .f32⟩
  | 87 => ⟨S2176x2x8x64, .f32⟩
  | 88 => ⟨S_, .f32⟩
  | 89 => ⟨S2176x2x8, .f32⟩
  | 90 => ⟨S2176x16, .f32⟩
  | 91 => ⟨S2176x2176x2x8, .f32⟩
  | 92 => ⟨S2176x2176x2x8, .f32⟩
  | 93 => ⟨S2176x2176x2x8, .f32⟩
  | 94 => ⟨S_, .f32⟩
  | 95 => ⟨S2176x2176x2, .f32⟩
  | 96 => ⟨S2176x2176x2x1, .f32⟩
  | 97 => ⟨S_, .f32⟩
  | 98 => ⟨S2176x2176x2, .f32⟩
  | 99 => ⟨S2x2176x2176, .f32⟩
  | 100 => ⟨S2x2176x128, .f32⟩
  | 101 => ⟨S2176x2x128, .f32⟩
  | 102 => ⟨S2x2176x128, .f32⟩
  | 103 => ⟨S2176x2x128, .f32⟩
  | 104 => ⟨S2176x2176x16, .f32⟩
  | 105 => ⟨S2176x2176x16, .f32⟩
  | 106 => ⟨S_, .f32⟩
  | 107 => ⟨S2176x2176x16, .f32⟩
  | 108 => ⟨S2176x2176x16, .f32⟩
  | 109 => ⟨S_, .f32⟩
  | 110 => ⟨S2176x16, .f32⟩
  | 111 => ⟨S2176x1x16, .f32⟩
  | 112 => ⟨S2176x2176x16, .f32⟩
  | 113 => ⟨S_, .f32⟩
  | 114 => ⟨S2176x16, .f32⟩
  | 115 => ⟨S1x2176x16, .f32⟩
  | 116 => ⟨S_, .f32⟩
  | 117 => ⟨S2176x16, .f32⟩
  | 118 => ⟨S_, .f32⟩
  | 119 => ⟨S2176x16, .f32⟩
  | 120 => ⟨S2176x16, .f32⟩
  | 121 => ⟨S2176x2176x16, .f32⟩
  | 122 => ⟨S_, .f32⟩
  | 123 => ⟨S2176x2176x16, .f32⟩
  | 124 => ⟨S2176x2176x16, .f32⟩
  | 125 => ⟨S_, .f32⟩
  | 126 => ⟨S2176x16, .f32⟩
  | 127 => ⟨S1x2176x16, .f32⟩
  | _ => ⟨S2176x1536, .f32⟩

abbrev hbmTy0_1 (i : Nat) : BufTy := match i % 128 with
  | 0 => ⟨S_, .f32⟩
  | 1 => ⟨S2176x16, .f32⟩
  | 2 => ⟨S2176x16, .f32⟩
  | 3 => ⟨S_, .f32⟩
  | 4 => ⟨S16, .f32⟩
  | 5 => ⟨S1x16, .f32⟩
  | 6 => ⟨S2176x16, .f32⟩
  | 7 => ⟨S2176x16, .f32⟩
  | 8 => ⟨S2176x16, .f32⟩
  | 9 => ⟨S1x16, .f32⟩
  | 10 => ⟨S1x16, .f32⟩
  | 11 => ⟨S2176x256, .f32⟩
  | 12 => ⟨S_, .f32⟩
  | 13 => ⟨S2176x1536, .f32⟩
  | 14 => ⟨S2176x256, .f32⟩
  | 15 => ⟨S_, .f32⟩
  | 16 => ⟨S2176x1536, .f32⟩
  | 17 => ⟨S2176x1536, .f32⟩
  | 18 => ⟨S2176x1024, .f32⟩
  | 19 => ⟨S_, .f32⟩
  | 20 => ⟨S2176x1536, .f32⟩
  | 21 => ⟨S2176x1536, .f32⟩
  | _ => ⟨S2176x1536, .f32⟩

abbrev hbmTy (i : Nat) : BufTy := match i / 128 with
  | 0 => hbmTy0_0 i
  | 1 => hbmTy0_1 i
  | _ => ⟨S2176x1536, .f32⟩

abbrev bufTy : (tb : Table) → Fin (tcTables nBuf tb) → BufTy
  | .hbm, ⟨i, _⟩ => hbmTy i
  | _, _ => ⟨S2176x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_call0_v3 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_call1_v0 : Ref sig .tc := ⟨.hbm, 37, rfl⟩
abbrev main_v23_1 : Ref sig .tc := ⟨.hbm, 38, rfl⟩
abbrev main_call1_v2 : Ref sig .tc := ⟨.hbm, 39, rfl⟩
abbrev main_v23_0 : Ref sig .tc := ⟨.hbm, 40, rfl⟩
abbrev main_call1_cst : Ref sig .tc := ⟨.hbm, 41, rfl⟩
abbrev main_v23_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_7 : Ref sig .tc := ⟨.hbm, 94, rfl⟩
abbrev main_v70 : Ref sig .tc := ⟨.hbm, 95, rfl⟩
abbrev main_v71 : Ref sig .tc := ⟨.hbm, 96, rfl⟩
abbrev main_cst_8 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call2_cst : Ref sig .tc := ⟨.hbm, 106, rfl⟩
abbrev main_call2_v0 : Ref sig .tc := ⟨.hbm, 107, rfl⟩
abbrev main_v80 : Ref sig .tc := ⟨.hbm, 108, rfl⟩
abbrev main_cst_9 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_10 : Ref sig .tc := ⟨.hbm, 113, rfl⟩
abbrev main_v84 : Ref sig .tc := ⟨.hbm, 114, rfl⟩
abbrev main_v85 : Ref sig .tc := ⟨.hbm, 115, rfl⟩
abbrev main_cst_11 : Ref sig .tc := ⟨.hbm, 116, rfl⟩
abbrev main_v86 : Ref sig .tc := ⟨.hbm, 117, rfl⟩
abbrev main_cst_12 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_call3_cst : Ref sig .tc := ⟨.hbm, 122, rfl⟩
abbrev main_call3_v0 : Ref sig .tc := ⟨.hbm, 123, rfl⟩
abbrev main_call3_v1 : Ref sig .tc := ⟨.hbm, 124, rfl⟩
abbrev main_call3_cst_0 : Ref sig .tc := ⟨.hbm, 125, rfl⟩
abbrev main_call3_v2 : Ref sig .tc := ⟨.hbm, 126, rfl⟩
abbrev main_v90 : Ref sig .tc := ⟨.hbm, 127, rfl⟩
abbrev main_cst_13 : Ref sig .tc := ⟨.hbm, 128, rfl⟩
abbrev main_v91 : Ref sig .tc := ⟨.hbm, 129, rfl⟩
abbrev main_v92 : Ref sig .tc := ⟨.hbm, 130, rfl⟩
abbrev main_cst_14 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_15 : Ref sig .tc := ⟨.hbm, 140, rfl⟩
abbrev main_v101 : Ref sig .tc := ⟨.hbm, 141, rfl⟩
abbrev main_v102 : Ref sig .tc := ⟨.hbm, 142, rfl⟩
abbrev main_cst_16 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩
abbrev main_v107 : Ref sig .tc := ⟨.hbm, 149, rfl⟩

abbrev nD : Nat := 1
abbrev τ : Topo := Topo.v7x

variable {F : FTy → Type} [FloatOps F]
-- ==== InProj.lean ====
abbrev S2176x1024 : Shape := ⟨2, ![2176, 1024]⟩
abbrev S6784x1024 : Shape := ⟨2, ![6784, 1024]⟩
abbrev S2176x3072 : Shape := ⟨2, ![2176, 3072]⟩
abbrev S2176x3584 : Shape := ⟨2, ![2176, 3584]⟩
abbrev S2176x128 : Shape := ⟨2, ![2176, 128]⟩
abbrev S512x1024 : Shape := ⟨2, ![512, 1024]⟩
abbrev S128x1024 : Shape := ⟨2, ![128, 1024]⟩
abbrev S2176x512 : Shape := ⟨2, ![2176, 512]⟩

abbrev nBuf : Space → Nat
  | .hbm => 5
  | .vmem => 9
  | .smem => 0
  | _ => 0

abbrev bufTy : (tb : Table) → Fin (tcTables nBuf tb) → BufTy
  | .hbm, ⟨0, _⟩ => ⟨S2176x1024, .bf16⟩
  | .hbm, ⟨1, _⟩ => ⟨S6784x1024, .bf16⟩
  | .hbm, ⟨2, _⟩ => ⟨S2176x3072, .bf16⟩
  | .hbm, ⟨3, _⟩ => ⟨S2176x3584, .f32⟩
  | .hbm, ⟨4, _⟩ => ⟨S2176x128, .f32⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S128x1024, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .f32⟩
  | .local _ .vmem, ⟨7, _⟩ => ⟨S2176x512, .f32⟩
  | .local _ .vmem, ⟨8, _⟩ => ⟨S2176x128, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c6_i32 : BitVec 32 := 6#32
  let v3 : BitVec 1 := Scalar.cmpi .slt arg0 c6_i32
  let v4 : BitVec 32 := Scalar.extui v3
  let c0_i32 : BitVec 32 := 0#32
  let v5 : BitVec 1 := Scalar.cmpi .ne v4 c0_i32
  v5

def k0_cond2 (i : grid0.Coords) : BitVec 1 :=
  let arg0 : BitVec 32 := BitVec.ofNat 32 (i 0).val
  let c6_i32_3 : BitVec 32 := 6#32
  let v6 : BitVec 1 := Scalar.cmpi .sge arg0 c6_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c0_i32_5 : BitVec 32 := 0#32
  let v9 : BitVec 1 := Scalar.cmpi .eq arg0 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c52_i32 : BitVec 32 := 52#32
  let c0_i32 : BitVec 32 := 0#32
  let c0_i32_0 : BitVec 32 := 0#32
  ![c52_i32.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InProjReferenceIdeal.lean ====
abbrev S2176x1024 : Shape := ⟨2, ![2176, 1024]⟩
abbrev S6784x1024 : Shape := ⟨2, ![6784, 1024]⟩
abbrev S1024x6784 : Shape := ⟨2, ![1024, 6784]⟩
abbrev S2176x6784 : Shape := ⟨2, ![2176, 6784]⟩
abbrev S2176x3072 : Shape := ⟨2, ![2176, 3072]⟩
abbrev S2176x3584 : Shape := ⟨2, ![2176, 3584]⟩
abbrev S2176x128 : Shape := ⟨2, ![2176, 128]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S6784x1024, .bf16⟩
  | .hbm, ⟨2, _⟩ => ⟨S2176x1024, .f32⟩
  | .hbm, ⟨3, _⟩ => ⟨S6784x1024, .f32⟩
  | .hbm, ⟨4, _⟩ => ⟨S1024x6784, .f32⟩
  | .hbm, ⟨5, _⟩ => ⟨S2176x6784, .f32⟩
  | .hbm, ⟨6, _⟩ => ⟨S2176x3072, .f32⟩
  | .hbm, ⟨7, _⟩ => ⟨S2176x3072, .bf16⟩
  | .hbm, ⟨8, _⟩ => ⟨S2176x3584, .f32⟩
  | .hbm, ⟨9, _⟩ => ⟨S2176x128, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== GradW.lean ====
abbrev S1024x2176 : Shape := ⟨2, ![1024, 2176]⟩
abbrev S2176x6784 : Shape := ⟨2, ![2176, 6784]⟩
abbrev S4x1024x1792 : Shape := ⟨3, ![4, 1024, 1792]⟩
abbrev S1x1024x896 : Shape := ⟨3, ![1, 1024, 896]⟩
abbrev S2x2176x896 : Shape := ⟨3, ![2, 2176, 896]⟩
abbrev S2 : Shape := ⟨1, ![2]⟩
abbrev S1 : Shape := ⟨1, ![1]⟩
abbrev S_ : Shape := ⟨0, ![]⟩
abbrev S1x2176x896 : Shape := ⟨3, ![1, 2176, 896]⟩
abbrev S2176x896 : Shape := ⟨2, ![2176, 896]⟩
abbrev S1024x896 : Shape := ⟨2, ![1024, 896]⟩

abbrev nBuf : Space → Nat
  | .hbm => 3
  | .vmem => 4
  | .smem => 0
  | _ => 0

abbrev bufTy : (tb : Table) → Fin (tcTables nBuf tb) → BufTy
  | .hbm, ⟨0, _⟩ => ⟨S1024x2176, .bf16⟩
  | .hbm, ⟨1, _⟩ => ⟨S2176x6784, .bf16⟩
  | .hbm, ⟨2, _⟩ => ⟨S4x1024x1792, .bf16⟩
  | .local _ .vmem, ⟨0, _⟩ => ⟨S1024x2176, .bf16⟩
  | .local _ .vmem, ⟨1, _⟩ => ⟨S1x1024x896, .bf16⟩
  | .local _ .vmem, ⟨2, _⟩ => ⟨S1x1024x896, .bf16⟩
  | .local _ .vmem, ⟨3, _⟩ => ⟨S2x2176x896, .bf16⟩
  | _, _ => ⟨S1024x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_mult1 : BitVec 32 :=
  let c0_i32_30 : BitVec 32 := 0#32
  c0_i32_30
def k0_cond2 (i : grid0.Coords) : BitVec 1 :=
  let arg0 : BitVec 32 := BitVec.ofNat 32 (i 0).val
  let c1_i32_5 : BitVec 32 := 1#32
  let v13 : BitVec 32 := Scalar.addi arg0 c1_i32_5
  let c8_i32 : BitVec 32 := 8#32
  let v14 : BitVec 1 := Scalar.cmpi .slt v13 c8_i32
  let v15 : BitVec 32 := Scalar.extui v14
  let c0_i32_6 : BitVec 32 := 0#32
  let v16 : BitVec 1 := Scalar.cmpi .ne v15 c0_i32_6
  v16

def k0_mult2 (i : grid0.Coords) : BitVec 32 :=
  let c0_i32_39 : BitVec 32 := 0#32
  let arg0 : BitVec 32 := BitVec.ofNat 32 (i 0).val
  let c1_i32_30 : BitVec 32 := 1#32
  let v63 : BitVec 32 := Scalar.addi arg0 c1_i32_30
  let c0_i32_33 : BitVec 32 := 0#32
  let v66 : BitVec 1 := Scalar.cmpi .sgt v63 c0_i32_33
  let v67 : BitVec 32 := Scalar.extui v66
  let c0_i32_34 : BitVec 32 := 0#32
  let v68 : BitVec 1 := Scalar.cmpi .slt v63 c0_i32_34
  let v69 : BitVec 32 := Scalar.extui v68
  let v70 : BitVec 32 := Scalar.subi v67 v69
  let c2_i32_32 : BitVec 32 := 2#32
  let c0_i32_35 : BitVec 32 := 0#32
  let v71 : BitVec 1 := Scalar.cmpi .sgt c2_i32_32 c0_i32_35
  let v72 : BitVec 32 := Scalar.extui v71
  let c0_i32_36 : BitVec 32 := 0#32
  let v73 : BitVec 1 := Scalar.cmpi .slt c2_i32_32 c0_i32_36
  let v74 : BitVec 32 := Scalar.extui v73
  let v75 : BitVec 32 := Scalar.subi v72 v74
  let v76 : BitVec 1 := Scalar.cmpi .ne v70 v75
  let v77 : BitVec 32 := Scalar.remsi v63 c2_i32_32
  let c0_i32_37 : BitVec 32 := 0#32
  let v78 : BitVec 1 := Scalar.cmpi .ne v77 c0_i32_37
  let v79 : BitVec 1 := Scalar.andi v76 v78
  let v65 : BitVec 32 := Scalar.divsi v63 c2_i32_32
  let c1_i32_38 : BitVec 32 := 1#32
  let v80 : BitVec 32 := Scalar.subi v65 c1_i32_38
  let v81 : BitVec 32 := Scalar.select v79 v80 v65
  let v82 : BitVec 32 := Scalar.addi c0_i32_39 v81
  let c1664_i32_40 : BitVec 32 := 1664#32
  let v83 : BitVec 32 := Scalar.muli v82 c1664_i32_40
  let c2_i32_41 : BitVec 32 := 2#32
  let c0_i32_42 : BitVec 32 := 0#32
  let v84 : BitVec 1 := Scalar.cmpi .eq c2_i32_41 c0_i32_42
  let c1_i32_43 : BitVec 32 := 1#32
  let v85 : BitVec 32 := Scalar.select v84 c1_i32_43 c2_i32_41
  let v86 : BitVec 32 := Scalar.remsi v63 v85
  let c0_i32_45 : BitVec 32 := 0#32
  let v88 : BitVec 1 := Scalar.cmpi .slt v86 c0_i32_45
  let c0_i32_46 : BitVec 32 := 0#32
  let v89 : BitVec 1 := Scalar.cmpi .slt v85 c0_i32_46
  let v90 : BitVec 1 := Scalar.xori v88 v89
  let c0_i32_44 : BitVec 32 := 0#32
  let v87 : BitVec 1 := Scalar.cmpi .ne v86 c0_i32_44
  let v91 : BitVec 1 := Scalar.andi v90 v87
  let v92 : BitVec 32 := Scalar.addi v86 v85
  let v93 : BitVec 32 := Scalar.select v91 v92 v86
  let c896_i32_47 : BitVec 32 := 896#32
  let v94 : BitVec 32 := Scalar.muli v93 c896_i32_47
  let v95 : BitVec 32 := Scalar.addi v83 v94
  v95
def k0_off1 (i : grid0.Coords) : Fin 1 → Nat :=
  let c1_i32_31 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_31 v9
  ![v64.toNat]
def k0_off2 (i : grid0.Coords) : Fin 3 → Nat :=
  let c1_i32_31 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_31 v9
  let c0_i32_48 : BitVec 32 := 0#32
  let c0_i32_49 : BitVec 32 := 0#32
  ![v64.toNat, 0, 0]
def k0_off3 (i : grid0.Coords) : Fin 2 → Nat :=
  let c0_i32_50 : BitVec 32 := 0#32
  let c0_i32_39 : BitVec 32 := 0#32
  let arg0 : BitVec 32 := BitVec.ofNat 32 (i 0).val
  let c1_i32_30 : BitVec 32 := 1#32
  let v63 : BitVec 32 := Scalar.addi arg0 c1_i32_30
  let c0_i32_33 : BitVec 32 := 0#32
  let v66 : BitVec 1 := Scalar.cmpi .sgt v63 c0_i32_33
  let v67 : BitVec 32 := Scalar.extui v66
  let c0_i32_34 : BitVec 32 := 0#32
  let v68 : BitVec 1 := Scalar.cmpi .slt v63 c0_i32_34
  let v69 : BitVec 32 := Scalar.extui v68
  let v70 : BitVec 32 := Scalar.subi v67 v69
  let c2_i32_32 : BitVec 32 := 2#32
  let c0_i32_35 : BitVec 32 := 0#32
  let v71 : BitVec 1 := Scalar.cmpi .sgt c2_i32_32 c0_i32_35
  let v72 : BitVec 32 := Scalar.extui v71
  let c0_i32_36 : BitVec 32 := 0#32
  let v73 : BitVec 1 := Scalar.cmpi .slt c2_i32_32 c0_i32_36
  let v74 : BitVec 32 := Scalar.extui v73
  let v75 : BitVec 32 := Scalar.subi v72 v74
  let v76 : BitVec 1 := Scalar.cmpi .ne v70 v75
  let v77 : BitVec 32 := Scalar.remsi v63 c2_i32_32
  let c0_i32_37 : BitVec 32 := 0#32
  let v78 : BitVec 1 := Scalar.cmpi .ne v77 c0_i32_37
  let v79 : BitVec 1 := Scalar.andi v76 v78
  let v65 : BitVec 32 := Scalar.divsi v63 c2_i32_32
  let c1_i32_38 : BitVec 32 := 1#32
  let v80 : BitVec 32 := Scalar.subi v65 c1_i32_38
  let v81 : BitVec 32 := Scalar.select v79 v80 v65
  let v82 : BitVec 32 := Scalar.addi c0_i32_39 v81
  let c1664_i32_40 : BitVec 32 := 1664#32
  let v83 : BitVec 32 := Scalar.muli v82 c1664_i32_40
  let c2_i32_41 : BitVec 32 := 2#32
  let c0_i32_42 : BitVec 32 := 0#32
  let v84 : BitVec 1 := Scalar.cmpi .eq c2_i32_41 c0_i32_42
  let c1_i32_43 : BitVec 32 := 1#32
  let v85 : BitVec 32 := Scalar.select v84 c1_i32_43 c2_i32_41
  let v86 : BitVec 32 := Scalar.remsi v63 v85
  let c0_i32_45 : BitVec 32 := 0#32
  let v88 : BitVec 1 := Scalar.cmpi .slt v86 c0_i32_45
  let c0_i32_46 : BitVec 32 := 0#32
  let v89 : BitVec 1 := Scalar.cmpi .slt v85 c0_i32_46
  let v90 : BitVec 1 := Scalar.xori v88 v89
  let c0_i32_44 : BitVec 32 := 0#32
  let v87 : BitVec 1 := Scalar.cmpi .ne v86 c0_i32_44
  let v91 : BitVec 1 := Scalar.andi v90 v87
  let v92 : BitVec 32 := Scalar.addi v86 v85
  let v93 : BitVec 32 := Scalar.select v91 v92 v86
  let c896_i32_47 : BitVec 32 := 896#32
  let v94 : BitVec 32 := Scalar.muli v93 c896_i32_47
  let v95 : BitVec 32 := Scalar.addi v83 v94
  let v96 : BitVec 32 := v95
  ![0, v96.toNat]
def k0_mult3 (i : grid0.Coords) : BitVec 32 :=
  let c0_i32_14 : BitVec 32 := 0#32
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .slt arg0 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi arg0 c2_i32_7
  let c0_i32_12 : BitVec 32 := 0#32
  let v30 : BitVec 1 := Scalar.cmpi .ne v29 c0_i32_12
  let v31 : BitVec 1 := Scalar.andi v28 v30
  let v17 : BitVec 32 := Scalar.divsi arg0 c2_i32_7
  let c1_i32_13 : BitVec 32 := 1#32
  let v32 : BitVec 32 := Scalar.subi v17 c1_i32_13
  let v33 : BitVec 32 := Scalar.select v31 v32 v17
  let v34 : BitVec 32 := Scalar.addi c0_i32_14 v33
  let c1664_i32 : BitVec 32 := 1664#32
  let v35 : BitVec 32 := Scalar.muli v34 c1664_i32
  let c2_i32_15 : BitVec 32 := 2#32
  let c0_i32_16 : BitVec 32 := 0#32
  let v36 : BitVec 1 := Scalar.cmpi .eq c2_i32_15 c0_i32_16
  let c1_i32_17 : BitVec 32 := 1#32
  let v37 : BitVec 32 := Scalar.select v36 c1_i32_17 c2_i32_15
  let v38 : BitVec 32 := Scalar.remsi arg0 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c896_i32 : BitVec 32 := 896#32
  let v46 : BitVec 32 := Scalar.muli v45 c896_i32
  let v47 : BitVec 32 := Scalar.addi v35 v46
  v47
def k0_off4 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_21 : BitVec 32 := 0#32
  let c0_i32_22 : BitVec 32 := 0#32
  ![v9.toNat, 0, 0]
def k0_off6 (i : grid0.Coords) : Fin 2 → Nat :=
  let c0_i32_23 : BitVec 32 := 0#32
  let c0_i32_14 : BitVec 32 := 0#32
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .slt arg0 c0_i32_9
  let v21 : BitVec 32 := Scalar.extui v20
  let v22 : BitVec 32 := Scalar.subi v19 v21
  let c2_i32_7 : BitVec 32 := 2#32
  let c0_i32_10 : BitVec 32 := 0#32
  let v23 : BitVec 1 := Scalar.cmpi .sgt c2_i32_7 c0_i32_10
  let v24 : BitVec 32 := Scalar.extui v23
  let c0_i32_11 : BitVec 32 := 0#32
  let v25 : BitVec 1 := Scalar.cmpi .slt c2_i32_7 c0_i32_11
  let v26 : BitVec 32 := Scalar.extui v25
  let v27 : BitVec 32 := Scalar.subi v24 v26
  let v28 : BitVec 1 := Scalar.cmpi .ne v22 v27
  let v29 : BitVec 32 := Scalar.remsi arg0 c2_i32_7
  let c0_i32_12 : BitVec 32 := 0#32
  let v30 : BitVec 1 := Scalar.cmpi .ne v29 c0_i32_12
  let v31 : BitVec 1 := Scalar.andi v28 v30
  let v17 : BitVec 32 := Scalar.divsi arg0 c2_i32_7
  let c1_i32_13 : BitVec 32 := 1#32
  let v32 : BitVec 32 := Scalar.subi v17 c1_i32_13
  let v33 : BitVec 32 := Scalar.select v31 v32 v17
  let v34 : BitVec 32 := Scalar.addi c0_i32_14 v33
  let c1664_i32 : BitVec 32 := 1664#32
  let v35 : BitVec 32 := Scalar.muli v34 c1664_i32
  let c2_i32_15 : BitVec 32 := 2#32
  let c0_i32_16 : BitVec 32 := 0#32
  let v36 : BitVec 1 := Scalar.cmpi .eq c2_i32_15 c0_i32_16
  let c1_i32_17 : BitVec 32 := 1#32
  let v37 : BitVec 32 := Scalar.select v36 c1_i32_17 c2_i32_15
  let v38 : BitVec 32 := Scalar.remsi arg0 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c896_i32 : BitVec 32 := 896#32
  let v46 : BitVec 32 := Scalar.muli v45 c896_i32
  let v47 : BitVec 32 := Scalar.addi v35 v46
  let v48 : BitVec 32 := v47
  ![0, v48.toNat]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c0_25 : Index := 0#32
  let c0_26 : Index := 0#32
  ![v55.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1024x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GradWReferenceIdeal.lean ====
abbrev S1024x2176 : Shape := ⟨2, ![1024, 2176]⟩
abbrev S2176x6784 : Shape := ⟨2, ![2176, 6784]⟩
abbrev S2176x1024 : Shape := ⟨2, ![2176, 1024]⟩
abbrev S_ : Shape := ⟨0, ![]⟩
abbrev S1024x6784 : Shape := ⟨2, ![1024, 6784]⟩
abbrev S6784x1024 : Shape := ⟨2, ![6784, 1024]⟩
abbrev S1024x1792 : Shape := ⟨2, ![1024, 1792]⟩
abbrev S1x1024x1792 : Shape := ⟨3, ![1, 1024, 1792]⟩
abbrev S4x1024x1792 : Shape := ⟨3, ![4, 1024, 1792]⟩

abbrev nBuf : Space → Nat
  | .hbm => 20
  | .vmem => 0
  | .smem => 0
  | _ => 0

abbrev bufTy : (tb : Table) → Fin (tcTables nBuf tb) → BufTy
  | .hbm, ⟨0, _⟩ => ⟨S1024x2176, .bf16⟩
  | .hbm, ⟨1, _⟩ => ⟨S2176x6784, .bf16⟩
  | .hbm, ⟨2, _⟩ => ⟨S1024x2176, .f32⟩
  | .hbm, ⟨3, _⟩ => ⟨S2176x1024, .f32⟩
  | .hbm, ⟨4, _⟩ => ⟨S_, .f32⟩
  | .hbm, ⟨5, _⟩ => ⟨S1024x6784, .f32⟩
  | .hbm, ⟨6, _⟩ => ⟨S2176x6784, .f32⟩
  | .hbm, ⟨7, _⟩ => ⟨S2176x6784, .f32⟩
  | .hbm, ⟨8, _⟩ => ⟨S6784x1024, .f32⟩
  | .hbm, ⟨9, _⟩ => ⟨S1024x6784, .f32⟩
  | .hbm, ⟨10, _⟩ => ⟨S1024x1792, .f32⟩
  | .hbm, ⟨11, _⟩ => ⟨S1024x1792, .f32⟩
  | .hbm, ⟨12, _⟩ => ⟨S1024x1792, .f32⟩
  | .hbm, ⟨13, _⟩ => ⟨S1024x1792, .f32⟩
  | .hbm, ⟨14, _⟩ => ⟨S1x1024x1792, .f32⟩
  | .hbm, ⟨15, _⟩ => ⟨S1x1024x1792, .f32⟩
  | .hbm, ⟨16, _⟩ => ⟨S1x1024x1792, .f32⟩
  | .hbm, ⟨17, _⟩ => ⟨S1x1024x1792, .f32⟩
  | .hbm, ⟨18, _⟩ => ⟨S4x1024x1792, .f32⟩
  | .hbm, ⟨19, _⟩ => ⟨S4x1024x1792, .bf16⟩
  | _, _ => ⟨S1024x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== InGrad.lean ====
abbrev S2176x6784 : Shape := ⟨2, ![2176, 6784]⟩
abbrev S6784x1024 : Shape := ⟨2, ![6784, 1024]⟩
abbrev S2176x1024 : Shape := ⟨2, ![2176, 1024]⟩
abbrev S1x1024 : Shape := ⟨2, ![1, 1024]⟩
abbrev S2048x1024 : Shape := ⟨2, ![2048, 1024]⟩
abbrev S16x1024 : Shape := ⟨2, ![16, 1024]⟩
abbrev S2176x512 : Shape := ⟨2, ![2176, 512]⟩
abbrev S512x1024 : Shape := ⟨2, ![512, 1024]⟩
abbrev S2176x128 : Shape := ⟨2, ![2176, 128]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S2176x6784, .bf16⟩
  | .hbm, ⟨1, _⟩ => ⟨S6784x1024, .bf16⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S2048x1024, .f32⟩
  | .hbm, ⟨6, _⟩ => ⟨S16x1024, .f32⟩
  | .hbm, ⟨7, _⟩ => ⟨S1x1024, .f32⟩
  | .local _ .vmem, ⟨0, _⟩ => ⟨S2176x512, .bf16⟩
  | .local _ .vmem, ⟨1, _⟩ => ⟨S2176x512, .bf16⟩
  | .local _ .vmem, ⟨2, _⟩ => ⟨S512x1024, .bf16⟩
  | .local _ .vmem, ⟨3, _⟩ => ⟨S512x1024, .bf16⟩
  | .local _ .vmem, ⟨4, _⟩ => ⟨S2176x128, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S16x1024, .f32⟩
  | .local _ .vmem, ⟨14, _⟩ => ⟨S1x1024, .f32⟩
  | .local _ .vmem, ⟨15, _⟩ => ⟨S2176x1024, .f32⟩
  | _, _ => ⟨S2176x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![30], ![false]⟩

def k0_cond3 (i : grid0.Coords) : BitVec 1 :=
  let arg0 : BitVec 32 := BitVec.ofNat 32 (i 0).val
  let c13_i32 : BitVec 32 := 13#32
  let v0 : BitVec 32 := Scalar.subi arg0 c13_i32
  let c0_i32_3 : BitVec 32 := 0#32
  let v7 : BitVec 1 := Scalar.cmpi .sge v0 c0_i32_3
  let v8 : BitVec 32 := Scalar.extui v7
  let c0_i32_4 : BitVec 32 := 0#32
  let v9 : BitVec 1 := Scalar.cmpi .ne v8 c0_i32_4
  v9

def k0_mult1 (i : grid0.Coords) : BitVec 32 :=
  let arg0 : BitVec 32 := BitVec.ofNat 32 (i 0).val
  let c13_i32 : BitVec 32 := 13#32
  let v0 : BitVec 32 := Scalar.subi arg0 c13_i32
  let c128_i32 : BitVec 32 := 128#32
  let v10 : BitVec 32 := Scalar.muli v0 c128_i32
  v10
def k0_off1 (i : grid0.Coords) : Fin 2 → Nat :=
  let arg0 : BitVec 32 := BitVec.ofNat 32 (i 0).val
  let c13_i32 : BitVec 32 := 13#32
  let v0 : BitVec 32 := Scalar.subi arg0 c13_i32
  let c128_i32 : BitVec 32 := 128#32
  let v10 : BitVec 32 := Scalar.muli v0 c128_i32
  let v11 : BitVec 32 := v10
  let v12 : Index := Scalar.indexCast v11
  let c0 : Index := 0#32
  ![v12.toNat, 0]
def k0_cond5 (i : grid0.Coords) : BitVec 1 :=
  let arg0 : BitVec 32 := BitVec.ofNat 32 (i 0).val
  let c13_i32 : BitVec 32 := 13#32
  let v0 : BitVec 32 := Scalar.subi arg0 c13_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .ne v51 c0_i32_23
  v52

def k0_cond4 (i : grid0.Coords) : BitVec 1 :=
  let arg0 : BitVec 32 := BitVec.ofNat 32 (i 0).val
  let c13_i32 : BitVec 32 := 13#32
  let v0 : BitVec 32 := Scalar.subi arg0 c13_i32
  let c0_i32_20 : BitVec 32 := 0#32
  let v47 : BitVec 1 := Scalar.cmpi .eq v0 c0_i32_20
  let v48 : BitVec 32 := Scalar.extui v47
  let c0_i32_21 : BitVec 32 := 0#32
  let v49 : BitVec 1 := Scalar.cmpi .ne v48 c0_i32_21
  v49

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c12_i32 : BitVec 32 := 12#32
  let v0 : BitVec 32 := Scalar.minsi arg0 c12_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.minsi arg0 c12_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c52_i32 : BitVec 32 := 52#32
  let c0_i32_0 : BitVec 32 := 0#32
  ![c0_i32.toNat, c52_i32.toNat]

def cc0_transform_3 (i : grid0.Coords) : Fin 2 → Nat :=
  let arg0 : BitVec 32 := BitVec.ofNat 32 (i 0).val
  let c52_i32 : BitVec 32 := 52#32
  let c0_i32 : BitVec 32 := 0#32
  let c0_i32_0 : BitVec 32 := 0#32
  ![c52_i32.toNat, c0_i32.toNat]

def cc0_transform_4 (i : grid0.Coords) : Fin 2 → Nat :=
  let arg0 : BitVec 32 := BitVec.ofNat 32 (i 0).val
  let c13_i32 : BitVec 32 := 13#32
  let v0 : BitVec 32 := Scalar.subi arg0 c13_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c13_i32 : BitVec 32 := 13#32
  let v0 : BitVec 32 := Scalar.subi arg0 c13_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c13_i32 : BitVec 32 := 13#32
  let v0 : BitVec 32 := Scalar.subi arg0 c13_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InGradReferenceIdeal.lean ====
abbrev S2176x6784 : Shape := ⟨2, ![2176, 6784]⟩
abbrev S6784x1024 : Shape := ⟨2, ![6784, 1024]⟩
abbrev S2176x1024 : Shape := ⟨2, ![2176, 1024]⟩
abbrev S1x1024 : Shape := ⟨2, ![1, 1024]⟩
abbrev S1024x6784 : Shape := ⟨2, ![1024, 6784]⟩
abbrev S_ : Shape := ⟨0, ![]⟩
abbrev S2176 : Shape := ⟨1, ![2176]⟩
abbrev S2176x1 : Shape := ⟨2, ![2176, 1]⟩
abbrev S1024 : Shape := ⟨1, ![1024]⟩
abbrev S2048x1024 : Shape := ⟨2, ![2048, 1024]⟩
abbrev S16x1024 : Shape := ⟨2, ![16, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2176x6784, .bf16⟩
  | .hbm, ⟨1, _⟩ => ⟨S6784x1024, .bf16⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S6784x1024, .f32⟩
  | .hbm, ⟨6, _⟩ => ⟨S1024x6784, .f32⟩
  | .hbm, ⟨7, _⟩ => ⟨S2176x1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x6784, .f32⟩
  | .hbm, ⟨27, _⟩ => ⟨S2176x6784, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S_, .f32⟩
  | .hbm, ⟨37, _⟩ => ⟨S2176, .f32⟩
  | .hbm, ⟨38, _⟩ => ⟨S2176x1, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1, .f32⟩
  | .hbm, ⟨43, _⟩ => ⟨S_, .f32⟩
  | .hbm, ⟨44, _⟩ => ⟨S2176x1, .f32⟩
  | .hbm, ⟨45, _⟩ => ⟨S2176x1, .f32⟩
  | .hbm, ⟨46, _⟩ => ⟨S_, .f32⟩
  | .hbm, ⟨47, _⟩ => ⟨S2176, .f32⟩
  | .hbm, ⟨48, _⟩ => ⟨S2176x1024, .f32⟩
  | .hbm, ⟨49, _⟩ => ⟨S2176x1024, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2048x1024, .f32⟩
  | .hbm, ⟨54, _⟩ => ⟨S16x1024, .f32⟩
  | _, _ => ⟨S2176x6784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Tail.lean ====
abbrev S2176x1024 : Shape := ⟨2, ![2176, 1024]⟩
abbrev S2176x3584 : Shape := ⟨2, ![2176, 3584]⟩
abbrev S2048x1024 : Shape := ⟨2, ![2048, 1024]⟩
abbrev S1x1024 : Shape := ⟨2, ![1, 1024]⟩
abbrev S2176x6784 : Shape := ⟨2, ![2176, 6784]⟩
abbrev S272x1024 : Shape := ⟨2, ![272, 1024]⟩
abbrev S1024x1024 : Shape := ⟨2, ![1024, 1024]⟩
abbrev S272 : Shape := ⟨1, ![272]⟩
abbrev S272x1 : Shape := ⟨2, ![272, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x3584, .f32⟩
  | .hbm, ⟨3, _⟩ => ⟨S2176x1024, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S2176x1024, .f32⟩
  | .hbm, ⟨8, _⟩ => ⟨S2176x1024, .f32⟩
  | .hbm, ⟨9, _⟩ => ⟨S2176x6784, .bf16⟩
  | .hbm, ⟨10, _⟩ => ⟨S2048x1024, .f32⟩
  | .hbm, ⟨11, _⟩ => ⟨S1x1024, .f32⟩
  | .hbm, ⟨12, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S2048x1024, .bf16⟩
  | .local _ .vmem, ⟨11, _⟩ => ⟨S1x1024, .f32⟩
  | .local _ .vmem, ⟨12, _⟩ => ⟨S1x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .bf16⟩
  | .local _ .vmem, ⟨18, _⟩ => ⟨S272x1024, .bf16⟩
  | .local _ .vmem, ⟨19, _⟩ => ⟨S2048x1024, .f32⟩
  | .local _ .vmem, ⟨20, _⟩ => ⟨S1x1024, .f32⟩
  | .local _ .vmem, ⟨21, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_5 : BitVec 32 := 0#32
  let v12 : BitVec 1 := Scalar.cmpi .ne v11 c0_i32_5
  v12

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S272x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S272x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2048x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== TailReferenceIdeal.lean ====
abbrev S2176x1024 : Shape := ⟨2, ![2176, 1024]⟩
abbrev S2176x3584 : Shape := ⟨2, ![2176, 3584]⟩
abbrev S2048x1024 : Shape := ⟨2, ![2048, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S2176x2048 : Shape := ⟨2, ![2176, 2048]⟩
abbrev S1024x2048 : Shape := ⟨2, ![1024, 2048]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x3584, .f32⟩
  | .hbm, ⟨3, _⟩ => ⟨S2176x1024, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S2176x1024, .f32⟩
  | .hbm, ⟨8, _⟩ => ⟨S2176x1024, .f32⟩
  | .hbm, ⟨9, _⟩ => ⟨S2048x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176x1024, .f32⟩
  | .hbm, ⟨14, _⟩ => ⟨S2176x1024, .f32⟩
  | .hbm, ⟨15, _⟩ => ⟨S_, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x1, .f32⟩
  | .hbm, ⟨31, _⟩ => ⟨S2176x1, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1024, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S_, .f32⟩
  | .hbm, ⟨42, _⟩ => ⟨S2176x1024, .f32⟩
  | .hbm, ⟨43, _⟩ => ⟨S2176x1024, .f32⟩
  | .hbm, ⟨44, _⟩ => ⟨S_, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S_, .f32⟩
  | .hbm, ⟨51, _⟩ => ⟨S2176, .f32⟩
  | .hbm, ⟨52, _⟩ => ⟨S2176x1, .f32⟩
  | .hbm, ⟨53, _⟩ => ⟨S_, .f32⟩
  | .hbm, ⟨54, _⟩ => ⟨S2176x1, .f32⟩
  | .hbm, ⟨55, _⟩ => ⟨S2176x1, .f32⟩
  | .hbm, ⟨56, _⟩ => ⟨S_, .f32⟩
  | .hbm, ⟨57, _⟩ => ⟨S2176x1, .f32⟩
  | .hbm, ⟨58, _⟩ => ⟨S2176x1, .f32⟩
  | .hbm, ⟨59, _⟩ => ⟨S2176x1, .f32⟩
  | .hbm, ⟨60, _⟩ => ⟨S2176x1, .f32⟩
  | .hbm, ⟨61, _⟩ => ⟨S_, .f32⟩
  | .hbm, ⟨62, _⟩ => ⟨S2176x1, .f32⟩
  | .hbm, ⟨63, _⟩ => ⟨S2176x1, .f32⟩
  | .hbm, ⟨64, _⟩ => ⟨S2176x1024, .f32⟩
  | .hbm, ⟨65, _⟩ => ⟨S2176x1024, .f32⟩
  | .hbm, ⟨66, _⟩ => ⟨S2176x1024, .f32⟩
  | .hbm, ⟨67, _⟩ => ⟨S2176x1024, .f32⟩
  | .hbm, ⟨68, _⟩ => ⟨S2176x2048, .f32⟩
  | .hbm, ⟨69, _⟩ => ⟨S2176x1024, .f32⟩
  | .hbm, ⟨70, _⟩ => ⟨S1024x2048, .f32⟩
  | .hbm, ⟨71, _⟩ => ⟨S2048x1024, .f32⟩
  | .hbm, ⟨72, _⟩ => ⟨S2176x2048, .f32⟩
  | .hbm, ⟨73, _⟩ => ⟨S2176x1024, .f32⟩
  | .hbm, ⟨74, _⟩ => ⟨S2176x1024, .f32⟩
  | .hbm, ⟨75, _⟩ => ⟨S2176x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2176x1024, .f32⟩
  | .hbm, ⟨80, _⟩ => ⟨S2176x1024, .f32⟩
  | .hbm, ⟨81, _⟩ => ⟨S2176x1024, .f32⟩
  | .hbm, ⟨82, _⟩ => ⟨S_, .f32⟩
  | .hbm, ⟨83, _⟩ => ⟨S2176, .f32⟩
  | .hbm, ⟨84, _⟩ => ⟨S2176x1, .f32⟩
  | .hbm, ⟨85, _⟩ => ⟨S2176x1024, .f32⟩
  | .hbm, ⟨86, _⟩ => ⟨S2176x1024, .f32⟩
  | .hbm, ⟨87, _⟩ => ⟨S2176x1, .f32⟩
  | .hbm, ⟨88, _⟩ => ⟨S_, .f32⟩
  | .hbm, ⟨89, _⟩ => ⟨S2176x1, .f32⟩
  | .hbm, ⟨90, _⟩ => ⟨S2176x1, .f32⟩
  | .hbm, ⟨91, _⟩ => ⟨S_, .f32⟩
  | .hbm, ⟨92, _⟩ => ⟨S2176, .f32⟩
  | .hbm, ⟨93, _⟩ => ⟨S2176x1024, .f32⟩
  | .hbm, ⟨94, _⟩ => ⟨S2176x1024, .f32⟩
  | .hbm, ⟨95, _⟩ => ⟨S2176x1024, .f32⟩
  | .hbm, ⟨96, _⟩ => ⟨S2176x1024, .f32⟩
  | .hbm, ⟨97, _⟩ => ⟨S2176x1024, .f32⟩
  | .hbm, ⟨98, _⟩ => ⟨S2176x1024, .f32⟩
  | .hbm, ⟨99, _⟩ => ⟨S2176x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S2176x1024, .f32⟩
  | .hbm, ⟨104, _⟩ => ⟨S2176x1024, .f32⟩
  | .hbm, ⟨105, _⟩ => ⟨S2176x1024, .f32⟩
  | .hbm, ⟨106, _⟩ => ⟨S_, .f32⟩
  | .hbm, ⟨107, _⟩ => ⟨S2176, .f32⟩
  | .hbm, ⟨108, _⟩ => ⟨S2176x1, .f32⟩
  | .hbm, ⟨109, _⟩ => ⟨S2176x1024, .f32⟩
  | .hbm, ⟨110, _⟩ => ⟨S2176x1024, .f32⟩
  | .hbm, ⟨111, _⟩ => ⟨S2176x1, .f32⟩
  | .hbm, ⟨112, _⟩ => ⟨S_, .f32⟩
  | .hbm, ⟨113, _⟩ => ⟨S2176x1, .f32⟩
  | .hbm, ⟨114, _⟩ => ⟨S2176x1, .f32⟩
  | .hbm, ⟨115, _⟩ => ⟨S_, .f32⟩
  | .hbm, ⟨116, _⟩ => ⟨S2176, .f32⟩
  | .hbm, ⟨117, _⟩ => ⟨S2176x1024, .f32⟩
  | .hbm, ⟨118, _⟩ => ⟨S2176x1024, .f32⟩
  | .hbm, ⟨119, _⟩ => ⟨S2176x1024, .f32⟩
  | .hbm, ⟨120, _⟩ => ⟨S2176x1024, .f32⟩
  | .hbm, ⟨121, _⟩ => ⟨S2176x1024, .f32⟩
  | .hbm, ⟨122, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]
-- ==== Head.lean ====
abbrev S2176x1024 : Shape := ⟨2, ![2176, 1024]⟩
abbrev S2176x3584 : Shape := ⟨2, ![2176, 3584]⟩
abbrev S2048x1024 : Shape := ⟨2, ![2048, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x3584, .f32⟩
  | .hbm, ⟨3, _⟩ => ⟨S2176x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2176x1024, .f32⟩
  | .hbm, ⟨10, _⟩ => ⟨S1x1024, .f32⟩
  | .hbm, ⟨11, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S2048x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S128x1024, .f32⟩
  | .local _ .vmem, ⟨18, _⟩ => ⟨S1x1024, .f32⟩
  | .local _ .vmem, ⟨19, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== HeadReferenceIdeal.lean ====
abbrev S2176x1024 : Shape := ⟨2, ![2176, 1024]⟩
abbrev S2176x3584 : Shape := ⟨2, ![2176, 3584]⟩
abbrev S2048x1024 : Shape := ⟨2, ![2048, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S2176x2048 : Shape := ⟨2, ![2176, 2048]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x3584, .f32⟩
  | .hbm, ⟨3, _⟩ => ⟨S2176x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2176x1024, .f32⟩
  | .hbm, ⟨11, _⟩ => ⟨S2176x1024, .f32⟩
  | .hbm, ⟨12, _⟩ => ⟨S2176x1024, .f32⟩
  | .hbm, ⟨13, _⟩ => ⟨S2176x1024, .f32⟩
  | .hbm, ⟨14, _⟩ => ⟨S_, .f32⟩
  | .hbm, ⟨15, _⟩ => ⟨S2176x1024, .f32⟩
  | .hbm, ⟨16, _⟩ => ⟨S2176x1024, .f32⟩
  | .hbm, ⟨17, _⟩ => ⟨S_, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176, .f32⟩
  | .hbm, ⟨25, _⟩ => ⟨S2176x1, .f32⟩
  | .hbm, ⟨26, _⟩ => ⟨S_, .f32⟩
  | .hbm, ⟨27, _⟩ => ⟨S2176x1, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S_, .f32⟩
  | .hbm, ⟨40, _⟩ => ⟨S2176x1024, .f32⟩
  | .hbm, ⟨41, _⟩ => ⟨S2176x1024, .f32⟩
  | .hbm, ⟨42, _⟩ => ⟨S_, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S_, .f32⟩
  | .hbm, ⟨49, _⟩ => ⟨S2176, .f32⟩
  | .hbm, ⟨50, _⟩ => ⟨S2176x1, .f32⟩
  | .hbm, ⟨51, _⟩ => ⟨S_, .f32⟩
  | .hbm, ⟨52, _⟩ => ⟨S2176x1, .f32⟩
  | .hbm, ⟨53, _⟩ => ⟨S2176x1, .f32⟩
  | .hbm, ⟨54, _⟩ => ⟨S_, .f32⟩
  | .hbm, ⟨55, _⟩ => ⟨S2176x1, .f32⟩
  | .hbm, ⟨56, _⟩ => ⟨S2176x1, .f32⟩
  | .hbm, ⟨57, _⟩ => ⟨S2176x1, .f32⟩
  | .hbm, ⟨58, _⟩ => ⟨S2176x1024, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S2176x2048, .f32⟩
  | .hbm, ⟨63, _⟩ => ⟨S2176x1024, .f32⟩
  | .hbm, ⟨64, _⟩ => ⟨S2176x1024, .f32⟩
  | .hbm, ⟨65, _⟩ => ⟨S2176x1024, .f32⟩
  | .hbm, ⟨66, _⟩ => ⟨S_, .f32⟩
  | .hbm, ⟨67, _⟩ => ⟨S2176, .f32⟩
  | .hbm, ⟨68, _⟩ => ⟨S2176x1, .f32⟩
  | .hbm, ⟨69, _⟩ => ⟨S_, .f32⟩
  | .hbm, ⟨70, _⟩ => ⟨S2176x1, .f32⟩
  | .hbm, ⟨71, _⟩ => ⟨S2176x1, .f32⟩
  | .hbm, ⟨72, _⟩ => ⟨S_, .f32⟩
  | .hbm, ⟨73, _⟩ => ⟨S2176x1, .f32⟩
  | .hbm, ⟨74, _⟩ => ⟨S2176x1, .f32⟩
  | .hbm, ⟨75, _⟩ => ⟨S2176x1, .f32⟩
  | .hbm, ⟨76, _⟩ => ⟨S2176x1, .f32⟩
  | .hbm, ⟨77, _⟩ => ⟨S_, .f32⟩
  | .hbm, ⟨78, _⟩ => ⟨S2176x1, .f32⟩
  | .hbm, ⟨79, _⟩ => ⟨S2176x1, .f32⟩
  | .hbm, ⟨80, _⟩ => ⟨S2176x1024, .f32⟩
  | .hbm, ⟨81, _⟩ => ⟨S2176x1024, .f32⟩
  | .hbm, ⟨82, _⟩ => ⟨S2176x1024, .f32⟩
  | .hbm, ⟨83, _⟩ => ⟨S2176x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S_, .f32⟩
  | .hbm, ⟨90, _⟩ => ⟨S2176x1024, .f32⟩
  | .hbm, ⟨91, _⟩ => ⟨S2176x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S2176x1024, .f32⟩
  | .hbm, ⟨96, _⟩ => ⟨S2176x1024, .f32⟩
  | .hbm, ⟨97, _⟩ => ⟨S2176x1024, .f32⟩
  | .hbm, ⟨98, _⟩ => ⟨S_, .f32⟩
  | .hbm, ⟨99, _⟩ => ⟨S2176, .f32⟩
  | .hbm, ⟨100, _⟩ => ⟨S2176x1, .f32⟩
  | .hbm, ⟨101, _⟩ => ⟨S2176x1024, .f32⟩
  | .hbm, ⟨102, _⟩ => ⟨S2176x1024, .f32⟩
  | .hbm, ⟨103, _⟩ => ⟨S2176x1, .f32⟩
  | .hbm, ⟨104, _⟩ => ⟨S_, .f32⟩
  | .hbm, ⟨105, _⟩ => ⟨S2176x1, .f32⟩
  | .hbm, ⟨106, _⟩ => ⟨S2176x1, .f32⟩
  | .hbm, ⟨107, _⟩ => ⟨S_, .f32⟩
  | .hbm, ⟨108, _⟩ => ⟨S2176, .f32⟩
  | .hbm, ⟨109, _⟩ => ⟨S2176x1024, .f32⟩
  | .hbm, ⟨110, _⟩ => ⟨S2176x1024, .f32⟩
  | .hbm, ⟨111, _⟩ => ⟨S2176x1024, .f32⟩
  | .hbm, ⟨112, _⟩ => ⟨S2176x1024, .f32⟩
  | .hbm, ⟨113, _⟩ => ⟨S2176x1024, .f32⟩
  | .hbm, ⟨114, _⟩ => ⟨S2048x1024, .f32⟩
  | .hbm, ⟨115, _⟩ => ⟨S_, .f32⟩
  | .hbm, ⟨116, _⟩ => ⟨S1024, .f32⟩
  | .hbm, ⟨117, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== Proof.Lift.lean ====
module

public import proofs.«01_k».proof.Proof.Gen.KernelIdeal.Skeleton
public import Idealize.ShloMosaic.Lib.ValueIdx
public import Idealize.ShloMosaic.Lib.MatmulPlain
public import Idealize.ShloMosaic.Lib.Pipeline.Value

@[expose] public section

/-! Vectors of real numbers given by functions of natural-number coordinates, and how each
operation of the kernel acts on them over the extended reals. -/

noncomputable section

namespace Cert.Lift

open Idealize.ShloMosaic Idealize.ShloMosaic.ValueIdx

/-- The matrix of extended reals with the real entries `f row column`. -/
def M2 {φ : FTy} {n m : ℕ} (f : ℕ → ℕ → ℝ) : FVec Ideal (⟨2, ![n, m]⟩ : Shape) φ :=
  fun i => ((f (i 0).val (i 1).val : ℝ) : EReal)

/-- The vector with the real entries `f i`. -/
def M1 {φ : FTy} {n : ℕ} (f : ℕ → ℝ) : FVec Ideal (⟨1, ![n]⟩ : Shape) φ :=
  fun i => ((f (i 0).val : ℝ) : EReal)

/-- The block with the real entries `f page row column`. -/
def M3 {φ : FTy} {k n m : ℕ} (f : ℕ → ℕ → ℕ → ℝ) : FVec Ideal (⟨3, ![k, n, m]⟩ : Shape) φ :=
  fun i => ((f (i 0).val (i 1).val (i 2).val : ℝ) : EReal)

/-- The one-bit mask that is set where `p row column` holds. -/
def Mk {n m : ℕ} (p : ℕ → ℕ → Bool) : IVec (⟨2, ![n, m]⟩ : Shape) 1 :=
  fun i => BitVec.ofBool (p (i 0).val (i 1).val)

theorem M2_ext {φ : FTy} {n m : ℕ} {v : FVec Ideal (⟨2, ![n, m]⟩ : Shape) φ} {f : ℕ → ℕ → ℝ}
    (h : ∀ (i : Fin n) (j : Fin m), v (ix2 i j) = ((f i.val j.val : ℝ) : EReal)) : v = M2 f := by
  funext i
  rw [eq_ix2 i]
  exact h _ _

theorem M1_ext {φ : FTy} {n : ℕ} {v : FVec Ideal (⟨1, ![n]⟩ : Shape) φ} {f : ℕ → ℝ}
    (h : ∀ (i : Fin n), v (ix1 i) = ((f i.val : ℝ) : EReal)) : v = M1 f := by
  funext i
  rw [eq_ix1 i]
  exact h _

theorem Mk_ext {n m : ℕ} {v : IVec (⟨2, ![n, m]⟩ : Shape) 1} {p : ℕ → ℕ → Bool}
    (h : ∀ (i : Fin n) (j : Fin m), v (ix2 i j) = BitVec.ofBool (p i.val j.val)) : v = Mk p := by
  funext i
  rw [eq_ix2 i]
  exact h _ _

theorem M2_congr {φ : FTy} {n m : ℕ} {f g : ℕ → ℕ → ℝ} (h : ∀ i j, i < n → j < m → f i j = g i j) :
    (M2 f : FVec Ideal (⟨2, ![n, m]⟩ : Shape) φ) = M2 g := by
  funext i
  exact congrArg _ (h _ _ (i 0).isLt (i 1).isLt)

theorem M2_apply {φ : FTy} {n m : ℕ} (f : ℕ → ℕ → ℝ) (i : Fin n) (j : Fin m) :
    (M2 f : FVec Ideal (⟨2, ![n, m]⟩ : Shape) φ) (ix2 i j) = ((f i.val j.val : ℝ) : EReal) := rfl

theorem sum_coe {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

section pointwise
variable {φ ψ : FTy} {n m : ℕ} (f g : ℕ → ℕ → ℝ) (p : ℕ → ℕ → Bool)

theorem mulf_M2 : mulf (M2 f : FVec Ideal (⟨2, ![n, m]⟩ : Shape) φ) (M2 g) = M2 fun i j => f i j * g i j := by
  funext i; exact (EReal.coe_mul _ _).symm

theorem addf_M2 : addf (M2 f : FVec Ideal (⟨2, ![n, m]⟩ : Shape) φ) (M2 g) = M2 fun i j => f i j + g i j := by
  funext i; exact (EReal.coe_add _ _).symm

theorem subf_M2 : subf (M2 f : FVec Ideal (⟨2, ![n, m]⟩ : Shape) φ) (M2 g) = M2 fun i j => f i j - g i j := by
  funext i; exact (EReal.coe_sub _ _).symm

theorem minimumf_M2 : minimumf (M2 f : FVec Ideal (⟨2, ![n, m]⟩ : Shape) φ) (M2 g) = M2 fun i j => min (f i j) (g i j) := by
  funext i; exact (EReal.coe_strictMono.monotone.map_min).symm

theorem exp_M2 : exp (M2 f : FVec Ideal (⟨2, ![n, m]⟩ : Shape) φ) = M2 fun i j => Real.exp (f i j) := by
  funext i; rfl

theorem truncf_M2 (h : ψ.bits < φ.bits) : truncf ψ (M2 f : FVec Ideal (⟨2, ![n, m]⟩ : Shape) φ) h = M2 f := rfl

theorem extf_M2 (h : φ.bits < ψ.bits) : extf ψ (M2 f : FVec Ideal (⟨2, ![n, m]⟩ : Shape) φ) h = M2 f := rfl

theorem constant_zero : (constant (⟨2, ![n, m]⟩ : Shape) .f32 0#32 : FVec Ideal _ .f32) = M2 fun _ _ => 0 := by
  funext i; exact Ideal.ofBits_zero_f32

theorem broadcast_zero :
    broadcast (⟨2, ![n, m]⟩ : Shape) (Scalar.ofBits .f32 0#32 : Ideal .f32) = (M2 fun _ _ => 0 : FVec Ideal _ .f32) := by
  funext i; exact Ideal.ofBits_zero_f32

theorem select_M2 :
    select (Mk p) (M2 f : FVec Ideal (⟨2, ![n, m]⟩ : Shape) φ) (M2 g) = M2 fun i j => if p i j then f i j else g i j := by
  funext i
  show (if BitVec.ofBool (p (i 0).val (i 1).val) = 1#1 then ((f _ _ : ℝ) : EReal) else ((g _ _ : ℝ) : EReal)) = _
  unfold M2
  by_cases h : p (i 0).val (i 1).val = true
  · simp [h]
  · simp [h]

theorem sitofp_Mk (h : 1 < 32) :
    (sitofp .f32 (extui 32 (Mk p : IVec (⟨2, ![n, m]⟩ : Shape) 1) h) : FVec Ideal _ .f32)
      = M2 fun i j => if p i j then 1 else 0 := by
  funext i
  simp only [sitofp_apply, extui_apply, Mk, M2]
  rcases e : p (i 0).val (i 1).val
  · show ((((0#1).setWidth 32).toInt : ℝ) : EReal) = _
    norm_num
  · show ((((1#1).setWidth 32).toInt : ℝ) : EReal) = _
    norm_num

end pointwise

section words

theorem ofNat_eq_iff {a b : ℕ} (ha : a < 2 ^ 31) (hb : b < 2 ^ 31) :
    (BitVec.ofNat 32 a = BitVec.ofNat 32 b) ↔ a = b := by
  constructor
  · intro h
    have := congrArg BitVec.toNat h
    simp only [BitVec.toNat_ofNat] at this
    omega
  · exact fun h => h ▸ rfl

theorem toInt_ofNat {a : ℕ} (ha : a < 2 ^ 31) : (BitVec.ofNat 32 a).toInt = a := by
  rw [BitVec.toInt_eq_toNat_cond, BitVec.toNat_ofNat]
  rw [Nat.mod_eq_of_lt (by omega), if_pos (by omega)]

/-- A matrix of 32-bit words holding the naturals `f row column`. -/
def Wd {n m : ℕ} (f : ℕ → ℕ → ℕ) : IVec (⟨2, ![n, m]⟩ : Shape) 32 :=
  fun i => BitVec.ofNat 32 (f (i 0).val (i 1).val)

variable {n m : ℕ}

theorem iota_rows (κ : Kind) (h) : iota κ (⟨2, ![n, m]⟩ : Shape) 32 [0] h = Wd fun i _ => i := by
  funext i; exact iota_single_apply κ _ 32 0 h i

theorem iota_cols (κ : Kind) (h) : iota κ (⟨2, ![n, m]⟩ : Shape) 32 [1] h = Wd fun _ j => j := by
  funext i; exact iota_single_apply κ _ 32 1 h i

theorem broadcast_word (c : ℕ) : broadcast (⟨2, ![n, m]⟩ : Shape) (BitVec.ofNat 32 c) = Wd fun _ _ => c := rfl

theorem cmpi_eq_Wd (f g : ℕ → ℕ → ℕ) (hf : ∀ i j, i < n → j < m → f i j < 2 ^ 31) (hg : ∀ i j, i < n → j < m → g i j < 2 ^ 31) :
    cmpi .eq (Wd f : IVec (⟨2, ![n, m]⟩ : Shape) 32) (Wd g) = Mk fun i j => decide (f i j = g i j) := by
  funext i
  show BitVec.ofBool (BitVec.ofNat 32 _ == BitVec.ofNat 32 _) = _
  rw [Mk]
  congr 1
  rw [beq_eq_decide]
  exact decide_eq_decide.mpr (ofNat_eq_iff (hf _ _ (i 0).isLt (i 1).isLt) (hg _ _ (i 0).isLt (i 1).isLt))

theorem cmpi_sle_Wd (f g : ℕ → ℕ → ℕ) (hf : ∀ i j, i < n → j < m → f i j < 2 ^ 31) (hg : ∀ i j, i < n → j < m → g i j < 2 ^ 31) :
    cmpi .sle (Wd f : IVec (⟨2, ![n, m]⟩ : Shape) 32) (Wd g) = Mk fun i j => decide (f i j ≤ g i j) := by
  funext i
  show BitVec.ofBool (BitVec.sle (BitVec.ofNat 32 _) (BitVec.ofNat 32 _)) = _
  rw [Mk, BitVec.sle, toInt_ofNat (hf _ _ (i 0).isLt (i 1).isLt), toInt_ofNat (hg _ _ (i 0).isLt (i 1).isLt)]
  congr 1
  exact decide_eq_decide.mpr Int.ofNat_le

theorem cmpi_sge_Wd (f g : ℕ → ℕ → ℕ) (hf : ∀ i j, i < n → j < m → f i j < 2 ^ 31) (hg : ∀ i j, i < n → j < m → g i j < 2 ^ 31) :
    cmpi .sge (Wd f : IVec (⟨2, ![n, m]⟩ : Shape) 32) (Wd g) = Mk fun i j => decide (g i j ≤ f i j) := by
  funext i
  show BitVec.ofBool (BitVec.sle (BitVec.ofNat 32 _) (BitVec.ofNat 32 _)) = _
  rw [Mk, BitVec.sle, toInt_ofNat (hf _ _ (i 0).isLt (i 1).isLt), toInt_ofNat (hg _ _ (i 0).isLt (i 1).isLt)]
  congr 1
  exact decide_eq_decide.mpr Int.ofNat_le

theorem shrui_Wd (f : ℕ → ℕ → ℕ) (k : ℕ) (hk : k < 32) (hf : ∀ i j, i < n → j < m → f i j < 2 ^ 31) :
    shrui (Wd f : IVec (⟨2, ![n, m]⟩ : Shape) 32) (Wd fun _ _ => k) = Wd fun i j => f i j / 2 ^ k := by
  funext i
  have hf' := hf _ _ (i 0).isLt (i 1).isLt
  show (if (BitVec.ofNat 32 k).toNat < 32 then BitVec.ofNat 32 _ >>> BitVec.ofNat 32 k else _) = _
  have hk' : (BitVec.ofNat 32 k).toNat = k := by rw [BitVec.toNat_ofNat]; omega
  rw [if_pos (by omega)]
  apply BitVec.eq_of_toNat_eq
  rw [BitVec.ushiftRight_eq', BitVec.toNat_ushiftRight, hk', Wd, BitVec.toNat_ofNat, BitVec.toNat_ofNat,
    Nat.shiftRight_eq_div_pow, Nat.mod_eq_of_lt (by omega),
    Nat.mod_eq_of_lt (lt_of_le_of_lt (Nat.div_le_self _ _) (by omega))]

end words

section shapes
variable {φ : FTy} {k n m a b : ℕ} (f : ℕ → ℕ → ℝ)

theorem slice_M2 (o : Fin 2 → ℕ) (h) :
    extractStridedSlice (⟨2, ![a, b]⟩ : Shape) o (M2 f : FVec Ideal (⟨2, ![n, m]⟩ : Shape) φ) h
      = M2 fun i j => f (o 0 + i) (o 1 + j) := rfl

theorem spread_row (h) :
    broadcastTo (⟨2, ![n, m]⟩ : Shape) (M2 f : FVec Ideal (⟨2, ![1, m]⟩ : Shape) φ) h = M2 fun _ j => f 0 j := by
  refine M2_ext fun i j => ?_
  rw [broadcastTo_apply _ h _ (ix2 ⟨0, Nat.one_pos⟩ j)]
  · rfl
  · intro c
    match c with
    | ⟨0, _⟩ => rfl
    | ⟨1, _⟩ =>
      show j.val = if m = 1 then 0 else j.val
      have := j.isLt
      split <;> omega

theorem spread_col (h) :
    broadcastTo (⟨2, ![n, m]⟩ : Shape) (M2 f : FVec Ideal (⟨2, ![n, 1]⟩ : Shape) φ) h = M2 fun i _ => f i 0 := by
  refine M2_ext fun i j => ?_
  rw [broadcastTo_apply _ h _ (ix2 i ⟨0, Nat.one_pos⟩)]
  · rfl
  · intro c
    match c with
    | ⟨0, _⟩ =>
      show i.val = if n = 1 then 0 else i.val
      have := i.isLt
      split <;> omega
    | ⟨1, _⟩ => rfl

theorem page_M3 (g : ℕ → ℕ → ℕ → ℝ) (h) :
    shapeCast (⟨2, ![n, m]⟩ : Shape) (M3 g : FVec Ideal (⟨3, ![1, n, m]⟩ : Shape) φ) h = M2 (g 0) := by
  funext i
  exact shapeCast_dropUnit_apply ![n, m] _ h i

theorem page_M2 (h) :
    shapeCast (⟨3, ![1, n, m]⟩ : Shape) (M2 f : FVec Ideal (⟨2, ![n, m]⟩ : Shape) φ) h = M3 fun _ => f := by
  funext i
  exact shapeCast_addUnit_apply ![n, m] _ h i

theorem row_M1 (g : ℕ → ℝ) (h) :
    shapeCast (⟨2, ![1, m]⟩ : Shape) (M1 g : FVec Ideal (⟨1, ![m]⟩ : Shape) φ) h = M2 fun _ => g := by
  funext i
  exact shapeCast_addUnit_apply ![m] _ h i

theorem col_M1 (g : ℕ → ℝ) (h) :
    shapeCast (⟨2, ![n, 1]⟩ : Shape) (M1 g : FVec Ideal (⟨1, ![n]⟩ : Shape) φ) h = M2 fun i _ => g i := by
  refine M2_ext fun i j => ?_
  have e : Shape.reshapeEquiv h (ix2 i j) = (ix1 i : (⟨1, ![n]⟩ : Shape).Idx) := by
    apply Shape.reshapeEquiv_eq_of_rowMajor
    have := j.isLt
    show (Shape.rowMajorPi ![n] _).val = (Shape.rowMajorPi ![n, 1] _).val
    rw [Shape.rowMajorPi_succ_val, Shape.rowMajorPi_succ_val, Shape.rowMajorPi_succ_val]
    simp [ix1, ix2, Shape.rowMajorPi, Shape.rankPi]
  exact congrArg (M1 g : FVec Ideal (⟨1, ![n]⟩ : Shape) φ) e

theorem sum_rows (acc) (h) (hφ) (hacc) :
    multiReduction .add [0] (⟨1, ![m]⟩ : Shape) (M2 f : FVec Ideal (⟨2, ![n, m]⟩ : Shape) φ) acc h hφ hacc
      = M1 fun j => ∑ i ∈ Finset.range n, f i j := by
  refine M1_ext fun j => ?_
  rw [Ideal.multiReduction_add_single, Finset.sum_range, ← sum_coe]
  exact Finset.sum_congr rfl fun i _ => rfl

theorem sum_cols (acc) (h) (hφ) (hacc) :
    multiReduction .add [1] (⟨1, ![n]⟩ : Shape) (M2 f : FVec Ideal (⟨2, ![n, m]⟩ : Shape) φ) acc h hφ hacc
      = M1 fun i => ∑ j ∈ Finset.range m, f i j := by
  refine M1_ext fun j => ?_
  rw [Ideal.multiReduction_add_single, Finset.sum_range, ← sum_coe]
  exact Finset.sum_congr rfl fun i _ => rfl

end shapes

section products
variable {φ ψ : FTy} {M K N : ℕ} (f g c : ℕ → ℕ → ℝ) (prec : Option ContractPrecision)

/-- The dimension numbers of a product of a transposed left operand. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem lift_sum (r s : ℕ → ℝ) (x : ℝ) :
    ((x : ℝ) : EReal) + ∑ k : Fin K, ((r k.val : ℝ) : EReal) * ((s k.val : ℝ) : EReal)
      = ((x + ∑ k ∈ Finset.range K, r k * s k : ℝ) : EReal) := by
  rw [Finset.sum_range, EReal.coe_add, ← sum_coe]
  simp only [EReal.coe_mul]

theorem dot_nn :
    matmul (DotDims.plain M K N) prec (M2 f : FVec Ideal _ φ) (M2 g : FVec Ideal _ ψ) (M2 c)
      = M2 fun i j => c i j + ∑ k ∈ Finset.range K, f i k * g k j :=
  M2_ext fun i j => (Ideal.matmul_plain_apply prec _ _ _ i j).trans (lift_sum (f i.val) (fun k => g k j.val) (c i.val j.val))

theorem dot_nt :
    matmul (DotDims.transposedRhs M K N) prec (M2 f : FVec Ideal _ φ) (M2 g : FVec Ideal _ ψ) (M2 c)
      = M2 fun i j => c i j + ∑ k ∈ Finset.range K, f i k * g j k :=
  M2_ext fun i j => (Ideal.matmul_transposedRhs_apply prec _ _ _ i j).trans (lift_sum (f i.val) (g j.val) (c i.val j.val))

theorem tn_rank : (tn M K N).contr.rank = 1 := rfl

theorem tn_size : (tn M K N).contr.size ⟨0, by rw [tn_rank]; exact Nat.one_pos⟩ = K := rfl

theorem dot_tn :
    matmul (tn M K N) prec (M2 f : FVec Ideal _ φ) (M2 g : FVec Ideal _ ψ) (M2 c)
      = M2 fun i j => c i j + ∑ k ∈ Finset.range K, f k i * g k j := by
  refine M2_ext fun i j => ?_
  refine Eq.trans ?_ (lift_sum (fun k => f k i.val) (fun k => g k j.val) (c i.val j.val))
  show FloatOps.matmul _ _ _ _ _ _ = _
  rw [Ideal.matmul_apply, ← Equiv.sum_comp (contrEquiv1 _ K (tn_rank (M := M) (N := N)) tn_size).symm]
  refine congrArg (((c i.val j.val : ℝ) : EReal) + ·) (Finset.sum_congr rfl fun k _ => ?_)
  have hk := contrEquiv1_symm_val _ K (tn_rank (M := M) (N := N)) tn_size k
  refine congrArg₂ (· * ·) (congrArg (fun z : ℕ => ((f z i.val : ℝ) : EReal)) hk) (congrArg (fun z : ℕ => ((g z j.val : ℝ) : EReal)) hk)

end products

end Cert.Lift
-- ==== Proof.Tiles.lean ====
module

public import proofs.«01_k».proof.Proof.Lift
public import proofs.«01_k».proof.Proof.Gen.KernelIdeal.Frame.RunA

@[expose] public section

set_option maxRecDepth 16384

/-! Loads, masks and lane sums of the kernel, and the quantities of one chunk in real numbers. -/

noncomputable section

namespace Cert.Lift

open Idealize.ShloMosaic Idealize.ShloMosaic.ValueIdx Idealize.ShloMosaic.Tactic
open Cert.KernelIdeal Cert.KernelIdeal.Gen

theorem dot1 : dot_S64x64_S64x16_S64x16_1_0_0_1_n_n = DotDims.plain 64 64 16 := rfl
theorem dot2 : dot_S64x1024_S1024x16_S64x16_1_0_0_1_n_n = DotDims.plain 64 1024 16 := rfl
theorem dot3 : dot_S16x64_S64x64_S16x64_1_0_0_1_n_n = DotDims.plain 16 64 64 := rfl
theorem dot4 : dot_S64x16_S16x1024_S64x1024_1_0_0_1_n_n = DotDims.plain 64 16 1024 := rfl
theorem dot5 : dot_S64x128_S128x512_S64x512_1_0_0_1_n_n = DotDims.plain 64 128 512 := rfl
theorem dot6 : dot_S8x1024_S1024x16_S8x16_1_0_0_1_n_n = DotDims.plain 8 1024 16 := rfl
theorem dot7 : dot_S64x64_S64x128_S64x128_1_0_0_1_n_n = DotDims.plain 64 64 128 := rfl
theorem dot8 : dot_S64x128_S64x128_S64x64_1_1_0_0_n_n = DotDims.transposedRhs 64 128 64 := rfl
theorem dot9 : dot_S64x512_S128x512_S64x128_1_1_0_0_n_n = DotDims.transposedRhs 64 512 128 := rfl
theorem dot10 : dot_S64x64_S64x64_S64x64_1_1_0_0_n_n = DotDims.transposedRhs 64 64 64 := rfl
theorem dot11 : dot_S64x64_S64x64_S64x64_0_0_1_1_n_n = tn 64 64 64 := rfl
theorem dot12 : dot_S64x64_S64x128_S64x128_0_0_1_1_n_n = tn 64 64 128 := rfl
theorem dot13 : dot_S64x128_S64x512_S128x512_0_0_1_1_n_n = tn 128 64 512 := rfl

theorem tril_word : k0_pay10 = Mk fun i j => decide (j ≤ i) := by
  unfold k0_pay10
  dsimp only
  rw [iota_rows, iota_cols]
  exact cmpi_sle_Wd _ _ (fun i j _ _ => by omega) (fun i j _ _ => by omega)

theorem read2 {n m a b k l : ℕ} (X : ℕ → ℕ → ℝ)
    (h : ∀ x : Fin 2, (![a, b] : Fin 2 → ℕ) x + (![k, l] : Fin 2 → ℕ) x ≤ (![n, m] : Fin 2 → ℕ) x) :
    View.ld (Val := Elt Ideal) (e' := .f32) (M2 X : FVec Ideal (⟨2, ![n, m]⟩ : Shape) .f32) (Rect.unit ![a, b] ![k, l] h)
      = (M2 fun i j => X (a + i) (b + j) : FVec Ideal (⟨2, ![k, l]⟩ : Shape) .f32) := by
  rw [View.ld_unit]
  rfl

theorem read3 {n₀ n m a₀ a b k₀ k l : ℕ} (X : ℕ → ℕ → ℕ → ℝ)
    (h : ∀ x : Fin 3, (![a₀, a, b] : Fin 3 → ℕ) x + (![k₀, k, l] : Fin 3 → ℕ) x ≤ (![n₀, n, m] : Fin 3 → ℕ) x) :
    View.ld (Val := Elt Ideal) (e' := .f32) (M3 X : FVec Ideal (⟨3, ![n₀, n, m]⟩ : Shape) .f32) (Rect.unit ![a₀, a, b] ![k₀, k, l] h)
      = (M3 fun p i j => X (a₀ + p) (a + i) (b + j) : FVec Ideal (⟨3, ![k₀, k, l]⟩ : Shape) .f32) := by
  rw [View.ld_unit]
  rfl

theorem sum_cols32 {n m : ℕ} (f : ℕ → ℕ → ℝ) (h) (hφ) (hacc : (0#32 : BitVec 32) = 0#32) :
    multiReduction .add ([1] : List (Fin 2)) (⟨1, ![n]⟩ : Shape) (M2 f : FVec Ideal (⟨2, ![n, m]⟩ : Shape) .f32) 0#32 h hφ hacc
      = M1 fun i => ∑ j ∈ Finset.range m, f i j := sum_cols f _ h hφ hacc

theorem sum_rows32 {n m : ℕ} (f : ℕ → ℕ → ℝ) (h) (hφ) (hacc : (0#32 : BitVec 32) = 0#32) :
    multiReduction .add ([0] : List (Fin 2)) (⟨1, ![m]⟩ : Shape) (M2 f : FVec Ideal (⟨2, ![n, m]⟩ : Shape) .f32) 0#32 h hφ hacc
      = M1 fun j => ∑ i ∈ Finset.range n, f i j := sum_rows f _ h hφ hacc

theorem sum_range_8 (f : ℕ → ℝ) : ∑ h ∈ Finset.range 8, f h = f 0 + f 1 + f 2 + f 3 + f 4 + f 5 + f 6 + f 7 := by
  simp only [Finset.sum_range_succ, Finset.sum_range_zero, zero_add]

theorem sum_range_16 (f : ℕ → ℝ) : ∑ h ∈ Finset.range 16, f h
    = f 0 + f 1 + f 2 + f 3 + f 4 + f 5 + f 6 + f 7 + f 8 + f 9 + f 10 + f 11 + f 12 + f 13 + f 14 + f 15 := by
  simp only [Finset.sum_range_succ, Finset.sum_range_zero, zero_add]

theorem iota_rows2 {n m : ℕ} (κ : Kind) (h) :
    iota κ (⟨2, ![n, m]⟩ : Shape) 32 ([0] : List (Fin 2)) h = Wd fun i _ => i := iota_rows κ h

theorem iota_cols2 {n m : ℕ} (κ : Kind) (h) :
    iota κ (⟨2, ![n, m]⟩ : Shape) 32 ([1] : List (Fin 2)) h = Wd fun _ j => j := iota_cols κ h

/-- Whether a stored piece holds the entries of `G` at its place. -/
def Holds {n m : ℕ} (G : ℕ → ℕ → ℝ) (p : View.Piece (Elt Ideal) (⟨2, ![n, m]⟩ : Shape) .f32) : Prop :=
  ∀ x : p.1.shape.Idx, p.2 x = (M2 G : FVec Ideal (⟨2, ![n, m]⟩ : Shape) .f32) (p.1.emb x)

theorem holds_unit {n m a b k l : ℕ} {G : ℕ → ℕ → ℝ} (f : ℕ → ℕ → ℝ)
    {h : ∀ x : Fin 2, (![a, b] : Fin 2 → ℕ) x + (![k, l] : Fin 2 → ℕ) x ≤ (![n, m] : Fin 2 → ℕ) x}
    {w : FVec Ideal (⟨2, ![k, l]⟩ : Shape) .f32} (hw : w = M2 f) (hf : ∀ i j, i < k → j < l → f i j = G (a + i) (b + j)) :
    Holds (n := n) (m := m) G ⟨Rect.unit ![a, b] ![k, l] h, w⟩ := by
  subst hw
  intro x
  have e0 : ((Rect.unit (s := (⟨2, ![n, m]⟩ : Shape)) ![a, b] ![k, l] h).emb x 0).val = a + (x 0).val := by
    rw [Rect.emb_apply]; show a + 1 * (x 0).val = _; rw [Nat.one_mul]
  have e1 : ((Rect.unit (s := (⟨2, ![n, m]⟩ : Shape)) ![a, b] ![k, l] h).emb x 1).val = b + (x 1).val := by
    rw [Rect.emb_apply]; show b + 1 * (x 1).val = _; rw [Nat.one_mul]
  show ((f (x 0).val (x 1).val : ℝ) : EReal) = ((G _ _ : ℝ) : EReal)
  rw [e0, e1, hf _ _ (x 0).isLt (x 1).isLt]

theorem canon_holds {n m : ℕ} {L : List (View.Piece (Elt Ideal) (⟨2, ![n, m]⟩ : Shape) .f32)} (G : ℕ → ℕ → ℝ)
    (hc : ∀ y, ∃ p ∈ L, y ∈ p.1.set) (hp : ∀ p ∈ L, Holds G p) :
    View.canon L = (M2 G : FVec Ideal (⟨2, ![n, m]⟩ : Shape) .f32) :=
  funext fun y => View.canon_apply_of_pieces _ L hp y (hc y)

theorem load_holds {sig : RefSig} {κ : Kind} {sp : Space} {n m : ℕ} {v : View sig κ sp (⟨2, ![n, m]⟩ : Shape) .f32}
    {L : List (View.Piece (Elt Ideal) (⟨2, ![n, m]⟩ : Shape) .f32)} (G : ℕ → ℕ → ℝ)
    {h : ∀ x : Fin 2, (![0, 0] : Fin 2 → ℕ) x + (![n, m] : Fin 2 → ℕ) x ≤ (![n, m] : Fin 2 → ℕ) x}
    (hc : ∀ y, ∃ p ∈ L, y ∈ p.1.set) (hp : ∀ p ∈ L, Holds G p) :
    v.readCov L (Rect.unit ![0, 0] ![n, m] h).toLoadRect = (M2 G : FVec Ideal (⟨2, ![n, m]⟩ : Shape) .f32) := by
  rw [View.readCov_eq_canon_ld _ _ _ hc, canon_holds G hc hp, read2]
  simp only [zero_add]

theorem canon_holds_first {n m : ℕ} {P R : List (View.Piece (Elt Ideal) (⟨2, ![n, m]⟩ : Shape) .f32)} (G : ℕ → ℕ → ℝ)
    (hc : ∀ y, ∃ p ∈ P, y ∈ p.1.set) (hp : ∀ p ∈ P, Holds G p) :
    View.canon (P ++ R) = (M2 G : FVec Ideal (⟨2, ![n, m]⟩ : Shape) .f32) := by
  funext y
  have h := hc y
  clear hc
  induction P with
  | nil => obtain ⟨p, hm, _⟩ := h; exact absurd hm List.not_mem_nil
  | cons p P ih =>
    by_cases hy : y ∈ p.1.set
    · obtain ⟨x, rfl⟩ := p.1.exists_idx_of_mem hy
      exact (View.canon_cons_emb p.1 p.2 (P ++ R) x).trans (hp p (List.mem_cons_self ..) x)
    · refine (View.canon_cons_of_not_mem p (P ++ R) hy).trans (ih (fun q hq => hp q (List.mem_cons_of_mem _ hq)) ?_)
      obtain ⟨q, hm, hq⟩ := h
      rcases List.mem_cons.mp hm with rfl | hm
      · exact absurd hq hy
      · exact ⟨q, hm, hq⟩

theorem M3_congr {φ : FTy} {k n m : ℕ} {f g : ℕ → ℕ → ℕ → ℝ} (h : ∀ p i j, p < k → i < n → j < m → f p i j = g p i j) :
    (M3 f : FVec Ideal (⟨3, ![k, n, m]⟩ : Shape) φ) = M3 g := by
  funext i
  exact congrArg _ (h _ _ _ (i 0).isLt (i 1).isLt (i 2).isLt)

theorem mask_col (c : ℕ) (hc : c < 2 ^ 31) :
    cmpi .eq (Wd fun _ j => j : IVec (⟨2, ![64, 16]⟩ : Shape) 32) (Wd fun _ _ => c) = Mk fun _ j => decide (j = c) :=
  cmpi_eq_Wd _ _ (fun i j _ _ => by omega) (fun i j _ _ => hc)

theorem mask_row {n m : ℕ} (hn : n < 2 ^ 31) (c : ℕ) (hc : c < 2 ^ 31) :
    cmpi .eq (Wd fun i _ => i : IVec (⟨2, ![n, m]⟩ : Shape) 32) (Wd fun _ _ => c) = Mk fun i _ => decide (i = c) :=
  cmpi_eq_Wd _ _ (fun i j _ _ => by omega) (fun i j _ _ => hc)

theorem triu_word : k0_pay11 = (M2 fun i j => if i ≤ j then 1 else 0 : FVec Ideal S64x64 .bf16) := by
  unfold k0_pay11
  dsimp only
  rw [iota_rows, iota_cols, cmpi_sle_Wd _ _ (fun i j _ _ => by omega) (fun i j _ _ => by omega), sitofp_Mk, truncf_M2]
  simp only [decide_eq_true_eq, Nat.reducePow]

theorem lanes_word : k0_pay12 = (M2 fun i j => if j / 64 = i then 1 else 0 : FVec Ideal S16x1024 .bf16) := by
  unfold k0_pay12
  dsimp only
  rw [iota_rows, iota_cols, broadcast_word, shrui_Wd _ _ (by decide) (fun i j _ _ => by omega),
    cmpi_eq_Wd _ _ (fun i j _ _ => by omega) (fun i j _ _ => by omega), sitofp_Mk, truncf_M2]
  simp only [decide_eq_true_eq, Nat.reducePow]

theorem lanes_word_t : k0_pay20 = (M2 fun i j => if i / 64 = j then 1 else 0 : FVec Ideal S1024x16 .bf16) := by
  unfold k0_pay20
  dsimp only
  rw [iota_rows, iota_cols, broadcast_word, shrui_Wd _ _ (by decide) (fun i j _ _ => by omega),
    cmpi_eq_Wd _ _ (fun i j _ _ => by omega) (fun i j _ _ => by omega), sitofp_Mk, truncf_M2]
  simp only [decide_eq_true_eq, Nat.reducePow]

abbrev I0 (X : ℕ → ℕ → ℝ) : Vec Ideal S64x1536 .f32 := (M2 X : FVec Ideal S64x1536 .f32)
abbrev I1 (T : ℕ → ℕ → ℝ) : Vec Ideal S1x64x16 .f32 := (M3 fun _ t h => T t h : FVec Ideal S1x64x16 .f32)
abbrev I2 (T : ℕ → ℕ → ℝ) : Vec Ideal S1x16x64 .f32 := (M3 fun _ h t => T t h : FVec Ideal S1x16x64 .f32)
abbrev I3 (A : ℕ → ℝ) : Vec Ideal S1x16 .f32 := (M2 fun _ h => A h : FVec Ideal S1x16 .f32)
abbrev I4 (A : ℕ → ℝ) : Vec Ideal S16x1 .f32 := (M2 fun h _ => A h : FVec Ideal S16x1 .f32)
abbrev I5 (D : ℕ → ℝ) : Vec Ideal S1x1024 .f32 := (M2 fun _ j => D j : FVec Ideal S1x1024 .f32)
abbrev I6 (S : ℕ → ℕ → ℝ) : Vec Ideal S1x256x512 .f32 := (M3 fun _ n q => S n q : FVec Ideal S1x256x512 .f32)
abbrev I7 (Y : ℕ → ℕ → ℝ) : Vec Ideal S64x1024 .f32 := (M2 Y : FVec Ideal S64x1024 .f32)

theorem pick_lane (f : ℕ → ℝ) (j : ℕ) (hj : j < 1024) :
    ∑ h ∈ Finset.range 16, f h * (if j / 64 = h then 1 else 0) = f (j / 64) := by
  simp only [mul_ite, mul_one, mul_zero]
  rw [Finset.sum_ite_eq, if_pos (Finset.mem_range.mpr (by omega))]

theorem fold_lanes (f : ℕ → ℝ) (h : ℕ) (hh : h < 16) :
    ∑ j ∈ Finset.range 1024, f j * (if j / 64 = h then 1 else 0) = ∑ p ∈ Finset.range 64, f (64 * h + p) := by
  simp only [mul_ite, mul_one, mul_zero]
  rw [← Finset.sum_filter]
  refine Finset.sum_nbij' (fun j => j - 64 * h) (fun p => 64 * h + p) ?_ ?_ ?_ ?_ ?_ <;>
    simp only [Finset.mem_filter, Finset.mem_range]
  · intro j hj; omega
  · intro p hp; omega
  · intro j hj; omega
  · intro p hp; omega
  · intro j hj; congr 1; omega

theorem run_up (f : ℕ → ℝ) (i : ℕ) (hi : i < 64) :
    ∑ k ∈ Finset.range 64, (if k ≤ i then 1 else 0) * f k = ∑ k ∈ Finset.range (i + 1), f k := by
  simp only [ite_mul, one_mul, zero_mul]
  rw [← Finset.sum_filter]
  refine Finset.sum_congr (Finset.ext fun k => ?_) fun _ _ => rfl
  simp only [Finset.mem_filter, Finset.mem_range]
  omega

theorem run_down (f : ℕ → ℝ) (i : ℕ) :
    ∑ k ∈ Finset.range 64, (if i ≤ k then 1 else 0) * f k = ∑ k ∈ Finset.Ico i 64, f k := by
  simp only [ite_mul, one_mul, zero_mul]
  rw [← Finset.sum_filter]
  refine Finset.sum_congr (Finset.ext fun k => ?_) fun _ _ => rfl
  simp only [Finset.mem_filter, Finset.mem_range, Finset.mem_Ico]
  omega

/-- The running log decay of a chunk at row `t`, for head `h`. -/
def ac (T : ℕ → ℕ → ℝ) (A : ℕ → ℝ) (t h : ℕ) : ℝ := ∑ k ∈ Finset.range (t + 1), T k h * A h

/-- The product of row `t`'s read vector with row `s`'s write vector, in state group `g`. -/
def cb (X : ℕ → ℕ → ℝ) (g t s : ℕ) : ℝ := ∑ n ∈ Finset.range 128, X t (1280 + 128 * g + n) * X s (1024 + 128 * g + n)

/-- The decay from row `s` to row `t` of one chunk, for head `h`. -/
def dec (T : ℕ → ℕ → ℝ) (A : ℕ → ℝ) (h t s : ℕ) : ℝ :=
  if s ≤ t then Real.exp (min (ac T A t ((64 * h + s) / 64) - ac T A s h) 0) else 0

/-- The product of row `t`'s output gradient with row `s`'s scaled input, over one head's lanes. -/
def tt (X T Y : ℕ → ℕ → ℝ) (h t s : ℕ) : ℝ :=
  ∑ p ∈ Finset.range 64, Y t (64 * h + p) * (X s (64 * h + p) * T s ((64 * h + p) / 64))

theorem dec_lane (T : ℕ → ℕ → ℝ) (A : ℕ → ℝ) (h t s : ℕ) (hs : s < 64) :
    dec T A h t s = if s ≤ t then Real.exp (min (ac T A t h - ac T A s h) 0) else 0 := by
  rw [dec, show (64 * h + s) / 64 = h by omega]

theorem tt_lane (X T Y : ℕ → ℕ → ℝ) (h t s : ℕ) :
    tt X T Y h t s = ∑ p ∈ Finset.range 64, Y t (64 * h + p) * (X s (64 * h + p) * T s h) :=
  Finset.sum_congr rfl fun p hp => by
    rw [show (64 * h + p) / 64 = h by have := Finset.mem_range.mp hp; omega]

/-- One pair's share in the gradient of the log decay, for head `h`. -/
def tm (X T Y : ℕ → ℕ → ℝ) (A : ℕ → ℝ) (h t s : ℕ) : ℝ := cb X (h / 8) t s * dec T A h t s * tt X T Y h t s

end Cert.Lift
-- ==== Proof.Words.lean ====
module

public import proofs.«01_k».proof.Proof.Tiles
public import proofs.«01_k».proof.Proof.Gen.KernelIdeal.Frame.RunA

@[expose] public section

set_option maxRecDepth 16384

/-! What the kernel's words hold in the first chunk it visits, in real numbers. -/

noncomputable section

namespace Cert.Lift

open Idealize.ShloMosaic Idealize.ShloMosaic.ValueIdx Idealize.ShloMosaic.Tactic
open Cert.KernelIdeal Cert.KernelIdeal.Gen

variable (c : Dev nD) (i : grid0.Coords)
  (arg1 : Memref sig .tc .vmem S64x1536 .f32) (harg1 : arg1.IsWhole)
  (arg2 : Memref sig .tc .vmem S1x64x16 .f32) (harg2 : arg2.IsWhole)
  (arg3 : Memref sig .tc .vmem S1x16x64 .f32) (harg3 : arg3.IsWhole)
  (arg4 : Memref sig .tc .vmem S1x16 .f32) (harg4 : arg4.IsWhole)
  (arg5 : Memref sig .tc .vmem S16x1 .f32) (harg5 : arg5.IsWhole)
  (arg6 : Memref sig .tc .vmem S1x1024 .f32) (harg6 : arg6.IsWhole)
  (arg7 : Memref sig .tc .vmem S1x256x512 .f32) (harg7 : arg7.IsWhole)
  (arg8 : Memref sig .tc .vmem S64x1024 .f32) (harg8 : arg8.IsWhole)
  (arg9 : Memref sig .tc .vmem S64x1536 .f32) (harg9 : arg9.IsWhole)
  (arg10 : Memref sig .tc .vmem S1x64x16 .f32) (harg10 : arg10.IsWhole)
  (arg11 : Memref sig .tc .vmem S1x16x64 .f32) (harg11 : arg11.IsWhole)
  (arg12 : Memref sig .tc .vmem S1x16 .f32) (harg12 : arg12.IsWhole)
  (arg13 : Memref sig .tc .vmem S16x1 .f32) (harg13 : arg13.IsWhole)
  (arg14 : Memref sig .tc .vmem S1x1024 .f32) (harg14 : arg14.IsWhole)
  (arg15 : Memref sig .tc .vmem S256x512 .f32) (harg15 : arg15.IsWhole)
  (arg16 : Memref sig .tc .vmem S64x1024 .f32) (harg16 : arg16.IsWhole)
  (arg17 : Memref sig .tc .vmem S64x1024 .f32) (harg17 : arg17.IsWhole)
  (arg18 : Memref sig .tc .vmem S64x1024 .f32) (harg18 : arg18.IsWhole)
  (arg19 : Memref sig .tc .vmem S8x1024 .f32) (harg19 : arg19.IsWhole)
  (X T Y S : ℕ → ℕ → ℝ) (A D : ℕ → ℝ)

/-- The step sizes of the chunk. -/
theorem r_val :
    kernelRun0_A.sl.r (F := Ideal) c arg2 harg2 (I1 T)
      = (M2 fun t h => T t h : FVec Ideal S64x16 .f32) := by
  simp (decide := true) only [
    kernelRun0_A.sl.r, k0_pay6,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The same, one row per head. -/
theorem r_1_val :
    kernelRun0_A.sl.r_1 (F := Ideal) c arg3 harg3 (I2 T)
      = (M2 fun h t => T t h : FVec Ideal S16x64 .f32) := by
  simp (decide := true) only [
    kernelRun0_A.sl.r_1, k0_pay7,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The rates. -/
theorem r_2_val :
    kernelRun0_A.sl.r_2 (F := Ideal) c arg4 harg4 (I3 A)
      = (M2 fun _ h => A h : FVec Ideal S1x16 .f32) := by
  simp (decide := true) only [
    kernelRun0_A.sl.r_2, k0_pay8,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The rates, one row per head. -/
theorem r_3_val :
    kernelRun0_A.sl.r_3 (F := Ideal) c arg5 harg5 (I4 A)
      = (M2 fun h _ => A h : FVec Ideal S16x1 .f32) := by
  simp (decide := true) only [
    kernelRun0_A.sl.r_3, k0_pay9,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The running log decay. -/
theorem r_4_val :
    kernelRun0_A.sl.r_4 (F := Ideal) c arg2 harg2 arg4 harg4 (I1 T) (I3 A)
      = (M2 fun t h => ac T A t h : FVec Ideal S64x16 .f32) := by
  simp (decide := true) only [
    kernelRun0_A.sl.r_4, k0_pay13, k0_pay8, k0_pay6,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    tril_word, Matrix.cons_val_zero, Matrix.cons_val_one, Matrix.cons_val, zero_add, add_zero, sub_zero, sub_self, mul_zero, zero_mul,
    Finset.sum_const_zero, decide_eq_true_eq]
  exact M2_congr fun t h ht hh => run_up (fun k => T k h * A h) t ht

/-- The running log decay, one row per head. -/
theorem r_7_val :
    kernelRun0_A.sl.r_7 (F := Ideal) c arg3 harg3 arg5 harg5 (I2 T) (I4 A)
      = (M2 fun h t => ac T A t h : FVec Ideal S16x64 .f32) := by
  simp (decide := true) only [
    kernelRun0_A.sl.r_7, kernelRun0_A.sl.r_5, kernelRun0_A.sl.r_6, k0_pay17, k0_pay15, k0_pay14, k0_pay9, k0_pay7, k0_pay16,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    triu_word, Matrix.cons_val_zero, Matrix.cons_val_one, Matrix.cons_val, zero_add, add_zero, sub_zero, sub_self, mul_zero, zero_mul,
    Finset.sum_const_zero, decide_eq_true_eq]
  refine M2_congr fun h t hh ht => ?_
  simp only [mul_comm _ (if _ then (1 : ℝ) else 0)]
  exact run_up (fun k => T k h * A h) t ht

/-- The running log decay at every lane. -/
theorem r_8_val :
    kernelRun0_A.sl.r_8 (F := Ideal) c arg2 harg2 arg4 harg4 (I1 T) (I3 A)
      = (M2 fun t j => ac T A t (j / 64) : FVec Ideal S64x1024 .f32) := by
  simp (decide := true) only [
    kernelRun0_A.sl.r_8, k0_pay18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_4_val, lanes_word, Matrix.cons_val_zero, Matrix.cons_val_one, Matrix.cons_val, zero_add, add_zero, sub_zero, sub_self, mul_zero, zero_mul,
    Finset.sum_const_zero, decide_eq_true_eq]
  exact M2_congr fun t j ht hj => pick_lane (fun h => ac T A t h) j hj

/-- The step sizes at every lane. -/
theorem r_9_val :
    kernelRun0_A.sl.r_9 (F := Ideal) c arg2 harg2 (I1 T)
      = (M2 fun t j => T t (j / 64) : FVec Ideal S64x1024 .f32) := by
  simp (decide := true) only [
    kernelRun0_A.sl.r_9, k0_pay19,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_val, lanes_word, Matrix.cons_val_zero, Matrix.cons_val_one, Matrix.cons_val, zero_add, add_zero, sub_zero, sub_self, mul_zero, zero_mul,
    Finset.sum_const_zero, decide_eq_true_eq]
  exact M2_congr fun t j ht hj => pick_lane (fun h => T t h) j hj

/-- The input rows. -/
theorem r_10_val :
    kernelRun0_A.sl.r_10 (F := Ideal) c arg1 harg1 (I0 X)
      = (M2 fun t j => X t j : FVec Ideal S64x1024 .f32) := by
  simp (decide := true) only [
    kernelRun0_A.sl.r_10,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The output gradient. -/
theorem r_11_val :
    kernelRun0_A.sl.r_11 (F := Ideal) c arg8 harg8 (I7 Y)
      = (M2 fun t j => Y t j : FVec Ideal S64x1024 .f32) := by
  simp (decide := true) only [
    kernelRun0_A.sl.r_11,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The scaled input rows. -/
theorem r_12_val :
    kernelRun0_A.sl.r_12 (F := Ideal) c arg1 harg1 arg2 harg2 (I0 X) (I1 T)
      = (M2 fun t j => X t j * T t (j / 64) : FVec Ideal S64x1024 .f32) := by
  simp (decide := true) only [
    kernelRun0_A.sl.r_12, k0_pay21, k0_pay19,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_val, lanes_word, Matrix.cons_val_zero, Matrix.cons_val_one, Matrix.cons_val, zero_add, add_zero, sub_zero, sub_self, mul_zero, zero_mul,
    Finset.sum_const_zero, decide_eq_true_eq]
  refine M2_congr fun t j ht hj => ?_
  simp only [pick_lane _ j hj, add_zero]

/-- The decay from the start of the chunk. -/
theorem r_13_val :
    kernelRun0_A.sl.r_13 (F := Ideal) c arg2 harg2 arg4 harg4 (I1 T) (I3 A)
      = (M2 fun t j => Real.exp (ac T A t (j / 64)) : FVec Ideal S64x1024 .f32) := by
  simp (decide := true) only [
    kernelRun0_A.sl.r_13, k0_pay22, k0_pay18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_4_val, lanes_word, Matrix.cons_val_zero, Matrix.cons_val_one, Matrix.cons_val, zero_add, add_zero, sub_zero, sub_self, mul_zero, zero_mul,
    Finset.sum_const_zero, decide_eq_true_eq]
  refine M2_congr fun t j ht hj => ?_
  simp only [pick_lane _ j hj, add_zero]

/-- The decay to the end of the chunk. -/
theorem r_14_val :
    kernelRun0_A.sl.r_14 (F := Ideal) c arg2 harg2 arg4 harg4 (I1 T) (I3 A)
      = (M2 fun t j => Real.exp (ac T A 63 (j / 64) - ac T A t (j / 64)) : FVec Ideal S64x1024 .f32) := by
  simp (decide := true) only [
    kernelRun0_A.sl.r_14, k0_pay24, k0_pay23, k0_pay18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_4_val, lanes_word, Matrix.cons_val_zero, Matrix.cons_val_one, Matrix.cons_val, zero_add, add_zero, sub_zero, sub_self, mul_zero, zero_mul,
    Finset.sum_const_zero, decide_eq_true_eq]
  refine M2_congr fun t j ht hj => ?_
  simp only [pick_lane _ j hj, add_zero]

/-- The decay over the whole chunk. -/
theorem r_15_val :
    kernelRun0_A.sl.r_15 (F := Ideal) c arg2 harg2 arg4 harg4 (I1 T) (I3 A)
      = (M2 fun _ j => Real.exp (ac T A 63 (j / 64)) : FVec Ideal S1x1024 .f32) := by
  simp (decide := true) only [
    kernelRun0_A.sl.r_15, k0_pay25, k0_pay23, k0_pay18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_4_val, lanes_word, Matrix.cons_val_zero, Matrix.cons_val_one, Matrix.cons_val, zero_add, add_zero, sub_zero, sub_self, mul_zero, zero_mul,
    Finset.sum_const_zero, decide_eq_true_eq]
  refine M2_congr fun t j ht hj => ?_
  obtain rfl : t = 0 := by omega
  simp only [pick_lane _ j hj, add_zero]

/-- The scaled input rows as they enter the next state. -/
theorem r_16_val :
    kernelRun0_A.sl.r_16 (F := Ideal) c arg1 harg1 arg2 harg2 arg4 harg4 (I0 X) (I1 T) (I3 A)
      = (M2 fun t j => X t j * T t (j / 64) * Real.exp (ac T A 63 (j / 64) - ac T A t (j / 64)) : FVec Ideal S64x1024 .f32) := by
  simp (decide := true) only [
    kernelRun0_A.sl.r_16, k0_pay26, k0_pay21, k0_pay19, k0_pay24, k0_pay23, k0_pay18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_val, r_4_val, lanes_word, Matrix.cons_val_zero, Matrix.cons_val_one, Matrix.cons_val, zero_add, add_zero, sub_zero, sub_self, mul_zero,
    zero_mul, Finset.sum_const_zero, decide_eq_true_eq]
  refine M2_congr fun t j ht hj => ?_
  simp only [pick_lane _ j hj, add_zero]

/-- The decayed output gradient. -/
theorem r_17_val :
    kernelRun0_A.sl.r_17 (F := Ideal) c arg2 harg2 arg4 harg4 arg8 harg8 (I1 T) (I3 A) (I7 Y)
      = (M2 fun t j => Real.exp (ac T A t (j / 64)) * Y t j : FVec Ideal S64x1024 .f32) := by
  simp (decide := true) only [
    kernelRun0_A.sl.r_17, k0_pay27, k0_pay22, k0_pay18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_4_val, lanes_word, Matrix.cons_val_zero, Matrix.cons_val_one, Matrix.cons_val, zero_add, add_zero, sub_zero, sub_self, mul_zero, zero_mul,
    Finset.sum_const_zero, decide_eq_true_eq]
  refine M2_congr fun t j ht hj => ?_
  simp only [pick_lane _ j hj, add_zero]

/-- The write vectors of group 0. -/
theorem r_18_val :
    kernelRun0_A.sl.r_18 (F := Ideal) c arg1 harg1 (I0 X)
      = (M2 fun t n => X t (1024 + n) : FVec Ideal S64x128 .f32) := by
  simp (decide := true) only [
    kernelRun0_A.sl.r_18,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The read vectors of group 0. -/
theorem r_19_val :
    kernelRun0_A.sl.r_19 (F := Ideal) c arg1 harg1 (I0 X)
      = (M2 fun t n => X t (1280 + n) : FVec Ideal S64x128 .f32) := by
  simp (decide := true) only [
    kernelRun0_A.sl.r_19,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The write vectors of group 1. -/
theorem r_64_val :
    kernelRun0_A.sl.r_64 (F := Ideal) c arg1 harg1 (I0 X)
      = (M2 fun t n => X t (1152 + n) : FVec Ideal S64x128 .f32) := by
  simp (decide := true) only [
    kernelRun0_A.sl.r_64,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The read vectors of group 1. -/
theorem r_65_val :
    kernelRun0_A.sl.r_65 (F := Ideal) c arg1 harg1 (I0 X)
      = (M2 fun t n => X t (1408 + n) : FVec Ideal S64x128 .f32) := by
  simp (decide := true) only [
    kernelRun0_A.sl.r_65,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The state of group 0. -/
theorem r_20_val :
    kernelRun0_A.sl.r_20 (F := Ideal) c arg7 harg7 (I6 S)
      = (M2 fun n q => S n q : FVec Ideal S128x512 .f32) := by
  simp (decide := true) only [
    kernelRun0_A.sl.r_20, k0_pay30,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The state of group 1. -/
theorem r_66_val :
    kernelRun0_A.sl.r_66 (F := Ideal) c arg7 harg7 (I6 S)
      = (M2 fun n q => S (128 + n) q : FVec Ideal S128x512 .f32) := by
  simp (decide := true) only [
    kernelRun0_A.sl.r_66, k0_pay110,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]

/-- The read vectors against the write vectors, group 0. -/
theorem r_21_val :
    kernelRun0_A.sl.r_21 (F := Ideal) c arg1 harg1 (I0 X)
      = (M2 fun t s => cb X 0 t s : FVec Ideal S64x64 .f32) := by
  simp (decide := true) only [
    kernelRun0_A.sl.r_21, k0_pay31,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_18_val, r_19_val, Matrix.cons_val_zero, Matrix.cons_val_one, Matrix.cons_val, zero_add, add_zero, sub_zero, sub_self, mul_zero, zero_mul,
    Finset.sum_const_zero, decide_eq_true_eq]
  rfl

/-- The read vectors against the write vectors, group 1. -/
theorem r_67_val :
    kernelRun0_A.sl.r_67 (F := Ideal) c arg1 harg1 (I0 X)
      = (M2 fun t s => cb X 1 t s : FVec Ideal S64x64 .f32) := by
  simp (decide := true) only [
    kernelRun0_A.sl.r_67, k0_pay111,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    Matrix.cons_val_zero, Matrix.cons_val_one, Matrix.cons_val, zero_add, add_zero, sub_zero, sub_self, mul_zero, zero_mul, Finset.sum_const_zero,
    decide_eq_true_eq]
  rfl

end Cert.Lift
-- ==== Proof.Heads.lean ====
module

public import proofs.«01_k».proof.Proof.Words

@[expose] public section

set_option maxRecDepth 16384

/-! What the kernel's loop over the heads leaves in one chunk, in real numbers. -/

noncomputable section

namespace Cert.Lift

open Idealize.ShloMosaic Idealize.ShloMosaic.ValueIdx Idealize.ShloMosaic.Tactic
open Cert.KernelIdeal Cert.KernelIdeal.Gen

variable (c : Dev nD) (i : grid0.Coords)
  (arg1 : Memref sig .tc .vmem S64x1536 .f32) (harg1 : arg1.IsWhole)
  (arg2 : Memref sig .tc .vmem S1x64x16 .f32) (harg2 : arg2.IsWhole)
  (arg3 : Memref sig .tc .vmem S1x16x64 .f32) (harg3 : arg3.IsWhole)
  (arg4 : Memref sig .tc .vmem S1x16 .f32) (harg4 : arg4.IsWhole)
  (arg5 : Memref sig .tc .vmem S16x1 .f32) (harg5 : arg5.IsWhole)
  (arg6 : Memref sig .tc .vmem S1x1024 .f32) (harg6 : arg6.IsWhole)
  (arg7 : Memref sig .tc .vmem S1x256x512 .f32) (harg7 : arg7.IsWhole)
  (arg8 : Memref sig .tc .vmem S64x1024 .f32) (harg8 : arg8.IsWhole)
  (arg9 : Memref sig .tc .vmem S64x1536 .f32) (harg9 : arg9.IsWhole)
  (arg10 : Memref sig .tc .vmem S1x64x16 .f32) (harg10 : arg10.IsWhole)
  (arg11 : Memref sig .tc .vmem S1x16x64 .f32) (harg11 : arg11.IsWhole)
  (arg12 : Memref sig .tc .vmem S1x16 .f32) (harg12 : arg12.IsWhole)
  (arg13 : Memref sig .tc .vmem S16x1 .f32) (harg13 : arg13.IsWhole)
  (arg14 : Memref sig .tc .vmem S1x1024 .f32) (harg14 : arg14.IsWhole)
  (arg15 : Memref sig .tc .vmem S256x512 .f32) (harg15 : arg15.IsWhole)
  (arg16 : Memref sig .tc .vmem S64x1024 .f32) (harg16 : arg16.IsWhole)
  (arg17 : Memref sig .tc .vmem S64x1024 .f32) (harg17 : arg17.IsWhole)
  (arg18 : Memref sig .tc .vmem S64x1024 .f32) (harg18 : arg18.IsWhole)
  (arg19 : Memref sig .tc .vmem S8x1024 .f32) (harg19 : arg19.IsWhole)
  (X T Y S : ℕ → ℕ → ℝ) (A D : ℕ → ℝ)

/-- Head 0's decayed products. -/
theorem r_23_val :
    kernelRun0_A.sl.r_23 (F := Ideal) c arg1 harg1 arg2 harg2 arg3 harg3 arg4 harg4 arg5 harg5 (I0 X) (I1 T) (I2 T) (I3 A) (I4 A)
      = (M2 fun t s => cb X 0 t s * dec T A 0 t s : FVec Ideal S64x64 .f32) := by
  simp (decide := true) only [
    kernelRun0_A.sl.r_23, k0_pay37, k0_pay31, k0_pay36,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_7_val, r_8_val, r_18_val, r_19_val, tril_word, Matrix.cons_val_zero, Matrix.cons_val_one, Matrix.cons_val, zero_add, add_zero, sub_zero,
    sub_self, mul_zero, zero_mul, Finset.sum_const_zero, decide_eq_true_eq]
  simp only [cb, dec, Nat.mul_zero, zero_add, add_zero]

/-- The gradient of group 0's products of read and write vectors. -/
theorem r_60_val :
    kernelRun0_A.sl.r_60 (F := Ideal) c arg1 harg1 arg2 harg2 arg3 harg3 arg4 harg4 arg5 harg5 arg8 harg8 (I0 X) (I1 T) (I2 T) (I3 A) (I4 A) (I7 Y)
      = (M2 fun t s => ∑ h ∈ Finset.range 8, dec T A h t s * tt X T Y h t s : FVec Ideal S64x64 .f32) := by
  simp (decide := true) only [
    kernelRun0_A.sl.r_60, kernelRun0_A.sl.r_55, kernelRun0_A.sl.r_50, kernelRun0_A.sl.r_44, kernelRun0_A.sl.r_39, kernelRun0_A.sl.r_35,
    kernelRun0_A.sl.r_24, kernelRun0_A.sl.r_22, kernelRun0_A.sl.r_27, kernelRun0_A.sl.r_29, kernelRun0_A.sl.r_30, k0_pay100, k0_pay97, k0_pay99,
    k0_pay91, k0_pay88, k0_pay90, k0_pay83, k0_pay80, k0_pay82, k0_pay73, k0_pay70, k0_pay72, k0_pay64, k0_pay61, k0_pay63, k0_pay56, k0_pay48,
    k0_pay53, k0_pay55, k0_pay39, k0_pay38, k0_pay35, k0_pay36, k0_pay44, k0_pay46, k0_pay47,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_23_val, r_7_val, r_8_val, r_12_val, r_11_val, r_21_val, r_67_val, tril_word, Matrix.cons_val_zero, Matrix.cons_val_one, Matrix.cons_val,
    zero_add, add_zero, sub_zero, sub_self, mul_zero, zero_mul, Finset.sum_const_zero, decide_eq_true_eq]
  simp only [sum_range_8, sum_range_16, Nat.reduceMul, Nat.reduceAdd, Nat.reduceDiv, zero_add, dec, tt, tm]

/-- The gradient of group 1's products of read and write vectors. -/
theorem r_105_val :
    kernelRun0_A.sl.r_105 (F := Ideal) c arg1 harg1 arg2 harg2 arg3 harg3 arg4 harg4 arg5 harg5 arg8 harg8 (I0 X) (I1 T) (I2 T) (I3 A) (I4 A) (I7 Y)
      = (M2 fun t s => ∑ h ∈ Finset.range 8, dec T A (8 + h) t s * tt X T Y (8 + h) t s : FVec Ideal S64x64 .f32) := by
  simp (decide := true) only [
    kernelRun0_A.sl.r_105, kernelRun0_A.sl.r_100, kernelRun0_A.sl.r_94, kernelRun0_A.sl.r_89, kernelRun0_A.sl.r_80, kernelRun0_A.sl.r_73,
    kernelRun0_A.sl.r_69, kernelRun0_A.sl.r_68, kernelRun0_A.sl.r_72, kernelRun0_A.sl.r_76, kernelRun0_A.sl.r_78, kernelRun0_A.sl.r_79,
    kernelRun0_A.sl.r_85, k0_pay183, k0_pay180, k0_pay182, k0_pay173, k0_pay170, k0_pay172, k0_pay163, k0_pay160, k0_pay162, k0_pay154, k0_pay151,
    k0_pay153, k0_pay138, k0_pay137, k0_pay128, k0_pay127, k0_pay120, k0_pay117, k0_pay119, k0_pay115, k0_pay116, k0_pay125, k0_pay133, k0_pay135,
    k0_pay136, k0_pay146, k0_pay143, k0_pay145,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_23_val, r_7_val, r_8_val, r_12_val, r_11_val, r_21_val, r_67_val, tril_word, Matrix.cons_val_zero, Matrix.cons_val_one, Matrix.cons_val,
    zero_add, add_zero, sub_zero, sub_self, mul_zero, zero_mul, Finset.sum_const_zero, decide_eq_true_eq]
  simp only [sum_range_8, sum_range_16, Nat.reduceMul, Nat.reduceAdd, Nat.reduceDiv, zero_add, dec, tt, tm]

/-- The sums over the earlier row of a pair, one column per head. -/
theorem r_107_val :
    kernelRun0_A.sl.r_107 (F := Ideal) c arg1 harg1 arg2 harg2 arg3 harg3 arg4 harg4 arg5 harg5 arg8 harg8 (I0 X) (I1 T) (I2 T) (I3 A) (I4 A) (I7 Y)
      = (M2 fun t j => ∑ h ∈ Finset.range 16, if j = h then ∑ s ∈ Finset.range 64, tm X T Y A h t s else 0 : FVec Ideal S64x16 .f32) := by
  simp (decide := true) only [
    kernelRun0_A.sl.r_107, kernelRun0_A.sl.v80, kernelRun0_A.sl.r_97, kernelRun0_A.sl.r_91, kernelRun0_A.sl.r_86, kernelRun0_A.sl.r_81,
    kernelRun0_A.sl.r_74, kernelRun0_A.sl.r_70, kernelRun0_A.sl.r_61, kernelRun0_A.sl.r_57, kernelRun0_A.sl.r_47, kernelRun0_A.sl.r_41,
    kernelRun0_A.sl.r_36, kernelRun0_A.sl.r_31, kernelRun0_A.sl.r_25, kernelRun0_A.sl.r_28, kernelRun0_A.sl.r_29, kernelRun0_A.sl.r_30,
    kernelRun0_A.sl.r_33, kernelRun0_A.sl.r_34, kernelRun0_A.sl.r_40, kernelRun0_A.sl.r_46, kernelRun0_A.sl.cst_88, kernelRun0_A.sl.r_52,
    kernelRun0_A.sl.r_68, kernelRun0_A.sl.r_72, kernelRun0_A.sl.r_77, kernelRun0_A.sl.r_78, kernelRun0_A.sl.r_79, kernelRun0_A.sl.r_83,
    kernelRun0_A.sl.r_84, kernelRun0_A.sl.r_90, kernelRun0_A.sl.r_96, kernelRun0_A.sl.r_102, k0_pay185, k0_pay184, k0_pay181, k0_pay180, k0_pay182,
    k0_pay175, k0_pay177, k0_pay167, k0_pay165, k0_pay157, k0_pay156, k0_pay148, k0_pay147, k0_pay140, k0_pay139, k0_pay137, k0_pay130, k0_pay129,
    k0_pay126, k0_pay127, k0_pay122, k0_pay121, k0_pay118, k0_pay117, k0_pay119, k0_pay102, k0_pay101, k0_pay98, k0_pay97, k0_pay99, k0_pay93,
    k0_pay92, k0_pay89, k0_pay88, k0_pay90, k0_pay77, k0_pay75, k0_pay67, k0_pay66, k0_pay58, k0_pay57, k0_pay50, k0_pay49, k0_pay48, k0_pay41,
    k0_pay40, k0_pay38, k0_pay28, k0_pay45, k0_pay44, k0_pay46, k0_pay47, k0_pay54, k0_pay53, k0_pay55, k0_pay65, k0_pay62, k0_pay61, k0_pay63,
    k0_pay76, k0_pay74, k0_pay71, k0_pay70, k0_pay72, k0_pay85, k0_pay84, k0_pay81, k0_pay80, k0_pay82, k0_pay116, k0_pay125, k0_pay134, k0_pay133,
    k0_pay135, k0_pay136, k0_pay144, k0_pay143, k0_pay145, k0_pay155, k0_pay152, k0_pay151, k0_pay153, k0_pay166, k0_pay164, k0_pay161, k0_pay160,
    k0_pay162, k0_pay176, k0_pay174, k0_pay171, k0_pay170, k0_pay172,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_23_val, r_7_val, r_8_val, r_12_val, r_11_val, r_21_val, r_67_val, tril_word, Matrix.cons_val_zero, Matrix.cons_val_one, Matrix.cons_val,
    zero_add, add_zero, sub_zero, sub_self, mul_zero, zero_mul, Finset.sum_const_zero, decide_eq_true_eq]
  simp only [sum_range_8, sum_range_16, Nat.reduceMul, Nat.reduceAdd, Nat.reduceDiv, zero_add, dec, tt, tm]

/-- The negated sums over the later row of a pair, one row per head. -/
theorem r_108_val :
    kernelRun0_A.sl.r_108 (F := Ideal) c arg1 harg1 arg2 harg2 arg3 harg3 arg4 harg4 arg5 harg5 arg8 harg8 (I0 X) (I1 T) (I2 T) (I3 A) (I4 A) (I7 Y)
      = (M2 fun j s => ∑ h ∈ Finset.range 16, -(if j = h then ∑ t ∈ Finset.range 64, tm X T Y A h t s else 0) : FVec Ideal S16x64 .f32) := by
  simp (decide := true) only [
    kernelRun0_A.sl.r_108, kernelRun0_A.sl.v81, kernelRun0_A.sl.r_103, kernelRun0_A.sl.r_98, kernelRun0_A.sl.r_92, kernelRun0_A.sl.r_87,
    kernelRun0_A.sl.r_82, kernelRun0_A.sl.r_75, kernelRun0_A.sl.r_71, kernelRun0_A.sl.r_63, kernelRun0_A.sl.r_58, kernelRun0_A.sl.r_53,
    kernelRun0_A.sl.r_48, kernelRun0_A.sl.r_42, kernelRun0_A.sl.r_37, kernelRun0_A.sl.r_32, kernelRun0_A.sl.r_26, kernelRun0_A.sl.r_28,
    kernelRun0_A.sl.r_29, kernelRun0_A.sl.r_30, kernelRun0_A.sl.r_33, kernelRun0_A.sl.r_34, kernelRun0_A.sl.r_40, kernelRun0_A.sl.r_45,
    kernelRun0_A.sl.r_51, kernelRun0_A.sl.r_56, kernelRun0_A.sl.r_62, kernelRun0_A.sl.cst_88, kernelRun0_A.sl.r_68, kernelRun0_A.sl.r_72,
    kernelRun0_A.sl.r_77, kernelRun0_A.sl.r_78, kernelRun0_A.sl.r_79, kernelRun0_A.sl.r_83, kernelRun0_A.sl.r_84, kernelRun0_A.sl.r_90,
    kernelRun0_A.sl.r_95, kernelRun0_A.sl.r_101, kernelRun0_A.sl.r_106, k0_pay187, k0_pay186, k0_pay178, k0_pay168, k0_pay158, k0_pay149, k0_pay147,
    k0_pay141, k0_pay139, k0_pay137, k0_pay131, k0_pay129, k0_pay126, k0_pay127, k0_pay123, k0_pay121, k0_pay118, k0_pay117, k0_pay119, k0_pay105,
    k0_pay103, k0_pay95, k0_pay94, k0_pay86, k0_pay78, k0_pay68, k0_pay59, k0_pay57, k0_pay51, k0_pay49, k0_pay48, k0_pay42, k0_pay40, k0_pay38,
    k0_pay29, k0_pay45, k0_pay44, k0_pay46, k0_pay47, k0_pay54, k0_pay53, k0_pay55, k0_pay65, k0_pay62, k0_pay61, k0_pay63, k0_pay74, k0_pay71,
    k0_pay70, k0_pay72, k0_pay84, k0_pay81, k0_pay80, k0_pay82, k0_pay92, k0_pay89, k0_pay88, k0_pay90, k0_pay104, k0_pay101, k0_pay98, k0_pay97,
    k0_pay99, k0_pay116, k0_pay125, k0_pay134, k0_pay133, k0_pay135, k0_pay136, k0_pay144, k0_pay143, k0_pay145, k0_pay155, k0_pay152, k0_pay151,
    k0_pay153, k0_pay164, k0_pay161, k0_pay160, k0_pay162, k0_pay174, k0_pay171, k0_pay170, k0_pay172, k0_pay184, k0_pay181, k0_pay180, k0_pay182,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_23_val, r_7_val, r_8_val, r_12_val, r_11_val, r_21_val, r_67_val, tril_word, Matrix.cons_val_zero, Matrix.cons_val_one, Matrix.cons_val,
    zero_add, add_zero, sub_zero, sub_self, mul_zero, zero_mul, Finset.sum_const_zero, decide_eq_true_eq]
  simp only [sum_range_8, sum_range_16, Nat.reduceMul, Nat.reduceAdd, Nat.reduceDiv, zero_add, dec, tt, tm, zero_sub, sub_eq_add_neg]

/-- What the rows of the chunk itself put into the gradient of the scaled input, at every lane. -/
def own (X T Y : ℕ → ℕ → ℝ) (A : ℕ → ℝ) (s j : ℕ) : ℝ :=
  ∑ t ∈ Finset.range 64, cb X (j / 64 / 8) t s * dec T A (j / 64) t s * Y t j

theorem own_head (X T Y : ℕ → ℕ → ℝ) (A : ℕ → ℝ) (h s p : ℕ) (hp : p < 64) :
    ∑ t ∈ Finset.range 64, cb X (h / 8) t s * dec T A h t s * Y t (64 * h + p) = own X T Y A (0 + s) (64 * h + p) := by
  rw [own, show (64 * h + p) / 64 = h by omega, zero_add]

theorem v893_val :
    kernelRun0_A.sl.v893 (F := Ideal) c arg1 harg1 arg2 harg2 arg3 harg3 arg4 harg4 arg5 harg5 arg8 harg8 arg16 (I0 X) (I1 T) (I2 T) (I3 A) (I4 A) (I7 Y)
      = (M2 fun s j => own X T Y A s j : FVec Ideal S64x1024 .f32) := by
  unfold kernelRun0_A.sl.v893
  refine load_holds (own X T Y A) (View.cover_of_tiledL _ ![64, 64] (by sl_kernel_rfl)) ?_
  unfold kernelRun0_A.sl.HS1_16
  refine List.forall_mem_cons.mpr ⟨holds_unit _ ?_ fun s p _ hp => own_head X T Y A 15 s p hp,
    List.forall_mem_cons.mpr ⟨holds_unit _ ?_ fun s p _ hp => own_head X T Y A 14 s p hp,
    List.forall_mem_cons.mpr ⟨holds_unit _ ?_ fun s p _ hp => own_head X T Y A 13 s p hp,
    List.forall_mem_cons.mpr ⟨holds_unit _ ?_ fun s p _ hp => own_head X T Y A 12 s p hp,
    List.forall_mem_cons.mpr ⟨holds_unit _ ?_ fun s p _ hp => own_head X T Y A 11 s p hp,
    List.forall_mem_cons.mpr ⟨holds_unit _ ?_ fun s p _ hp => own_head X T Y A 10 s p hp,
    List.forall_mem_cons.mpr ⟨holds_unit _ ?_ fun s p _ hp => own_head X T Y A 9 s p hp,
    List.forall_mem_cons.mpr ⟨holds_unit _ ?_ fun s p _ hp => own_head X T Y A 8 s p hp,
    List.forall_mem_cons.mpr ⟨holds_unit _ ?_ fun s p _ hp => own_head X T Y A 7 s p hp,
    List.forall_mem_cons.mpr ⟨holds_unit _ ?_ fun s p _ hp => own_head X T Y A 6 s p hp,
    List.forall_mem_cons.mpr ⟨holds_unit _ ?_ fun s p _ hp => own_head X T Y A 5 s p hp,
    List.forall_mem_cons.mpr ⟨holds_unit _ ?_ fun s p _ hp => own_head X T Y A 4 s p hp,
    List.forall_mem_cons.mpr ⟨holds_unit _ ?_ fun s p _ hp => own_head X T Y A 3 s p hp,
    List.forall_mem_cons.mpr ⟨holds_unit _ ?_ fun s p _ hp => own_head X T Y A 2 s p hp,
    List.forall_mem_cons.mpr ⟨holds_unit _ ?_ fun s p _ hp => own_head X T Y A 1 s p hp,
    List.forall_mem_cons.mpr ⟨holds_unit _ ?_ fun s p _ hp => own_head X T Y A 0 s p hp,
    fun _ h => absurd h List.not_mem_nil⟩⟩⟩⟩⟩⟩⟩⟩⟩⟩⟩⟩⟩⟩⟩⟩
  all_goals
    simp (decide := true) only [
    kernelRun0_A.sl.v893, kernelRun0_A.sl.HS1_16, kernelRun0_A.sl.r_104, kernelRun0_A.sl.r_99, kernelRun0_A.sl.r_93, kernelRun0_A.sl.r_88,
    kernelRun0_A.sl.r_83, kernelRun0_A.sl.r_77, kernelRun0_A.sl.r_72, kernelRun0_A.sl.r_68, kernelRun0_A.sl.r_59, kernelRun0_A.sl.r_54,
    kernelRun0_A.sl.r_49, kernelRun0_A.sl.r_43, kernelRun0_A.sl.r_38, kernelRun0_A.sl.r_33, kernelRun0_A.sl.r_28, k0_pay188, k0_pay179, k0_pay169,
    k0_pay159, k0_pay150, k0_pay142, k0_pay132, k0_pay126, k0_pay124, k0_pay118, k0_pay117, k0_pay106, k0_pay96, k0_pay87, k0_pay79, k0_pay69,
    k0_pay60, k0_pay52, k0_pay43, k0_pay181, k0_pay180, k0_pay171, k0_pay170, k0_pay161, k0_pay160, k0_pay152, k0_pay151, k0_pay144, k0_pay143,
    k0_pay134, k0_pay133, k0_pay125, k0_pay116, k0_pay98, k0_pay97, k0_pay89, k0_pay88, k0_pay81, k0_pay80, k0_pay71, k0_pay70, k0_pay62, k0_pay61,
    k0_pay54, k0_pay53, k0_pay45, k0_pay44,
    View.readAt_eq_ld, Memref.IsWhole.read_unread, read2, read3, I0, I1, I2, I3, I4, I5, I6, I7, slice_M2, mulf_M2, addf_M2, subf_M2, minimumf_M2,
    exp_M2, truncf_M2, extf_M2, constant_zero, broadcast_zero, select_M2, sitofp_Mk, iota_rows2, iota_cols2, broadcast_word, mask_col, mask_row,
    slice_M2, spread_row, spread_col, page_M3, page_M2, row_M1, col_M1, sum_rows32, sum_cols32, shapeCast_self, dot1, dot2, dot3, dot4, dot5, dot6,
    dot7, dot8, dot9, dot10, dot11, dot12, dot13, dot_nn, dot_nt, dot_tn,
    r_23_val, r_7_val, r_8_val, r_12_val, r_11_val, r_21_val, r_67_val, tril_word, Matrix.cons_val_zero, Matrix.cons_val_one, Matrix.cons_val,
    zero_add, add_zero, sub_zero, sub_self, mul_zero, zero_mul, Finset.sum_const_zero, decide_eq_true_eq]
    try simp only [sum_range_8, sum_range_16, Nat.reduceMul, Nat.reduceAdd, Nat.reduceDiv, zero_add, dec, tt, tm]

end Cert.Lift
-- ==== Proof.Tail.lean ====
module

public import proofs.«01_k».proof.Proof.Tiles

@[expose] public section

set_option maxRecDepth 16384

/-! The stretches of the kernel after its loop over the heads, on matrices of real numbers. -/

noncomputable section

namespace Cert.Lift

open Idealize.ShloMosaic Idealize.ShloMosaic.ValueIdx Idealize.ShloMosaic.Tactic
open Cert.KernelIdeal Cert.KernelIdeal.Gen

variable (a b c d f g x y z w u v : ℕ → ℕ → ℝ)

theorem fold_col (f : ℕ → ℝ) (h : ℕ) (hh : h < 16) :
    ∑ k ∈ Finset.range 1024, (if k / 64 = h then 1 else 0) * f k = ∑ p ∈ Finset.range 64, f (64 * h + p) := by
  rw [← fold_lanes f h hh]
  exact Finset.sum_congr rfl fun k _ => mul_comm _ _

theorem run_down' (f : ℕ → ℝ) (i : ℕ) :
    ∑ k ∈ Finset.range 64, f k * (if i ≤ k then 1 else 0) = ∑ k ∈ Finset.Ico i 64, f k := by
  rw [← run_down f i]
  exact Finset.sum_congr rfl fun k _ => mul_comm _ _

theorem last_row (c : ℕ) : (cmpi .eq (Wd fun i _ => i : IVec (⟨2, ![64, 16]⟩ : Shape) 32) (Wd fun _ _ => 63)) = Mk fun i _ => decide (i = 63) :=
  cmpi_eq_Wd _ _ (fun i j _ _ => by omega) (fun i j _ _ => by omega)

/-- A row's gradient of the running log decay, before it is summed over the later rows: `c` is the pairs' part, `y` and `v` the output
gradient and the part of the output that comes from the state, `x` and `z` what enters the next state and that state's gradient, `w` the
next state's gradient against the state, `a` the running log decay. -/
def fall (a c y v x z w : ℕ → ℕ → ℝ) (t h : ℕ) : ℝ :=
  c t h + ∑ p ∈ Finset.range 64, y t (64 * h + p) * v t (64 * h + p) - ∑ p ∈ Finset.range 64, x t (64 * h + p) * z t (64 * h + p)
    + if t = 63 then ∑ s ∈ Finset.range 64, ∑ p ∈ Finset.range 64, x s (64 * h + p) * z s (64 * h + p)
        + (∑ p ∈ Finset.range 64, w 0 (64 * h + p)) * Real.exp (a 63 h) else 0

theorem fall_val  :
    k0_pay198 (F := Ideal) (k0_pay195 k0_pay20 (M2 (φ := .f32) y) (M2 (φ := .f32) x) (M2 (φ := .f32) c) (M2 (φ := .f32) z) (M2 (φ := .f32) v)) (k0_pay196 (M2 (φ := .f32) a) k0_pay20 (M2 (φ := .f32) x) (M2 (φ := .f32) z) (M2 (φ := .f32) w))
      (iota Kind.tc S64x16 32 [0] iota_S64x16_d0_w32) k0_pay197
      = (M2 fun t h => ∑ k ∈ Finset.Ico t 64, fall a c y v x z w k h : FVec Ideal S64x16 .f32) := by
  simp (decide := true) only [
    k0_pay198, k0_pay195, k0_pay196, k0_pay194, k0_pay197,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]
  rw [cmpi_sge_Wd _ _ (fun i j _ _ => by omega) (fun i j _ _ => by omega)]
  simp (decide := true) only [sitofp_Mk, truncf_M2, dot_nn, addf_M2, decide_eq_true_eq, zero_add, mul_zero, Finset.sum_const_zero, add_zero]
  refine M2_congr fun t h ht hh => ?_
  rw [run_down]
  refine Finset.sum_congr rfl fun k _ => ?_
  simp only [fold_lanes _ h hh, fall]

theorem pay199_val  :
    k0_pay199 (F := Ideal) (M2 (φ := .f32) f)
      = (M2 fun h t => ∑ k ∈ Finset.Ico t 64, f h k : FVec Ideal S16x64 .f32) := by
  simp (decide := true) only [
    k0_pay199,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]
  rw [cmpi_sge_Wd _ _ (fun i j _ _ => by omega) (fun i j _ _ => by omega)]
  simp (decide := true) only [sitofp_Mk, truncf_M2, dot_nn, addf_M2, decide_eq_true_eq, zero_add, zero_mul, Finset.sum_const_zero, add_zero]
  exact M2_congr fun h t _ _ => run_down' (f h) t

theorem pay193_val  :
    k0_pay193 (F := Ideal) (M2 (φ := .f32) w) (M2 (φ := .f32) z) (M2 (φ := .f32) x)
      = (M2 fun s j => x s j + w s j * z s j : FVec Ideal S64x1024 .f32) := by
  simp (decide := true) only [
    k0_pay193,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay200_val (p q : _) (i j : _) (hg : k0_pay198 (F := Ideal) p q i j = M2 (φ := .f32) g) :
    k0_pay200 (F := Ideal) (M2 (φ := .f32) a) k0_pay20 (M2 (φ := .f32) x) (M2 (φ := .f32) d) p q i j
      = (M3 fun _ t h => a 0 h * g t h + ∑ p ∈ Finset.range 64, d t (64 * h + p) * x t (64 * h + p) : FVec Ideal S1x64x16 .f32) := by
  simp (decide := true) only [
    k0_pay200,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    hg, lanes_word_t, Matrix.cons_val_zero, Matrix.cons_val_one, Matrix.cons_val, zero_add, add_zero, sub_zero, sub_self, mul_zero, zero_mul,
    Finset.sum_const_zero, decide_eq_true_eq]
  exact M3_congr fun _ t h _ _ hh => congrArg (a 0 h * g t h + ·) (fold_lanes _ h hh)

theorem pay201_val  :
    k0_pay202 (F := Ideal) (k0_pay201 (M2 (φ := .f32) a) (M2 (φ := .f32) f))
      = (M3 fun _ h t => a h 0 * ∑ k ∈ Finset.Ico t 64, f h k : FVec Ideal S1x16x64 .f32) := by
  simp (decide := true) only [
    k0_pay202, k0_pay201,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    pay199_val, Matrix.cons_val_zero, Matrix.cons_val_one, Matrix.cons_val, zero_add, add_zero, sub_zero, sub_self, mul_zero, zero_mul,
    Finset.sum_const_zero, decide_eq_true_eq]

theorem pay203_val  :
    k0_pay203 (F := Ideal) (M2 (φ := .f32) x) (M2 (φ := .f32) g) (M2 (φ := .f32) a)
      = (M2 fun i h => a i h + ∑ t ∈ Finset.range 64, x t h * g t h : FVec Ideal S1x16 .f32) := by
  simp (decide := true) only [
    k0_pay203,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay204_val  :
    k0_pay204 (F := Ideal) (M2 (φ := .f32) x) (M2 (φ := .f32) g) (M2 (φ := .f32) a)
      = (M2 fun h i => a h i + ∑ t ∈ Finset.range 64, x h t * g h t : FVec Ideal S16x1 .f32) := by
  simp (decide := true) only [
    k0_pay204,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay1_val  :
    k0_pay1 (F := Ideal) (M2 (φ := .f32) x) (M2 (φ := .f32) y) (M2 (φ := .f32) a)
      = (M2 fun i j => a i j + ∑ t ∈ Finset.range 64, y t j * x t j : FVec Ideal S1x1024 .f32) := by
  simp (decide := true) only [
    k0_pay1,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay205_val  :
    k0_pay205 (F := Ideal) (M2 (φ := .f32) x) (M2 (φ := .f32) y) (M2 (φ := .f32) d) (M2 (φ := .f32) a)
      = (M2 fun s j => d s j * x s j + a 0 j * y s j : FVec Ideal S64x1024 .f32) := by
  simp (decide := true) only [
    k0_pay205,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay200_fall (e r : ℕ → ℕ → ℝ) :
    k0_pay200 (F := Ideal) (M2 (φ := .f32) e) k0_pay20 (M2 (φ := .f32) r) (M2 (φ := .f32) d)
      (k0_pay195 k0_pay20 (M2 (φ := .f32) y) (M2 (φ := .f32) x) (M2 (φ := .f32) c) (M2 (φ := .f32) z) (M2 (φ := .f32) v))
      (k0_pay196 (M2 (φ := .f32) a) k0_pay20 (M2 (φ := .f32) x) (M2 (φ := .f32) z) (M2 (φ := .f32) w))
      (iota Kind.tc S64x16 32 [0] iota_S64x16_d0_w32) k0_pay197
      = (M3 fun _ t h => e 0 h * (∑ k ∈ Finset.Ico t 64, fall a c y v x z w k h) + ∑ p ∈ Finset.range 64, d t (64 * h + p) * r t (64 * h + p)
        : FVec Ideal S1x64x16 .f32) :=
  by rw [pay200_val e d _ r _ _ _ _ (fall_val a c x y z w v)]

theorem pay107_val  :
    k0_pay107 (F := Ideal) (M2 (φ := .f32) y) (M2 (φ := .f32) b) (M2 (φ := .f32) u) (M2 (φ := .f32) d)
      = (M2 fun t n => ∑ s ∈ Finset.range 64, d t s * b s n + ∑ q ∈ Finset.range 512, y t (0 + q) * u n q : FVec Ideal S64x128 .f32) := by
  simp (decide := true) only [
    k0_pay107,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay189_val  :
    k0_pay189 (F := Ideal) (M2 (φ := .f32) y) (M2 (φ := .f32) b) (M2 (φ := .f32) u) (M2 (φ := .f32) d)
      = (M2 fun t n => ∑ s ∈ Finset.range 64, d t s * b s n + ∑ q ∈ Finset.range 512, y t (512 + q) * u n q : FVec Ideal S64x128 .f32) := by
  simp (decide := true) only [
    k0_pay189,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay108_val  :
    k0_pay108 (F := Ideal) (M2 (φ := .f32) x) (M2 (φ := .f32) c) (M2 (φ := .f32) u) (M2 (φ := .f32) d)
      = (M2 fun s n => ∑ t ∈ Finset.range 64, d t s * c t n + ∑ q ∈ Finset.range 512, x s (0 + q) * u n q : FVec Ideal S64x128 .f32) := by
  simp (decide := true) only [
    k0_pay108,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay190_val  :
    k0_pay190 (F := Ideal) (M2 (φ := .f32) x) (M2 (φ := .f32) c) (M2 (φ := .f32) u) (M2 (φ := .f32) d)
      = (M2 fun s n => ∑ t ∈ Finset.range 64, d t s * c t n + ∑ q ∈ Finset.range 512, x s (512 + q) * u n q : FVec Ideal S64x128 .f32) := by
  simp (decide := true) only [
    k0_pay190,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay109_val  :
    k0_pay109 (F := Ideal) (M2 (φ := .f32) a) (M2 (φ := .f32) y) (M2 (φ := .f32) c) (M2 (φ := .f32) u)
      = (M2 fun n q => a 0 (0 + q) * u n q + ∑ t ∈ Finset.range 64, c t n * y t (0 + q) : FVec Ideal S128x512 .f32) := by
  simp (decide := true) only [
    k0_pay109,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay192_val  :
    k0_pay192 (F := Ideal) (k0_pay191 (M2 (φ := .f32) a) (M2 (φ := .f32) y) (M2 (φ := .f32) c) (M2 (φ := .f32) u))
      = (M2 fun n q => a 0 (512 + q) * u n q + ∑ t ∈ Finset.range 64, c t n * y t (512 + q) : FVec Ideal S128x512 .f32) := by
  simp (decide := true) only [
    k0_pay192, k0_pay191,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay32_val  :
    k0_pay32 (F := Ideal) (M2 (φ := .f32) b) (M2 (φ := .f32) u)
      = (M2 fun s q => ∑ n ∈ Finset.range 128, b s n * u n q : FVec Ideal S64x512 .f32) := by
  simp (decide := true) only [
    k0_pay32,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay112_val  :
    k0_pay112 (F := Ideal) (M2 (φ := .f32) b) (M2 (φ := .f32) u)
      = (M2 fun s q => ∑ n ∈ Finset.range 128, b s n * u n q : FVec Ideal S64x512 .f32) := by
  simp (decide := true) only [
    k0_pay112,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay33_val (s : _) :
    k0_pay33 (F := Ideal) (M2 (φ := .f32) a) (M2 (φ := .f32) c) (M3 (φ := .f32) s)
      = (M2 fun t q => (∑ n ∈ Finset.range 128, c t n * s 0 n q) * a t (0 + q) : FVec Ideal S64x512 .f32) := by
  simp (decide := true) only [
    k0_pay33, k0_pay30,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay113_val (s : _) :
    k0_pay113 (F := Ideal) (M2 (φ := .f32) a) (M2 (φ := .f32) c) (M3 (φ := .f32) s)
      = (M2 fun t q => (∑ n ∈ Finset.range 128, c t n * s 0 n q) * a t (512 + q) : FVec Ideal S64x512 .f32) := by
  simp (decide := true) only [
    k0_pay113, k0_pay110,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay34_val (s : _) :
    k0_pay34 (F := Ideal) (M3 (φ := .f32) s) (M2 (φ := .f32) u)
      = (M2 fun _ q => ∑ n ∈ Finset.range 128, u n q * s 0 n q : FVec Ideal S8x512 .f32) := by
  simp (decide := true) only [
    k0_pay34, k0_pay30,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

theorem pay114_val (s : _) :
    k0_pay114 (F := Ideal) (M3 (φ := .f32) s) (M2 (φ := .f32) u)
      = (M2 fun _ q => ∑ n ∈ Finset.range 128, u n q * s 0 n q : FVec Ideal S8x512 .f32) := by
  simp (decide := true) only [
    k0_pay114, k0_pay110,
    slice_M2, mulf_M2, addf_M2, subf_M2, minimumf_M2, exp_M2, truncf_M2, extf_M2, constant_zero, broadcast_zero, select_M2, sitofp_Mk, iota_rows2,
    iota_cols2, broadcast_word, mask_col, mask_row, slice_M2, spread_row, spread_col, page_M3, page_M2, row_M1, col_M1, sum_rows32, sum_cols32,
    shapeCast_self, dot1, dot2, dot3, dot4, dot5, dot6, dot7, dot8, dot9, dot10, dot11, dot12, dot13, dot_nn, dot_nt, dot_tn,
    lanes_word_t, Matrix.cons_val_zero, Matrix.cons_val_one, Matrix.cons_val, zero_add, add_zero, sub_zero, sub_self, mul_zero, zero_mul,
    Finset.sum_const_zero, decide_eq_true_eq]

end Cert.Lift
-- ==== Proof.Chunk.lean ====
module

public import proofs.«01_k».proof.Proof.Heads
public import proofs.«01_k».proof.Proof.Tail

@[expose] public section

set_option maxRecDepth 16384

/-! What one chunk computes, in real numbers: the closed forms the two runs of the kernel are read to. -/

noncomputable section

namespace Cert.Lift

open Idealize.ShloMosaic Idealize.ShloMosaic.ValueIdx Idealize.ShloMosaic.Tactic
open Cert.KernelIdeal Cert.KernelIdeal.Gen

variable (X T Y S DS : ℕ → ℕ → ℝ) (A D : ℕ → ℝ)

/-- No gradient comes into the last chunk. -/
def noDS (_ _ : ℕ) : ℝ := 0

/-- The next state's gradient against a row's write vector. -/
def zz (s j : ℕ) : ℝ := ∑ n ∈ Finset.range 128, X s (1024 + 128 * (j / 512) + n) * DS (128 * (j / 512) + n) (j % 512)

/-- The part of a row's output that comes from the state. -/
def yo (t j : ℕ) : ℝ :=
  (∑ n ∈ Finset.range 128, X t (1280 + 128 * (j / 512) + n) * S (128 * (j / 512) + n) (j % 512)) * Real.exp (ac T A t (j / 64))

/-- The next state's gradient against the state, per lane. -/
def sd (j : ℕ) : ℝ := ∑ n ∈ Finset.range 128, DS (128 * (j / 512) + n) (j % 512) * S (128 * (j / 512) + n) (j % 512)

/-- The decay from a row to the chunk's end. -/
def ee (t j : ℕ) : ℝ := Real.exp (ac T A 63 (j / 64) - ac T A t (j / 64))

/-- What a row adds to the next state, but for the write vector. -/
def xw (t j : ℕ) : ℝ := X t j * T t (j / 64) * ee T A t j

/-- The output's gradient, decayed from the chunk's start. -/
def ey (t j : ℕ) : ℝ := Real.exp (ac T A t (j / 64)) * Y t j

/-- The gradient of the scaled input. -/
def dx (s j : ℕ) : ℝ := own X T Y A s j + ee T A s j * zz X DS s j

/-- The gradient of the products of read and write vectors. -/
def dcb (g t s : ℕ) : ℝ := ∑ h ∈ Finset.range 8, dec T A (8 * g + h) t s * tt X T Y (8 * g + h) t s

/-- The pairs of two rows, summed over the earlier row. -/
def cols (t j : ℕ) : ℝ := ∑ h ∈ Finset.range 16, if j = h then ∑ s ∈ Finset.range 64, tm X T Y A h t s else 0

/-- The pairs of two rows, summed over the later row, negated. -/
def rows (j s : ℕ) : ℝ := ∑ h ∈ Finset.range 16, -(if j = h then ∑ t ∈ Finset.range 64, tm X T Y A h t s else 0)

/-- The two halves of the gradient of the log decay of a row. -/
def g1 (t h : ℕ) : ℝ :=
  ∑ k ∈ Finset.Ico t 64, fall (ac T A) (cols X T Y A) Y (yo X T S A) (xw X T A) (zz X DS) (fun _ j => sd S DS j) k h

def g2 (h t : ℕ) : ℝ := ∑ k ∈ Finset.Ico t 64, rows X T Y A h k

/-- The gradients of the inputs, of the write vectors and of the read vectors, side by side. -/
def o8 (s j : ℕ) : ℝ :=
  if j < 1024 then dx X T Y DS A s j * T s (j / 64) + D j * Y s j
  else if j < 1280 then ∑ t ∈ Finset.range 64, dcb X T Y A ((j - 1024) / 128) t s * X t (j + 256)
    + ∑ q ∈ Finset.range 512, xw X T A s (512 * ((j - 1024) / 128) + q) * DS (j - 1024) q
  else ∑ t ∈ Finset.range 64, dcb X T Y A ((j - 1280) / 128) s t * X t (j - 256)
    + ∑ q ∈ Finset.range 512, ey T Y A s (512 * ((j - 1280) / 128) + q) * S (j - 1280) q

/-- The two halves of the gradient of the step size. -/
def o9 (t h : ℕ) : ℝ := A h * g1 X T Y S DS A t h + ∑ p ∈ Finset.range 64, dx X T Y DS A t (64 * h + p) * X t (64 * h + p)

def o10 (h t : ℕ) : ℝ := A h * g2 X T Y A h t

/-- The two halves of what a chunk adds to the gradient of the decay rates, and what it adds to the skip's. -/
def o11 (h : ℕ) : ℝ := ∑ t ∈ Finset.range 64, T t h * g1 X T Y S DS A t h

def o12 (h : ℕ) : ℝ := ∑ t ∈ Finset.range 64, T t h * g2 X T Y A h t

def o13 (j : ℕ) : ℝ := ∑ t ∈ Finset.range 64, Y t j * X t j

/-- The gradient of the state the chunk began with. -/
def oS (n q : ℕ) : ℝ :=
  Real.exp (ac T A 63 ((512 * (n / 128) + q) / 64)) * DS n q + ∑ t ∈ Finset.range 64, X t (1280 + n) * ey T Y A t (512 * (n / 128) + q)

theorem zz_at (g s q : ℕ) (hq : q < 512) :
    ∑ n ∈ Finset.range 128, X s (1024 + 128 * g + n) * DS (128 * g + n) q = zz X DS (0 + s) (512 * g + q) := by
  rw [zz, show (512 * g + q) / 512 = g by omega, show (512 * g + q) % 512 = q by omega, zero_add]

theorem yo_at (g t q : ℕ) (hq : q < 512) :
    (∑ n ∈ Finset.range 128, X t (1280 + 128 * g + n) * S (128 * g + n) q) * Real.exp (ac T A t ((512 * g + q) / 64))
      = yo X T S A (0 + t) (512 * g + q) := by
  rw [yo, show (512 * g + q) / 512 = g by omega, show (512 * g + q) % 512 = q by omega, zero_add]

theorem sd_at (g q : ℕ) (hq : q < 512) :
    ∑ n ∈ Finset.range 128, DS (128 * g + n) q * S (128 * g + n) q = sd S DS (512 * g + q) := by
  rw [sd, show (512 * g + q) / 512 = g by omega, show (512 * g + q) % 512 = q by omega]

theorem oS_at (g n q : ℕ) (hn : n < 128) :
    Real.exp (ac T A 63 ((512 * g + q) / 64)) * DS (128 * g + n) q
        + ∑ t ∈ Finset.range 64, X t (1280 + 128 * g + n) * (Real.exp (ac T A t ((512 * g + q) / 64)) * Y t (512 * g + q))
      = oS X T Y DS A (128 * g + n) (0 + q) := by
  simp only [oS, ey, show (128 * g + n) / 128 = g by omega, zero_add, ← add_assoc]

theorem o8_x (s j : ℕ) (hj : j < 1024) : dx X T Y DS A s j * T s (j / 64) + D j * Y s j = o8 X T Y S DS A D (0 + s) (0 + j) := by
  rw [zero_add, zero_add, o8, if_pos hj]

theorem o8_b (g s n : ℕ) (hg : g < 2) (hn : n < 128) :
    ∑ t ∈ Finset.range 64, dcb X T Y A g t s * X t (1280 + 128 * g + n) + ∑ q ∈ Finset.range 512, xw X T A s (512 * g + q) * DS (128 * g + n) q
      = o8 X T Y S DS A D (0 + s) (1024 + 128 * g + n) := by
  rw [zero_add, o8, if_neg (by omega), if_pos (by omega), show (1024 + 128 * g + n - 1024) / 128 = g by omega,
    show 1024 + 128 * g + n + 256 = 1280 + 128 * g + n by omega, show 1024 + 128 * g + n - 1024 = 128 * g + n by omega]

theorem o8_c (g t n : ℕ) (hn : n < 128) :
    ∑ s ∈ Finset.range 64, dcb X T Y A g t s * X s (1024 + 128 * g + n) + ∑ q ∈ Finset.range 512, ey T Y A t (512 * g + q) * S (128 * g + n) q
      = o8 X T Y S DS A D (0 + t) (1280 + 128 * g + n) := by
  rw [zero_add, o8, if_neg (by omega), if_neg (by omega), show (1280 + 128 * g + n - 1280) / 128 = g by omega,
    show 1280 + 128 * g + n - 256 = 1024 + 128 * g + n by omega, show 1280 + 128 * g + n - 1280 = 128 * g + n by omega]

end Cert.Lift
-- ==== Proof.ChunkA.lean ====
module

public import proofs.«01_k».proof.Proof.Chunk
public import proofs.«01_k».proof.Proof.Gen.KernelIdeal.Frame
public import Idealize.ShloMosaic.Lib.Pipeline.ReadBack

@[expose] public section

set_option maxRecDepth 16384

/-! What the kernel leaves after the first chunk it visits. -/

noncomputable section

namespace Cert.Lift

open Idealize.ShloMosaic Idealize.ShloMosaic.ValueIdx Idealize.ShloMosaic.Tactic
open Cert.KernelIdeal Cert.KernelIdeal.Gen

variable (c : Dev nD) (i : grid0.Coords)
  (arg1 : Memref sig .tc .vmem S64x1536 .f32) (harg1 : arg1.IsWhole)
  (arg2 : Memref sig .tc .vmem S1x64x16 .f32) (harg2 : arg2.IsWhole)
  (arg3 : Memref sig .tc .vmem S1x16x64 .f32) (harg3 : arg3.IsWhole)
  (arg4 : Memref sig .tc .vmem S1x16 .f32) (harg4 : arg4.IsWhole)
  (arg5 : Memref sig .tc .vmem S16x1 .f32) (harg5 : arg5.IsWhole)
  (arg6 : Memref sig .tc .vmem S1x1024 .f32) (harg6 : arg6.IsWhole)
  (arg7 : Memref sig .tc .vmem S1x256x512 .f32) (harg7 : arg7.IsWhole)
  (arg8 : Memref sig .tc .vmem S64x1024 .f32) (harg8 : arg8.IsWhole)
  (arg9 : Memref sig .tc .vmem S64x1536 .f32) (harg9 : arg9.IsWhole)
  (arg10 : Memref sig .tc .vmem S1x64x16 .f32) (harg10 : arg10.IsWhole)
  (arg11 : Memref sig .tc .vmem S1x16x64 .f32) (harg11 : arg11.IsWhole)
  (arg12 : Memref sig .tc .vmem S1x16 .f32) (harg12 : arg12.IsWhole)
  (arg13 : Memref sig .tc .vmem S16x1 .f32) (harg13 : arg13.IsWhole)
  (arg14 : Memref sig .tc .vmem S1x1024 .f32) (harg14 : arg14.IsWhole)
  (arg15 : Memref sig .tc .vmem S256x512 .f32) (harg15 : arg15.IsWhole)
  (arg16 : Memref sig .tc .vmem S64x1024 .f32) (harg16 : arg16.IsWhole)
  (arg17 : Memref sig .tc .vmem S64x1024 .f32) (harg17 : arg17.IsWhole)
  (arg18 : Memref sig .tc .vmem S64x1024 .f32) (harg18 : arg18.IsWhole)
  (arg19 : Memref sig .tc .vmem S8x1024 .f32) (harg19 : arg19.IsWhole)
  (X T Y S : ℕ → ℕ → ℝ) (A D : ℕ → ℝ)

variable (hc0 : cond0_0 i)

/-- The gradient that comes in is the zeros just stored. -/
theorem v88_val :
    kernelRun0_A.sl.v88 (F := Ideal) c arg15
      = (M2 fun n q => noDS n q : FVec Ideal S128x512 .f32) := by
  unfold kernelRun0_A.sl.v88 kernelRun0_A.sl.HS0_1
  rw [View.readCov_fill _ _ _ _ _ (fun x => by fin_cases x <;> rfl), k0_pay2, shapeCast_self, broadcast_zero, read2]
  simp only [noDS]

theorem v492_val :
    kernelRun0_A.sl.v492 (F := Ideal) c arg1 harg1 arg2 harg2 arg4 harg4 arg8 harg8 arg15 (I0 X) (I1 T) (I3 A) (I7 Y)
      = (M2 fun n q => noDS (128 + n) q : FVec Ideal S128x512 .f32) := by
  unfold kernelRun0_A.sl.v492 kernelRun0_A.sl.HS0_2 kernelRun0_A.sl.HS0_1
  rw [View.readCov_skip _ _ _ _ _ (by decide), View.readCov_fill _ _ _ _ _ (fun x => by fin_cases x <;> rfl), k0_pay2, shapeCast_self, broadcast_zero, read2]
  simp only [noDS]

/-- The products of the incoming gradient with the write vectors. -/
theorem av892_val :
    kernelRun0_A.sl.v892 (F := Ideal) c arg1 harg1 arg2 harg2 arg4 harg4 arg8 harg8 arg15 arg17 (I0 X) (I1 T) (I3 A) (I7 Y)
      = (M2 fun s j => zz X noDS s j : FVec Ideal S64x1024 .f32) := by
  unfold kernelRun0_A.sl.v892
  refine load_holds (fun s j => zz X noDS s j) (View.cover_of_tiledL _ ![64, 512] (by sl_kernel_rfl)) ?_
  unfold kernelRun0_A.sl.HS2_2
  refine List.forall_mem_cons.mpr ⟨holds_unit _ ?_ fun s p _ hp => zz_at X noDS 1 s p hp,
    List.forall_mem_cons.mpr ⟨holds_unit _ ?_ fun s p _ hp => zz_at X noDS 0 s p hp, fun _ h => absurd h List.not_mem_nil⟩⟩
  · simp only [View.readAt_eq_ld, Memref.IsWhole.read_unread, read2, read3, I0, I6, pay112_val, v492_val, Matrix.cons_val_zero, Matrix.cons_val_one, Matrix.cons_val, zero_add]
    try simp only [dcb, xw, ey, ee, Nat.mul_zero, Nat.mul_one, Nat.reduceAdd, Nat.reduceMul, zero_add]
  · simp only [View.readAt_eq_ld, Memref.IsWhole.read_unread, read2, read3, I0, I6, r_18_val, pay32_val, v88_val, Matrix.cons_val_zero, Matrix.cons_val_one, Matrix.cons_val, zero_add]
    try simp only [dcb, xw, ey, ee, Nat.mul_zero, Nat.mul_one, Nat.reduceAdd, Nat.reduceMul, zero_add]

/-- The part of the output that comes from the state. -/
theorem av904_val :
    kernelRun0_A.sl.v904 (F := Ideal) c arg1 harg1 arg2 harg2 arg4 harg4 arg7 harg7 arg18 (I0 X) (I1 T) (I3 A) (I6 S)
      = (M2 fun s j => yo X T S A s j : FVec Ideal S64x1024 .f32) := by
  unfold kernelRun0_A.sl.v904
  refine load_holds (fun s j => yo X T S A s j) (View.cover_of_tiledL _ ![64, 512] (by sl_kernel_rfl)) ?_
  unfold kernelRun0_A.sl.HS3_2
  refine List.forall_mem_cons.mpr ⟨holds_unit _ ?_ fun s p _ hp => yo_at X T S A 1 s p hp,
    List.forall_mem_cons.mpr ⟨holds_unit _ ?_ fun s p _ hp => yo_at X T S A 0 s p hp, fun _ h => absurd h List.not_mem_nil⟩⟩
  · simp only [View.readAt_eq_ld, Memref.IsWhole.read_unread, read2, read3, I0, I6, r_13_val, pay113_val, Matrix.cons_val_zero, Matrix.cons_val_one, Matrix.cons_val, zero_add]
    try simp only [dcb, xw, ey, ee, Nat.mul_zero, Nat.mul_one, Nat.reduceAdd, Nat.reduceMul, zero_add]
  · simp only [View.readAt_eq_ld, Memref.IsWhole.read_unread, read2, read3, I0, I6, r_13_val, r_19_val, pay33_val, Matrix.cons_val_zero, Matrix.cons_val_one, Matrix.cons_val, zero_add]
    try simp only [dcb, xw, ey, ee, Nat.mul_zero, Nat.mul_one, Nat.reduceAdd, Nat.reduceMul, zero_add]

/-- The incoming gradient against the state. -/
theorem av916_val :
    kernelRun0_A.sl.v916 (F := Ideal) c arg1 harg1 arg2 harg2 arg4 harg4 arg7 harg7 arg8 harg8 arg15 arg19 (I0 X) (I1 T) (I3 A) (I6 S) (I7 Y)
      = (M2 fun s j => sd S noDS j : FVec Ideal S8x1024 .f32) := by
  unfold kernelRun0_A.sl.v916
  refine load_holds (fun s j => sd S noDS j) (View.cover_of_tiledL _ ![8, 512] (by sl_kernel_rfl)) ?_
  unfold kernelRun0_A.sl.HS4_2
  refine List.forall_mem_cons.mpr ⟨holds_unit _ ?_ fun s p _ hp => sd_at S noDS 1 p hp,
    List.forall_mem_cons.mpr ⟨holds_unit _ ?_ fun s p _ hp => sd_at S noDS 0 p hp, fun _ h => absurd h List.not_mem_nil⟩⟩
  · simp only [View.readAt_eq_ld, Memref.IsWhole.read_unread, read2, read3, I0, I6, pay114_val, v492_val, Matrix.cons_val_zero, Matrix.cons_val_one, Matrix.cons_val, zero_add]
    try simp only [dcb, xw, ey, ee, Nat.mul_zero, Nat.mul_one, Nat.reduceAdd, Nat.reduceMul, zero_add]
  · simp only [View.readAt_eq_ld, Memref.IsWhole.read_unread, read2, read3, I0, I6, pay34_val, v88_val, Matrix.cons_val_zero, Matrix.cons_val_one, Matrix.cons_val, zero_add]
    try simp only [dcb, xw, ey, ee, Nat.mul_zero, Nat.mul_one, Nat.reduceAdd, Nat.reduceMul, zero_add]

/-- The gradient of the scaled input. -/
theorem ar_110_val :
    kernelRun0_A.sl.r_110 (F := Ideal) c arg1 harg1 arg2 harg2 arg3 harg3 arg4 harg4 arg5 harg5 arg8 harg8 arg15 arg16 arg17 (I0 X) (I1 T) (I2 T) (I3 A) (I4 A) (I7 Y)
      = (M2 fun s j => dx X T Y noDS A s j : FVec Ideal S64x1024 .f32) := by
  simp only [kernelRun0_A.sl.r_110, r_14_val, av892_val, v893_val, pay193_val, dx, ee]

/-- The first half of the gradient of the log decay. -/
theorem ar_113_val :
    kernelRun0_A.sl.r_113 (F := Ideal) c arg1 harg1 arg2 harg2 arg3 harg3 arg4 harg4 arg5 harg5 arg7 harg7 arg8 harg8 arg15 arg17 arg18 arg19 (I0 X) (I1 T) (I2 T) (I3 A) (I4 A) (I6 S) (I7 Y)
      = (M2 fun t h => g1 X T Y S noDS A t h : FVec Ideal S64x16 .f32) := by
  simp only [kernelRun0_A.sl.r_113, kernelRun0_A.sl.r_111, kernelRun0_A.sl.r_112, kernelRun0_A.sl.v930, r_11_val, r_16_val, r_107_val, r_4_val, av892_val, av904_val, av916_val]
  refine (fall_val ..).trans ?_
  simp only [g1, fall, cols, xw, ee]

/-- The gradients of the inputs, of the write vectors and of the read vectors. -/
theorem out0_A_8_val :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M2 fun s j => o8 X T Y S noDS A D s j : FVec Ideal S64x1536 .f32) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  refine canon_holds _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _) ?_
  unfold kernelRun0_A
  dsimp only
  refine List.forall_mem_cons.mpr ⟨holds_unit _ ?_ fun s p _ hp => o8_x X T Y S noDS A D s p hp,
    List.forall_mem_cons.mpr ⟨holds_unit _ ?_ fun s p _ hp => o8_b X T Y S noDS A D 1 s p (by omega) hp,
    List.forall_mem_cons.mpr ⟨holds_unit _ ?_ fun s p _ hp => o8_c X T Y S noDS A D 1 s p hp,
    List.forall_mem_cons.mpr ⟨holds_unit _ ?_ fun s p _ hp => o8_b X T Y S noDS A D 0 s p (by omega) hp,
    List.forall_mem_cons.mpr ⟨holds_unit _ ?_ fun s p _ hp => o8_c X T Y S noDS A D 0 s p hp, fun _ h => absurd h List.not_mem_nil⟩⟩⟩⟩⟩
  · simp only [kernelRun0_A.sl.r_116, r_9_val, r_11_val, ar_110_val, View.readAt_eq_ld, Memref.IsWhole.read_unread, read2, read3, I0, I6, I5, pay205_val, Matrix.cons_val_zero, Matrix.cons_val_one, Matrix.cons_val, zero_add]
    try simp only [dcb, xw, ey, ee, Nat.mul_zero, Nat.mul_one, Nat.reduceAdd, Nat.reduceMul, zero_add]
  · simp only [r_16_val, r_65_val, v492_val, r_105_val, pay190_val, Matrix.cons_val_zero, Matrix.cons_val_one, Matrix.cons_val, zero_add]
    try simp only [dcb, xw, ey, ee, Nat.mul_zero, Nat.mul_one, Nat.reduceAdd, Nat.reduceMul, zero_add]
  · simp only [r_17_val, r_64_val, r_66_val, r_105_val, pay189_val, Matrix.cons_val_zero, Matrix.cons_val_one, Matrix.cons_val, zero_add]
    try simp only [dcb, xw, ey, ee, Nat.mul_zero, Nat.mul_one, Nat.reduceAdd, Nat.reduceMul, zero_add]
  · simp only [r_16_val, r_19_val, v88_val, r_60_val, pay108_val, Matrix.cons_val_zero, Matrix.cons_val_one, Matrix.cons_val, zero_add]
    try simp only [dcb, xw, ey, ee, Nat.mul_zero, Nat.mul_one, Nat.reduceAdd, Nat.reduceMul, zero_add]
  · simp only [r_17_val, r_18_val, r_20_val, r_60_val, pay107_val, Matrix.cons_val_zero, Matrix.cons_val_one, Matrix.cons_val, zero_add]
    try simp only [dcb, xw, ey, ee, Nat.mul_zero, Nat.mul_one, Nat.reduceAdd, Nat.reduceMul, zero_add]

/-- The first half of the gradient of the step size. -/
theorem out0_A_9_val :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M3 fun _ t h => o9 X T Y S noDS A t h : FVec Ideal S1x64x16 .f32) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  unfold kernelRun0_A
  dsimp only
  rw [View.canon_cons_unit_zero (by funext x; fin_cases x <;> rfl)]
  simp only [kernelRun0_A.sl.r_111, kernelRun0_A.sl.r_112, kernelRun0_A.sl.v930, r_2_val, r_10_val, ar_110_val, r_11_val, r_16_val, r_107_val, r_4_val, av892_val, av904_val, av916_val]
  refine (pay200_fall ..).trans ?_
  simp only [o9, g1, fall, cols, xw, ee]

/-- The second half of the gradient of the step size. -/
theorem out0_A_10_val :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M3 fun _ h t => o10 X T Y A h t : FVec Ideal S1x16x64 .f32) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  unfold kernelRun0_A
  dsimp only
  rw [View.canon_cons_unit_zero (by funext x; fin_cases x <;> rfl)]
  simp only [kernelRun0_A.sl.r_115, r_3_val, r_108_val, pay201_val]
  simp only [o10, g2, rows]

/-- The first half of the gradient of the decay rates, so far. -/
theorem out0_A_11_val :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M2 fun _ h => o11 X T Y S noDS A h : FVec Ideal S1x16 .f32) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  unfold kernelRun0_A
  dsimp only
  rw [View.canon_cons_unit_zero (by funext x; fin_cases x <;> rfl)]
  rw [kernelRun0_A.sl.v981, kernelRun0_A.sl.H11_1, View.readCov_fill _ _ _ _ _ (fun x => by fin_cases x <;> rfl), k0_pay3, broadcast_zero, read2]
  simp only [r_val, ar_113_val, pay203_val, o11, zero_add]

/-- The second half of the gradient of the decay rates, so far. -/
theorem out0_A_12_val :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M2 fun h _ => o12 X T Y A h : FVec Ideal S16x1 .f32) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  unfold kernelRun0_A
  dsimp only
  rw [View.canon_cons_unit_zero (by funext x; fin_cases x <;> rfl)]
  rw [kernelRun0_A.sl.v988, kernelRun0_A.sl.H12_1, View.readCov_fill _ _ _ _ _ (fun x => by fin_cases x <;> rfl), k0_pay4, broadcast_zero, read2]
  simp only [kernelRun0_A.sl.r_114, r_1_val, r_108_val, pay199_val, pay204_val, o12, g2, rows, zero_add]

/-- The gradient of the skip, so far. -/
theorem out0_A_13_val :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M2 fun _ j => o13 X Y j : FVec Ideal S1x1024 .f32) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  unfold kernelRun0_A
  dsimp only
  rw [View.canon_cons_unit_zero (by funext x; fin_cases x <;> rfl)]
  rw [kernelRun0_A.sl.v1002, kernelRun0_A.sl.H13_1, View.readCov_fill _ _ _ _ _ (fun x => by fin_cases x <;> rfl), k0_pay5, broadcast_zero, read2]
  simp only [r_10_val, r_11_val, pay1_val, o13, zero_add]

/-- The gradient of the state the chunk began with. -/
theorem sout0_A_0_val :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y)
      = (M2 fun n q => oS X T Y noDS A n q : FVec Ideal S256x512 .f32) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _)]
  unfold kernelRun0_A
  dsimp only
  rw [kernelRun0_A.sl.HS0_2]
  refine canon_holds_first (P := [_, _]) (R := _) _ (View.cover_of_tiledL _ ![128, 512] (by sl_kernel_rfl)) ?_
  refine List.forall_mem_cons.mpr ⟨holds_unit _ ?_ fun n p hn _ => oS_at X T Y noDS A 1 n p hn,
    List.forall_mem_cons.mpr ⟨holds_unit _ ?_ fun n p hn _ => oS_at X T Y noDS A 0 n p hn, fun _ h => absurd h List.not_mem_nil⟩⟩
  · simp only [kernelRun0_A.sl.r_109, r_15_val, r_17_val, r_65_val, v492_val, pay192_val, Matrix.cons_val_zero, Matrix.cons_val_one, Matrix.cons_val, zero_add]
    try simp only [dcb, xw, ey, ee, Nat.mul_zero, Nat.mul_one, Nat.reduceAdd, Nat.reduceMul, zero_add]
  · simp only [r_15_val, r_17_val, r_19_val, v88_val, pay109_val, Matrix.cons_val_zero, Matrix.cons_val_one, Matrix.cons_val, zero_add]
    try simp only [dcb, xw, ey, ee, Nat.mul_zero, Nat.mul_one, Nat.reduceAdd, Nat.reduceMul, zero_add]

end Cert.Lift
-- ==== Proof.ChunkB.lean ====
module

public import proofs.«01_k».proof.Proof.Chunk
public import proofs.«01_k».proof.Proof.Gen.KernelIdeal.Frame
public import Idealize.ShloMosaic.Lib.Pipeline.ReadBack

@[expose] public section

set_option maxRecDepth 16384

/-! What the kernel leaves after every later chunk it visits. -/

noncomputable section

namespace Cert.Lift

open Idealize.ShloMosaic Idealize.ShloMosaic.ValueIdx Idealize.ShloMosaic.Tactic
open Cert.KernelIdeal Cert.KernelIdeal.Gen

variable (c : Dev nD) (i : grid0.Coords)
  (arg1 : Memref sig .tc .vmem S64x1536 .f32) (harg1 : arg1.IsWhole)
  (arg2 : Memref sig .tc .vmem S1x64x16 .f32) (harg2 : arg2.IsWhole)
  (arg3 : Memref sig .tc .vmem S1x16x64 .f32) (harg3 : arg3.IsWhole)
  (arg4 : Memref sig .tc .vmem S1x16 .f32) (harg4 : arg4.IsWhole)
  (arg5 : Memref sig .tc .vmem S16x1 .f32) (harg5 : arg5.IsWhole)
  (arg6 : Memref sig .tc .vmem S1x1024 .f32) (harg6 : arg6.IsWhole)
  (arg7 : Memref sig .tc .vmem S1x256x512 .f32) (harg7 : arg7.IsWhole)
  (arg8 : Memref sig .tc .vmem S64x1024 .f32) (harg8 : arg8.IsWhole)
  (arg9 : Memref sig .tc .vmem S64x1536 .f32) (harg9 : arg9.IsWhole)
  (arg10 : Memref sig .tc .vmem S1x64x16 .f32) (harg10 : arg10.IsWhole)
  (arg11 : Memref sig .tc .vmem S1x16x64 .f32) (harg11 : arg11.IsWhole)
  (arg12 : Memref sig .tc .vmem S1x16 .f32) (harg12 : arg12.IsWhole)
  (arg13 : Memref sig .tc .vmem S16x1 .f32) (harg13 : arg13.IsWhole)
  (arg14 : Memref sig .tc .vmem S1x1024 .f32) (harg14 : arg14.IsWhole)
  (arg15 : Memref sig .tc .vmem S256x512 .f32) (harg15 : arg15.IsWhole)
  (arg16 : Memref sig .tc .vmem S64x1024 .f32) (harg16 : arg16.IsWhole)
  (arg17 : Memref sig .tc .vmem S64x1024 .f32) (harg17 : arg17.IsWhole)
  (arg18 : Memref sig .tc .vmem S64x1024 .f32) (harg18 : arg18.IsWhole)
  (arg19 : Memref sig .tc .vmem S8x1024 .f32) (harg19 : arg19.IsWhole)
  (X T Y S : ℕ → ℕ → ℝ) (A D : ℕ → ℝ)

variable (hc0 : ¬cond0_0 i) (DS : ℕ → ℕ → ℝ) (ga gb gd : ℕ → ℝ)

theorem br_val :
    kernelRun0_B.sl.r (F := Ideal) c arg2 harg2 (I1 T)
      = (M2 fun t h => T t h : FVec Ideal S64x16 .f32) :=
  r_val ..

theorem br_1_val :
    kernelRun0_B.sl.r_1 (F := Ideal) c arg3 harg3 (I2 T)
      = (M2 fun h t => T t h : FVec Ideal S16x64 .f32) :=
  r_1_val ..

theorem br_2_val :
    kernelRun0_B.sl.r_2 (F := Ideal) c arg4 harg4 (I3 A)
      = (M2 fun _ h => A h : FVec Ideal S1x16 .f32) :=
  r_2_val ..

theorem br_3_val :
    kernelRun0_B.sl.r_3 (F := Ideal) c arg5 harg5 (I4 A)
      = (M2 fun h _ => A h : FVec Ideal S16x1 .f32) :=
  r_3_val ..

theorem br_4_val :
    kernelRun0_B.sl.r_4 (F := Ideal) c arg2 harg2 arg4 harg4 (I1 T) (I3 A)
      = (M2 fun t h => ac T A t h : FVec Ideal S64x16 .f32) :=
  r_4_val ..

theorem br_9_val :
    kernelRun0_B.sl.r_9 (F := Ideal) c arg2 harg2 (I1 T)
      = (M2 fun t j => T t (j / 64) : FVec Ideal S64x1024 .f32) :=
  r_9_val ..

theorem br_10_val :
    kernelRun0_B.sl.r_10 (F := Ideal) c arg1 harg1 (I0 X)
      = (M2 fun t j => X t j : FVec Ideal S64x1024 .f32) :=
  r_10_val ..

theorem br_11_val :
    kernelRun0_B.sl.r_11 (F := Ideal) c arg8 harg8 (I7 Y)
      = (M2 fun t j => Y t j : FVec Ideal S64x1024 .f32) :=
  r_11_val ..

theorem br_13_val :
    kernelRun0_B.sl.r_13 (F := Ideal) c arg2 harg2 arg4 harg4 (I1 T) (I3 A)
      = (M2 fun t j => Real.exp (ac T A t (j / 64)) : FVec Ideal S64x1024 .f32) :=
  r_13_val ..

theorem br_14_val :
    kernelRun0_B.sl.r_14 (F := Ideal) c arg2 harg2 arg4 harg4 (I1 T) (I3 A)
      = (M2 fun t j => Real.exp (ac T A 63 (j / 64) - ac T A t (j / 64)) : FVec Ideal S64x1024 .f32) :=
  r_14_val ..

theorem br_15_val :
    kernelRun0_B.sl.r_15 (F := Ideal) c arg2 harg2 arg4 harg4 (I1 T) (I3 A)
      = (M2 fun _ j => Real.exp (ac T A 63 (j / 64)) : FVec Ideal S1x1024 .f32) :=
  r_15_val ..

theorem br_16_val :
    kernelRun0_B.sl.r_16 (F := Ideal) c arg1 harg1 arg2 harg2 arg4 harg4 (I0 X) (I1 T) (I3 A)
      = (M2 fun t j => X t j * T t (j / 64) * Real.exp (ac T A 63 (j / 64) - ac T A t (j / 64)) : FVec Ideal S64x1024 .f32) :=
  r_16_val ..

theorem br_17_val :
    kernelRun0_B.sl.r_17 (F := Ideal) c arg2 harg2 arg4 harg4 arg8 harg8 (I1 T) (I3 A) (I7 Y)
      = (M2 fun t j => Real.exp (ac T A t (j / 64)) * Y t j : FVec Ideal S64x1024 .f32) :=
  r_17_val ..

theorem br_18_val :
    kernelRun0_B.sl.r_18 (F := Ideal) c arg1 harg1 (I0 X)
      = (M2 fun t n => X t (1024 + n) : FVec Ideal S64x128 .f32) :=
  r_18_val ..

theorem br_19_val :
    kernelRun0_B.sl.r_19 (F := Ideal) c arg1 harg1 (I0 X)
      = (M2 fun t n => X t (1280 + n) : FVec Ideal S64x128 .f32) :=
  r_19_val ..

theorem br_20_val :
    kernelRun0_B.sl.r_20 (F := Ideal) c arg7 harg7 (I6 S)
      = (M2 fun n q => S n q : FVec Ideal S128x512 .f32) :=
  r_20_val ..

theorem br_61_val :
    kernelRun0_B.sl.r_61 (F := Ideal) c arg1 harg1 arg2 harg2 arg3 harg3 arg4 harg4 arg5 harg5 arg8 harg8 (I0 X) (I1 T) (I2 T) (I3 A) (I4 A) (I7 Y)
      = (M2 fun t s => ∑ h ∈ Finset.range 8, dec T A h t s * tt X T Y h t s : FVec Ideal S64x64 .f32) :=
  r_60_val ..

theorem br_65_val :
    kernelRun0_B.sl.r_65 (F := Ideal) c arg1 harg1 (I0 X)
      = (M2 fun t n => X t (1152 + n) : FVec Ideal S64x128 .f32) :=
  r_64_val ..

theorem br_66_val :
    kernelRun0_B.sl.r_66 (F := Ideal) c arg1 harg1 (I0 X)
      = (M2 fun t n => X t (1408 + n) : FVec Ideal S64x128 .f32) :=
  r_65_val ..

theorem br_67_val :
    kernelRun0_B.sl.r_67 (F := Ideal) c arg7 harg7 (I6 S)
      = (M2 fun n q => S (128 + n) q : FVec Ideal S128x512 .f32) :=
  r_66_val ..

theorem br_106_val :
    kernelRun0_B.sl.r_106 (F := Ideal) c arg1 harg1 arg2 harg2 arg3 harg3 arg4 harg4 arg5 harg5 arg8 harg8 (I0 X) (I1 T) (I2 T) (I3 A) (I4 A) (I7 Y)
      = (M2 fun t s => ∑ h ∈ Finset.range 8, dec T A (8 + h) t s * tt X T Y (8 + h) t s : FVec Ideal S64x64 .f32) :=
  r_105_val ..

theorem br_108_val :
    kernelRun0_B.sl.r_108 (F := Ideal) c arg1 harg1 arg2 harg2 arg3 harg3 arg4 harg4 arg5 harg5 arg8 harg8 (I0 X) (I1 T) (I2 T) (I3 A) (I4 A) (I7 Y)
      = (M2 fun t j => ∑ h ∈ Finset.range 16, if j = h then ∑ s ∈ Finset.range 64, tm X T Y A h t s else 0 : FVec Ideal S64x16 .f32) :=
  r_107_val ..

theorem br_109_val :
    kernelRun0_B.sl.r_109 (F := Ideal) c arg1 harg1 arg2 harg2 arg3 harg3 arg4 harg4 arg5 harg5 arg8 harg8 (I0 X) (I1 T) (I2 T) (I3 A) (I4 A) (I7 Y)
      = (M2 fun j s => ∑ h ∈ Finset.range 16, -(if j = h then ∑ t ∈ Finset.range 64, tm X T Y A h t s else 0) : FVec Ideal S16x64 .f32) :=
  r_108_val ..

theorem bv893_val :
    kernelRun0_B.sl.v893 (F := Ideal) c arg1 harg1 arg2 harg2 arg3 harg3 arg4 harg4 arg5 harg5 arg8 harg8 arg16 (I0 X) (I1 T) (I2 T) (I3 A) (I4 A) (I7 Y)
      = (M2 fun s j => own X T Y A s j : FVec Ideal S64x1024 .f32) :=
  v893_val ..

theorem br_21_val :
    kernelRun0_B.sl.r_21 (F := Ideal) c arg15 harg15 (M2 (φ := .f32) DS)
      = (M2 fun n q => DS n q : FVec Ideal S128x512 .f32) := by
  unfold kernelRun0_B.sl.r_21
  rw [View.readAt_eq_ld, Memref.IsWhole.read_unread, read2]
  simp only [zero_add]

theorem bv492_val :
    kernelRun0_B.sl.v492 (F := Ideal) c arg15 harg15 (M2 (φ := .f32) DS)
      = (M2 fun n q => DS (128 + n) q : FVec Ideal S128x512 .f32) := by
  unfold kernelRun0_B.sl.v492
  rw [View.readAt_eq_ld, Memref.IsWhole.read_unread, read2]
  simp only [zero_add]

/-- The products of the incoming gradient with the write vectors. -/
theorem bv892_val :
    kernelRun0_B.sl.v892 (F := Ideal) c arg1 harg1 arg15 harg15 arg17 (I0 X) (M2 (φ := .f32) DS)
      = (M2 fun s j => zz X DS s j : FVec Ideal S64x1024 .f32) := by
  unfold kernelRun0_B.sl.v892
  refine load_holds (fun s j => zz X DS s j) (View.cover_of_tiledL _ ![64, 512] (by sl_kernel_rfl)) ?_
  unfold kernelRun0_B.sl.HS2_2
  refine List.forall_mem_cons.mpr ⟨holds_unit _ ?_ fun s p _ hp => zz_at X DS 1 s p hp,
    List.forall_mem_cons.mpr ⟨holds_unit _ ?_ fun s p _ hp => zz_at X DS 0 s p hp, fun _ h => absurd h List.not_mem_nil⟩⟩
  · simp only [View.readAt_eq_ld, Memref.IsWhole.read_unread, read2, read3, I0, I6, pay112_val, bv492_val, Matrix.cons_val_zero, Matrix.cons_val_one, Matrix.cons_val, zero_add]
    try simp only [dcb, xw, ey, ee, Nat.mul_zero, Nat.mul_one, Nat.reduceAdd, Nat.reduceMul, zero_add]
  · simp only [View.readAt_eq_ld, Memref.IsWhole.read_unread, read2, read3, I0, I6, br_18_val, pay32_val, br_21_val, Matrix.cons_val_zero, Matrix.cons_val_one, Matrix.cons_val, zero_add]
    try simp only [dcb, xw, ey, ee, Nat.mul_zero, Nat.mul_one, Nat.reduceAdd, Nat.reduceMul, zero_add]

/-- The part of the output that comes from the state. -/
theorem bv904_val :
    kernelRun0_B.sl.v904 (F := Ideal) c arg1 harg1 arg2 harg2 arg4 harg4 arg7 harg7 arg18 (I0 X) (I1 T) (I3 A) (I6 S)
      = (M2 fun s j => yo X T S A s j : FVec Ideal S64x1024 .f32) := by
  unfold kernelRun0_B.sl.v904
  refine load_holds (fun s j => yo X T S A s j) (View.cover_of_tiledL _ ![64, 512] (by sl_kernel_rfl)) ?_
  unfold kernelRun0_B.sl.HS3_2
  refine List.forall_mem_cons.mpr ⟨holds_unit _ ?_ fun s p _ hp => yo_at X T S A 1 s p hp,
    List.forall_mem_cons.mpr ⟨holds_unit _ ?_ fun s p _ hp => yo_at X T S A 0 s p hp, fun _ h => absurd h List.not_mem_nil⟩⟩
  · simp only [View.readAt_eq_ld, Memref.IsWhole.read_unread, read2, read3, I0, I6, br_13_val, pay113_val, Matrix.cons_val_zero, Matrix.cons_val_one, Matrix.cons_val, zero_add]
    try simp only [dcb, xw, ey, ee, Nat.mul_zero, Nat.mul_one, Nat.reduceAdd, Nat.reduceMul, zero_add]
  · simp only [View.readAt_eq_ld, Memref.IsWhole.read_unread, read2, read3, I0, I6, br_13_val, br_19_val, pay33_val, Matrix.cons_val_zero, Matrix.cons_val_one, Matrix.cons_val, zero_add]
    try simp only [dcb, xw, ey, ee, Nat.mul_zero, Nat.mul_one, Nat.reduceAdd, Nat.reduceMul, zero_add]

/-- The incoming gradient against the state. -/
theorem bv916_val :
    kernelRun0_B.sl.v916 (F := Ideal) c arg7 harg7 arg15 harg15 arg19 (I6 S) (M2 (φ := .f32) DS)
      = (M2 fun s j => sd S DS j : FVec Ideal S8x1024 .f32) := by
  unfold kernelRun0_B.sl.v916
  refine load_holds (fun s j => sd S DS j) (View.cover_of_tiledL _ ![8, 512] (by sl_kernel_rfl)) ?_
  unfold kernelRun0_B.sl.HS4_2
  refine List.forall_mem_cons.mpr ⟨holds_unit _ ?_ fun s p _ hp => sd_at S DS 1 p hp,
    List.forall_mem_cons.mpr ⟨holds_unit _ ?_ fun s p _ hp => sd_at S DS 0 p hp, fun _ h => absurd h List.not_mem_nil⟩⟩
  · simp only [View.readAt_eq_ld, Memref.IsWhole.read_unread, read2, read3, I0, I6, pay114_val, bv492_val, Matrix.cons_val_zero, Matrix.cons_val_one, Matrix.cons_val, zero_add]
    try simp only [dcb, xw, ey, ee, Nat.mul_zero, Nat.mul_one, Nat.reduceAdd, Nat.reduceMul, zero_add]
  · simp only [View.readAt_eq_ld, Memref.IsWhole.read_unread, read2, read3, I0, I6, pay34_val, br_21_val, Matrix.cons_val_zero, Matrix.cons_val_one, Matrix.cons_val, zero_add]
    try simp only [dcb, xw, ey, ee, Nat.mul_zero, Nat.mul_one, Nat.reduceAdd, Nat.reduceMul, zero_add]

/-- The gradient of the scaled input. -/
theorem br_111_val :
    kernelRun0_B.sl.r_111 (F := Ideal) c arg1 harg1 arg2 harg2 arg3 harg3 arg4 harg4 arg5 harg5 arg8 harg8 arg15 harg15 arg16 arg17 (I0 X) (I1 T) (I2 T) (I3 A) (I4 A) (I7 Y) (M2 (φ := .f32) DS)
      = (M2 fun s j => dx X T Y DS A s j : FVec Ideal S64x1024 .f32) := by
  simp only [kernelRun0_B.sl.r_111, br_14_val, bv892_val, bv893_val, pay193_val, dx, ee]

/-- The first half of the gradient of the log decay. -/
theorem br_114_val :
    kernelRun0_B.sl.r_114 (F := Ideal) c arg1 harg1 arg2 harg2 arg3 harg3 arg4 harg4 arg5 harg5 arg7 harg7 arg8 harg8 arg15 harg15 arg17 arg18 arg19 (I0 X) (I1 T) (I2 T) (I3 A) (I4 A) (I6 S) (I7 Y) (M2 (φ := .f32) DS)
      = (M2 fun t h => g1 X T Y S DS A t h : FVec Ideal S64x16 .f32) := by
  simp only [kernelRun0_B.sl.r_114, kernelRun0_B.sl.r_112, kernelRun0_B.sl.r_113, kernelRun0_B.sl.v930, br_11_val, br_16_val, br_108_val, br_4_val, bv892_val, bv904_val, bv916_val]
  refine (fall_val ..).trans ?_
  simp only [g1, fall, cols, xw, ee]

/-- The gradients of the inputs, of the write vectors and of the read vectors. -/
theorem out0_B_8_val :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M2 fun s j => o8 X T Y S DS A D s j : FVec Ideal S64x1536 .f32) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  refine canon_holds _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _) ?_
  unfold kernelRun0_B
  dsimp only
  refine List.forall_mem_cons.mpr ⟨holds_unit _ ?_ fun s p _ hp => o8_x X T Y S DS A D s p hp,
    List.forall_mem_cons.mpr ⟨holds_unit _ ?_ fun s p _ hp => o8_b X T Y S DS A D 1 s p (by omega) hp,
    List.forall_mem_cons.mpr ⟨holds_unit _ ?_ fun s p _ hp => o8_c X T Y S DS A D 1 s p hp,
    List.forall_mem_cons.mpr ⟨holds_unit _ ?_ fun s p _ hp => o8_b X T Y S DS A D 0 s p (by omega) hp,
    List.forall_mem_cons.mpr ⟨holds_unit _ ?_ fun s p _ hp => o8_c X T Y S DS A D 0 s p hp, fun _ h => absurd h List.not_mem_nil⟩⟩⟩⟩⟩
  · simp only [kernelRun0_B.sl.r_117, br_9_val, br_11_val, br_111_val, View.readAt_eq_ld, Memref.IsWhole.read_unread, read2, read3, I0, I6, I5, pay205_val, Matrix.cons_val_zero, Matrix.cons_val_one, Matrix.cons_val, zero_add]
    try simp only [dcb, xw, ey, ee, Nat.mul_zero, Nat.mul_one, Nat.reduceAdd, Nat.reduceMul, zero_add]
  · simp only [br_16_val, br_66_val, bv492_val, br_106_val, pay190_val, Matrix.cons_val_zero, Matrix.cons_val_one, Matrix.cons_val, zero_add]
    try simp only [dcb, xw, ey, ee, Nat.mul_zero, Nat.mul_one, Nat.reduceAdd, Nat.reduceMul, zero_add]
  · simp only [br_17_val, br_65_val, br_67_val, br_106_val, pay189_val, Matrix.cons_val_zero, Matrix.cons_val_one, Matrix.cons_val, zero_add]
    try simp only [dcb, xw, ey, ee, Nat.mul_zero, Nat.mul_one, Nat.reduceAdd, Nat.reduceMul, zero_add]
  · simp only [br_16_val, br_19_val, br_21_val, br_61_val, pay108_val, Matrix.cons_val_zero, Matrix.cons_val_one, Matrix.cons_val, zero_add]
    try simp only [dcb, xw, ey, ee, Nat.mul_zero, Nat.mul_one, Nat.reduceAdd, Nat.reduceMul, zero_add]
  · simp only [br_17_val, br_18_val, br_20_val, br_61_val, pay107_val, Matrix.cons_val_zero, Matrix.cons_val_one, Matrix.cons_val, zero_add]
    try simp only [dcb, xw, ey, ee, Nat.mul_zero, Nat.mul_one, Nat.reduceAdd, Nat.reduceMul, zero_add]

/-- The first half of the gradient of the step size. -/
theorem out0_B_9_val :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M3 fun _ t h => o9 X T Y S DS A t h : FVec Ideal S1x64x16 .f32) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  unfold kernelRun0_B
  dsimp only
  rw [View.canon_cons_unit_zero (by funext x; fin_cases x <;> rfl)]
  simp only [kernelRun0_B.sl.r_112, kernelRun0_B.sl.r_113, kernelRun0_B.sl.v930, br_2_val, br_10_val, br_111_val, br_11_val, br_16_val, br_108_val, br_4_val, bv892_val, bv904_val, bv916_val]
  refine (pay200_fall ..).trans ?_
  simp only [o9, g1, fall, cols, xw, ee]

/-- The second half of the gradient of the step size. -/
theorem out0_B_10_val :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M3 fun _ h t => o10 X T Y A h t : FVec Ideal S1x16x64 .f32) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  unfold kernelRun0_B
  dsimp only
  rw [View.canon_cons_unit_zero (by funext x; fin_cases x <;> rfl)]
  simp only [kernelRun0_B.sl.r_116, br_3_val, br_109_val, pay201_val]
  simp only [o10, g2, rows]

/-- The first half of the gradient of the decay rates, so far. -/
theorem out0_B_11_val :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M2 fun _ h => ga h + o11 X T Y S DS A h : FVec Ideal S1x16 .f32) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  unfold kernelRun0_B
  dsimp only
  rw [View.canon_cons_unit_zero (by funext x; fin_cases x <;> rfl)]
  simp only [View.readAt_eq_ld, Memref.IsWhole.read_unread, read2, br_val, br_114_val, pay203_val, o11, zero_add]

/-- The second half of the gradient of the decay rates, so far. -/
theorem out0_B_12_val :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M2 fun h _ => gb h + o12 X T Y A h : FVec Ideal S16x1 .f32) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  unfold kernelRun0_B
  dsimp only
  rw [View.canon_cons_unit_zero (by funext x; fin_cases x <;> rfl)]
  simp only [View.readAt_eq_ld, Memref.IsWhole.read_unread, read2, kernelRun0_B.sl.r_115, br_1_val, br_109_val, pay199_val, pay204_val, o12, g2, rows, zero_add]

/-- The gradient of the skip, so far. -/
theorem out0_B_13_val :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M2 fun _ j => gd j + o13 X Y j : FVec Ideal S1x1024 .f32) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  unfold kernelRun0_B
  dsimp only
  rw [View.canon_cons_unit_zero (by funext x; fin_cases x <;> rfl)]
  simp only [View.readAt_eq_ld, Memref.IsWhole.read_unread, read2, br_10_val, br_11_val, pay1_val, o13, zero_add]

/-- The gradient of the state the chunk began with. -/
theorem sout0_B_0_val :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (I0 X) (I1 T) (I2 T) (I3 A) (I4 A) (I5 D) (I6 S) (I7 Y) (M2 (φ := .f32) fun _ h => ga h) (M2 (φ := .f32) fun h _ => gb h) (M2 (φ := .f32) fun _ j => gd j) (M2 (φ := .f32) DS)
      = (M2 fun n q => oS X T Y DS A n q : FVec Ideal S256x512 .f32) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _)]
  refine canon_holds _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ _ _ _ _ _ _ _ _ _) ?_
  unfold kernelRun0_B
  dsimp only
  refine List.forall_mem_cons.mpr ⟨holds_unit _ ?_ fun n p hn _ => oS_at X T Y DS A 1 n p hn,
    List.forall_mem_cons.mpr ⟨holds_unit _ ?_ fun n p hn _ => oS_at X T Y DS A 0 n p hn, fun _ h => absurd h List.not_mem_nil⟩⟩
  · simp only [kernelRun0_B.sl.r_110, br_15_val, br_17_val, br_66_val, bv492_val, pay192_val, Matrix.cons_val_zero, Matrix.cons_val_one, Matrix.cons_val, zero_add]
    try simp only [dcb, xw, ey, ee, Nat.mul_zero, Nat.mul_one, Nat.reduceAdd, Nat.reduceMul, zero_add]
  · simp only [br_15_val, br_17_val, br_19_val, br_21_val, pay109_val, Matrix.cons_val_zero, Matrix.cons_val_one, Matrix.cons_val, zero_add]
    try simp only [dcb, xw, ey, ee, Nat.mul_zero, Nat.mul_one, Nat.reduceAdd, Nat.reduceMul, zero_add]

end Cert.Lift
-- ==== Proof.Math.lean ====
module

public import proofs.«01_k».proof.Proof.Chunk

@[expose] public section

/-! The walk over the chunks and the sum over all pairs of positions are the same real numbers. -/

noncomputable section

namespace Cert.Lift

/-- The rows of chunk `C`. -/
def sh (f : ℕ → ℕ → ℝ) (C i j : ℕ) : ℝ := f (64 * C + i) j

variable (XB DT DY : ℕ → ℕ → ℝ) (a dk : ℕ → ℝ)

/-- The gradient of the state, as the chunk visited at point `n` receives it. -/
def cdS : ℕ → ℕ → ℕ → ℝ
  | 0 => noDS
  | n + 1 => oS (sh XB (33 - n)) (sh DT (33 - n)) (sh DY (33 - n)) (cdS n) a

/-- The logarithm of the decay over the first `n` positions. -/
def KK (n h : ℕ) : ℝ := ∑ k ∈ Finset.range n, DT k h * a h

/-- The decay from position `s` to position `t`. -/
def EE (h t s : ℕ) : ℝ := Real.exp (KK DT a (t + 1) h - KK DT a (s + 1) h)

/-- The same, nothing where `s` comes after `t`. -/
def rE (h t s : ℕ) : ℝ := if s ≤ t then EE DT a h t s else 0

/-- The input scaled by its step. -/
def xdt (s j : ℕ) : ℝ := XB s j * DT s (j / 64)

/-- The product of the output gradient with the scaled input, over one head's lanes. -/
def TT (h t s : ℕ) : ℝ := ∑ p ∈ Finset.range 64, DY t (64 * h + p) * xdt XB DT s (64 * h + p)

/-- The term of one pair of positions in the gradient of the decays. -/
def PP (h t s : ℕ) : ℝ := cb XB (h / 8) t s * rE DT a h t s * TT XB DT DY h t s

/-- The gradient of the scaled input. -/
def rdx (s j : ℕ) : ℝ := ∑ t ∈ Finset.range 2176, cb XB (j / 64 / 8) t s * rE DT a (j / 64) t s * DY t j

/-- The gradient of the product of the read and write vectors. -/
def rcb (g t s : ℕ) : ℝ := ∑ r ∈ Finset.range 8, rE DT a (8 * g + r) t s * TT XB DT DY (8 * g + r) t s

/-- The gradient of the decay's running sum. -/
def dcum (h u : ℕ) : ℝ := ∑ s ∈ Finset.range 2176, PP XB DT DY a h u s - ∑ t ∈ Finset.range 2176, PP XB DT DY a h t u

/-- The gradient of the decay's logarithm. -/
def RR (k h : ℕ) : ℝ := ∑ u ∈ Finset.Ico k 2176, dcum XB DT DY a h u

/-- The state after the first `U` positions. -/
def Sst (U n q : ℕ) : ℝ := ∑ s ∈ Finset.range U, XB s (1024 + n)
  * (Real.exp (KK DT a U ((512 * (n / 128) + q) / 64) - KK DT a (s + 1) ((512 * (n / 128) + q) / 64)) * xdt XB DT s (512 * (n / 128) + q))

/-- The gradient of the state after the first `U` positions. -/
def Wst (U n q : ℕ) : ℝ := ∑ t ∈ Finset.Ico U 2176, XB t (1280 + n)
  * (Real.exp (KK DT a (t + 1) ((512 * (n / 128) + q) / 64) - KK DT a U ((512 * (n / 128) + q) / 64)) * DY t (512 * (n / 128) + q))

/-! ### Sums over positions, split at a chunk -/

theorem chunk_sum (f : ℕ → ℝ) (C : ℕ) :
    ∑ i ∈ Finset.range 64, f (64 * C + i) = ∑ t ∈ Finset.Ico (64 * C) (64 * C + 64), f t := by
  rw [Finset.sum_Ico_eq_sum_range, Nat.add_sub_cancel_left]

theorem split_sum (f : ℕ → ℝ) (C : ℕ) (hC : C < 34) :
    ∑ t ∈ Finset.range 2176, f t = ∑ t ∈ Finset.range (64 * C), f t + ∑ i ∈ Finset.range 64, f (64 * C + i)
      + ∑ t ∈ Finset.Ico (64 * C + 64) 2176, f t := by
  rw [chunk_sum, Finset.range_eq_Ico, Finset.range_eq_Ico, Finset.sum_Ico_consecutive _ (by omega) (by omega),
    Finset.sum_Ico_consecutive _ (by omega) (by omega)]

theorem tail_sum (f : ℕ → ℝ) (C i : ℕ) (hC : C < 34) (hi : i ≤ 64) :
    ∑ t ∈ Finset.Ico (64 * C + i) 2176, f t = ∑ k ∈ Finset.Ico i 64, f (64 * C + k) + ∑ t ∈ Finset.Ico (64 * C + 64) 2176, f t := by
  rw [Finset.sum_Ico_add f i 64 (64 * C), Nat.add_comm i, Nat.add_comm 64, Finset.sum_Ico_consecutive _ (by omega) (by omega)]

theorem all_chunks (f : ℕ → ℝ) (N : ℕ) :
    ∑ C ∈ Finset.range N, ∑ i ∈ Finset.range 64, f (64 * C + i) = ∑ t ∈ Finset.range (64 * N), f t := by
  induction N with
  | zero => simp
  | succ N ih => rw [Finset.sum_range_succ, ih, Nat.mul_succ, Finset.sum_range_add]

theorem reverse_chunks (f : ℕ → ℝ) : ∑ k ∈ Finset.range 34, f (33 - k) = ∑ C ∈ Finset.range 34, f C :=
  Finset.sum_range_reflect f 34

/-- The lanes of one state group, head by head. -/
theorem heads_sum (f : ℕ → ℝ) (g : ℕ) :
    ∑ q ∈ Finset.range 512, f (512 * g + q) = ∑ r ∈ Finset.range 8, ∑ p ∈ Finset.range 64, f (64 * (8 * g + r) + p) := by
  have : ∀ N, ∑ r ∈ Finset.range N, ∑ p ∈ Finset.range 64, f (64 * (8 * g + r) + p) = ∑ q ∈ Finset.range (64 * N), f (512 * g + q) := by
    intro N
    induction N with
    | zero => simp
    | succ N ih =>
      rw [Finset.sum_range_succ, ih, Nat.mul_succ, Finset.sum_range_add]
      congr 1
      refine Finset.sum_congr rfl fun p _ => ?_
      congr 1
      omega
  rw [this]

theorem exp_cut (x y z : ℝ) : Real.exp (x - z) = Real.exp (x - y) * Real.exp (y - z) := by
  rw [← Real.exp_add, sub_add_sub_cancel]

/-! ### One chunk, in the terms of the whole sequence -/

theorem ac_sh (C i h : ℕ) : ac (sh DT C) a i h = KK DT a (64 * C + i + 1) h - KK DT a (64 * C) h := by
  rw [ac, KK, KK, Nat.add_assoc, Finset.sum_range_add (fun k => DT k h * a h) (64 * C) (i + 1), add_sub_cancel_left]
  rfl

theorem KK_anti (hn : ∀ k h, DT k h * a h ≤ 0) (h : ℕ) {s t : ℕ} (hst : s ≤ t) : KK DT a t h ≤ KK DT a s h := by
  obtain ⟨d, rfl⟩ := Nat.exists_eq_add_of_le hst
  rw [KK, Finset.sum_range_add]
  have := Finset.sum_nonpos (s := Finset.range d) fun k _ => hn (s + k) h
  simp only [KK]
  linarith

theorem dec_sh (hn : ∀ k h, DT k h * a h ≤ 0) (C h i k : ℕ) (hk : k < 64) :
    dec (sh DT C) a h i k = rE DT a h (64 * C + i) (64 * C + k) := by
  rw [dec_lane _ _ _ _ _ hk, rE, EE]
  by_cases hc : k ≤ i
  · rw [if_pos hc, if_pos (by omega), ac_sh, ac_sh]
    congr 1
    rw [sub_sub_sub_cancel_right]
    exact min_eq_left (sub_nonpos.mpr (KK_anti DT a hn h (by omega)))
  · rw [if_neg hc, if_neg (by omega)]

theorem cb_sh (C g i k : ℕ) : cb (sh XB C) g i k = cb XB g (64 * C + i) (64 * C + k) := rfl

theorem tt_sh (C h i k : ℕ) : tt (sh XB C) (sh DT C) (sh DY C) h i k = TT XB DT DY h (64 * C + i) (64 * C + k) := rfl

theorem tm_sh (hn : ∀ k h, DT k h * a h ≤ 0) (C h i k : ℕ) (hk : k < 64) :
    tm (sh XB C) (sh DT C) (sh DY C) a h i k = PP XB DT DY a h (64 * C + i) (64 * C + k) := by
  rw [tm, dec_sh DT a hn _ _ _ _ hk, cb_sh, tt_sh, PP]

theorem own_sh (hn : ∀ k h, DT k h * a h ≤ 0) (C s j : ℕ) (hs : s < 64) :
    own (sh XB C) (sh DT C) (sh DY C) a s j
      = ∑ i ∈ Finset.range 64, cb XB (j / 64 / 8) (64 * C + i) (64 * C + s) * rE DT a (j / 64) (64 * C + i) (64 * C + s) * DY (64 * C + i) j := by
  rw [own]
  refine Finset.sum_congr rfl fun i _ => ?_
  rw [dec_sh DT a hn _ _ _ _ hs, cb_sh, sh]

theorem ee_sh (C i j : ℕ) : ee (sh DT C) a i j = Real.exp (KK DT a (64 * C + 64) (j / 64) - KK DT a (64 * C + i + 1) (j / 64)) := by
  rw [ee, ac_sh, ac_sh, sub_sub_sub_cancel_right]

theorem ey_sh (C i j : ℕ) : ey (sh DT C) (sh DY C) a i j
    = Real.exp (KK DT a (64 * C + i + 1) (j / 64) - KK DT a (64 * C) (j / 64)) * DY (64 * C + i) j := by
  rw [ey, ac_sh, sh]

/-- The gradient of the state, in closed form. -/
theorem cdS_eq : ∀ n, n ≤ 34 → cdS XB DT DY a n = Wst XB DT DY a (64 * (34 - n))
  | 0, _ => by
    funext i q
    show (0 : ℝ) = _
    rw [Wst, Finset.Ico_self, Finset.sum_empty]
  | n + 1, hn => by
    funext i q
    rw [cdS, oS, cdS_eq n (by omega), ac_sh]
    have e1 : 64 * (34 - n) = 64 * (33 - n) + 64 := by omega
    have e2 : 34 - (n + 1) = 33 - n := by omega
    rw [e1, e2, Wst, Wst]
    have hsp := tail_sum (fun t => XB t (1280 + i) * (Real.exp (KK DT a (t + 1) ((512 * (i / 128) + q) / 64)
      - KK DT a (64 * (33 - n)) ((512 * (i / 128) + q) / 64)) * DY t (512 * (i / 128) + q))) (33 - n) 0 (by omega) (by omega)
    rw [Nat.add_zero] at hsp
    rw [hsp, add_comm]
    congr 1
    · rw [← Finset.range_eq_Ico]
      refine Finset.sum_congr rfl fun t _ => ?_
      rw [ey_sh, sh]
    · rw [Finset.mul_sum]
      refine Finset.sum_congr rfl fun t _ => ?_
      rw [show 64 * (33 - n) + 63 + 1 = 64 * (33 - n) + 64 from rfl]
      rw [exp_cut (KK DT a (t + 1) ((512 * (i / 128) + q) / 64)) (KK DT a (64 * (33 - n) + 64) ((512 * (i / 128) + q) / 64))
        (KK DT a (64 * (33 - n)) ((512 * (i / 128) + q) / 64))]
      ring

section
variable {C : ℕ} (hC : C < 34)

/-- The contribution of the later chunks to the gradient of the scaled input. -/
theorem later (s j : ℕ) :
    ee (sh DT C) a s j * zz (sh XB C) (Wst XB DT DY a (64 * C + 64)) s j
      = ∑ t ∈ Finset.Ico (64 * C + 64) 2176, cb XB (j / 64 / 8) t (64 * C + s) * EE DT a (j / 64) t (64 * C + s) * DY t j := by
  rw [ee_sh, zz, Finset.mul_sum]
  have h1 : ∀ n ∈ Finset.range 128, 512 * ((128 * (j / 512) + n) / 128) + j % 512 = j := fun n hn => by
    have := Finset.mem_range.mp hn; omega
  have h2 : ∀ n ∈ Finset.range 128,
      Real.exp (KK DT a (64 * C + 64) (j / 64) - KK DT a (64 * C + s + 1) (j / 64))
        * (sh XB C s (1024 + 128 * (j / 512) + n) * Wst XB DT DY a (64 * C + 64) (128 * (j / 512) + n) (j % 512))
      = ∑ t ∈ Finset.Ico (64 * C + 64) 2176, XB t (1280 + 128 * (j / 512) + n) * XB (64 * C + s) (1024 + 128 * (j / 512) + n)
          * EE DT a (j / 64) t (64 * C + s) * DY t j := fun n hn => by
    rw [Wst, h1 n hn, Finset.mul_sum, Finset.mul_sum]
    refine Finset.sum_congr rfl fun t _ => ?_
    rw [EE, exp_cut (KK DT a (t + 1) (j / 64)) (KK DT a (64 * C + 64) (j / 64)) (KK DT a (64 * C + s + 1) (j / 64)), sh, Nat.add_assoc 1280]
    ring
  rw [Finset.sum_congr rfl h2, Finset.sum_comm]
  refine Finset.sum_congr rfl fun t _ => ?_
  rw [cb, show j / 64 / 8 = j / 512 by omega, Finset.sum_mul, Finset.sum_mul]

/-- The contribution of the earlier chunks to a row of the output. -/
theorem earlier (t j : ℕ) :
    yo (sh XB C) (sh DT C) (Sst XB DT a (64 * C)) a t j
      = ∑ s ∈ Finset.range (64 * C), cb XB (j / 64 / 8) (64 * C + t) s * EE DT a (j / 64) (64 * C + t) s * xdt XB DT s j := by
  rw [yo, ac_sh, Finset.sum_mul]
  have h1 : ∀ n ∈ Finset.range 128, 512 * ((128 * (j / 512) + n) / 128) + j % 512 = j := fun n hn => by
    have := Finset.mem_range.mp hn; omega
  have h2 : ∀ n ∈ Finset.range 128,
      sh XB C t (1280 + 128 * (j / 512) + n) * Sst XB DT a (64 * C) (128 * (j / 512) + n) (j % 512)
        * Real.exp (KK DT a (64 * C + t + 1) (j / 64) - KK DT a (64 * C) (j / 64))
      = ∑ s ∈ Finset.range (64 * C), XB (64 * C + t) (1280 + 128 * (j / 512) + n) * XB s (1024 + 128 * (j / 512) + n)
          * EE DT a (j / 64) (64 * C + t) s * xdt XB DT s j := fun n hn => by
    rw [Sst, h1 n hn, Finset.mul_sum, Finset.sum_mul]
    refine Finset.sum_congr rfl fun s _ => ?_
    rw [EE, exp_cut (KK DT a (64 * C + t + 1) (j / 64)) (KK DT a (64 * C) (j / 64)) (KK DT a (s + 1) (j / 64)), sh, Nat.add_assoc 1024]
    ring
  rw [Finset.sum_congr rfl h2, Finset.sum_comm]
  refine Finset.sum_congr rfl fun s _ => ?_
  rw [cb, show j / 64 / 8 = j / 512 by omega, Finset.sum_mul, Finset.sum_mul]

include hC in
theorem dx_eq (hn : ∀ k h, DT k h * a h ≤ 0) (s j : ℕ) (hs : s < 64) :
    dx (sh XB C) (sh DT C) (sh DY C) (Wst XB DT DY a (64 * C + 64)) a s j = rdx XB DT DY a (64 * C + s) j := by
  rw [dx, own_sh XB DT DY a hn _ _ _ hs, later, rdx, split_sum _ C hC]
  rw [Finset.sum_eq_zero (s := Finset.range (64 * C)), zero_add]
  · congr 1
    refine Finset.sum_congr rfl fun t ht => ?_
    rw [rE, if_pos (by have := Finset.mem_Ico.mp ht; omega)]
  · intro t ht
    rw [rE, if_neg (by have := Finset.mem_range.mp ht; omega)]
    ring

/-- One head's lanes of the two products, as pair terms. -/
theorem PP_of_le (h t s : ℕ) (hst : s ≤ t) : PP XB DT DY a h t s
    = ∑ p ∈ Finset.range 64, cb XB (h / 8) t s * EE DT a h t s * (DY t (64 * h + p) * xdt XB DT s (64 * h + p)) := by
  rw [PP, rE, if_pos hst, TT, Finset.mul_sum]

theorem PP_of_lt (h t s : ℕ) (hst : t < s) : PP XB DT DY a h t s = 0 := by
  rw [PP, rE, if_neg (by omega)]
  ring

theorem lane_div (h p : ℕ) (hp : p ∈ Finset.range 64) : (64 * h + p) / 64 = h := by
  have := Finset.mem_range.mp hp; omega

theorem row_earlier (h t : ℕ) :
    ∑ p ∈ Finset.range 64, sh DY C t (64 * h + p) * yo (sh XB C) (sh DT C) (Sst XB DT a (64 * C)) a t (64 * h + p)
      = ∑ s ∈ Finset.range (64 * C), PP XB DT DY a h (64 * C + t) s := by
  have e : ∀ p ∈ Finset.range 64, sh DY C t (64 * h + p) * yo (sh XB C) (sh DT C) (Sst XB DT a (64 * C)) a t (64 * h + p)
      = ∑ s ∈ Finset.range (64 * C), cb XB (h / 8) (64 * C + t) s * EE DT a h (64 * C + t) s * (DY (64 * C + t) (64 * h + p) * xdt XB DT s (64 * h + p)) :=
    fun p hp => by
      rw [earlier, lane_div h p hp, sh, Finset.mul_sum]
      exact Finset.sum_congr rfl fun s _ => by ring
  rw [Finset.sum_congr rfl e, Finset.sum_comm]
  refine Finset.sum_congr rfl fun s hs => (PP_of_le XB DT DY a h _ s (by have := Finset.mem_range.mp hs; omega)).symm

theorem col_later (h s : ℕ) (hs : s < 64) :
    ∑ p ∈ Finset.range 64, xw (sh XB C) (sh DT C) a s (64 * h + p) * zz (sh XB C) (Wst XB DT DY a (64 * C + 64)) s (64 * h + p)
      = ∑ t ∈ Finset.Ico (64 * C + 64) 2176, PP XB DT DY a h t (64 * C + s) := by
  have e : ∀ p ∈ Finset.range 64, xw (sh XB C) (sh DT C) a s (64 * h + p) * zz (sh XB C) (Wst XB DT DY a (64 * C + 64)) s (64 * h + p)
      = ∑ t ∈ Finset.Ico (64 * C + 64) 2176, cb XB (h / 8) t (64 * C + s) * EE DT a h t (64 * C + s) * (DY t (64 * h + p) * xdt XB DT (64 * C + s) (64 * h + p)) :=
    fun p hp => by
      rw [xw, mul_assoc, later, lane_div h p hp, Finset.mul_sum]
      refine Finset.sum_congr rfl fun t _ => ?_
      rw [xdt, lane_div h p hp, sh, sh]
      ring
  rw [Finset.sum_congr rfl e, Finset.sum_comm]
  refine Finset.sum_congr rfl fun t ht => (PP_of_le XB DT DY a h t _ (by have := Finset.mem_Ico.mp ht; omega)).symm

theorem sd_eq (j : ℕ) : sd (Sst XB DT a (64 * C)) (Wst XB DT DY a (64 * C + 64)) j * Real.exp (ac (sh DT C) a 63 (j / 64))
    = ∑ t ∈ Finset.Ico (64 * C + 64) 2176, ∑ s ∈ Finset.range (64 * C), cb XB (j / 64 / 8) t s * EE DT a (j / 64) t s * (DY t j * xdt XB DT s j) := by
  have h1 : ∀ n ∈ Finset.range 128, 512 * ((128 * (j / 512) + n) / 128) + j % 512 = j := fun n hn => by
    have := Finset.mem_range.mp hn; omega
  rw [sd, ac_sh, Finset.sum_mul]
  have h2 : ∀ n ∈ Finset.range 128,
      Wst XB DT DY a (64 * C + 64) (128 * (j / 512) + n) (j % 512) * Sst XB DT a (64 * C) (128 * (j / 512) + n) (j % 512)
        * Real.exp (KK DT a (64 * C + 63 + 1) (j / 64) - KK DT a (64 * C) (j / 64))
      = ∑ t ∈ Finset.Ico (64 * C + 64) 2176, ∑ s ∈ Finset.range (64 * C), XB t (1280 + 128 * (j / 512) + n) * XB s (1024 + 128 * (j / 512) + n)
          * (EE DT a (j / 64) t s * (DY t j * xdt XB DT s j)) := fun n hn => by
    rw [Wst, Sst, h1 n hn, Finset.sum_mul_sum, Finset.sum_mul]
    refine Finset.sum_congr rfl fun t _ => ?_
    rw [Finset.sum_mul]
    refine Finset.sum_congr rfl fun s _ => ?_
    rw [EE, exp_cut (KK DT a (t + 1) (j / 64)) (KK DT a (64 * C + 63 + 1) (j / 64)) (KK DT a (s + 1) (j / 64)),
      exp_cut (KK DT a (64 * C + 63 + 1) (j / 64)) (KK DT a (64 * C) (j / 64)) (KK DT a (s + 1) (j / 64)), Nat.add_assoc 1024, Nat.add_assoc 1280]
    ring
  rw [Finset.sum_congr rfl h2, Finset.sum_comm]
  refine Finset.sum_congr rfl fun t _ => ?_
  rw [Finset.sum_comm]
  refine Finset.sum_congr rfl fun s _ => ?_
  rw [cb, show j / 64 / 8 = j / 512 by omega, mul_assoc, Finset.sum_mul]

theorem across (h : ℕ) :
    (∑ p ∈ Finset.range 64, sd (Sst XB DT a (64 * C)) (Wst XB DT DY a (64 * C + 64)) (64 * h + p)) * Real.exp (ac (sh DT C) a 63 h)
      = ∑ t ∈ Finset.Ico (64 * C + 64) 2176, ∑ s ∈ Finset.range (64 * C), PP XB DT DY a h t s := by
  rw [Finset.sum_mul]
  have e : ∀ p ∈ Finset.range 64, sd (Sst XB DT a (64 * C)) (Wst XB DT DY a (64 * C + 64)) (64 * h + p) * Real.exp (ac (sh DT C) a 63 h)
      = ∑ t ∈ Finset.Ico (64 * C + 64) 2176, ∑ s ∈ Finset.range (64 * C), cb XB (h / 8) t s * EE DT a h t s * (DY t (64 * h + p) * xdt XB DT s (64 * h + p)) :=
    fun p hp => by
      have := sd_eq XB DT DY a (C := C) (64 * h + p)
      rwa [lane_div h p hp] at this
  rw [Finset.sum_congr rfl e, Finset.sum_comm]
  refine Finset.sum_congr rfl fun t ht => ?_
  rw [Finset.sum_comm]
  refine Finset.sum_congr rfl fun s hs => (PP_of_le XB DT DY a h t s (by have := Finset.mem_Ico.mp ht; have := Finset.mem_range.mp hs; omega)).symm

/-- The pairs that straddle position `U` are what the running sum's gradients from `U` on add up to. -/
theorem straddle (h U : ℕ) (hU : U ≤ 2176) :
    ∑ u ∈ Finset.Ico U 2176, dcum XB DT DY a h u = ∑ t ∈ Finset.Ico U 2176, ∑ s ∈ Finset.range U, PP XB DT DY a h t s := by
  have e : ∀ f : ℕ → ℝ, ∑ s ∈ Finset.range 2176, f s = ∑ s ∈ Finset.range U, f s + ∑ s ∈ Finset.Ico U 2176, f s := fun f => by
    rw [Finset.range_eq_Ico, Finset.range_eq_Ico, Finset.sum_Ico_consecutive _ (Nat.zero_le _) hU]
  have z : ∀ u ∈ Finset.Ico U 2176, ∑ t ∈ Finset.range U, PP XB DT DY a h t u = 0 := fun u hu =>
    Finset.sum_eq_zero fun t ht => PP_of_lt XB DT DY a h t u (by
      have := Finset.mem_Ico.mp hu; have := Finset.mem_range.mp ht; omega)
  simp only [dcum]
  rw [Finset.sum_sub_distrib, Finset.sum_congr rfl fun u _ => e (fun s => PP XB DT DY a h u s), Finset.sum_add_distrib,
    Finset.sum_congr rfl fun u _ => e (fun t => PP XB DT DY a h t u), Finset.sum_add_distrib, Finset.sum_congr rfl z,
    Finset.sum_const_zero, zero_add, Finset.sum_comm (s := Finset.Ico U 2176) (t := Finset.Ico U 2176), add_sub_cancel_right]

theorem pick (f : ℕ → ℝ) (h : ℕ) (hh : h < 16) : ∑ k ∈ Finset.range 16, (if h = k then f k else 0) = f h := by
  rw [Finset.sum_ite_eq, if_pos (Finset.mem_range.mpr hh)]

include hC in
/-- One row of the chunk's two halves. -/
theorem row_eq (hn : ∀ k h, DT k h * a h ≤ 0) (k h : ℕ) (hk : k < 64) (hh : h < 16) :
    fall (ac (sh DT C) a) (cols (sh XB C) (sh DT C) (sh DY C) a) (sh DY C) (yo (sh XB C) (sh DT C) (Sst XB DT a (64 * C)) a)
        (xw (sh XB C) (sh DT C) a) (zz (sh XB C) (Wst XB DT DY a (64 * C + 64)))
        (fun _ j => sd (Sst XB DT a (64 * C)) (Wst XB DT DY a (64 * C + 64)) j) k h
      + rows (sh XB C) (sh DT C) (sh DY C) a h k
      = dcum XB DT DY a h (64 * C + k)
        + if k = 63 then ∑ u ∈ Finset.Ico (64 * C + 64) 2176, dcum XB DT DY a h u else 0 := by
  rw [fall, row_earlier, col_later XB DT DY a h k hk, across, cols, rows, Finset.sum_neg_distrib, pick _ h hh, pick _ h hh]
  have r1 : ∑ s ∈ Finset.range 64, tm (sh XB C) (sh DT C) (sh DY C) a h k s = ∑ s ∈ Finset.range 64, PP XB DT DY a h (64 * C + k) (64 * C + s) :=
    Finset.sum_congr rfl fun s hs => tm_sh XB DT DY a hn C h k s (Finset.mem_range.mp hs)
  have r2 : ∑ t ∈ Finset.range 64, tm (sh XB C) (sh DT C) (sh DY C) a h t k = ∑ t ∈ Finset.range 64, PP XB DT DY a h (64 * C + t) (64 * C + k) :=
    Finset.sum_congr rfl fun t _ => tm_sh XB DT DY a hn C h t k hk
  have z1 : ∑ s ∈ Finset.Ico (64 * C + 64) 2176, PP XB DT DY a h (64 * C + k) s = 0 :=
    Finset.sum_eq_zero fun s hs => PP_of_lt XB DT DY a h _ s (by have := Finset.mem_Ico.mp hs; omega)
  have z2 : ∑ t ∈ Finset.range (64 * C), PP XB DT DY a h t (64 * C + k) = 0 :=
    Finset.sum_eq_zero fun t ht => PP_of_lt XB DT DY a h t _ (by have := Finset.mem_range.mp ht; omega)
  have c1 : ∑ s ∈ Finset.range 64, ∑ p ∈ Finset.range 64, xw (sh XB C) (sh DT C) a s (64 * h + p) * zz (sh XB C) (Wst XB DT DY a (64 * C + 64)) s (64 * h + p)
      = ∑ t ∈ Finset.Ico (64 * C + 64) 2176, ∑ s ∈ Finset.range 64, PP XB DT DY a h t (64 * C + s) := by
    rw [Finset.sum_comm (s := Finset.Ico (64 * C + 64) 2176)]
    exact Finset.sum_congr rfl fun s hs => col_later XB DT DY a h s (Finset.mem_range.mp hs)
  have c2 : ∑ u ∈ Finset.Ico (64 * C + 64) 2176, dcum XB DT DY a h u
      = ∑ t ∈ Finset.Ico (64 * C + 64) 2176, ∑ s ∈ Finset.range 64, PP XB DT DY a h t (64 * C + s)
        + ∑ t ∈ Finset.Ico (64 * C + 64) 2176, ∑ s ∈ Finset.range (64 * C), PP XB DT DY a h t s := by
    rw [straddle XB DT DY a h _ (by omega), ← Finset.sum_add_distrib]
    refine Finset.sum_congr rfl fun t _ => ?_
    rw [Finset.sum_range_add, add_comm]
  rw [r1, r2, c1, c2, dcum, split_sum _ C hC, split_sum _ C hC, z1, z2]
  ring

include hC in
/-- The two halves of the gradient of the decay's logarithm. -/
theorem halves (hn : ∀ k h, DT k h * a h ≤ 0) (t h : ℕ) (ht : t < 64) (hh : h < 16) :
    g1 (sh XB C) (sh DT C) (sh DY C) (Sst XB DT a (64 * C)) (Wst XB DT DY a (64 * C + 64)) a t h
      + g2 (sh XB C) (sh DT C) (sh DY C) a h t = RR XB DT DY a (64 * C + t) h := by
  rw [g1, g2, ← Finset.sum_add_distrib, Finset.sum_congr rfl fun k hk => row_eq XB DT DY a hC hn k h (Finset.mem_Ico.mp hk).2 hh,
    Finset.sum_add_distrib, RR, tail_sum _ C t hC (by omega), Finset.sum_ite_eq' (Finset.Ico t 64) 63,
    if_pos (Finset.mem_Ico.mpr ⟨by omega, by omega⟩)]

include hC in
theorem dcb_eq (hn : ∀ k h, DT k h * a h ≤ 0) (g t s : ℕ) (hs : s < 64) :
    dcb (sh XB C) (sh DT C) (sh DY C) a g t s = rcb XB DT DY a g (64 * C + t) (64 * C + s) := by
  rw [dcb, rcb]
  exact Finset.sum_congr rfl fun r _ => by rw [dec_sh DT a hn _ _ _ _ hs, tt_sh]

include hC in
/-- The gradient of the write vectors. -/
theorem dB_eq (hn : ∀ k h, DT k h * a h ≤ 0) (s i : ℕ) (hs : s < 64) :
    ∑ t ∈ Finset.range 64, dcb (sh XB C) (sh DT C) (sh DY C) a (i / 128) t s * sh XB C t (1280 + i)
      + ∑ q ∈ Finset.range 512, xw (sh XB C) (sh DT C) a s (512 * (i / 128) + q) * Wst XB DT DY a (64 * C + 64) i q
      = ∑ t ∈ Finset.range 2176, rcb XB DT DY a (i / 128) t (64 * C + s) * XB t (1280 + i) := by
  rw [split_sum _ C hC, Finset.sum_eq_zero (s := Finset.range (64 * C)), zero_add]
  · congr 1
    · refine Finset.sum_congr rfl fun t _ => ?_
      rw [dcb_eq XB DT DY a hC hn _ _ _ hs, sh]
    · have e : ∀ q ∈ Finset.range 512, xw (sh XB C) (sh DT C) a s (512 * (i / 128) + q) * Wst XB DT DY a (64 * C + 64) i q
          = ∑ t ∈ Finset.Ico (64 * C + 64) 2176, (fun j => EE DT a (j / 64) t (64 * C + s) * (DY t j * xdt XB DT (64 * C + s) j)
              * XB t (1280 + i)) (512 * (i / 128) + q) := fun q _ => by
        rw [xw, Wst, ee_sh, Finset.mul_sum]
        refine Finset.sum_congr rfl fun t _ => ?_
        dsimp only
        rw [EE, exp_cut (KK DT a (t + 1) ((512 * (i / 128) + q) / 64)) (KK DT a (64 * C + 64) ((512 * (i / 128) + q) / 64))
          (KK DT a (64 * C + s + 1) ((512 * (i / 128) + q) / 64)), xdt, sh, sh]
        ring
      rw [Finset.sum_congr rfl e, Finset.sum_comm]
      refine Finset.sum_congr rfl fun t ht => ?_
      refine (heads_sum (fun j => EE DT a (j / 64) t (64 * C + s) * (DY t j * xdt XB DT (64 * C + s) j) * XB t (1280 + i)) _).trans ?_
      rw [rcb, Finset.sum_mul]
      refine Finset.sum_congr rfl fun r _ => ?_
      rw [rE, if_pos (by have := Finset.mem_Ico.mp ht; omega), TT, Finset.mul_sum, Finset.sum_mul]
      refine Finset.sum_congr rfl fun p hp => ?_
      rw [lane_div _ p hp]
  · intro t ht
    rw [rcb, Finset.sum_eq_zero, zero_mul]
    intro r _
    rw [rE, if_neg (by have := Finset.mem_range.mp ht; omega), zero_mul]

include hC in
/-- The gradient of the read vectors. -/
theorem dC_eq (hn : ∀ k h, DT k h * a h ≤ 0) (t i : ℕ) (ht : t < 64) :
    ∑ s ∈ Finset.range 64, dcb (sh XB C) (sh DT C) (sh DY C) a (i / 128) t s * sh XB C s (1024 + i)
      + ∑ q ∈ Finset.range 512, ey (sh DT C) (sh DY C) a t (512 * (i / 128) + q) * Sst XB DT a (64 * C) i q
      = ∑ s ∈ Finset.range 2176, rcb XB DT DY a (i / 128) (64 * C + t) s * XB s (1024 + i) := by
  rw [split_sum _ C hC, Finset.sum_eq_zero (s := Finset.Ico (64 * C + 64) 2176), add_zero, add_comm]
  · congr 1
    · have e : ∀ q ∈ Finset.range 512, ey (sh DT C) (sh DY C) a t (512 * (i / 128) + q) * Sst XB DT a (64 * C) i q
          = ∑ s ∈ Finset.range (64 * C), (fun j => EE DT a (j / 64) (64 * C + t) s * (DY (64 * C + t) j * xdt XB DT s j)
              * XB s (1024 + i)) (512 * (i / 128) + q) := fun q _ => by
        rw [ey_sh, Sst, Finset.mul_sum]
        refine Finset.sum_congr rfl fun s _ => ?_
        dsimp only
        rw [EE, exp_cut (KK DT a (64 * C + t + 1) ((512 * (i / 128) + q) / 64)) (KK DT a (64 * C) ((512 * (i / 128) + q) / 64))
          (KK DT a (s + 1) ((512 * (i / 128) + q) / 64))]
        ring
      rw [Finset.sum_congr rfl e, Finset.sum_comm]
      refine Finset.sum_congr rfl fun s hs => ?_
      refine (heads_sum (fun j => EE DT a (j / 64) (64 * C + t) s * (DY (64 * C + t) j * xdt XB DT s j) * XB s (1024 + i)) _).trans ?_
      rw [rcb, Finset.sum_mul]
      refine Finset.sum_congr rfl fun r _ => ?_
      rw [rE, if_pos (by have := Finset.mem_range.mp hs; omega), TT, Finset.mul_sum, Finset.sum_mul]
      refine Finset.sum_congr rfl fun p hp => ?_
      rw [lane_div _ p hp]
    · refine Finset.sum_congr rfl fun s hs => ?_
      rw [dcb_eq XB DT DY a hC hn _ _ _ (Finset.mem_range.mp hs), sh]
  · intro s hs
    rw [rcb, Finset.sum_eq_zero, zero_mul]
    intro r _
    rw [rE, if_neg (by have := Finset.mem_Ico.mp hs; omega), zero_mul]

/-! ### The call's results -/

/-- The gradients of the inputs, of the write vectors and of the read vectors, as sums over all positions. -/
def RX (s j : ℕ) : ℝ :=
  if j < 1024 then DY s j * dk j + rdx XB DT DY a s j * DT s (j / 64)
  else if j < 1280 then ∑ t ∈ Finset.range 2176, rcb XB DT DY a ((j - 1024) / 128) t s * XB t (j + 256)
  else ∑ t ∈ Finset.range 2176, rcb XB DT DY a ((j - 1280) / 128) s t * XB t (j - 256)

include hC in
theorem o8_eq (hn : ∀ k h, DT k h * a h ≤ 0) (s j : ℕ) (hs : s < 64) :
    o8 (sh XB C) (sh DT C) (sh DY C) (Sst XB DT a (64 * C)) (Wst XB DT DY a (64 * C + 64)) a dk s j
      = RX XB DT DY a dk (64 * C + s) j := by
  rw [o8, RX]
  by_cases h1 : j < 1024
  · rw [if_pos h1, if_pos h1, dx_eq XB DT DY a hC hn s j hs, sh, sh]
    ring
  · rw [if_neg h1, if_neg h1]
    by_cases h2 : j < 1280
    · rw [if_pos h2, if_pos h2, show j + 256 = 1280 + (j - 1024) by omega]
      exact dB_eq XB DT DY a hC hn s (j - 1024) hs
    · rw [if_neg h2, if_neg h2, show j - 256 = 1024 + (j - 1280) by omega]
      exact dC_eq XB DT DY a hC hn s (j - 1280) hs

/-- The gradient of the step sizes. -/
def RT (k h : ℕ) : ℝ := ∑ p ∈ Finset.range 64, XB k (64 * h + p) * rdx XB DT DY a k (64 * h + p) + RR XB DT DY a k h * a h

include hC in
theorem o9_o10_eq (hn : ∀ k h, DT k h * a h ≤ 0) (t h : ℕ) (ht : t < 64) (hh : h < 16) :
    o9 (sh XB C) (sh DT C) (sh DY C) (Sst XB DT a (64 * C)) (Wst XB DT DY a (64 * C + 64)) a t h
      + o10 (sh XB C) (sh DT C) (sh DY C) a h t = RT XB DT DY a (64 * C + t) h := by
  rw [o9, o10, RT, ← halves XB DT DY a hC hn t h ht hh]
  have e : ∑ p ∈ Finset.range 64, dx (sh XB C) (sh DT C) (sh DY C) (Wst XB DT DY a (64 * C + 64)) a t (64 * h + p) * sh XB C t (64 * h + p)
      = ∑ p ∈ Finset.range 64, XB (64 * C + t) (64 * h + p) * rdx XB DT DY a (64 * C + t) (64 * h + p) :=
    Finset.sum_congr rfl fun p _ => by
      rw [dx_eq XB DT DY a hC hn t _ ht, sh]
      ring
  rw [e]
  ring

include hC in
theorem o11_o12_eq (hn : ∀ k h, DT k h * a h ≤ 0) (h : ℕ) (hh : h < 16) :
    o11 (sh XB C) (sh DT C) (sh DY C) (Sst XB DT a (64 * C)) (Wst XB DT DY a (64 * C + 64)) a h
      + o12 (sh XB C) (sh DT C) (sh DY C) a h = ∑ i ∈ Finset.range 64, DT (64 * C + i) h * RR XB DT DY a (64 * C + i) h := by
  rw [o11, o12, ← Finset.sum_add_distrib]
  refine Finset.sum_congr rfl fun i hi => ?_
  rw [← mul_add, halves XB DT DY a hC hn i h (Finset.mem_range.mp hi) hh, sh]
end

/-- The gradient of the decay rates, but for the sign and the rate itself. -/
def RA (h : ℕ) : ℝ := ∑ k ∈ Finset.range 2176, DT k h * RR XB DT DY a k h

/-- A chunk quantity at the point that visits it. -/
abbrev atPt {β : Type} (f : (ℕ → ℕ → ℝ) → (ℕ → ℕ → ℝ) → (ℕ → ℕ → ℝ) → (ℕ → ℕ → ℝ) → (ℕ → ℕ → ℝ) → β) (n : ℕ) : β :=
  f (sh XB (33 - n)) (sh DT (33 - n)) (sh DY (33 - n)) (Sst XB DT a (64 * (33 - n))) (cdS XB DT DY a n)

theorem atPt_eq {β : Type} (f : (ℕ → ℕ → ℝ) → (ℕ → ℕ → ℝ) → (ℕ → ℕ → ℝ) → (ℕ → ℕ → ℝ) → (ℕ → ℕ → ℝ) → β) (C : ℕ) (hC : C < 34) :
    atPt XB DT DY a f (33 - C) = f (sh XB C) (sh DT C) (sh DY C) (Sst XB DT a (64 * C)) (Wst XB DT DY a (64 * C + 64)) := by
  rw [atPt, cdS_eq _ _ _ _ _ (by omega), show 33 - (33 - C) = C by omega, show 64 * (34 - (33 - C)) = 64 * C + 64 by omega]

theorem sum_atPt (f : (ℕ → ℕ → ℝ) → (ℕ → ℕ → ℝ) → (ℕ → ℕ → ℝ) → (ℕ → ℕ → ℝ) → (ℕ → ℕ → ℝ) → ℝ) :
    ∑ k ∈ Finset.range 34, atPt XB DT DY a f k
      = ∑ C ∈ Finset.range 34, f (sh XB C) (sh DT C) (sh DY C) (Sst XB DT a (64 * C)) (Wst XB DT DY a (64 * C + 64)) := by
  refine Eq.trans ?_ (reverse_chunks _)
  refine Finset.sum_congr rfl fun k hk => ?_
  have h := Finset.mem_range.mp hk
  rw [← atPt_eq XB DT DY a f _ (by omega), show 33 - (33 - k) = k by omega]

/-- What the call writes for the gradients of the inputs and vectors. -/
theorem out8_eq (hn : ∀ k h, DT k h * a h ≤ 0) (r j : ℕ) (hr : r < 2176) :
    atPt XB DT DY a (fun X T Y S DS => o8 X T Y S DS a dk (r % 64) j) (33 - r / 64) = RX XB DT DY a dk r j := by
  rw [atPt_eq XB DT DY a _ _ (by omega), o8_eq XB DT DY a dk (by omega) hn _ _ (by omega), Nat.div_add_mod]

/-- What it writes for the gradient of the step sizes, its two halves added. -/
theorem out9_eq (hn : ∀ k h, DT k h * a h ≤ 0) (C t h : ℕ) (hC : C < 34) (ht : t < 64) (hh : h < 16) :
    atPt XB DT DY a (fun X T Y S DS => o9 X T Y S DS a t h) (33 - C) + atPt XB DT DY a (fun X T Y _ _ => o10 X T Y a h t) (33 - C)
      = RT XB DT DY a (64 * C + t) h := by
  rw [atPt_eq XB DT DY a _ _ hC, atPt_eq XB DT DY a _ _ hC, o9_o10_eq XB DT DY a hC hn t h ht hh]

/-- What it writes for the gradient of the decay rates, its two halves added. -/
theorem out11_eq (hn : ∀ k h, DT k h * a h ≤ 0) (h : ℕ) (hh : h < 16) :
    ∑ k ∈ Finset.range 34, atPt XB DT DY a (fun X T Y S DS => o11 X T Y S DS a h) k
      + ∑ k ∈ Finset.range 34, atPt XB DT DY a (fun X T Y _ _ => o12 X T Y a h) k = RA XB DT DY a h := by
  rw [sum_atPt, sum_atPt, ← Finset.sum_add_distrib,
    Finset.sum_congr rfl fun C hC => o11_o12_eq XB DT DY a (Finset.mem_range.mp hC) hn h hh,
    all_chunks (fun k => DT k h * RR XB DT DY a k h) 34, RA]

/-- What it writes for the gradient of the skip. -/
theorem out13_eq (j : ℕ) :
    ∑ k ∈ Finset.range 34, atPt XB DT DY a (fun X _ Y _ _ => o13 X Y j) k = ∑ t ∈ Finset.range 2176, DY t j * XB t j := by
  rw [sum_atPt]
  exact all_chunks (fun t => DY t j * XB t j) 34

end Cert.Lift
-- ==== Proof.Fold.lean ====
module

public import proofs.«01_k».proof.Proof.ChunkA
public import proofs.«01_k».proof.Proof.ChunkB
public import proofs.«01_k».proof.Proof.Math
public import Idealize.ShloMosaic.Lib.Pipeline.Value

@[expose] public section

set_option maxRecDepth 16384

/-! The whole walk over the chunks, from the last to the first: what each chunk's blocks and the three sums end
holding, and so what the six result arrays of the call hold, in real numbers. -/

noncomputable section

namespace Cert.Lift

open Idealize.ShloMosaic Idealize.ShloMosaic.ValueIdx Idealize.ShloMosaic.TcCoe Idealize.SL.Sem
open Idealize.ShloMosaic.Pipeline (Dat)
open Cert.KernelIdeal Cert.KernelIdeal.Gen

section
variable (XB DT DY : ℕ → ℕ → ℝ) (a dk : ℕ → ℝ)

/-- What the buffers hold after point `n`. -/
def left (n : ℕ) : Vec Ideal S64x1536 .f32 × Vec Ideal S1x64x16 .f32 × Vec Ideal S1x16x64 .f32 × Vec Ideal S1x16 .f32
    × Vec Ideal S16x1 .f32 × Vec Ideal S1x1024 .f32 × Vec Ideal S256x512 .f32 :=
  ((M2 fun s j => atPt XB DT DY a (fun X T Y S DS => o8 X T Y S DS a dk s j) n : FVec Ideal S64x1536 .f32),
   (M3 fun _ t h => atPt XB DT DY a (fun X T Y S DS => o9 X T Y S DS a t h) n : FVec Ideal S1x64x16 .f32),
   (M3 fun _ h t => atPt XB DT DY a (fun X T Y _ _ => o10 X T Y a h t) n : FVec Ideal S1x16x64 .f32),
   (M2 fun _ h => ∑ k ∈ Finset.range (n + 1), atPt XB DT DY a (fun X T Y S DS => o11 X T Y S DS a h) k : FVec Ideal S1x16 .f32),
   (M2 fun h _ => ∑ k ∈ Finset.range (n + 1), atPt XB DT DY a (fun X T Y _ _ => o12 X T Y a h) k : FVec Ideal S16x1 .f32),
   (M2 fun _ j => ∑ k ∈ Finset.range (n + 1), atPt XB DT DY a (fun X _ Y _ _ => o13 X Y j) k : FVec Ideal S1x1024 .f32),
   (M2 fun i q => cdS XB DT DY a (n + 1) i q : FVec Ideal S256x512 .f32))
end

variable (m : (ℓ : Loc nD τ sig) → Buf (Elt Ideal) ℓ) (c : Dev nD)

/-- The call's eight operands hold these real numbers. -/
structure Operands (XB DT DY : ℕ → ℕ → ℝ) (a dk : ℕ → ℝ) : Prop where
  h0 : V m c main_arg0 = (M2 XB : FVec Ideal S2176x1536 .f32)
  h1 : V m c main_v44 = (M3 fun C t h => DT (64 * C + t) h : FVec Ideal S34x64x16 .f32)
  h2 : V m c main_v45 = (M3 fun C h t => DT (64 * C + t) h : FVec Ideal S34x16x64 .f32)
  h3 : V m c main_v1 = (M2 fun _ h => a h : FVec Ideal S1x16 .f32)
  h4 : V m c main_v46 = (M2 fun h _ => a h : FVec Ideal S16x1 .f32)
  h5 : V m c main_v48 = (M2 fun _ j => dk j : FVec Ideal S1x1024 .f32)
  h6 : V m c main_v43 = (M3 fun C n q => Sst XB DT a (64 * C) n q : FVec Ideal S34x256x512 .f32)
  h7 : V m c main_arg4 = (M2 DY : FVec Ideal S2176x1024 .f32)

variable {m c} {XB DT DY : ℕ → ℕ → ℝ} {a dk : ℕ → ℝ} (H : Operands m c XB DT DY a dk)

theorem index_0 : ∀ t : Fin grid0.N, win0_0.index t 0 = 33 - t.val ∧ win0_0.index t 1 = 0 := by decide +kernel
theorem index_1 : ∀ t : Fin grid0.N, win0_1.index t 0 = 33 - t.val ∧ win0_1.index t 1 = 0 ∧ win0_1.index t 2 = 0 := by decide +kernel
theorem index_2 : ∀ t : Fin grid0.N, win0_2.index t 0 = 33 - t.val ∧ win0_2.index t 1 = 0 ∧ win0_2.index t 2 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 33 - t.val ∧ win0_6.index t 1 = 0 ∧ win0_6.index t 2 = 0 := by decide +kernel
theorem index_7 : ∀ t : Fin grid0.N, win0_7.index t 0 = 33 - t.val ∧ win0_7.index t 1 = 0 := by decide +kernel
theorem index_8 : ∀ t : Fin grid0.N, win0_8.index t 0 = 33 - t.val ∧ win0_8.index t 1 = 0 := by decide +kernel
theorem index_9 : ∀ t : Fin grid0.N, win0_9.index t 0 = 33 - t.val ∧ win0_9.index t 1 = 0 ∧ win0_9.index t 2 = 0 := by decide +kernel
theorem index_10 : ∀ t : Fin grid0.N, win0_10.index t 0 = 33 - t.val ∧ win0_10.index t 1 = 0 ∧ win0_10.index t 2 = 0 := by decide +kernel
theorem index_11 : ∀ t : Fin grid0.N, win0_11.index t 0 = 0 ∧ win0_11.index t 1 = 0 := by decide +kernel
theorem index_12 : ∀ t : Fin grid0.N, win0_12.index t 0 = 0 ∧ win0_12.index t 1 = 0 := by decide +kernel
theorem index_13 : ∀ t : Fin grid0.N, win0_13.index t 0 = 0 ∧ win0_13.index t 1 = 0 := by decide +kernel

include H in
theorem iblk_0 (t : Fin cfg0.N) : iblk m c 0 t = I0 (sh XB (33 - t.val)) := by
  funext j
  unfold iblk
  rw [View.read_apply]
  show V m c main_arg0 _ = _
  rw [H.h0]
  obtain ⟨e0, e1⟩ := index_0 t
  refine congrArg (fun x : ℝ => (x : EReal)) ?_
  show XB (win0_0.index t 0 * 64 + 1 * (j 0).val) (win0_0.index t 1 * 1536 + 1 * (j 1).val) = XB (64 * (33 - t.val) + (j 0).val) (j 1).val
  rw [e0, e1]
  congr 1 <;> omega

include H in
theorem iblk_1 (t : Fin cfg0.N) : iblk m c 1 t = I1 (sh DT (33 - t.val)) := by
  funext j
  unfold iblk
  rw [View.read_apply]
  show V m c main_v44 _ = _
  rw [H.h1]
  obtain ⟨e0, e1, e2⟩ := index_1 t
  have z : (j 0).val < 1 := (j 0).isLt
  have z0 : (j 0).val = 0 := by omega
  refine congrArg (fun x : ℝ => (x : EReal)) ?_
  show DT (64 * (win0_1.index t 0 * 1 + 1 * (j 0).val) + (win0_1.index t 1 * 64 + 1 * (j 1).val)) (win0_1.index t 2 * 16 + 1 * (j 2).val) = DT (64 * (33 - t.val) + (j 1).val) (j 2).val
  rw [e0, e1, e2, z0]
  congr 1 <;> omega

include H in
theorem iblk_2 (t : Fin cfg0.N) : iblk m c 2 t = I2 (sh DT (33 - t.val)) := by
  funext j
  unfold iblk
  rw [View.read_apply]
  show V m c main_v45 _ = _
  rw [H.h2]
  obtain ⟨e0, e1, e2⟩ := index_2 t
  have z : (j 0).val < 1 := (j 0).isLt
  have z0 : (j 0).val = 0 := by omega
  refine congrArg (fun x : ℝ => (x : EReal)) ?_
  show DT (64 * (win0_2.index t 0 * 1 + 1 * (j 0).val) + (win0_2.index t 2 * 64 + 1 * (j 2).val)) (win0_2.index t 1 * 16 + 1 * (j 1).val) = DT (64 * (33 - t.val) + (j 2).val) (j 1).val
  rw [e0, e1, e2, z0]
  congr 1 <;> omega

include H in
theorem iblk_3 (t : Fin cfg0.N) : iblk m c 3 t = I3 a := by
  funext j
  unfold iblk
  rw [View.read_apply]
  show V m c main_v1 _ = _
  rw [H.h3]
  obtain ⟨e0, e1⟩ := index_3 t
  refine congrArg (fun x : ℝ => (x : EReal)) ?_
  show a (win0_3.index t 1 * 16 + 1 * (j 1).val) = a (j 1).val
  rw [e1, Nat.zero_mul, Nat.zero_add, Nat.one_mul]

include H in
theorem iblk_4 (t : Fin cfg0.N) : iblk m c 4 t = I4 a := by
  funext j
  unfold iblk
  rw [View.read_apply]
  show V m c main_v46 _ = _
  rw [H.h4]
  obtain ⟨e0, e1⟩ := index_4 t
  refine congrArg (fun x : ℝ => (x : EReal)) ?_
  show a (win0_4.index t 0 * 16 + 1 * (j 0).val) = a (j 0).val
  rw [e0, Nat.zero_mul, Nat.zero_add, Nat.one_mul]

include H in
theorem iblk_5 (t : Fin cfg0.N) : iblk m c 5 t = I5 dk := by
  funext j
  unfold iblk
  rw [View.read_apply]
  show V m c main_v48 _ = _
  rw [H.h5]
  obtain ⟨e0, e1⟩ := index_5 t
  refine congrArg (fun x : ℝ => (x : EReal)) ?_
  show dk (win0_5.index t 1 * 1024 + 1 * (j 1).val) = dk (j 1).val
  rw [e1, Nat.zero_mul, Nat.zero_add, Nat.one_mul]

include H in
theorem iblk_6 (t : Fin cfg0.N) : iblk m c 6 t = I6 (Sst XB DT a (64 * (33 - t.val))) := by
  funext j
  unfold iblk
  rw [View.read_apply]
  show V m c main_v43 _ = _
  rw [H.h6]
  obtain ⟨e0, e1, e2⟩ := index_6 t
  have z : (j 0).val < 1 := (j 0).isLt
  have z0 : (j 0).val = 0 := by omega
  refine congrArg (fun x : ℝ => (x : EReal)) ?_
  show Sst XB DT a (64 * (win0_6.index t 0 * 1 + 1 * (j 0).val)) (win0_6.index t 1 * 256 + 1 * (j 1).val) (win0_6.index t 2 * 512 + 1 * (j 2).val) = Sst XB DT a (64 * (33 - t.val)) (j 1).val (j 2).val
  rw [e0, e1, e2, z0]
  congr 1 <;> omega

include H in
theorem iblk_7 (t : Fin cfg0.N) : iblk m c 7 t = I7 (sh DY (33 - t.val)) := by
  funext j
  unfold iblk
  rw [View.read_apply]
  show V m c main_arg4 _ = _
  rw [H.h7]
  obtain ⟨e0, e1⟩ := index_7 t
  refine congrArg (fun x : ℝ => (x : EReal)) ?_
  show DY (win0_7.index t 0 * 64 + 1 * (j 0).val) (win0_7.index t 1 * 1024 + 1 * (j 1).val) = DY (64 * (33 - t.val) + (j 0).val) (j 1).val
  rw [e0, e1]
  congr 1 <;> omega

include H in
/-- What the buffers hold after each point. -/
theorem outsAt_left : ∀ (n : ℕ) (h : n < cfg0.N), outsAt0 m c n h = left XB DT DY a dk n
  | 0, h => by
    refine (outsAt0_A m c ⟨0, h⟩ rfl).trans ?_
    rw [iblk_0 H, iblk_1 H, iblk_2 H, iblk_3 H, iblk_4 H, iblk_5 H, iblk_6 H, iblk_7 H, out0_A_8_val, out0_A_9_val, out0_A_10_val, out0_A_11_val, out0_A_12_val, out0_A_13_val, sout0_A_0_val]
    simp only [left, atPt, cdS, Finset.sum_range_one, zero_add]
  | n + 1, h => by
    have hN : cfg0.N = 34 := N_0
    have hB : ¬(⟨n + 1, h⟩ : Fin cfg0.N).val % 34 = 0 := by dsimp only; omega
    refine (outsAt0_B m c ⟨n + 1, h⟩ hB).trans ?_
    have ih : outsAt0 m c ((⟨n + 1, h⟩ : Fin cfg0.N).val - 1) (Nat.lt_of_le_of_lt (Nat.sub_le _ _) h) = left XB DT DY a dk n :=
      outsAt_left n (Nat.lt_of_succ_lt h)
    rw [iblk_0 H, iblk_1 H, iblk_2 H, iblk_3 H, iblk_4 H, iblk_5 H, iblk_6 H, iblk_7 H, ih]
    simp only [left]
    rw [out0_B_8_val, out0_B_9_val, out0_B_10_val, out0_B_11_val, out0_B_12_val, out0_B_13_val, sout0_B_0_val]
    simp only [atPt, cdS, Finset.sum_range_succ _ (n + 1)]

include H in
theorem read_8 (t : Fin cfg0.N) (hf : (cfg0.win 8).flush t = true) :
    (dats m 0 c).flushed 8 t = ((cfg0.win 8).blk t).view.read (Elt Ideal)
      (M2 fun r j => atPt XB DT DY a (fun X T Y S DS => o8 X T Y S DS a dk (r % 64) j) (33 - r / 64) : FVec Ideal S2176x1536 .f32) := by
  have hN : cfg0.N = 34 := N_0
  have ht := t.isLt
  show (cfg0.win 8).cut (grid0.coords t) ((dats m 0 c).after 8 t) = _
  rw [after0_8, outsAt_left H]
  funext j
  rw [View.read_apply]
  obtain ⟨e0, e1⟩ := index_8 t
  have z : (j 0).val < 64 := (j 0).isLt
  refine congrArg (fun x : ℝ => (x : EReal)) ?_
  show atPt XB DT DY a (fun X T Y S DS => o8 X T Y S DS a dk ((j 0).val) (j 1).val) t.val = atPt XB DT DY a (fun X T Y S DS => o8 X T Y S DS a dk ((win0_8.index t 0 * 64 + 1 * (j 0).val) % 64) (win0_8.index t 1 * 1536 + 1 * (j 1).val)) (33 - (win0_8.index t 0 * 64 + 1 * (j 0).val) / 64)
  have q : (33 - t.val) * 64 + 1 * (j 0).val = 64 * (33 - t.val) + (j 0).val := by omega
  rw [e0, e1, q, Nat.mul_add_mod, Nat.mod_eq_of_lt z, Nat.mul_add_div (by decide), Nat.div_eq_of_lt z, Nat.add_zero, Nat.sub_sub_self (by omega), Nat.zero_mul, Nat.zero_add, Nat.one_mul]

include H in
theorem arr_8 : (dats m 0 c).arrAt 8 cfg0.N = (M2 fun r j => atPt XB DT DY a (fun X T Y S DS => o8 X T Y S DS a dk (r % 64) j) (33 - r / 64) : FVec Ideal S2176x1536 .f32) :=
  (dats m 0 c).arrAt_eq_of_cover 8 _ (read_8 H) fun i => by
    have hN : cfg0.N = 34 := N_0
    have b0 : (i 0).val < 2176 := (i 0).isLt
    have b1 : (i 1).val < 1536 := (i 1).isLt
    obtain ⟨t, ht⟩ : ∃ t : Fin cfg0.N, t.val = 33 - (i 0).val / 64 := ⟨⟨33 - (i 0).val / 64, by omega⟩, rfl⟩
    obtain ⟨e0, e1⟩ := index_8 t
    refine ⟨t, flush0_8 t, ?_⟩
    show i ∈ ((View.whole main_v49_0).slice (win0_8.rect t)).set
    rw [View.set_slice_whole, Rect.mem_set_unit]
    intro x
    match x with
      | ⟨0, _⟩ =>
        show win0_8.index t 0 * 64 ≤ (i 0).val ∧ (i 0).val < win0_8.index t 0 * 64 + 64
        rw [e0]; omega
      | ⟨1, _⟩ =>
        show win0_8.index t 1 * 1536 ≤ (i 1).val ∧ (i 1).val < win0_8.index t 1 * 1536 + 1536
        rw [e1]; omega

include H in
theorem read_9 (t : Fin cfg0.N) (hf : (cfg0.win 9).flush t = true) :
    (dats m 0 c).flushed 9 t = ((cfg0.win 9).blk t).view.read (Elt Ideal)
      (M3 fun C t h => atPt XB DT DY a (fun X T Y S DS => o9 X T Y S DS a t h) (33 - C) : FVec Ideal S34x64x16 .f32) := by
  have hN : cfg0.N = 34 := N_0
  have ht := t.isLt
  show (cfg0.win 9).cut (grid0.coords t) ((dats m 0 c).after 9 t) = _
  rw [after0_9, outsAt_left H]
  funext j
  rw [View.read_apply]
  obtain ⟨e0, e1, e2⟩ := index_9 t
  have z : (j 0).val < 1 := (j 0).isLt
  refine congrArg (fun x : ℝ => (x : EReal)) ?_
  show atPt XB DT DY a (fun X T Y S DS => o9 X T Y S DS a (j 1).val (j 2).val) t.val = atPt XB DT DY a (fun X T Y S DS => o9 X T Y S DS a (win0_9.index t 1 * 64 + 1 * (j 1).val) (win0_9.index t 2 * 16 + 1 * (j 2).val)) (33 - (win0_9.index t 0 * 1 + 1 * (j 0).val))
  have q : (33 - t.val) * 1 + 1 * (j 0).val = 33 - t.val := by omega
  rw [e0, e1, e2, q, Nat.sub_sub_self (by omega)]
  simp only [Nat.zero_mul, Nat.zero_add, Nat.one_mul]

include H in
theorem arr_9 : (dats m 0 c).arrAt 9 cfg0.N = (M3 fun C t h => atPt XB DT DY a (fun X T Y S DS => o9 X T Y S DS a t h) (33 - C) : FVec Ideal S34x64x16 .f32) :=
  (dats m 0 c).arrAt_eq_of_cover 9 _ (read_9 H) fun i => by
    have hN : cfg0.N = 34 := N_0
    have b0 : (i 0).val < 34 := (i 0).isLt
    have b1 : (i 1).val < 64 := (i 1).isLt
    have b2 : (i 2).val < 16 := (i 2).isLt
    obtain ⟨t, ht⟩ : ∃ t : Fin cfg0.N, t.val = 33 - (i 0).val := ⟨⟨33 - (i 0).val, by omega⟩, rfl⟩
    obtain ⟨e0, e1, e2⟩ := index_9 t
    refine ⟨t, flush0_9 t, ?_⟩
    show i ∈ ((View.whole main_v49_1).slice (win0_9.rect t)).set
    rw [View.set_slice_whole, Rect.mem_set_unit]
    intro x
    match x with
      | ⟨0, _⟩ =>
        show win0_9.index t 0 * 1 ≤ (i 0).val ∧ (i 0).val < win0_9.index t 0 * 1 + 1
        rw [e0]; omega
      | ⟨1, _⟩ =>
        show win0_9.index t 1 * 64 ≤ (i 1).val ∧ (i 1).val < win0_9.index t 1 * 64 + 64
        rw [e1]; omega
      | ⟨2, _⟩ =>
        show win0_9.index t 2 * 16 ≤ (i 2).val ∧ (i 2).val < win0_9.index t 2 * 16 + 16
        rw [e2]; omega

include H in
theorem read_10 (t : Fin cfg0.N) (hf : (cfg0.win 10).flush t = true) :
    (dats m 0 c).flushed 10 t = ((cfg0.win 10).blk t).view.read (Elt Ideal)
      (M3 fun C h t => atPt XB DT DY a (fun X T Y _ _ => o10 X T Y a h t) (33 - C) : FVec Ideal S34x16x64 .f32) := by
  have hN : cfg0.N = 34 := N_0
  have ht := t.isLt
  show (cfg0.win 10).cut (grid0.coords t) ((dats m 0 c).after 10 t) = _
  rw [after0_10, outsAt_left H]
  funext j
  rw [View.read_apply]
  obtain ⟨e0, e1, e2⟩ := index_10 t
  have z : (j 0).val < 1 := (j 0).isLt
  refine congrArg (fun x : ℝ => (x : EReal)) ?_
  show atPt XB DT DY a (fun X T Y _ _ => o10 X T Y a (j 1).val (j 2).val) t.val = atPt XB DT DY a (fun X T Y _ _ => o10 X T Y a (win0_10.index t 1 * 16 + 1 * (j 1).val) (win0_10.index t 2 * 64 + 1 * (j 2).val)) (33 - (win0_10.index t 0 * 1 + 1 * (j 0).val))
  have q : (33 - t.val) * 1 + 1 * (j 0).val = 33 - t.val := by omega
  rw [e0, e1, e2, q, Nat.sub_sub_self (by omega)]
  simp only [Nat.zero_mul, Nat.zero_add, Nat.one_mul]

include H in
theorem arr_10 : (dats m 0 c).arrAt 10 cfg0.N = (M3 fun C h t => atPt XB DT DY a (fun X T Y _ _ => o10 X T Y a h t) (33 - C) : FVec Ideal S34x16x64 .f32) :=
  (dats m 0 c).arrAt_eq_of_cover 10 _ (read_10 H) fun i => by
    have hN : cfg0.N = 34 := N_0
    have b0 : (i 0).val < 34 := (i 0).isLt
    have b1 : (i 1).val < 16 := (i 1).isLt
    have b2 : (i 2).val < 64 := (i 2).isLt
    obtain ⟨t, ht⟩ : ∃ t : Fin cfg0.N, t.val = 33 - (i 0).val := ⟨⟨33 - (i 0).val, by omega⟩, rfl⟩
    obtain ⟨e0, e1, e2⟩ := index_10 t
    refine ⟨t, flush0_10 t, ?_⟩
    show i ∈ ((View.whole main_v49_2).slice (win0_10.rect t)).set
    rw [View.set_slice_whole, Rect.mem_set_unit]
    intro x
    match x with
      | ⟨0, _⟩ =>
        show win0_10.index t 0 * 1 ≤ (i 0).val ∧ (i 0).val < win0_10.index t 0 * 1 + 1
        rw [e0]; omega
      | ⟨1, _⟩ =>
        show win0_10.index t 1 * 16 ≤ (i 1).val ∧ (i 1).val < win0_10.index t 1 * 16 + 16
        rw [e1]; omega
      | ⟨2, _⟩ =>
        show win0_10.index t 2 * 64 ≤ (i 2).val ∧ (i 2).val < win0_10.index t 2 * 64 + 64
        rw [e2]; omega

include H in
theorem read_11 (t : Fin cfg0.N) (hf : (cfg0.win 11).flush t = true) :
    (dats m 0 c).flushed 11 t = ((cfg0.win 11).blk t).view.read (Elt Ideal)
      (M2 fun _ h => ∑ k ∈ Finset.range 34, atPt XB DT DY a (fun X T Y S DS => o11 X T Y S DS a h) k : FVec Ideal S1x16 .f32) := by
  have hN : cfg0.N = 34 := N_0
  have ht := t.isLt
  show (cfg0.win 11).cut (grid0.coords t) ((dats m 0 c).after 11 t) = _
  rw [after0_11, outsAt_left H]
  funext j
  rw [View.read_apply]
  obtain ⟨e0, e1⟩ := index_11 t
  have z : t.val % 34 = 33 := (flush0_11 t).mp hf
  have z1 : t.val = 33 := by omega
  refine congrArg (fun x : ℝ => (x : EReal)) ?_
  show ∑ k ∈ Finset.range (t.val + 1), atPt XB DT DY a (fun X T Y S DS => o11 X T Y S DS a (j 1).val) k = ∑ k ∈ Finset.range 34, atPt XB DT DY a (fun X T Y S DS => o11 X T Y S DS a (win0_11.index t 1 * 16 + 1 * (j 1).val)) k
  rw [e1, z1, Nat.zero_mul, Nat.zero_add, Nat.one_mul]

include H in
theorem arr_11 : (dats m 0 c).arrAt 11 cfg0.N = (M2 fun _ h => ∑ k ∈ Finset.range 34, atPt XB DT DY a (fun X T Y S DS => o11 X T Y S DS a h) k : FVec Ideal S1x16 .f32) :=
  (dats m 0 c).arrAt_eq_of_cover 11 _ (read_11 H) fun i => by
    have hN : cfg0.N = 34 := N_0
    have b0 : (i 0).val < 1 := (i 0).isLt
    have b1 : (i 1).val < 16 := (i 1).isLt
    obtain ⟨t, ht⟩ : ∃ t : Fin cfg0.N, t.val = 33 := ⟨⟨33, by omega⟩, rfl⟩
    obtain ⟨e0, e1⟩ := index_11 t
    refine ⟨t, (flush0_11 t).mpr (by omega), ?_⟩
    show i ∈ ((View.whole main_v49_3).slice (win0_11.rect t)).set
    rw [View.set_slice_whole, Rect.mem_set_unit]
    intro x
    match x with
      | ⟨0, _⟩ =>
        show win0_11.index t 0 * 1 ≤ (i 0).val ∧ (i 0).val < win0_11.index t 0 * 1 + 1
        rw [e0]; omega
      | ⟨1, _⟩ =>
        show win0_11.index t 1 * 16 ≤ (i 1).val ∧ (i 1).val < win0_11.index t 1 * 16 + 16
        rw [e1]; omega

include H in
theorem read_12 (t : Fin cfg0.N) (hf : (cfg0.win 12).flush t = true) :
    (dats m 0 c).flushed 12 t = ((cfg0.win 12).blk t).view.read (Elt Ideal)
      (M2 fun h _ => ∑ k ∈ Finset.range 34, atPt XB DT DY a (fun X T Y _ _ => o12 X T Y a h) k : FVec Ideal S16x1 .f32) := by
  have hN : cfg0.N = 34 := N_0
  have ht := t.isLt
  show (cfg0.win 12).cut (grid0.coords t) ((dats m 0 c).after 12 t) = _
  rw [after0_12, outsAt_left H]
  funext j
  rw [View.read_apply]
  obtain ⟨e0, e1⟩ := index_12 t
  have z : t.val % 34 = 33 := (flush0_12 t).mp hf
  have z1 : t.val = 33 := by omega
  refine congrArg (fun x : ℝ => (x : EReal)) ?_
  show ∑ k ∈ Finset.range (t.val + 1), atPt XB DT DY a (fun X T Y _ _ => o12 X T Y a (j 0).val) k = ∑ k ∈ Finset.range 34, atPt XB DT DY a (fun X T Y _ _ => o12 X T Y a (win0_12.index t 0 * 16 + 1 * (j 0).val)) k
  rw [e0, z1, Nat.zero_mul, Nat.zero_add, Nat.one_mul]

include H in
theorem arr_12 : (dats m 0 c).arrAt 12 cfg0.N = (M2 fun h _ => ∑ k ∈ Finset.range 34, atPt XB DT DY a (fun X T Y _ _ => o12 X T Y a h) k : FVec Ideal S16x1 .f32) :=
  (dats m 0 c).arrAt_eq_of_cover 12 _ (read_12 H) fun i => by
    have hN : cfg0.N = 34 := N_0
    have b0 : (i 0).val < 16 := (i 0).isLt
    have b1 : (i 1).val < 1 := (i 1).isLt
    obtain ⟨t, ht⟩ : ∃ t : Fin cfg0.N, t.val = 33 := ⟨⟨33, by omega⟩, rfl⟩
    obtain ⟨e0, e1⟩ := index_12 t
    refine ⟨t, (flush0_12 t).mpr (by omega), ?_⟩
    show i ∈ ((View.whole main_v49_4).slice (win0_12.rect t)).set
    rw [View.set_slice_whole, Rect.mem_set_unit]
    intro x
    match x with
      | ⟨0, _⟩ =>
        show win0_12.index t 0 * 16 ≤ (i 0).val ∧ (i 0).val < win0_12.index t 0 * 16 + 16
        rw [e0]; omega
      | ⟨1, _⟩ =>
        show win0_12.index t 1 * 1 ≤ (i 1).val ∧ (i 1).val < win0_12.index t 1 * 1 + 1
        rw [e1]; omega

include H in
theorem read_13 (t : Fin cfg0.N) (hf : (cfg0.win 13).flush t = true) :
    (dats m 0 c).flushed 13 t = ((cfg0.win 13).blk t).view.read (Elt Ideal)
      (M2 fun _ j => ∑ k ∈ Finset.range 34, atPt XB DT DY a (fun X _ Y _ _ => o13 X Y j) k : FVec Ideal S1x1024 .f32) := by
  have hN : cfg0.N = 34 := N_0
  have ht := t.isLt
  show (cfg0.win 13).cut (grid0.coords t) ((dats m 0 c).after 13 t) = _
  rw [after0_13, outsAt_left H]
  funext j
  rw [View.read_apply]
  obtain ⟨e0, e1⟩ := index_13 t
  have z : t.val % 34 = 33 := (flush0_13 t).mp hf
  have z1 : t.val = 33 := by omega
  refine congrArg (fun x : ℝ => (x : EReal)) ?_
  show ∑ k ∈ Finset.range (t.val + 1), atPt XB DT DY a (fun X _ Y _ _ => o13 X Y (j 1).val) k = ∑ k ∈ Finset.range 34, atPt XB DT DY a (fun X _ Y _ _ => o13 X Y (win0_13.index t 1 * 1024 + 1 * (j 1).val)) k
  rw [e1, z1, Nat.zero_mul, Nat.zero_add, Nat.one_mul]

include H in
theorem arr_13 : (dats m 0 c).arrAt 13 cfg0.N = (M2 fun _ j => ∑ k ∈ Finset.range 34, atPt XB DT DY a (fun X _ Y _ _ => o13 X Y j) k : FVec Ideal S1x1024 .f32) :=
  (dats m 0 c).arrAt_eq_of_cover 13 _ (read_13 H) fun i => by
    have hN : cfg0.N = 34 := N_0
    have b0 : (i 0).val < 1 := (i 0).isLt
    have b1 : (i 1).val < 1024 := (i 1).isLt
    obtain ⟨t, ht⟩ : ∃ t : Fin cfg0.N, t.val = 33 := ⟨⟨33, by omega⟩, rfl⟩
    obtain ⟨e0, e1⟩ := index_13 t
    refine ⟨t, (flush0_13 t).mpr (by omega), ?_⟩
    show i ∈ ((View.whole main_v49_5).slice (win0_13.rect t)).set
    rw [View.set_slice_whole, Rect.mem_set_unit]
    intro x
    match x with
      | ⟨0, _⟩ =>
        show win0_13.index t 0 * 1 ≤ (i 0).val ∧ (i 0).val < win0_13.index t 0 * 1 + 1
        rw [e0]; omega
      | ⟨1, _⟩ =>
        show win0_13.index t 1 * 1024 ≤ (i 1).val ∧ (i 1).val < win0_13.index t 1 * 1024 + 1024
        rw [e1]; omega

end Cert.Lift
-- ==== Proof.Ref.lean ====
module

public import proofs.«01_k».proof.Proof.Math
public import proofs.«01_k».proof.Proof.Gen.ReferenceIdeal.Read
public import Idealize.ShloMosaic.Lib.Pointwise.ShapeOpsCore

@[expose] public section

/-! The reference program on real-valued arguments: what each operation computes, as a function of
the natural-number coordinates. -/

noncomputable section

namespace Cert.Lift

open Idealize.ShloMosaic Idealize.ShloMosaic.ValueIdx Cert.ReferenceIdeal Cert.ReferenceIdeal.Read

/-- The rank-four block with the real entries `f`. -/
def M4 {φ : FTy} {n0 n1 n2 n3 : ℕ} (f : ℕ → ℕ → ℕ → ℕ → ℝ) : FVec Ideal (⟨4, ![n0, n1, n2, n3]⟩ : Shape) φ :=
  fun i => ((f (i 0).val (i 1).val (i 2).val (i 3).val : ℝ) : EReal)

/-- The decay rate of a head. -/
def rate (AL : ℕ → ℝ) (h : ℕ) : ℝ := -Real.exp (AL h)

abbrev in0 (XB : ℕ → ℕ → ℝ) : FVec Ideal S2176x1536 .f32 := M2 XB
abbrev in1 (DT : ℕ → ℕ → ℝ) : FVec Ideal S2176x16 .f32 := M2 DT
abbrev in2 (AL : ℕ → ℝ) : FVec Ideal S1x16 .f32 := M2 fun _ h => AL h
abbrev in4 (DY : ℕ → ℕ → ℝ) : FVec Ideal S2176x1024 .f32 := M2 DY

section helpers

theorem total_coe {n : ℕ} (z : EReal) (hz : z = 0) (f : ℕ → ℝ) :
    z + ∑ k : Fin n, ((f k.val : ℝ) : EReal) = ((∑ k ∈ Finset.range n, f k : ℝ) : EReal) := by
  rw [hz, zero_add, sum_coe, ← Fin.sum_univ_eq_sum_range]

theorem total_mul {n : ℕ} (f g : ℕ → ℝ) :
    ∑ k : Fin n, ((f k.val : ℝ) : EReal) * ((g k.val : ℝ) : EReal) = ((∑ k ∈ Finset.range n, f k * g k : ℝ) : EReal) := by
  rw [← Fin.sum_univ_eq_sum_range (fun k => f k * g k), ← sum_coe]
  exact Finset.sum_congr rfl fun k _ => (EReal.coe_mul _ _).symm

theorem masked_coe (p : Prop) [Decidable p] (x : ℝ) (z : EReal) (hz : z = 0) :
    Scalar.select (BitVec.ofBool (decide p)) ((x : ℝ) : EReal) z = ((if p then x else 0 : ℝ) : EReal) := by
  subst hz
  show (if BitVec.ofBool (decide p) = 1#1 then ((x : ℝ) : EReal) else 0) = _
  by_cases h : p <;> simp [h]

theorem masked_exp (p : Prop) [Decidable p] (x : ℝ) (z : EReal) (hz : z = ⊥) :
    (FloatOps.hostUnary (F := Ideal) (φ := .f32) .exp (Scalar.select (BitVec.ofBool (decide p)) ((x : ℝ) : EReal) z) : EReal)
      = ((if p then Real.exp x else 0 : ℝ) : EReal) := by
  subst hz
  show Ideal.exp (if BitVec.ofBool (decide p) = 1#1 then ((x : ℝ) : EReal) else ⊥) = _
  by_cases h : p
  · rw [if_pos (by simp [h]), if_pos h]
    rfl
  · rw [if_neg (by simp [h]), if_neg h]
    rfl

theorem ofBits_bot : (FloatOps.ofBits .f32 0xFF800000#32 : Ideal .f32) = (⊥ : EReal) := by
  show Ideal.ofBits .f32 0xFF800000#32 = ⊥
  simp [Ideal.ofBits, Ideal.ieee]

theorem upto_sum (f : ℕ → ℝ) {N t : ℕ} (h : t < N) :
    (∑ k ∈ Finset.range N, if k ≤ t then f k else 0) = ∑ k ∈ Finset.range (t + 1), f k := by
  rw [← Finset.sum_filter]
  refine Finset.sum_congr ?_ fun _ _ => rfl
  ext k
  simp only [Finset.mem_filter, Finset.mem_range]
  omega

theorem from_sum (f : ℕ → ℝ) {N : ℕ} (t : ℕ) :
    (∑ k ∈ Finset.range N, if t ≤ k then f k else 0) = ∑ k ∈ Finset.Ico t N, f k := by
  rw [← Finset.sum_filter]
  refine Finset.sum_congr ?_ fun _ _ => rfl
  ext k
  simp only [Finset.mem_filter, Finset.mem_range, Finset.mem_Ico]
  omega

/-- A host sum over the outer and the inner axis of a rank-four block. -/
theorem outer_sum {n g r p : ℕ} (h : (⟨4, ![n, g, r, p]⟩ : Shape).ReducesTo ([0, 3] : List (Fin 4)) ⟨2, ![g, r]⟩)
    (z : EReal) (hz : z = 0) (f : ℕ → ℕ → ℕ → ℕ → ℝ) (j : (⟨2, ![g, r]⟩ : Shape).Idx) :
    Ideal.hostReduceAdd h (M4 (φ := .f32) f) z j
      = ((∑ t ∈ Finset.range n, ∑ q ∈ Finset.range p, f t (j 0).val (j 1).val q : ℝ) : EReal) := by
  unfold Ideal.hostReduceAdd
  rw [hz, zero_add]
  have e1 : ∀ i : (⟨4, ![n, g, r, p]⟩ : Shape).Idx, h.drop i = j ↔ ((i 1).val = (j 0).val ∧ (i 2).val = (j 1).val) := by
    intro i
    constructor
    · intro e
      subst e
      exact ⟨rfl, rfl⟩
    · rintro ⟨e, e'⟩
      funext b
      match b with
      | ⟨0, _⟩ => exact Fin.ext e
      | ⟨1, _⟩ => exact Fin.ext e'
  have e2 : ∑ i ∈ Finset.univ.filter (fun i => h.drop i = j), M4 (φ := .f32) f i
      = ∑ q : Fin n × Fin p, ((f q.1.val (j 0).val (j 1).val q.2.val : ℝ) : EReal) := by
    refine Finset.sum_bij' (fun i _ => ((i 0 : Fin n), (i 3 : Fin p)))
      (fun q _ => (fun a => match a with
        | ⟨0, _⟩ => q.1 | ⟨1, _⟩ => j 0 | ⟨2, _⟩ => j 1 | ⟨3, _⟩ => q.2 : (⟨4, ![n, g, r, p]⟩ : Shape).Idx)) ?_ ?_ ?_ ?_ ?_
    · intro i _
      exact Finset.mem_univ _
    · intro q _
      rw [Finset.mem_filter]
      exact ⟨Finset.mem_univ _, (e1 _).2 ⟨rfl, rfl⟩⟩
    · intro i hi
      have := (e1 i).1 (Finset.mem_filter.1 hi).2
      funext a
      match a with
      | ⟨0, _⟩ => rfl
      | ⟨1, _⟩ => exact (Fin.ext this.1).symm
      | ⟨2, _⟩ => exact (Fin.ext this.2).symm
      | ⟨3, _⟩ => rfl
    · intro q _
      rfl
    · intro i hi
      have := (e1 i).1 (Finset.mem_filter.1 hi).2
      show ((f _ (i 1).val (i 2).val _ : ℝ) : EReal) = _
      rw [this.1, this.2]
  rw [e2, sum_coe, Fintype.sum_prod_type]
  refine congrArg _ ?_
  rw [← Fin.sum_univ_eq_sum_range (fun t => ∑ q ∈ Finset.range p, f t (j 0).val (j 1).val q)]
  exact Finset.sum_congr rfl fun t _ => Fin.sum_univ_eq_sum_range (fun q => f t.val (j 0).val (j 1).val q) p

/-- Columns placed at offset `lo` of a wider matrix, zero around them. -/
theorem pad_cols {n w W lo hi : ℕ} (f : ℕ → ℕ → ℝ) (v : (⟨0, ![]⟩ : Shape).Idx → EReal) (hv : ∀ i, v i = 0)
    (h : (⟨2, ![n, w]⟩ : Shape).Pads ![0, lo] ![0, hi] ![0, 0] ⟨2, ![n, W]⟩) (hu : 0 < (⟨0, ![]⟩ : Shape).numel) :
    pad (⟨2, ![n, W]⟩ : Shape) ![0, lo] ![0, hi] ![0, 0] (M2 (φ := .f32) (n := n) (m := w) f) v h hu
      = M2 (φ := .f32) fun r j => if lo ≤ j ∧ j - lo < w then f r (j - lo) else 0 := by
  funext j
  rw [pad_apply]
  have h0 : (j 0).val < n := (j 0).isLt
  show _ = ((if lo ≤ (j 1).val ∧ (j 1).val - lo < w then f (j 0).val ((j 1).val - lo) else 0 : ℝ) : EReal)
  by_cases c : lo ≤ (j 1).val ∧ (j 1).val - lo < w
  · rw [if_pos c, dif_pos]
    · show ((f (((j 0).val - 0) / 1) (((j 1).val - lo) / 1) : ℝ) : EReal) = _
      rw [Nat.sub_zero, Nat.div_one, Nat.div_one]
    · intro a
      match a with
      | ⟨0, _⟩ =>
        show 0 ≤ (j 0).val ∧ ((j 0).val - 0) % 1 = 0 ∧ ((j 0).val - 0) / 1 < n
        rw [Nat.sub_zero, Nat.div_one]
        exact ⟨Nat.zero_le _, Nat.mod_one _, h0⟩
      | ⟨1, _⟩ =>
        show lo ≤ (j 1).val ∧ ((j 1).val - lo) % 1 = 0 ∧ ((j 1).val - lo) / 1 < w
        rw [Nat.div_one]
        exact ⟨c.1, Nat.mod_one _, c.2⟩
  · rw [if_neg c, dif_neg]
    · exact hv _
    · intro hin
      have := hin (1 : Fin 2)
      apply c
      have e : lo ≤ (j 1).val ∧ ((j 1).val - lo) % 1 = 0 ∧ ((j 1).val - lo) / 1 < w := this
      rw [Nat.div_one] at e
      exact ⟨e.1, e.2.2⟩

end helpers

variable (XB DT DY : ℕ → ℕ → ℝ) (a AL DK : ℕ → ℝ)

/-- The gradient of a head's skip weight. -/
def SK (h : ℕ) : ℝ := ∑ t ∈ Finset.range 2176, ∑ p ∈ Finset.range 64, XB t (64 * h + p) * DY t (64 * h + p)

/-- The step's own gradient through the scaled input. -/
def XR (h s : ℕ) : ℝ := ∑ p ∈ Finset.range 64, XB s (64 * h + p) * rdx XB DT DY a s (64 * h + p)

/-- The gradient of the head inputs. -/
def SX (s j : ℕ) : ℝ := DY s j * DK (j / 64) + rdx XB DT DY a s j * DT s (j / 64)

/-- The product of the read and write vectors times the gradient of a head's mixing matrix. -/
def CT (h t s : ℕ) : ℝ := cb XB (h / 8) t s * TT XB DT DY h t s

/-- The gradient of the read vectors. -/
def DC (g t n : ℕ) : ℝ := ∑ s ∈ Finset.range 2176, rcb XB DT DY a g t s * XB s (1024 + 128 * g + n)

/-- The gradient of the write vectors. -/
def DB (g s n : ℕ) : ℝ := ∑ t ∈ Finset.range 2176, rcb XB DT DY a g t s * XB t (1280 + 128 * g + n)

theorem r_v0 : val_main_v0 (F := Ideal) (in0 XB) = (M2 fun t u => XB t u : FVec Ideal S2176x1024 .f32) := by
  funext i
  rw [val_main_v0_apply]
  rfl

theorem r_v1 : val_main_v1 (F := Ideal) (in0 XB) = (M4 fun t u v w => XB t (64 * (8 * u + v) + w) : FVec Ideal S2176x2x8x64 .f32) := by
  funext i
  rw [val_main_v1_apply, r_v0]
  have h0 : (i 0).val < 2176 := (i 0).isLt
  have h1 : (i 1).val < 2 := (i 1).isLt
  have h2 : (i 2).val < 8 := (i 2).isLt
  have h3 : (i 3).val < 64 := (i 3).isLt
  show ((XB (((((i 0).val * 2 + (i 1).val) * 8 + (i 2).val) * 64 + (i 3).val) / 1024) (((((i 0).val * 2 + (i 1).val) * 8 + (i 2).val) * 64 + (i 3).val) % 1024) : ℝ) : EReal) = ((XB (i 0).val (64 * (8 * (i 1).val + (i 2).val) + (i 3).val) : ℝ) : EReal)
  refine congrArg _ ?_
  congr 1 <;> omega

theorem r_v2 : val_main_v2 (F := Ideal) (in0 XB) = (M2 fun t u => XB t (1024 + u) : FVec Ideal S2176x256 .f32) := by
  funext i
  rw [val_main_v2_apply]
  rfl

theorem r_v3 : val_main_v3 (F := Ideal) (in0 XB) = (M3 fun t u v => XB t (1024 + 128 * u + v) : FVec Ideal S2176x2x128 .f32) := by
  funext i
  rw [val_main_v3_apply, r_v2]
  have h0 : (i 0).val < 2176 := (i 0).isLt
  have h1 : (i 1).val < 2 := (i 1).isLt
  have h2 : (i 2).val < 128 := (i 2).isLt
  show ((XB ((((i 0).val * 2 + (i 1).val) * 128 + (i 2).val) / 256) (1024 + ((((i 0).val * 2 + (i 1).val) * 128 + (i 2).val) % 256)) : ℝ) : EReal) = ((XB (i 0).val (1024 + 128 * (i 1).val + (i 2).val) : ℝ) : EReal)
  refine congrArg _ ?_
  congr 1 <;> omega

theorem r_v4 : val_main_v4 (F := Ideal) (in0 XB) = (M2 fun t u => XB t (1280 + u) : FVec Ideal S2176x256 .f32) := by
  funext i
  rw [val_main_v4_apply]
  rfl

theorem r_v5 : val_main_v5 (F := Ideal) (in0 XB) = (M3 fun t u v => XB t (1280 + 128 * u + v) : FVec Ideal S2176x2x128 .f32) := by
  funext i
  rw [val_main_v5_apply, r_v4]
  have h0 : (i 0).val < 2176 := (i 0).isLt
  have h1 : (i 1).val < 2 := (i 1).isLt
  have h2 : (i 2).val < 128 := (i 2).isLt
  show ((XB ((((i 0).val * 2 + (i 1).val) * 128 + (i 2).val) / 256) (1280 + ((((i 0).val * 2 + (i 1).val) * 128 + (i 2).val) % 256)) : ℝ) : EReal) = ((XB (i 0).val (1280 + 128 * (i 1).val + (i 2).val) : ℝ) : EReal)
  refine congrArg _ ?_
  congr 1 <;> omega

theorem r_v6 : val_main_v6 (F := Ideal) (in2 AL) = (M2 fun _ u => Real.exp (AL u) : FVec Ideal S1x16 .f32) := by
  funext i
  rw [val_main_v6_apply]
  rfl

theorem r_v7 : val_main_v7 (F := Ideal) (in2 AL) = (M2 fun _ u => rate AL u : FVec Ideal S1x16 .f32) := by
  funext i
  rw [val_main_v7_apply, r_v6]
  exact (EReal.coe_neg _).symm

theorem r_v10 (i : S2176x2176.Idx) : val_main_v10 (F := Ideal) i = BitVec.ofBool (decide ((i 1).val ≤ (i 0).val)) := by
  rw [val_main_v10_apply]
  have h0 : (i 0).val < 2176 := (i 0).isLt
  have h1 : (i 1).val < 2176 := (i 1).isLt
  show BitVec.ofBool ((BitVec.ofNat 32 (i 1).val).sle (BitVec.ofNat 32 (i 0).val)) = _
  rw [BitVec.sle_eq_decide, toInt_ofNat (by omega), toInt_ofNat (by omega)]
  simp only [Nat.cast_le]

theorem r_v11 (i : S2176x2176x1.Idx) : val_main_v11 (F := Ideal) i = BitVec.ofBool (decide ((i 1).val ≤ (i 0).val)) := by
  rw [val_main_v11_apply]
  exact r_v10 _

theorem r_v12 : val_main_v12 (F := Ideal) (in2 AL) = (M2 fun _ u => rate AL u : FVec Ideal S2176x16 .f32) := by
  funext i
  rw [val_main_v12_apply, r_v7]
  rfl

theorem r_v13 : val_main_v13 (F := Ideal) (in1 DT) (in2 AL) = (M2 fun t u => DT t u * rate AL u : FVec Ideal S2176x16 .f32) := by
  funext i
  rw [val_main_v13_apply, r_v12]
  refine (EReal.coe_mul _ _).symm.trans (congrArg _ ?_)
  rfl

theorem r_v14 : val_main_v14 (F := Ideal) (in1 DT) (in2 AL) = (M3 fun _ u v => DT u v * rate AL v : FVec Ideal S1x2176x16 .f32) := by
  funext i
  rw [val_main_v14_apply, r_v13]
  rfl

theorem r_v15_1 (i : S2176x2176x16.Idx) : val_main_v15_1 (F := Ideal) i = BitVec.ofBool (decide ((i 1).val ≤ (i 0).val)) := by
  rw [val_main_v15_1_apply]
  exact r_v11 _

theorem r_call0_v2 : val_main_call0_v2 (F := Ideal) (in1 DT) (in2 AL) = (M3 fun _ u v => DT u v * rate AL v : FVec Ideal S2176x2176x16 .f32) := by
  funext i
  rw [val_main_call0_v2_apply, r_v14]
  rfl

theorem r_v15_0 : val_main_v15_0 (F := Ideal) (in1 DT) (in2 AL) = (M3 fun t u v => if u ≤ t then DT u v * rate AL v else 0 : FVec Ideal S2176x2176x16 .f32) := by
  funext i
  rw [val_main_v15_0_apply, r_v15_1, r_call0_v2]
  refine (masked_coe _ _ _ Ideal.ofBits_zero_f32).trans (congrArg _ ?_)
  rfl

theorem r_v16 : val_main_v16 (F := Ideal) (in1 DT) (in2 AL) = (M2 fun t u => KK DT (rate AL) (t + 1) u : FVec Ideal S2176x16 .f32) := by
  funext i
  rw [val_main_v16_apply, r_v15_0]
  have h0 : (i 0).val < 2176 := (i 0).isLt
  have h1 : (i 1).val < 16 := (i 1).isLt
  refine (total_coe (n := 2176) _ Ideal.ofBits_zero_f32 fun k => if k ≤ (i 0).val then DT k (i 1).val * rate AL (i 1).val else 0).trans (congrArg _ ?_)
  exact upto_sum _ h0

theorem r_v17 : val_main_v17 (F := Ideal) (in1 DT) (in2 AL) = (M3 fun t _ v => KK DT (rate AL) (t + 1) v : FVec Ideal S2176x1x16 .f32) := by
  funext i
  rw [val_main_v17_apply, r_v16]
  rfl

theorem r_v18 : val_main_v18 (F := Ideal) (in1 DT) (in2 AL) = (M3 fun _ u v => KK DT (rate AL) (u + 1) v : FVec Ideal S1x2176x16 .f32) := by
  funext i
  rw [val_main_v18_apply, r_v16]
  rfl

theorem r_v19 : val_main_v19 (F := Ideal) (in1 DT) (in2 AL) = (M3 fun t _ v => KK DT (rate AL) (t + 1) v : FVec Ideal S2176x2176x16 .f32) := by
  funext i
  rw [val_main_v19_apply, r_v17]
  rfl

theorem r_v20 : val_main_v20 (F := Ideal) (in1 DT) (in2 AL) = (M3 fun _ u v => KK DT (rate AL) (u + 1) v : FVec Ideal S2176x2176x16 .f32) := by
  funext i
  rw [val_main_v20_apply, r_v18]
  rfl

theorem r_v21 : val_main_v21 (F := Ideal) (in1 DT) (in2 AL) = (M3 fun t u v => KK DT (rate AL) (t + 1) v - KK DT (rate AL) (u + 1) v : FVec Ideal S2176x2176x16 .f32) := by
  funext i
  rw [val_main_v21_apply, r_v19, r_v20]
  refine (EReal.coe_sub _ _).symm.trans (congrArg _ ?_)
  rfl

theorem r_v22 (i : S2176x2176x1.Idx) : val_main_v22 (F := Ideal) i = BitVec.ofBool (decide ((i 1).val ≤ (i 0).val)) := by
  rw [val_main_v22_apply]
  exact r_v10 _

theorem r_v23_1 (i : S2176x2176x16.Idx) : val_main_v23_1 (F := Ideal) i = BitVec.ofBool (decide ((i 1).val ≤ (i 0).val)) := by
  rw [val_main_v23_1_apply]
  exact r_v22 _

theorem r_v24 : val_main_v24 (F := Ideal) (in1 DT) (in2 AL) = (M3 fun t u v => rE DT (rate AL) v t u : FVec Ideal S2176x2176x16 .f32) := by
  funext i
  rw [val_main_v24_apply, val_main_v23_0_apply, r_v23_1, r_v21]
  exact masked_exp _ _ _ ofBits_bot

theorem r_v25 : val_main_v25 (F := Ideal) (in1 DT) (in2 AL) = (M4 fun t u v w => rE DT (rate AL) (8 * v + w) t u : FVec Ideal S2176x2176x2x8 .f32) := by
  funext i
  rw [val_main_v25_apply, r_v24]
  have h0 : (i 0).val < 2176 := (i 0).isLt
  have h1 : (i 1).val < 2176 := (i 1).isLt
  have h2 : (i 2).val < 2 := (i 2).isLt
  have h3 : (i 3).val < 8 := (i 3).isLt
  show ((rE DT (rate AL) (((((i 0).val * 2176 + (i 1).val) * 2 + (i 2).val) * 8 + (i 3).val) % 16) (((((i 0).val * 2176 + (i 1).val) * 2 + (i 2).val) * 8 + (i 3).val) / 34816) (((((i 0).val * 2176 + (i 1).val) * 2 + (i 2).val) * 8 + (i 3).val) / 16 % 2176) : ℝ) : EReal) = ((rE DT (rate AL) (8 * (i 2).val + (i 3).val) (i 0).val (i 1).val : ℝ) : EReal)
  refine congrArg _ ?_
  congr 1 <;> omega

theorem r_v26 : val_main_v26 (F := Ideal) (in0 XB) = (M3 fun t u v => cb XB t v u : FVec Ideal S2x2176x2176 .f32) := by
  funext i
  rw [val_main_v26_apply, r_v3, r_v5]
  have h0 : (i 0).val < 2 := (i 0).isLt
  have h1 : (i 1).val < 2176 := (i 1).isLt
  have h2 : (i 2).val < 2176 := (i 2).isLt
  refine (total_mul (n := 128) (fun k => XB (i 1).val (1024 + 128 * (i 0).val + k)) (fun k => XB (i 2).val (1280 + 128 * (i 0).val + k))).trans (congrArg _ ?_)
  exact Finset.sum_congr rfl fun k _ => mul_comm _ _

theorem r_v27 : val_main_v27 (F := Ideal) (in0 XB) = (M3 fun t u v => cb XB v t u : FVec Ideal S2176x2176x2 .f32) := by
  funext i
  rw [val_main_v27_apply, r_v26]
  rfl

theorem r_v28 : val_main_v28 (F := Ideal) (in0 XB) = (M4 fun t u v _ => cb XB v t u : FVec Ideal S2176x2176x2x1 .f32) := by
  funext i
  rw [val_main_v28_apply, r_v27]
  rfl

theorem r_v29 : val_main_v29 (F := Ideal) (in0 XB) = (M4 fun t u v _ => cb XB v t u : FVec Ideal S2176x2176x2x8 .f32) := by
  funext i
  rw [val_main_v29_apply, r_v28]
  rfl

theorem r_v30 : val_main_v30 (F := Ideal) (in0 XB) (in1 DT) (in2 AL) = (M4 fun t u v w => cb XB v t u * rE DT (rate AL) (8 * v + w) t u : FVec Ideal S2176x2176x2x8 .f32) := by
  funext i
  rw [val_main_v30_apply, r_v29, r_v25]
  refine (EReal.coe_mul _ _).symm.trans (congrArg _ ?_)
  rfl

theorem r_v31 : val_main_v31 (F := Ideal) (in1 DT) = (M3 fun t u v => DT t (8 * u + v) : FVec Ideal S2176x2x8 .f32) := by
  funext i
  rw [val_main_v31_apply]
  have h0 : (i 0).val < 2176 := (i 0).isLt
  have h1 : (i 1).val < 2 := (i 1).isLt
  have h2 : (i 2).val < 8 := (i 2).isLt
  show ((DT ((((i 0).val * 2 + (i 1).val) * 8 + (i 2).val) / 16) ((((i 0).val * 2 + (i 1).val) * 8 + (i 2).val) % 16) : ℝ) : EReal) = ((DT (i 0).val (8 * (i 1).val + (i 2).val) : ℝ) : EReal)
  refine congrArg _ ?_
  congr 1 <;> omega

theorem r_v32 : val_main_v32 (F := Ideal) (in1 DT) = (M4 fun t u v _ => DT t (8 * u + v) : FVec Ideal S2176x2x8x1 .f32) := by
  funext i
  rw [val_main_v32_apply, r_v31]
  rfl

theorem r_v33 : val_main_v33 (F := Ideal) (in1 DT) = (M4 fun t u v _ => DT t (8 * u + v) : FVec Ideal S2176x2x8x64 .f32) := by
  funext i
  rw [val_main_v33_apply, r_v32]
  rfl

theorem r_v34 : val_main_v34 (F := Ideal) (in0 XB) (in1 DT) = (M4 fun t u v w => xdt XB DT t (64 * (8 * u + v) + w) : FVec Ideal S2176x2x8x64 .f32) := by
  funext i
  rw [val_main_v34_apply, r_v1, r_v33]
  have h0 : (i 0).val < 2176 := (i 0).isLt
  have h1 : (i 1).val < 2 := (i 1).isLt
  have h2 : (i 2).val < 8 := (i 2).isLt
  have h3 : (i 3).val < 64 := (i 3).isLt
  refine (EReal.coe_mul _ _).symm.trans (congrArg _ ?_)
  show (XB (i 0).val (64 * (8 * (i 1).val + (i 2).val) + (i 3).val)) * (DT (i 0).val (8 * (i 1).val + (i 2).val)) = xdt XB DT (i 0).val (64 * (8 * (i 1).val + (i 2).val) + (i 3).val)
  have hj : (64 * (8 * (i 1).val + (i 2).val) + (i 3).val) / 64 = 8 * (i 1).val + (i 2).val := by omega
  unfold xdt
  rw [hj]

theorem r_v37 : val_main_v37 (F := Ideal) (in2 DK) = (M2 fun t u => DK (8 * t + u) : FVec Ideal S2x8 .f32) := by
  funext i
  rw [val_main_v37_apply]
  have h0 : (i 0).val < 2 := (i 0).isLt
  have h1 : (i 1).val < 8 := (i 1).isLt
  show ((DK (((i 0).val * 8 + (i 1).val) % 16) : ℝ) : EReal) = ((DK (8 * (i 0).val + (i 1).val) : ℝ) : EReal)
  refine congrArg _ ?_
  congr 1 <;> omega

theorem r_v38 : val_main_v38 (F := Ideal) (in2 DK) = (M3 fun t u _ => DK (8 * t + u) : FVec Ideal S2x8x1 .f32) := by
  funext i
  rw [val_main_v38_apply, r_v37]
  rfl

theorem r_v39 : val_main_v39 (F := Ideal) (in2 DK) = (M4 fun _ u v _ => DK (8 * u + v) : FVec Ideal S1x2x8x1 .f32) := by
  funext i
  rw [val_main_v39_apply, r_v38]
  rfl

theorem r_v44 : val_main_v44 (F := Ideal) (in4 DY) = (M4 fun t u v w => DY t (64 * (8 * u + v) + w) : FVec Ideal S2176x2x8x64 .f32) := by
  funext i
  rw [val_main_v44_apply]
  have h0 : (i 0).val < 2176 := (i 0).isLt
  have h1 : (i 1).val < 2 := (i 1).isLt
  have h2 : (i 2).val < 8 := (i 2).isLt
  have h3 : (i 3).val < 64 := (i 3).isLt
  show ((DY (((((i 0).val * 2 + (i 1).val) * 8 + (i 2).val) * 64 + (i 3).val) / 1024) (((((i 0).val * 2 + (i 1).val) * 8 + (i 2).val) * 64 + (i 3).val) % 1024) : ℝ) : EReal) = ((DY (i 0).val (64 * (8 * (i 1).val + (i 2).val) + (i 3).val) : ℝ) : EReal)
  refine congrArg _ ?_
  congr 1 <;> omega

theorem r_v45 : val_main_v45 (F := Ideal) (in0 XB) (in4 DY) = (M4 fun t u v w => XB t (64 * (8 * u + v) + w) * DY t (64 * (8 * u + v) + w) : FVec Ideal S2176x2x8x64 .f32) := by
  funext i
  rw [val_main_v45_apply, r_v1, r_v44]
  refine (EReal.coe_mul _ _).symm.trans (congrArg _ ?_)
  rfl

theorem r_v46_at (i : S2x8.Idx) : val_main_v46 (F := Ideal) (in0 XB) (in4 DY) i
    = ((SK XB DY (8 * (i 0).val + (i 1).val) : ℝ) : EReal) := by
  unfold val_main_v46
  rw [r_v45]
  simp only [Host.reduceAdd, Ideal.hostReduceAdd_def]
  exact outer_sum _ _ Ideal.ofBits_zero_f32 _ i

theorem r_v46 : val_main_v46 (F := Ideal) (in0 XB) (in4 DY) = (M2 fun t u => SK XB DY (8 * t + u) : FVec Ideal S2x8 .f32) := by
  funext i
  exact r_v46_at XB DY i

theorem r_v47 : val_main_v47 (F := Ideal) (in0 XB) (in4 DY) = (M4 fun _ u v _ => SK XB DY (8 * u + v) : FVec Ideal S1x2x8x1 .f32) := by
  funext i
  rw [val_main_v47_apply, r_v46]
  have h0 : (i 0).val < 1 := (i 0).isLt
  have h1 : (i 1).val < 2 := (i 1).isLt
  have h2 : (i 2).val < 8 := (i 2).isLt
  have h3 : (i 3).val < 1 := (i 3).isLt
  show ((SK XB DY (8 * (((((i 0).val * 2 + (i 1).val) * 8 + (i 2).val) * 1 + (i 3).val) / 8) + (((((i 0).val * 2 + (i 1).val) * 8 + (i 2).val) * 1 + (i 3).val) % 8)) : ℝ) : EReal) = ((SK XB DY (8 * (i 1).val + (i 2).val) : ℝ) : EReal)
  refine congrArg _ ?_
  congr 1 <;> omega

theorem r_v48 : val_main_v48 (F := Ideal) (in2 DK) = (M4 fun _ u v _ => DK (8 * u + v) : FVec Ideal S2176x2x8x64 .f32) := by
  funext i
  rw [val_main_v48_apply, r_v39]
  rfl

theorem r_v49 : val_main_v49 (F := Ideal) (in2 DK) (in4 DY) = (M4 fun t u v w => DY t (64 * (8 * u + v) + w) * DK (8 * u + v) : FVec Ideal S2176x2x8x64 .f32) := by
  funext i
  rw [val_main_v49_apply, r_v44, r_v48]
  refine (EReal.coe_mul _ _).symm.trans (congrArg _ ?_)
  rfl

theorem r_v50_at (i : S2x8.Idx) : val_main_v50 (F := Ideal) (in0 XB) (in4 DY) i
    = ((SK XB DY (8 * (i 0).val + (i 1).val) : ℝ) : EReal) := by
  unfold val_main_v50
  rw [r_v47]
  simp only [Host.reduceAdd, Ideal.hostReduceAdd_def]
  refine (outer_sum _ _ Ideal.ofBits_zero_f32 _ i).trans (congrArg _ ?_)
  rw [Finset.sum_range_one, Finset.sum_range_one]

theorem r_v50 : val_main_v50 (F := Ideal) (in0 XB) (in4 DY) = (M2 fun t u => SK XB DY (8 * t + u) : FVec Ideal S2x8 .f32) := by
  funext i
  exact r_v50_at XB DY i

theorem r_v51 : val_main_v51 (F := Ideal) (in0 XB) (in4 DY) = (M3 fun t u _ => SK XB DY (8 * t + u) : FVec Ideal S2x8x1 .f32) := by
  funext i
  rw [val_main_v51_apply, r_v50]
  rfl

theorem r_v52 : val_main_v52 (F := Ideal) (in0 XB) (in4 DY) = (M2 fun t u => SK XB DY (8 * t + u) : FVec Ideal S2x8 .f32) := by
  funext i
  rw [val_main_v52_apply, r_v51]
  have h0 : (i 0).val < 2 := (i 0).isLt
  have h1 : (i 1).val < 8 := (i 1).isLt
  refine (total_coe (n := 1) _ Ideal.ofBits_zero_f32 fun k => SK XB DY (8 * (i 0).val + (i 1).val)).trans (congrArg _ ?_)
  exact Finset.sum_range_one _

theorem r_v53 : val_main_v53 (F := Ideal) (in0 XB) (in4 DY) = (M2 fun _ u => SK XB DY u : FVec Ideal S1x16 .f32) := by
  funext i
  rw [val_main_v53_apply, r_v52]
  have h0 : (i 0).val < 1 := (i 0).isLt
  have h1 : (i 1).val < 16 := (i 1).isLt
  show ((SK XB DY (8 * (((i 0).val * 16 + (i 1).val) / 8) + (((i 0).val * 16 + (i 1).val) % 8)) : ℝ) : EReal) = ((SK XB DY (i 1).val : ℝ) : EReal)
  refine congrArg _ ?_
  congr 1 <;> omega

theorem r_v54 : val_main_v54 (F := Ideal) (in4 DY) = (M4 fun t u v w => DY w (64 * (8 * t + u) + v) : FVec Ideal S2x8x64x2176 .f32) := by
  funext i
  rw [val_main_v54_apply, r_v44]
  rfl

theorem r_v55 : val_main_v55 (F := Ideal) (in0 XB) (in1 DT) (in4 DY) = (M4 fun t u v w => TT XB DT DY (8 * t + u) v w : FVec Ideal S2x8x2176x2176 .f32) := by
  funext i
  rw [val_main_v55_apply, r_v54, r_v34]
  refine (total_mul (n := 64) (fun k => DY (i 2).val (64 * (8 * (i 0).val + (i 1).val) + k)) (fun k => xdt XB DT (i 3).val (64 * (8 * (i 0).val + (i 1).val) + k))).trans (congrArg _ ?_)
  rfl

theorem r_v56 : val_main_v56 (F := Ideal) (in0 XB) (in1 DT) (in4 DY) = (M4 fun t u v w => TT XB DT DY (8 * v + w) t u : FVec Ideal S2176x2176x2x8 .f32) := by
  funext i
  rw [val_main_v56_apply, r_v55]
  rfl

theorem r_v57 : val_main_v57 (F := Ideal) (in0 XB) (in1 DT) (in2 AL) (in4 DY) = (M4 fun t u v w => rdx XB DT DY (rate AL) w (64 * (8 * t + u) + v) : FVec Ideal S2x8x64x2176 .f32) := by
  funext i
  rw [val_main_v57_apply, r_v54, r_v30]
  have h0 : (i 0).val < 2 := (i 0).isLt
  have h1 : (i 1).val < 8 := (i 1).isLt
  have h2 : (i 2).val < 64 := (i 2).isLt
  have h3 : (i 3).val < 2176 := (i 3).isLt
  refine (total_mul (n := 2176) (fun k => DY k (64 * (8 * (i 0).val + (i 1).val) + (i 2).val)) (fun k => cb XB (i 0).val k (i 3).val * rE DT (rate AL) (8 * (i 0).val + (i 1).val) k (i 3).val)).trans (congrArg _ ?_)
  refine Finset.sum_congr rfl fun k _ => ?_
  have hj : (64 * (8 * (i 0).val + (i 1).val) + (i 2).val) / 64 = 8 * (i 0).val + (i 1).val := by omega
  have hg : (8 * (i 0).val + (i 1).val) / 8 = (i 0).val := by omega
  rw [hj, hg]
  exact mul_comm _ _

theorem r_v58 : val_main_v58 (F := Ideal) (in0 XB) (in1 DT) (in2 AL) (in4 DY) = (M4 fun t u v w => rdx XB DT DY (rate AL) t (64 * (8 * u + v) + w) : FVec Ideal S2176x2x8x64 .f32) := by
  funext i
  rw [val_main_v58_apply, r_v57]
  rfl

theorem r_v59 : val_main_v59 (F := Ideal) (in0 XB) (in1 DT) (in2 AL) (in4 DY) = (M4 fun t u v w => XB t (64 * (8 * u + v) + w) * rdx XB DT DY (rate AL) t (64 * (8 * u + v) + w) : FVec Ideal S2176x2x8x64 .f32) := by
  funext i
  rw [val_main_v59_apply, r_v1, r_v58]
  refine (EReal.coe_mul _ _).symm.trans (congrArg _ ?_)
  rfl

theorem r_v60 : val_main_v60 (F := Ideal) (in0 XB) (in1 DT) (in2 AL) (in4 DY) = (M3 fun t u v => XR XB DT DY (rate AL) (8 * u + v) t : FVec Ideal S2176x2x8 .f32) := by
  funext i
  rw [val_main_v60_apply, r_v59]
  refine (total_coe (n := 64) _ Ideal.ofBits_zero_f32 fun k => XB (i 0).val (64 * (8 * (i 1).val + (i 2).val) + k) * rdx XB DT DY (rate AL) (i 0).val (64 * (8 * (i 1).val + (i 2).val) + k)).trans (congrArg _ ?_)
  rfl

theorem r_v61 : val_main_v61 (F := Ideal) (in0 XB) (in1 DT) (in2 AL) (in4 DY) = (M4 fun t u v _ => XR XB DT DY (rate AL) (8 * u + v) t : FVec Ideal S2176x2x8x1 .f32) := by
  funext i
  rw [val_main_v61_apply, r_v60]
  have h0 : (i 0).val < 2176 := (i 0).isLt
  have h1 : (i 1).val < 2 := (i 1).isLt
  have h2 : (i 2).val < 8 := (i 2).isLt
  have h3 : (i 3).val < 1 := (i 3).isLt
  show ((XR XB DT DY (rate AL) (8 * (((((i 0).val * 2 + (i 1).val) * 8 + (i 2).val) * 1 + (i 3).val) / 8 % 2) + (((((i 0).val * 2 + (i 1).val) * 8 + (i 2).val) * 1 + (i 3).val) % 8)) (((((i 0).val * 2 + (i 1).val) * 8 + (i 2).val) * 1 + (i 3).val) / 16) : ℝ) : EReal) = ((XR XB DT DY (rate AL) (8 * (i 1).val + (i 2).val) (i 0).val : ℝ) : EReal)
  refine congrArg _ ?_
  congr 1 <;> omega

theorem r_v62 : val_main_v62 (F := Ideal) (in1 DT) = (M4 fun t u v _ => DT t (8 * u + v) : FVec Ideal S2176x2x8x64 .f32) := by
  funext i
  rw [val_main_v62_apply, r_v32]
  rfl

theorem r_v63 : val_main_v63 (F := Ideal) (in0 XB) (in1 DT) (in2 AL) (in4 DY) = (M4 fun t u v w => rdx XB DT DY (rate AL) t (64 * (8 * u + v) + w) * DT t (8 * u + v) : FVec Ideal S2176x2x8x64 .f32) := by
  funext i
  rw [val_main_v63_apply, r_v58, r_v62]
  refine (EReal.coe_mul _ _).symm.trans (congrArg _ ?_)
  rfl

theorem r_v64 : val_main_v64 (F := Ideal) (in0 XB) (in1 DT) (in2 AL) (in2 DK) (in4 DY) = (M4 fun t u v w => SX XB DT DY (rate AL) DK t (64 * (8 * u + v) + w) : FVec Ideal S2176x2x8x64 .f32) := by
  funext i
  rw [val_main_v64_apply, r_v49, r_v63]
  have h0 : (i 0).val < 2176 := (i 0).isLt
  have h1 : (i 1).val < 2 := (i 1).isLt
  have h2 : (i 2).val < 8 := (i 2).isLt
  have h3 : (i 3).val < 64 := (i 3).isLt
  refine (EReal.coe_add _ _).symm.trans (congrArg _ ?_)
  show (DY (i 0).val (64 * (8 * (i 1).val + (i 2).val) + (i 3).val) * DK (8 * (i 1).val + (i 2).val)) + (rdx XB DT DY (rate AL) (i 0).val (64 * (8 * (i 1).val + (i 2).val) + (i 3).val) * DT (i 0).val (8 * (i 1).val + (i 2).val)) = SX XB DT DY (rate AL) DK (i 0).val (64 * (8 * (i 1).val + (i 2).val) + (i 3).val)
  have hj : (64 * (8 * (i 1).val + (i 2).val) + (i 3).val) / 64 = 8 * (i 1).val + (i 2).val := by omega
  unfold SX
  rw [hj]

theorem r_v65 : val_main_v65 (F := Ideal) (in0 XB) (in1 DT) (in2 AL) (in4 DY) = (M3 fun t u v => XR XB DT DY (rate AL) (8 * u + v) t : FVec Ideal S2176x2x8 .f32) := by
  funext i
  rw [val_main_v65_apply, r_v61]
  have h0 : (i 0).val < 2176 := (i 0).isLt
  have h1 : (i 1).val < 2 := (i 1).isLt
  have h2 : (i 2).val < 8 := (i 2).isLt
  refine (total_coe (n := 1) _ Ideal.ofBits_zero_f32 fun k => XR XB DT DY (rate AL) (8 * (i 1).val + (i 2).val) (i 0).val).trans (congrArg _ ?_)
  exact Finset.sum_range_one _

theorem r_v66 : val_main_v66 (F := Ideal) (in0 XB) (in1 DT) (in2 AL) (in4 DY) = (M2 fun t u => XR XB DT DY (rate AL) u t : FVec Ideal S2176x16 .f32) := by
  funext i
  rw [val_main_v66_apply, r_v65]
  have h0 : (i 0).val < 2176 := (i 0).isLt
  have h1 : (i 1).val < 16 := (i 1).isLt
  show ((XR XB DT DY (rate AL) (8 * (((i 0).val * 16 + (i 1).val) / 8 % 2) + (((i 0).val * 16 + (i 1).val) % 8)) (((i 0).val * 16 + (i 1).val) / 16) : ℝ) : EReal) = ((XR XB DT DY (rate AL) (i 1).val (i 0).val : ℝ) : EReal)
  refine congrArg _ ?_
  congr 1 <;> omega

theorem r_v67 : val_main_v67 (F := Ideal) (in0 XB) = (M4 fun t u v _ => cb XB v t u : FVec Ideal S2176x2176x2x8 .f32) := by
  funext i
  rw [val_main_v67_apply, r_v28]
  rfl

theorem r_v68 : val_main_v68 (F := Ideal) (in0 XB) (in1 DT) (in4 DY) = (M4 fun t u v w => CT XB DT DY (8 * v + w) t u : FVec Ideal S2176x2176x2x8 .f32) := by
  funext i
  rw [val_main_v68_apply, r_v67, r_v56]
  have h0 : (i 0).val < 2176 := (i 0).isLt
  have h1 : (i 1).val < 2176 := (i 1).isLt
  have h2 : (i 2).val < 2 := (i 2).isLt
  have h3 : (i 3).val < 8 := (i 3).isLt
  refine (EReal.coe_mul _ _).symm.trans (congrArg _ ?_)
  show (cb XB (i 2).val (i 0).val (i 1).val) * (TT XB DT DY (8 * (i 2).val + (i 3).val) (i 0).val (i 1).val) = CT XB DT DY (8 * (i 2).val + (i 3).val) (i 0).val (i 1).val
  have hg : (8 * (i 2).val + (i 3).val) / 8 = (i 2).val := by omega
  unfold CT
  rw [hg]

theorem r_v69 : val_main_v69 (F := Ideal) (in0 XB) (in1 DT) (in2 AL) (in4 DY) = (M4 fun t u v w => TT XB DT DY (8 * v + w) t u * rE DT (rate AL) (8 * v + w) t u : FVec Ideal S2176x2176x2x8 .f32) := by
  funext i
  rw [val_main_v69_apply, r_v56, r_v25]
  refine (EReal.coe_mul _ _).symm.trans (congrArg _ ?_)
  rfl

theorem r_v70 : val_main_v70 (F := Ideal) (in0 XB) (in1 DT) (in2 AL) (in4 DY) = (M3 fun t u v => rcb XB DT DY (rate AL) v t u : FVec Ideal S2176x2176x2 .f32) := by
  funext i
  rw [val_main_v70_apply, r_v69]
  have h0 : (i 0).val < 2176 := (i 0).isLt
  have h1 : (i 1).val < 2176 := (i 1).isLt
  have h2 : (i 2).val < 2 := (i 2).isLt
  refine (total_coe (n := 8) _ Ideal.ofBits_zero_f32 fun k => TT XB DT DY (8 * (i 2).val + k) (i 0).val (i 1).val * rE DT (rate AL) (8 * (i 2).val + k) (i 0).val (i 1).val).trans (congrArg _ ?_)
  exact Finset.sum_congr rfl fun k _ => mul_comm _ _

theorem r_v71 : val_main_v71 (F := Ideal) (in0 XB) (in1 DT) (in2 AL) (in4 DY) = (M4 fun t u v _ => rcb XB DT DY (rate AL) v t u : FVec Ideal S2176x2176x2x1 .f32) := by
  funext i
  rw [val_main_v71_apply, r_v70]
  have h0 : (i 0).val < 2176 := (i 0).isLt
  have h1 : (i 1).val < 2176 := (i 1).isLt
  have h2 : (i 2).val < 2 := (i 2).isLt
  have h3 : (i 3).val < 1 := (i 3).isLt
  show ((rcb XB DT DY (rate AL) (((((i 0).val * 2176 + (i 1).val) * 2 + (i 2).val) * 1 + (i 3).val) % 2) (((((i 0).val * 2176 + (i 1).val) * 2 + (i 2).val) * 1 + (i 3).val) / 4352) (((((i 0).val * 2176 + (i 1).val) * 2 + (i 2).val) * 1 + (i 3).val) / 2 % 2176) : ℝ) : EReal) = ((rcb XB DT DY (rate AL) (i 2).val (i 0).val (i 1).val : ℝ) : EReal)
  refine congrArg _ ?_
  congr 1 <;> omega

theorem r_v72 : val_main_v72 (F := Ideal) (in0 XB) (in1 DT) (in2 AL) (in4 DY) = (M3 fun t u v => rcb XB DT DY (rate AL) v t u : FVec Ideal S2176x2176x2 .f32) := by
  funext i
  rw [val_main_v72_apply, r_v71]
  have h0 : (i 0).val < 2176 := (i 0).isLt
  have h1 : (i 1).val < 2176 := (i 1).isLt
  have h2 : (i 2).val < 2 := (i 2).isLt
  refine (total_coe (n := 1) _ Ideal.ofBits_zero_f32 fun k => rcb XB DT DY (rate AL) (i 2).val (i 0).val (i 1).val).trans (congrArg _ ?_)
  exact Finset.sum_range_one _

theorem r_v73 : val_main_v73 (F := Ideal) (in0 XB) (in1 DT) (in2 AL) (in4 DY) = (M3 fun t u v => rcb XB DT DY (rate AL) t v u : FVec Ideal S2x2176x2176 .f32) := by
  funext i
  rw [val_main_v73_apply, r_v72]
  rfl

theorem r_v74 : val_main_v74 (F := Ideal) (in0 XB) (in1 DT) (in2 AL) (in4 DY) = (M3 fun t u v => DC XB DT DY (rate AL) t u v : FVec Ideal S2x2176x128 .f32) := by
  funext i
  rw [val_main_v74_apply, r_v73, r_v3]
  refine (total_mul (n := 2176) (fun k => rcb XB DT DY (rate AL) (i 0).val (i 1).val k) (fun k => XB k (1024 + 128 * (i 0).val + (i 2).val))).trans (congrArg _ ?_)
  rfl

theorem r_v75 : val_main_v75 (F := Ideal) (in0 XB) (in1 DT) (in2 AL) (in4 DY) = (M3 fun t u v => DC XB DT DY (rate AL) u t v : FVec Ideal S2176x2x128 .f32) := by
  funext i
  rw [val_main_v75_apply, r_v74]
  rfl

theorem r_v76 : val_main_v76 (F := Ideal) (in0 XB) (in1 DT) (in2 AL) (in4 DY) = (M3 fun t u v => DB XB DT DY (rate AL) t u v : FVec Ideal S2x2176x128 .f32) := by
  funext i
  rw [val_main_v76_apply, r_v73, r_v5]
  refine (total_mul (n := 2176) (fun k => rcb XB DT DY (rate AL) (i 0).val k (i 1).val) (fun k => XB k (1280 + 128 * (i 0).val + (i 2).val))).trans (congrArg _ ?_)
  rfl

theorem r_v77 : val_main_v77 (F := Ideal) (in0 XB) (in1 DT) (in2 AL) (in4 DY) = (M3 fun t u v => DB XB DT DY (rate AL) u t v : FVec Ideal S2176x2x128 .f32) := by
  funext i
  rw [val_main_v77_apply, r_v76]
  rfl

theorem r_v78 : val_main_v78 (F := Ideal) (in0 XB) (in1 DT) (in4 DY) = (M3 fun t u v => CT XB DT DY v t u : FVec Ideal S2176x2176x16 .f32) := by
  funext i
  rw [val_main_v78_apply, r_v68]
  have h0 : (i 0).val < 2176 := (i 0).isLt
  have h1 : (i 1).val < 2176 := (i 1).isLt
  have h2 : (i 2).val < 16 := (i 2).isLt
  show ((CT XB DT DY (8 * ((((i 0).val * 2176 + (i 1).val) * 16 + (i 2).val) / 8 % 2) + ((((i 0).val * 2176 + (i 1).val) * 16 + (i 2).val) % 8)) ((((i 0).val * 2176 + (i 1).val) * 16 + (i 2).val) / 34816) ((((i 0).val * 2176 + (i 1).val) * 16 + (i 2).val) / 16 % 2176) : ℝ) : EReal) = ((CT XB DT DY (i 2).val (i 0).val (i 1).val : ℝ) : EReal)
  refine congrArg _ ?_
  congr 1 <;> omega

theorem r_v79 : val_main_v79 (F := Ideal) (in0 XB) (in1 DT) (in2 AL) (in4 DY) = (M3 fun t u v => PP XB DT DY (rate AL) v t u : FVec Ideal S2176x2176x16 .f32) := by
  funext i
  rw [val_main_v79_apply, r_v78, r_v24]
  have h0 : (i 0).val < 2176 := (i 0).isLt
  have h1 : (i 1).val < 2176 := (i 1).isLt
  have h2 : (i 2).val < 16 := (i 2).isLt
  refine (EReal.coe_mul _ _).symm.trans (congrArg _ ?_)
  show (CT XB DT DY (i 2).val (i 0).val (i 1).val) * (rE DT (rate AL) (i 2).val (i 0).val (i 1).val) = PP XB DT DY (rate AL) (i 2).val (i 0).val (i 1).val
  unfold CT PP
  ring

theorem r_v80 : val_main_v80 (F := Ideal) (in0 XB) (in1 DT) (in2 AL) (in4 DY) = (M3 fun t u v => PP XB DT DY (rate AL) v t u : FVec Ideal S2176x2176x16 .f32) := by
  funext i
  rw [val_main_v80_apply, r_v23_1, r_v79]
  refine (masked_coe _ _ _ Ideal.ofBits_zero_f32).trans (congrArg _ ?_)
  unfold PP rE
  split <;> simp [*]

theorem r_v81 : val_main_v81 (F := Ideal) (in0 XB) (in1 DT) (in2 AL) (in4 DY) = (M2 fun t u => ∑ k ∈ Finset.range 2176, PP XB DT DY (rate AL) u t k : FVec Ideal S2176x16 .f32) := by
  funext i
  rw [val_main_v81_apply, r_v80]
  refine (total_coe (n := 2176) _ Ideal.ofBits_zero_f32 fun k => PP XB DT DY (rate AL) (i 1).val (i 0).val k).trans (congrArg _ ?_)
  rfl

theorem r_v82 : val_main_v82 (F := Ideal) (in0 XB) (in1 DT) (in2 AL) (in4 DY) = (M3 fun t _ v => ∑ k ∈ Finset.range 2176, PP XB DT DY (rate AL) v t k : FVec Ideal S2176x1x16 .f32) := by
  funext i
  rw [val_main_v82_apply, r_v81]
  have h0 : (i 0).val < 2176 := (i 0).isLt
  have h1 : (i 1).val < 1 := (i 1).isLt
  have h2 : (i 2).val < 16 := (i 2).isLt
  show ((∑ k ∈ Finset.range 2176, PP XB DT DY (rate AL) ((((i 0).val * 1 + (i 1).val) * 16 + (i 2).val) % 16) ((((i 0).val * 1 + (i 1).val) * 16 + (i 2).val) / 16) k : ℝ) : EReal) = ((∑ k ∈ Finset.range 2176, PP XB DT DY (rate AL) (i 2).val (i 0).val k : ℝ) : EReal)
  refine congrArg _ ?_
  refine Finset.sum_congr rfl fun k _ => ?_
  congr 1 <;> omega

theorem r_v83 : val_main_v83 (F := Ideal) (in0 XB) (in1 DT) (in2 AL) (in4 DY) = (M3 fun t u v => -PP XB DT DY (rate AL) v t u : FVec Ideal S2176x2176x16 .f32) := by
  funext i
  rw [val_main_v83_apply, r_v80]
  exact (EReal.coe_neg _).symm

theorem r_v84 : val_main_v84 (F := Ideal) (in0 XB) (in1 DT) (in2 AL) (in4 DY) = (M2 fun t u => ∑ k ∈ Finset.range 2176, -PP XB DT DY (rate AL) u k t : FVec Ideal S2176x16 .f32) := by
  funext i
  rw [val_main_v84_apply, r_v83]
  refine (total_coe (n := 2176) _ Ideal.ofBits_zero_f32 fun k => -PP XB DT DY (rate AL) (i 1).val k (i 0).val).trans (congrArg _ ?_)
  rfl

theorem r_v85 : val_main_v85 (F := Ideal) (in0 XB) (in1 DT) (in2 AL) (in4 DY) = (M3 fun _ u v => ∑ k ∈ Finset.range 2176, -PP XB DT DY (rate AL) v k u : FVec Ideal S1x2176x16 .f32) := by
  funext i
  rw [val_main_v85_apply, r_v84]
  have h0 : (i 0).val < 1 := (i 0).isLt
  have h1 : (i 1).val < 2176 := (i 1).isLt
  have h2 : (i 2).val < 16 := (i 2).isLt
  show ((∑ k ∈ Finset.range 2176, -PP XB DT DY (rate AL) ((((i 0).val * 2176 + (i 1).val) * 16 + (i 2).val) % 16) k ((((i 0).val * 2176 + (i 1).val) * 16 + (i 2).val) / 16) : ℝ) : EReal) = ((∑ k ∈ Finset.range 2176, -PP XB DT DY (rate AL) (i 2).val k (i 1).val : ℝ) : EReal)
  refine congrArg _ ?_
  refine Finset.sum_congr rfl fun k _ => congrArg _ ?_
  congr 1 <;> omega

theorem r_v86 : val_main_v86 (F := Ideal) (in0 XB) (in1 DT) (in2 AL) (in4 DY) = (M2 fun t u => ∑ k ∈ Finset.range 2176, -PP XB DT DY (rate AL) u k t : FVec Ideal S2176x16 .f32) := by
  funext i
  rw [val_main_v86_apply, r_v85]
  have h0 : (i 0).val < 2176 := (i 0).isLt
  have h1 : (i 1).val < 16 := (i 1).isLt
  refine (total_coe (n := 1) _ Ideal.ofBits_zero_f32 fun k => ∑ k ∈ Finset.range 2176, -PP XB DT DY (rate AL) (i 1).val k (i 0).val).trans (congrArg _ ?_)
  exact Finset.sum_range_one _

theorem r_v87 : val_main_v87 (F := Ideal) (in0 XB) (in1 DT) (in2 AL) (in4 DY) = (M2 fun t u => ∑ k ∈ Finset.range 2176, PP XB DT DY (rate AL) u t k : FVec Ideal S2176x16 .f32) := by
  funext i
  rw [val_main_v87_apply, r_v82]
  have h0 : (i 0).val < 2176 := (i 0).isLt
  have h1 : (i 1).val < 16 := (i 1).isLt
  refine (total_coe (n := 1) _ Ideal.ofBits_zero_f32 fun k => ∑ k ∈ Finset.range 2176, PP XB DT DY (rate AL) (i 1).val (i 0).val k).trans (congrArg _ ?_)
  exact Finset.sum_range_one _

theorem r_v88 : val_main_v88 (F := Ideal) (in0 XB) (in1 DT) (in2 AL) (in4 DY) = (M2 fun t u => dcum XB DT DY (rate AL) u t : FVec Ideal S2176x16 .f32) := by
  funext i
  rw [val_main_v88_apply, r_v86, r_v87]
  have h0 : (i 0).val < 2176 := (i 0).isLt
  have h1 : (i 1).val < 16 := (i 1).isLt
  refine (EReal.coe_add _ _).symm.trans (congrArg _ ?_)
  show (∑ k ∈ Finset.range 2176, -PP XB DT DY (rate AL) (i 1).val k (i 0).val) + (∑ k ∈ Finset.range 2176, PP XB DT DY (rate AL) (i 1).val (i 0).val k) = dcum XB DT DY (rate AL) (i 1).val (i 0).val
  unfold dcum
  rw [Finset.sum_neg_distrib]
  ring

theorem r_v89 : val_main_v89 (F := Ideal) (in0 XB) (in1 DT) (in2 AL) (in4 DY) = (M3 fun t _ v => dcum XB DT DY (rate AL) v t : FVec Ideal S2176x2176x16 .f32) := by
  funext i
  rw [val_main_v89_apply, r_v88]
  rfl

theorem r_call3_v1 : val_main_call3_v1 (F := Ideal) (in0 XB) (in1 DT) (in2 AL) (in4 DY) = (M3 fun t u v => if u ≤ t then dcum XB DT DY (rate AL) v t else 0 : FVec Ideal S2176x2176x16 .f32) := by
  funext i
  rw [val_main_call3_v1_apply, r_v15_1, r_v89]
  refine (masked_coe _ _ _ Ideal.ofBits_zero_f32).trans (congrArg _ ?_)
  rfl

theorem r_call3_v2 : val_main_call3_v2 (F := Ideal) (in0 XB) (in1 DT) (in2 AL) (in4 DY) = (M2 fun t u => RR XB DT DY (rate AL) t u : FVec Ideal S2176x16 .f32) := by
  funext i
  rw [val_main_call3_v2_apply, r_call3_v1]
  have h0 : (i 0).val < 2176 := (i 0).isLt
  have h1 : (i 1).val < 16 := (i 1).isLt
  refine (total_coe (n := 2176) _ Ideal.ofBits_zero_f32 fun k => if (i 0).val ≤ k then dcum XB DT DY (rate AL) (i 1).val k else 0).trans (congrArg _ ?_)
  exact from_sum _ _

theorem r_v90 : val_main_v90 (F := Ideal) (in0 XB) (in1 DT) (in2 AL) (in4 DY) = (M3 fun _ u v => RR XB DT DY (rate AL) u v : FVec Ideal S1x2176x16 .f32) := by
  funext i
  rw [val_main_v90_apply, r_call3_v2]
  rfl

theorem r_v91 : val_main_v91 (F := Ideal) (in0 XB) (in1 DT) (in2 AL) (in4 DY) = (M2 fun t u => RR XB DT DY (rate AL) t u : FVec Ideal S2176x16 .f32) := by
  funext i
  rw [val_main_v91_apply, r_v90]
  have h0 : (i 0).val < 2176 := (i 0).isLt
  have h1 : (i 1).val < 16 := (i 1).isLt
  refine (total_coe (n := 1) _ Ideal.ofBits_zero_f32 fun k => RR XB DT DY (rate AL) (i 0).val (i 1).val).trans (congrArg _ ?_)
  exact Finset.sum_range_one _

theorem r_v92 : val_main_v92 (F := Ideal) (in0 XB) (in1 DT) (in2 AL) (in4 DY) = (M2 fun t u => DT t u * RR XB DT DY (rate AL) t u : FVec Ideal S2176x16 .f32) := by
  funext i
  rw [val_main_v92_apply, r_v91]
  refine (EReal.coe_mul _ _).symm.trans (congrArg _ ?_)
  rfl

theorem r_v93 : val_main_v93 (F := Ideal) (in0 XB) (in1 DT) (in2 AL) (in4 DY) = (M1 fun t => RA XB DT DY (rate AL) t : FVec Ideal S16 .f32) := by
  funext i
  rw [val_main_v93_apply, r_v92]
  refine (total_coe (n := 2176) _ Ideal.ofBits_zero_f32 fun k => DT k (i 0).val * RR XB DT DY (rate AL) k (i 0).val).trans (congrArg _ ?_)
  rfl

theorem r_v94 : val_main_v94 (F := Ideal) (in0 XB) (in1 DT) (in2 AL) (in4 DY) = (M2 fun _ u => RA XB DT DY (rate AL) u : FVec Ideal S1x16 .f32) := by
  funext i
  rw [val_main_v94_apply, r_v93]
  have h0 : (i 0).val < 1 := (i 0).isLt
  have h1 : (i 1).val < 16 := (i 1).isLt
  show ((RA XB DT DY (rate AL) ((i 0).val * 16 + (i 1).val) : ℝ) : EReal) = ((RA XB DT DY (rate AL) (i 1).val : ℝ) : EReal)
  refine congrArg _ ?_
  congr 1 <;> omega

theorem r_v95 : val_main_v95 (F := Ideal) (in2 AL) = (M2 fun _ u => rate AL u : FVec Ideal S2176x16 .f32) := by
  funext i
  rw [val_main_v95_apply, r_v7]
  rfl

theorem r_v96 : val_main_v96 (F := Ideal) (in0 XB) (in1 DT) (in2 AL) (in4 DY) = (M2 fun t u => RR XB DT DY (rate AL) t u * rate AL u : FVec Ideal S2176x16 .f32) := by
  funext i
  rw [val_main_v96_apply, r_v91, r_v95]
  refine (EReal.coe_mul _ _).symm.trans (congrArg _ ?_)
  rfl

theorem r_v97 : val_main_v97 (F := Ideal) (in0 XB) (in1 DT) (in2 AL) (in4 DY) = (M2 fun t u => RT XB DT DY (rate AL) t u : FVec Ideal S2176x16 .f32) := by
  funext i
  rw [val_main_v97_apply, r_v66, r_v96]
  refine (EReal.coe_add _ _).symm.trans (congrArg _ ?_)
  rfl

theorem r_v98 : val_main_v98 (F := Ideal) (in0 XB) (in1 DT) (in2 AL) (in4 DY) = (M2 fun _ u => -RA XB DT DY (rate AL) u : FVec Ideal S1x16 .f32) := by
  funext i
  rw [val_main_v98_apply, r_v94]
  exact (EReal.coe_neg _).symm

theorem r_v99 : val_main_v99 (F := Ideal) (in0 XB) (in1 DT) (in2 AL) (in4 DY) = (M2 fun _ u => RA XB DT DY (rate AL) u * rate AL u : FVec Ideal S1x16 .f32) := by
  funext i
  rw [val_main_v99_apply, r_v98, r_v6]
  have h0 : (i 0).val < 1 := (i 0).isLt
  have h1 : (i 1).val < 16 := (i 1).isLt
  refine (EReal.coe_mul _ _).symm.trans (congrArg _ ?_)
  show (-RA XB DT DY (rate AL) (i 1).val) * (Real.exp (AL (i 1).val)) = RA XB DT DY (rate AL) (i 1).val * rate AL (i 1).val
  unfold rate
  ring

theorem r_v100 : val_main_v100 (F := Ideal) (in0 XB) (in1 DT) (in2 AL) (in4 DY) = (M2 fun t u => DC XB DT DY (rate AL) (u / 128) t (u % 128) : FVec Ideal S2176x256 .f32) := by
  funext i
  rw [val_main_v100_apply, r_v75]
  have h0 : (i 0).val < 2176 := (i 0).isLt
  have h1 : (i 1).val < 256 := (i 1).isLt
  show ((DC XB DT DY (rate AL) (((i 0).val * 256 + (i 1).val) / 128 % 2) (((i 0).val * 256 + (i 1).val) / 256) (((i 0).val * 256 + (i 1).val) % 128) : ℝ) : EReal) = ((DC XB DT DY (rate AL) ((i 1).val / 128) (i 0).val ((i 1).val % 128) : ℝ) : EReal)
  refine congrArg _ ?_
  congr 1 <;> omega

theorem r_v102 : val_main_v102 (F := Ideal) (in0 XB) (in1 DT) (in2 AL) (in4 DY) = (M2 fun t u => DB XB DT DY (rate AL) (u / 128) t (u % 128) : FVec Ideal S2176x256 .f32) := by
  funext i
  rw [val_main_v102_apply, r_v77]
  have h0 : (i 0).val < 2176 := (i 0).isLt
  have h1 : (i 1).val < 256 := (i 1).isLt
  show ((DB XB DT DY (rate AL) (((i 0).val * 256 + (i 1).val) / 128 % 2) (((i 0).val * 256 + (i 1).val) / 256) (((i 0).val * 256 + (i 1).val) % 128) : ℝ) : EReal) = ((DB XB DT DY (rate AL) ((i 1).val / 128) (i 0).val ((i 1).val % 128) : ℝ) : EReal)
  refine congrArg _ ?_
  congr 1 <;> omega

theorem r_v105 : val_main_v105 (F := Ideal) (in0 XB) (in1 DT) (in2 AL) (in2 DK) (in4 DY) = (M2 fun t u => SX XB DT DY (rate AL) DK t u : FVec Ideal S2176x1024 .f32) := by
  funext i
  rw [val_main_v105_apply, r_v64]
  have h0 : (i 0).val < 2176 := (i 0).isLt
  have h1 : (i 1).val < 1024 := (i 1).isLt
  show ((SX XB DT DY (rate AL) DK (((i 0).val * 1024 + (i 1).val) / 1024) (64 * (8 * (((i 0).val * 1024 + (i 1).val) / 512 % 2) + (((i 0).val * 1024 + (i 1).val) / 64 % 8)) + (((i 0).val * 1024 + (i 1).val) % 64)) : ℝ) : EReal) = ((SX XB DT DY (rate AL) DK (i 0).val (i 1).val : ℝ) : EReal)
  refine congrArg _ ?_
  congr 1 <;> omega

theorem r_v107 : val_main_v107 (F := Ideal) (in0 XB) (in1 DT) (in2 AL) (in2 DK) (in4 DY)
    = (M2 fun t j => RX XB DT DY (rate AL) (fun j => DK (j / 64)) t j : FVec Ideal S2176x1536 .f32) := by
  funext i
  rw [val_main_v107_apply, val_main_v104_apply]
  have e1 : val_main_v101 (F := Ideal) (in0 XB) (in1 DT) (in2 AL) (in4 DY)
      = (M2 fun r j => if 1280 ≤ j ∧ j - 1280 < 256 then DC XB DT DY (rate AL) ((j - 1280) / 128) r ((j - 1280) % 128) else 0
        : FVec Ideal S2176x1536 .f32) := by
    unfold val_main_v101
    rw [r_v100]
    exact pad_cols _ _ (fun _ => Ideal.ofBits_zero_f32) _ _
  have e2 : val_main_v103 (F := Ideal) (in0 XB) (in1 DT) (in2 AL) (in4 DY)
      = (M2 fun r j => if 1024 ≤ j ∧ j - 1024 < 256 then DB XB DT DY (rate AL) ((j - 1024) / 128) r ((j - 1024) % 128) else 0
        : FVec Ideal S2176x1536 .f32) := by
    unfold val_main_v103
    rw [r_v102]
    exact pad_cols _ _ (fun _ => Ideal.ofBits_zero_f32) _ _
  have e3 : val_main_v106 (F := Ideal) (in0 XB) (in1 DT) (in2 AL) (in2 DK) (in4 DY)
      = (M2 fun r j => if j < 1024 then SX XB DT DY (rate AL) DK r j else 0
        : FVec Ideal S2176x1536 .f32) := by
    unfold val_main_v106
    rw [r_v105]
    refine (pad_cols (n := 2176) (w := 1024) (W := 1536) (lo := 0) (hi := 512) _ _ (fun _ => Ideal.ofBits_zero_f32) _ _).trans ?_
    exact M2_congr fun r j _ _ => by simp only [Nat.zero_le, true_and, Nat.sub_zero]
  rw [e1, e2, e3]
  have h1 : (i 1).val < 1536 := (i 1).isLt
  refine ((congrArg (· + _) (EReal.coe_add _ _).symm).trans (EReal.coe_add _ _).symm).trans (congrArg _ ?_)
  show (if 1280 ≤ (i 1).val ∧ (i 1).val - 1280 < 256 then DC XB DT DY (rate AL) (((i 1).val - 1280) / 128) (i 0).val (((i 1).val - 1280) % 128) else 0)
      + (if 1024 ≤ (i 1).val ∧ (i 1).val - 1024 < 256 then DB XB DT DY (rate AL) (((i 1).val - 1024) / 128) (i 0).val (((i 1).val - 1024) % 128) else 0)
      + (if (i 1).val < 1024 then SX XB DT DY (rate AL) DK (i 0).val (i 1).val else 0)
    = RX XB DT DY (rate AL) (fun j => DK (j / 64)) (i 0).val (i 1).val
  unfold RX
  generalize (i 1).val = j at h1 ⊢
  generalize (i 0).val = r
  by_cases c1 : j < 1024
  · rw [if_neg (by omega), if_neg (by omega), if_pos (by omega), if_pos c1, zero_add, zero_add]
    rfl
  by_cases c2 : j < 1280
  · rw [if_neg (by omega), if_pos (by omega), if_neg (by omega), if_neg c1, if_pos c2, zero_add, add_zero]
    have e : 1280 + 128 * ((j - 1024) / 128) + (j - 1024) % 128 = j + 256 := by omega
    unfold DB
    rw [e]
  · rw [if_pos (by omega), if_neg (by omega), if_neg (by omega), if_neg c1, if_neg c2, add_zero, add_zero]
    have e : 1024 + 128 * ((j - 1280) / 128) + (j - 1280) % 128 = j - 256 := by omega
    unfold DC
    rw [e]

end Cert.Lift

end

end
-- ==== Proof.Host.lean ====
module

public import proofs.«01_k».proof.Proof.Ref
public import Idealize.ShloMosaic.Lib.Claim
public import Idealize.ShloMosaic.Lib.StableHlo.RunRead

@[expose] public section

/-! The kernel program's operations around its call on real-valued arguments: what each computes, as a function of
the natural-number coordinates, and the states that enter the call. -/

noncomputable section

namespace Cert.Lift

open Idealize.ShloMosaic Idealize.ShloMosaic.ValueIdx Cert.KernelIdeal Cert.KernelIdeal.Gen

theorem below_sum (f : ℕ → ℝ) {N U : ℕ} (h : U ≤ N) :
    (∑ k ∈ Finset.range N, if k < U then f k else 0) = ∑ k ∈ Finset.range U, f k := by
  rw [← Finset.sum_filter]
  refine Finset.sum_congr ?_ fun _ _ => rfl
  ext k
  simp only [Finset.mem_filter, Finset.mem_range]
  omega

section states
variable (XB DT : ℕ → ℕ → ℝ) (a : ℕ → ℝ)

/-- The decay from position `s` to the start of chunk `C`, nothing where `s` is not before it. -/
def SE (C s h : ℕ) : ℝ := if s < 64 * C then Real.exp (KK DT a (64 * C) h - KK DT a (s + 1) h) else 0

/-- The scaled input decayed to the start of chunk `C`. -/
def SD (C s j : ℕ) : ℝ := SE DT a C s (j / 64) * xdt XB DT s j

/-- The state that enters chunk `C`, as one sum over all positions. -/
def SG (C g n q : ℕ) : ℝ := ∑ s ∈ Finset.range 2176, SD XB DT a C s (512 * g + q) * XB s (1024 + 128 * g + n)

theorem SG_eq {C n q : ℕ} (hC : C < 34) : SG XB DT a C (n / 128) (n % 128) q = Sst XB DT a (64 * C) n q := by
  have e : 1024 + 128 * (n / 128) + n % 128 = 1024 + n := by omega
  unfold SG Sst
  rw [e, ← below_sum _ (show 64 * C ≤ 2176 by omega)]
  refine Finset.sum_congr rfl fun s _ => ?_
  unfold SD SE
  by_cases h : s < 64 * C
  · rw [if_pos h, if_pos h]
    ring
  · rw [if_neg h, if_neg h, zero_mul, zero_mul]

end states

def k_v0 (X2 : FVec Ideal S1x16 .f32) : FVec Ideal S1x16 .f32 :=
  Host.exp X2

theorem l_v0 (AL : ℕ → ℝ) : k_v0 (M2 fun _ h => AL h) = (M2 fun _ u => Real.exp (AL u) : FVec Ideal S1x16 .f32) := by
  funext i
  unfold k_v0
  rfl

def k_v1 (X2 : FVec Ideal S1x16 .f32) : FVec Ideal S1x16 .f32 :=
  Host.negf (k_v0 X2)

theorem l_v1 (AL : ℕ → ℝ) : k_v1 (M2 fun _ h => AL h) = (M2 fun _ u => rate AL u : FVec Ideal S1x16 .f32) := by
  funext i
  unfold k_v1
  rw [l_v0]
  exact (EReal.coe_neg _).symm

def k_v2 (X0 : FVec Ideal S2176x1536 .f32) : FVec Ideal S2176x1024 .f32 :=
  extractStridedSlice S2176x1024 ![0, 0] X0 slices_S2176x1536_S2176x1024_0_0

theorem l_v2 (XB : ℕ → ℕ → ℝ) : k_v2 (M2 XB) = (M2 fun t u => XB t u : FVec Ideal S2176x1024 .f32) := by
  funext i
  unfold k_v2
  refine (extractStridedSlice_apply ![0, 0] (M2 XB : FVec Ideal S2176x1536 .f32) slices_S2176x1536_S2176x1024_0_0 i (fun a => match a with
    | ⟨0, _⟩ => ⟨(i 0).val, by have h0 : (i 0).val < 2176 := (i 0).isLt; have h1 : (i 1).val < 1024 := (i 1).isLt; show (i 0).val < 2176; omega⟩
    | ⟨1, _⟩ => ⟨(i 1).val, by have h0 : (i 0).val < 2176 := (i 0).isLt; have h1 : (i 1).val < 1024 := (i 1).isLt; show (i 1).val < 1536; omega⟩) (fun a => match a with
    | ⟨0, _⟩ => by show (i 0).val = 0 + (i 0).val; omega
    | ⟨1, _⟩ => by show (i 1).val = 0 + (i 1).val; omega)).trans ?_
  have h0 : (i 0).val < 2176 := (i 0).isLt
  have h1 : (i 1).val < 1024 := (i 1).isLt
  show ((XB (i 0).val (i 1).val : ℝ) : EReal) = ((XB (i 0).val (i 1).val : ℝ) : EReal)
  rfl

def k_v3 (X0 : FVec Ideal S2176x1536 .f32) : FVec Ideal S2176x16x64 .f32 :=
  shapeCast S2176x16x64 (k_v2 X0) shapeCasts_S2176x1024_S2176x16x64

theorem l_v3 (XB : ℕ → ℕ → ℝ) : k_v3 (M2 XB) = (M3 fun t u v => XB t (64 * u + v) : FVec Ideal S2176x16x64 .f32) := by
  funext i
  unfold k_v3
  rw [l_v2]
  refine (shapeCast_apply _ shapeCasts_S2176x1024_S2176x16x64 i (fun a => match a with
    | ⟨0, _⟩ => ⟨(((i 0).val * 16 + (i 1).val) * 64 + (i 2).val) / 1024, by have h0 : (i 0).val < 2176 := (i 0).isLt; have h1 : (i 1).val < 16 := (i 1).isLt; have h2 : (i 2).val < 64 := (i 2).isLt; show (((i 0).val * 16 + (i 1).val) * 64 + (i 2).val) / 1024 < 2176; omega⟩
    | ⟨1, _⟩ => ⟨(((i 0).val * 16 + (i 1).val) * 64 + (i 2).val) % 1024, by have h0 : (i 0).val < 2176 := (i 0).isLt; have h1 : (i 1).val < 16 := (i 1).isLt; have h2 : (i 2).val < 64 := (i 2).isLt; show (((i 0).val * 16 + (i 1).val) * 64 + (i 2).val) % 1024 < 1024; omega⟩)
    (by rewrite [Shape.rowMajor_val_two, Shape.rowMajor_val_three]; have h0 : (i 0).val < 2176 := (i 0).isLt; have h1 : (i 1).val < 16 := (i 1).isLt; have h2 : (i 2).val < 64 := (i 2).isLt; show (((((i 0).val * 16 + (i 1).val) * 64 + (i 2).val) / 1024)) * 1024 + ((((i 0).val * 16 + (i 1).val) * 64 + (i 2).val) % 1024) = ((i 0).val * 16 + (i 1).val) * 64 + (i 2).val; omega)).trans ?_
  have h0 : (i 0).val < 2176 := (i 0).isLt
  have h1 : (i 1).val < 16 := (i 1).isLt
  have h2 : (i 2).val < 64 := (i 2).isLt
  show ((XB ((((i 0).val * 16 + (i 1).val) * 64 + (i 2).val) / 1024) ((((i 0).val * 16 + (i 1).val) * 64 + (i 2).val) % 1024) : ℝ) : EReal) = ((XB (i 0).val (64 * (i 1).val + (i 2).val) : ℝ) : EReal)
  refine congrArg _ ?_
  congr 1 <;> omega

def k_v4 (X0 : FVec Ideal S2176x1536 .f32) : FVec Ideal S2176x256 .f32 :=
  extractStridedSlice S2176x256 ![0, 1024] X0 slices_S2176x1536_S2176x256_0_1024

theorem l_v4 (XB : ℕ → ℕ → ℝ) : k_v4 (M2 XB) = (M2 fun t u => XB t (1024 + u) : FVec Ideal S2176x256 .f32) := by
  funext i
  unfold k_v4
  refine (extractStridedSlice_apply ![0, 1024] (M2 XB : FVec Ideal S2176x1536 .f32) slices_S2176x1536_S2176x256_0_1024 i (fun a => match a with
    | ⟨0, _⟩ => ⟨(i 0).val, by have h0 : (i 0).val < 2176 := (i 0).isLt; have h1 : (i 1).val < 256 := (i 1).isLt; show (i 0).val < 2176; omega⟩
    | ⟨1, _⟩ => ⟨1024 + (i 1).val, by have h0 : (i 0).val < 2176 := (i 0).isLt; have h1 : (i 1).val < 256 := (i 1).isLt; show 1024 + (i 1).val < 1536; omega⟩) (fun a => match a with
    | ⟨0, _⟩ => by show (i 0).val = 0 + (i 0).val; omega
    | ⟨1, _⟩ => by show 1024 + (i 1).val = 1024 + (i 1).val; omega)).trans ?_
  have h0 : (i 0).val < 2176 := (i 0).isLt
  have h1 : (i 1).val < 256 := (i 1).isLt
  show ((XB (i 0).val (1024 + (i 1).val) : ℝ) : EReal) = ((XB (i 0).val (1024 + (i 1).val) : ℝ) : EReal)
  rfl

def k_v5 (X0 : FVec Ideal S2176x1536 .f32) : FVec Ideal S2176x2x128 .f32 :=
  shapeCast S2176x2x128 (k_v4 X0) shapeCasts_S2176x256_S2176x2x128

theorem l_v5 (XB : ℕ → ℕ → ℝ) : k_v5 (M2 XB) = (M3 fun t u v => XB t (1024 + 128 * u + v) : FVec Ideal S2176x2x128 .f32) := by
  funext i
  unfold k_v5
  rw [l_v4]
  refine (shapeCast_apply _ shapeCasts_S2176x256_S2176x2x128 i (fun a => match a with
    | ⟨0, _⟩ => ⟨(((i 0).val * 2 + (i 1).val) * 128 + (i 2).val) / 256, by have h0 : (i 0).val < 2176 := (i 0).isLt; have h1 : (i 1).val < 2 := (i 1).isLt; have h2 : (i 2).val < 128 := (i 2).isLt; show (((i 0).val * 2 + (i 1).val) * 128 + (i 2).val) / 256 < 2176; omega⟩
    | ⟨1, _⟩ => ⟨(((i 0).val * 2 + (i 1).val) * 128 + (i 2).val) % 256, by have h0 : (i 0).val < 2176 := (i 0).isLt; have h1 : (i 1).val < 2 := (i 1).isLt; have h2 : (i 2).val < 128 := (i 2).isLt; show (((i 0).val * 2 + (i 1).val) * 128 + (i 2).val) % 256 < 256; omega⟩)
    (by rewrite [Shape.rowMajor_val_two, Shape.rowMajor_val_three]; have h0 : (i 0).val < 2176 := (i 0).isLt; have h1 : (i 1).val < 2 := (i 1).isLt; have h2 : (i 2).val < 128 := (i 2).isLt; show (((((i 0).val * 2 + (i 1).val) * 128 + (i 2).val) / 256)) * 256 + ((((i 0).val * 2 + (i 1).val) * 128 + (i 2).val) % 256) = ((i 0).val * 2 + (i 1).val) * 128 + (i 2).val; omega)).trans ?_
  have h0 : (i 0).val < 2176 := (i 0).isLt
  have h1 : (i 1).val < 2 := (i 1).isLt
  have h2 : (i 2).val < 128 := (i 2).isLt
  show ((XB ((((i 0).val * 2 + (i 1).val) * 128 + (i 2).val) / 256) (1024 + ((((i 0).val * 2 + (i 1).val) * 128 + (i 2).val) % 256)) : ℝ) : EReal) = ((XB (i 0).val (1024 + 128 * (i 1).val + (i 2).val) : ℝ) : EReal)
  refine congrArg _ ?_
  congr 1 <;> omega

def k_v6 (X2 : FVec Ideal S1x16 .f32) : FVec Ideal S2176x16 .f32 :=
  broadcastInDim S2176x16 ![0, 1] bcast_S1x16_S2176x16_0_1 (k_v1 X2)

theorem l_v6 (AL : ℕ → ℝ) : k_v6 (M2 fun _ h => AL h) = (M2 fun _ u => rate AL u : FVec Ideal S2176x16 .f32) := by
  funext i
  unfold k_v6
  rw [l_v1]
  refine (broadcastInDim_apply _ bcast_S1x16_S2176x16_0_1 _ i (fun a => match a with
    | ⟨0, _⟩ => ⟨0, by have h0 : (i 0).val < 2176 := (i 0).isLt; have h1 : (i 1).val < 16 := (i 1).isLt; show 0 < 1; omega⟩
    | ⟨1, _⟩ => ⟨(i 1).val, by have h0 : (i 0).val < 2176 := (i 0).isLt; have h1 : (i 1).val < 16 := (i 1).isLt; show (i 1).val < 16; omega⟩) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])).trans ?_
  have h0 : (i 0).val < 2176 := (i 0).isLt
  have h1 : (i 1).val < 16 := (i 1).isLt
  show ((rate AL (i 1).val : ℝ) : EReal) = ((rate AL (i 1).val : ℝ) : EReal)
  rfl

def k_v7 (X1 : FVec Ideal S2176x16 .f32) (X2 : FVec Ideal S1x16 .f32) : FVec Ideal S2176x16 .f32 :=
  mulf X1 (k_v6 X2)

theorem l_v7 (DT : ℕ → ℕ → ℝ) (AL : ℕ → ℝ) : k_v7 (M2 DT) (M2 fun _ h => AL h) = (M2 fun t u => DT t u * rate AL u : FVec Ideal S2176x16 .f32) := by
  funext i
  unfold k_v7
  rw [l_v6]
  have h0 : (i 0).val < 2176 := (i 0).isLt
  have h1 : (i 1).val < 16 := (i 1).isLt
  refine (EReal.coe_mul _ _).symm.trans (congrArg _ ?_)
  show (DT (i 0).val (i 1).val) * (rate AL (i 1).val) = DT (i 0).val (i 1).val * rate AL (i 1).val
  rfl

def k_v10  : IVec S2176x2176 1 :=
  cmpi .sle (iotaInDim S2176x2176 32 1) (iotaInDim S2176x2176 32 0)

theorem l_v10 (i : S2176x2176.Idx) : k_v10 i = BitVec.ofBool (decide ((i 1).val ≤ (i 0).val)) := by
  have h0 : (i 0).val < 2176 := (i 0).isLt
  have h1 : (i 1).val < 2176 := (i 1).isLt
  show BitVec.ofBool ((BitVec.ofNat 32 (i 1).val).sle (BitVec.ofNat 32 (i 0).val)) = _
  rw [BitVec.sle_eq_decide, toInt_ofNat (by omega), toInt_ofNat (by omega)]
  simp only [Nat.cast_le]

def k_v15  : IVec S34x2176 1 :=
  cmpi .slt (iotaInDim S34x2176 32 1) (muli (iotaInDim S34x2176 32 0) (broadcastInDim S34x2176 ![] bcast_S_S34x2176 (constantI S_ 32 64#32)))

theorem l_v15 (i : S34x2176.Idx) : k_v15 i = BitVec.ofBool (decide ((i 1).val < 64 * (i 0).val)) := by
  have h0 : (i 0).val < 34 := (i 0).isLt
  have h1 : (i 1).val < 2176 := (i 1).isLt
  show BitVec.ofBool ((BitVec.ofNat 32 (i 1).val).slt (BitVec.ofNat 32 (i 0).val * 64#32)) = _
  have e : BitVec.ofNat 32 (i 0).val * 64#32 = BitVec.ofNat 32 (64 * (i 0).val) := by
    apply BitVec.eq_of_toNat_eq
    rw [BitVec.toNat_mul, BitVec.toNat_ofNat, BitVec.toNat_ofNat, BitVec.toNat_ofNat]
    omega
  rw [e, BitVec.slt_eq_decide, toInt_ofNat (by omega), toInt_ofNat (by omega)]
  simp only [Nat.cast_lt]

def k_v16  : IVec S2176x2176x1 1 :=
  broadcastInDim S2176x2176x1 ![0, 1] bcast_S2176x2176_S2176x2176x1_0_1 k_v10

theorem l_v16 (i : S2176x2176x1.Idx) : k_v16 i = BitVec.ofBool (decide ((i 1).val ≤ (i 0).val)) := by
  unfold k_v16
  refine (broadcastInDim_apply _ bcast_S2176x2176_S2176x2176x1_0_1 _ i (fun a => match a with
    | ⟨0, _⟩ => ⟨(i 0).val, by have h0 : (i 0).val < 2176 := (i 0).isLt; have h1 : (i 1).val < 2176 := (i 1).isLt; have h2 : (i 2).val < 1 := (i 2).isLt; show (i 0).val < 2176; omega⟩
    | ⟨1, _⟩ => ⟨(i 1).val, by have h0 : (i 0).val < 2176 := (i 0).isLt; have h1 : (i 1).val < 2176 := (i 1).isLt; have h2 : (i 2).val < 1 := (i 2).isLt; show (i 1).val < 2176; omega⟩) (fun a => match a with
    | ⟨0, _⟩ => by show (i 0).val = if (2176 : Nat) = 1 then 0 else (i 0).val; rw [if_neg (by decide)]
    | ⟨1, _⟩ => by show (i 1).val = if (2176 : Nat) = 1 then 0 else (i 1).val; rw [if_neg (by decide)])).trans ?_
  exact l_v10 _

def k_call0_v1  : IVec S2176x2176x16 1 :=
  broadcastInDim S2176x2176x16 ![0, 1, 2] bcast_S2176x2176x1_S2176x2176x16_0_1_2 k_v16

theorem l_call0_v1 (i : S2176x2176x16.Idx) : k_call0_v1 i = BitVec.ofBool (decide ((i 1).val ≤ (i 0).val)) := by
  unfold k_call0_v1
  refine (broadcastInDim_apply _ bcast_S2176x2176x1_S2176x2176x16_0_1_2 _ i (fun a => match a with
    | ⟨0, _⟩ => ⟨(i 0).val, by have h0 : (i 0).val < 2176 := (i 0).isLt; have h1 : (i 1).val < 2176 := (i 1).isLt; have h2 : (i 2).val < 16 := (i 2).isLt; show (i 0).val < 2176; omega⟩
    | ⟨1, _⟩ => ⟨(i 1).val, by have h0 : (i 0).val < 2176 := (i 0).isLt; have h1 : (i 1).val < 2176 := (i 1).isLt; have h2 : (i 2).val < 16 := (i 2).isLt; show (i 1).val < 2176; omega⟩
    | ⟨2, _⟩ => ⟨0, by have h0 : (i 0).val < 2176 := (i 0).isLt; have h1 : (i 1).val < 2176 := (i 1).isLt; have h2 : (i 2).val < 16 := (i 2).isLt; show 0 < 1; omega⟩) (fun a => match a with
    | ⟨0, _⟩ => by show (i 0).val = if (2176 : Nat) = 1 then 0 else (i 0).val; rw [if_neg (by decide)]
    | ⟨1, _⟩ => by show (i 1).val = if (2176 : Nat) = 1 then 0 else (i 1).val; rw [if_neg (by decide)]
    | ⟨2, _⟩ => by show 0 = if (1 : Nat) = 1 then 0 else (i 2).val; rw [if_pos rfl])).trans ?_
  exact l_v16 _

def k_v17 (X1 : FVec Ideal S2176x16 .f32) (X2 : FVec Ideal S1x16 .f32) : FVec Ideal S1x2176x16 .f32 :=
  broadcastInDim S1x2176x16 ![1, 2] bcast_S2176x16_S1x2176x16_1_2 (k_v7 X1 X2)

theorem l_v17 (DT : ℕ → ℕ → ℝ) (AL : ℕ → ℝ) : k_v17 (M2 DT) (M2 fun _ h => AL h) = (M3 fun _ u v => DT u v * rate AL v : FVec Ideal S1x2176x16 .f32) := by
  funext i
  unfold k_v17
  rw [l_v7]
  refine (broadcastInDim_apply _ bcast_S2176x16_S1x2176x16_1_2 _ i (fun a => match a with
    | ⟨0, _⟩ => ⟨(i 1).val, by have h0 : (i 0).val < 1 := (i 0).isLt; have h1 : (i 1).val < 2176 := (i 1).isLt; have h2 : (i 2).val < 16 := (i 2).isLt; show (i 1).val < 2176; omega⟩
    | ⟨1, _⟩ => ⟨(i 2).val, by have h0 : (i 0).val < 1 := (i 0).isLt; have h1 : (i 1).val < 2176 := (i 1).isLt; have h2 : (i 2).val < 16 := (i 2).isLt; show (i 2).val < 16; omega⟩) (fun a => match a with
    | ⟨0, _⟩ => by show (i 1).val = if (2176 : Nat) = 1 then 0 else (i 1).val; rw [if_neg (by decide)]
    | ⟨1, _⟩ => by show (i 2).val = if (16 : Nat) = 1 then 0 else (i 2).val; rw [if_neg (by decide)])).trans ?_
  have h0 : (i 0).val < 1 := (i 0).isLt
  have h1 : (i 1).val < 2176 := (i 1).isLt
  have h2 : (i 2).val < 16 := (i 2).isLt
  show ((DT (i 1).val (i 2).val * rate AL (i 2).val : ℝ) : EReal) = ((DT (i 1).val (i 2).val * rate AL (i 2).val : ℝ) : EReal)
  rfl

def k_call0_v2 (X1 : FVec Ideal S2176x16 .f32) (X2 : FVec Ideal S1x16 .f32) : FVec Ideal S2176x2176x16 .f32 :=
  broadcastInDim S2176x2176x16 ![0, 1, 2] bcast_S1x2176x16_S2176x2176x16_0_1_2 (k_v17 X1 X2)

theorem l_call0_v2 (DT : ℕ → ℕ → ℝ) (AL : ℕ → ℝ) : k_call0_v2 (M2 DT) (M2 fun _ h => AL h) = (M3 fun _ u v => DT u v * rate AL v : FVec Ideal S2176x2176x16 .f32) := by
  funext i
  unfold k_call0_v2
  rw [l_v17]
  refine (broadcastInDim_apply _ bcast_S1x2176x16_S2176x2176x16_0_1_2 _ i (fun a => match a with
    | ⟨0, _⟩ => ⟨0, by have h0 : (i 0).val < 2176 := (i 0).isLt; have h1 : (i 1).val < 2176 := (i 1).isLt; have h2 : (i 2).val < 16 := (i 2).isLt; show 0 < 1; omega⟩
    | ⟨1, _⟩ => ⟨(i 1).val, by have h0 : (i 0).val < 2176 := (i 0).isLt; have h1 : (i 1).val < 2176 := (i 1).isLt; have h2 : (i 2).val < 16 := (i 2).isLt; show (i 1).val < 2176; omega⟩
    | ⟨2, _⟩ => ⟨(i 2).val, by have h0 : (i 0).val < 2176 := (i 0).isLt; have h1 : (i 1).val < 2176 := (i 1).isLt; have h2 : (i 2).val < 16 := (i 2).isLt; show (i 2).val < 16; omega⟩) (fun a => match a with
    | ⟨0, _⟩ => by show 0 = if (1 : Nat) = 1 then 0 else (i 0).val; rw [if_pos rfl]
    | ⟨1, _⟩ => by show (i 1).val = if (2176 : Nat) = 1 then 0 else (i 1).val; rw [if_neg (by decide)]
    | ⟨2, _⟩ => by show (i 2).val = if (16 : Nat) = 1 then 0 else (i 2).val; rw [if_neg (by decide)])).trans ?_
  have h0 : (i 0).val < 2176 := (i 0).isLt
  have h1 : (i 1).val < 2176 := (i 1).isLt
  have h2 : (i 2).val < 16 := (i 2).isLt
  show ((DT (i 1).val (i 2).val * rate AL (i 2).val : ℝ) : EReal) = ((DT (i 1).val (i 2).val * rate AL (i 2).val : ℝ) : EReal)
  rfl

def k_v18 (X1 : FVec Ideal S2176x16 .f32) (X2 : FVec Ideal S1x16 .f32) : FVec Ideal S2176x2176x16 .f32 :=
  select k_call0_v1 (k_call0_v2 X1 X2) (broadcastInDim S2176x2176x16 ![] bcast_S_S2176x2176x16 (constant S_ .f32 0x00000000#32))

theorem l_v18 (DT : ℕ → ℕ → ℝ) (AL : ℕ → ℝ) : k_v18 (M2 DT) (M2 fun _ h => AL h) = (M3 fun t u v => if u ≤ t then DT u v * rate AL v else 0 : FVec Ideal S2176x2176x16 .f32) := by
  funext i
  unfold k_v18
  rw [l_call0_v2]
  refine (congrArg (fun w => Scalar.select w _ _) (l_call0_v1 i)).trans ?_
  exact masked_coe _ _ _ Ideal.ofBits_zero_f32

def k_v19 (X1 : FVec Ideal S2176x16 .f32) (X2 : FVec Ideal S1x16 .f32) : FVec Ideal S2176x16 .f32 :=
  Host.reduceAdd (k_v18 X1 X2) (constant S_ .f32 0x00000000#32) reducesTo_S2176x2176x16_S2176x16_d1 h_S_

theorem l_v19 (DT : ℕ → ℕ → ℝ) (AL : ℕ → ℝ) : k_v19 (M2 DT) (M2 fun _ h => AL h) = (M2 fun t u => KK DT (rate AL) (t + 1) u : FVec Ideal S2176x16 .f32) := by
  funext i
  unfold k_v19
  rw [l_v18]
  have h0 : (i 0).val < 2176 := (i 0).isLt
  have h1 : (i 1).val < 16 := (i 1).isLt
  simp only [Host.reduceAdd, Ideal.hostReduceAdd_def]
  rw [Ideal.hostReduceAdd_single reducesTo_S2176x2176x16_S2176x16_d1 (by decide)]
  refine (total_coe (n := 2176) _ Ideal.ofBits_zero_f32 fun k => if k ≤ (i 0).val then DT k (i 1).val * rate AL (i 1).val else 0).trans (congrArg _ ?_)
  exact upto_sum _ h0

def k_v20  : IVec S34x2176x1 1 :=
  broadcastInDim S34x2176x1 ![0, 1] bcast_S34x2176_S34x2176x1_0_1 k_v15

theorem l_v20 (i : S34x2176x1.Idx) : k_v20 i = BitVec.ofBool (decide ((i 1).val < 64 * (i 0).val)) := by
  unfold k_v20
  refine (broadcastInDim_apply _ bcast_S34x2176_S34x2176x1_0_1 _ i (fun a => match a with
    | ⟨0, _⟩ => ⟨(i 0).val, by have h0 : (i 0).val < 34 := (i 0).isLt; have h1 : (i 1).val < 2176 := (i 1).isLt; have h2 : (i 2).val < 1 := (i 2).isLt; show (i 0).val < 34; omega⟩
    | ⟨1, _⟩ => ⟨(i 1).val, by have h0 : (i 0).val < 34 := (i 0).isLt; have h1 : (i 1).val < 2176 := (i 1).isLt; have h2 : (i 2).val < 1 := (i 2).isLt; show (i 1).val < 2176; omega⟩) (fun a => match a with
    | ⟨0, _⟩ => by show (i 0).val = if (34 : Nat) = 1 then 0 else (i 0).val; rw [if_neg (by decide)]
    | ⟨1, _⟩ => by show (i 1).val = if (2176 : Nat) = 1 then 0 else (i 1).val; rw [if_neg (by decide)])).trans ?_
  exact l_v15 _

def k_call1_v1  : IVec S34x2176x16 1 :=
  broadcastInDim S34x2176x16 ![0, 1, 2] bcast_S34x2176x1_S34x2176x16_0_1_2 k_v20

theorem l_call1_v1 (i : S34x2176x16.Idx) : k_call1_v1 i = BitVec.ofBool (decide ((i 1).val < 64 * (i 0).val)) := by
  unfold k_call1_v1
  refine (broadcastInDim_apply _ bcast_S34x2176x1_S34x2176x16_0_1_2 _ i (fun a => match a with
    | ⟨0, _⟩ => ⟨(i 0).val, by have h0 : (i 0).val < 34 := (i 0).isLt; have h1 : (i 1).val < 2176 := (i 1).isLt; have h2 : (i 2).val < 16 := (i 2).isLt; show (i 0).val < 34; omega⟩
    | ⟨1, _⟩ => ⟨(i 1).val, by have h0 : (i 0).val < 34 := (i 0).isLt; have h1 : (i 1).val < 2176 := (i 1).isLt; have h2 : (i 2).val < 16 := (i 2).isLt; show (i 1).val < 2176; omega⟩
    | ⟨2, _⟩ => ⟨0, by have h0 : (i 0).val < 34 := (i 0).isLt; have h1 : (i 1).val < 2176 := (i 1).isLt; have h2 : (i 2).val < 16 := (i 2).isLt; show 0 < 1; omega⟩) (fun a => match a with
    | ⟨0, _⟩ => by show (i 0).val = if (34 : Nat) = 1 then 0 else (i 0).val; rw [if_neg (by decide)]
    | ⟨1, _⟩ => by show (i 1).val = if (2176 : Nat) = 1 then 0 else (i 1).val; rw [if_neg (by decide)]
    | ⟨2, _⟩ => by show 0 = if (1 : Nat) = 1 then 0 else (i 2).val; rw [if_pos rfl])).trans ?_
  exact l_v20 _

def k_v21 (X1 : FVec Ideal S2176x16 .f32) (X2 : FVec Ideal S1x16 .f32) : FVec Ideal S1x2176x16 .f32 :=
  broadcastInDim S1x2176x16 ![1, 2] bcast_S2176x16_S1x2176x16_1_2 (k_v7 X1 X2)

theorem l_v21 (DT : ℕ → ℕ → ℝ) (AL : ℕ → ℝ) : k_v21 (M2 DT) (M2 fun _ h => AL h) = (M3 fun _ u v => DT u v * rate AL v : FVec Ideal S1x2176x16 .f32) := by
  funext i
  unfold k_v21
  rw [l_v7]
  refine (broadcastInDim_apply _ bcast_S2176x16_S1x2176x16_1_2 _ i (fun a => match a with
    | ⟨0, _⟩ => ⟨(i 1).val, by have h0 : (i 0).val < 1 := (i 0).isLt; have h1 : (i 1).val < 2176 := (i 1).isLt; have h2 : (i 2).val < 16 := (i 2).isLt; show (i 1).val < 2176; omega⟩
    | ⟨1, _⟩ => ⟨(i 2).val, by have h0 : (i 0).val < 1 := (i 0).isLt; have h1 : (i 1).val < 2176 := (i 1).isLt; have h2 : (i 2).val < 16 := (i 2).isLt; show (i 2).val < 16; omega⟩) (fun a => match a with
    | ⟨0, _⟩ => by show (i 1).val = if (2176 : Nat) = 1 then 0 else (i 1).val; rw [if_neg (by decide)]
    | ⟨1, _⟩ => by show (i 2).val = if (16 : Nat) = 1 then 0 else (i 2).val; rw [if_neg (by decide)])).trans ?_
  have h0 : (i 0).val < 1 := (i 0).isLt
  have h1 : (i 1).val < 2176 := (i 1).isLt
  have h2 : (i 2).val < 16 := (i 2).isLt
  show ((DT (i 1).val (i 2).val * rate AL (i 2).val : ℝ) : EReal) = ((DT (i 1).val (i 2).val * rate AL (i 2).val : ℝ) : EReal)
  rfl

def k_call1_v2 (X1 : FVec Ideal S2176x16 .f32) (X2 : FVec Ideal S1x16 .f32) : FVec Ideal S34x2176x16 .f32 :=
  broadcastInDim S34x2176x16 ![0, 1, 2] bcast_S1x2176x16_S34x2176x16_0_1_2 (k_v21 X1 X2)

theorem l_call1_v2 (DT : ℕ → ℕ → ℝ) (AL : ℕ → ℝ) : k_call1_v2 (M2 DT) (M2 fun _ h => AL h) = (M3 fun _ u v => DT u v * rate AL v : FVec Ideal S34x2176x16 .f32) := by
  funext i
  unfold k_call1_v2
  rw [l_v21]
  refine (broadcastInDim_apply _ bcast_S1x2176x16_S34x2176x16_0_1_2 _ i (fun a => match a with
    | ⟨0, _⟩ => ⟨0, by have h0 : (i 0).val < 34 := (i 0).isLt; have h1 : (i 1).val < 2176 := (i 1).isLt; have h2 : (i 2).val < 16 := (i 2).isLt; show 0 < 1; omega⟩
    | ⟨1, _⟩ => ⟨(i 1).val, by have h0 : (i 0).val < 34 := (i 0).isLt; have h1 : (i 1).val < 2176 := (i 1).isLt; have h2 : (i 2).val < 16 := (i 2).isLt; show (i 1).val < 2176; omega⟩
    | ⟨2, _⟩ => ⟨(i 2).val, by have h0 : (i 0).val < 34 := (i 0).isLt; have h1 : (i 1).val < 2176 := (i 1).isLt; have h2 : (i 2).val < 16 := (i 2).isLt; show (i 2).val < 16; omega⟩) (fun a => match a with
    | ⟨0, _⟩ => by show 0 = if (1 : Nat) = 1 then 0 else (i 0).val; rw [if_pos rfl]
    | ⟨1, _⟩ => by show (i 1).val = if (2176 : Nat) = 1 then 0 else (i 1).val; rw [if_neg (by decide)]
    | ⟨2, _⟩ => by show (i 2).val = if (16 : Nat) = 1 then 0 else (i 2).val; rw [if_neg (by decide)])).trans ?_
  have h0 : (i 0).val < 34 := (i 0).isLt
  have h1 : (i 1).val < 2176 := (i 1).isLt
  have h2 : (i 2).val < 16 := (i 2).isLt
  show ((DT (i 1).val (i 2).val * rate AL (i 2).val : ℝ) : EReal) = ((DT (i 1).val (i 2).val * rate AL (i 2).val : ℝ) : EReal)
  rfl

def k_v22 (X1 : FVec Ideal S2176x16 .f32) (X2 : FVec Ideal S1x16 .f32) : FVec Ideal S34x2176x16 .f32 :=
  select k_call1_v1 (k_call1_v2 X1 X2) (broadcastInDim S34x2176x16 ![] bcast_S_S34x2176x16 (constant S_ .f32 0x00000000#32))

theorem l_v22 (DT : ℕ → ℕ → ℝ) (AL : ℕ → ℝ) : k_v22 (M2 DT) (M2 fun _ h => AL h) = (M3 fun t u v => if u < 64 * t then DT u v * rate AL v else 0 : FVec Ideal S34x2176x16 .f32) := by
  funext i
  unfold k_v22
  rw [l_call1_v2]
  refine (congrArg (fun w => Scalar.select w _ _) (l_call1_v1 i)).trans ?_
  exact masked_coe _ _ _ Ideal.ofBits_zero_f32

def k_v23 (X1 : FVec Ideal S2176x16 .f32) (X2 : FVec Ideal S1x16 .f32) : FVec Ideal S34x16 .f32 :=
  Host.reduceAdd (k_v22 X1 X2) (constant S_ .f32 0x00000000#32) reducesTo_S34x2176x16_S34x16_d1 h_S_

theorem l_v23 (DT : ℕ → ℕ → ℝ) (AL : ℕ → ℝ) : k_v23 (M2 DT) (M2 fun _ h => AL h) = (M2 fun t u => KK DT (rate AL) (64 * t) u : FVec Ideal S34x16 .f32) := by
  funext i
  unfold k_v23
  rw [l_v22]
  have h0 : (i 0).val < 34 := (i 0).isLt
  have h1 : (i 1).val < 16 := (i 1).isLt
  simp only [Host.reduceAdd, Ideal.hostReduceAdd_def]
  rw [Ideal.hostReduceAdd_single reducesTo_S34x2176x16_S34x16_d1 (by decide)]
  refine (total_coe (n := 2176) _ Ideal.ofBits_zero_f32 fun k => if k < 64 * (i 0).val then DT k (i 1).val * rate AL (i 1).val else 0).trans (congrArg _ ?_)
  exact below_sum _ (by omega)

def k_v24 (X1 : FVec Ideal S2176x16 .f32) (X2 : FVec Ideal S1x16 .f32) : FVec Ideal S34x1x16 .f32 :=
  broadcastInDim S34x1x16 ![0, 2] bcast_S34x16_S34x1x16_0_2 (k_v23 X1 X2)

theorem l_v24 (DT : ℕ → ℕ → ℝ) (AL : ℕ → ℝ) : k_v24 (M2 DT) (M2 fun _ h => AL h) = (M3 fun t _ v => KK DT (rate AL) (64 * t) v : FVec Ideal S34x1x16 .f32) := by
  funext i
  unfold k_v24
  rw [l_v23]
  refine (broadcastInDim_apply _ bcast_S34x16_S34x1x16_0_2 _ i (fun a => match a with
    | ⟨0, _⟩ => ⟨(i 0).val, by have h0 : (i 0).val < 34 := (i 0).isLt; have h1 : (i 1).val < 1 := (i 1).isLt; have h2 : (i 2).val < 16 := (i 2).isLt; show (i 0).val < 34; omega⟩
    | ⟨1, _⟩ => ⟨(i 2).val, by have h0 : (i 0).val < 34 := (i 0).isLt; have h1 : (i 1).val < 1 := (i 1).isLt; have h2 : (i 2).val < 16 := (i 2).isLt; show (i 2).val < 16; omega⟩) (fun a => match a with
    | ⟨0, _⟩ => by show (i 0).val = if (34 : Nat) = 1 then 0 else (i 0).val; rw [if_neg (by decide)]
    | ⟨1, _⟩ => by show (i 2).val = if (16 : Nat) = 1 then 0 else (i 2).val; rw [if_neg (by decide)])).trans ?_
  have h0 : (i 0).val < 34 := (i 0).isLt
  have h1 : (i 1).val < 1 := (i 1).isLt
  have h2 : (i 2).val < 16 := (i 2).isLt
  show ((KK DT (rate AL) (64 * (i 0).val) (i 2).val : ℝ) : EReal) = ((KK DT (rate AL) (64 * (i 0).val) (i 2).val : ℝ) : EReal)
  rfl

def k_v25 (X1 : FVec Ideal S2176x16 .f32) (X2 : FVec Ideal S1x16 .f32) : FVec Ideal S1x2176x16 .f32 :=
  broadcastInDim S1x2176x16 ![1, 2] bcast_S2176x16_S1x2176x16_1_2 (k_v19 X1 X2)

theorem l_v25 (DT : ℕ → ℕ → ℝ) (AL : ℕ → ℝ) : k_v25 (M2 DT) (M2 fun _ h => AL h) = (M3 fun _ u v => KK DT (rate AL) (u + 1) v : FVec Ideal S1x2176x16 .f32) := by
  funext i
  unfold k_v25
  rw [l_v19]
  refine (broadcastInDim_apply _ bcast_S2176x16_S1x2176x16_1_2 _ i (fun a => match a with
    | ⟨0, _⟩ => ⟨(i 1).val, by have h0 : (i 0).val < 1 := (i 0).isLt; have h1 : (i 1).val < 2176 := (i 1).isLt; have h2 : (i 2).val < 16 := (i 2).isLt; show (i 1).val < 2176; omega⟩
    | ⟨1, _⟩ => ⟨(i 2).val, by have h0 : (i 0).val < 1 := (i 0).isLt; have h1 : (i 1).val < 2176 := (i 1).isLt; have h2 : (i 2).val < 16 := (i 2).isLt; show (i 2).val < 16; omega⟩) (fun a => match a with
    | ⟨0, _⟩ => by show (i 1).val = if (2176 : Nat) = 1 then 0 else (i 1).val; rw [if_neg (by decide)]
    | ⟨1, _⟩ => by show (i 2).val = if (16 : Nat) = 1 then 0 else (i 2).val; rw [if_neg (by decide)])).trans ?_
  have h0 : (i 0).val < 1 := (i 0).isLt
  have h1 : (i 1).val < 2176 := (i 1).isLt
  have h2 : (i 2).val < 16 := (i 2).isLt
  show ((KK DT (rate AL) ((i 1).val + 1) (i 2).val : ℝ) : EReal) = ((KK DT (rate AL) ((i 1).val + 1) (i 2).val : ℝ) : EReal)
  rfl

def k_v26 (X1 : FVec Ideal S2176x16 .f32) (X2 : FVec Ideal S1x16 .f32) : FVec Ideal S34x2176x16 .f32 :=
  broadcastInDim S34x2176x16 ![0, 1, 2] bcast_S34x1x16_S34x2176x16_0_1_2 (k_v24 X1 X2)

theorem l_v26 (DT : ℕ → ℕ → ℝ) (AL : ℕ → ℝ) : k_v26 (M2 DT) (M2 fun _ h => AL h) = (M3 fun t _ v => KK DT (rate AL) (64 * t) v : FVec Ideal S34x2176x16 .f32) := by
  funext i
  unfold k_v26
  rw [l_v24]
  refine (broadcastInDim_apply _ bcast_S34x1x16_S34x2176x16_0_1_2 _ i (fun a => match a with
    | ⟨0, _⟩ => ⟨(i 0).val, by have h0 : (i 0).val < 34 := (i 0).isLt; have h1 : (i 1).val < 2176 := (i 1).isLt; have h2 : (i 2).val < 16 := (i 2).isLt; show (i 0).val < 34; omega⟩
    | ⟨1, _⟩ => ⟨0, by have h0 : (i 0).val < 34 := (i 0).isLt; have h1 : (i 1).val < 2176 := (i 1).isLt; have h2 : (i 2).val < 16 := (i 2).isLt; show 0 < 1; omega⟩
    | ⟨2, _⟩ => ⟨(i 2).val, by have h0 : (i 0).val < 34 := (i 0).isLt; have h1 : (i 1).val < 2176 := (i 1).isLt; have h2 : (i 2).val < 16 := (i 2).isLt; show (i 2).val < 16; omega⟩) (fun a => match a with
    | ⟨0, _⟩ => by show (i 0).val = if (34 : Nat) = 1 then 0 else (i 0).val; rw [if_neg (by decide)]
    | ⟨1, _⟩ => by show 0 = if (1 : Nat) = 1 then 0 else (i 1).val; rw [if_pos rfl]
    | ⟨2, _⟩ => by show (i 2).val = if (16 : Nat) = 1 then 0 else (i 2).val; rw [if_neg (by decide)])).trans ?_
  have h0 : (i 0).val < 34 := (i 0).isLt
  have h1 : (i 1).val < 2176 := (i 1).isLt
  have h2 : (i 2).val < 16 := (i 2).isLt
  show ((KK DT (rate AL) (64 * (i 0).val) (i 2).val : ℝ) : EReal) = ((KK DT (rate AL) (64 * (i 0).val) (i 2).val : ℝ) : EReal)
  rfl

def k_v27 (X1 : FVec Ideal S2176x16 .f32) (X2 : FVec Ideal S1x16 .f32) : FVec Ideal S34x2176x16 .f32 :=
  broadcastInDim S34x2176x16 ![0, 1, 2] bcast_S1x2176x16_S34x2176x16_0_1_2 (k_v25 X1 X2)

theorem l_v27 (DT : ℕ → ℕ → ℝ) (AL : ℕ → ℝ) : k_v27 (M2 DT) (M2 fun _ h => AL h) = (M3 fun _ u v => KK DT (rate AL) (u + 1) v : FVec Ideal S34x2176x16 .f32) := by
  funext i
  unfold k_v27
  rw [l_v25]
  refine (broadcastInDim_apply _ bcast_S1x2176x16_S34x2176x16_0_1_2 _ i (fun a => match a with
    | ⟨0, _⟩ => ⟨0, by have h0 : (i 0).val < 34 := (i 0).isLt; have h1 : (i 1).val < 2176 := (i 1).isLt; have h2 : (i 2).val < 16 := (i 2).isLt; show 0 < 1; omega⟩
    | ⟨1, _⟩ => ⟨(i 1).val, by have h0 : (i 0).val < 34 := (i 0).isLt; have h1 : (i 1).val < 2176 := (i 1).isLt; have h2 : (i 2).val < 16 := (i 2).isLt; show (i 1).val < 2176; omega⟩
    | ⟨2, _⟩ => ⟨(i 2).val, by have h0 : (i 0).val < 34 := (i 0).isLt; have h1 : (i 1).val < 2176 := (i 1).isLt; have h2 : (i 2).val < 16 := (i 2).isLt; show (i 2).val < 16; omega⟩) (fun a => match a with
    | ⟨0, _⟩ => by show 0 = if (1 : Nat) = 1 then 0 else (i 0).val; rw [if_pos rfl]
    | ⟨1, _⟩ => by show (i 1).val = if (2176 : Nat) = 1 then 0 else (i 1).val; rw [if_neg (by decide)]
    | ⟨2, _⟩ => by show (i 2).val = if (16 : Nat) = 1 then 0 else (i 2).val; rw [if_neg (by decide)])).trans ?_
  have h0 : (i 0).val < 34 := (i 0).isLt
  have h1 : (i 1).val < 2176 := (i 1).isLt
  have h2 : (i 2).val < 16 := (i 2).isLt
  show ((KK DT (rate AL) ((i 1).val + 1) (i 2).val : ℝ) : EReal) = ((KK DT (rate AL) ((i 1).val + 1) (i 2).val : ℝ) : EReal)
  rfl

def k_v28 (X1 : FVec Ideal S2176x16 .f32) (X2 : FVec Ideal S1x16 .f32) : FVec Ideal S34x2176x16 .f32 :=
  subf (k_v26 X1 X2) (k_v27 X1 X2)

theorem l_v28 (DT : ℕ → ℕ → ℝ) (AL : ℕ → ℝ) : k_v28 (M2 DT) (M2 fun _ h => AL h) = (M3 fun t u v => KK DT (rate AL) (64 * t) v - KK DT (rate AL) (u + 1) v : FVec Ideal S34x2176x16 .f32) := by
  funext i
  unfold k_v28
  rw [l_v26, l_v27]
  have h0 : (i 0).val < 34 := (i 0).isLt
  have h1 : (i 1).val < 2176 := (i 1).isLt
  have h2 : (i 2).val < 16 := (i 2).isLt
  refine (EReal.coe_sub _ _).symm.trans (congrArg _ ?_)
  show (KK DT (rate AL) (64 * (i 0).val) (i 2).val) - (KK DT (rate AL) ((i 1).val + 1) (i 2).val) = KK DT (rate AL) (64 * (i 0).val) (i 2).val - KK DT (rate AL) ((i 1).val + 1) (i 2).val
  rfl

def k_v31 (X1 : FVec Ideal S2176x16 .f32) (X2 : FVec Ideal S1x16 .f32) : FVec Ideal S34x2176x16 .f32 :=
  Host.exp (select k_call1_v1 (k_v28 X1 X2) (broadcastInDim S34x2176x16 ![] bcast_S_S34x2176x16 (constant S_ .f32 0xFF800000#32)))

theorem l_v31 (DT : ℕ → ℕ → ℝ) (AL : ℕ → ℝ) : k_v31 (M2 DT) (M2 fun _ h => AL h) = (M3 fun t u v => SE DT (rate AL) t u v : FVec Ideal S34x2176x16 .f32) := by
  funext i
  unfold k_v31
  rw [l_v28]
  refine (congrArg (fun w => FloatOps.hostUnary (F := Ideal) (φ := .f32) .exp (Scalar.select w _ _)) (l_call1_v1 i)).trans ?_
  exact masked_exp _ _ _ ofBits_bot

def k_v32 (X1 : FVec Ideal S2176x16 .f32) (X2 : FVec Ideal S1x16 .f32) : FVec Ideal S34x2176x16x1 .f32 :=
  broadcastInDim S34x2176x16x1 ![0, 1, 2] bcast_S34x2176x16_S34x2176x16x1_0_1_2 (k_v31 X1 X2)

theorem l_v32 (DT : ℕ → ℕ → ℝ) (AL : ℕ → ℝ) : k_v32 (M2 DT) (M2 fun _ h => AL h) = (M4 fun t u v _ => SE DT (rate AL) t u v : FVec Ideal S34x2176x16x1 .f32) := by
  funext i
  unfold k_v32
  rw [l_v31]
  refine (broadcastInDim_apply _ bcast_S34x2176x16_S34x2176x16x1_0_1_2 _ i (fun a => match a with
    | ⟨0, _⟩ => ⟨(i 0).val, by have h0 : (i 0).val < 34 := (i 0).isLt; have h1 : (i 1).val < 2176 := (i 1).isLt; have h2 : (i 2).val < 16 := (i 2).isLt; have h3 : (i 3).val < 1 := (i 3).isLt; show (i 0).val < 34; omega⟩
    | ⟨1, _⟩ => ⟨(i 1).val, by have h0 : (i 0).val < 34 := (i 0).isLt; have h1 : (i 1).val < 2176 := (i 1).isLt; have h2 : (i 2).val < 16 := (i 2).isLt; have h3 : (i 3).val < 1 := (i 3).isLt; show (i 1).val < 2176; omega⟩
    | ⟨2, _⟩ => ⟨(i 2).val, by have h0 : (i 0).val < 34 := (i 0).isLt; have h1 : (i 1).val < 2176 := (i 1).isLt; have h2 : (i 2).val < 16 := (i 2).isLt; have h3 : (i 3).val < 1 := (i 3).isLt; show (i 2).val < 16; omega⟩) (fun a => match a with
    | ⟨0, _⟩ => by show (i 0).val = if (34 : Nat) = 1 then 0 else (i 0).val; rw [if_neg (by decide)]
    | ⟨1, _⟩ => by show (i 1).val = if (2176 : Nat) = 1 then 0 else (i 1).val; rw [if_neg (by decide)]
    | ⟨2, _⟩ => by show (i 2).val = if (16 : Nat) = 1 then 0 else (i 2).val; rw [if_neg (by decide)])).trans ?_
  have h0 : (i 0).val < 34 := (i 0).isLt
  have h1 : (i 1).val < 2176 := (i 1).isLt
  have h2 : (i 2).val < 16 := (i 2).isLt
  have h3 : (i 3).val < 1 := (i 3).isLt
  show ((SE DT (rate AL) (i 0).val (i 1).val (i 2).val : ℝ) : EReal) = ((SE DT (rate AL) (i 0).val (i 1).val (i 2).val : ℝ) : EReal)
  rfl

def k_v33 (X1 : FVec Ideal S2176x16 .f32) : FVec Ideal S2176x16x1 .f32 :=
  broadcastInDim S2176x16x1 ![0, 1] bcast_S2176x16_S2176x16x1_0_1 X1

theorem l_v33 (DT : ℕ → ℕ → ℝ) : k_v33 (M2 DT) = (M3 fun t u _ => DT t u : FVec Ideal S2176x16x1 .f32) := by
  funext i
  unfold k_v33
  refine (broadcastInDim_apply _ bcast_S2176x16_S2176x16x1_0_1 _ i (fun a => match a with
    | ⟨0, _⟩ => ⟨(i 0).val, by have h0 : (i 0).val < 2176 := (i 0).isLt; have h1 : (i 1).val < 16 := (i 1).isLt; have h2 : (i 2).val < 1 := (i 2).isLt; show (i 0).val < 2176; omega⟩
    | ⟨1, _⟩ => ⟨(i 1).val, by have h0 : (i 0).val < 2176 := (i 0).isLt; have h1 : (i 1).val < 16 := (i 1).isLt; have h2 : (i 2).val < 1 := (i 2).isLt; show (i 1).val < 16; omega⟩) (fun a => match a with
    | ⟨0, _⟩ => by show (i 0).val = if (2176 : Nat) = 1 then 0 else (i 0).val; rw [if_neg (by decide)]
    | ⟨1, _⟩ => by show (i 1).val = if (16 : Nat) = 1 then 0 else (i 1).val; rw [if_neg (by decide)])).trans ?_
  have h0 : (i 0).val < 2176 := (i 0).isLt
  have h1 : (i 1).val < 16 := (i 1).isLt
  have h2 : (i 2).val < 1 := (i 2).isLt
  show ((DT (i 0).val (i 1).val : ℝ) : EReal) = ((DT (i 0).val (i 1).val : ℝ) : EReal)
  rfl

def k_v34 (X1 : FVec Ideal S2176x16 .f32) : FVec Ideal S2176x16x64 .f32 :=
  broadcastInDim S2176x16x64 ![0, 1, 2] bcast_S2176x16x1_S2176x16x64_0_1_2 (k_v33 X1)

theorem l_v34 (DT : ℕ → ℕ → ℝ) : k_v34 (M2 DT) = (M3 fun t u _ => DT t u : FVec Ideal S2176x16x64 .f32) := by
  funext i
  unfold k_v34
  rw [l_v33]
  refine (broadcastInDim_apply _ bcast_S2176x16x1_S2176x16x64_0_1_2 _ i (fun a => match a with
    | ⟨0, _⟩ => ⟨(i 0).val, by have h0 : (i 0).val < 2176 := (i 0).isLt; have h1 : (i 1).val < 16 := (i 1).isLt; have h2 : (i 2).val < 64 := (i 2).isLt; show (i 0).val < 2176; omega⟩
    | ⟨1, _⟩ => ⟨(i 1).val, by have h0 : (i 0).val < 2176 := (i 0).isLt; have h1 : (i 1).val < 16 := (i 1).isLt; have h2 : (i 2).val < 64 := (i 2).isLt; show (i 1).val < 16; omega⟩
    | ⟨2, _⟩ => ⟨0, by have h0 : (i 0).val < 2176 := (i 0).isLt; have h1 : (i 1).val < 16 := (i 1).isLt; have h2 : (i 2).val < 64 := (i 2).isLt; show 0 < 1; omega⟩) (fun a => match a with
    | ⟨0, _⟩ => by show (i 0).val = if (2176 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])).trans ?_
  have h0 : (i 0).val < 2176 := (i 0).isLt
  have h1 : (i 1).val < 16 := (i 1).isLt
  have h2 : (i 2).val < 64 := (i 2).isLt
  show ((DT (i 0).val (i 1).val : ℝ) : EReal) = ((DT (i 0).val (i 1).val : ℝ) : EReal)
  rfl

def k_v35 (X0 : FVec Ideal S2176x1536 .f32) (X1 : FVec Ideal S2176x16 .f32) : FVec Ideal S2176x16x64 .f32 :=
  mulf (k_v3 X0) (k_v34 X1)

theorem l_v35 (XB : ℕ → ℕ → ℝ) (DT : ℕ → ℕ → ℝ) : k_v35 (M2 XB) (M2 DT) = (M3 fun t u v => xdt XB DT t (64 * u + v) : FVec Ideal S2176x16x64 .f32) := by
  funext i
  unfold k_v35
  rw [l_v3, l_v34]
  have h0 : (i 0).val < 2176 := (i 0).isLt
  have h1 : (i 1).val < 16 := (i 1).isLt
  have h2 : (i 2).val < 64 := (i 2).isLt
  refine (EReal.coe_mul _ _).symm.trans (congrArg _ ?_)
  show (XB (i 0).val (64 * (i 1).val + (i 2).val)) * (DT (i 0).val (i 1).val) = xdt XB DT (i 0).val (64 * (i 1).val + (i 2).val)
  have hj : (64 * (i 1).val + (i 2).val) / 64 = (i 1).val := by omega
  unfold xdt
  rw [hj]

def k_v36 (X0 : FVec Ideal S2176x1536 .f32) (X1 : FVec Ideal S2176x16 .f32) : FVec Ideal S1x2176x16x64 .f32 :=
  broadcastInDim S1x2176x16x64 ![1, 2, 3] bcast_S2176x16x64_S1x2176x16x64_1_2_3 (k_v35 X0 X1)

theorem l_v36 (XB : ℕ → ℕ → ℝ) (DT : ℕ → ℕ → ℝ) : k_v36 (M2 XB) (M2 DT) = (M4 fun _ u v w => xdt XB DT u (64 * v + w) : FVec Ideal S1x2176x16x64 .f32) := by
  funext i
  unfold k_v36
  rw [l_v35]
  refine (broadcastInDim_apply _ bcast_S2176x16x64_S1x2176x16x64_1_2_3 _ i (fun a => match a with
    | ⟨0, _⟩ => ⟨(i 1).val, by have h0 : (i 0).val < 1 := (i 0).isLt; have h1 : (i 1).val < 2176 := (i 1).isLt; have h2 : (i 2).val < 16 := (i 2).isLt; have h3 : (i 3).val < 64 := (i 3).isLt; show (i 1).val < 2176; omega⟩
    | ⟨1, _⟩ => ⟨(i 2).val, by have h0 : (i 0).val < 1 := (i 0).isLt; have h1 : (i 1).val < 2176 := (i 1).isLt; have h2 : (i 2).val < 16 := (i 2).isLt; have h3 : (i 3).val < 64 := (i 3).isLt; show (i 2).val < 16; omega⟩
    | ⟨2, _⟩ => ⟨(i 3).val, by have h0 : (i 0).val < 1 := (i 0).isLt; have h1 : (i 1).val < 2176 := (i 1).isLt; have h2 : (i 2).val < 16 := (i 2).isLt; have h3 : (i 3).val < 64 := (i 3).isLt; show (i 3).val < 64; omega⟩) (fun a => match a with
    | ⟨0, _⟩ => by show (i 1).val = if (2176 : Nat) = 1 then 0 else (i 1).val; rw [if_neg (by decide)]
    | ⟨1, _⟩ => by show (i 2).val = if (16 : Nat) = 1 then 0 else (i 2).val; rw [if_neg (by decide)]
    | ⟨2, _⟩ => by show (i 3).val = if (64 : Nat) = 1 then 0 else (i 3).val; rw [if_neg (by decide)])).trans ?_
  have h0 : (i 0).val < 1 := (i 0).isLt
  have h1 : (i 1).val < 2176 := (i 1).isLt
  have h2 : (i 2).val < 16 := (i 2).isLt
  have h3 : (i 3).val < 64 := (i 3).isLt
  show ((xdt XB DT (i 1).val (64 * (i 2).val + (i 3).val) : ℝ) : EReal) = ((xdt XB DT (i 1).val (64 * (i 2).val + (i 3).val) : ℝ) : EReal)
  rfl

def k_v37 (X1 : FVec Ideal S2176x16 .f32) (X2 : FVec Ideal S1x16 .f32) : FVec Ideal S34x2176x16x64 .f32 :=
  broadcastInDim S34x2176x16x64 ![0, 1, 2, 3] bcast_S34x2176x16x1_S34x2176x16x64_0_1_2_3 (k_v32 X1 X2)

theorem l_v37 (DT : ℕ → ℕ → ℝ) (AL : ℕ → ℝ) : k_v37 (M2 DT) (M2 fun _ h => AL h) = (M4 fun t u v _ => SE DT (rate AL) t u v : FVec Ideal S34x2176x16x64 .f32) := by
  funext i
  unfold k_v37
  rw [l_v32]
  refine (broadcastInDim_apply _ bcast_S34x2176x16x1_S34x2176x16x64_0_1_2_3 _ i (fun a => match a with
    | ⟨0, _⟩ => ⟨(i 0).val, by have h0 : (i 0).val < 34 := (i 0).isLt; have h1 : (i 1).val < 2176 := (i 1).isLt; have h2 : (i 2).val < 16 := (i 2).isLt; have h3 : (i 3).val < 64 := (i 3).isLt; show (i 0).val < 34; omega⟩
    | ⟨1, _⟩ => ⟨(i 1).val, by have h0 : (i 0).val < 34 := (i 0).isLt; have h1 : (i 1).val < 2176 := (i 1).isLt; have h2 : (i 2).val < 16 := (i 2).isLt; have h3 : (i 3).val < 64 := (i 3).isLt; show (i 1).val < 2176; omega⟩
    | ⟨2, _⟩ => ⟨(i 2).val, by have h0 : (i 0).val < 34 := (i 0).isLt; have h1 : (i 1).val < 2176 := (i 1).isLt; have h2 : (i 2).val < 16 := (i 2).isLt; have h3 : (i 3).val < 64 := (i 3).isLt; show (i 2).val < 16; omega⟩
    | ⟨3, _⟩ => ⟨0, by have h0 : (i 0).val < 34 := (i 0).isLt; have h1 : (i 1).val < 2176 := (i 1).isLt; have h2 : (i 2).val < 16 := (i 2).isLt; have h3 : (i 3).val < 64 := (i 3).isLt; show 0 < 1; omega⟩) (fun a => match a with
    | ⟨0, _⟩ => by show (i 0).val = if (34 : Nat) = 1 then 0 else (i 0).val; rw [if_neg (by decide)]
    | ⟨1, _⟩ => by show (i 1).val = if (2176 : Nat) = 1 then 0 else (i 1).val; rw [if_neg (by decide)]
    | ⟨2, _⟩ => by show (i 2).val = if (16 : Nat) = 1 then 0 else (i 2).val; rw [if_neg (by decide)]
    | ⟨3, _⟩ => by show 0 = if (1 : Nat) = 1 then 0 else (i 3).val; rw [if_pos rfl])).trans ?_
  have h0 : (i 0).val < 34 := (i 0).isLt
  have h1 : (i 1).val < 2176 := (i 1).isLt
  have h2 : (i 2).val < 16 := (i 2).isLt
  have h3 : (i 3).val < 64 := (i 3).isLt
  show ((SE DT (rate AL) (i 0).val (i 1).val (i 2).val : ℝ) : EReal) = ((SE DT (rate AL) (i 0).val (i 1).val (i 2).val : ℝ) : EReal)
  rfl

def k_v38 (X0 : FVec Ideal S2176x1536 .f32) (X1 : FVec Ideal S2176x16 .f32) : FVec Ideal S34x2176x16x64 .f32 :=
  broadcastInDim S34x2176x16x64 ![0, 1, 2, 3] bcast_S1x2176x16x64_S34x2176x16x64_0_1_2_3 (k_v36 X0 X1)

theorem l_v38 (XB : ℕ → ℕ → ℝ) (DT : ℕ → ℕ → ℝ) : k_v38 (M2 XB) (M2 DT) = (M4 fun _ u v w => xdt XB DT u (64 * v + w) : FVec Ideal S34x2176x16x64 .f32) := by
  funext i
  unfold k_v38
  rw [l_v36]
  refine (broadcastInDim_apply _ bcast_S1x2176x16x64_S34x2176x16x64_0_1_2_3 _ i (fun a => match a with
    | ⟨0, _⟩ => ⟨0, by have h0 : (i 0).val < 34 := (i 0).isLt; have h1 : (i 1).val < 2176 := (i 1).isLt; have h2 : (i 2).val < 16 := (i 2).isLt; have h3 : (i 3).val < 64 := (i 3).isLt; show 0 < 1; omega⟩
    | ⟨1, _⟩ => ⟨(i 1).val, by have h0 : (i 0).val < 34 := (i 0).isLt; have h1 : (i 1).val < 2176 := (i 1).isLt; have h2 : (i 2).val < 16 := (i 2).isLt; have h3 : (i 3).val < 64 := (i 3).isLt; show (i 1).val < 2176; omega⟩
    | ⟨2, _⟩ => ⟨(i 2).val, by have h0 : (i 0).val < 34 := (i 0).isLt; have h1 : (i 1).val < 2176 := (i 1).isLt; have h2 : (i 2).val < 16 := (i 2).isLt; have h3 : (i 3).val < 64 := (i 3).isLt; show (i 2).val < 16; omega⟩
    | ⟨3, _⟩ => ⟨(i 3).val, by have h0 : (i 0).val < 34 := (i 0).isLt; have h1 : (i 1).val < 2176 := (i 1).isLt; have h2 : (i 2).val < 16 := (i 2).isLt; have h3 : (i 3).val < 64 := (i 3).isLt; show (i 3).val < 64; omega⟩) (fun a => match a with
    | ⟨0, _⟩ => by show 0 = if (1 : Nat) = 1 then 0 else (i 0).val; rw [if_pos rfl]
    | ⟨1, _⟩ => by show (i 1).val = if (2176 : Nat) = 1 then 0 else (i 1).val; rw [if_neg (by decide)]
    | ⟨2, _⟩ => by show (i 2).val = if (16 : Nat) = 1 then 0 else (i 2).val; rw [if_neg (by decide)]
    | ⟨3, _⟩ => by show (i 3).val = if (64 : Nat) = 1 then 0 else (i 3).val; rw [if_neg (by decide)])).trans ?_
  have h0 : (i 0).val < 34 := (i 0).isLt
  have h1 : (i 1).val < 2176 := (i 1).isLt
  have h2 : (i 2).val < 16 := (i 2).isLt
  have h3 : (i 3).val < 64 := (i 3).isLt
  show ((xdt XB DT (i 1).val (64 * (i 2).val + (i 3).val) : ℝ) : EReal) = ((xdt XB DT (i 1).val (64 * (i 2).val + (i 3).val) : ℝ) : EReal)
  rfl

def k_v39 (X0 : FVec Ideal S2176x1536 .f32) (X1 : FVec Ideal S2176x16 .f32) (X2 : FVec Ideal S1x16 .f32) : FVec Ideal S34x2176x16x64 .f32 :=
  mulf (k_v37 X1 X2) (k_v38 X0 X1)

theorem l_v39 (XB : ℕ → ℕ → ℝ) (DT : ℕ → ℕ → ℝ) (AL : ℕ → ℝ) : k_v39 (M2 XB) (M2 DT) (M2 fun _ h => AL h) = (M4 fun t u v w => SD XB DT (rate AL) t u (64 * v + w) : FVec Ideal S34x2176x16x64 .f32) := by
  funext i
  unfold k_v39
  rw [l_v37, l_v38]
  have h0 : (i 0).val < 34 := (i 0).isLt
  have h1 : (i 1).val < 2176 := (i 1).isLt
  have h2 : (i 2).val < 16 := (i 2).isLt
  have h3 : (i 3).val < 64 := (i 3).isLt
  refine (EReal.coe_mul _ _).symm.trans (congrArg _ ?_)
  show (SE DT (rate AL) (i 0).val (i 1).val (i 2).val) * (xdt XB DT (i 1).val (64 * (i 2).val + (i 3).val)) = SD XB DT (rate AL) (i 0).val (i 1).val (64 * (i 2).val + (i 3).val)
  have hj : (64 * (i 2).val + (i 3).val) / 64 = (i 2).val := by omega
  unfold SD
  rw [hj]

def k_v40 (X0 : FVec Ideal S2176x1536 .f32) (X1 : FVec Ideal S2176x16 .f32) (X2 : FVec Ideal S1x16 .f32) : FVec Ideal S34x2176x2x512 .f32 :=
  shapeCast S34x2176x2x512 (k_v39 X0 X1 X2) shapeCasts_S34x2176x16x64_S34x2176x2x512

theorem l_v40 (XB : ℕ → ℕ → ℝ) (DT : ℕ → ℕ → ℝ) (AL : ℕ → ℝ) : k_v40 (M2 XB) (M2 DT) (M2 fun _ h => AL h) = (M4 fun t u v w => SD XB DT (rate AL) t u (512 * v + w) : FVec Ideal S34x2176x2x512 .f32) := by
  funext i
  unfold k_v40
  rw [l_v39]
  refine (shapeCast_apply _ shapeCasts_S34x2176x16x64_S34x2176x2x512 i (fun a => match a with
    | ⟨0, _⟩ => ⟨((((i 0).val * 2176 + (i 1).val) * 2 + (i 2).val) * 512 + (i 3).val) / 2228224, by have h0 : (i 0).val < 34 := (i 0).isLt; have h1 : (i 1).val < 2176 := (i 1).isLt; have h2 : (i 2).val < 2 := (i 2).isLt; have h3 : (i 3).val < 512 := (i 3).isLt; show ((((i 0).val * 2176 + (i 1).val) * 2 + (i 2).val) * 512 + (i 3).val) / 2228224 < 34; omega⟩
    | ⟨1, _⟩ => ⟨((((i 0).val * 2176 + (i 1).val) * 2 + (i 2).val) * 512 + (i 3).val) / 1024 % 2176, by have h0 : (i 0).val < 34 := (i 0).isLt; have h1 : (i 1).val < 2176 := (i 1).isLt; have h2 : (i 2).val < 2 := (i 2).isLt; have h3 : (i 3).val < 512 := (i 3).isLt; show ((((i 0).val * 2176 + (i 1).val) * 2 + (i 2).val) * 512 + (i 3).val) / 1024 % 2176 < 2176; omega⟩
    | ⟨2, _⟩ => ⟨((((i 0).val * 2176 + (i 1).val) * 2 + (i 2).val) * 512 + (i 3).val) / 64 % 16, by have h0 : (i 0).val < 34 := (i 0).isLt; have h1 : (i 1).val < 2176 := (i 1).isLt; have h2 : (i 2).val < 2 := (i 2).isLt; have h3 : (i 3).val < 512 := (i 3).isLt; show ((((i 0).val * 2176 + (i 1).val) * 2 + (i 2).val) * 512 + (i 3).val) / 64 % 16 < 16; omega⟩
    | ⟨3, _⟩ => ⟨((((i 0).val * 2176 + (i 1).val) * 2 + (i 2).val) * 512 + (i 3).val) % 64, by have h0 : (i 0).val < 34 := (i 0).isLt; have h1 : (i 1).val < 2176 := (i 1).isLt; have h2 : (i 2).val < 2 := (i 2).isLt; have h3 : (i 3).val < 512 := (i 3).isLt; show ((((i 0).val * 2176 + (i 1).val) * 2 + (i 2).val) * 512 + (i 3).val) % 64 < 64; omega⟩)
    (by rewrite [Shape.rowMajor_val_four, Shape.rowMajor_val_four]; have h0 : (i 0).val < 34 := (i 0).isLt; have h1 : (i 1).val < 2176 := (i 1).isLt; have h2 : (i 2).val < 2 := (i 2).isLt; have h3 : (i 3).val < 512 := (i 3).isLt; show ((((((((i 0).val * 2176 + (i 1).val) * 2 + (i 2).val) * 512 + (i 3).val) / 2228224)) * 2176 + (((((i 0).val * 2176 + (i 1).val) * 2 + (i 2).val) * 512 + (i 3).val) / 1024 % 2176)) * 16 + (((((i 0).val * 2176 + (i 1).val) * 2 + (i 2).val) * 512 + (i 3).val) / 64 % 16)) * 64 + (((((i 0).val * 2176 + (i 1).val) * 2 + (i 2).val) * 512 + (i 3).val) % 64) = (((i 0).val * 2176 + (i 1).val) * 2 + (i 2).val) * 512 + (i 3).val; omega)).trans ?_
  have h0 : (i 0).val < 34 := (i 0).isLt
  have h1 : (i 1).val < 2176 := (i 1).isLt
  have h2 : (i 2).val < 2 := (i 2).isLt
  have h3 : (i 3).val < 512 := (i 3).isLt
  show ((SD XB DT (rate AL) (((((i 0).val * 2176 + (i 1).val) * 2 + (i 2).val) * 512 + (i 3).val) / 2228224) (((((i 0).val * 2176 + (i 1).val) * 2 + (i 2).val) * 512 + (i 3).val) / 1024 % 2176) (64 * (((((i 0).val * 2176 + (i 1).val) * 2 + (i 2).val) * 512 + (i 3).val) / 64 % 16) + (((((i 0).val * 2176 + (i 1).val) * 2 + (i 2).val) * 512 + (i 3).val) % 64)) : ℝ) : EReal) = ((SD XB DT (rate AL) (i 0).val (i 1).val (512 * (i 2).val + (i 3).val) : ℝ) : EReal)
  refine congrArg _ ?_
  congr 1 <;> omega

def k_v41 (X0 : FVec Ideal S2176x1536 .f32) (X1 : FVec Ideal S2176x16 .f32) (X2 : FVec Ideal S1x16 .f32) : FVec Ideal S2x34x512x128 .f32 :=
  Host.dotGeneral dot_S34x2176x2x512_S2176x2x128_S2x34x512x128_1_0_03_2_2_1 none (k_v40 X0 X1 X2) (k_v5 X0)

theorem l_v41 (XB : ℕ → ℕ → ℝ) (DT : ℕ → ℕ → ℝ) (AL : ℕ → ℝ) : k_v41 (M2 XB) (M2 DT) (M2 fun _ h => AL h) = (M4 fun t u v w => SG XB DT (rate AL) u t w v : FVec Ideal S2x34x512x128 .f32) := by
  funext i
  unfold k_v41
  rw [l_v40, l_v5]
  simp only [Host.dotGeneral]
  rw [Ideal.dotGeneral_apply, ← Equiv.sum_comp (ValueIdx.contrEquiv1 dot_S34x2176x2x512_S2176x2x128_S2x34x512x128_1_0_03_2_2_1 2176 rfl rfl).symm]
  have l0 : ∀ q : dot_S34x2176x2x512_S2176x2x128_S2x34x512x128_1_0_03_2_2_1.contr.Idx, (dot_S34x2176x2x512_S2176x2x128_S2x34x512x128_1_0_03_2_2_1.lhsIdx i q 0).val = (i 1).val := by
    intro q
    unfold DotDims.lhsIdx
    rw [dif_neg (show ¬(0 : Fin S34x2176x2x512.rank) ∈ dot_S34x2176x2x512_S2176x2x128_S2x34x512x128_1_0_03_2_2_1.lhsBatch by decide), dif_pos (show (0 : Fin S34x2176x2x512.rank) ∈ dot_S34x2176x2x512_S2176x2x128_S2x34x512x128_1_0_03_2_2_1.lhsNonContracting by decide)]
    rfl
  have l1 : ∀ q : dot_S34x2176x2x512_S2176x2x128_S2x34x512x128_1_0_03_2_2_1.contr.Idx, (dot_S34x2176x2x512_S2176x2x128_S2x34x512x128_1_0_03_2_2_1.lhsIdx i q 1).val = (q ⟨0, by decide⟩).val := fun q => dot_S34x2176x2x512_S2176x2x128_S2x34x512x128_1_0_03_2_2_1.lhsIdx_val_of_single rfl i q
  have l2 : ∀ q : dot_S34x2176x2x512_S2176x2x128_S2x34x512x128_1_0_03_2_2_1.contr.Idx, (dot_S34x2176x2x512_S2176x2x128_S2x34x512x128_1_0_03_2_2_1.lhsIdx i q 2).val = (i 0).val := by
    intro q
    unfold DotDims.lhsIdx
    rw [dif_pos (show (2 : Fin S34x2176x2x512.rank) ∈ dot_S34x2176x2x512_S2176x2x128_S2x34x512x128_1_0_03_2_2_1.lhsBatch by decide)]
    rfl
  have l3 : ∀ q : dot_S34x2176x2x512_S2176x2x128_S2x34x512x128_1_0_03_2_2_1.contr.Idx, (dot_S34x2176x2x512_S2176x2x128_S2x34x512x128_1_0_03_2_2_1.lhsIdx i q 3).val = (i 2).val := by
    intro q
    unfold DotDims.lhsIdx
    rw [dif_neg (show ¬(3 : Fin S34x2176x2x512.rank) ∈ dot_S34x2176x2x512_S2176x2x128_S2x34x512x128_1_0_03_2_2_1.lhsBatch by decide), dif_pos (show (3 : Fin S34x2176x2x512.rank) ∈ dot_S34x2176x2x512_S2176x2x128_S2x34x512x128_1_0_03_2_2_1.lhsNonContracting by decide)]
    rfl
  have r0 : ∀ q : dot_S34x2176x2x512_S2176x2x128_S2x34x512x128_1_0_03_2_2_1.contr.Idx, (dot_S34x2176x2x512_S2176x2x128_S2x34x512x128_1_0_03_2_2_1.rhsIdx i q 0).val = (q ⟨0, by decide⟩).val := fun q => dot_S34x2176x2x512_S2176x2x128_S2x34x512x128_1_0_03_2_2_1.rhsIdx_val_of_single rfl i q
  have r1 : ∀ q : dot_S34x2176x2x512_S2176x2x128_S2x34x512x128_1_0_03_2_2_1.contr.Idx, (dot_S34x2176x2x512_S2176x2x128_S2x34x512x128_1_0_03_2_2_1.rhsIdx i q 1).val = (i 0).val := by
    intro q
    unfold DotDims.rhsIdx
    rw [dif_pos (show (1 : Fin S2176x2x128.rank) ∈ dot_S34x2176x2x512_S2176x2x128_S2x34x512x128_1_0_03_2_2_1.rhsBatch by decide)]
    rfl
  have r2 : ∀ q : dot_S34x2176x2x512_S2176x2x128_S2x34x512x128_1_0_03_2_2_1.contr.Idx, (dot_S34x2176x2x512_S2176x2x128_S2x34x512x128_1_0_03_2_2_1.rhsIdx i q 2).val = (i 3).val := by
    intro q
    unfold DotDims.rhsIdx
    rw [dif_neg (show ¬(2 : Fin S2176x2x128.rank) ∈ dot_S34x2176x2x512_S2176x2x128_S2x34x512x128_1_0_03_2_2_1.rhsBatch by decide), dif_pos (show (2 : Fin S2176x2x128.rank) ∈ dot_S34x2176x2x512_S2176x2x128_S2x34x512x128_1_0_03_2_2_1.rhsNonContracting by decide)]
    rfl
  refine Eq.trans (Finset.sum_congr rfl fun k _ => ?_) (total_mul (n := 2176) (fun k => SD XB DT (rate AL) (i 1).val k (512 * (i 0).val + (i 2).val)) (fun k => XB k (1024 + 128 * (i 0).val + (i 3).val)))
  have hk := ValueIdx.contrEquiv1_symm_val dot_S34x2176x2x512_S2176x2x128_S2x34x512x128_1_0_03_2_2_1 2176 rfl rfl k
  generalize (ValueIdx.contrEquiv1 dot_S34x2176x2x512_S2176x2x128_S2x34x512x128_1_0_03_2_2_1 2176 rfl rfl).symm k = q at hk ⊢
  show ((SD XB DT (rate AL) (dot_S34x2176x2x512_S2176x2x128_S2x34x512x128_1_0_03_2_2_1.lhsIdx i q 0).val (dot_S34x2176x2x512_S2176x2x128_S2x34x512x128_1_0_03_2_2_1.lhsIdx i q 1).val (512 * (dot_S34x2176x2x512_S2176x2x128_S2x34x512x128_1_0_03_2_2_1.lhsIdx i q 2).val + (dot_S34x2176x2x512_S2176x2x128_S2x34x512x128_1_0_03_2_2_1.lhsIdx i q 3).val) : ℝ) : EReal)
    * ((XB (dot_S34x2176x2x512_S2176x2x128_S2x34x512x128_1_0_03_2_2_1.rhsIdx i q 0).val (1024 + 128 * (dot_S34x2176x2x512_S2176x2x128_S2x34x512x128_1_0_03_2_2_1.rhsIdx i q 1).val + (dot_S34x2176x2x512_S2176x2x128_S2x34x512x128_1_0_03_2_2_1.rhsIdx i q 2).val) : ℝ) : EReal) = _
  rw [l0, l1, l2, l3, r0, r1, r2, hk]

def k_v42 (X0 : FVec Ideal S2176x1536 .f32) (X1 : FVec Ideal S2176x16 .f32) (X2 : FVec Ideal S1x16 .f32) : FVec Ideal S34x2x128x512 .f32 :=
  transpose S34x2x128x512 [1, 0, 3, 2] (k_v41 X0 X1 X2) transposes_S2x34x512x128_S34x2x128x512_1_0_3_2

theorem l_v42 (XB : ℕ → ℕ → ℝ) (DT : ℕ → ℕ → ℝ) (AL : ℕ → ℝ) : k_v42 (M2 XB) (M2 DT) (M2 fun _ h => AL h) = (M4 fun t u v w => SG XB DT (rate AL) t u v w : FVec Ideal S34x2x128x512 .f32) := by
  funext i
  unfold k_v42
  rw [l_v41]
  refine (transpose_apply [1, 0, 3, 2] _ transposes_S2x34x512x128_S34x2x128x512_1_0_3_2 i (fun a => match a with
    | ⟨0, _⟩ => ⟨(i 1).val, by have h0 : (i 0).val < 34 := (i 0).isLt; have h1 : (i 1).val < 2 := (i 1).isLt; have h2 : (i 2).val < 128 := (i 2).isLt; have h3 : (i 3).val < 512 := (i 3).isLt; show (i 1).val < 2; omega⟩
    | ⟨1, _⟩ => ⟨(i 0).val, by have h0 : (i 0).val < 34 := (i 0).isLt; have h1 : (i 1).val < 2 := (i 1).isLt; have h2 : (i 2).val < 128 := (i 2).isLt; have h3 : (i 3).val < 512 := (i 3).isLt; show (i 0).val < 34; omega⟩
    | ⟨2, _⟩ => ⟨(i 3).val, by have h0 : (i 0).val < 34 := (i 0).isLt; have h1 : (i 1).val < 2 := (i 1).isLt; have h2 : (i 2).val < 128 := (i 2).isLt; have h3 : (i 3).val < 512 := (i 3).isLt; show (i 3).val < 512; omega⟩
    | ⟨3, _⟩ => ⟨(i 2).val, by have h0 : (i 0).val < 34 := (i 0).isLt; have h1 : (i 1).val < 2 := (i 1).isLt; have h2 : (i 2).val < 128 := (i 2).isLt; have h3 : (i 3).val < 512 := (i 3).isLt; show (i 2).val < 128; omega⟩) (fun b => match b with | ⟨0, _⟩ => rfl | ⟨1, _⟩ => rfl | ⟨2, _⟩ => rfl | ⟨3, _⟩ => rfl)).trans ?_
  have h0 : (i 0).val < 34 := (i 0).isLt
  have h1 : (i 1).val < 2 := (i 1).isLt
  have h2 : (i 2).val < 128 := (i 2).isLt
  have h3 : (i 3).val < 512 := (i 3).isLt
  show ((SG XB DT (rate AL) (i 0).val (i 1).val (i 2).val (i 3).val : ℝ) : EReal) = ((SG XB DT (rate AL) (i 0).val (i 1).val (i 2).val (i 3).val : ℝ) : EReal)
  rfl

def k_v43 (X0 : FVec Ideal S2176x1536 .f32) (X1 : FVec Ideal S2176x16 .f32) (X2 : FVec Ideal S1x16 .f32) : FVec Ideal S34x256x512 .f32 :=
  shapeCast S34x256x512 (k_v42 X0 X1 X2) shapeCasts_S34x2x128x512_S34x256x512

theorem l_v43 (XB : ℕ → ℕ → ℝ) (DT : ℕ → ℕ → ℝ) (AL : ℕ → ℝ) : k_v43 (M2 XB) (M2 DT) (M2 fun _ h => AL h) = (M3 fun t u v => Sst XB DT (rate AL) (64 * t) u v : FVec Ideal S34x256x512 .f32) := by
  funext i
  unfold k_v43
  rw [l_v42]
  refine (shapeCast_apply _ shapeCasts_S34x2x128x512_S34x256x512 i (fun a => match a with
    | ⟨0, _⟩ => ⟨(((i 0).val * 256 + (i 1).val) * 512 + (i 2).val) / 131072, by have h0 : (i 0).val < 34 := (i 0).isLt; have h1 : (i 1).val < 256 := (i 1).isLt; have h2 : (i 2).val < 512 := (i 2).isLt; show (((i 0).val * 256 + (i 1).val) * 512 + (i 2).val) / 131072 < 34; omega⟩
    | ⟨1, _⟩ => ⟨(((i 0).val * 256 + (i 1).val) * 512 + (i 2).val) / 65536 % 2, by have h0 : (i 0).val < 34 := (i 0).isLt; have h1 : (i 1).val < 256 := (i 1).isLt; have h2 : (i 2).val < 512 := (i 2).isLt; show (((i 0).val * 256 + (i 1).val) * 512 + (i 2).val) / 65536 % 2 < 2; omega⟩
    | ⟨2, _⟩ => ⟨(((i 0).val * 256 + (i 1).val) * 512 + (i 2).val) / 512 % 128, by have h0 : (i 0).val < 34 := (i 0).isLt; have h1 : (i 1).val < 256 := (i 1).isLt; have h2 : (i 2).val < 512 := (i 2).isLt; show (((i 0).val * 256 + (i 1).val) * 512 + (i 2).val) / 512 % 128 < 128; omega⟩
    | ⟨3, _⟩ => ⟨(((i 0).val * 256 + (i 1).val) * 512 + (i 2).val) % 512, by have h0 : (i 0).val < 34 := (i 0).isLt; have h1 : (i 1).val < 256 := (i 1).isLt; have h2 : (i 2).val < 512 := (i 2).isLt; show (((i 0).val * 256 + (i 1).val) * 512 + (i 2).val) % 512 < 512; omega⟩)
    (by rewrite [Shape.rowMajor_val_four, Shape.rowMajor_val_three]; have h0 : (i 0).val < 34 := (i 0).isLt; have h1 : (i 1).val < 256 := (i 1).isLt; have h2 : (i 2).val < 512 := (i 2).isLt; show (((((((i 0).val * 256 + (i 1).val) * 512 + (i 2).val) / 131072)) * 2 + ((((i 0).val * 256 + (i 1).val) * 512 + (i 2).val) / 65536 % 2)) * 128 + ((((i 0).val * 256 + (i 1).val) * 512 + (i 2).val) / 512 % 128)) * 512 + ((((i 0).val * 256 + (i 1).val) * 512 + (i 2).val) % 512) = ((i 0).val * 256 + (i 1).val) * 512 + (i 2).val; omega)).trans ?_
  have h0 : (i 0).val < 34 := (i 0).isLt
  have h1 : (i 1).val < 256 := (i 1).isLt
  have h2 : (i 2).val < 512 := (i 2).isLt
  show ((SG XB DT (rate AL) ((((i 0).val * 256 + (i 1).val) * 512 + (i 2).val) / 131072) ((((i 0).val * 256 + (i 1).val) * 512 + (i 2).val) / 65536 % 2) ((((i 0).val * 256 + (i 1).val) * 512 + (i 2).val) / 512 % 128) ((((i 0).val * 256 + (i 1).val) * 512 + (i 2).val) % 512) : ℝ) : EReal) = ((Sst XB DT (rate AL) (64 * (i 0).val) (i 1).val (i 2).val : ℝ) : EReal)
  refine congrArg _ ?_
  have e0 : (((i 0).val * 256 + (i 1).val) * 512 + (i 2).val) / 131072 = (i 0).val := by omega
  have e1 : (((i 0).val * 256 + (i 1).val) * 512 + (i 2).val) / 65536 % 2 = (i 1).val / 128 := by omega
  have e2 : (((i 0).val * 256 + (i 1).val) * 512 + (i 2).val) / 512 % 128 = (i 1).val % 128 := by omega
  have e3 : (((i 0).val * 256 + (i 1).val) * 512 + (i 2).val) % 512 = (i 2).val := by omega
  rw [e0, e1, e2, e3]
  exact SG_eq XB DT _ h0

def k_v44 (X1 : FVec Ideal S2176x16 .f32) : FVec Ideal S34x64x16 .f32 :=
  shapeCast S34x64x16 X1 shapeCasts_S2176x16_S34x64x16

theorem l_v44 (DT : ℕ → ℕ → ℝ) : k_v44 (M2 DT) = (M3 fun t u v => DT (64 * t + u) v : FVec Ideal S34x64x16 .f32) := by
  funext i
  unfold k_v44
  refine (shapeCast_apply _ shapeCasts_S2176x16_S34x64x16 i (fun a => match a with
    | ⟨0, _⟩ => ⟨(((i 0).val * 64 + (i 1).val) * 16 + (i 2).val) / 16, by have h0 : (i 0).val < 34 := (i 0).isLt; have h1 : (i 1).val < 64 := (i 1).isLt; have h2 : (i 2).val < 16 := (i 2).isLt; show (((i 0).val * 64 + (i 1).val) * 16 + (i 2).val) / 16 < 2176; omega⟩
    | ⟨1, _⟩ => ⟨(((i 0).val * 64 + (i 1).val) * 16 + (i 2).val) % 16, by have h0 : (i 0).val < 34 := (i 0).isLt; have h1 : (i 1).val < 64 := (i 1).isLt; have h2 : (i 2).val < 16 := (i 2).isLt; show (((i 0).val * 64 + (i 1).val) * 16 + (i 2).val) % 16 < 16; omega⟩)
    (by rewrite [Shape.rowMajor_val_two, Shape.rowMajor_val_three]; have h0 : (i 0).val < 34 := (i 0).isLt; have h1 : (i 1).val < 64 := (i 1).isLt; have h2 : (i 2).val < 16 := (i 2).isLt; show (((((i 0).val * 64 + (i 1).val) * 16 + (i 2).val) / 16)) * 16 + ((((i 0).val * 64 + (i 1).val) * 16 + (i 2).val) % 16) = ((i 0).val * 64 + (i 1).val) * 16 + (i 2).val; omega)).trans ?_
  have h0 : (i 0).val < 34 := (i 0).isLt
  have h1 : (i 1).val < 64 := (i 1).isLt
  have h2 : (i 2).val < 16 := (i 2).isLt
  show ((DT ((((i 0).val * 64 + (i 1).val) * 16 + (i 2).val) / 16) ((((i 0).val * 64 + (i 1).val) * 16 + (i 2).val) % 16) : ℝ) : EReal) = ((DT (64 * (i 0).val + (i 1).val) (i 2).val : ℝ) : EReal)
  refine congrArg _ ?_
  congr 1 <;> omega

def k_v45 (X1 : FVec Ideal S2176x16 .f32) : FVec Ideal S34x16x64 .f32 :=
  transpose S34x16x64 [0, 2, 1] (k_v44 X1) transposes_S34x64x16_S34x16x64_0_2_1

theorem l_v45 (DT : ℕ → ℕ → ℝ) : k_v45 (M2 DT) = (M3 fun t u v => DT (64 * t + v) u : FVec Ideal S34x16x64 .f32) := by
  funext i
  unfold k_v45
  rw [l_v44]
  refine (transpose_apply [0, 2, 1] _ transposes_S34x64x16_S34x16x64_0_2_1 i (fun a => match a with
    | ⟨0, _⟩ => ⟨(i 0).val, by have h0 : (i 0).val < 34 := (i 0).isLt; have h1 : (i 1).val < 16 := (i 1).isLt; have h2 : (i 2).val < 64 := (i 2).isLt; show (i 0).val < 34; omega⟩
    | ⟨1, _⟩ => ⟨(i 2).val, by have h0 : (i 0).val < 34 := (i 0).isLt; have h1 : (i 1).val < 16 := (i 1).isLt; have h2 : (i 2).val < 64 := (i 2).isLt; show (i 2).val < 64; omega⟩
    | ⟨2, _⟩ => ⟨(i 1).val, by have h0 : (i 0).val < 34 := (i 0).isLt; have h1 : (i 1).val < 16 := (i 1).isLt; have h2 : (i 2).val < 64 := (i 2).isLt; show (i 1).val < 16; omega⟩) (fun b => match b with | ⟨0, _⟩ => rfl | ⟨1, _⟩ => rfl | ⟨2, _⟩ => rfl)).trans ?_
  have h0 : (i 0).val < 34 := (i 0).isLt
  have h1 : (i 1).val < 16 := (i 1).isLt
  have h2 : (i 2).val < 64 := (i 2).isLt
  show ((DT (64 * (i 0).val + (i 2).val) (i 1).val : ℝ) : EReal) = ((DT (64 * (i 0).val + (i 2).val) (i 1).val : ℝ) : EReal)
  rfl

def k_v46 (X2 : FVec Ideal S1x16 .f32) : FVec Ideal S16x1 .f32 :=
  shapeCast S16x1 (k_v1 X2) shapeCasts_S1x16_S16x1

theorem l_v46 (AL : ℕ → ℝ) : k_v46 (M2 fun _ h => AL h) = (M2 fun t _ => rate AL t : FVec Ideal S16x1 .f32) := by
  funext i
  unfold k_v46
  rw [l_v1]
  refine (shapeCast_apply _ shapeCasts_S1x16_S16x1 i (fun a => match a with
    | ⟨0, _⟩ => ⟨0, by have h0 : (i 0).val < 16 := (i 0).isLt; have h1 : (i 1).val < 1 := (i 1).isLt; show 0 < 1; omega⟩
    | ⟨1, _⟩ => ⟨((i 0).val * 1 + (i 1).val) % 16, by have h0 : (i 0).val < 16 := (i 0).isLt; have h1 : (i 1).val < 1 := (i 1).isLt; show ((i 0).val * 1 + (i 1).val) % 16 < 16; omega⟩)
    (by rewrite [Shape.rowMajor_val_two, Shape.rowMajor_val_two]; have h0 : (i 0).val < 16 := (i 0).isLt; have h1 : (i 1).val < 1 := (i 1).isLt; show (0) * 16 + (((i 0).val * 1 + (i 1).val) % 16) = (i 0).val * 1 + (i 1).val; omega)).trans ?_
  have h0 : (i 0).val < 16 := (i 0).isLt
  have h1 : (i 1).val < 1 := (i 1).isLt
  show ((rate AL (((i 0).val * 1 + (i 1).val) % 16) : ℝ) : EReal) = ((rate AL (i 0).val : ℝ) : EReal)
  refine congrArg _ ?_
  congr 1 <;> omega

def k_v47 (X3 : FVec Ideal S1x16 .f32) : FVec Ideal S1x16x64 .f32 :=
  broadcastInDim S1x16x64 ![0, 1] bcast_S1x16_S1x16x64_0_1 X3

theorem l_v47 (DK : ℕ → ℝ) : k_v47 (M2 fun _ h => DK h) = (M3 fun _ u _ => DK u : FVec Ideal S1x16x64 .f32) := by
  funext i
  unfold k_v47
  refine (broadcastInDim_apply _ bcast_S1x16_S1x16x64_0_1 _ i (fun a => match a with
    | ⟨0, _⟩ => ⟨0, by have h0 : (i 0).val < 1 := (i 0).isLt; have h1 : (i 1).val < 16 := (i 1).isLt; have h2 : (i 2).val < 64 := (i 2).isLt; show 0 < 1; omega⟩
    | ⟨1, _⟩ => ⟨(i 1).val, by have h0 : (i 0).val < 1 := (i 0).isLt; have h1 : (i 1).val < 16 := (i 1).isLt; have h2 : (i 2).val < 64 := (i 2).isLt; show (i 1).val < 16; omega⟩) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])).trans ?_
  have h0 : (i 0).val < 1 := (i 0).isLt
  have h1 : (i 1).val < 16 := (i 1).isLt
  have h2 : (i 2).val < 64 := (i 2).isLt
  show ((DK (i 1).val : ℝ) : EReal) = ((DK (i 1).val : ℝ) : EReal)
  rfl

def k_v48 (X3 : FVec Ideal S1x16 .f32) : FVec Ideal S1x1024 .f32 :=
  shapeCast S1x1024 (k_v47 X3) shapeCasts_S1x16x64_S1x1024

theorem l_v48 (DK : ℕ → ℝ) : k_v48 (M2 fun _ h => DK h) = (M2 fun _ u => DK (u / 64) : FVec Ideal S1x1024 .f32) := by
  funext i
  unfold k_v48
  rw [l_v47]
  refine (shapeCast_apply _ shapeCasts_S1x16x64_S1x1024 i (fun a => match a with
    | ⟨0, _⟩ => ⟨0, by have h0 : (i 0).val < 1 := (i 0).isLt; have h1 : (i 1).val < 1024 := (i 1).isLt; show 0 < 1; omega⟩
    | ⟨1, _⟩ => ⟨((i 0).val * 1024 + (i 1).val) / 64 % 16, by have h0 : (i 0).val < 1 := (i 0).isLt; have h1 : (i 1).val < 1024 := (i 1).isLt; show ((i 0).val * 1024 + (i 1).val) / 64 % 16 < 16; omega⟩
    | ⟨2, _⟩ => ⟨((i 0).val * 1024 + (i 1).val) % 64, by have h0 : (i 0).val < 1 := (i 0).isLt; have h1 : (i 1).val < 1024 := (i 1).isLt; show ((i 0).val * 1024 + (i 1).val) % 64 < 64; omega⟩)
    (by rewrite [Shape.rowMajor_val_three, Shape.rowMajor_val_two]; have h0 : (i 0).val < 1 := (i 0).isLt; have h1 : (i 1).val < 1024 := (i 1).isLt; show ((0) * 16 + (((i 0).val * 1024 + (i 1).val) / 64 % 16)) * 64 + (((i 0).val * 1024 + (i 1).val) % 64) = (i 0).val * 1024 + (i 1).val; omega)).trans ?_
  have h0 : (i 0).val < 1 := (i 0).isLt
  have h1 : (i 1).val < 1024 := (i 1).isLt
  show ((DK (((i 0).val * 1024 + (i 1).val) / 64 % 16) : ℝ) : EReal) = ((DK ((i 1).val / 64) : ℝ) : EReal)
  refine congrArg _ ?_
  congr 1 <;> omega

def k_v50 (R2 : FVec Ideal S34x16x64 .f32) : FVec Ideal S34x64x16 .f32 :=
  transpose S34x64x16 [0, 2, 1] R2 transposes_S34x16x64_S34x64x16_0_2_1

theorem l_v50 (f2 : ℕ → ℕ → ℕ → ℝ) : k_v50 (M3 f2) = (M3 fun t u v => f2 t v u : FVec Ideal S34x64x16 .f32) := by
  funext i
  unfold k_v50
  refine (transpose_apply [0, 2, 1] _ transposes_S34x16x64_S34x64x16_0_2_1 i (fun a => match a with
    | ⟨0, _⟩ => ⟨(i 0).val, by have h0 : (i 0).val < 34 := (i 0).isLt; have h1 : (i 1).val < 64 := (i 1).isLt; have h2 : (i 2).val < 16 := (i 2).isLt; show (i 0).val < 34; omega⟩
    | ⟨1, _⟩ => ⟨(i 2).val, by have h0 : (i 0).val < 34 := (i 0).isLt; have h1 : (i 1).val < 64 := (i 1).isLt; have h2 : (i 2).val < 16 := (i 2).isLt; show (i 2).val < 16; omega⟩
    | ⟨2, _⟩ => ⟨(i 1).val, by have h0 : (i 0).val < 34 := (i 0).isLt; have h1 : (i 1).val < 64 := (i 1).isLt; have h2 : (i 2).val < 16 := (i 2).isLt; show (i 1).val < 64; omega⟩) (fun b => match b with | ⟨0, _⟩ => rfl | ⟨1, _⟩ => rfl | ⟨2, _⟩ => rfl)).trans ?_
  have h0 : (i 0).val < 34 := (i 0).isLt
  have h1 : (i 1).val < 64 := (i 1).isLt
  have h2 : (i 2).val < 16 := (i 2).isLt
  show ((f2 (i 0).val (i 2).val (i 1).val : ℝ) : EReal) = ((f2 (i 0).val (i 2).val (i 1).val : ℝ) : EReal)
  rfl

def k_v51 (R1 : FVec Ideal S34x64x16 .f32) (R2 : FVec Ideal S34x16x64 .f32) : FVec Ideal S34x64x16 .f32 :=
  addf R1 (k_v50 R2)

theorem l_v51 (f1 : ℕ → ℕ → ℕ → ℝ) (f2 : ℕ → ℕ → ℕ → ℝ) : k_v51 (M3 f1) (M3 f2) = (M3 fun t u v => f1 t u v + f2 t v u : FVec Ideal S34x64x16 .f32) := by
  funext i
  unfold k_v51
  rw [l_v50]
  have h0 : (i 0).val < 34 := (i 0).isLt
  have h1 : (i 1).val < 64 := (i 1).isLt
  have h2 : (i 2).val < 16 := (i 2).isLt
  refine (EReal.coe_add _ _).symm.trans (congrArg _ ?_)
  show (f1 (i 0).val (i 1).val (i 2).val) + (f2 (i 0).val (i 2).val (i 1).val) = f1 (i 0).val (i 1).val (i 2).val + f2 (i 0).val (i 2).val (i 1).val
  rfl

def k_v52 (R1 : FVec Ideal S34x64x16 .f32) (R2 : FVec Ideal S34x16x64 .f32) : FVec Ideal S2176x16 .f32 :=
  shapeCast S2176x16 (k_v51 R1 R2) shapeCasts_S34x64x16_S2176x16

theorem l_v52 (f1 : ℕ → ℕ → ℕ → ℝ) (f2 : ℕ → ℕ → ℕ → ℝ) : k_v52 (M3 f1) (M3 f2) = (M2 fun t u => f1 (t / 64) (t % 64) u + f2 (t / 64) u (t % 64) : FVec Ideal S2176x16 .f32) := by
  funext i
  unfold k_v52
  rw [l_v51]
  refine (shapeCast_apply _ shapeCasts_S34x64x16_S2176x16 i (fun a => match a with
    | ⟨0, _⟩ => ⟨((i 0).val * 16 + (i 1).val) / 1024, by have h0 : (i 0).val < 2176 := (i 0).isLt; have h1 : (i 1).val < 16 := (i 1).isLt; show ((i 0).val * 16 + (i 1).val) / 1024 < 34; omega⟩
    | ⟨1, _⟩ => ⟨((i 0).val * 16 + (i 1).val) / 16 % 64, by have h0 : (i 0).val < 2176 := (i 0).isLt; have h1 : (i 1).val < 16 := (i 1).isLt; show ((i 0).val * 16 + (i 1).val) / 16 % 64 < 64; omega⟩
    | ⟨2, _⟩ => ⟨((i 0).val * 16 + (i 1).val) % 16, by have h0 : (i 0).val < 2176 := (i 0).isLt; have h1 : (i 1).val < 16 := (i 1).isLt; show ((i 0).val * 16 + (i 1).val) % 16 < 16; omega⟩)
    (by rewrite [Shape.rowMajor_val_three, Shape.rowMajor_val_two]; have h0 : (i 0).val < 2176 := (i 0).isLt; have h1 : (i 1).val < 16 := (i 1).isLt; show (((((i 0).val * 16 + (i 1).val) / 1024)) * 64 + (((i 0).val * 16 + (i 1).val) / 16 % 64)) * 16 + (((i 0).val * 16 + (i 1).val) % 16) = (i 0).val * 16 + (i 1).val; omega)).trans ?_
  have h0 : (i 0).val < 2176 := (i 0).isLt
  have h1 : (i 1).val < 16 := (i 1).isLt
  show ((f1 (((i 0).val * 16 + (i 1).val) / 1024) (((i 0).val * 16 + (i 1).val) / 16 % 64) (((i 0).val * 16 + (i 1).val) % 16) + f2 (((i 0).val * 16 + (i 1).val) / 1024) (((i 0).val * 16 + (i 1).val) % 16) (((i 0).val * 16 + (i 1).val) / 16 % 64) : ℝ) : EReal) = ((f1 ((i 0).val / 64) ((i 0).val % 64) (i 1).val + f2 ((i 0).val / 64) (i 1).val ((i 0).val % 64) : ℝ) : EReal)
  refine congrArg _ ?_
  have e0 : ((i 0).val * 16 + (i 1).val) / 1024 = (i 0).val / 64 := by omega
  have e1 : ((i 0).val * 16 + (i 1).val) / 16 % 64 = (i 0).val % 64 := by omega
  have e2 : ((i 0).val * 16 + (i 1).val) % 16 = (i 1).val := by omega
  rw [e0, e1, e2]

def k_v53 (R4 : FVec Ideal S16x1 .f32) : FVec Ideal S1x16 .f32 :=
  shapeCast S1x16 R4 shapeCasts_S16x1_S1x16

theorem l_v53 (f4 : ℕ → ℝ) : k_v53 (M2 fun h _ => f4 h) = (M2 fun _ u => f4 u : FVec Ideal S1x16 .f32) := by
  funext i
  unfold k_v53
  refine (shapeCast_apply _ shapeCasts_S16x1_S1x16 i (fun a => match a with
    | ⟨0, _⟩ => ⟨((i 0).val * 16 + (i 1).val), by have h0 : (i 0).val < 1 := (i 0).isLt; have h1 : (i 1).val < 16 := (i 1).isLt; show ((i 0).val * 16 + (i 1).val) < 16; omega⟩
    | ⟨1, _⟩ => ⟨0, by have h0 : (i 0).val < 1 := (i 0).isLt; have h1 : (i 1).val < 16 := (i 1).isLt; show 0 < 1; omega⟩)
    (by rewrite [Shape.rowMajor_val_two, Shape.rowMajor_val_two]; have h0 : (i 0).val < 1 := (i 0).isLt; have h1 : (i 1).val < 16 := (i 1).isLt; show ((((i 0).val * 16 + (i 1).val))) * 1 + (0) = (i 0).val * 16 + (i 1).val; omega)).trans ?_
  have h0 : (i 0).val < 1 := (i 0).isLt
  have h1 : (i 1).val < 16 := (i 1).isLt
  show ((f4 (((i 0).val * 16 + (i 1).val)) : ℝ) : EReal) = ((f4 (i 1).val : ℝ) : EReal)
  refine congrArg _ ?_
  congr 1 <;> omega

def k_v54 (R3 : FVec Ideal S1x16 .f32) (R4 : FVec Ideal S16x1 .f32) : FVec Ideal S1x16 .f32 :=
  addf R3 (k_v53 R4)

theorem l_v54 (f3 : ℕ → ℝ) (f4 : ℕ → ℝ) : k_v54 (M2 fun _ h => f3 h) (M2 fun h _ => f4 h) = (M2 fun _ u => f3 u + f4 u : FVec Ideal S1x16 .f32) := by
  funext i
  unfold k_v54
  rw [l_v53]
  have h0 : (i 0).val < 1 := (i 0).isLt
  have h1 : (i 1).val < 16 := (i 1).isLt
  refine (EReal.coe_add _ _).symm.trans (congrArg _ ?_)
  show (f3 (i 1).val) + (f4 (i 1).val) = f3 (i 1).val + f4 (i 1).val
  rfl

def k_v55 (X2 : FVec Ideal S1x16 .f32) (R3 : FVec Ideal S1x16 .f32) (R4 : FVec Ideal S16x1 .f32) : FVec Ideal S1x16 .f32 :=
  mulf (k_v54 R3 R4) (k_v1 X2)

theorem l_v55 (AL : ℕ → ℝ) (f3 : ℕ → ℝ) (f4 : ℕ → ℝ) : k_v55 (M2 fun _ h => AL h) (M2 fun _ h => f3 h) (M2 fun h _ => f4 h) = (M2 fun _ u => (f3 u + f4 u) * rate AL u : FVec Ideal S1x16 .f32) := by
  funext i
  unfold k_v55
  rw [l_v54, l_v1]
  have h0 : (i 0).val < 1 := (i 0).isLt
  have h1 : (i 1).val < 16 := (i 1).isLt
  refine (EReal.coe_mul _ _).symm.trans (congrArg _ ?_)
  show (f3 (i 1).val + f4 (i 1).val) * (rate AL (i 1).val) = (f3 (i 1).val + f4 (i 1).val) * rate AL (i 1).val
  rfl

def k_v56 (R5 : FVec Ideal S1x1024 .f32) : FVec Ideal S16x64 .f32 :=
  shapeCast S16x64 R5 shapeCasts_S1x1024_S16x64

theorem l_v56 (f5 : ℕ → ℝ) : k_v56 (M2 fun _ j => f5 j) = (M2 fun t u => f5 (64 * t + u) : FVec Ideal S16x64 .f32) := by
  funext i
  unfold k_v56
  refine (shapeCast_apply _ shapeCasts_S1x1024_S16x64 i (fun a => match a with
    | ⟨0, _⟩ => ⟨0, by have h0 : (i 0).val < 16 := (i 0).isLt; have h1 : (i 1).val < 64 := (i 1).isLt; show 0 < 1; omega⟩
    | ⟨1, _⟩ => ⟨((i 0).val * 64 + (i 1).val) % 1024, by have h0 : (i 0).val < 16 := (i 0).isLt; have h1 : (i 1).val < 64 := (i 1).isLt; show ((i 0).val * 64 + (i 1).val) % 1024 < 1024; omega⟩)
    (by rewrite [Shape.rowMajor_val_two, Shape.rowMajor_val_two]; have h0 : (i 0).val < 16 := (i 0).isLt; have h1 : (i 1).val < 64 := (i 1).isLt; show (0) * 1024 + (((i 0).val * 64 + (i 1).val) % 1024) = (i 0).val * 64 + (i 1).val; omega)).trans ?_
  have h0 : (i 0).val < 16 := (i 0).isLt
  have h1 : (i 1).val < 64 := (i 1).isLt
  show ((f5 (((i 0).val * 64 + (i 1).val) % 1024) : ℝ) : EReal) = ((f5 (64 * (i 0).val + (i 1).val) : ℝ) : EReal)
  refine congrArg _ ?_
  congr 1 <;> omega

def k_v57 (R5 : FVec Ideal S1x1024 .f32) : FVec Ideal S16 .f32 :=
  Host.reduceAdd (k_v56 R5) (constant S_ .f32 0x00000000#32) reducesTo_S16x64_S16_d1 h_S_

theorem l_v57 (f5 : ℕ → ℝ) : k_v57 (M2 fun _ j => f5 j) = (M1 fun t => ∑ k ∈ Finset.range 64, f5 (64 * t + k) : FVec Ideal S16 .f32) := by
  funext i
  unfold k_v57
  rw [l_v56]
  have h0 : (i 0).val < 16 := (i 0).isLt
  simp only [Host.reduceAdd, Ideal.hostReduceAdd_def]
  rw [Ideal.hostReduceAdd_single reducesTo_S16x64_S16_d1 (by decide)]
  refine (total_coe (n := 64) _ Ideal.ofBits_zero_f32 fun k => f5 (64 * (i 0).val + k)).trans (congrArg _ ?_)
  rfl

def k_v58 (R5 : FVec Ideal S1x1024 .f32) : FVec Ideal S1x16 .f32 :=
  shapeCast S1x16 (k_v57 R5) shapeCasts_S16_S1x16

theorem l_v58 (f5 : ℕ → ℝ) : k_v58 (M2 fun _ j => f5 j) = (M2 fun _ u => ∑ k ∈ Finset.range 64, f5 (64 * u + k) : FVec Ideal S1x16 .f32) := by
  funext i
  unfold k_v58
  rw [l_v57]
  refine (shapeCast_apply _ shapeCasts_S16_S1x16 i (fun a => match a with
    | ⟨0, _⟩ => ⟨((i 0).val * 16 + (i 1).val), by have h0 : (i 0).val < 1 := (i 0).isLt; have h1 : (i 1).val < 16 := (i 1).isLt; show ((i 0).val * 16 + (i 1).val) < 16; omega⟩)
    (by rewrite [Shape.rowMajor_val_one, Shape.rowMajor_val_two]; have h0 : (i 0).val < 1 := (i 0).isLt; have h1 : (i 1).val < 16 := (i 1).isLt; show (((i 0).val * 16 + (i 1).val)) = (i 0).val * 16 + (i 1).val; omega)).trans ?_
  have h0 : (i 0).val < 1 := (i 0).isLt
  have h1 : (i 1).val < 16 := (i 1).isLt
  show ((∑ k ∈ Finset.range 64, f5 (64 * (((i 0).val * 16 + (i 1).val)) + k) : ℝ) : EReal) = ((∑ k ∈ Finset.range 64, f5 (64 * (i 1).val + k) : ℝ) : EReal)
  refine congrArg _ ?_
  have e : (i 0).val * 16 + (i 1).val = (i 1).val := by omega
  rw [e]

section reads
variable (m : (ℓ : Loc nD τ sig) → Buf (Elt Ideal) ℓ) (c : Dev nD)

theorem read_v1 : V m c main_v1 = k_v1 (m ((c.tc : Thread nD τ).loc main_arg2)) := by
  show StableHlo.after [hostOps0, hostOps0_1, hostOps0_2, hostOps0_3, hostOps0_4, hostOps0_5, hostOps0_6].flatten _ _ = _
  simp only [hostOps0, hostOps0_1, hostOps0_2, hostOps0_3, hostOps0_4, hostOps0_5, hostOps0_6, List.flatten_cons, List.flatten_nil,
    List.cons_append, List.nil_append, List.append_nil]
  after_reads_simp
  rfl

theorem read_v43 : V m c main_v43 = k_v43 (m ((c.tc : Thread nD τ).loc main_arg0)) (m ((c.tc : Thread nD τ).loc main_arg1)) (m ((c.tc : Thread nD τ).loc main_arg2)) := by
  show StableHlo.after [hostOps0, hostOps0_1, hostOps0_2, hostOps0_3, hostOps0_4, hostOps0_5, hostOps0_6].flatten _ _ = _
  simp only [hostOps0, hostOps0_1, hostOps0_2, hostOps0_3, hostOps0_4, hostOps0_5, hostOps0_6, List.flatten_cons, List.flatten_nil,
    List.cons_append, List.nil_append, List.append_nil]
  after_reads_simp
  rfl

theorem read_v44 : V m c main_v44 = k_v44 (m ((c.tc : Thread nD τ).loc main_arg1)) := by
  show StableHlo.after [hostOps0, hostOps0_1, hostOps0_2, hostOps0_3, hostOps0_4, hostOps0_5, hostOps0_6].flatten _ _ = _
  simp only [hostOps0, hostOps0_1, hostOps0_2, hostOps0_3, hostOps0_4, hostOps0_5, hostOps0_6, List.flatten_cons, List.flatten_nil,
    List.cons_append, List.nil_append, List.append_nil]
  after_reads_simp
  rfl

theorem read_v45 : V m c main_v45 = k_v45 (m ((c.tc : Thread nD τ).loc main_arg1)) := by
  show StableHlo.after [hostOps0, hostOps0_1, hostOps0_2, hostOps0_3, hostOps0_4, hostOps0_5, hostOps0_6].flatten _ _ = _
  simp only [hostOps0, hostOps0_1, hostOps0_2, hostOps0_3, hostOps0_4, hostOps0_5, hostOps0_6, List.flatten_cons, List.flatten_nil,
    List.cons_append, List.nil_append, List.append_nil]
  after_reads_simp
  rfl

theorem read_v46 : V m c main_v46 = k_v46 (m ((c.tc : Thread nD τ).loc main_arg2)) := by
  show StableHlo.after [hostOps0, hostOps0_1, hostOps0_2, hostOps0_3, hostOps0_4, hostOps0_5, hostOps0_6].flatten _ _ = _
  simp only [hostOps0, hostOps0_1, hostOps0_2, hostOps0_3, hostOps0_4, hostOps0_5, hostOps0_6, List.flatten_cons, List.flatten_nil,
    List.cons_append, List.nil_append, List.append_nil]
  after_reads_simp
  rfl

theorem read_v48 : V m c main_v48 = k_v48 (m ((c.tc : Thread nD τ).loc main_arg3)) := by
  show StableHlo.after [hostOps0, hostOps0_1, hostOps0_2, hostOps0_3, hostOps0_4, hostOps0_5, hostOps0_6].flatten _ _ = _
  simp only [hostOps0, hostOps0_1, hostOps0_2, hostOps0_3, hostOps0_4, hostOps0_5, hostOps0_6, List.flatten_cons, List.flatten_nil,
    List.cons_append, List.nil_append, List.append_nil]
  after_reads_simp
  rfl

end reads

end Cert.Lift

end

end
-- ==== Proof.End.lean ====
module

public import proofs.«01_k».proof.Defs
public import proofs.«01_k».proof.Proof.Fold
public import proofs.«01_k».proof.Proof.Host
public import Idealize.ShloMosaic.Lib.ReduceAll

@[expose] public section

/-! What the precondition gives (the arguments are real numbers, the time steps not negative), and what the kernel
program's four results then are. -/

noncomputable section

namespace Cert.Lift

open Idealize.ShloMosaic Idealize.ShloMosaic.ValueIdx Idealize.ShloMosaic.TcCoe Idealize.SL.Sem

theorem ofBits_top : (FloatOps.ofBits .f32 0x7F800000#32 : Ideal .f32) = (⊤ : EReal) := by
  show Ideal.ofBits .f32 0x7F800000#32 = ⊤
  simp [Ideal.ofBits, Ideal.ieee]

theorem ofBool_one {b : Bool} (h : BitVec.ofBool b = 1#1) : b = true := by
  cases b
  · exact absurd h (by decide)
  · rfl

theorem real_of_abs {x : EReal} (h : Ideal.cmp .olt (max x (-x)) ⊤ = 1#1) : ∃ r : ℝ, x = (r : EReal) := by
  have h' : max x (-x) < ⊤ := of_decide_eq_true (ofBool_one h)
  induction x using EReal.rec with
  | bot => exact absurd h' (by simp)
  | coe r => exact ⟨r, rfl⟩
  | top => exact absurd h' (by simp)

theorem nonneg_of_ge {x : EReal} (h : Ideal.cmp .oge x 0 = 1#1) : 0 ≤ x := of_decide_eq_true (ofBool_one h)

/-- The index of row `r` and column `j`. -/
def place {n k : ℕ} (r j : ℕ) (hr : r < n) (hj : j < k) : (⟨2, ![n, k]⟩ : Shape).Idx := fun a =>
  match a with
  | ⟨0, _⟩ => ⟨r, hr⟩
  | ⟨1, _⟩ => ⟨j, hj⟩

/-- An array of real numbers is its table, continued by zero. -/
theorem table {n k : ℕ} (x : FVec Ideal (⟨2, ![n, k]⟩ : Shape) .f32) (h : ∀ i, ∃ r : ℝ, x i = (r : EReal)) :
    ∃ f : ℕ → ℕ → ℝ, x = M2 f ∧ ((∀ i, (0 : EReal) ≤ x i) → ∀ r j, 0 ≤ f r j) := by
  refine ⟨fun r j => if hr : r < n then if hj : j < k then (x (place r j hr hj) : EReal).toReal else 0 else 0, ?_, ?_⟩
  · funext i
    unfold M2
    have h0 : (i 0).val < n := (i 0).isLt
    have h1 : (i 1).val < k := (i 1).isLt
    beta_reduce
    rw [dif_pos h0, dif_pos h1]
    have e : place (i 0).val (i 1).val h0 h1 = i := by
      funext a
      match a with
      | ⟨0, _⟩ => rfl
      | ⟨1, _⟩ => rfl
    rw [e]
    obtain ⟨r, hr⟩ := h i
    rw [hr]
    rfl
  · intro hx r j
    show 0 ≤ dite _ _ _
    split
    · split
      · exact EReal.toReal_nonneg (hx _)
      · exact le_rfl
    · exact le_rfl

/-- One row of real numbers. -/
theorem table_row {k : ℕ} (x : FVec Ideal (⟨2, ![1, k]⟩ : Shape) .f32) (h : ∀ i, ∃ r : ℝ, x i = (r : EReal)) :
    ∃ f : ℕ → ℝ, x = M2 fun _ j => f j := by
  obtain ⟨f, hf, _⟩ := table x h
  refine ⟨f 0, hf.trans ?_⟩
  funext i
  have h0 : (i 0).val < 1 := (i 0).isLt
  have e : (i 0).val = 0 := by omega
  show ((f (i 0).val (i 1).val : ℝ) : EReal) = ((f 0 (i 1).val : ℝ) : EReal)
  rw [e]

instance : Subsingleton Cert.Pre_finite.S_.Idx := ⟨fun a b => funext fun i => i.elim0⟩

open Cert.Pre_finite in
/-- The precondition makes every argument real and every time step nonnegative. -/
theorem finite_args [Cert.Pre_finite.Facts] (x0 : FVec Ideal Cert.Pre_finite.S2176x1536 .f32) (x1 : FVec Ideal Cert.Pre_finite.S2176x16 .f32)
    (x2 x3 : FVec Ideal Cert.Pre_finite.S1x16 .f32) (x4 : FVec Ideal Cert.Pre_finite.S2176x1024 .f32)
    (h : Cert.Pre_finite.fn x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ ∀ i, (0 : EReal) ≤ x1 i := by
  have j : Cert.Pre_finite.S_.Idx := fun a => a.elim0
  have e := congrFun h j
  unfold Cert.Pre_finite.fn Cert.Pre_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have key : ∀ {x t : EReal}, t = ⊤ → Ideal.cmp .olt (max x (-x)) t = 1#1 → ∃ r : ℝ, x = (r : EReal) := by
    rintro x t rfl h
    exact real_of_abs h
  refine ⟨fun i => ?_, fun i => ?_, fun i => ?_, fun i => ?_, fun i => ?_, fun i => ?_⟩
  · exact key ofBits_top (Host.reduce_andi_all _ _ _ _ j e0 i)
  · exact key ofBits_top (Host.reduce_andi_all _ _ _ _ j e1 i)
  · exact key ofBits_top (Host.reduce_andi_all _ _ _ _ j e2 i)
  · exact key ofBits_top (Host.reduce_andi_all _ _ _ _ j e3 i)
  · exact key ofBits_top (Host.reduce_andi_all _ _ _ _ j e4 i)
  · have hz : (FloatOps.ofBits .f32 0x00000000#32 : Ideal .f32) = (0 : EReal) := Ideal.ofBits_zero_f32
    have q : Ideal.cmp .oge (x1 i) (FloatOps.ofBits .f32 0x00000000#32 : Ideal .f32) = 1#1 := Host.reduce_andi_all _ _ _ _ j e5 i
    rw [hz] at q
    exact nonneg_of_ge q

open Cert.KernelIdeal Cert.KernelIdeal.Gen

variable (m : (ℓ : Loc nD τ sig) → Buf (Elt Ideal) ℓ) (c : Dev nD)

section
variable {XB DT DY : ℕ → ℕ → ℝ} {AL DK : ℕ → ℝ}
  (hx0 : m ((c.tc : Thread nD τ).loc main_arg0) = (M2 XB : FVec Ideal S2176x1536 .f32))
  (hx1 : m ((c.tc : Thread nD τ).loc main_arg1) = (M2 DT : FVec Ideal S2176x16 .f32))
  (hx2 : m ((c.tc : Thread nD τ).loc main_arg2) = (M2 fun _ h => AL h : FVec Ideal S1x16 .f32))
  (hx3 : m ((c.tc : Thread nD τ).loc main_arg3) = (M2 fun _ h => DK h : FVec Ideal S1x16 .f32))
  (hx4 : m ((c.tc : Thread nD τ).loc main_arg4) = (M2 DY : FVec Ideal S2176x1024 .f32))
include hx0 hx1 hx2 hx3 hx4

theorem operands : Operands m c XB DT DY (rate AL) (fun j => DK (j / 64)) where
  h0 := (V_main_arg0 m c).trans hx0
  h1 := by rw [read_v44, hx1]; exact l_v44 DT
  h2 := by rw [read_v45, hx1]; exact l_v45 DT
  h3 := by rw [read_v1, hx2]; exact l_v1 AL
  h4 := by rw [read_v46, hx2]; exact l_v46 AL
  h5 := by rw [read_v48, hx3]; exact l_v48 DK
  h6 := by rw [read_v43, hx0, hx1, hx2]; exact l_v43 XB DT AL
  h7 := (V_main_arg4 m c).trans hx4

end

/-- What the operations after the call leave in a buffer. -/
abbrev tailOf (b : Ref sig .tc) : Buf (Elt Ideal) ((c.tc : Thread nD τ).loc b) :=
  Pipeline.afterTail₀ cfgs (dats m) 0 (V0 m) [hostOps1] c b

theorem arr_inj : Function.Injective (Pipeline.arrRef (cfgs 0).spec) := by decide +kernel

theorem read_w (w : Fin 14) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ arr_inj c _ _ w

theorem read_v52 : tailOf m c main_v52 = k_v52 ((dats m 0 c).arrAt 9 cfg0.N) ((dats m 0 c).arrAt 10 cfg0.N) := by
  unfold tailOf Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v49_1) = _ from read_w m c 9,
    show Pipeline.withArrays (cfgs 0).spec c (V0 m c) (fun w => (dats m 0 c).arrAt w (cfgs 0).N) (Proc.devRef .tc main_v49_2) = _ from read_w m c 10]
  rfl

theorem read_v55 : tailOf m c main_v55
    = k_v55 (m ((c.tc : Thread nD τ).loc main_arg2)) ((dats m 0 c).arrAt 11 cfg0.N) ((dats m 0 c).arrAt 12 cfg0.N) := by
  unfold tailOf Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v49_3) = _ from read_w m c 11,
    show Pipeline.withArrays (cfgs 0).spec c (V0 m c) (fun w => (dats m 0 c).arrAt w (cfgs 0).N) (Proc.devRef .tc main_v49_4) = _ from read_w m c 12,
    show Pipeline.withArrays (cfgs 0).spec c (V0 m c) (fun w => (dats m 0 c).arrAt w (cfgs 0).N) (Proc.devRef .tc main_v1) = V m c main_v1 from
      (read_w m c 3).trans ((Pipeline.Dat.arrAt_in (dats m 0 c) 3 rfl _).trans (A_eq m c 3)), read_v1]
  rfl

theorem read_v58 : tailOf m c main_v58 = k_v58 ((dats m 0 c).arrAt 13 cfg0.N) := by
  unfold tailOf Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v49_5) = _ from read_w m c 13]
  rfl

section
variable {m c} {XB DT DY : ℕ → ℕ → ℝ} {AL DK : ℕ → ℝ}

theorem rate_nonpos (hd : ∀ r j, 0 ≤ DT r j) (k h : ℕ) : DT k h * rate AL h ≤ 0 :=
  mul_nonpos_of_nonneg_of_nonpos (hd k h) (neg_nonpos.mpr (Real.exp_pos _).le)

variable (H : Operands m c XB DT DY (rate AL) (fun j => DK (j / 64))) (hd : ∀ r j, 0 ≤ DT r j)
  (hx2 : m ((c.tc : Thread nD τ).loc main_arg2) = (M2 fun _ h => AL h : FVec Ideal S1x16 .f32))
include H hd

/-- The gradient of the convolved inputs. -/
theorem value_v49 : (dats m 0 c).arrAt 8 cfg0.N
    = (M2 fun t j => RX XB DT DY (rate AL) (fun j => DK (j / 64)) t j : FVec Ideal S2176x1536 .f32) :=
  (arr_8 H).trans (M2_congr fun r j hr _ => out8_eq XB DT DY (rate AL) (fun j => DK (j / 64)) (rate_nonpos hd) r j hr)

/-- The gradient of the time steps. -/
theorem value_v52 : tailOf m c main_v52 = (M2 fun t u => RT XB DT DY (rate AL) t u : FVec Ideal S2176x16 .f32) := by
  rw [read_v52, arr_9 H, arr_10 H]
  refine (l_v52 _ _).trans (M2_congr fun t u ht hu => ?_)
  rw [out9_eq XB DT DY (rate AL) (rate_nonpos hd) (t / 64) (t % 64) u (by omega) (by omega) hu, Nat.div_add_mod]

include hx2 in
/-- The gradient of the logarithms of the decay rates. -/
theorem value_v55 : tailOf m c main_v55 = (M2 fun _ u => RA XB DT DY (rate AL) u * rate AL u : FVec Ideal S1x16 .f32) := by
  rw [read_v55, arr_11 H, arr_12 H, hx2]
  refine (l_v55 _ _ _).trans (M2_congr fun t u _ hu => ?_)
  rw [out11_eq XB DT DY (rate AL) (rate_nonpos hd) u hu]

omit hd in
/-- The gradient of the skip weights. -/
theorem value_v58 : tailOf m c main_v58 = (M2 fun _ u => SK XB DY u : FVec Ideal S1x16 .f32) := by
  rw [read_v58, arr_13 H]
  refine (l_v58 _).trans (M2_congr fun t u _ hu => ?_)
  simp only [out13_eq]
  rw [Finset.sum_comm]
  exact Finset.sum_congr rfl fun t _ => Finset.sum_congr rfl fun k _ => mul_comm _ _

end

end Cert.Lift

end

end
-- ==== Proof.Value.lean ====
module

public import proofs.«01_k».proof.Proof.End
public import proofs.«01_k».proof.Proof.Gen.ReferenceIdeal.Run

@[expose] public section

/-! The value claim: where the arguments are finite and the time steps are not negative, the kernel program's four
results are the reference's. -/

noncomputable section

namespace Cert.Lift

open Idealize.ShloMosaic Idealize.SL.Sem

/-- The side conditions the precondition's operations take. -/
instance finite_facts : Cert.Pre_finite.Facts where
  bcast_S_S2176x1536 := by decide
  reducesTo_S2176x1536_S_d0_1 := by decide
  h_S_ := by decide
  bcast_S_S2176x16 := by decide
  reducesTo_S2176x16_S_d0_1 := by decide
  bcast_S_S1x16 := by decide
  reducesTo_S1x16_S_d0_1 := by decide
  bcast_S_S2176x1024 := by decide
  reducesTo_S2176x1024_S_d0_1 := by decide

open Cert.KernelIdeal Cert.KernelIdeal.Gen in
/-- The precondition gives the five tables of real numbers. -/
theorem tables (m : (ℓ : Loc nD τ sig) → Buf (Elt Ideal) ℓ) (h : Cert.Pre_KernelIdeal_finite m) (c : Dev nD) :
    ∃ (XB DT DY : ℕ → ℕ → ℝ) (AL DK : ℕ → ℝ), (∀ r j, 0 ≤ DT r j)
      ∧ m ((c.tc : Thread nD τ).loc main_arg0) = (M2 XB : FVec Ideal S2176x1536 .f32)
      ∧ m ((c.tc : Thread nD τ).loc main_arg1) = (M2 DT : FVec Ideal S2176x16 .f32)
      ∧ m ((c.tc : Thread nD τ).loc main_arg2) = (M2 fun _ h => AL h : FVec Ideal S1x16 .f32)
      ∧ m ((c.tc : Thread nD τ).loc main_arg3) = (M2 fun _ h => DK h : FVec Ideal S1x16 .f32)
      ∧ m ((c.tc : Thread nD τ).loc main_arg4) = (M2 DY : FVec Ideal S2176x1024 .f32) := by
  obtain ⟨r0, r1, r2, r3, r4, hd⟩ := finite_args _ _ _ _ _ (h c)
  obtain ⟨XB, hXB, -⟩ := table _ r0
  obtain ⟨DT, hDT, hp⟩ := table _ r1
  obtain ⟨AL, hAL⟩ := table_row _ r2
  obtain ⟨DK, hDK⟩ := table_row _ r3
  obtain ⟨DY, hDY, -⟩ := table _ r4
  exact ⟨XB, DT, DY, AL, DK, hp hd, hXB, hDT, hAL, hDK, hDY⟩

theorem algebraic : Cert.algebraic_KernelIdeal_ReferenceIdeal_pre_finite := by
  intro m g m' g' hpre hargs
  choose XB DT DY AL DK hd e0 e1 e2 e3 e4 using tables m hpre
  have H := fun c => operands m c (e0 c) (e1 c) (e2 c) (e3 c) (e4 c)
  refine ⟨fun c => (M2 fun t j => RX (XB c) (DT c) (DY c) (rate (AL c)) (fun j => DK c (j / 64)) t j : FVec Ideal Cert.KernelIdeal.S2176x1536 .f32),
    fun c => (M2 fun t u => RT (XB c) (DT c) (DY c) (rate (AL c)) t u : FVec Ideal Cert.KernelIdeal.S2176x16 .f32),
    fun c => (M2 fun _ u => RA (XB c) (DT c) (DY c) (rate (AL c)) u * rate (AL c) u : FVec Ideal Cert.KernelIdeal.S1x16 .f32),
    fun c => (M2 fun _ u => SK (XB c) (DY c) u : FVec Ideal Cert.KernelIdeal.S1x16 .f32), ?_, ?_⟩
  · refine (θ_run Cert.KernelIdeal.defs _ _).mono (fun r h c => ?_)
      (θ_run_and (Cert.KernelIdeal.Gen.run_main (F := Ideal) m g) (Cert.KernelIdeal.Gen.unchanged (F := Ideal) m g))
    refine ⟨((h.1 c).1 8).trans (value_v49 (H c) (hd c)), ?_, ?_, ?_, h.2 c⟩
    · exact ((h.1 c).2 Cert.KernelIdeal.main_v52 (Pipeline.mem_restRefs_of _ (by decide) (by decide))).trans (value_v52 (H c) (hd c))
    · exact ((h.1 c).2 Cert.KernelIdeal.main_v55 (Pipeline.mem_restRefs_of _ (by decide) (by decide))).trans (value_v55 (H c) (hd c) (e2 c))
    · exact ((h.1 c).2 Cert.KernelIdeal.main_v58 (Pipeline.mem_restRefs_of _ (by decide) (by decide))).trans (value_v58 (H c))
  · refine (θ_run Cert.ReferenceIdeal.defs _ _).mono (fun r h c => ?_) (Cert.ReferenceIdeal.Value.run (F := Ideal) m' g')
    obtain ⟨a0, a1, a2, a3, a4⟩ := hargs c
    refine ⟨(h c).1.trans ?_, (h c).2.1.trans ?_, (h c).2.2.1.trans ?_, (h c).2.2.2.1.trans ?_, (h c).2.2.2.2⟩
    · rw [Cert.ReferenceIdeal.Read.val_main_v107_eq, a0.trans (e0 c), a1.trans (e1 c), a2.trans (e2 c), a3.trans (e3 c), a4.trans (e4 c)]
      exact r_v107 _ _ _ _ _
    · rw [Cert.ReferenceIdeal.Read.val_main_v97_eq, a0.trans (e0 c), a1.trans (e1 c), a2.trans (e2 c), a4.trans (e4 c)]
      exact r_v97 _ _ _ _
    · rw [Cert.ReferenceIdeal.Read.val_main_v99_eq, a0.trans (e0 c), a1.trans (e1 c), a2.trans (e2 c), a4.trans (e4 c)]
      exact r_v99 _ _ _ _
    · rw [Cert.ReferenceIdeal.Read.val_main_v53_eq, a0.trans (e0 c), a4.trans (e4 c)]
      exact r_v53 _ _

end Cert.Lift

end

end
-- ==== Proof.Returns.lean ====
/- What a pipeline body hands back for one window, in the three ways it can: the window's buffer live at the point,
   written back there, or idle and kept. Stated for any pipeline's proof data. -/
module

public import Idealize.ShloMosaic.Lib.Pipeline.FrameBody

@[expose] public section

noncomputable section

namespace Cert.Rets

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : Nat} {τ : Topo} {sig : RefSig} {Λ₀ : Idealize.SL.Sem.Labels} {Val : EltTy → Type}
variable {Ix : Type} [DecidableEq Ix] {Name : Type} [DecidableEq Name] {U : Type} [URA U] {Lvl : Type}
variable {cfg : Cfg sig Λ₀} {c : Dev nD} (dat : Dat τ Val Ix Name U Lvl cfg c)

/-- What the body must return for window `w` at point `t`. -/
def ret (w : Fin cfg.W) (t : Fin cfg.N) : sProp (MT nD τ sig Ix Val Name U Lvl) :=
  match cfg.idle w (cfg.grid.coords t) with
  | true =>
    match (cfg.win w).flush t with
    | false => iprop(∃ d, owns (c : Thread nD τ) ((cfg.win w).stage (cfg.slots t w)) fullShare (dat.before w t d))
    | true => owns (c : Thread nD τ) ((cfg.win w).stage (cfg.slots t w)) fullShare (dat.after w t)
  | false => owns (c : Thread nD τ) ((cfg.win w).stage (cfg.slots t w)) fullShare (dat.after w t)

/-- A live window is returned at its contents after the body. -/
theorem ret_live {w : Fin cfg.W} {t : Fin cfg.N} (h : cfg.idle w (cfg.grid.coords t) = false) :
    ret dat w t = owns (c : Thread nD τ) ((cfg.win w).stage (cfg.slots t w)) fullShare (dat.after w t) := by
  unfold ret; rw [h]

/-- So is a window written back at the point, idle or not. -/
theorem ret_flush {w : Fin cfg.W} {t : Fin cfg.N} (h : (cfg.win w).flush t = true) :
    ret dat w t = owns (c : Thread nD τ) ((cfg.win w).stage (cfg.slots t w)) fullShare (dat.after w t) := by
  unfold ret; cases cfg.idle w (cfg.grid.coords t) <;> simp only [h]

/-- An idle window that stays in its buffer is returned as it was found. -/
theorem ret_idle {w : Fin cfg.W} {t : Fin cfg.N} (h : cfg.idle w (cfg.grid.coords t) = true) (hf : (cfg.win w).flush t = false) :
    ret dat w t = iprop(∃ d, owns (c : Thread nD τ) ((cfg.win w).stage (cfg.slots t w)) fullShare (dat.before w t d)) := by
  unfold ret; rw [h, hf]

end Cert.Rets

end
-- ==== Proof.InProjRun.lean ====
/- The input projection's call, run: what each of its thirteen points leaves in the three outputs' buffers, the body's
   obligation, and from the launch the frame with the counters at zero. Over any floats. -/
module

public import proofs.«01_k».proof.Proof.Gen.InProjIdeal.Skeleton
public import proofs.«01_k».proof.Proof.Gen.InProjIdeal.Frame
public import proofs.«01_k».proof.Proof.Returns
public import Idealize.ShloMosaic.Lib.VecWindow
public import Idealize.ShloMosaic.Lib.Claim

@[expose] public section

set_option maxRecDepth 16384

noncomputable section

namespace Cert.InProjIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal.Gen

variable {F : FTy → Type} [FloatOps F]

local notation "𝕄" => MT nD τ sig Unit (Elt F) ℕ (UR sig nD τ) ℕ

/-! ## The body, in its three cases -/

section Body

variable (c : Dev nD) (i : grid0.Coords) (arg1 : Memref sig .tc .vmem S2176x1024 .bf16) (harg1 : arg1.IsWhole) (arg2 : Memref sig .tc .vmem S512x1024 .bf16) (harg2 : arg2.IsWhole) (arg3 : Memref sig .tc .vmem S128x1024 .bf16) (harg3 : arg3.IsWhole) (arg4 : Memref sig .tc .vmem S2176x512 .bf16) (harg4 : arg4.IsWhole) (arg5 : Memref sig .tc .vmem S2176x512 .f32) (harg5 : arg5.IsWhole) (arg6 : Memref sig .tc .vmem S2176x128 .f32) (harg6 : arg6.IsWhole)
  (x0 : Vec F S2176x1024 .bf16) (x1 : Vec F S512x1024 .bf16) (x2 : Vec F S128x1024 .bf16)

set_option maxHeartbeats 1000000 in
/-- The first point: the first output's block and the third output are stored. -/
theorem run_first (h1 : k0_cond1 i = 1#1) (h2 : ¬ k0_cond2 i = 1#1) (h3 : k0_cond3 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1) ∗ owns (c : Thread nD τ) arg6 fullShare (k0_pay3 x0 x2)) -∗ K ⟨⟩))
      ⊢ wp frame (wpE (defs₀ (F := F)) Variants.none c none) E (cc0_inproj i arg1 harg1 arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := harg1.eq_unread hf0; obtain rfl := harg2.eq_unread hf1; obtain rfl := harg3.eq_unread hf2
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_full, View.readAt_full, View.readAt_full, harg1.read_unread, harg2.read_unread]
  iexists _; isplitr
  swap; · iexact H5
  ipureintro
  rw [View.read_writes_full, View.readAt_full, View.readAt_full, harg1.read_unread, harg3.read_unread]

set_option maxHeartbeats 1000000 in
/-- A later point of the first six: the first output's block is stored. -/
theorem run_qkv (h1 : k0_cond1 i = 1#1) (h2 : ¬ k0_cond2 i = 1#1) (h3 : ¬ k0_cond3 i = 1#1) (E : Set ℕ) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (k0_pay2 x0 x1)) -∗ K ⟨⟩))
      ⊢ wp frame (wpE (defs₀ (F := F)) Variants.none c none) E (cc0_inproj i arg1 harg1 arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%d3, %f3, -, H3⟩, Hk⟩
  obtain rfl := harg1.eq_unread hf0; obtain rfl := harg2.eq_unread hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H3
  ipureintro
  rw [View.read_writes_full, View.readAt_full, View.readAt_full, harg1.read_unread, harg2.read_unread]

set_option maxHeartbeats 1000000 in
/-- A point of the last seven: the second output's block is stored. -/
theorem run_zx (h1 : ¬ k0_cond1 i = 1#1) (h2 : k0_cond2 i = 1#1) (h3 : ¬ k0_cond3 i = 1#1) (E : Set ℕ) (K : PUnit → sProp 𝕄) :
    iprop(owns (c : Thread nD τ) arg1 fullShare x0 ∗ owns (c : Thread nD τ) arg2 fullShare x1 ∗ (∃ d, owns (c : Thread nD τ) arg5 fullShare d)
        ∗ (iprop(owns (c : Thread nD τ) arg1 fullShare x0 ∗ owns (c : Thread nD τ) arg2 fullShare x1 ∗ owns (c : Thread nD τ) arg5 fullShare (k0_pay1 x0 x1)) -∗ K ⟨⟩))
      ⊢ wp frame (wpE (defs₀ (F := F)) Variants.none c none) E (cc0_inproj i arg1 harg1 arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%d3, %f3, -, H3⟩, Hk⟩
  obtain rfl := harg1.eq_unread hf0; obtain rfl := harg2.eq_unread hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H3
  ipureintro
  rw [View.read_writes_full, View.readAt_full, View.readAt_full, harg1.read_unread, harg2.read_unread]
end Body

/-! ## The points -/

theorem lt_N (t : Fin cfg0.N) : t.val < 13 := lt_of_lt_of_eq t.isLt (show cfg0.N = 13 from N_0)

theorem cond1_iff : ∀ t : Fin grid0.N, k0_cond1 (grid0.coords t) = 1#1 ↔ t.val < 6 := by decide +kernel
theorem cond2_iff : ∀ t : Fin grid0.N, k0_cond2 (grid0.coords t) = 1#1 ↔ 6 ≤ t.val := by decide +kernel
theorem cond3_iff : ∀ t : Fin grid0.N, k0_cond3 (grid0.coords t) = 1#1 ↔ t.val = 0 := by decide +kernel

theorem flush3_iff : ∀ t : Fin cfg0.N, (cfg0.win 3).flush t = true ↔ t.val < 5 ∨ t.val = 12 :=
  (by decide +kernel : ∀ t : Fin grid0.N, win0_3.flush t = true ↔ t.val < 5 ∨ t.val = 12)
theorem flush4_iff : ∀ t : Fin cfg0.N, (cfg0.win 4).flush t = true ↔ 6 ≤ t.val :=
  (by decide +kernel : ∀ t : Fin grid0.N, win0_4.flush t = true ↔ 6 ≤ t.val)
theorem flush5_iff : ∀ t : Fin cfg0.N, (cfg0.win 5).flush t = true ↔ t.val = 12 :=
  (by decide +kernel : ∀ t : Fin grid0.N, win0_5.flush t = true ↔ t.val = 12)
theorem idle3_iff : ∀ t : Fin cfg0.N, cfg0.idle 3 (cfg0.grid.coords t) = true ↔ 6 ≤ t.val :=
  (by decide +kernel : ∀ t : Fin grid0.N, idle0 3 (grid0.coords t) = true ↔ 6 ≤ t.val)
theorem idle4_iff : ∀ t : Fin cfg0.N, cfg0.idle 4 (cfg0.grid.coords t) = true ↔ t.val < 6 :=
  (by decide +kernel : ∀ t : Fin grid0.N, idle0 4 (grid0.coords t) = true ↔ t.val < 6)
theorem idle5_iff : ∀ t : Fin cfg0.N, cfg0.idle 5 (cfg0.grid.coords t) = true ↔ t.val ≠ 0 :=
  (by decide +kernel : ∀ t : Fin grid0.N, idle0 5 (grid0.coords t) = true ↔ t.val ≠ 0)

variable (m : (ℓ : Loc nD τ sig) → Buf (Elt F) ℓ) (ρ : Dev nD → PrngReg)

/-- The first output's buffer after a point: the block of its last storing point, the sixth at latest. -/
def pointQ (t : Fin cfg0.N) : Fin cfg0.N := ⟨min t.val 5, lt_of_le_of_lt (Nat.min_le_left _ _) t.isLt⟩
/-- The first point. -/
def pointZ : Fin cfg0.N := ⟨0, by rw [show cfg0.N = 13 from N_0]; decide⟩

/-- The proof data: the inputs at their blocks, each output at what the last point that stored into it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay2 (iblk m c 0 (pointQ t)) (X0_1 m c (pointQ t))
    | ⟨4, _⟩ => k0_pay1 (iblk m c 0 t) (X0_1 m c t)
    | ⟨5, _⟩ => k0_pay3 (iblk m c 0 pointZ) (iblk m c 2 pointZ)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (iblk m c 0 (pointQ t)) (X0_1 m c (pointQ t)) := by dsimp only [dats]
theorem after4 (c : Dev nD) (t : Fin cfg0.N) : (dats m 0 c).after 4 t = k0_pay1 (iblk m c 0 t) (X0_1 m c t) := by dsimp only [dats]
theorem after5 (c : Dev nD) (t : Fin cfg0.N) : (dats m 0 c).after 5 t = k0_pay3 (iblk m c 0 pointZ) (iblk m c 2 pointZ) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What a live point leaves in an output's buffer the next finds. -/
theorem left_live (c : Dev nD) (w : Fin cfg0.W) (hclip : ∀ (i : cfg0.grid.Coords) a, (cfg0.win w).clip i a = none) (t : Fin cfg0.N) (h : cfg0.idle w (cfg0.grid.coords t) = false) (d) :
    (dats m 0 c).left w t d = (dats m 0 c).after w t := by
  unfold Dat.left; rw [h]
  show (dats m 0 c).kept w t d = _
  unfold Dat.kept
  rw [Pipeline.fill_of_clip_none w _ (hclip _) d ((dats m 0 c).after w t), Window.fill_cut]

/-- What an idle point leaves there is what it found. -/
theorem left_idle (c : Dev nD) (w : Fin cfg0.W) (t : Fin cfg0.N) (h : cfg0.idle w (cfg0.grid.coords t) = true) (d) :
    (dats m 0 c).left w t d = (dats m 0 c).before w t d := by
  unfold Dat.left; rw [h]

/-- From the seventh point on the first output's buffer holds the sixth point's block. -/
theorem before3 (c : Dev nD) : ∀ (n : ℕ) (hn : n < cfg0.N) (h : 6 ≤ n) (d), (dats m 0 c).before 3 ⟨n, hn⟩ d = (dats m 0 c).after 3 ⟨n, hn⟩ := by
  intro n
  induction n with
  | zero => intro hn h; omega
  | succ n ih =>
    intro hn h d
    have hN := lt_N ⟨n + 1, hn⟩
    have hn' : n < cfg0.N := Nat.lt_of_succ_lt hn
    rw [Dat.before_of_pos _ 3 ⟨n + 1, hn⟩ (Nat.succ_ne_zero n) rfl d,
      if_neg (by intro hf; have := (flush3_iff _).mp hf; dsimp only at this hN; omega)]
    show (dats m 0 c).left 3 ⟨n, hn'⟩ d = _
    by_cases h5 : n = 5
    · subst h5
      rw [left_live m c 3 (fun _ _ => rfl) _ (Bool.eq_false_iff.mpr fun hi => by have := (idle3_iff _).mp hi; dsimp only at this; omega), after3, after3]
      rfl
    · rw [left_idle m c 3 _ ((idle3_iff _).mpr (by dsimp only; omega)), ih hn' (by omega), after3, after3]
      have e : pointQ ⟨n, hn'⟩ = pointQ ⟨n + 1, hn⟩ := Fin.ext (show min n 5 = min (n + 1) 5 by omega)
      rw [e]

/-- After the first point the third output's buffer holds what that stored. -/
theorem before5 (c : Dev nD) : ∀ (n : ℕ) (hn : n < cfg0.N) (h : n ≠ 0) (d), (dats m 0 c).before 5 ⟨n, hn⟩ d = (dats m 0 c).after 5 ⟨n, hn⟩ := by
  intro n
  induction n with
  | zero => intro hn h; exact absurd rfl h
  | succ n ih =>
    intro hn h d
    have hN := lt_N ⟨n + 1, hn⟩
    have hn' : n < cfg0.N := Nat.lt_of_succ_lt hn
    rw [Dat.before_of_pos _ 5 ⟨n + 1, hn⟩ (Nat.succ_ne_zero n) rfl d,
      if_neg (by intro hf; have := (flush5_iff _).mp hf; dsimp only at this hN; omega)]
    show (dats m 0 c).left 5 ⟨n, hn'⟩ d = _
    by_cases h0 : n = 0
    · subst h0
      rw [left_live m c 5 (fun _ _ => rfl) _ (Bool.eq_false_iff.mpr fun hi => (idle5_iff _).mp hi rfl), after5, after5]
    · rw [left_idle m c 5 _ ((idle5_iff _).mpr h0), ih hn' h0, after5, after5]

/-! ## The body's obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ Rets.ret (dats m 0 c) 0 t ∗ Rets.ret (dats m 0 c) 1 t ∗ Rets.ret (dats m 0 c) 2 t
    ∗ Rets.ret (dats m 0 c) 3 t ∗ Rets.ret (dats m 0 c) 4 t ∗ Rets.ret (dats m 0 c) 5 t)

theorem PhiOwes_succ (c : Dev nD) (t : Fin cfg0.N) :
    (dats m 0 c).Φ t.castSucc = (dats m 0 c).Φ t.succ ∧ (dats m 0 c).owesAt () t.castSucc = (dats m 0 c).owesAt () t.succ := ⟨rfl, rfl⟩

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  have hN := lt_N t
  unfold bodyPre bodyPost
  simp only [before0, before1, before2]
  rw [(PhiOwes_succ m c t).1, (PhiOwes_succ m c t).2,
    Rets.ret_live (dats m 0 c) (w := 0) (t := t) rfl, Rets.ret_live (dats m 0 c) (w := 1) (t := t) rfl, Rets.ret_live (dats m 0 c) (w := 2) (t := t) rfl,
    after0, after1, after2]
  by_cases h6 : t.val < 6
  · have i3 : cfg0.idle 3 (cfg0.grid.coords t) = false := Bool.eq_false_iff.mpr fun h => by have := (idle3_iff t).mp h; omega
    have f4 : (cfg0.win 4).flush t = false := Bool.eq_false_iff.mpr fun h => by have := (flush4_iff t).mp h; omega
    have eQ : pointQ t = t := Fin.ext (show min t.val 5 = t.val by omega)
    rw [Rets.ret_live (dats m 0 c) i3, Rets.ret_idle (dats m 0 c) ((idle4_iff t).mpr h6) f4, after3, eQ]
    by_cases h0 : t.val = 0
    · have i5 : cfg0.idle 5 (cfg0.grid.coords t) = false := Bool.eq_false_iff.mpr fun h => (idle5_iff t).mp h h0
      have eZ : pointZ = t := Fin.ext h0.symm
      rw [Rets.ret_live (dats m 0 c) i5, after5, eZ]
      iintro ⟨Hf, Ho, ⟨%d0, H0⟩, ⟨%d1, H1⟩, ⟨%d2, H2⟩, ⟨%d3, H3⟩, H4, ⟨%d5, H5⟩⟩
      iapply (run_first c (grid0.coords t) _ _ _ _ _ _ _ _ _ _ _ _ (iblk m c 0 t) (X0_1 m c t) (iblk m c 2 t) ((cond1_iff t).mpr h6) (fun h => by have := (cond2_iff t).mp h; omega) ((cond3_iff t).mpr h0) Set.univ _)
      isplitl [H0]; · iexact H0
      isplitl [H1]; · iexact H1
      isplitl [H2]; · iexact H2
      isplitl [H3]; · iexists _; iexact H3
      isplitl [H5]; · iexists _; iexact H5
      iintro ⟨H0, H1, H2, H3, H5⟩
      isplitl [Hf]; · iexact Hf
      isplitl [Ho]; · iexact Ho
      isplitl [H0]; · iexact H0
      isplitl [H1]; · iexact H1
      isplitl [H2]; · iexact H2
      isplitl [H3]; · iexact H3
      isplitl [H4]; · iexact H4
      iexact H5
    · have f5 : (cfg0.win 5).flush t = false := Bool.eq_false_iff.mpr fun h => by have := (flush5_iff t).mp h; omega
      rw [Rets.ret_idle (dats m 0 c) ((idle5_iff t).mpr h0) f5]
      iintro ⟨Hf, Ho, ⟨%d0, H0⟩, ⟨%d1, H1⟩, ⟨%d2, H2⟩, ⟨%d3, H3⟩, H4, H5⟩
      iapply (run_qkv c (grid0.coords t) _ _ _ _ _ _ _ _ _ _ _ _ (iblk m c 0 t) (X0_1 m c t) ((cond1_iff t).mpr h6) (fun h => by have := (cond2_iff t).mp h; omega) (fun h => h0 ((cond3_iff t).mp h)) Set.univ _)
      isplitl [H0]; · iexact H0
      isplitl [H1]; · iexact H1
      isplitl [H3]; · iexists _; iexact H3
      iintro ⟨H0, H1, H3⟩
      isplitl [Hf]; · iexact Hf
      isplitl [Ho]; · iexact Ho
      isplitl [H0]; · iexact H0
      isplitl [H1]; · iexact H1
      isplitl [H2]; · iexact H2
      isplitl [H3]; · iexact H3
      isplitl [H4]; · iexact H4
      iexact H5
  · have h0 : t.val ≠ 0 := by omega
    have i4 : cfg0.idle 4 (cfg0.grid.coords t) = false := Bool.eq_false_iff.mpr fun h => h6 ((idle4_iff t).mp h)
    -- the two idle outputs, kept or (at the last point) written back, are returned as found
    have r3 : iprop(∃ d, owns (c : Thread nD τ) (st0_3 t) fullShare ((dats m 0 c).before 3 t d)) ⊢ Rets.ret (dats m 0 c) 3 t := by
      by_cases h12 : t.val = 12
      · rw [Rets.ret_flush (dats m 0 c) ((flush3_iff t).mpr (.inr h12))]
        iintro ⟨%d, H⟩
        rw [← before3 m c t.val t.isLt (by omega) d]
        iexact H
      · rw [Rets.ret_idle (dats m 0 c) ((idle3_iff t).mpr (by omega)) (Bool.eq_false_iff.mpr fun h => by have := (flush3_iff t).mp h; omega)]
    have r5 : iprop(∃ d, owns (c : Thread nD τ) (st0_5 t) fullShare ((dats m 0 c).before 5 t d)) ⊢ Rets.ret (dats m 0 c) 5 t := by
      by_cases h12 : t.val = 12
      · rw [Rets.ret_flush (dats m 0 c) ((flush5_iff t).mpr h12)]
        iintro ⟨%d, H⟩
        rw [← before5 m c t.val t.isLt h0 d]
        iexact H
      · rw [Rets.ret_idle (dats m 0 c) ((idle5_iff t).mpr h0) (Bool.eq_false_iff.mpr fun h => h12 ((flush5_iff t).mp h))]
    rw [Rets.ret_live (dats m 0 c) i4, after4]
    iintro ⟨Hf, Ho, ⟨%d0, H0⟩, ⟨%d1, H1⟩, ⟨%d2, H2⟩, H3, ⟨%d4, H4⟩, H5⟩
    iapply (run_zx c (grid0.coords t) _ _ _ _ _ _ _ _ _ _ _ _ (iblk m c 0 t) (X0_1 m c t) (fun h => h6 ((cond1_iff t).mp h)) ((cond2_iff t).mpr (by omega)) (fun h => h0 ((cond3_iff t).mp h)) Set.univ _)
    isplitl [H0]; · iexact H0
    isplitl [H1]; · iexact H1
    isplitl [H4]; · iexists _; iexact H4
    iintro ⟨H0, H1, H4⟩
    isplitl [Hf]; · iexact Hf
    isplitl [Ho]; · iexact Ho
    isplitl [H0]; · iexact H0
    isplitl [H1]; · iexact H1
    isplitl [H2]; · iexact H2
    isplitl [H3]; · iapply r3; iexact H3
    isplitl [H4]; · iexact H4
    iapply r5; iexact H5

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option backward.isDefEq.respectTransparency.types false in
set_option maxHeartbeats 800000 in
/-- Every fair run of the call ends with the arrays at what the points wrote back and every counter at zero. -/
theorem runs : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m)
    (hmain := hmain m Variants.none) (hA := A_eq m) (hΦ := fun _ _ => rfl)

/-- The call leaves its arguments as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.InProjIdeal.Run

end
-- ==== Proof.InProjValue.lean ====
/- The input projection's value: every element of the three outputs is the sum over the 1024 features that the reference's
   one product, transposed and cut in three, has there. -/
module

public import proofs.«01_k».proof.Proof.InProjRun
public import proofs.«01_k».proof.Proof.Gen.InProjReferenceIdeal.Run
public import proofs.«01_k».proof.Proof.Gen.InProjReferenceIdeal.Read
public import proofs.«01_k».proof.Defs
public import proofs.«01_k».proof.Proof.Gen.InProj
public import proofs.«01_k».proof.Proof.Gen.InProjReferenceIdeal
public import Idealize.ShloMosaic.Lib.MatmulPlain
public import Idealize.ShloMosaic.Lib.ValueIdx

@[expose] public section

set_option maxRecDepth 16384

noncomputable section

namespace Cert.InProjIdeal.Run

open Idealize.ShloMosaic Idealize.ShloMosaic.TcCoe Idealize.ShloMosaic.ValueIdx
open Idealize.SL.Sem
open Idealize.ShloMosaic.Pipeline (Dat Cfg Window)
open Cert.InProjIdeal.Gen

/-! ## The three products, at an element -/

theorem zero_word : (Ideal.ofBits .f32 0#32 : EReal) = 0 := Ideal.ofBits_zero_f32

theorem pay1_apply (u : Vec Ideal S2176x1024 .bf16) (w : Vec Ideal S512x1024 .bf16) (r : Fin 2176) (j : Fin 512) :
    k0_pay1 (F := Ideal) u w (ix2 r j) = ∑ k : Fin 1024, u (ix2 r k) * w (ix2 j k) := by
  refine (Ideal.matmul_transposedRhs_apply (M := 2176) (K := 1024) (N := 512) none u w (constant S2176x512 .f32 0#32) r j).trans ?_
  rw [show (constant S2176x512 .f32 0#32 : FVec Ideal S2176x512 .f32) (ix2 r j) = 0 from zero_word, zero_add]

theorem pay2_apply (u : Vec Ideal S2176x1024 .bf16) (w : Vec Ideal S512x1024 .bf16) (r : Fin 2176) (j : Fin 512) :
    k0_pay2 (F := Ideal) u w (ix2 r j) = ∑ k : Fin 1024, u (ix2 r k) * w (ix2 j k) := pay1_apply u w r j

theorem pay3_apply (u : Vec Ideal S2176x1024 .bf16) (w : Vec Ideal S128x1024 .bf16) (r : Fin 2176) (j : Fin 128) :
    k0_pay3 (F := Ideal) u w (ix2 r j) = ∑ k : Fin 1024, u (ix2 r k) * w (ix2 j k) := by
  refine (Ideal.matmul_transposedRhs_apply (M := 2176) (K := 1024) (N := 128) none u w (constant S2176x128 .f32 0#32) r j).trans ?_
  rw [show (constant S2176x128 .f32 0#32 : FVec Ideal S2176x128 .f32) (ix2 r j) = 0 from zero_word, zero_add]

/-- The reference's product at an element, its row and column given by their numbers. -/
theorem product_apply (u : Vec Ideal S2176x1024 .bf16) (w : Vec Ideal S6784x1024 .bf16) (i : Cert.InProjReferenceIdeal.S2176x6784.Idx)
    (r : Fin 2176) (j : Fin 6784) (hr : (i 0).val = r.val) (hj : (i 1).val = j.val) :
    Cert.InProjReferenceIdeal.Read.val_main_v3 (F := Ideal) u w i = ∑ k : Fin 1024, u (ix2 r k) * w (ix2 j k) := by
  rw [Cert.InProjReferenceIdeal.Read.val_main_v3_apply]
  refine Finset.sum_congr rfl fun k _ => congrArg₂ (· * ·) ?_ ?_
  · rw [Cert.InProjReferenceIdeal.Read.val_main_v0_apply]
    refine congrArg u (funext fun a => Fin.ext ?_)
    match a with
      | ⟨0, _⟩ => exact hr
      | ⟨1, _⟩ => rfl
  · rw [Cert.InProjReferenceIdeal.Read.val_main_v2_apply, Cert.InProjReferenceIdeal.Read.val_main_v1_apply]
    refine congrArg w (funext fun a => Fin.ext ?_)
    match a with
      | ⟨0, _⟩ => exact hj
      | ⟨1, _⟩ => rfl

/-! ## The blocks -/

theorem index_0 : ∀ t : Fin grid0.N, win0_0.index t 0 = 0 ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 52 ∧ win0_2.index t 1 = 0 := by decide +kernel
theorem index_3 : ∀ t : Fin grid0.N, win0_3.index t 0 = 0 ∧ win0_3.index t 1 = min t.val 5 := by decide +kernel
theorem index_4 : ∀ t : Fin grid0.N, win0_4.index t 0 = 0 ∧ win0_4.index t 1 = t.val - 6 := by decide +kernel
theorem index_5 : ∀ t : Fin grid0.N, win0_5.index t 0 = 0 ∧ win0_5.index t 1 = 0 := by decide +kernel

variable (m : (ℓ : Loc nD τ sig) → Buf (Elt Ideal) ℓ) (c : Dev nD)

/-- The rows' array and the weights' array. -/
abbrev rowsOf : Vec Ideal S2176x1024 .bf16 := m ((c : Thread nD τ).loc main_arg0)
abbrev weightsOf : Vec Ideal S6784x1024 .bf16 := m ((c : Thread nD τ).loc main_arg1)

theorem block_0 (t : Fin cfg0.N) (r : Fin 2176) (k : Fin 1024) :
    (iblk m c 0 t : Vec Ideal S2176x1024 .bf16) (ix2 r k) = rowsOf m c (ix2 r k) := by
  obtain ⟨e0, e1⟩ := index_0 t
  unfold iblk
  rw [View.read_apply]
  refine congrArg (rowsOf m c) (funext fun a => Fin.ext ?_)
  match a with
    | ⟨0, _⟩ => show win0_0.index t 0 * 2176 + 1 * r.val = r.val; rw [e0]; omega
    | ⟨1, _⟩ => show win0_0.index t 1 * 1024 + 1 * k.val = k.val; rw [e1]; omega

theorem block_1 (t : Fin cfg0.N) (j : Fin 512) (k : Fin 1024) (J : Fin 6784) (hJ : J.val = t.val * 512 + j.val) :
    (X0_1 m c t : Vec Ideal S512x1024 .bf16) (ix2 j k) = weightsOf m c (ix2 J k) := by
  obtain ⟨e0, e1⟩ := index_1 t
  unfold X0_1 Pipeline.Window.fill
  rw [dif_pos (moved0_1 t (ix2 j k))]
  unfold iblk
  rw [View.read_apply]
  refine congrArg (weightsOf m c) (funext fun a => Fin.ext ?_)
  match a with
    | ⟨0, _⟩ => show win0_1.index t 0 * 512 + 1 * j.val = J.val; rw [e0, hJ]; omega
    | ⟨1, _⟩ => show win0_1.index t 1 * 1024 + 1 * k.val = k.val; rw [e1]; omega

theorem block_2 (t : Fin cfg0.N) (j : Fin 128) (k : Fin 1024) (J : Fin 6784) (hJ : J.val = 6656 + j.val) :
    (iblk m c 2 t : Vec Ideal S128x1024 .bf16) (ix2 j k) = weightsOf m c (ix2 J k) := by
  obtain ⟨e0, e1⟩ := index_2 t
  unfold iblk
  rw [View.read_apply]
  refine congrArg (weightsOf m c) (funext fun a => Fin.ext ?_)
  match a with
    | ⟨0, _⟩ => show win0_2.index t 0 * 128 + 1 * j.val = J.val; rw [e0, hJ]; omega
    | ⟨1, _⟩ => show win0_2.index t 1 * 1024 + 1 * k.val = k.val; rw [e1]; omega

/-! ## The arrays -/

theorem read_3 (t : Fin cfg0.N) (hf : (cfg0.win 3).flush t = true) :
    (dats m 0 c).flushed 3 t = ((cfg0.win 3).blk t).view.read (Elt Ideal)
      (Cert.InProjReferenceIdeal.Read.val_main_v5 (F := Ideal) (rowsOf m c) (weightsOf m c)) := by
  have hN := lt_N t
  show (cfg0.win 3).cut (grid0.coords t) ((dats m 0 c).after 3 t) = _
  rw [after3]
  funext j
  rw [View.read_apply]
  obtain ⟨e0, e1⟩ := index_3 t
  have b0 : (j 0).val < 2176 := (j 0).isLt
  have b1 : (j 1).val < 512 := (j 1).isLt
  have hJ : min t.val 5 * 512 + (j 1).val < 6784 := by omega
  refine Eq.trans (b := (∑ k : Fin 1024, rowsOf m c (ix2 ⟨(j 0).val, b0⟩ k) * weightsOf m c (ix2 ⟨min t.val 5 * 512 + (j 1).val, hJ⟩ k) : EReal)) ?_ ?_
  · refine Eq.trans (congrArg (k0_pay2 (F := Ideal) (iblk m c 0 (pointQ t)) (X0_1 m c (pointQ t))) (?_ : _ = ix2 ⟨(j 0).val, b0⟩ ⟨(j 1).val, b1⟩)) ?_
    · funext a; match a with
        | ⟨0, _⟩ => rfl
        | ⟨1, _⟩ => rfl
    exact (pay2_apply _ _ _ _).trans (Finset.sum_congr rfl fun k _ => congrArg₂ (fun x y : EReal => x * y) (block_0 m c _ _ k) (block_1 m c (pointQ t) _ k _ rfl))
  · refine Eq.symm ?_
    refine Eq.trans (Cert.InProjReferenceIdeal.Read.val_main_v5_apply _ _ _) ?_
    refine Eq.trans (Cert.InProjReferenceIdeal.Read.val_main_v4_apply _ _ _) ?_
    refine product_apply _ _ _ _ _ ?_ ?_
    · show win0_3.index t 0 * 2176 + 1 * (j 0).val = (j 0).val; rw [e0]; omega
    · show win0_3.index t 1 * 512 + 1 * (j 1).val = min t.val 5 * 512 + (j 1).val; rw [e1]; omega

theorem arr_3 : (dats m 0 c).arrAt 3 cfg0.N = Cert.InProjReferenceIdeal.Read.val_main_v5 (F := Ideal) (rowsOf m c) (weightsOf m c) :=
  (dats m 0 c).arrAt_eq_of_cover 3 _ (read_3 m c) fun i => by
    have hN : cfg0.N = 13 := N_0
    have b0 : (i 0).val < 2176 := (i 0).isLt
    have b1 : (i 1).val < 3072 := (i 1).isLt
    obtain ⟨t, hp, ht⟩ : ∃ t : Fin cfg0.N, (t.val < 5 ∨ t.val = 12) ∧ min t.val 5 = (i 1).val / 512 := by
      by_cases h : (i 1).val / 512 = 5
      · exact ⟨⟨12, by omega⟩, .inr rfl, h.symm⟩
      · have h5 : (i 1).val / 512 < 5 := by omega
        exact ⟨⟨(i 1).val / 512, by omega⟩, .inl h5, Nat.min_eq_left (Nat.le_of_lt h5)⟩
    obtain ⟨e0, e1⟩ := index_3 t
    refine ⟨t, (flush3_iff t).mpr hp, ?_⟩
    show i ∈ ((View.whole main_v0_0).slice (win0_3.rect t)).set
    rw [View.set_slice_whole, Rect.mem_set_unit]
    intro x
    match x with
      | ⟨0, _⟩ =>
        show win0_3.index t 0 * 2176 ≤ (i 0).val ∧ (i 0).val < win0_3.index t 0 * 2176 + 2176
        rw [e0]; omega
      | ⟨1, _⟩ =>
        show win0_3.index t 1 * 512 ≤ (i 1).val ∧ (i 1).val < win0_3.index t 1 * 512 + 512
        rw [e1, ht]; omega

theorem read_4 (t : Fin cfg0.N) (hf : (cfg0.win 4).flush t = true) :
    (dats m 0 c).flushed 4 t = ((cfg0.win 4).blk t).view.read (Elt Ideal)
      (Cert.InProjReferenceIdeal.Read.val_main_v6 (F := Ideal) (rowsOf m c) (weightsOf m c)) := by
  have hN := lt_N t
  have ht := (flush4_iff t).mp hf
  show (cfg0.win 4).cut (grid0.coords t) ((dats m 0 c).after 4 t) = _
  rw [after4]
  funext j
  rw [View.read_apply]
  obtain ⟨e0, e1⟩ := index_4 t
  have b0 : (j 0).val < 2176 := (j 0).isLt
  have b1 : (j 1).val < 512 := (j 1).isLt
  have hJ : t.val * 512 + (j 1).val < 6784 := by omega
  refine Eq.trans (b := (∑ k : Fin 1024, rowsOf m c (ix2 ⟨(j 0).val, b0⟩ k) * weightsOf m c (ix2 ⟨t.val * 512 + (j 1).val, hJ⟩ k) : EReal)) ?_ ?_
  · refine Eq.trans (congrArg (k0_pay1 (F := Ideal) (iblk m c 0 t) (X0_1 m c t)) (?_ : _ = ix2 ⟨(j 0).val, b0⟩ ⟨(j 1).val, b1⟩)) ?_
    · funext a; match a with
        | ⟨0, _⟩ => rfl
        | ⟨1, _⟩ => rfl
    exact (pay1_apply _ _ _ _).trans (Finset.sum_congr rfl fun k _ => congrArg₂ (fun x y : EReal => x * y) (block_0 m c _ _ k) (block_1 m c t _ k _ rfl))
  · refine Eq.symm ?_
    refine Eq.trans (Cert.InProjReferenceIdeal.Read.val_main_v6_apply _ _ _) ?_
    refine product_apply _ _ _ _ _ ?_ ?_
    · show win0_4.index t 0 * 2176 + 1 * (j 0).val = (j 0).val; rw [e0]; omega
    · show 3072 + (win0_4.index t 1 * 512 + 1 * (j 1).val) = t.val * 512 + (j 1).val; rw [e1]; omega

theorem arr_4 : (dats m 0 c).arrAt 4 cfg0.N = Cert.InProjReferenceIdeal.Read.val_main_v6 (F := Ideal) (rowsOf m c) (weightsOf m c) :=
  (dats m 0 c).arrAt_eq_of_cover 4 _ (read_4 m c) fun i => by
    have hN : cfg0.N = 13 := N_0
    have b0 : (i 0).val < 2176 := (i 0).isLt
    have b1 : (i 1).val < 3584 := (i 1).isLt
    obtain ⟨t, ht⟩ : ∃ t : Fin cfg0.N, t.val = 6 + (i 1).val / 512 := ⟨⟨_, by omega⟩, rfl⟩
    obtain ⟨e0, e1⟩ := index_4 t
    refine ⟨t, (flush4_iff t).mpr (by omega), ?_⟩
    show i ∈ ((View.whole main_v0_1).slice (win0_4.rect t)).set
    rw [View.set_slice_whole, Rect.mem_set_unit]
    intro x
    match x with
      | ⟨0, _⟩ =>
        show win0_4.index t 0 * 2176 ≤ (i 0).val ∧ (i 0).val < win0_4.index t 0 * 2176 + 2176
        rw [e0]; omega
      | ⟨1, _⟩ =>
        show win0_4.index t 1 * 512 ≤ (i 1).val ∧ (i 1).val < win0_4.index t 1 * 512 + 512
        rw [e1]; omega

theorem read_5 (t : Fin cfg0.N) (hf : (cfg0.win 5).flush t = true) :
    (dats m 0 c).flushed 5 t = ((cfg0.win 5).blk t).view.read (Elt Ideal)
      (Cert.InProjReferenceIdeal.Read.val_main_v7 (F := Ideal) (rowsOf m c) (weightsOf m c)) := by
  show (cfg0.win 5).cut (grid0.coords t) ((dats m 0 c).after 5 t) = _
  rw [after5]
  funext j
  rw [View.read_apply]
  obtain ⟨e0, e1⟩ := index_5 t
  have b0 : (j 0).val < 2176 := (j 0).isLt
  have b1 : (j 1).val < 128 := (j 1).isLt
  have hJ : 6656 + (j 1).val < 6784 := by omega
  refine Eq.trans (b := (∑ k : Fin 1024, rowsOf m c (ix2 ⟨(j 0).val, b0⟩ k) * weightsOf m c (ix2 ⟨6656 + (j 1).val, hJ⟩ k) : EReal)) ?_ ?_
  · refine Eq.trans (congrArg (k0_pay3 (F := Ideal) (iblk m c 0 pointZ) (iblk m c 2 pointZ)) (?_ : _ = ix2 ⟨(j 0).val, b0⟩ ⟨(j 1).val, b1⟩)) ?_
    · funext a; match a with
        | ⟨0, _⟩ => rfl
        | ⟨1, _⟩ => rfl
    exact (pay3_apply _ _ _ _).trans (Finset.sum_congr rfl fun k _ => congrArg₂ (fun x y : EReal => x * y) (block_0 m c _ _ k) (block_2 m c _ _ k _ rfl))
  · refine Eq.symm ?_
    refine Eq.trans (Cert.InProjReferenceIdeal.Read.val_main_v7_apply _ _ _) ?_
    refine product_apply _ _ _ _ _ ?_ ?_
    · show win0_5.index t 0 * 2176 + 1 * (j 0).val = (j 0).val; rw [e0]; omega
    · show 6656 + (win0_5.index t 1 * 128 + 1 * (j 1).val) = 6656 + (j 1).val; rw [e1]; omega

theorem arr_5 : (dats m 0 c).arrAt 5 cfg0.N = Cert.InProjReferenceIdeal.Read.val_main_v7 (F := Ideal) (rowsOf m c) (weightsOf m c) :=
  (dats m 0 c).arrAt_eq_of_cover 5 _ (read_5 m c) fun i => by
    have hN : cfg0.N = 13 := N_0
    have b0 : (i 0).val < 2176 := (i 0).isLt
    have b1 : (i 1).val < 128 := (i 1).isLt
    obtain ⟨t, ht⟩ : ∃ t : Fin cfg0.N, t.val = 12 := ⟨⟨_, by omega⟩, rfl⟩
    obtain ⟨e0, e1⟩ := index_5 t
    refine ⟨t, (flush5_iff t).mpr (by omega), ?_⟩
    show i ∈ ((View.whole main_v0_2).slice (win0_5.rect t)).set
    rw [View.set_slice_whole, Rect.mem_set_unit]
    intro x
    match x with
      | ⟨0, _⟩ =>
        show win0_5.index t 0 * 2176 ≤ (i 0).val ∧ (i 0).val < win0_5.index t 0 * 2176 + 2176
        rw [e0]; omega
      | ⟨1, _⟩ =>
        show win0_5.index t 1 * 128 ≤ (i 1).val ∧ (i 1).val < win0_5.index t 1 * 128 + 128
        rw [e1]; omega

/-! ## The claims -/

theorem frame_ideal : Cert.quiescent_InProjIdeal := fun m ρ _ => framed m ρ

/-- The kernel bodies of the two printed programs are the same table. -/
theorem bodies_eq : @Cert.InProj.defs₀ Bits _ _ = @Cert.InProjIdeal.defs₀ Bits _ _ := by
  unfold Cert.InProj.defs₀ Cert.InProjIdeal.defs₀
  refine congrArg Defs.onTc (funext fun l => funext fun x => ?_)
  match l, x with
    | 0, (_, _) => rfl

theorem defs_eq : @Cert.InProj.defs Bits _ _ = @Cert.InProjIdeal.defs Bits _ _ := by
  unfold Cert.InProj.defs Cert.InProjIdeal.defs
  exact congrArg (Pipeline.defs (@Cert.InProjIdeal.pcfgs Bits _)) bodies_eq

theorem frame_bits : Cert.quiescent_InProj := fun m ρ _ => by
  rw [defs_eq]
  exact framed (F := Bits) m ρ

theorem frame_reference : Cert.quiescent_InProjReferenceIdeal := fun m ρ _ =>
  (θ_run Cert.InProjReferenceIdeal.defs _ _).mono
    (fun r h => ⟨fun c => (h c).2.2.2, sem_eq_zero_of_no_sems (by decide) r.2⟩) (Cert.InProjReferenceIdeal.Value.run m ρ)

theorem algebraic : Cert.algebraic_InProjIdeal_InProjReferenceIdeal := by
  intro m g m' g' _ hargs
  refine ⟨fun c => Cert.InProjReferenceIdeal.Read.val_main_v5 (F := Ideal) (rowsOf m c) (weightsOf m c),
    fun c => Cert.InProjReferenceIdeal.Read.val_main_v6 (F := Ideal) (rowsOf m c) (weightsOf m c),
    fun c => Cert.InProjReferenceIdeal.Read.val_main_v7 (F := Ideal) (rowsOf m c) (weightsOf m c), ?_, ?_⟩
  · refine (θ_run Cert.InProjIdeal.defs _ _).mono (fun r h c => ?_) (θ_run_and (runs (F := Ideal) m g) (framed (F := Ideal) m g))
    exact ⟨((h.1.1 c).1 3).trans (arr_3 m c), ((h.1.1 c).1 4).trans (arr_4 m c), ((h.1.1 c).1 5).trans (arr_5 m c), h.2.1 c⟩
  · refine (θ_run Cert.InProjReferenceIdeal.defs _ _).mono (fun r h c => ?_) (Cert.InProjReferenceIdeal.Value.run (F := Ideal) m' g')
    obtain ⟨a0, a1⟩ := hargs c
    refine ⟨(h c).1.trans ?_, (h c).2.1.trans ?_, (h c).2.2.1.trans ?_, (h c).2.2.2⟩
    · rw [Cert.InProjReferenceIdeal.Read.val_main_v5_eq, a0, a1]
    · rw [Cert.InProjReferenceIdeal.Read.val_main_v6_eq, a0, a1]
    · rw [Cert.InProjReferenceIdeal.Read.val_main_v7_eq, a0, a1]

end Cert.InProjIdeal.Run

end

end
-- ==== Proof.GradWRing.lean ====
/- The input projection's weight gradient: the two buffers its windows of columns stream through. What is held of the
   buffers, of their counters and of the streamed array between two points, and how the launch's pieces make it up. -/
module

public import proofs.«01_k».proof.Proof.Gen.GradWIdeal.Skeleton
public import proofs.«01_k».proof.Proof.Gen.GradWIdeal.Frame
public import proofs.«01_k».proof.Proof.Returns
public import Idealize.ShloMosaic.Lib.VecWindow
public import Idealize.ShloMosaic.Lib.Ring
public import Idealize.ShloMosaic.Lib.Claim
public import Idealize.ShloMosaic.Lib.Pipeline.FrameBody

@[expose] public section

set_option maxRecDepth 16384

noncomputable section

namespace Cert.GradWIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GradWIdeal.Gen

variable {F : FTy → Type} [FloatOps F]

local notation "𝕄" => MT nD τ sig Unit (Elt F) ℕ (Pipeline.UD sig nD τ) ℕ

instance : NeZero grid0.N := ⟨by rw [N_0]; decide⟩

/-! ## The two slots, their counters, the windows of columns -/

/-- The first column of window `b`. -/
def start (b : ℕ) : ℕ := 1664 * (b / 2) + 896 * (b % 2)

abbrev bufM : Memref sig .tc .vmem S2x2176x896 .bf16 := Memref.whole cc0_scratch0
abbrev gradM : Memref sig .tc .hbm S2176x6784 .bf16 := Memref.whole main_arg1

theorem slot_fits (s : Fin 2) : ∀ a, (![s.val, 0, 0] : Fin 3 → ℕ) a + S1x2176x896.size a ≤ S2x2176x896.size a := by
  have h := s.isLt
  intro a
  match a with
    | ⟨0, _⟩ => show s.val + 1 ≤ 2; omega
    | ⟨1, _⟩ => exact Nat.le_of_eq (Nat.zero_add _)
    | ⟨2, _⟩ => exact Nat.le_of_eq (Nat.zero_add _)

theorem cols_fit (b : Fin 8) : ∀ a, (![0, start b.val] : Fin 2 → ℕ) a + S2176x896.size a ≤ S2176x6784.size a := by
  have h := b.isLt
  intro a
  match a with
    | ⟨0, _⟩ => exact Nat.le_of_eq (Nat.zero_add _)
    | ⟨1, _⟩ => show 1664 * (b.val / 2) + 896 * (b.val % 2) + 896 ≤ 6784; omega

theorem counter_fits (s : Fin 2) : ∀ a, (![s.val] : Fin 1 → ℕ) a + S1.size a ≤ S2.size a := by
  have h := s.isLt
  intro a
  match a with
    | ⟨0, _⟩ => show s.val + 1 ≤ 2; omega

/-- Slot `s` of the buffer, window `b` of the streamed array, counter `s`. -/
def slotM (s : Fin 2) : Memref sig .tc .vmem S2176x896 .bf16 :=
  (bufM.slice (Rect.unit (s := S2x2176x896) ![s.val, 0, 0] S1x2176x896.size (slot_fits s)) (fun _ => rfl)).squeeze S2176x896 squeezes_S1x2176x896_S2176x896
def colsM (b : Fin 8) : Memref sig .tc .hbm S2176x896 .bf16 :=
  gradM.slice (Rect.unit (s := S2176x6784) ![0, start b.val] S2176x896.size (cols_fit b)) (fun _ => rfl)
def counterA (s : Fin 2) : DmaSems sig S_ :=
  (cc0_scratch1.slice (Rect.unit (s := S2) ![s.val] S1.size (counter_fits s))).squeeze S_ squeezes_S1_S_
abbrev counterL (s : Fin 2) : SemLoc sig := SemLoc.dma (counterA s).sem

theorem counter_zero : counterL 0 = SemLoc.dma 3 := by decide
theorem counter_one : counterL 1 = SemLoc.dma 4 := by decide

/-- The contents of the buffer a memory reference names, on core `c`. -/
abbrev Held (c : Dev nD) {sp : Space} {S : Shape} {e : EltTy} (M : Memref sig .tc sp S e) : Type := Buf (Elt F) (M.view.loc (c : Thread nD τ))

section Pieces

variable (c : Dev nD) (W : Held (F := F) c gradM)

/-- Half of the streamed array's share lends to each slot's transfers, so that two windows in flight may overlap. -/
abbrev half (s : Fin 2) : PosShare TreeShare := if s.val = 0 then fullShare.left else fullShare.right

abbrev slotHas (s : Fin 2) (f : Held (F := F) c (slotM s)) : sProp 𝕄 :=
  (slotM s).view.loc (c : Thread nD τ) ↦[(slotM s).view.set]{fullShare} f
abbrev idleCounter (s : Fin 2) : sProp 𝕄 := semVal ((c : Thread nD τ), counterL s) 0
abbrev lent (s : Fin 2) (b : Fin 8) : sProp 𝕄 := (colsM b).view.loc (c : Thread nD τ) ↦[(colsM b).view.set]{half s} W
def unlent (s : Fin 2) (b : Fin 8) : sProp 𝕄 := ((c : Thread nD τ).loc main_arg1) ↦[Finset.univ \ (colsM b).view.set]{half s} W
abbrev wholeHalf (s : Fin 2) : sProp 𝕄 := ((c : Thread nD τ).loc main_arg1) ↦[Finset.univ]{half s} W
/-- Slot `s` once window `b` has arrived in it. -/
abbrev arrived (s : Fin 2) (b : Fin 8) (f : Held (F := F) c (slotM s)) : Held (F := F) c (slotM s) :=
  (slotM s).view.writes (Elt F) f [⟨Rect.whole S2176x896, ReadAs.same.apply ((colsM b).view.read (Elt F) W)⟩]
abbrev underWay (s : Fin 2) (b : Fin 8) (f : Held (F := F) c (slotM s)) : sProp 𝕄 :=
  Transfers.Flight countersEmb (c : Thread nD τ) (counterL s) default ((slotM s).view.amount (counterL s))
    iprop(slotHas c s (arrived c W s b f) ∗ lent c W s b)

/-- A slot nothing is under way into, with its half of the streamed array. -/
abbrev free (s : Fin 2) : sProp 𝕄 := iprop(idleCounter c s ∗ (∃ f, slotHas c s f) ∗ wholeHalf c W s)
/-- A slot window `b` is under way into. -/
abbrev busy (s : Fin 2) (b : Fin 8) : sProp 𝕄 := iprop((∃ f, underWay c W s b f) ∗ unlent c W s b)

/-- What is held before point `k`: from the second point on, window `k` is under way into slot `k`. -/
def between (k : ℕ) : sProp 𝕄 :=
  if k = 0 ∨ 8 ≤ k then iprop(free c W 0 ∗ free c W 1)
  else iprop(busy c W (Ring.sl 2 k) (Ring.bk 8 k) ∗ free c W (Ring.sl 2 (k + 1)))

theorem between_start : between c W 0 = iprop(free c W 0 ∗ free c W 1) := if_pos (.inl rfl)
theorem between_done {k : ℕ} (h : 8 ≤ k) : between c W k = iprop(free c W 0 ∗ free c W 1) := if_pos (.inr h)
theorem between_mid {k : ℕ} (h0 : k ≠ 0) (h8 : k < 8) :
    between c W k = iprop(busy c W (Ring.sl 2 k) (Ring.bk 8 k) ∗ free c W (Ring.sl 2 (k + 1))) := if_neg (by omega)

theorem half_split (s : Fin 2) (b : Fin 8) : wholeHalf c W s ⊣⊢ iprop(lent c W s b ∗ unlent c W s b) := by
  unfold unlent
  exact pointsTo_split_subset (Finset.subset_univ _)

theorem share_split : ((c : Thread nD τ).loc main_arg1 ↦{fullShare} W : sProp 𝕄) ⊣⊢ iprop(wholeHalf c W 0 ∗ wholeHalf c W 1) :=
  pointsTo_share (PosShare.mem_left_op_right fullShare)

end Pieces

/-! ## The slots make up the buffer -/

abbrev slotSet (s : Fin 2) : Finset S2x2176x896.Idx := (Rect.unit (s := S2x2176x896) ![s.val, 0, 0] S1x2176x896.size (slot_fits s)).set

theorem slotM_set (s : Fin 2) : (slotM s).view.set = slotSet s := by
  simp only [slotM, Memref.view_squeeze, View.set_reshape]
  exact View.set_slice_whole _ _

theorem slots_disjoint (s s' : Fin 2) (h : s ≠ s') : Disjoint (slotSet s) (slotSet s') :=
  Ring.lead_disjoint (s := S2x2176x896) (0 : Fin 3) 1 (fun s : Fin 2 => (![s.val, 0, 0] : Fin 3 → ℕ)) S1x2176x896.size slot_fits (fun s => by simp) rfl s s' h

theorem slots_cover : Finset.univ.biUnion slotSet = Finset.univ :=
  Ring.lead_cover (s := S2x2176x896) (0 : Fin 3) 1 (fun s : Fin 2 => (![s.val, 0, 0] : Fin 3 → ℕ)) S1x2176x896.size slot_fits (fun s => by simp)
    (fun s a ha => by match a with
      | ⟨0, _⟩ => exact absurd rfl ha
      | ⟨1, _⟩ => rfl
      | ⟨2, _⟩ => rfl) rfl
    (fun a ha => by match a with
      | ⟨0, _⟩ => exact absurd rfl ha
      | ⟨1, _⟩ => rfl
      | ⟨2, _⟩ => rfl) rfl

section Ends

variable (c : Dev nD)

theorem slotHas_eq (s : Fin 2) (f) : slotHas (F := F) c s f = (((c : Thread nD τ).loc cc0_scratch0) ↦[slotSet s]{fullShare} f : sProp 𝕄) := by
  unfold slotHas
  rw [slotM_set]
  rfl

theorem idle_zero : idleCounter (F := F) c 0 = semVal ((c : Thread nD τ), SemLoc.dma 3) 0 :=
  congrArg (fun x => (semVal ((c : Thread nD τ), x) 0 : sProp 𝕄)) counter_zero
theorem idle_one : idleCounter (F := F) c 1 = semVal ((c : Thread nD τ), SemLoc.dma 4) 0 :=
  congrArg (fun x => (semVal ((c : Thread nD τ), x) 0 : sProp 𝕄)) counter_one

/-- The launch's pieces: the buffer, the two counters at zero, the streamed array. -/
abbrev pieces (W : Held (F := F) c gradM) : sProp 𝕄 :=
  iprop((∃ d, owns (c : Thread nD τ) bufM fullShare d) ∗ (semVal ((c : Thread nD τ), SemLoc.dma 3) 0 ∗ semVal ((c : Thread nD τ), SemLoc.dma 4) 0)
    ∗ ((c : Thread nD τ).loc main_arg1 ↦{fullShare} W))

set_option maxHeartbeats 1000000 in
theorem slots_in : iprop(∃ d, owns (c : Thread nD τ) bufM fullShare d) ⊢ (iprop((∃ f, slotHas (F := F) c 0 f) ∗ ∃ f, slotHas (F := F) c 1 f) : sProp 𝕄) := by
  simp only [bufM, owns_whole]
  exact Ring.slots2_split (U := Pipeline.UD sig nD τ) (ℓ := (c : Thread nD τ).loc cc0_scratch0) (q := fullShare) slotSet slots_disjoint slots_cover
    (slotHas c 0) (slotHas c 1) (slotHas_eq c 0) (slotHas_eq c 1)

set_option maxHeartbeats 1000000 in
theorem slots_out : (iprop((∃ f, slotHas (F := F) c 0 f) ∗ ∃ f, slotHas (F := F) c 1 f) : sProp 𝕄) ⊢ iprop(∃ d, owns (c : Thread nD τ) bufM fullShare d) := by
  simp only [bufM, owns_whole]
  exact Ring.slots2_join (U := Pipeline.UD sig nD τ) (ℓ := (c : Thread nD τ).loc cc0_scratch0) (q := fullShare) slotSet slots_disjoint slots_cover
    (slotHas c 0) (slotHas c 1) (slotHas_eq c 0) (slotHas_eq c 1)

theorem free_of_pieces (W : Held (F := F) c gradM) : pieces c W ⊢ iprop(free c W 0 ∗ free c W 1) := by
  unfold free pieces
  rw [idle_zero, idle_one]
  iintro ⟨HB, ⟨H3, H4⟩, HW⟩
  ihave HB' := (slots_in (F := F) c) $$ HB
  icases HB' with ⟨HS0, HS1⟩
  ihave HW' := (share_split (F := F) c W).1 $$ HW
  icases HW' with ⟨HW0, HW1⟩
  isplitl [H3 HS0 HW0]
  · isplitl [H3]; · iexact H3
    isplitl [HS0]; · iexact HS0
    iexact HW0
  · isplitl [H4]; · iexact H4
    isplitl [HS1]; · iexact HS1
    iexact HW1

theorem pieces_of_free (W : Held (F := F) c gradM) : iprop(free c W 0 ∗ free c W 1) ⊢ pieces c W := by
  unfold free pieces
  rw [idle_zero, idle_one]
  iintro ⟨⟨H3, HS0, HW0⟩, ⟨H4, HS1, HW1⟩⟩
  isplitl [HS0 HS1]
  · iapply (slots_out (F := F) c)
    isplitl [HS0]; · iexact HS0
    iexact HS1
  isplitl [H3 H4]
  · isplitl [H3]; · iexact H3
    iexact H4
  iapply (share_split (F := F) c W).2
  isplitl [HW0]; · iexact HW0
  iexact HW1

end Ends

/-! ## The body's operands at a point, by slot and window -/

theorem first_iff : ∀ t : Fin grid0.N, k0_cond1 (grid0.coords t) = 1#1 ↔ t.val = 0 := by decide +kernel
theorem more_iff : ∀ t : Fin grid0.N, k0_cond2 (grid0.coords t) = 1#1 ↔ t.val < 7 := by decide +kernel

section Names

omit [FloatOps F]

theorem offset_first : ∀ t : Fin grid0.N, k0_cond1 (grid0.coords t) = 1#1 →
    (![0, 0, 0] : Fin 3 → ℕ) = ![(Ring.sl 2 t.val).val, 0, 0] ∧ (![0] : Fin 1 → ℕ) = ![(Ring.sl 2 t.val).val]
      ∧ (![0, 0] : Fin 2 → ℕ) = ![0, start (Ring.bk 8 t.val).val] := by decide +kernel
theorem offset_next : ∀ t : Fin grid0.N, k0_off2 (grid0.coords t) = ![(Ring.sl 2 (t.val + 1)).val, 0, 0]
    ∧ k0_off1 (grid0.coords t) = ![(Ring.sl 2 (t.val + 1)).val] := by decide +kernel
theorem offset_more : ∀ t : Fin grid0.N, k0_cond2 (grid0.coords t) = 1#1 → k0_off3 (grid0.coords t) = ![0, start (Ring.bk 8 (t.val + 1)).val] := by decide +kernel
theorem offset_here : ∀ t : Fin grid0.N, k0_off5 (grid0.coords t) = ![(Ring.sl 2 t.val).val, 0, 0] ∧ k0_off4 (grid0.coords t) = ![(Ring.sl 2 t.val).val]
    ∧ k0_off7 (grid0.coords t) = ![(Ring.sl 2 t.val).val, 0, 0] := by decide +kernel

@[sl_canon] theorem name_first_slot (t : Fin grid0.N) (h : k0_cond1 (grid0.coords t) = 1#1) :
    (bufM.slice (Rect.unit (s := S2x2176x896) ![0, 0, 0] S1x2176x896.size inb_S2x2176x896_S1x2176x896_0_0_0) (fun _ => rfl)).squeeze S2176x896 squeezes_S1x2176x896_S2176x896 = slotM (Ring.sl 2 t.val) :=
  congrArg (fun M : Memref sig .tc .vmem S1x2176x896 .bf16 => M.squeeze S2176x896 squeezes_S1x2176x896_S2176x896) (Memref.slice_unit_congr _ (offset_first t h).1 _ _ (fun _ => rfl) (fun _ => rfl))
@[sl_canon] theorem name_first_counter (t : Fin grid0.N) (h : k0_cond1 (grid0.coords t) = 1#1) :
    (cc0_scratch1.slice (Rect.unit (s := S2) ![0] S1.size inb_S2_S1_0)).squeeze S_ squeezes_S1_S_ = counterA (Ring.sl 2 t.val) :=
  congrArg (fun A : DmaSems sig S1 => A.squeeze S_ squeezes_S1_S_) (SemArray.slice_unit_congr _ (offset_first t h).2.1 _ _)
@[sl_canon] theorem name_first_cols (t : Fin grid0.N) (h : k0_cond1 (grid0.coords t) = 1#1) :
    gradM.slice (Rect.unit (s := S2176x6784) ![0, 0] S2176x896.size inb_S2176x6784_S2176x896_0_0) (fun _ => rfl) = colsM (Ring.bk 8 t.val) :=
  Memref.slice_unit_congr _ (offset_first t h).2.2 _ _ (fun _ => rfl) (fun _ => rfl)
@[sl_canon] theorem name_next_slot (t : Fin grid0.N) (h : k0_cond2 (grid0.coords t) = 1#1) :
    (bufM.slice (Rect.unit (s := S2x2176x896) (k0_off2 (grid0.coords t)) S1x2176x896.size (k0_off2_inb (grid0.coords t) h)) (fun _ => rfl)).squeeze S2176x896 squeezes_S1x2176x896_S2176x896 = slotM (Ring.sl 2 (t.val + 1)) :=
  congrArg (fun M : Memref sig .tc .vmem S1x2176x896 .bf16 => M.squeeze S2176x896 squeezes_S1x2176x896_S2176x896) (Memref.slice_unit_congr _ (offset_next t).1 _ _ (fun _ => rfl) (fun _ => rfl))
@[sl_canon] theorem name_next_counter (t : Fin grid0.N) (h : k0_cond2 (grid0.coords t) = 1#1) :
    (cc0_scratch1.slice (Rect.unit (s := S2) (k0_off1 (grid0.coords t)) S1.size (k0_off1_inb (grid0.coords t) h))).squeeze S_ squeezes_S1_S_ = counterA (Ring.sl 2 (t.val + 1)) :=
  congrArg (fun A : DmaSems sig S1 => A.squeeze S_ squeezes_S1_S_) (SemArray.slice_unit_congr _ (offset_next t).2 _ _)
@[sl_canon] theorem name_next_cols (t : Fin grid0.N) (h : k0_cond2 (grid0.coords t) = 1#1) :
    gradM.slice (Rect.unit (s := S2176x6784) (k0_off3 (grid0.coords t)) S2176x896.size (k0_off3_inb (grid0.coords t) h)) (fun _ => rfl) = colsM (Ring.bk 8 (t.val + 1)) :=
  Memref.slice_unit_congr _ (offset_more t h) _ _ (fun _ => rfl) (fun _ => rfl)
@[sl_canon] theorem name_slot (t : Fin grid0.N) :
    (bufM.slice (Rect.unit (s := S2x2176x896) (k0_off5 (grid0.coords t)) S1x2176x896.size (k0_off5_inb (grid0.coords t))) (fun _ => rfl)).squeeze S2176x896 squeezes_S1x2176x896_S2176x896 = slotM (Ring.sl 2 t.val) :=
  congrArg (fun M : Memref sig .tc .vmem S1x2176x896 .bf16 => M.squeeze S2176x896 squeezes_S1x2176x896_S2176x896) (Memref.slice_unit_congr _ (offset_here t).1 _ _ (fun _ => rfl) (fun _ => rfl))
@[sl_canon] theorem name_counter (t : Fin grid0.N) :
    (cc0_scratch1.slice (Rect.unit (s := S2) (k0_off4 (grid0.coords t)) S1.size (k0_off4_inb (grid0.coords t)))).squeeze S_ squeezes_S1_S_ = counterA (Ring.sl 2 t.val) :=
  congrArg (fun A : DmaSems sig S1 => A.squeeze S_ squeezes_S1_S_) (SemArray.slice_unit_congr _ (offset_here t).2.1 _ _)
/-- The load of a point reads the slot of the point. -/
instance (priority := high) closed_load (t : Fin grid0.N) : ClosedOff (k0_off7 (grid0.coords t)) := ⟨![(Ring.sl 2 t.val).val, 0, 0], (offset_here t).2.2⟩

end Names

/-! ## What a point's load reads -/

/-- The slot's layout as the load sees it: one more axis, of one element. -/
def flat (x : S2176x896.Idx → Elt F .bf16) : Vec F S1x2176x896 .bf16 :=
  fun y => x ((Shape.reshapeEquiv squeezes_S1x2176x896_S2176x896.numel_eq).symm y)

/-- A load of slot `s`, filled whole with `x`, reads `x`. -/
theorem load_slot (s : Fin 2) {off : Fin 3 → ℕ} (h : off = ![s.val, 0, 0]) (inb : ∀ a, off a + S1x2176x896.size a ≤ S2x2176x896.size a)
    (f : (slotM s).view.ty.Contents (Elt F)) (x : S2176x896.Idx → Elt F .bf16) :
    bufM.view.readAt (Elt F) (Rect.unit (s := S2x2176x896) off S1x2176x896.size inb).toLoadRect ((slotM s).view.writes (Elt F) f [⟨Rect.whole S2176x896, x⟩])
      = flat x := by
  subst h
  have hr := View.read_writes_whole (Val := Elt F) (slotM s).view f x
  funext y
  refine Eq.trans ?_ (congrFun hr ((Shape.reshapeEquiv squeezes_S1x2176x896_S2176x896.numel_eq).symm y))
  generalize (slotM s).view.writes (Elt F) f [⟨Rect.whole S2176x896, x⟩] = G
  show _ = (bufM.slice _ _).view.read (Elt F) G ((Shape.reshapeEquiv _) ((Shape.reshapeEquiv _).symm y))
  rw [Equiv.apply_symm_apply]
  rfl

/-! ## The body, in its three cases -/

section Body

variable (c : Dev nD) (t : Fin cfg0.N) (arg1 : Memref sig .tc .vmem S1024x2176 .bf16) (harg1 : arg1.IsWhole) (arg3 : Memref sig .tc .vmem S1x1024x896 .bf16) (harg3 : arg3.IsWhole)
  (x0 : Vec F S1024x2176 .bf16) (g : Held (F := F) c gradM)

set_option maxHeartbeats 1000000 in
/-- A point between: the next window is started, the point's own is waited for and used. -/
theorem run_middle (h1 : ¬ k0_cond1 (grid0.coords t) = 1#1) (h2 : k0_cond2 (grid0.coords t) = 1#1) (W : Waits sig Unit) (K : PUnit → sProp 𝕄) :
    iprop(owns (c : Thread nD τ) arg1 fullShare x0 ∗ (∃ d, owns (c : Thread nD τ) arg3 fullShare d) ∗ busy c g (Ring.sl 2 t.val) (Ring.bk 8 t.val) ∗ free c g (Ring.sl 2 (t.val + 1)) ∗ owes (c : Thread nD τ) 0 W
        ∗ (iprop(owns (c : Thread nD τ) arg1 fullShare x0 ∗ owns (c : Thread nD τ) arg3 fullShare (k0_pay1 x0 (flat ((colsM (Ring.bk 8 t.val)).view.read (Elt F) g))) ∗ busy c g (Ring.sl 2 (t.val + 1)) (Ring.bk 8 (t.val + 1)) ∗ free c g (Ring.sl 2 t.val) ∗ (∃ W', owes (c : Thread nD τ) 0 W')) -∗ K ⟨⟩))
      ⊢ wp frame (wpE (defs₀ (F := F)) Variants.none c none) Set.univ (cc0_grad_w_in (grid0.coords t) arg1 harg1 (Memref.whole main_arg1) (Memref.isWhole_whole _) arg3 harg3 bufM (Memref.isWhole_whole _) cc0_scratch1) K := by
  haveI : Fact (¬ k0_cond1 (grid0.coords t) = 1#1) := ⟨h1⟩
  haveI : Fact (k0_cond2 (grid0.coords t) = 1#1) := ⟨h2⟩
  simp only [cc0_grad_w_in_eq_skeleton]; unfold cc0_grad_w_in_skel
  simp only [k0_part1_eq_skeleton]
  unfold owns busy free underWay
  iintro ⟨⟨%f0, %hf0, H0⟩, ⟨%d1, %f1, -, H1⟩, ⟨⟨%fa, HF⟩, HU⟩, ⟨HC, ⟨%fb, HS⟩, HH⟩, HW, Hk⟩
  ihave HH' := (half_split c g (Ring.sl 2 (t.val + 1)) (Ring.bk 8 (t.val + 1))).1 $$ HH
  icases HH' with ⟨HL, HR⟩
  obtain rfl := harg1.eq_unread hf0
  sl_exec (disch := first | sl_exact h1 | sl_exact h2)
  rw [name_counter t]
  sl_exec (disch := first | sl_exact h1 | sl_exact h2)
  sl_step
  iapply Hk
  isplitl [H0]
  · iexists _; isplitr; · ipureintro; exact harg1.read_unread _
    iexact H0
  isplitl [H1]
  · iexists _; isplitr; swap; · iexact H1
    ipureintro
    rw [View.read_writes_full, View.readAt_full, harg1.read_unread]
    refine congrArg (k0_pay1 x0) ?_
    delta run_middle.sl.v56
    exact load_slot _ (offset_here t).2.2 _ _ _
  isplitl [HC HR]
  · isplitl [HC]
    · iexists _; iexact HC
    iexact HR
  isplitl [HF HF_dst HF_src HU]
  · isplitl [HF]; · iexact HF
    isplitl [HF_dst]; · iexists _; iexact HF_dst
    iapply (half_split c g (Ring.sl 2 t.val) (Ring.bk 8 t.val)).2
    isplitl [HF_src]; · iexact HF_src
    iexact HU
  iexists _; iexact HW

set_option maxHeartbeats 1000000 in
/-- The first point: its own window and the next are started, the point's own is waited for and used. -/
theorem run_first (h1 : k0_cond1 (grid0.coords t) = 1#1) (h2 : k0_cond2 (grid0.coords t) = 1#1) (W : Waits sig Unit) (K : PUnit → sProp 𝕄) :
    iprop(owns (c : Thread nD τ) arg1 fullShare x0 ∗ (∃ d, owns (c : Thread nD τ) arg3 fullShare d) ∗ free c g (Ring.sl 2 t.val) ∗ free c g (Ring.sl 2 (t.val + 1)) ∗ owes (c : Thread nD τ) 0 W
        ∗ (iprop(owns (c : Thread nD τ) arg1 fullShare x0 ∗ owns (c : Thread nD τ) arg3 fullShare (k0_pay1 x0 (flat ((colsM (Ring.bk 8 t.val)).view.read (Elt F) g))) ∗ busy c g (Ring.sl 2 (t.val + 1)) (Ring.bk 8 (t.val + 1)) ∗ free c g (Ring.sl 2 t.val) ∗ (∃ W', owes (c : Thread nD τ) 0 W')) -∗ K ⟨⟩))
      ⊢ wp frame (wpE (defs₀ (F := F)) Variants.none c none) Set.univ (cc0_grad_w_in (grid0.coords t) arg1 harg1 (Memref.whole main_arg1) (Memref.isWhole_whole _) arg3 harg3 bufM (Memref.isWhole_whole _) cc0_scratch1) K := by
  haveI : Fact (k0_cond1 (grid0.coords t) = 1#1) := ⟨h1⟩
  haveI : Fact (k0_cond2 (grid0.coords t) = 1#1) := ⟨h2⟩
  simp only [cc0_grad_w_in_eq_skeleton]; unfold cc0_grad_w_in_skel
  simp only [k0_part1_eq_skeleton]
  unfold owns busy free underWay
  iintro ⟨⟨%f0, %hf0, H0⟩, ⟨%d1, %f1, -, H1⟩, ⟨HF, ⟨%fa, HS0⟩, HH0⟩, ⟨HC, ⟨%fb, HS⟩, HH⟩, HW, Hk⟩
  ihave HH' := (half_split c g (Ring.sl 2 (t.val + 1)) (Ring.bk 8 (t.val + 1))).1 $$ HH
  icases HH' with ⟨HL, HR⟩
  ihave HH0' := (half_split c g (Ring.sl 2 t.val) (Ring.bk 8 t.val)).1 $$ HH0
  icases HH0' with ⟨HL0, HU⟩
  obtain rfl := harg1.eq_unread hf0
  sl_exec (disch := first | sl_exact h1 | sl_exact h2)
  rw [name_counter t]
  sl_exec (disch := first | sl_exact h1 | sl_exact h2)
  sl_step
  iapply Hk
  isplitl [H0]
  · iexists _; isplitr; · ipureintro; exact harg1.read_unread _
    iexact H0
  isplitl [H1]
  · iexists _; isplitr; swap; · iexact H1
    ipureintro
    rw [View.read_writes_full, View.readAt_full, harg1.read_unread]
    refine congrArg (k0_pay1 x0) ?_
    delta run_first.sl.v56
    exact load_slot _ (offset_here t).2.2 _ _ _
  isplitl [HC HR]
  · isplitl [HC]
    · iexists _; iexact HC
    iexact HR
  isplitl [HF HS0 HL0 HU]
  · isplitl [HF]; · iexact HF
    isplitl [HS0]; · iexists _; iexact HS0
    iapply (half_split c g (Ring.sl 2 t.val) (Ring.bk 8 t.val)).2
    isplitl [HL0]; · iexact HL0
    iexact HU
  iexists _; iexact HW

set_option maxHeartbeats 1000000 in
/-- The last point: its own window is waited for and used, and none is started. -/
theorem run_last (h1 : ¬ k0_cond1 (grid0.coords t) = 1#1) (h2 : ¬ k0_cond2 (grid0.coords t) = 1#1) (W : Waits sig Unit) (K : PUnit → sProp 𝕄) :
    iprop(owns (c : Thread nD τ) arg1 fullShare x0 ∗ (∃ d, owns (c : Thread nD τ) arg3 fullShare d) ∗ busy c g (Ring.sl 2 t.val) (Ring.bk 8 t.val) ∗ owes (c : Thread nD τ) 0 W
        ∗ (iprop(owns (c : Thread nD τ) arg1 fullShare x0 ∗ owns (c : Thread nD τ) arg3 fullShare (k0_pay1 x0 (flat ((colsM (Ring.bk 8 t.val)).view.read (Elt F) g))) ∗ free c g (Ring.sl 2 t.val) ∗ (∃ W', owes (c : Thread nD τ) 0 W')) -∗ K ⟨⟩))
      ⊢ wp frame (wpE (defs₀ (F := F)) Variants.none c none) Set.univ (cc0_grad_w_in (grid0.coords t) arg1 harg1 (Memref.whole main_arg1) (Memref.isWhole_whole _) arg3 harg3 bufM (Memref.isWhole_whole _) cc0_scratch1) K := by
  haveI : Fact (¬ k0_cond1 (grid0.coords t) = 1#1) := ⟨h1⟩
  haveI : Fact (¬ k0_cond2 (grid0.coords t) = 1#1) := ⟨h2⟩
  simp only [cc0_grad_w_in_eq_skeleton]; unfold cc0_grad_w_in_skel
  simp only [k0_part1_eq_skeleton]
  unfold owns busy free underWay
  iintro ⟨⟨%f0, %hf0, H0⟩, ⟨%d1, %f1, -, H1⟩, ⟨⟨%fa, HF⟩, HU⟩, HW, Hk⟩
  obtain rfl := harg1.eq_unread hf0
  sl_exec (disch := first | sl_exact h1 | sl_exact h2)
  rw [name_counter t]
  sl_exec (disch := first | sl_exact h1 | sl_exact h2)
  sl_step
  iapply Hk
  isplitl [H0]
  · iexists _; isplitr; · ipureintro; exact harg1.read_unread _
    iexact H0
  isplitl [H1]
  · iexists _; isplitr; swap; · iexact H1
    ipureintro
    rw [View.read_writes_full, View.readAt_full, harg1.read_unread]
    refine congrArg (k0_pay1 x0) ?_
    delta run_last.sl.v56
    exact load_slot _ (offset_here t).2.2 _ _ _
  isplitl [HF HF_dst HF_src HU]
  · isplitl [HF]; · iexact HF
    isplitl [HF_dst]; · iexists _; iexact HF_dst
    iapply (half_split c g (Ring.sl 2 t.val) (Ring.bk 8 t.val)).2
    isplitl [HF_src]; · iexact HF_src
    iexact HU
  iexists _; iexact HW

end Body

end Cert.GradWIdeal.Run

end

end
-- ==== Proof.GradWRun.lean ====
/- The input projection's weight gradient, run: the proof data, the body's obligation at every point, and from the launch
   the frame with the counters at zero. Over any floats. -/
module

public import proofs.«01_k».proof.Proof.GradWRing
public import Idealize.ShloMosaic.Lib.Claim
public import Idealize.ShloMosaic.Lib.Pipeline.FrameBody

@[expose] public section

set_option maxRecDepth 16384

noncomputable section

namespace Cert.GradWIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GradWIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- Window `t` of the streamed array as it was launched. -/
def streamed (c : Dev nD) (t : Fin cfg0.N) : S2176x896.Idx → Elt F .bf16 := (colsM (Ring.bk 8 t.val)).view.read (Elt F) (V m c main_arg1)

/-- Held between points: the generator's register, and what `between` lists. -/
def held (c : Dev nD) (k : ℕ) : sProp 𝕄 := iprop((∃ r, prngReg c r) ∗ between c (V m c main_arg1) k)

/-- The first operand keeps its block; each point leaves its product in the output's buffer. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => k0_pay1 (iblk m c 0 t) (flat (streamed m c t))
  Φ t := held m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = k0_pay1 (iblk m c 0 t) (flat (streamed m c t)) := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)

theorem lt_N (t : Fin cfg0.N) : t.val < 8 := lt_of_lt_of_eq t.isLt (show cfg0.N = 8 from N_0)

theorem held_before (c : Dev nD) (t : Fin cfg0.N) : (dats m 0 c).Φ t.castSucc = held m c t.val := by
  dsimp only [dats]; rw [Fin.val_castSucc]
theorem held_after (c : Dev nD) (t : Fin cfg0.N) : (dats m 0 c).Φ t.succ = held m c (t.val + 1) := by
  dsimp only [dats]; rw [Fin.val_succ]

/-! ## The body's obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ ∗ Rets.ret (dats m 0 c) 0 t ∗ Rets.ret (dats m 0 c) 1 t)

/-- The two slots free, whichever of them a point calls its own. -/
theorem free_any (c : Dev nD) (W : Held (F := F) c gradM) (k : ℕ) :
    iprop(free c W (Ring.sl 2 k) ∗ free c W (Ring.sl 2 (k + 1))) ⊢ iprop(free c W 0 ∗ free c W 1) := by
  by_cases h : k % 2 = 0
  · rw [show Ring.sl 2 k = 0 from Fin.ext h, show Ring.sl 2 (k + 1) = 1 from Fin.ext (show (k + 1) % 2 = 1 by omega)]
  · rw [show Ring.sl 2 k = 1 from Fin.ext (show k % 2 = 1 by omega), show Ring.sl 2 (k + 1) = 0 from Fin.ext (show (k + 1) % 2 = 0 by omega)]
    iintro ⟨H1, H0⟩
    isplitl [H0]; · iexact H0
    iexact H1

theorem next_next (k : ℕ) : Ring.sl 2 (k + 1 + 1) = Ring.sl 2 k := Fin.ext (show (k + 1 + 1) % 2 = k % 2 by omega)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  have hN := lt_N t
  unfold bodyPre bodyPost
  simp only [before0]
  rw [Rets.ret_live (dats m 0 c) (w := 0) (t := t) rfl, Rets.ret_live (dats m 0 c) (w := 1) (t := t) rfl, after0, after1, held_before, held_after]
  unfold Dat.owesAt Pipeline.owesWithin held streamed
  rw [show (dats m 0 c).owed t.castSucc = 0 from rfl, show (dats m 0 c).owed t.succ = 0 from rfl]
  by_cases h7 : t.val < 7
  · rw [between_mid c _ (k := t.val + 1) (Nat.succ_ne_zero _) (by omega), next_next]
    by_cases h0 : t.val = 0
    · rw [show between c (V m c main_arg1) t.val = iprop(free c (V m c main_arg1) (Ring.sl 2 t.val) ∗ free c (V m c main_arg1) (Ring.sl 2 (t.val + 1))) by rw [h0]; exact between_start c _]
      iintro ⟨⟨Hg, ⟨HA, HB⟩⟩, ⟨%W, -, HW⟩, ⟨%d0, H0⟩, ⟨%d1, H1⟩⟩
      iapply (run_first c t _ _ _ _ (iblk m c 0 t) (V m c main_arg1) ((first_iff t).mpr h0) ((more_iff t).mpr h7) W _)
      isplitl [H0]; · iexact H0
      isplitl [H1]; · iexists _; iexact H1
      isplitl [HA]; · iexact HA
      isplitl [HB]; · iexact HB
      isplitl [HW]; · iexact HW
      iintro ⟨H0, H1, HA, HB, ⟨%W', HW⟩⟩
      isplitl [Hg HA HB]
      · isplitl [Hg]; · iexact Hg
        isplitl [HA]; · iexact HA
        iexact HB
      isplitl [HW]
      · iexists W'; isplitr; · ipureintro; exact fun _ _ => Or.inl trivial
        iexact HW
      isplitl [H0]; · iexact H0
      iexact H1
    · rw [between_mid c _ (k := t.val) h0 (by omega)]
      iintro ⟨⟨Hg, ⟨HA, HB⟩⟩, ⟨%W, -, HW⟩, ⟨%d0, H0⟩, ⟨%d1, H1⟩⟩
      iapply (run_middle c t _ _ _ _ (iblk m c 0 t) (V m c main_arg1) (fun h => h0 ((first_iff t).mp h)) ((more_iff t).mpr h7) W _)
      isplitl [H0]; · iexact H0
      isplitl [H1]; · iexists _; iexact H1
      isplitl [HA]; · iexact HA
      isplitl [HB]; · iexact HB
      isplitl [HW]; · iexact HW
      iintro ⟨H0, H1, HA, HB, ⟨%W', HW⟩⟩
      isplitl [Hg HA HB]
      · isplitl [Hg]; · iexact Hg
        isplitl [HA]; · iexact HA
        iexact HB
      isplitl [HW]
      · iexists W'; isplitr; · ipureintro; exact fun _ _ => Or.inl trivial
        iexact HW
      isplitl [H0]; · iexact H0
      iexact H1
  · have h0 : t.val ≠ 0 := by omega
    rw [between_mid c _ (k := t.val) h0 hN, between_done c _ (k := t.val + 1) (by omega)]
    iintro ⟨⟨Hg, ⟨HA, HB⟩⟩, ⟨%W, -, HW⟩, ⟨%d0, H0⟩, ⟨%d1, H1⟩⟩
    iapply (run_last c t _ _ _ _ (iblk m c 0 t) (V m c main_arg1) (fun h => h0 ((first_iff t).mp h)) (fun h => h7 ((more_iff t).mp h)) W _)
    isplitl [H0]; · iexact H0
    isplitl [H1]; · iexists _; iexact H1
    isplitl [HA]; · iexact HA
    isplitl [HW]; · iexact HW
    iintro ⟨H0, H1, HA, ⟨%W', HW⟩⟩
    isplitl [Hg HA HB]
    · isplitl [Hg]; · iexact Hg
      iapply (free_any c _ t.val)
      isplitl [HA]; · iexact HA
      iexact HB
    isplitl [HW]
    · iexists W'; isplitr; · ipureintro; exact fun _ _ => Or.inl trivial
      iexact HW
    isplitl [H0]; · iexact H0
    iexact H1

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

/-- The counters of the body's own transfers, and the array they stream. -/
abbrev ownCounters : Fin 2 → SemLoc sig := fun j => (![SemLoc.dma 3, SemLoc.dma 4] : Fin 2 → SemLoc sig) j
theorem own_facts : Pipeline.OwnSemFacts spec0 ownCounters := by decide
def streams : Finset (Ref sig .tc) := {main_arg1}
theorem streams_sub : streams ⊆ Pipeline.restRefs sig spec0 := by decide

/-- What the launch hands over, and takes back. -/
theorem handed (c : Dev nD) : (Pipeline.ΦD ownCounters spec0 streams (V m) c : sProp 𝕄)
    = iprop((∃ d, owns (c : Thread nD τ) bufM fullShare d) ∗ (∃ r, prngReg c r)
      ∗ (semVal ((c : Thread nD τ), SemLoc.dma 3) 0 ∗ semVal ((c : Thread nD τ), SemLoc.dma 4) 0) ∗ ((c : Thread nD τ).loc main_arg1 ↦{fullShare} V m c main_arg1)) := by
  rw [Pipeline.ΦD_eq, scopedRest0_eq, Pipeline.ownSems0_eq_of_list c ownCounters [0, 1] (by decide) (by decide),
    BI.bigSep_eq_bigSepL_of_eq (S := streams) [main_arg1] (by decide) (by decide)]
  simp only [owns_whole]
  rfl

theorem handed_in (c : Dev nD) : Pipeline.ΦD ownCounters spec0 streams (V m) c ⊢ (dats m 0 c).Φ 0 := by
  rw [handed, show (dats m 0 c).Φ 0 = held m c 0 from rfl]
  unfold held
  rw [between_start]
  iintro ⟨HB, Hg, HC, HW⟩
  isplitl [Hg]; · iexact Hg
  iapply (free_of_pieces c (V m c main_arg1))
  isplitl [HB]; · iexact HB
  isplitl [HC]; · iexact HC
  iexact HW

theorem handed_out (c : Dev nD) : (dats m 0 c).Φ (Fin.last cfg0.N) ⊢ Pipeline.ΦD ownCounters spec0 streams (V m) c := by
  rw [handed, show (dats m 0 c).Φ (Fin.last cfg0.N) = held m c grid0.N from rfl]
  unfold held
  rw [between_done c _ (k := grid0.N) (Nat.le_of_eq N_0.symm)]
  iintro ⟨Hg, HF⟩
  ihave HP := (pieces_of_free c (V m c main_arg1)) $$ HF
  icases HP with ⟨HB, HC, HW⟩
  isplitl [HB]; · iexact HB
  isplitl [Hg]; · iexact Hg
  isplitl [HC]; · iexact HC
  iexact HW

set_option maxHeartbeats 800000 in
theorem enters (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
set_option maxHeartbeats 800000 in
/-- Every fair run of the call ends with the arrays at what the points wrote back and every counter at zero. -/
theorem runs : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCounters defs₀ Variants.none own_facts streams streams_sub m ρ main
    (hbody := fun c => (obligation m c).loose) (hshare := fun c => (dats m 0 c).share_full fun _ => rfl)
    (howed := fun _ _ => rfl) (V := V m) (hmain := enters m Variants.none) (hA := A_eq m) (hin := handed_in m) (hout := handed_out m)

/-- The call leaves its arguments as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (runs m ρ)

end Cert.GradWIdeal.Run

end

end
-- ==== Proof.GradWValue.lean ====
/- The weight gradient's value: every element of the four windows of columns is the sum over the 2176 rows that the
   derivative of the reference's projection, cut in the four windows, has there. -/
module

public import proofs.«01_k».proof.Proof.GradWRun
public import proofs.«01_k».proof.Proof.Gen.GradWReferenceIdeal.Run
public import proofs.«01_k».proof.Proof.Gen.GradWReferenceIdeal.Read
public import proofs.«01_k».proof.Defs
public import proofs.«01_k».proof.Proof.Gen.GradW
public import proofs.«01_k».proof.Proof.Gen.GradWReferenceIdeal
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.GradWIdeal.Run

open Idealize.ShloMosaic Idealize.ShloMosaic.TcCoe Idealize.ShloMosaic.ValueIdx
open Idealize.SL.Sem
open Idealize.ShloMosaic.Pipeline (Dat Cfg Window)
open Cert.GradWIdeal.Gen

/-! ## The two products, at an element -/

theorem pay1_apply (u : Vec Ideal S1024x2176 .bf16) (x : S2176x896.Idx → EReal) (r : Fin 1024) (j : Fin 896) :
    k0_pay1 (F := Ideal) u (flat (F := Ideal) x) (ix3 0 r j) = ∑ k : Fin 2176, u (ix2 r k) * x (ix2 k j) := by
  have hx : shapeCast S2176x896 (flat (F := Ideal) x) shapeCasts_S1x2176x896_S2176x896 = x := by
    funext z
    exact congrArg x (Equiv.symm_apply_apply (Shape.reshapeEquiv squeezes_S1x2176x896_S2176x896.numel_eq) z)
  unfold k0_pay1
  rw [hx]
  refine (shapeCast_ab_1ab_apply _ _ 0 r j).trans ?_
  refine (Ideal.matmul_plain_apply (M := 1024) (K := 2176) (N := 896) (φ₁ := .bf16) (φ₂ := .bf16) none u x (constant S1024x896 .f32 0x00000000#32) r j).trans ?_
  rw [show (constant S1024x896 .f32 0x00000000#32 : FVec Ideal S1024x896 .f32) (ix2 r j) = 0 from Ideal.ofBits_zero_f32, zero_add]

/-- The reference's derivative at an element, its row and column given by their numbers. -/
theorem product_apply (u : Vec Ideal S1024x2176 .bf16) (d : Vec Ideal S2176x6784 .bf16) (i : Cert.GradWReferenceIdeal.S1024x6784.Idx)
    (r : Fin 1024) (j : Fin 6784) (hr : (i 0).val = r.val) (hj : (i 1).val = j.val) :
    Cert.GradWReferenceIdeal.Read.val_main_v6 (F := Ideal) u d i = ∑ k : Fin 2176, u (ix2 r k) * d (ix2 k j) := by
  rw [Cert.GradWReferenceIdeal.Read.val_main_v6_apply, Cert.GradWReferenceIdeal.Read.val_main_v5_apply]
  refine Finset.sum_congr rfl fun k _ => (mul_comm _ _).trans (congrArg₂ (· * ·) ?_ ?_)
  · rw [Cert.GradWReferenceIdeal.Read.val_main_v1_apply, Cert.GradWReferenceIdeal.Read.val_main_v0_apply]
    refine congrArg u (funext fun a => Fin.ext ?_)
    match a with
      | ⟨0, _⟩ => exact hr
      | ⟨1, _⟩ => rfl
  · rw [Cert.GradWReferenceIdeal.Read.val_main_v4_apply]
    refine congrArg d (funext fun a => Fin.ext ?_)
    match a with
      | ⟨0, _⟩ => rfl
      | ⟨1, _⟩ => exact hj

/-- The four windows, stacked, at an element: window `s` starts at column `1664 * s`. -/
theorem stacked_apply (u : Vec Ideal S1024x2176 .bf16) (d : Vec Ideal S2176x6784 .bf16) (i : Cert.GradWReferenceIdeal.S4x1024x1792.Idx)
    (r : Fin 1024) (j : Fin 6784) (hr : (i 1).val = r.val) (hj : 1664 * (i 0).val + (i 2).val = j.val) :
    Cert.GradWReferenceIdeal.Read.val_main_v16 (F := Ideal) u d i = ∑ k : Fin 2176, u (ix2 r k) * d (ix2 k j) := by
  rw [Cert.GradWReferenceIdeal.Read.val_main_v16_apply]
  refine Eq.trans (?_ : _ = Cert.GradWReferenceIdeal.Read.val_main_v15 (F := Ideal) u d i) ?_
  · rfl
  unfold Cert.GradWReferenceIdeal.Read.val_main_v15
  have h0 : (i 0).val < 4 := (i 0).isLt
  have h1 : (i 1).val < 1024 := (i 1).isLt
  have h2 : (i 2).val < 1792 := (i 2).isLt
  let p : Cert.GradWReferenceIdeal.S1x1024x1792.Idx := fun a => match a with
    | ⟨0, _⟩ => ⟨0, Nat.one_pos⟩
    | ⟨1, _⟩ => ⟨(i 1).val, h1⟩
    | ⟨2, _⟩ => ⟨(i 2).val, h2⟩
  have off : ∀ b : Fin 3, b ≠ 0 → (p b).val = (i b).val := by
    intro b hb
    match b with
      | ⟨0, _⟩ => exact absurd rfl hb
      | ⟨1, _⟩ => rfl
      | ⟨2, _⟩ => rfl
  rcases (by omega : (i 0).val = 0 ∨ (i 0).val = 1 ∨ (i 0).val = 2 ∨ (i 0).val = 3) with h | h | h | h
  · refine (concatenate_apply_piece (t := Cert.GradWReferenceIdeal.S4x1024x1792) 0 _ _ i 0 (by show 0 < 4; omega) Cert.GradWReferenceIdeal.S1x1024x1792 (Cert.GradWReferenceIdeal.Read.val_main_v11 (F := Ideal) u d) rfl rfl 0 rfl p off h.symm).trans ?_
    rw [Cert.GradWReferenceIdeal.Read.val_main_v11_apply, Cert.GradWReferenceIdeal.Read.val_main_v7_apply]
    exact product_apply u d _ r j hr (by show (i 2).val = j.val; omega)
  · refine (concatenate_apply_piece (t := Cert.GradWReferenceIdeal.S4x1024x1792) 0 _ _ i 1 (by show 1 < 4; omega) Cert.GradWReferenceIdeal.S1x1024x1792 (Cert.GradWReferenceIdeal.Read.val_main_v12 (F := Ideal) u d) rfl rfl 1 rfl p off h.symm).trans ?_
    rw [Cert.GradWReferenceIdeal.Read.val_main_v12_apply, Cert.GradWReferenceIdeal.Read.val_main_v8_apply]
    exact product_apply u d _ r j hr (by show 1664 + (i 2).val = j.val; omega)
  · refine (concatenate_apply_piece (t := Cert.GradWReferenceIdeal.S4x1024x1792) 0 _ _ i 2 (by show 2 < 4; omega) Cert.GradWReferenceIdeal.S1x1024x1792 (Cert.GradWReferenceIdeal.Read.val_main_v13 (F := Ideal) u d) rfl rfl 2 rfl p off h.symm).trans ?_
    rw [Cert.GradWReferenceIdeal.Read.val_main_v13_apply, Cert.GradWReferenceIdeal.Read.val_main_v9_apply]
    exact product_apply u d _ r j hr (by show 3328 + (i 2).val = j.val; omega)
  · refine (concatenate_apply_piece (t := Cert.GradWReferenceIdeal.S4x1024x1792) 0 _ _ i 3 (by show 3 < 4; omega) Cert.GradWReferenceIdeal.S1x1024x1792 (Cert.GradWReferenceIdeal.Read.val_main_v14 (F := Ideal) u d) rfl rfl 3 rfl p off h.symm).trans ?_
    rw [Cert.GradWReferenceIdeal.Read.val_main_v14_apply, Cert.GradWReferenceIdeal.Read.val_main_v10_apply]
    exact product_apply u d _ r j hr (by show 4992 + (i 2).val = j.val; omega)

/-! ## The blocks -/

theorem index_0 : ∀ t : Fin grid0.N, win0_0.index t 0 = 0 ∧ win0_0.index t 1 = 0 := by decide +kernel
theorem index_1 : ∀ t : Fin grid0.N, win0_1.index t 0 = t.val / 2 ∧ win0_1.index t 1 = 0 ∧ win0_1.index t 2 = t.val % 2 := by decide +kernel
theorem flush_1 : ∀ t : Fin cfg0.N, (cfg0.win 1).flush t = true :=
  (by decide +kernel : ∀ t : Fin grid0.N, win0_1.flush t = true)

variable (m : (ℓ : Loc nD τ sig) → Buf (Elt Ideal) ℓ) (c : Dev nD)

/-- The transposed rows and the gradient they meet. -/
abbrev rowsOf : Vec Ideal S1024x2176 .bf16 := m ((c : Thread nD τ).loc main_arg0)
abbrev gradOf : Vec Ideal S2176x6784 .bf16 := m ((c : Thread nD τ).loc main_arg1)

theorem block_0 (t : Fin cfg0.N) (r : Fin 1024) (k : Fin 2176) :
    (iblk m c 0 t : Vec Ideal S1024x2176 .bf16) (ix2 r k) = rowsOf m c (ix2 r k) := by
  obtain ⟨e0, e1⟩ := index_0 t
  unfold iblk
  rw [View.read_apply]
  refine congrArg (rowsOf m c) (funext fun a => Fin.ext ?_)
  match a with
    | ⟨0, _⟩ => show win0_0.index t 0 * 1024 + 1 * r.val = r.val; rw [e0]; omega
    | ⟨1, _⟩ => show win0_0.index t 1 * 2176 + 1 * k.val = k.val; rw [e1]; omega

theorem block_1 (t : Fin cfg0.N) (k : Fin 2176) (j : Fin 896) (J : Fin 6784) (hJ : J.val = start t.val + j.val) :
    streamed m c t (ix2 k j) = gradOf m c (ix2 k J) := by
  have hN := lt_N t
  unfold streamed
  refine congrArg (gradOf m c) (funext fun a => Fin.ext ?_)
  match a with
    | ⟨0, _⟩ => show 0 + 1 * k.val = k.val; omega
    | ⟨1, _⟩ => show start (t.val % 8) + 1 * j.val = J.val; rw [Nat.mod_eq_of_lt hN, hJ]; omega

/-! ## The array -/

theorem read_1 (t : Fin cfg0.N) (hf : (cfg0.win 1).flush t = true) :
    (dats m 0 c).flushed 1 t = ((cfg0.win 1).blk t).view.read (Elt Ideal)
      (Cert.GradWReferenceIdeal.Read.val_main_v16 (F := Ideal) (rowsOf m c) (gradOf m c)) := by
  have hN := lt_N t
  show (cfg0.win 1).cut (grid0.coords t) ((dats m 0 c).after 1 t) = _
  rw [after1]
  funext j
  rw [View.read_apply]
  obtain ⟨e0, e1, e2⟩ := index_1 t
  have b0 : (j 0).val < 1 := (j 0).isLt
  have b1 : (j 1).val < 1024 := (j 1).isLt
  have b2 : (j 2).val < 896 := (j 2).isLt
  have hJ : start t.val + (j 2).val < 6784 := by unfold start; omega
  refine Eq.trans (b := (∑ k : Fin 2176, rowsOf m c (ix2 ⟨(j 1).val, b1⟩ k) * gradOf m c (ix2 k ⟨start t.val + (j 2).val, hJ⟩) : EReal)) ?_ ?_
  · refine Eq.trans (congrArg (k0_pay1 (F := Ideal) (iblk m c 0 t) (flat (streamed m c t))) (?_ : _ = ix3 0 ⟨(j 1).val, b1⟩ ⟨(j 2).val, b2⟩)) ?_
    · funext a; match a with
        | ⟨0, _⟩ => exact Fin.ext (show (j 0).val = 0 by omega)
        | ⟨1, _⟩ => rfl
        | ⟨2, _⟩ => rfl
    exact (pay1_apply _ _ _ _).trans (Finset.sum_congr rfl fun k _ => congrArg₂ (fun x y : EReal => x * y) (block_0 m c _ _ k) (block_1 m c t k _ _ rfl))
  · refine Eq.symm ?_
    refine stacked_apply _ _ _ _ _ ?_ ?_
    · show win0_1.index t 1 * 1024 + 1 * (j 1).val = (j 1).val; rw [e1]; omega
    · show 1664 * (win0_1.index t 0 * 1 + 1 * (j 0).val) + (win0_1.index t 2 * 896 + 1 * (j 2).val) = start t.val + (j 2).val
      rw [e0, e2]; unfold start; omega

theorem arr_1 : (dats m 0 c).arrAt 1 cfg0.N = Cert.GradWReferenceIdeal.Read.val_main_v16 (F := Ideal) (rowsOf m c) (gradOf m c) :=
  (dats m 0 c).arrAt_eq_of_cover 1 _ (read_1 m c) fun i => by
    have hN : cfg0.N = 8 := N_0
    have b0 : (i 0).val < 4 := (i 0).isLt
    have b1 : (i 1).val < 1024 := (i 1).isLt
    have b2 : (i 2).val < 1792 := (i 2).isLt
    obtain ⟨t, ht⟩ : ∃ t : Fin cfg0.N, t.val = 2 * (i 0).val + (i 2).val / 896 := ⟨⟨_, by omega⟩, rfl⟩
    obtain ⟨e0, e1, e2⟩ := index_1 t
    refine ⟨t, flush_1 t, ?_⟩
    show i ∈ ((View.whole main_v0).slice (win0_1.rect t)).set
    rw [View.set_slice_whole, Rect.mem_set_unit]
    intro x
    match x with
      | ⟨0, _⟩ =>
        show win0_1.index t 0 * 1 ≤ (i 0).val ∧ (i 0).val < win0_1.index t 0 * 1 + 1
        rw [e0]; omega
      | ⟨1, _⟩ =>
        show win0_1.index t 1 * 1024 ≤ (i 1).val ∧ (i 1).val < win0_1.index t 1 * 1024 + 1024
        rw [e1]; omega
      | ⟨2, _⟩ =>
        show win0_1.index t 2 * 896 ≤ (i 2).val ∧ (i 2).val < win0_1.index t 2 * 896 + 896
        rw [e2]; omega

/-! ## The claims -/

theorem frame_ideal : Cert.quiescent_GradWIdeal := fun m ρ _ => framed m ρ

/-- The kernel bodies of the two printed programs are the same table. -/
theorem bodies_eq : @Cert.GradW.defs₀ Bits _ _ = @Cert.GradWIdeal.defs₀ Bits _ _ := by
  unfold Cert.GradW.defs₀ Cert.GradWIdeal.defs₀
  refine congrArg Defs.onTc (funext fun l => funext fun x => ?_)
  match l, x with
    | 0, (_, _) => rfl

theorem defs_eq : @Cert.GradW.defs Bits _ _ = @Cert.GradWIdeal.defs Bits _ _ := by
  unfold Cert.GradW.defs Cert.GradWIdeal.defs
  exact congrArg (Pipeline.defs (@Cert.GradWIdeal.pcfgs Bits _)) bodies_eq

theorem frame_bits : Cert.quiescent_GradW := fun m ρ _ => by
  rw [defs_eq]
  exact framed (F := Bits) m ρ

theorem frame_reference : Cert.quiescent_GradWReferenceIdeal := fun m ρ _ =>
  (θ_run Cert.GradWReferenceIdeal.defs _ _).mono
    (fun r h => ⟨fun c => (h c).2, sem_eq_zero_of_no_sems (by decide) r.2⟩) (Cert.GradWReferenceIdeal.Value.run m ρ)

theorem algebraic : Cert.algebraic_GradWIdeal_GradWReferenceIdeal := by
  intro m g m' g' _ hargs
  refine ⟨fun c => Cert.GradWReferenceIdeal.Read.val_main_v16 (F := Ideal) (rowsOf m c) (gradOf m c), ?_, ?_⟩
  · refine (θ_run Cert.GradWIdeal.defs _ _).mono (fun r h c => ?_) (θ_run_and (runs (F := Ideal) m g) (framed (F := Ideal) m g))
    exact ⟨((h.1.1 c).1 1).trans (arr_1 m c), h.2.1 c⟩
  · refine (θ_run Cert.GradWReferenceIdeal.defs _ _).mono (fun r h c => ?_) (Cert.GradWReferenceIdeal.Value.run (F := Ideal) m' g')
    obtain ⟨a0, a1⟩ := hargs c
    refine ⟨(h c).1.trans ?_, (h c).2⟩
    rw [Cert.GradWReferenceIdeal.Read.val_main_v16_eq, a0, a1]

end Cert.GradWIdeal.Run

end

end
-- ==== Proof.InGradRun.lean ====
/- The call that takes the projection's gradient back to the hidden states, run: what each of its thirty points leaves
   in the running product and in the three outputs' buffers, the body's obligation, and from the launch the frame with
   the counters at zero. Over any floats. -/
module

public import proofs.«01_k».proof.Proof.Gen.InGradIdeal.Skeleton
public import proofs.«01_k».proof.Proof.Gen.InGradIdeal.Frame
public import proofs.«01_k».proof.Proof.Returns
public import Idealize.ShloMosaic.Lib.VecWindow
public import Idealize.ShloMosaic.Lib.WholeRead
public import Idealize.ShloMosaic.Lib.Claim

@[expose] public section

set_option maxRecDepth 16384

noncomputable section

namespace Cert.InGradIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InGradIdeal.Gen

variable {F : FTy → Type} [FloatOps F]

local notation "𝕄" => MT nD τ sig Unit (Elt F) ℕ (UR sig nD τ) ℕ

/-! ## The body, in its four cases -/

section Body

/-- The test that a point is one of the first thirteen. -/
def early (i : grid0.Coords) : Prop :=
  Scalar.cmpi .ne (Scalar.extui (Scalar.cmpi .slt (BitVec.ofNat 32 (i 0).val) 13#32)) 0#32 = 1#1

/-- The 128 rows of the finished product that a later point reads. -/
def rows (i : grid0.Coords) (h : k0_cond3 i = 1#1) (x : Vec F S2176x1024 .f32) : Vec F S128x1024 .f32 :=
  View.ld x (Rect.unit (s := S2176x1024) (k0_off1 i) S128x1024.size (k0_off1_inb i h))

variable (c : Dev nD) (i : grid0.Coords) (arg1 : Memref sig .tc .vmem S2176x512 .bf16) (harg1 : arg1.IsWhole) (arg2 : Memref sig .tc .vmem S512x1024 .bf16) (harg2 : arg2.IsWhole) (arg3 : Memref sig .tc .vmem S2176x128 .bf16) (harg3 : arg3.IsWhole) (arg4 : Memref sig .tc .vmem S128x1024 .bf16) (harg4 : arg4.IsWhole) (arg5 : Memref sig .tc .vmem S128x1024 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S2176x1024 .f32) (harg11 : arg11.IsWhole)
  (x1 : Vec F S2176x512 .bf16) (x2 : Vec F S512x1024 .bf16) (x3 : Vec F S2176x128 .bf16) (x4 : Vec F S128x1024 .bf16)
  (x5 x6 : Vec F S128x1024 .f32) (x7 : Vec F S1x1024 .f32) (x10 : Vec F S1x1024 .f32) (x11 : Vec F S2176x1024 .f32)

set_option maxHeartbeats 2000000 in
/-- The first point: the product is started and the first of its thirteen terms added; the weight's sum is zero. -/
theorem run_first (h1 : k0_cond1 i = 1#1) (h2 : early i) (h3 : ¬ k0_cond3 i = 1#1) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg10 fullShare (k0_pay2 (F := F)) ∗ owns (c : Thread nD τ) arg11 fullShare (k0_pay3 (k0_pay1 x3 x4) x1 x2)) -∗ K ⟨⟩))
      ⊢ wp frame (wpE (defs₀ (F := F)) Variants.none c none) E (cc0_d_u_norm_bwd i arg1 harg1 arg2 harg2 arg3 harg3 arg4 harg4 arg5 harg5 arg6 harg6 arg7 harg7 arg8 harg8 arg9 harg9 arg10 harg10 arg11 harg11) K := by
  unfold early at h2
  simp only [cc0_d_u_norm_bwd_eq_skeleton]; unfold cc0_d_u_norm_bwd_skel
  unfold owns
  iintro ⟨⟨%f1, %hf1, H1⟩, ⟨%f2, %hf2, H2⟩, ⟨%f3, %hf3, H3⟩, ⟨%f4, %hf4, H4⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4
  sl_exec (disch := first | sl_exact h1 | sl_exact h2 | sl_exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H10]
  · iexists _; isplitr
    swap; · iexact H10
    ipureintro
    rw [View.read_writes_full]
  iexists _; isplitr
  swap; · iexact H11
  ipureintro
  rw [View.read_writes_full, View.readAt_full, View.readAt_full, harg1.read_unread, harg2.read_unread]
  delta run_first.sl.v10 run_first.sl.H11_1
  rw [View.readCov_full, View.readAt_full, View.readAt_full, harg3.read_unread, harg4.read_unread]

set_option maxHeartbeats 2000000 in
/-- A later point of the first thirteen: its term is added. -/
theorem run_term (h1 : ¬ k0_cond1 i = 1#1) (h2 : early i) (h3 : ¬ k0_cond3 i = 1#1) (E : Set ℕ) (K : PUnit → sProp 𝕄) :
    iprop(owns (c : Thread nD τ) arg1 fullShare x1 ∗ owns (c : Thread nD τ) arg2 fullShare x2 ∗ owns (c : Thread nD τ) arg11 fullShare x11
        ∗ (iprop(owns (c : Thread nD τ) arg1 fullShare x1 ∗ owns (c : Thread nD τ) arg2 fullShare x2 ∗ owns (c : Thread nD τ) arg11 fullShare (k0_pay3 x11 x1 x2)) -∗ K ⟨⟩))
      ⊢ wp frame (wpE (defs₀ (F := F)) Variants.none c none) E (cc0_d_u_norm_bwd i arg1 harg1 arg2 harg2 arg3 harg3 arg4 harg4 arg5 harg5 arg6 harg6 arg7 harg7 arg8 harg8 arg9 harg9 arg10 harg10 arg11 harg11) K := by
  unfold early at h2
  simp only [cc0_d_u_norm_bwd_eq_skeleton]; unfold cc0_d_u_norm_bwd_skel
  unfold owns
  iintro ⟨⟨%f1, %hf1, H1⟩, ⟨%f2, %hf2, H2⟩, ⟨%f11, %hf11, H11⟩, Hk⟩
  obtain rfl := harg1.eq_unread hf1; obtain rfl := harg2.eq_unread hf2; obtain rfl := harg11.eq_unread hf11
  sl_exec (disch := first | sl_exact h1 | sl_exact h2 | sl_exact h3)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H11
  ipureintro
  rw [View.read_writes_full, View.readAt_full, View.readAt_full, View.readAt_full, harg1.read_unread, harg2.read_unread, harg11.read_unread]

set_option maxHeartbeats 4000000 in
/-- The first of the later points: the rows before the image are taken back, the last sixteen of them kept. -/
theorem run_kept (h1 : ¬ k0_cond1 i = 1#1) (h2 : ¬ early i) (h3 : k0_cond3 i = 1#1) (h4 : k0_cond4 i = 1#1) (h5 : ¬ k0_cond5 i = 1#1) (E : Set ℕ) (K : PUnit → sProp 𝕄) :
    iprop(owns (c : Thread nD τ) arg5 fullShare x5 ∗ owns (c : Thread nD τ) arg6 fullShare x6 ∗ owns (c : Thread nD τ) arg7 fullShare x7 ∗ (∃ d, owns (c : Thread nD τ) arg9 fullShare d) ∗ owns (c : Thread nD τ) arg10 fullShare x10 ∗ owns (c : Thread nD τ) arg11 fullShare x11
        ∗ (iprop(owns (c : Thread nD τ) arg5 fullShare x5 ∗ owns (c : Thread nD τ) arg6 fullShare x6 ∗ owns (c : Thread nD τ) arg7 fullShare x7 ∗ owns (c : Thread nD τ) arg9 fullShare (k0_pay4 (k0_pay8 (rows i h3 x11) x5 x7 x6)) ∗ owns (c : Thread nD τ) arg10 fullShare (k0_pay7 (rows i h3 x11) x5 x10) ∗ owns (c : Thread nD τ) arg11 fullShare x11) -∗ K ⟨⟩))
      ⊢ wp frame (wpE (defs₀ (F := F)) Variants.none c none) E (cc0_d_u_norm_bwd i arg1 harg1 arg2 harg2 arg3 harg3 arg4 harg4 arg5 harg5 arg6 harg6 arg7 harg7 arg8 harg8 arg9 harg9 arg10 harg10 arg11 harg11) K := by
  unfold early at h2
  simp only [cc0_d_u_norm_bwd_eq_skeleton, k0_part1_eq_skeleton]; unfold cc0_d_u_norm_bwd_skel
  simp only [k0_part1_eq_skeleton]; unfold k0_part1_skel
  unfold owns
  iintro ⟨⟨%f5, %hf5, H5⟩, ⟨%f6, %hf6, H6⟩, ⟨%f7, %hf7, H7⟩, ⟨%d9, %f9, -, H9⟩, ⟨%f10, %hf10, H10⟩, ⟨%f11, %hf11, H11⟩, Hk⟩
  obtain rfl := harg5.eq_unread hf5; obtain rfl := harg6.eq_unread hf6; obtain rfl := harg7.eq_unread hf7; obtain rfl := harg10.eq_unread hf10; obtain rfl := harg11.eq_unread hf11
  sl_exec (disch := first | sl_exact h1 | sl_exact h2 | sl_exact h3 | sl_exact h4 | sl_exact h5)
  sl_step
  iapply Hk
  have e : View.readAt (Elt F) arg11.view (Rect.unit (s := S2176x1024) (k0_off1 i) S128x1024.size (k0_off1_inb i h3)).toLoadRect (harg11.unread x11) = rows i h3 x11 := by
    funext x; exact harg11.readAt_unread x11 _ x
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr
    swap; · iexact H9
    ipureintro
    rw [View.read_writes_full, View.readAt_full, View.readAt_full, View.readAt_full, harg5.read_unread, harg6.read_unread, harg7.read_unread, e]
  isplitl [H10]
  · iexists _; isplitr
    swap; · iexact H10
    ipureintro
    rw [View.read_writes_full, View.readAt_full, View.readAt_full, harg5.read_unread, harg10.read_unread, e]
  iexists _; isplitr
  swap; · iexact H11
  ipureintro; exact harg11.read_unread _

set_option maxHeartbeats 4000000 in
/-- A point after it: its 128 rows are taken back and stored. -/
theorem run_rows (h1 : ¬ k0_cond1 i = 1#1) (h2 : ¬ early i) (h3 : k0_cond3 i = 1#1) (h4 : ¬ k0_cond4 i = 1#1) (h5 : k0_cond5 i = 1#1) (E : Set ℕ) (K : PUnit → sProp 𝕄) :
    iprop(owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg10 fullShare x10 ∗ owns (c : Thread nD τ) arg11 fullShare x11
        ∗ (iprop(owns (c : Thread nD τ) arg5 fullShare x5 ∗ owns (c : Thread nD τ) arg6 fullShare x6 ∗ owns (c : Thread nD τ) arg7 fullShare x7 ∗ owns (c : Thread nD τ) arg8 fullShare (k0_pay8 (rows i h3 x11) x5 x7 x6) ∗ owns (c : Thread nD τ) arg10 fullShare (k0_pay7 (rows i h3 x11) x5 x10) ∗ owns (c : Thread nD τ) arg11 fullShare x11) -∗ K ⟨⟩))
      ⊢ wp frame (wpE (defs₀ (F := F)) Variants.none c none) E (cc0_d_u_norm_bwd i arg1 harg1 arg2 harg2 arg3 harg3 arg4 harg4 arg5 harg5 arg6 harg6 arg7 harg7 arg8 harg8 arg9 harg9 arg10 harg10 arg11 harg11) K := by
  unfold early at h2
  simp only [cc0_d_u_norm_bwd_eq_skeleton]; unfold cc0_d_u_norm_bwd_skel
  simp only [k0_part1_eq_skeleton]; unfold k0_part1_skel
  unfold owns
  iintro ⟨⟨%f5, %hf5, H5⟩, ⟨%f6, %hf6, H6⟩, ⟨%f7, %hf7, H7⟩, ⟨%d8, %f8, -, H8⟩, ⟨%f10, %hf10, H10⟩, ⟨%f11, %hf11, H11⟩, Hk⟩
  obtain rfl := harg5.eq_unread hf5; obtain rfl := harg6.eq_unread hf6; obtain rfl := harg7.eq_unread hf7; obtain rfl := harg10.eq_unread hf10; obtain rfl := harg11.eq_unread hf11
  sl_exec (disch := first | sl_exact h1 | sl_exact h2 | sl_exact h3 | sl_exact h4 | sl_exact h5)
  sl_step
  iapply Hk
  have e : View.readAt (Elt F) arg11.view (Rect.unit (s := S2176x1024) (k0_off1 i) S128x1024.size (k0_off1_inb i h3)).toLoadRect (harg11.unread x11) = rows i h3 x11 := by
    funext x; exact harg11.readAt_unread x11 _ x
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_full, View.readAt_full, View.readAt_full, View.readAt_full, harg5.read_unread, harg6.read_unread, harg7.read_unread, e]
  isplitl [H10]
  · iexists _; isplitr
    swap; · iexact H10
    ipureintro
    rw [View.read_writes_full, View.readAt_full, View.readAt_full, harg5.read_unread, harg10.read_unread, e]
  iexists _; isplitr
  swap; · iexact H11
  ipureintro; exact harg11.read_unread _
end Body

/-! ## The points -/

theorem lt_N (t : Fin cfg0.N) : t.val < 30 := lt_of_lt_of_eq t.isLt (show cfg0.N = 30 from N_0)

theorem cond1_iff : ∀ t : Fin grid0.N, k0_cond1 (grid0.coords t) = 1#1 ↔ t.val = 0 := by decide +kernel
theorem early_iff : ∀ t : Fin grid0.N, early (grid0.coords t) ↔ t.val < 13 :=
  (by decide +kernel : ∀ t : Fin grid0.N, Scalar.cmpi .ne (Scalar.extui (Scalar.cmpi .slt (BitVec.ofNat 32 (grid0.coords t 0).val) 13#32)) 0#32 = 1#1 ↔ t.val < 13)
theorem cond3_iff : ∀ t : Fin grid0.N, k0_cond3 (grid0.coords t) = 1#1 ↔ 13 ≤ t.val := by decide +kernel
theorem cond4_iff : ∀ t : Fin grid0.N, k0_cond4 (grid0.coords t) = 1#1 ↔ t.val = 13 := by decide +kernel
theorem cond5_iff : ∀ t : Fin grid0.N, k0_cond5 (grid0.coords t) = 1#1 ↔ 14 ≤ t.val := by decide +kernel

theorem flush7_iff : ∀ t : Fin cfg0.N, (cfg0.win 7).flush t = true ↔ 14 ≤ t.val :=
  (by decide +kernel : ∀ t : Fin grid0.N, win0_7.flush t = true ↔ 14 ≤ t.val)
theorem flush8_iff : ∀ t : Fin cfg0.N, (cfg0.win 8).flush t = true ↔ t.val = 29 :=
  (by decide +kernel : ∀ t : Fin grid0.N, win0_8.flush t = true ↔ t.val = 29)
theorem flush9_iff : ∀ t : Fin cfg0.N, (cfg0.win 9).flush t = true ↔ t.val = 29 :=
  (by decide +kernel : ∀ t : Fin grid0.N, win0_9.flush t = true ↔ t.val = 29)
theorem idle7_iff : ∀ t : Fin cfg0.N, cfg0.idle 7 (cfg0.grid.coords t) = true ↔ t.val < 14 :=
  (by decide +kernel : ∀ t : Fin grid0.N, idle0 7 (grid0.coords t) = true ↔ t.val < 14)
theorem idle8_iff : ∀ t : Fin cfg0.N, cfg0.idle 8 (cfg0.grid.coords t) = true ↔ t.val ≠ 13 :=
  (by decide +kernel : ∀ t : Fin grid0.N, idle0 8 (grid0.coords t) = true ↔ t.val ≠ 13)
theorem idle9_iff : ∀ t : Fin cfg0.N, cfg0.idle 9 (cfg0.grid.coords t) = true ↔ t.val ≠ 0 ∧ t.val < 13 :=
  (by decide +kernel : ∀ t : Fin grid0.N, idle0 9 (grid0.coords t) = true ↔ t.val ≠ 0 ∧ t.val < 13)

variable (m : (ℓ : Loc nD τ sig) → Buf (Elt F) ℓ) (ρ : Dev nD → PrngReg)

/-- The running product after a point. -/
def accA (c : Dev nD) : (n : ℕ) → n < cfg0.N → Vec F S2176x1024 .f32
  | 0, h => k0_pay3 (k0_pay1 (iblk m c 2 ⟨0, h⟩) (iblk m c 3 ⟨0, h⟩)) (X0_0 m c ⟨0, h⟩) (X0_1 m c ⟨0, h⟩)
  | n + 1, h => if n + 1 < 13 then k0_pay3 (accA c n (Nat.lt_of_succ_lt h)) (X0_0 m c ⟨n + 1, h⟩) (X0_1 m c ⟨n + 1, h⟩)
      else accA c n (Nat.lt_of_succ_lt h)

/-- The 128 rows of the running product a later point takes back. -/
def rowsAt (c : Dev nD) (t : Fin cfg0.N) (h : 13 ≤ t.val) : Vec F S128x1024 .f32 :=
  rows (grid0.coords t) ((cond3_iff t).mpr h) (accA m c t.val t.isLt)

/-- The weight's sum after a point. -/
def sumA (c : Dev nD) : (n : ℕ) → n < cfg0.N → Vec F S1x1024 .f32
  | 0, _ => k0_pay2
  | n + 1, h => if hr : 13 ≤ n + 1 then k0_pay7 (rowsAt m c ⟨n + 1, h⟩ hr) (iblk m c 4 ⟨n + 1, h⟩) (sumA c n (Nat.lt_of_succ_lt h))
      else sumA c n (Nat.lt_of_succ_lt h)

/-- The hidden states' gradient in the 128 rows of a later point. -/
def outAt (c : Dev nD) (t : Fin cfg0.N) (h : 13 ≤ t.val) : Vec F S128x1024 .f32 :=
  k0_pay8 (rowsAt m c t h) (iblk m c 4 t) (iblk m c 6 t) (iblk m c 5 t)

theorem outAt_congr (c : Dev nD) {t t' : Fin cfg0.N} (e : t = t') (h : 13 ≤ t.val) (h' : 13 ≤ t'.val) : outAt m c t h = outAt m c t' h' := by
  subst e; rfl

/-- The point itself from the fifteenth on, before it the fifteenth. -/
def pointR (t : Fin cfg0.N) : Fin cfg0.N :=
  ⟨max t.val 14, lt_of_lt_of_eq (max_lt (lt_N t) (by decide)) (show 30 = cfg0.N from N_0.symm)⟩
/-- The fourteenth point. -/
def pointM : Fin cfg0.N := ⟨13, by rw [show cfg0.N = 30 from N_0]; decide⟩

theorem pointM_late : 13 ≤ (pointM : Fin cfg0.N).val := Nat.le_refl 13
theorem pointR_late (t : Fin cfg0.N) : 13 ≤ (pointR t).val := le_trans (by decide) (le_max_right t.val 14)

/-- The product is finished after the thirteenth point. -/
theorem acc_late (c : Dev nD) (n : ℕ) (h : n + 1 < cfg0.N) (hn : 12 ≤ n) : accA m c (n + 1) h = accA m c n (Nat.lt_of_succ_lt h) := by
  show (if n + 1 < 13 then _ else _) = _
  rw [if_neg (by omega)]

/-- The buffer that carries the running product. -/
abbrev scratch : Memref sig .tc .vmem S2176x1024 .f32 := Memref.whole cc0_scratch0

/-- The invariant before point `n`: the running product's buffer at anything before the first point, afterwards at what
    the point before left. -/
def inv (c : Dev nD) : (n : ℕ) → n ≤ cfg0.N → sProp 𝕄
  | 0, _ => Pipeline.ΦA spec0 c
  | n + 1, h => iprop(owns (c : Thread nD τ) scratch fullShare (accA m c n h) ∗ (∃ r, prngReg c r))

theorem start_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

theorem inv_pos (c : Dev nD) (n : ℕ) (h : n ≤ cfg0.N) (hn : n ≠ 0) :
    inv m c n h = iprop(owns (c : Thread nD τ) scratch fullShare (accA m c (n - 1) (by omega)) ∗ (∃ r, prngReg c r)) := by
  cases n with
  | zero => exact absurd rfl hn
  | succ n => rfl

/-- The proof data: the inputs at their blocks, each output at what the last point that stored into it stored. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c (pointR t) (pointR_late t)
    | ⟨8, _⟩ => k0_pay4 (outAt m c pointM pointM_late)
    | ⟨9, _⟩ => sumA m c t.val t.isLt
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c (pointR t) (pointR_late t) := by dsimp only [dats]
theorem after8 (c : Dev nD) (t : Fin cfg0.N) : (dats m 0 c).after 8 t = k0_pay4 (outAt m c pointM pointM_late) := by dsimp only [dats]
theorem after9 (c : Dev nD) (t : Fin cfg0.N) : (dats m 0 c).after 9 t = sumA m c t.val t.isLt := by dsimp only [dats]

theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What a live point leaves in an output's buffer the next finds. -/
theorem left_live (c : Dev nD) (w : Fin cfg0.W) (hclip : ∀ (i : cfg0.grid.Coords) a, (cfg0.win w).clip i a = none) (t : Fin cfg0.N) (h : cfg0.idle w (cfg0.grid.coords t) = false) (d) :
    (dats m 0 c).left w t d = (dats m 0 c).after w t := by
  unfold Dat.left; rw [h]
  show (dats m 0 c).kept w t d = _
  unfold Dat.kept
  rw [Pipeline.fill_of_clip_none w _ (hclip _) d ((dats m 0 c).after w t), Window.fill_cut]

/-- What an idle point leaves there is what it found. -/
theorem left_idle (c : Dev nD) (w : Fin cfg0.W) (t : Fin cfg0.N) (h : cfg0.idle w (cfg0.grid.coords t) = true) (d) :
    (dats m 0 c).left w t d = (dats m 0 c).before w t d := by
  unfold Dat.left; rw [h]

/-- After the fourteenth point the second output's buffer holds what that stored. -/
theorem before8 (c : Dev nD) : ∀ (n : ℕ) (hn : n < cfg0.N) (h : 14 ≤ n) (d), (dats m 0 c).before 8 ⟨n, hn⟩ d = (dats m 0 c).after 8 ⟨n, hn⟩ := by
  intro n
  induction n with
  | zero => intro hn h; omega
  | succ n ih =>
    intro hn h d
    have hN := lt_N ⟨n + 1, hn⟩
    have hn' : n < cfg0.N := Nat.lt_of_succ_lt hn
    rw [Dat.before_of_pos _ 8 ⟨n + 1, hn⟩ (Nat.succ_ne_zero n) rfl d,
      if_neg (by intro hf; have := (flush8_iff _).mp hf; dsimp only at this hN; omega)]
    show (dats m 0 c).left 8 ⟨n, hn'⟩ d = _
    by_cases h0 : n = 13
    · subst h0
      rw [left_live m c 8 (fun _ _ => rfl) _ (Bool.eq_false_iff.mpr fun hi => (idle8_iff _).mp hi rfl), after8, after8]
    · rw [left_idle m c 8 _ ((idle8_iff _).mpr h0), ih hn' (by omega), after8, after8]

/-- After the first point the third output's buffer holds the weight's sum so far. -/
theorem before9 (c : Dev nD) : ∀ (n : ℕ) (hn : n + 1 < cfg0.N) (d), (dats m 0 c).before 9 ⟨n + 1, hn⟩ d = sumA m c n (Nat.lt_of_succ_lt hn) := by
  intro n
  induction n with
  | zero =>
    intro hn d
    rw [Dat.before_of_pos _ 9 ⟨0 + 1, hn⟩ (Nat.succ_ne_zero 0) rfl d,
      if_neg (by intro hf; have := (flush9_iff _).mp hf; dsimp only at this; omega)]
    show (dats m 0 c).left 9 ⟨0, Nat.lt_of_succ_lt hn⟩ d = _
    rw [left_live m c 9 (fun _ _ => rfl) _ (Bool.eq_false_iff.mpr fun hi => ((idle9_iff _).mp hi).1 rfl), after9]
  | succ n ih =>
    intro hn d
    have hN := lt_N ⟨n + 1 + 1, hn⟩
    have hn' : n + 1 < cfg0.N := Nat.lt_of_succ_lt hn
    rw [Dat.before_of_pos _ 9 ⟨n + 1 + 1, hn⟩ (Nat.succ_ne_zero _) rfl d,
      if_neg (by intro hf; have := (flush9_iff _).mp hf; dsimp only at this hN; omega)]
    show (dats m 0 c).left 9 ⟨n + 1, hn'⟩ d = _
    by_cases h13 : n + 1 < 13
    · rw [left_idle m c 9 _ ((idle9_iff _).mpr ⟨Nat.succ_ne_zero _, h13⟩), ih hn']
      show _ = dite _ _ _
      rw [dif_neg (by omega)]
    · rw [left_live m c 9 (fun _ _ => rfl) _ (Bool.eq_false_iff.mpr fun hi => h13 ((idle9_iff _).mp hi).2), after9]

/-! ## The body's obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ Rets.ret (dats m 0 c) 0 t ∗ Rets.ret (dats m 0 c) 1 t ∗ Rets.ret (dats m 0 c) 2 t ∗ Rets.ret (dats m 0 c) 3 t ∗ Rets.ret (dats m 0 c) 4 t ∗ Rets.ret (dats m 0 c) 5 t ∗ Rets.ret (dats m 0 c) 6 t ∗ Rets.ret (dats m 0 c) 7 t ∗ Rets.ret (dats m 0 c) 8 t ∗ Rets.ret (dats m 0 c) 9 t)

/-- The second output's buffer, idle at every point but the fourteenth, is returned as found. -/
theorem ret8 (c : Dev nD) (t : Fin cfg0.N) (h : t.val ≠ 13) :
    iprop(∃ d, owns (c : Thread nD τ) (st0_8 t) fullShare ((dats m 0 c).before 8 t d)) ⊢ Rets.ret (dats m 0 c) 8 t := by
  by_cases h29 : t.val = 29
  · rw [Rets.ret_flush (dats m 0 c) ((flush8_iff t).mpr h29)]
    iintro ⟨%d, H⟩
    rw [← before8 m c t.val t.isLt (by omega) d]
    iexact H
  · rw [Rets.ret_idle (dats m 0 c) ((idle8_iff t).mpr h) (Bool.eq_false_iff.mpr fun h => h29 ((flush8_iff t).mp h))]

/-- Up to the fourteenth point so is the first's. -/
theorem ret7 (c : Dev nD) (t : Fin cfg0.N) (h : t.val < 14) :
    iprop(∃ d, owns (c : Thread nD τ) (st0_7 t) fullShare ((dats m 0 c).before 7 t d)) ⊢ Rets.ret (dats m 0 c) 7 t := by
  rw [Rets.ret_idle (dats m 0 c) ((idle7_iff t).mpr h) (Bool.eq_false_iff.mpr fun hf => by have := (flush7_iff t).mp hf; omega)]

theorem bodyPost_eq (c : Dev nD) (t : Fin cfg0.N) : bodyPost m c t =
    iprop(inv m c (t.val + 1) t.isLt ∗ (dats m 0 c).owesAt () t.castSucc
    ∗ owns (c : Thread nD τ) (st0_0 t) fullShare (X0_0 m c t) ∗ owns (c : Thread nD τ) (st0_1 t) fullShare (X0_1 m c t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ Rets.ret (dats m 0 c) 7 t ∗ Rets.ret (dats m 0 c) 8 t ∗ Rets.ret (dats m 0 c) 9 t) := by
  unfold bodyPost
  rw [show (dats m 0 c).Φ t.succ = inv m c (t.val + 1) t.isLt from rfl, show (dats m 0 c).owesAt () t.succ = (dats m 0 c).owesAt () t.castSucc from rfl,
    Rets.ret_live (dats m 0 c) (w := 0) (t := t) rfl, Rets.ret_live (dats m 0 c) (w := 1) (t := t) rfl, Rets.ret_live (dats m 0 c) (w := 2) (t := t) rfl, Rets.ret_live (dats m 0 c) (w := 3) (t := t) rfl, Rets.ret_live (dats m 0 c) (w := 4) (t := t) rfl, Rets.ret_live (dats m 0 c) (w := 5) (t := t) rfl, Rets.ret_live (dats m 0 c) (w := 6) (t := t) rfl,
    after0, after1, after2, after3, after4, after5, after6]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have hN := lt_N t
  rw [bodyPost_eq]
  unfold bodyPre
  simp only [before0, before1, before2, before3, before4, before5, before6]
  rw [show (dats m 0 c).Φ t.castSucc = inv m c t.val (Nat.le_of_lt t.isLt) from rfl]
  by_cases h0 : t.val = 0
  · have i9 : cfg0.idle 9 (cfg0.grid.coords t) = false := Bool.eq_false_iff.mpr fun h => ((idle9_iff t).mp h).1 h0
    obtain ⟨n, hn⟩ := t
    obtain rfl : n = 0 := h0
    rw [Rets.ret_live (dats m 0 c) i9, after9, show inv m c 0 (Nat.le_of_lt hn) = Pipeline.ΦA spec0 c from rfl, start_eq,
      show inv m c ((⟨0, hn⟩ : Fin cfg0.N).val + 1) hn = iprop(owns (c : Thread nD τ) scratch fullShare (accA m c 0 hn) ∗ (∃ r, prngReg c r)) from rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, ⟨%d9, H9⟩⟩
    iapply (run_first c (grid0.coords ⟨0, hn⟩) _ _ _ _ _ _ _ _ _ _ _ _ _ _ _ _ _ _ _ _ _ _ (X0_0 m c ⟨0, hn⟩) (X0_1 m c ⟨0, hn⟩) (iblk m c 2 ⟨0, hn⟩) (iblk m c 3 ⟨0, hn⟩) ((cond1_iff _).mpr rfl) ((early_iff _).mpr (show 0 < 13 by decide)) (fun h => by have := (cond3_iff _).mp h; dsimp only at this; omega) Set.univ _)
    isplitl [H0]; · iexact H0
    isplitl [H1]; · iexact H1
    isplitl [H2]; · iexact H2
    isplitl [H3]; · iexact H3
    isplitl [H9]; · iexists _; iexact H9
    isplitl [HS]; · iexact HS
    iintro ⟨H0, H1, H2, H3, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (ret7 m c ⟨0, hn⟩ (by dsimp only; omega)); iexact H7
    isplitl [H8]; · iapply (ret8 m c ⟨0, hn⟩ (by dsimp only; omega)); iexact H8
    iexact H9
  obtain ⟨n, hn⟩ := t
  obtain ⟨n, rfl⟩ : ∃ k, n = k + 1 := ⟨n - 1, by dsimp only at h0; omega⟩
  have c1 : ¬ k0_cond1 (grid0.coords ⟨n + 1, hn⟩) = 1#1 := fun h => h0 ((cond1_iff _).mp h)
  rw [show inv m c (n + 1) (Nat.le_of_lt hn) = iprop(owns (c : Thread nD τ) scratch fullShare (accA m c n (Nat.lt_of_succ_lt hn)) ∗ (∃ r, prngReg c r)) from rfl,
    show inv m c (n + 1 + 1) hn = iprop(owns (c : Thread nD τ) scratch fullShare (accA m c (n + 1) hn) ∗ (∃ r, prngReg c r)) from rfl]
  dsimp only at hN
  by_cases h13 : n + 1 < 13
  · have i9 : cfg0.idle 9 (cfg0.grid.coords ⟨n + 1, hn⟩) = true := (idle9_iff _).mpr ⟨h0, h13⟩
    rw [Rets.ret_idle (dats m 0 c) i9 (Bool.eq_false_iff.mpr fun h => by have := (flush9_iff _).mp h; dsimp only at this; omega),
      show accA m c (n + 1) hn = k0_pay3 (accA m c n (Nat.lt_of_succ_lt hn)) (X0_0 m c ⟨n + 1, hn⟩) (X0_1 m c ⟨n + 1, hn⟩) from if_pos h13]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9⟩
    iapply (run_term c (grid0.coords ⟨n + 1, hn⟩) _ _ _ _ _ _ _ _ _ _ _ _ _ _ _ _ _ _ _ _ _ _ (X0_0 m c ⟨n + 1, hn⟩) (X0_1 m c ⟨n + 1, hn⟩) (accA m c n (Nat.lt_of_succ_lt hn)) c1 ((early_iff _).mpr h13) (fun h => by have := (cond3_iff _).mp h; dsimp only at this; omega) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (ret7 m c ⟨n + 1, hn⟩ (by dsimp only; omega)); iexact H7
    isplitl [H8]; · iapply (ret8 m c ⟨n + 1, hn⟩ (by dsimp only; omega)); iexact H8
    iexact H9
  have late : 13 ≤ n + 1 := by omega
  have c3 : k0_cond3 (grid0.coords ⟨n + 1, hn⟩) = 1#1 := (cond3_iff _).mpr late
  have c2 : ¬ early (grid0.coords ⟨n + 1, hn⟩) := fun h => h13 ((early_iff _).mp h)
  have i9 : cfg0.idle 9 (cfg0.grid.coords ⟨n + 1, hn⟩) = false := Bool.eq_false_iff.mpr fun h => h13 ((idle9_iff _).mp h).2
  rw [Rets.ret_live (dats m 0 c) i9, after9, show sumA m c (n + 1) hn = k0_pay7 (rowsAt m c ⟨n + 1, hn⟩ late) (iblk m c 4 ⟨n + 1, hn⟩) (sumA m c n (Nat.lt_of_succ_lt hn)) from dif_pos late]
  simp only [before9]
  rw [← acc_late m c n hn (by omega)]
  by_cases h14 : n + 1 = 13
  · have i8 : cfg0.idle 8 (cfg0.grid.coords ⟨n + 1, hn⟩) = false := Bool.eq_false_iff.mpr fun h => (idle8_iff _).mp h h14
    have eM : (pointM : Fin cfg0.N) = ⟨n + 1, hn⟩ := Fin.ext h14.symm
    have e8 : k0_pay4 (outAt m c pointM pointM_late) = k0_pay4 (outAt m c ⟨n + 1, hn⟩ late) := by
      rw [outAt_congr m c eM pointM_late late]
    rw [Rets.ret_live (dats m 0 c) i8, after8, e8]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩⟩
    iapply (run_kept c (grid0.coords ⟨n + 1, hn⟩) _ _ _ _ _ _ _ _ _ _ _ _ _ _ _ _ _ _ _ _ _ _ (iblk m c 4 ⟨n + 1, hn⟩) (iblk m c 5 ⟨n + 1, hn⟩) (iblk m c 6 ⟨n + 1, hn⟩) (sumA m c n (Nat.lt_of_succ_lt hn)) (accA m c (n + 1) hn) c1 c2 c3 ((cond4_iff _).mpr h14) (fun h => by have := (cond5_iff _).mp h; dsimp only at this; omega) Set.univ _)
    isplitl [H4]; · iexact H4
    isplitl [H5]; · iexact H5
    isplitl [H6]; · iexact H6
    isplitl [H8]; · iexists _; iexact H8
    isplitl [H9]; · iexact H9
    isplitl [HS]; · iexact HS
    iintro ⟨H4, H5, H6, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (ret7 m c ⟨n + 1, hn⟩ (by dsimp only; omega)); iexact H7
    isplitl [H8]; · iexact H8
    iexact H9
  · have i7 : cfg0.idle 7 (cfg0.grid.coords ⟨n + 1, hn⟩) = false := Bool.eq_false_iff.mpr fun h => by have := (idle7_iff _).mp h; dsimp only at this; omega
    have eR : pointR ⟨n + 1, hn⟩ = ⟨n + 1, hn⟩ := Fin.ext (show max (n + 1) 14 = n + 1 by omega)
    have e7 : outAt m c (pointR ⟨n + 1, hn⟩) (pointR_late _) = outAt m c ⟨n + 1, hn⟩ late := outAt_congr m c eR _ _
    rw [Rets.ret_live (dats m 0 c) i7, after7, e7]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩⟩
    iapply (run_rows c (grid0.coords ⟨n + 1, hn⟩) _ _ _ _ _ _ _ _ _ _ _ _ _ _ _ _ _ _ _ _ _ _ (iblk m c 4 ⟨n + 1, hn⟩) (iblk m c 5 ⟨n + 1, hn⟩) (iblk m c 6 ⟨n + 1, hn⟩) (sumA m c n (Nat.lt_of_succ_lt hn)) (accA m c (n + 1) hn) c1 c2 c3 (fun h => h14 ((cond4_iff _).mp h)) ((cond5_iff _).mpr (by dsimp only; omega)) Set.univ _)
    isplitl [H4]; · iexact H4
    isplitl [H5]; · iexact H5
    isplitl [H6]; · iexact H6
    isplitl [H7]; · iexists _; iexact H7
    isplitl [H9]; · iexact H9
    isplitl [HS]; · iexact HS
    iintro ⟨H4, H5, H6, H7, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (ret8 m c ⟨n + 1, hn⟩ h14); iexact H8
    iexact H9

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem finish (c : Dev nD) : (dats m 0 c).Φ (Fin.last cfg0.N) ⊢ Pipeline.ΦA spec0 c := by
  have hN : (Fin.last cfg0.N).val ≠ 0 := by rw [Fin.val_last]; have : cfg0.N = 30 := N_0; omega
  rw [show (dats m 0 c).Φ (Fin.last cfg0.N) = inv m c (Fin.last cfg0.N).val (Nat.le_of_lt_succ (Fin.last cfg0.N).isLt) from rfl, inv_pos m c _ _ hN, start_eq]
  iintro ⟨HS, Hg⟩
  isplitl [HS]
  · iexists _; iexact HS
  iexact Hg

set_option backward.isDefEq.respectTransparency.types false in
set_option maxHeartbeats 800000 in
/-- Every fair run of the call ends with the arrays at what the points wrote back and every counter at zero. -/
theorem runs : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m)
    (hmain := hmain m Variants.none) (hA := A_eq m) (hin := fun _ => .rfl) (hout := finish m)

/-- The call leaves its arguments as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.InGradIdeal.Run

end
-- ==== Proof.NormBack.lean ====
/- Two ways to write the gradient of a root-mean-square norm, equal on extended reals: through the normalised values, as
   a kernel writes it, and through the derivative of the reciprocal root, as automatic differentiation writes it. No
   value has to be finite. -/
module

public import Idealize.ShloMosaic.PureOps.Ideal
public import Idealize.ShloMosaic.Lib.IdealHost

@[expose] public section

noncomputable section

namespace Cert.NormBack

open Idealize.ShloMosaic

/-! ## Constants -/

theorem word_1024 : Ideal.ofBits .f32 0x44800000#32 = ((1024 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
/-- The norm's small constant is a positive real. -/
theorem word_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-! ## Extended reals -/

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A sum times a nonnegative real, term by term. -/
theorem sum_mul {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A value twice, times a real, is the value times twice the real. -/
theorem twice (x : EReal) (r : ℝ) : x * (r : EReal) + x * (r : EReal) = x * ((2 * r : ℝ) : EReal) := by
  have double : ∀ y : EReal, y + y = y * ((2 : ℝ) : EReal) := fun y => by
    induction y with
    | bot => rw [EReal.bot_add, EReal.bot_mul_coe_of_pos (by norm_num)]
    | top => rw [EReal.top_add_top, EReal.top_mul_coe_of_pos (by norm_num)]
    | coe y => rw [← EReal.coe_add, ← EReal.coe_mul, mul_two]
  rw [double, mul_assoc, ← EReal.coe_mul, mul_comm r 2]

/-- The gradient of the norm at one element: `d` the gradient that arrives beside it, `g` the normalised values' gradient,
    `h` the values, `ss` their sum of squares. -/
theorem element {n : ℕ} (ss d : EReal) (hss : 0 ≤ ss) (h g : Fin n → EReal) (j : Fin n) (e : ℝ) (he : 0 < e) :
    d + Ideal.rsqrt (Ideal.div ss ((1024 : ℝ) : EReal) + e)
        * (g j - h j * Ideal.rsqrt (Ideal.div ss ((1024 : ℝ) : EReal) + e)
            * Ideal.div (∑ k, g k * (h k * Ideal.rsqrt (Ideal.div ss ((1024 : ℝ) : EReal) + e))) ((1024 : ℝ) : EReal))
      = d + g j * Ideal.rsqrt (Ideal.div ss ((1024 : ℝ) : EReal) + e)
        + h j * Ideal.div ((∑ k, h k * g k) * (((-(1 / 2) : ℝ) : EReal)
            * Ideal.div (Ideal.rsqrt (Ideal.div ss ((1024 : ℝ) : EReal) + e)) (Ideal.div ss ((1024 : ℝ) : EReal) + e))) ((1024 : ℝ) : EReal)
        + Ideal.div ((∑ k, h k * g k) * (((-(1 / 2) : ℝ) : EReal)
            * Ideal.div (Ideal.rsqrt (Ideal.div ss ((1024 : ℝ) : EReal) + e)) (Ideal.div ss ((1024 : ℝ) : EReal) + e))) ((1024 : ℝ) : EReal) * h j := by
  have d1024 : ∀ x : EReal, Ideal.div x ((1024 : ℝ) : EReal) = x * (((1024 : ℝ)⁻¹ : ℝ) : EReal) := fun x => by
    unfold Ideal.div
    rw [if_neg (by norm_num), EReal.coe_inv]
  simp only [d1024]
  induction ss with
  | bot => exact absurd hss (by simp)
  | top =>
    rw [EReal.top_mul_coe_of_pos (by norm_num), EReal.top_add_coe, Ideal.rsqrt_top]
    have z : Ideal.div 0 ⊤ = 0 := by unfold Ideal.div; rw [if_neg (by simp), zero_mul]
    simp only [z, mul_zero, zero_mul, add_zero]
  | coe s =>
    have hs : 0 ≤ s := EReal.coe_nonneg.mp hss
    obtain ⟨w, hw, ew⟩ : ∃ w : ℝ, 0 < w ∧ (s : EReal) * (((1024 : ℝ)⁻¹ : ℝ) : EReal) + e = (w : EReal) :=
      ⟨s * 1024⁻¹ + e, by positivity, by rw [EReal.coe_add, EReal.coe_mul]⟩
    rw [ew]
    have hr : 0 < (Real.sqrt w)⁻¹ := inv_pos.mpr (Real.sqrt_pos.mpr hw)
    have er : Ideal.rsqrt (w : EReal) = (((Real.sqrt w)⁻¹ : ℝ) : EReal) := by
      rw [Ideal.rsqrt_coe, if_neg (not_lt.mpr hw.le), if_neg hw.ne']
    have ed : Ideal.div (((Real.sqrt w)⁻¹ : ℝ) : EReal) (w : EReal) = (((Real.sqrt w)⁻¹ * (Real.sqrt w)⁻¹ * (Real.sqrt w)⁻¹ : ℝ) : EReal) := by
      unfold Ideal.div
      rw [if_neg (by exact_mod_cast hw.ne'), ← EReal.coe_inv, ← EReal.coe_mul]
      rw [mul_assoc (Real.sqrt w)⁻¹, ← mul_inv (Real.sqrt w) (Real.sqrt w), Real.mul_self_sqrt hw.le]
    rw [er, ed]
    generalize (Real.sqrt w)⁻¹ = r at hr ⊢
    have es : ∑ k, g k * (h k * (r : EReal)) = (∑ k, h k * g k) * (r : EReal) := by
      rw [sum_mul _ _ _ hr.le]
      exact Finset.sum_congr rfl fun k _ => by ac_rfl
    rw [es]
    generalize (∑ k, h k * g k) = T
    have e1 : (r : EReal) * (g j - h j * r * (T * r * (((1024 : ℝ)⁻¹ : ℝ) : EReal)))
        = g j * r + h j * T * ((2 * (-(1 / 2) * (r * r * r) * 1024⁻¹) : ℝ) : EReal) := by
      rw [sub_eq_add_neg, EReal.left_distrib_of_nonneg_of_ne_top (EReal.coe_nonneg.mpr hr.le) (EReal.coe_ne_top r)]
      refine congrArg₂ (· + ·) (mul_comm _ _) ?_
      rw [show (2 * (-(1 / 2) * (r * r * r) * 1024⁻¹) : ℝ) = -(r * r * r * 1024⁻¹) by ring, EReal.coe_neg, mul_neg, mul_neg]
      refine congrArg Neg.neg ?_
      simp only [EReal.coe_mul]
      ac_rfl
    rw [e1, ← twice, add_assoc, add_assoc]
    refine congrArg (d + ·) ?_
    refine congrArg (g j * r + ·) (congrArg₂ (· + ·) ?_ ?_)
    · simp only [EReal.coe_mul]; ac_rfl
    · simp only [EReal.coe_mul]; ac_rfl

end Cert.NormBack

end
-- ==== Proof.InGradValue.lean ====
/- `InGradIdeal`'s results as mathematics. Its first launch half sums, at each row and each feature, every projection
   column's product of the projection's gradient and the weight, over thirteen blocks of 512 columns with the last, half
   block of 128 beside them: the reference's product. Its second half takes the rows 128 at a time back through the first
   norm: each element is the reference's (`Cert.NormBack.element`), and the weight's gradient is the sum over all rows of
   the normalised value times the product. The three arrays are the reference's three results. -/
module

public import proofs.«01_k».proof.Proof.InGradRun
public import proofs.«01_k».proof.Proof.NormBack
public import proofs.«01_k».proof.Proof.Gen.InGradReferenceIdeal.Run
public import proofs.«01_k».proof.Proof.Gen.InGradReferenceIdeal.Read
public import proofs.«01_k».proof.Defs
public import proofs.«01_k».proof.Proof.Gen.InGrad
public import proofs.«01_k».proof.Proof.Gen.InGradReferenceIdeal
public import Idealize.ShloMosaic.Lib.MatmulPlain
public import Idealize.ShloMosaic.Lib.ValueIdx
public import Idealize.ShloMosaic.Lib.Pointwise

@[expose] public section

set_option maxRecDepth 16384

noncomputable section

namespace Cert.InGradIdeal.Run

open Idealize.ShloMosaic hiding ix1 ix2
open Idealize.ShloMosaic.TcCoe Idealize.ShloMosaic.ValueIdx
open Idealize.SL.Sem
open Idealize.ShloMosaic.Pipeline (Dat Cfg Window)
open Cert.InGradIdeal.Gen

/-! ## The payloads, at an element -/

theorem zero_word : (Ideal.ofBits .f32 0#32 : EReal) = 0 := Ideal.ofBits_zero_f32

/-- The mean square of a row, with the norm's small constant. -/
def spread (h : Fin 1024 → EReal) : EReal :=
  Ideal.div (∑ k, h k * h k) (Ideal.ofBits .f32 0x44800000#32) + Ideal.ofBits .f32 0x3727C5AC#32

/-- A row of the first matrix times a column of the second, of the half block and of a whole block. -/
def half (u : Vec Ideal S2176x128 .bf16) (w : Vec Ideal S128x1024 .bf16) (r : Fin 2176) (j : Fin 1024) : EReal :=
  ∑ k : Fin 128, u (ix2 r k) * w (ix2 k j)
def whole (u : Vec Ideal S2176x512 .bf16) (w : Vec Ideal S512x1024 .bf16) (r : Fin 2176) (j : Fin 1024) : EReal :=
  ∑ k : Fin 512, u (ix2 r k) * w (ix2 k j)
/-- A column of the rows' normalised values times a column of their gradient. -/
def fold (d h : Vec Ideal S128x1024 .f32) (j : Fin 1024) : EReal :=
  ∑ x : Fin 128, (h (ix2 x j) * Ideal.rsqrt (spread fun k => h (ix2 x k))) * d (ix2 x j)

theorem pay1_apply (u : Vec Ideal S2176x128 .bf16) (w : Vec Ideal S128x1024 .bf16) (r : Fin 2176) (j : Fin 1024) :
    k0_pay1 (F := Ideal) u w (ix2 r j) = half u w r j := by
  unfold k0_pay1
  rw [shapeCast_self]
  refine (Ideal.matmul_plain_apply (M := 2176) (K := 128) (N := 1024) (φ₁ := .bf16) (φ₂ := .bf16) none u w (constant S2176x1024 .f32 0#32) r j).trans ?_
  rw [show (constant S2176x1024 .f32 0#32 : FVec Ideal S2176x1024 .f32) (ix2 r j) = 0 from zero_word, zero_add]
  rfl

theorem pay3_apply (acc : Vec Ideal S2176x1024 .f32) (u : Vec Ideal S2176x512 .bf16) (w : Vec Ideal S512x1024 .bf16) (r : Fin 2176) (j : Fin 1024) :
    k0_pay3 (F := Ideal) acc u w (ix2 r j) = acc (ix2 r j) + whole u w r j := by
  unfold k0_pay3
  rw [shapeCast_self]
  refine congrArg (fun x : EReal => acc (ix2 r j) + x) ?_
  refine (Ideal.matmul_plain_apply (M := 2176) (K := 512) (N := 1024) (φ₁ := .bf16) (φ₂ := .bf16) none u w (constant S2176x1024 .f32 0#32) r j).trans ?_
  rw [show (constant S2176x1024 .f32 0#32 : FVec Ideal S2176x1024 .f32) (ix2 r j) = 0 from zero_word, zero_add]
  rfl

theorem pay2_apply (j : S1x1024.Idx) : k0_pay2 (F := Ideal) j = 0 := by
  unfold k0_pay2
  pointwise

theorem pay4_apply (v : Vec Ideal S128x1024 .f32) (i : S16x1024.Idx) (r : Fin 128) (j : Fin 1024) (hr : r.val = 112 + (i 0).val) (hj : j.val = (i 1).val) :
    k0_pay4 (F := Ideal) v i = v (ix2 r j) := by
  unfold k0_pay4
  pointwise
  refine congrArg v (funext fun a => Fin.ext ?_)
  match a with
    | ⟨0, _⟩ => exact hr.symm
    | ⟨1, _⟩ => exact hj.symm

theorem pay5_apply (h : Vec Ideal S128x1024 .f32) (r : Fin 128) (z : Fin 1) :
    k0_pay5 (F := Ideal) h (ix2 r z) = Ideal.rsqrt (spread fun k => h (ix2 r k)) := by
  unfold k0_pay5 spread
  pointwise
  rfl

theorem pay6_apply (h : Vec Ideal S128x1024 .f32) (r : Fin 128) (j : Fin 1024) :
    k0_pay6 (F := Ideal) h (ix2 r j) = h (ix2 r j) * Ideal.rsqrt (spread fun k => h (ix2 r k)) := by
  rw [← pay5_apply h r 0]
  unfold k0_pay6
  pointwise
  rfl

theorem pay7_apply (d h : Vec Ideal S128x1024 .f32) (o : Vec Ideal S1x1024 .f32) (z : Fin 1) (j : Fin 1024) :
    k0_pay7 (F := Ideal) d h o (ix2 z j) = o (ix2 z j) + fold d h j := by
  refine Eq.trans (b := o (ix2 z j) + ∑ x : Fin 128, d (ix2 x j) * k0_pay6 h (ix2 x j)) ?_ ?_
  · unfold k0_pay7
    pointwise
    rfl
  · refine congrArg (o (ix2 z j) + ·) (Finset.sum_congr rfl fun x _ => ?_)
    rw [pay6_apply, mul_comm]

theorem pay8_apply (d h o : Vec Ideal S128x1024 .f32) (w : Vec Ideal S1x1024 .f32) (r : Fin 128) (j : Fin 1024) :
    k0_pay8 (F := Ideal) d h w o (ix2 r j) = o (ix2 r j) + Ideal.rsqrt (spread fun k => h (ix2 r k))
      * (d (ix2 r j) * w (ix2 0 j) - h (ix2 r j) * Ideal.rsqrt (spread fun k => h (ix2 r k))
        * Ideal.div (∑ k : Fin 1024, d (ix2 r k) * w (ix2 0 k) * (h (ix2 r k) * Ideal.rsqrt (spread fun k => h (ix2 r k)))) (Ideal.ofBits .f32 0x44800000#32)) := by
  simp only [← pay6_apply h r]
  rw [← pay5_apply h r 0]
  unfold k0_pay8
  pointwise
  rfl

/-! ## The reference, at an element -/

theorem idx2 {n0 n1 : ℕ} (i : (⟨2, ![n0, n1]⟩ : Shape).Idx) (a : Fin n0) (b : Fin n1) (h0 : (i 0).val = a.val) (h1 : (i 1).val = b.val) : i = ix2 a b := by
  funext x
  match x with
    | ⟨0, _⟩ => exact Fin.ext h0
    | ⟨1, _⟩ => exact Fin.ext h1

/-- The gradient of the normalised rows: the projection's gradient times the weight. -/
def du (x0 : Vec Ideal S2176x6784 .bf16) (x1 : Vec Ideal S6784x1024 .bf16) (r : Fin 2176) (j : Fin 1024) : EReal :=
  ∑ k : Fin 6784, x0 (ix2 r k) * x1 (ix2 k j)

section Reference

open Cert.InGradReferenceIdeal.Read

variable (x0 : Vec Ideal S2176x6784 .bf16) (x1 : Vec Ideal S6784x1024 .bf16) (x2 x3 : Vec Ideal S2176x1024 .f32) (x4 : Vec Ideal S1x1024 .f32)

theorem ref_du (r : Fin 2176) (j : Fin 1024) : val_main_v19 (F := Ideal) x0 x1 (ix2 r j) = du x0 x1 r j := by
  rw [val_main_v19_apply]
  unfold du
  refine Finset.sum_congr rfl fun k _ => congrArg₂ (· * ·) ?_ ?_
  · rw [val_main_v18_apply, idx2 (lidx_main_v19 (ix2 r j) k) r k rfl rfl]
    rfl
  · rw [val_main_v1_apply, val_main_v0_apply, idx2 (idx_main_v1 (ridx_main_v19 (ix2 r j) k)) k j rfl rfl]
    rfl

theorem ref_spread (r : Fin 2176) : val_main_v8 (F := Ideal) x2 (ix2 r 0) = spread fun k => x2 (ix2 r k) := by
  rw [val_main_v8_apply, val_main_v6_apply, val_main_v5_apply, val_main_v7_apply, val_main_v4_apply, val_main_v3_apply]
  unfold spread
  refine congrArg₂ (fun x y : EReal => x + y) (congrArg₂ Ideal.div ?_ rfl) rfl
  refine (congrArg₂ (fun x y : EReal => x + y) zero_word (Finset.sum_congr rfl fun k _ => ?_)).trans (zero_add _)
  rw [val_main_v2_apply, idx2 (idx_main_v3 (idx_main_v4 (ix2 r 0)) k) r k rfl rfl]
  rfl

theorem ref_root (r : Fin 2176) : val_main_v9 (F := Ideal) x2 (ix2 r 0) = Ideal.rsqrt (spread fun k => x2 (ix2 r k)) := by
  rw [val_main_v9_apply, ref_spread]
  rfl

theorem ref_norm (r : Fin 2176) (j : Fin 1024) :
    val_main_v14 (F := Ideal) x2 (ix2 r j) = x2 (ix2 r j) * Ideal.rsqrt (spread fun k => x2 (ix2 r k)) := by
  rw [val_main_v14_apply, val_main_v13_apply, idx2 (idx_main_v13 (ix2 r j)) r 0 rfl rfl, ref_root]
  rfl

theorem ref_weight (j : Fin 1024) (i : Cert.InGradReferenceIdeal.S1x1024.Idx) (hj : (i 1).val = j.val) :
    val_main_v22 (F := Ideal) x0 x1 x2 i = ∑ r : Fin 2176, (x2 (ix2 r j) * Ideal.rsqrt (spread fun k => x2 (ix2 r k))) * du x0 x1 r j := by
  rw [val_main_v22_apply, val_main_v21_apply]
  refine (congrArg₂ (fun x y : EReal => x + y) zero_word (Finset.sum_congr rfl fun r _ => ?_)).trans (zero_add _)
  have h0 : (i 0).val < 1 := (i 0).isLt
  rw [idx2 (idx_main_v21 (idx_main_v22 i) r) r j rfl (by show (i 0).val * 1024 + (i 1).val = j.val; omega), val_main_v20_apply, ref_norm, ref_du]
  rfl

theorem ref_g (r : Fin 2176) (j : Fin 1024) : val_main_v24 (F := Ideal) x0 x1 x4 (ix2 r j) = du x0 x1 r j * x4 (ix2 0 j) := by
  rw [val_main_v24_apply, val_main_v23_apply, idx2 (idx_main_v23 (ix2 r j)) 0 j rfl rfl, ref_du]
  rfl

/-- The root's gradient, spread over the row's elements. -/
theorem ref_pull (r : Fin 2176) (j : Fin 1024) :
    val_main_v35 (F := Ideal) x0 x1 x2 x4 (ix2 r j) = Ideal.div ((∑ k : Fin 1024, x2 (ix2 r k) * (du x0 x1 r k * x4 (ix2 0 k)))
      * (Ideal.ofBits .f32 0xBF000000#32 * Ideal.div (Ideal.rsqrt (spread fun k => x2 (ix2 r k))) (spread fun k => x2 (ix2 r k)))) (Ideal.ofBits .f32 0x44800000#32) := by
  rw [val_main_v35_apply, val_main_v34_apply, Fin.sum_univ_one, idx2 (idx_main_v34 (idx_main_v35 (ix2 r j)) 0) r 0 rfl rfl]
  refine (congrArg₂ (fun x y : EReal => x + y) zero_word ?_).trans (zero_add _)
  rw [val_main_v33_apply, val_main_v32_apply, val_main_v31_apply, val_main_v27_apply, val_main_v26_apply, val_main_v12_apply, val_main_v11_apply, val_main_v10_apply, ref_root, ref_spread]
  refine congrArg₂ Ideal.div (congrArg₂ (fun x y : EReal => x * y) ?_ rfl) rfl
  refine (congrArg₂ (fun x y : EReal => x + y) zero_word (Finset.sum_congr rfl fun k _ => ?_)).trans (zero_add _)
  rw [idx2 (idx_main_v26 (idx_main_v27 (ix2 r 0)) k) r k (by show r.val * 1 + 0 = r.val; omega) rfl, val_main_v25_apply, ref_g]
  rfl

/-- An element of the reference's gradient, as the kernel writes it. -/
theorem ref_element (r : Fin 2176) (j : Fin 1024) :
    val_main_v39 (F := Ideal) x0 x1 x2 x3 x4 (ix2 r j) = x3 (ix2 r j) + Ideal.rsqrt (spread fun k => x2 (ix2 r k))
      * (du x0 x1 r j * x4 (ix2 0 j) - x2 (ix2 r j) * Ideal.rsqrt (spread fun k => x2 (ix2 r k))
        * Ideal.div (∑ k : Fin 1024, du x0 x1 r k * x4 (ix2 0 k) * (x2 (ix2 r k) * Ideal.rsqrt (spread fun k => x2 (ix2 r k)))) (Ideal.ofBits .f32 0x44800000#32)) := by
  rw [val_main_v39_apply, val_main_v38_apply, val_main_v37_apply, val_main_v36_apply, val_main_v30_apply, val_main_v29_apply, val_main_v28_apply, ref_g, ref_pull,
    idx2 (idx_main_v28 (ix2 r j)) r 0 rfl rfl, ref_root]
  obtain ⟨e, he, ee⟩ := Cert.NormBack.word_eps
  unfold spread
  rw [ee, Cert.NormBack.word_1024, Cert.NormBack.word_neg_half]
  exact (Cert.NormBack.element (∑ k : Fin 1024, x2 (ix2 r k) * x2 (ix2 r k)) (x3 (ix2 r j)) (Finset.sum_nonneg fun k _ => Cert.NormBack.sq_nonneg _)
    (fun k => x2 (ix2 r k)) (fun k => du x0 x1 r k * x4 (ix2 0 k)) j e he).symm

end Reference

/-! ## The blocks -/

theorem index_0 : ∀ t : Fin grid0.N, win0_0.index t 0 = 0 ∧ win0_0.index t 1 = min t.val 12 := by decide +kernel
theorem index_1 : ∀ t : Fin grid0.N, win0_1.index t 0 = min t.val 12 ∧ win0_1.index t 1 = 0 := by decide +kernel
theorem index_2 : ∀ t : Fin grid0.N, win0_2.index t 0 = 0 ∧ win0_2.index t 1 = 52 := by decide +kernel
theorem index_3 : ∀ t : Fin grid0.N, win0_3.index t 0 = 52 ∧ win0_3.index t 1 = 0 := by decide +kernel
theorem index_4 : ∀ t : Fin grid0.N, win0_4.index t 0 = t.val - 13 ∧ win0_4.index t 1 = 0 := by decide +kernel
theorem index_5 : ∀ t : Fin grid0.N, win0_5.index t 0 = t.val - 13 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = t.val - 14 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem offs : ∀ t : Fin grid0.N, 13 ≤ t.val → k0_off1 (grid0.coords t) 0 = (t.val - 13) * 128 ∧ k0_off1 (grid0.coords t) 1 = 0 := by decide +kernel

variable (m : (ℓ : Loc nD τ sig) → Buf (Elt Ideal) ℓ) (c : Dev nD)

/-- The projection's gradient, its weight, the first hidden rows, the gradient beside them, and the norm's weight. -/
abbrev dpOf : Vec Ideal S2176x6784 .bf16 := m ((c : Thread nD τ).loc main_arg0)
abbrev wOf : Vec Ideal S6784x1024 .bf16 := m ((c : Thread nD τ).loc main_arg1)
abbrev hOf : Vec Ideal S2176x1024 .f32 := m ((c : Thread nD τ).loc main_arg2)
abbrev dhOf : Vec Ideal S2176x1024 .f32 := m ((c : Thread nD τ).loc main_arg3)
abbrev nwOf : Vec Ideal S1x1024 .f32 := m ((c : Thread nD τ).loc main_arg4)

theorem block_0 (t : Fin cfg0.N) (a : Fin 2176) (b : Fin 512) (J : Fin 6784) (hJ : J.val = min t.val 12 * 512 + b.val) :
    (X0_0 m c t : Vec Ideal S2176x512 .bf16) (ix2 a b) = dpOf m c (ix2 a J) := by
  obtain ⟨e0, e1⟩ := index_0 t
  unfold X0_0 Pipeline.Window.fill
  rw [dif_pos (moved0_0 t (ix2 a b))]
  unfold iblk
  rw [View.read_apply]
  refine congrArg (dpOf m c) (funext fun x => Fin.ext ?_)
  match x with
    | ⟨0, _⟩ => show win0_0.index t 0 * 2176 + 1 * a.val = a.val; rw [e0]; omega
    | ⟨1, _⟩ => show win0_0.index t 1 * 512 + 1 * b.val = J.val; rw [e1]; omega

theorem block_1 (t : Fin cfg0.N) (a : Fin 512) (b : Fin 1024) (J : Fin 6784) (hJ : J.val = min t.val 12 * 512 + a.val) :
    (X0_1 m c t : Vec Ideal S512x1024 .bf16) (ix2 a b) = wOf m c (ix2 J b) := by
  obtain ⟨e0, e1⟩ := index_1 t
  unfold X0_1 Pipeline.Window.fill
  rw [dif_pos (moved0_1 t (ix2 a b))]
  unfold iblk
  rw [View.read_apply]
  refine congrArg (wOf m c) (funext fun x => Fin.ext ?_)
  match x with
    | ⟨0, _⟩ => show win0_1.index t 0 * 512 + 1 * a.val = J.val; rw [e0]; omega
    | ⟨1, _⟩ => show win0_1.index t 1 * 1024 + 1 * b.val = b.val; rw [e1]; omega

theorem block_2 (t : Fin cfg0.N) (a : Fin 2176) (b : Fin 128) (J : Fin 6784) (hJ : J.val = 6656 + b.val) :
    (iblk m c 2 t : Vec Ideal S2176x128 .bf16) (ix2 a b) = dpOf m c (ix2 a J) := by
  obtain ⟨e0, e1⟩ := index_2 t
  unfold iblk
  rw [View.read_apply]
  refine congrArg (dpOf m c) (funext fun x => Fin.ext ?_)
  match x with
    | ⟨0, _⟩ => show win0_2.index t 0 * 2176 + 1 * a.val = a.val; rw [e0]; omega
    | ⟨1, _⟩ => show win0_2.index t 1 * 128 + 1 * b.val = J.val; rw [e1]; omega

theorem block_3 (t : Fin cfg0.N) (a : Fin 128) (b : Fin 1024) (J : Fin 6784) (hJ : J.val = 6656 + a.val) :
    (iblk m c 3 t : Vec Ideal S128x1024 .bf16) (ix2 a b) = wOf m c (ix2 J b) := by
  obtain ⟨e0, e1⟩ := index_3 t
  unfold iblk
  rw [View.read_apply]
  refine congrArg (wOf m c) (funext fun x => Fin.ext ?_)
  match x with
    | ⟨0, _⟩ => show win0_3.index t 0 * 128 + 1 * a.val = J.val; rw [e0]; omega
    | ⟨1, _⟩ => show win0_3.index t 1 * 1024 + 1 * b.val = b.val; rw [e1]; omega

theorem block_4 (t : Fin cfg0.N) (a : Fin 128) (b : Fin 1024) (J : Fin 2176) (hJ : J.val = (t.val - 13) * 128 + a.val) :
    (iblk m c 4 t : Vec Ideal S128x1024 .f32) (ix2 a b) = hOf m c (ix2 J b) := by
  obtain ⟨e0, e1⟩ := index_4 t
  unfold iblk
  rw [View.read_apply]
  refine congrArg (hOf m c) (funext fun x => Fin.ext ?_)
  match x with
    | ⟨0, _⟩ => show win0_4.index t 0 * 128 + 1 * a.val = J.val; rw [e0]; omega
    | ⟨1, _⟩ => show win0_4.index t 1 * 1024 + 1 * b.val = b.val; rw [e1]; omega

theorem block_5 (t : Fin cfg0.N) (a : Fin 128) (b : Fin 1024) (J : Fin 2176) (hJ : J.val = (t.val - 13) * 128 + a.val) :
    (iblk m c 5 t : Vec Ideal S128x1024 .f32) (ix2 a b) = dhOf m c (ix2 J b) := by
  obtain ⟨e0, e1⟩ := index_5 t
  unfold iblk
  rw [View.read_apply]
  refine congrArg (dhOf m c) (funext fun x => Fin.ext ?_)
  match x with
    | ⟨0, _⟩ => show win0_5.index t 0 * 128 + 1 * a.val = J.val; rw [e0]; omega
    | ⟨1, _⟩ => show win0_5.index t 1 * 1024 + 1 * b.val = b.val; rw [e1]; omega

theorem block_6 (t : Fin cfg0.N) (a : Fin 1) (b : Fin 1024) :
    (iblk m c 6 t : Vec Ideal S1x1024 .f32) (ix2 a b) = nwOf m c (ix2 a b) := by
  obtain ⟨e0, e1⟩ := index_6 t
  unfold iblk
  rw [View.read_apply]
  refine congrArg (nwOf m c) (funext fun x => Fin.ext ?_)
  match x with
    | ⟨0, _⟩ => show win0_6.index t 0 * 1 + 1 * a.val = a.val; rw [e0]; omega
    | ⟨1, _⟩ => show win0_6.index t 1 * 1024 + 1 * b.val = b.val; rw [e1]; omega

/-! ## The product -/

/-- One column's part of the product, and nothing past the last column. -/
def part (r : Fin 2176) (j : Fin 1024) (k : ℕ) : EReal :=
  if h : k < 6784 then dpOf m c (ix2 r ⟨k, h⟩) * wOf m c (ix2 ⟨k, h⟩ j) else 0

theorem part_of (r : Fin 2176) (j : Fin 1024) (k : ℕ) (K : Fin 6784) (h : K.val = k) : part m c r j k = dpOf m c (ix2 r K) * wOf m c (ix2 K j) := by
  subst h
  exact dif_pos K.isLt

theorem block_sum (t : Fin cfg0.N) (ht : t.val ≤ 12) (r : Fin 2176) (j : Fin 1024) :
    whole (X0_0 m c t) (X0_1 m c t) r j = ∑ k ∈ Finset.range 512, part m c r j (t.val * 512 + k) := by
  rw [Finset.sum_range]
  refine Finset.sum_congr rfl fun k _ => ?_
  have hk := k.isLt
  have hb : t.val * 512 + k.val < 6784 := by omega
  rw [part_of m c r j _ ⟨t.val * 512 + k.val, hb⟩ rfl]
  have e : (⟨t.val * 512 + k.val, hb⟩ : Fin 6784).val = min t.val 12 * 512 + k.val := by rw [Nat.min_eq_left ht]
  exact congrArg₂ (fun x y : EReal => x * y) (block_0 m c t r k _ e) (block_1 m c t k j _ e)

theorem last_sum (t : Fin cfg0.N) (r : Fin 2176) (j : Fin 1024) :
    half (iblk m c 2 t) (iblk m c 3 t) r j = ∑ k ∈ Finset.range 128, part m c r j (6656 + k) := by
  rw [Finset.sum_range]
  refine Finset.sum_congr rfl fun k _ => ?_
  have hk := k.isLt
  rw [part_of m c r j _ ⟨6656 + k.val, by omega⟩ rfl]
  exact congrArg₂ (fun x y : EReal => x * y) (block_2 m c t r k ⟨6656 + k.val, by omega⟩ rfl) (block_3 m c t k j ⟨6656 + k.val, by omega⟩ rfl)

theorem acc_early (r : Fin 2176) (j : Fin 1024) : ∀ (n : ℕ) (hn : n < cfg0.N), n ≤ 12 →
    (accA m c n hn : Vec Ideal S2176x1024 .f32) (ix2 r j)
      = (∑ k ∈ Finset.range 128, part m c r j (6656 + k)) + ∑ k ∈ Finset.range (512 * (n + 1)), part m c r j k
  | 0, hn, _ => by
    unfold accA
    rw [pay3_apply, pay1_apply, last_sum, block_sum m c ⟨0, hn⟩ (Nat.zero_le 12)]
    simp only [Nat.zero_mul, Nat.zero_add, Nat.mul_one]
  | n + 1, hn, h => by
    unfold accA
    rw [if_pos (by omega), pay3_apply, acc_early r j n (Nat.lt_of_succ_lt hn) (by omega), block_sum m c ⟨n + 1, hn⟩ h, add_assoc,
      show 512 * (n + 1 + 1) = 512 * (n + 1) + 512 by ring, Finset.sum_range_add, Nat.mul_comm 512 (n + 1)]

theorem acc_done (r : Fin 2176) (j : Fin 1024) : ∀ (n : ℕ) (hn : n < cfg0.N), 12 ≤ n →
    (accA m c n hn : Vec Ideal S2176x1024 .f32) (ix2 r j) = du (dpOf m c) (wOf m c) r j
  | 0, _, h => absurd h (by decide)
  | n + 1, hn, h => by
    by_cases h12 : n + 1 = 12
    · rw [acc_early m c r j (n + 1) hn (by omega), h12, add_comm, ← Finset.sum_range_add (fun k => part m c r j k) 6656 128]
      unfold du
      rw [Finset.sum_range]
      exact Finset.sum_congr rfl fun k _ => part_of m c r j _ k rfl
    · rw [acc_late m c n hn (by omega)]
      exact acc_done r j n (Nat.lt_of_succ_lt hn) (by omega)

theorem rows_at (t : Fin cfg0.N) (h : 13 ≤ t.val) (a : Fin 128) (j : Fin 1024) (R : Fin 2176) (hR : R.val = (t.val - 13) * 128 + a.val) :
    (rowsAt m c t h : Vec Ideal S128x1024 .f32) (ix2 a j) = du (dpOf m c) (wOf m c) R j := by
  obtain ⟨e0, e1⟩ := offs t h
  rw [← acc_done m c R j t.val t.isLt (by omega)]
  unfold rowsAt rows
  refine congrArg (accA m c t.val t.isLt) (funext fun x => Fin.ext ?_)
  match x with
    | ⟨0, _⟩ => show k0_off1 (grid0.coords t) 0 + 1 * a.val = R.val; rw [e0]; omega
    | ⟨1, _⟩ => show k0_off1 (grid0.coords t) 1 + 1 * j.val = j.val; rw [e1]; omega

/-! ## The rows -/

theorem out_at (t : Fin cfg0.N) (h : 13 ≤ t.val) (a : Fin 128) (j : Fin 1024) (R : Fin 2176) (hR : R.val = (t.val - 13) * 128 + a.val) :
    (outAt m c t h : Vec Ideal S128x1024 .f32) (ix2 a j)
      = Cert.InGradReferenceIdeal.Read.val_main_v39 (F := Ideal) (dpOf m c) (wOf m c) (hOf m c) (dhOf m c) (nwOf m c) (ix2 R j) := by
  unfold outAt
  rw [pay8_apply, ref_element]
  simp only [rows_at m c t h a _ R hR, block_4 m c t a _ R hR, block_5 m c t a _ R hR, block_6 m c t]

/-! ## The norm's weight -/

/-- One row's part of the weight's gradient, and nothing past the last row. -/
def share (j : Fin 1024) (r : ℕ) : EReal :=
  if h : r < 2176 then (hOf m c (ix2 ⟨r, h⟩ j) * Ideal.rsqrt (spread fun k => hOf m c (ix2 ⟨r, h⟩ k))) * du (dpOf m c) (wOf m c) ⟨r, h⟩ j else 0

theorem rows_sum (t : Fin cfg0.N) (h : 13 ≤ t.val) (j : Fin 1024) :
    fold (rowsAt m c t h) (iblk m c 4 t) j = ∑ x ∈ Finset.range 128, share m c j (128 * (t.val - 13) + x) := by
  have hN := lt_N t
  rw [Finset.sum_range]
  refine Finset.sum_congr rfl fun x _ => ?_
  have hx := x.isLt
  have hb : 128 * (t.val - 13) + x.val < 2176 := by omega
  have e : (⟨128 * (t.val - 13) + x.val, hb⟩ : Fin 2176).val = (t.val - 13) * 128 + x.val := by show _ * _ + _ = _; omega
  unfold share
  rw [dif_pos hb]
  simp only [rows_at m c t h x _ _ e, block_4 m c t x _ _ e]

theorem sum_at (z : Fin 1) (j : Fin 1024) : ∀ (n : ℕ) (hn : n < cfg0.N),
    (sumA m c n hn : Vec Ideal S1x1024 .f32) (ix2 z j) = ∑ r ∈ Finset.range (128 * (n - 12)), share m c j r
  | 0, _ => by
    unfold sumA
    rw [pay2_apply]
    rfl
  | n + 1, hn => by
    unfold sumA
    by_cases h : 13 ≤ n + 1
    · rw [dif_pos h, pay7_apply, sum_at z j n (Nat.lt_of_succ_lt hn), rows_sum m c ⟨n + 1, hn⟩ h,
        show 128 * (n + 1 - 12) = 128 * (n - 12) + 128 by omega, Finset.sum_range_add]
      show _ + (∑ x ∈ Finset.range 128, share m c j (128 * (n + 1 - 13) + x)) = _
      rw [show n + 1 - 13 = n - 12 by omega]
    · rw [dif_neg h, sum_at z j n (Nat.lt_of_succ_lt hn), show n + 1 - 12 = 0 by omega, show n - 12 = 0 by omega]

/-! ## The arrays -/

theorem read_7 (t : Fin cfg0.N) (hf : (cfg0.win 7).flush t = true) :
    (dats m 0 c).flushed 7 t = ((cfg0.win 7).blk t).view.read (Elt Ideal)
      (Cert.InGradReferenceIdeal.Read.val_main_v40 (F := Ideal) (dpOf m c) (wOf m c) (hOf m c) (dhOf m c) (nwOf m c)) := by
  have hN := lt_N t
  have ht := (flush7_iff t).mp hf
  show (cfg0.win 7).cut (grid0.coords t) ((dats m 0 c).after 7 t) = _
  rw [after7]
  funext j
  rw [View.read_apply]
  obtain ⟨e0, e1⟩ := index_7 t
  have b0 : (j 0).val < 128 := (j 0).isLt
  have b1 : (j 1).val < 1024 := (j 1).isLt
  have hR : (t.val - 13) * 128 + (j 0).val < 2176 := by omega
  have hp : (pointR t).val = t.val := max_eq_left ht
  refine Eq.trans (b := Cert.InGradReferenceIdeal.Read.val_main_v39 (F := Ideal) (dpOf m c) (wOf m c) (hOf m c) (dhOf m c) (nwOf m c)
    (ix2 ⟨(t.val - 13) * 128 + (j 0).val, hR⟩ ⟨(j 1).val, b1⟩)) ?_ ?_
  · refine Eq.trans (congrArg (outAt m c (pointR t) (pointR_late t)) (?_ : _ = ix2 ⟨(j 0).val, b0⟩ ⟨(j 1).val, b1⟩)) ?_
    · funext a; match a with
        | ⟨0, _⟩ => rfl
        | ⟨1, _⟩ => rfl
    exact out_at m c _ _ _ _ _ (by rw [hp])
  · refine Eq.symm ?_
    refine Eq.trans (Cert.InGradReferenceIdeal.Read.val_main_v40_apply _ _ _ _ _ _) (congrArg _ (idx2 _ _ _ ?_ ?_))
    · show 128 + (win0_7.index t 0 * 128 + 1 * (j 0).val) = (t.val - 13) * 128 + (j 0).val; rw [e0]; omega
    · show win0_7.index t 1 * 1024 + 1 * (j 1).val = (j 1).val; rw [e1]; omega

theorem arr_7 : (dats m 0 c).arrAt 7 cfg0.N
    = Cert.InGradReferenceIdeal.Read.val_main_v40 (F := Ideal) (dpOf m c) (wOf m c) (hOf m c) (dhOf m c) (nwOf m c) :=
  (dats m 0 c).arrAt_eq_of_cover 7 _ (read_7 m c) fun i => by
    have hN : cfg0.N = 30 := N_0
    have b0 : (i 0).val < 2048 := (i 0).isLt
    have b1 : (i 1).val < 1024 := (i 1).isLt
    obtain ⟨t, ht⟩ : ∃ t : Fin cfg0.N, t.val = 14 + (i 0).val / 128 := ⟨⟨_, by omega⟩, rfl⟩
    obtain ⟨e0, e1⟩ := index_7 t
    refine ⟨t, (flush7_iff t).mpr (by omega), ?_⟩
    show i ∈ ((View.whole main_v0_0).slice (win0_7.rect t)).set
    rw [View.set_slice_whole, Rect.mem_set_unit]
    intro x
    match x with
      | ⟨0, _⟩ =>
        show win0_7.index t 0 * 128 ≤ (i 0).val ∧ (i 0).val < win0_7.index t 0 * 128 + 128
        rw [e0]; omega
      | ⟨1, _⟩ =>
        show win0_7.index t 1 * 1024 ≤ (i 1).val ∧ (i 1).val < win0_7.index t 1 * 1024 + 1024
        rw [e1]; omega

theorem read_8 (t : Fin cfg0.N) (_ : (cfg0.win 8).flush t = true) :
    (dats m 0 c).flushed 8 t = ((cfg0.win 8).blk t).view.read (Elt Ideal)
      (Cert.InGradReferenceIdeal.Read.val_main_v41 (F := Ideal) (dpOf m c) (wOf m c) (hOf m c) (dhOf m c) (nwOf m c)) := by
  show (cfg0.win 8).cut (grid0.coords t) ((dats m 0 c).after 8 t) = _
  rw [after8]
  funext j
  rw [View.read_apply]
  obtain ⟨e0, e1⟩ := index_8 t
  have b0 : (j 0).val < 16 := (j 0).isLt
  have b1 : (j 1).val < 1024 := (j 1).isLt
  refine Eq.trans (b := Cert.InGradReferenceIdeal.Read.val_main_v39 (F := Ideal) (dpOf m c) (wOf m c) (hOf m c) (dhOf m c) (nwOf m c)
    (ix2 ⟨112 + (j 0).val, by omega⟩ ⟨(j 1).val, b1⟩)) ?_ ?_
  · refine Eq.trans (pay4_apply _ _ ⟨112 + (j 0).val, by omega⟩ ⟨(j 1).val, b1⟩ rfl rfl) ?_
    exact out_at m c _ _ _ _ _ (by show 112 + (j 0).val = (13 - 13) * 128 + (112 + (j 0).val); omega)
  · refine Eq.symm ?_
    refine Eq.trans (Cert.InGradReferenceIdeal.Read.val_main_v41_apply _ _ _ _ _ _) (congrArg _ (idx2 _ _ _ ?_ ?_))
    · show 112 + (win0_8.index t 0 * 16 + 1 * (j 0).val) = 112 + (j 0).val; rw [e0]; omega
    · show win0_8.index t 1 * 1024 + 1 * (j 1).val = (j 1).val; rw [e1]; omega

theorem arr_8 : (dats m 0 c).arrAt 8 cfg0.N
    = Cert.InGradReferenceIdeal.Read.val_main_v41 (F := Ideal) (dpOf m c) (wOf m c) (hOf m c) (dhOf m c) (nwOf m c) :=
  (dats m 0 c).arrAt_eq_of_cover 8 _ (read_8 m c) fun i => by
    have hN : cfg0.N = 30 := N_0
    have b0 : (i 0).val < 16 := (i 0).isLt
    have b1 : (i 1).val < 1024 := (i 1).isLt
    obtain ⟨t, ht⟩ : ∃ t : Fin cfg0.N, t.val = 29 := ⟨⟨_, by omega⟩, rfl⟩
    obtain ⟨e0, e1⟩ := index_8 t
    refine ⟨t, (flush8_iff t).mpr ht, ?_⟩
    show i ∈ ((View.whole main_v0_1).slice (win0_8.rect t)).set
    rw [View.set_slice_whole, Rect.mem_set_unit]
    intro x
    match x with
      | ⟨0, _⟩ =>
        show win0_8.index t 0 * 16 ≤ (i 0).val ∧ (i 0).val < win0_8.index t 0 * 16 + 16
        rw [e0]; omega
      | ⟨1, _⟩ =>
        show win0_8.index t 1 * 1024 ≤ (i 1).val ∧ (i 1).val < win0_8.index t 1 * 1024 + 1024
        rw [e1]; omega

theorem read_9 (t : Fin cfg0.N) (hf : (cfg0.win 9).flush t = true) :
    (dats m 0 c).flushed 9 t = ((cfg0.win 9).blk t).view.read (Elt Ideal)
      (Cert.InGradReferenceIdeal.Read.val_main_v22 (F := Ideal) (dpOf m c) (wOf m c) (hOf m c)) := by
  have ht := (flush9_iff t).mp hf
  show (cfg0.win 9).cut (grid0.coords t) ((dats m 0 c).after 9 t) = _
  rw [after9]
  funext j
  rw [View.read_apply]
  obtain ⟨e0, e1⟩ := index_9 t
  have b0 : (j 0).val < 1 := (j 0).isLt
  have b1 : (j 1).val < 1024 := (j 1).isLt
  refine Eq.trans (b := (∑ r ∈ Finset.range 2176, share m c ⟨(j 1).val, b1⟩ r : EReal)) ?_ ?_
  · refine Eq.trans (congrArg (sumA m c t.val t.isLt) (?_ : _ = ix2 ⟨(j 0).val, b0⟩ ⟨(j 1).val, b1⟩)) ?_
    · funext a; match a with
        | ⟨0, _⟩ => rfl
        | ⟨1, _⟩ => rfl
    rw [sum_at, ht]
  · refine Eq.symm ?_
    refine Eq.trans (ref_weight _ _ _ ⟨(j 1).val, b1⟩ _ ?_) ?_
    · show win0_9.index t 1 * 1024 + 1 * (j 1).val = (j 1).val; rw [e1]; omega
    · rw [Finset.sum_range]
      refine Finset.sum_congr rfl fun r _ => ?_
      unfold share
      rw [dif_pos r.isLt]

theorem arr_9 : (dats m 0 c).arrAt 9 cfg0.N = Cert.InGradReferenceIdeal.Read.val_main_v22 (F := Ideal) (dpOf m c) (wOf m c) (hOf m c) :=
  (dats m 0 c).arrAt_eq_of_cover 9 _ (read_9 m c) fun i => by
    have hN : cfg0.N = 30 := N_0
    have b0 : (i 0).val < 1 := (i 0).isLt
    have b1 : (i 1).val < 1024 := (i 1).isLt
    obtain ⟨t, ht⟩ : ∃ t : Fin cfg0.N, t.val = 29 := ⟨⟨_, by omega⟩, rfl⟩
    obtain ⟨e0, e1⟩ := index_9 t
    refine ⟨t, (flush9_iff t).mpr ht, ?_⟩
    show i ∈ ((View.whole main_v0_2).slice (win0_9.rect t)).set
    rw [View.set_slice_whole, Rect.mem_set_unit]
    intro x
    match x with
      | ⟨0, _⟩ =>
        show win0_9.index t 0 * 1 ≤ (i 0).val ∧ (i 0).val < win0_9.index t 0 * 1 + 1
        rw [e0]; omega
      | ⟨1, _⟩ =>
        show win0_9.index t 1 * 1024 ≤ (i 1).val ∧ (i 1).val < win0_9.index t 1 * 1024 + 1024
        rw [e1]; omega

/-! ## The claims -/

theorem frame_ideal : Cert.quiescent_InGradIdeal := fun m ρ _ => framed m ρ

/-- The kernel bodies of the two printed programs are the same table. -/
theorem bodies_eq : @Cert.InGrad.defs₀ Bits _ _ = @Cert.InGradIdeal.defs₀ Bits _ _ := by
  unfold Cert.InGrad.defs₀ Cert.InGradIdeal.defs₀
  refine congrArg Defs.onTc (funext fun l => funext fun x => ?_)
  match l, x with
    | 0, (_, _) => rfl

theorem defs_eq : @Cert.InGrad.defs Bits _ _ = @Cert.InGradIdeal.defs Bits _ _ := by
  unfold Cert.InGrad.defs Cert.InGradIdeal.defs
  exact congrArg (Pipeline.defs (@Cert.InGradIdeal.pcfgs Bits _)) bodies_eq

theorem frame_bits : Cert.quiescent_InGrad := fun m ρ _ => by
  rw [defs_eq]
  exact framed (F := Bits) m ρ

theorem frame_reference : Cert.quiescent_InGradReferenceIdeal := fun m ρ _ =>
  (θ_run Cert.InGradReferenceIdeal.defs _ _).mono
    (fun r h => ⟨fun c => (h c).2.2.2, sem_eq_zero_of_no_sems (by decide) r.2⟩) (Cert.InGradReferenceIdeal.Value.run m ρ)

theorem algebraic : Cert.algebraic_InGradIdeal_InGradReferenceIdeal := by
  intro m g m' g' _ hargs
  refine ⟨fun c => Cert.InGradReferenceIdeal.Read.val_main_v40 (F := Ideal) (dpOf m c) (wOf m c) (hOf m c) (dhOf m c) (nwOf m c),
    fun c => Cert.InGradReferenceIdeal.Read.val_main_v41 (F := Ideal) (dpOf m c) (wOf m c) (hOf m c) (dhOf m c) (nwOf m c),
    fun c => Cert.InGradReferenceIdeal.Read.val_main_v22 (F := Ideal) (dpOf m c) (wOf m c) (hOf m c), ?_, ?_⟩
  · refine (θ_run Cert.InGradIdeal.defs _ _).mono (fun r h c => ?_) (θ_run_and (runs (F := Ideal) m g) (framed (F := Ideal) m g))
    exact ⟨((h.1.1 c).1 7).trans (arr_7 m c), ((h.1.1 c).1 8).trans (arr_8 m c), ((h.1.1 c).1 9).trans (arr_9 m c), h.2.1 c⟩
  · refine (θ_run Cert.InGradReferenceIdeal.defs _ _).mono (fun r h c => ?_) (Cert.InGradReferenceIdeal.Value.run (F := Ideal) m' g')
    obtain ⟨a0, a1, a2, a3, a4⟩ := hargs c
    refine ⟨(h c).1.trans ?_, (h c).2.1.trans ?_, (h c).2.2.1.trans ?_, (h c).2.2.2⟩
    · rw [Cert.InGradReferenceIdeal.Read.val_main_v40_eq, a0, a1, a2, a3, a4]
    · rw [Cert.InGradReferenceIdeal.Read.val_main_v41_eq, a0, a1, a2, a3, a4]
    · rw [Cert.InGradReferenceIdeal.Read.val_main_v22_eq, a0, a1, a2]

end Cert.InGradIdeal.Run

end

end
-- ==== Proof.TailBackRun.lean ====
/- The call that takes the tail's gradient back, run: what each of its sixteen points leaves in the outputs' buffers, the
   body's obligation, and from the launch the frame with the counters at zero. Over any floats. -/
module

public import proofs.«01_k».proof.Proof.Gen.TailIdeal.Skeleton
public import proofs.«01_k».proof.Proof.Gen.TailIdeal.Frame
public import proofs.«01_k».proof.Proof.Returns
public import Idealize.ShloMosaic.Lib.VecWindow
public import Idealize.ShloMosaic.Lib.WholeRead
public import Idealize.ShloMosaic.Lib.Claim

@[expose] public section

set_option maxRecDepth 16384

noncomputable section

namespace Cert.TailIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailIdeal.Gen

variable {F : FTy → Type} [FloatOps F]

local notation "𝕄" => MT nD τ sig Unit (Elt F) ℕ (UR sig nD τ) ℕ

/-! ## The body, in its three cases -/

section Body

/-- The first 1024 rows of 2048. -/
def top {e : EltTy} (x : Vec F S2048x1024 e) : Vec F S1024x1024 e :=
  VecWindow.window x ![0, 0] S1024x1024.size inb_S2048x1024_S1024x1024_0_0
/-- The last 1024. -/
def bot {e : EltTy} (x : Vec F S2048x1024 e) : Vec F S1024x1024 e :=
  VecWindow.window x ![1024, 0] S1024x1024.size inb_S2048x1024_S1024x1024_1024_0
/-- The first 1024 rows replaced. -/
def putTop {e : EltTy} (x : Vec F S2048x1024 e) (w : Vec F S1024x1024 e) : Vec F S2048x1024 e :=
  VecWindow.put x ![0, 0] S1024x1024.size w
/-- The last 1024 replaced. -/
def putBot {e : EltTy} (x : Vec F S2048x1024 e) (w : Vec F S1024x1024 e) : Vec F S2048x1024 e :=
  VecWindow.put x ![1024, 0] S1024x1024.size w

theorem top_readAt {e : EltTy} (a : Memref sig .tc .vmem S2048x1024 e) (f : a.view.ty.Contents (Elt F)) :
    a.view.readAt (Elt F) (Rect.unit (s := S2048x1024) ![0, 0] S1024x1024.size inb_S2048x1024_S1024x1024_0_0).toLoadRect f = top (a.view.read (Elt F) f) := rfl
theorem bot_readAt {e : EltTy} (a : Memref sig .tc .vmem S2048x1024 e) (f : a.view.ty.Contents (Elt F)) :
    a.view.readAt (Elt F) (Rect.unit (s := S2048x1024) ![1024, 0] S1024x1024.size inb_S2048x1024_S1024x1024_1024_0).toLoadRect f = bot (a.view.read (Elt F) f) := rfl

theorem top_cov (a : Memref sig .tc .vmem S2048x1024 .f32) (w : Vec F S2048x1024 .f32) :
    a.view.readCov (Val := Elt F) [⟨Rect.unit (s := S2048x1024) ![0, 0] S2048x1024.size inb_S2048x1024_S2048x1024_0_0, w⟩] (Rect.unit (s := S2048x1024) ![0, 0] S1024x1024.size inb_S2048x1024_S1024x1024_0_0).toLoadRect = top w := by
  show top (a.view.read (Elt F) _) = _
  rw [View.read_writes_full]

variable (c : Dev nD) (i : grid0.Coords) (arg2 : Memref sig .tc .vmem S272x1024 .f32) (harg2 : arg2.IsWhole) (arg3 : Memref sig .tc .vmem S272x1024 .f32) (harg3 : arg3.IsWhole) (arg4 : Memref sig .tc .vmem S272x1024 .f32) (harg4 : arg4.IsWhole) (arg5 : Memref sig .tc .vmem S272x1024 .f32) (harg5 : arg5.IsWhole) (arg6 : Memref sig .tc .vmem S272x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S272x1024 .f32) (harg10 : arg10.IsWhole) (arg11 : Memref sig .tc .vmem S272x1024 .f32) (harg11 : arg11.IsWhole) (arg12 : Memref sig .tc .vmem S272x1024 .bf16) (harg12 : arg12.IsWhole) (arg13 : Memref sig .tc .vmem S2048x1024 .f32) (harg13 : arg13.IsWhole) (arg14 : Memref sig .tc .vmem S1x1024 .f32) (harg14 : arg14.IsWhole) (arg15 : Memref sig .tc .vmem S1x1024 .f32) (harg15 : arg15.IsWhole)
  (x2 x3 x4 x5 x6 : Vec F S272x1024 .f32) (x7 : Vec F S2048x1024 .bf16) (x8 x9 : Vec F S1x1024 .f32) (x13 : Vec F S2048x1024 .f32) (x14 x15 : Vec F S1x1024 .f32)

set_option maxHeartbeats 4000000 in
/-- The first point: the three sums are started and the first branch taken. -/
theorem run_first (h1 : k0_cond1 i = 1#1) (h2 : k0_cond2 i = 1#1) (h3 : ¬ k0_cond3 i = 1#1) (E : Set ℕ) (K : PUnit → sProp 𝕄) :
    iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg10 fullShare (k0_pay18 (k0_pay4 x6) (top x7) x2 x3 x8) ∗ owns (c : Thread nD τ) arg12 fullShare (k0_pay5 x3 (k0_pay12 x3) (k0_pay19 (k0_pay4 x6) (top x7) x2 x3 x8)) ∗ owns (c : Thread nD τ) arg13 fullShare (putTop k0_pay1 (k0_pay7 x6 x8 (k0_pay15 x2 x3) (top k0_pay1))) ∗ owns (c : Thread nD τ) arg14 fullShare (k0_pay6 (k0_pay16 (k0_pay4 x6) (top x7) x2 x3) k0_pay2) ∗ owns (c : Thread nD τ) arg15 fullShare k0_pay3) -∗ K ⟨⟩))
      ⊢ wp frame (wpE (defs₀ (F := F)) Variants.none c none) E (cc0_tail_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_tail_bwd_eq_skeleton]; unfold cc0_tail_bwd_skel
  simp only [k0_part1_eq_skeleton, k0_part2_eq_skeleton]; unfold k0_part1_skel k0_part2_skel
  unfold owns
  iintro ⟨⟨%f2, %hf2, H2⟩, ⟨%f3, %hf3, H3⟩, ⟨%f6, %hf6, H6⟩, ⟨%f7, %hf7, H7⟩, ⟨%f8, %hf8, H8⟩, ⟨%d10, %f10, -, H10⟩, ⟨%d12, %f12, -, H12⟩, ⟨%d13, %f13, -, H13⟩, ⟨%d14, %f14, -, H14⟩, ⟨%d15, %f15, -, H15⟩, Hk⟩
  obtain rfl := harg2.eq_unread hf2; obtain rfl := harg3.eq_unread hf3; obtain rfl := harg6.eq_unread hf6; obtain rfl := harg7.eq_unread hf7; obtain rfl := harg8.eq_unread hf8
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr
    swap; · iexact H10
    ipureintro
    rw [View.read_writes_full]
    dsimp only
    rw [View.readAt_full, View.readAt_full, View.readAt_full, View.readAt_full, top_readAt, harg2.read_unread, harg3.read_unread, harg6.read_unread, harg8.read_unread, harg7.read_unread]
  isplitl [H12]
  · iexists _; isplitr
    swap; · iexact H12
    ipureintro
    rw [View.read_writes_full]
    dsimp only
    rw [View.readAt_full, View.readAt_full, View.readAt_full, View.readAt_full, top_readAt, harg2.read_unread, harg3.read_unread, harg6.read_unread, harg8.read_unread, harg7.read_unread]
  isplitl [H13]
  · iexists _; isplitr
    swap; · iexact H13
    ipureintro
    rw [View.read_writes_cons_put _ _ _ _ _ rfl]
    delta run_first.sl.v71 run_first.sl.H13_1
    rw [View.read_writes_full, top_cov]
    dsimp only
    rw [View.readAt_full, View.readAt_full, View.readAt_full, View.readAt_full, harg2.read_unread, harg3.read_unread, harg6.read_unread, harg8.read_unread]
    rfl
  isplitl [H14]
  · iexists _; isplitr
    swap; · iexact H14
    ipureintro
    rw [View.read_writes_full]
    dsimp only
    delta run_first.sl.v67 run_first.sl.H14_1
    rw [View.readCov_full]
    rw [View.readAt_full, View.readAt_full, View.readAt_full, top_readAt, harg2.read_unread, harg3.read_unread, harg6.read_unread, harg7.read_unread]
  iexists _; isplitr
  swap; · iexact H15
  ipureintro
  rw [View.read_writes_full]

set_option maxHeartbeats 4000000 in
/-- A later point of the first branch. -/
theorem run_even (h1 : ¬ k0_cond1 i = 1#1) (h2 : k0_cond2 i = 1#1) (h3 : ¬ k0_cond3 i = 1#1) (E : Set ℕ) (K : PUnit → sProp 𝕄) :
    iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg12 fullShare d) ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg10 fullShare (k0_pay18 (k0_pay4 x6) (top x7) x2 x3 x8) ∗ owns (c : Thread nD τ) arg12 fullShare (k0_pay5 x3 (k0_pay12 x3) (k0_pay19 (k0_pay4 x6) (top x7) x2 x3 x8)) ∗ owns (c : Thread nD τ) arg13 fullShare (putTop x13 (k0_pay7 x6 x8 (k0_pay15 x2 x3) (top x13))) ∗ owns (c : Thread nD τ) arg14 fullShare (k0_pay6 (k0_pay16 (k0_pay4 x6) (top x7) x2 x3) x14)) -∗ K ⟨⟩))
      ⊢ wp frame (wpE (defs₀ (F := F)) Variants.none c none) E (cc0_tail_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_tail_bwd_eq_skeleton]; unfold cc0_tail_bwd_skel
  simp only [k0_part1_eq_skeleton, k0_part2_eq_skeleton]; unfold k0_part1_skel k0_part2_skel
  unfold owns
  iintro ⟨⟨%f2, %hf2, H2⟩, ⟨%f3, %hf3, H3⟩, ⟨%f6, %hf6, H6⟩, ⟨%f7, %hf7, H7⟩, ⟨%f8, %hf8, H8⟩, ⟨%d10, %f10, -, H10⟩, ⟨%d12, %f12, -, H12⟩, ⟨%f13, %hf13, H13⟩, ⟨%f14, %hf14, H14⟩, Hk⟩
  obtain rfl := harg2.eq_unread hf2; obtain rfl := harg3.eq_unread hf3; obtain rfl := harg6.eq_unread hf6; obtain rfl := harg7.eq_unread hf7; obtain rfl := harg8.eq_unread hf8; obtain rfl := harg13.eq_unread hf13; obtain rfl := harg14.eq_unread hf14
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr
    swap; · iexact H10
    ipureintro
    rw [View.read_writes_full]
    dsimp only
    rw [View.readAt_full, View.readAt_full, View.readAt_full, View.readAt_full, top_readAt, harg2.read_unread, harg3.read_unread, harg6.read_unread, harg8.read_unread, harg7.read_unread]
  isplitl [H12]
  · iexists _; isplitr
    swap; · iexact H12
    ipureintro
    rw [View.read_writes_full]
    dsimp only
    rw [View.readAt_full, View.readAt_full, View.readAt_full, View.readAt_full, top_readAt, harg2.read_unread, harg3.read_unread, harg6.read_unread, harg8.read_unread, harg7.read_unread]
  isplitl [H13]
  · iexists _; isplitr
    swap; · iexact H13
    ipureintro
    rw [View.read_writes_cons_put _ _ _ _ _ rfl]
    rw [View.writes_nil]
    dsimp only
    rw [View.readAt_full, View.readAt_full, View.readAt_full, View.readAt_full, top_readAt, harg2.read_unread, harg3.read_unread, harg6.read_unread, harg8.read_unread, harg13.read_unread]
    rfl
  iexists _; isplitr
  swap; · iexact H14
  ipureintro
  rw [View.read_writes_full]
  dsimp only
  rw [View.readAt_full, View.readAt_full, View.readAt_full, View.readAt_full, top_readAt, harg2.read_unread, harg3.read_unread, harg6.read_unread, harg14.read_unread, harg7.read_unread]

set_option maxHeartbeats 4000000 in
/-- A point of the second branch. -/
theorem run_odd (h1 : ¬ k0_cond1 i = 1#1) (h2 : ¬ k0_cond2 i = 1#1) (h3 : k0_cond3 i = 1#1) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ (∃ d, owns (c : Thread nD τ) arg11 fullShare d) ∗ (∃ d, owns (c : Thread nD τ) arg12 fullShare d) ∗ owns (c : Thread nD τ) arg13 fullShare x13 ∗ owns (c : Thread nD τ) arg15 fullShare x15
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg11 fullShare (k0_pay27 (k0_pay4 x6) (bot x7) x4 x5 x9) ∗ owns (c : Thread nD τ) arg12 fullShare (k0_pay8 x5 (k0_pay21 x5) (k0_pay28 (k0_pay4 x6) (bot x7) x4 x5 x9)) ∗ owns (c : Thread nD τ) arg13 fullShare (putBot x13 (k0_pay10 x6 x9 (k0_pay24 x4 x5) (bot x13))) ∗ owns (c : Thread nD τ) arg15 fullShare (k0_pay9 (k0_pay25 (k0_pay4 x6) (bot x7) x4 x5) x15)) -∗ K ⟨⟩))
      ⊢ wp frame (wpE (defs₀ (F := F)) Variants.none c none) E (cc0_tail_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_tail_bwd_eq_skeleton]; unfold cc0_tail_bwd_skel
  simp only [k0_part1_eq_skeleton, k0_part2_eq_skeleton]; unfold k0_part1_skel k0_part2_skel
  unfold owns
  iintro ⟨⟨%f4, %hf4, H4⟩, ⟨%f5, %hf5, H5⟩, ⟨%f6, %hf6, H6⟩, ⟨%f7, %hf7, H7⟩, ⟨%f9, %hf9, H9⟩, ⟨%d11, %f11, -, H11⟩, ⟨%d12, %f12, -, H12⟩, ⟨%f13, %hf13, H13⟩, ⟨%f15, %hf15, H15⟩, Hk⟩
  obtain rfl := harg4.eq_unread hf4; obtain rfl := harg5.eq_unread hf5; obtain rfl := harg6.eq_unread hf6; obtain rfl := harg7.eq_unread hf7; obtain rfl := harg9.eq_unread hf9; obtain rfl := harg13.eq_unread hf13; obtain rfl := harg15.eq_unread hf15
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  isplitl [H11]
  · iexists _; isplitr
    swap; · iexact H11
    ipureintro
    rw [View.read_writes_full]
    dsimp only
    rw [View.readAt_full, View.readAt_full, View.readAt_full, View.readAt_full, bot_readAt, harg4.read_unread, harg5.read_unread, harg6.read_unread, harg9.read_unread, harg7.read_unread]
  isplitl [H12]
  · iexists _; isplitr
    swap; · iexact H12
    ipureintro
    rw [View.read_writes_full]
    dsimp only
    rw [View.readAt_full, View.readAt_full, View.readAt_full, View.readAt_full, bot_readAt, harg4.read_unread, harg5.read_unread, harg6.read_unread, harg9.read_unread, harg7.read_unread]
  isplitl [H13]
  · iexists _; isplitr
    swap; · iexact H13
    ipureintro
    rw [View.read_writes_cons_put _ _ _ _ _ rfl]
    rw [View.writes_nil]
    dsimp only
    rw [View.readAt_full, View.readAt_full, View.readAt_full, View.readAt_full, bot_readAt, harg4.read_unread, harg5.read_unread, harg6.read_unread, harg9.read_unread, harg13.read_unread]
    rfl
  iexists _; isplitr
  swap; · iexact H15
  ipureintro
  rw [View.read_writes_full]
  dsimp only
  rw [View.readAt_full, View.readAt_full, View.readAt_full, View.readAt_full, bot_readAt, harg4.read_unread, harg5.read_unread, harg6.read_unread, harg15.read_unread, harg7.read_unread]

end Body

/-! ## The points -/

theorem lt_N (t : Fin cfg0.N) : t.val < 16 := lt_of_lt_of_eq t.isLt (show cfg0.N = 16 from N_0)

theorem cond1_iff : ∀ t : Fin grid0.N, k0_cond1 (grid0.coords t) = 1#1 ↔ t.val = 0 := by decide +kernel
theorem cond2_iff : ∀ t : Fin grid0.N, k0_cond2 (grid0.coords t) = 1#1 ↔ t.val % 2 = 0 := by decide +kernel
theorem cond3_iff : ∀ t : Fin grid0.N, k0_cond3 (grid0.coords t) = 1#1 ↔ t.val % 2 = 1 := by decide +kernel

theorem idle8_iff : ∀ t : Fin cfg0.N, cfg0.idle 8 (cfg0.grid.coords t) = true ↔ t.val % 2 = 1 :=
  (by decide +kernel : ∀ t : Fin grid0.N, idle0 8 (grid0.coords t) = true ↔ t.val % 2 = 1)
theorem idle9_iff : ∀ t : Fin cfg0.N, cfg0.idle 9 (cfg0.grid.coords t) = true ↔ t.val % 2 = 0 :=
  (by decide +kernel : ∀ t : Fin grid0.N, idle0 9 (grid0.coords t) = true ↔ t.val % 2 = 0)
theorem idle12_iff : ∀ t : Fin cfg0.N, cfg0.idle 12 (cfg0.grid.coords t) = true ↔ t.val % 2 = 1 :=
  (by decide +kernel : ∀ t : Fin grid0.N, idle0 12 (grid0.coords t) = true ↔ t.val % 2 = 1)
theorem idle13_iff : ∀ t : Fin cfg0.N, cfg0.idle 13 (cfg0.grid.coords t) = true ↔ t.val % 2 = 0 ∧ t.val ≠ 0 :=
  (by decide +kernel : ∀ t : Fin grid0.N, idle0 13 (grid0.coords t) = true ↔ t.val % 2 = 0 ∧ t.val ≠ 0)
theorem idle10 : ∀ t : Fin cfg0.N, cfg0.idle 10 (cfg0.grid.coords t) = false :=
  (by decide +kernel : ∀ t : Fin grid0.N, idle0 10 (grid0.coords t) = false)
theorem idle11 : ∀ t : Fin cfg0.N, cfg0.idle 11 (cfg0.grid.coords t) = false :=
  (by decide +kernel : ∀ t : Fin grid0.N, idle0 11 (grid0.coords t) = false)

variable (m : (ℓ : Loc nD τ sig) → Buf (Elt F) ℓ) (ρ : Dev nD → PrngReg)

/-- The first branch's normalised tile, -/
def normE (c : Dev nD) (t : Fin cfg0.N) : Vec F S272x1024 .f32 := k0_pay15 (iblk m c 0 t) (X0_1 m c t)
/-- its gradient, -/
def outE (c : Dev nD) (t : Fin cfg0.N) : Vec F S272x1024 .f32 := k0_pay18 (k0_pay4 (iblk m c 4 t)) (top (iblk m c 5 t)) (iblk m c 0 t) (X0_1 m c t) (iblk m c 6 t)
/-- its weight's gradient, -/
def colE (c : Dev nD) (t : Fin cfg0.N) : Vec F S1x1024 .f32 := k0_pay16 (k0_pay4 (iblk m c 4 t)) (top (iblk m c 5 t)) (iblk m c 0 t) (X0_1 m c t)
/-- and its gate's. -/
def gateE (c : Dev nD) (t : Fin cfg0.N) : Vec F S272x1024 .bf16 := k0_pay5 (X0_1 m c t) (k0_pay12 (X0_1 m c t)) (k0_pay19 (k0_pay4 (iblk m c 4 t)) (top (iblk m c 5 t)) (iblk m c 0 t) (X0_1 m c t) (iblk m c 6 t))
/-- The second branch's. -/
def normO (c : Dev nD) (t : Fin cfg0.N) : Vec F S272x1024 .f32 := k0_pay24 (iblk m c 2 t) (X0_3 m c t)
def outO (c : Dev nD) (t : Fin cfg0.N) : Vec F S272x1024 .f32 := k0_pay27 (k0_pay4 (iblk m c 4 t)) (bot (iblk m c 5 t)) (iblk m c 2 t) (X0_3 m c t) (iblk m c 7 t)
def colO (c : Dev nD) (t : Fin cfg0.N) : Vec F S1x1024 .f32 := k0_pay25 (k0_pay4 (iblk m c 4 t)) (bot (iblk m c 5 t)) (iblk m c 2 t) (X0_3 m c t)
def gateO (c : Dev nD) (t : Fin cfg0.N) : Vec F S272x1024 .bf16 := k0_pay8 (X0_3 m c t) (k0_pay21 (X0_3 m c t)) (k0_pay28 (k0_pay4 (iblk m c 4 t)) (bot (iblk m c 5 t)) (iblk m c 2 t) (X0_3 m c t) (iblk m c 7 t))

/-- The projection's gradient after a point of the first branch, from what it was before, -/
def stepE (c : Dev nD) (t : Fin cfg0.N) (x : Vec F S2048x1024 .f32) : Vec F S2048x1024 .f32 :=
  putTop x (k0_pay7 (iblk m c 4 t) (iblk m c 6 t) (normE m c t) (top x))
/-- and after one of the second. -/
def stepO (c : Dev nD) (t : Fin cfg0.N) (x : Vec F S2048x1024 .f32) : Vec F S2048x1024 .f32 :=
  putBot x (k0_pay10 (iblk m c 4 t) (iblk m c 7 t) (normO m c t) (bot x))

/-- The projection's gradient after a point. -/
def accW (c : Dev nD) : (n : ℕ) → n < cfg0.N → Vec F S2048x1024 .f32
  | 0, h => stepE m c ⟨0, h⟩ k0_pay1
  | n + 1, h => if (n + 1) % 2 = 0 then stepE m c ⟨n + 1, h⟩ (accW c n (Nat.lt_of_succ_lt h)) else stepO m c ⟨n + 1, h⟩ (accW c n (Nat.lt_of_succ_lt h))
/-- The first weight's gradient after a point. -/
def sumE (c : Dev nD) : (n : ℕ) → n < cfg0.N → Vec F S1x1024 .f32
  | 0, h => k0_pay6 (colE m c ⟨0, h⟩) k0_pay2
  | n + 1, h => if (n + 1) % 2 = 0 then k0_pay6 (colE m c ⟨n + 1, h⟩) (sumE c n (Nat.lt_of_succ_lt h)) else sumE c n (Nat.lt_of_succ_lt h)
/-- The second's. -/
def sumO (c : Dev nD) : (n : ℕ) → n < cfg0.N → Vec F S1x1024 .f32
  | 0, h => k0_pay3
  | n + 1, h => if (n + 1) % 2 = 0 then sumO c n (Nat.lt_of_succ_lt h) else k0_pay9 (colO m c ⟨n + 1, h⟩) (sumO c n (Nat.lt_of_succ_lt h))

/-- The point of the first branch at or just before a point. -/
def pointE (t : Fin cfg0.N) : Fin cfg0.N := ⟨t.val - t.val % 2, lt_of_le_of_lt (Nat.sub_le _ _) t.isLt⟩

theorem pointE_even (t : Fin cfg0.N) (h : t.val % 2 = 0) : pointE t = t := Fin.ext (show t.val - t.val % 2 = t.val by omega)

/-- The proof data: the inputs at their blocks, each output at what the last point that stored into it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => outE m c (pointE t)
    | ⟨9, _⟩ => outO m c t
    | ⟨10, _⟩ => if t.val % 2 = 0 then gateE m c t else gateO m c t
    | ⟨11, _⟩ => accW m c t.val t.isLt
    | ⟨12, _⟩ => sumE m c t.val t.isLt
    | ⟨13, _⟩ => sumO m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outE m c (pointE t) := by dsimp only [dats]
theorem after9 (c : Dev nD) (t : Fin cfg0.N) : (dats m 0 c).after 9 t = outO m c t := by dsimp only [dats]
theorem after10 (c : Dev nD) (t : Fin cfg0.N) : (dats m 0 c).after 10 t = (if t.val % 2 = 0 then gateE m c t else gateO m c t : Vec F S272x1024 .bf16) := by dsimp only [dats]
theorem after11 (c : Dev nD) (t : Fin cfg0.N) : (dats m 0 c).after 11 t = accW m c t.val t.isLt := by dsimp only [dats]
theorem after12 (c : Dev nD) (t : Fin cfg0.N) : (dats m 0 c).after 12 t = sumE m c t.val t.isLt := by dsimp only [dats]
theorem after13 (c : Dev nD) (t : Fin cfg0.N) : (dats m 0 c).after 13 t = sumO m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What a live point leaves in an output's buffer the next finds. -/
theorem left_live (c : Dev nD) (w : Fin cfg0.W) (hclip : ∀ (i : cfg0.grid.Coords) a, (cfg0.win w).clip i a = none) (t : Fin cfg0.N) (h : cfg0.idle w (cfg0.grid.coords t) = false) (d) :
    (dats m 0 c).left w t d = (dats m 0 c).after w t := by
  unfold Dat.left; rw [h]
  show (dats m 0 c).kept w t d = _
  unfold Dat.kept
  rw [Pipeline.fill_of_clip_none w _ (hclip _) d ((dats m 0 c).after w t), Window.fill_cut]

/-- What an idle point leaves there is what it found. -/
theorem left_idle (c : Dev nD) (w : Fin cfg0.W) (t : Fin cfg0.N) (h : cfg0.idle w (cfg0.grid.coords t) = true) (d) :
    (dats m 0 c).left w t d = (dats m 0 c).before w t d := by
  unfold Dat.left; rw [h]

/-- A point of the second branch finds in the first output's buffer what the point before it stored. -/
theorem before8 (c : Dev nD) (n : ℕ) (hn : n < cfg0.N) (h : n % 2 = 1) (d) : (dats m 0 c).before 8 ⟨n, hn⟩ d = (dats m 0 c).after 8 ⟨n, hn⟩ := by
  obtain ⟨n, rfl⟩ : ∃ k, n = k + 1 := ⟨n - 1, by omega⟩
  have hn' : n < cfg0.N := Nat.lt_of_succ_lt hn
  rw [Dat.before_of_pos _ 8 ⟨n + 1, hn⟩ (Nat.succ_ne_zero n) rfl d,
    if_neg (by intro hf; have := (flush0_8 _).mp hf; dsimp only at this; omega)]
  show (dats m 0 c).left 8 ⟨n, hn'⟩ d = _
  rw [left_live m c 8 (fun _ _ => rfl) _ (Bool.eq_false_iff.mpr fun hi => by have := (idle8_iff _).mp hi; dsimp only at this; omega), after8, after8]
  exact congrArg (outE m c) (Fin.ext (show n - n % 2 = n + 1 - (n + 1) % 2 by omega))

/-- After the first point the fourth output's buffer holds the projection's gradient so far. -/
theorem before11 (c : Dev nD) (n : ℕ) (hn : n + 1 < cfg0.N) (d) : (dats m 0 c).before 11 ⟨n + 1, hn⟩ d = accW m c n (Nat.lt_of_succ_lt hn) := by
  have hN := lt_N ⟨n + 1, hn⟩
  rw [Dat.before_of_pos _ 11 ⟨n + 1, hn⟩ (Nat.succ_ne_zero n) rfl d,
    if_neg (by intro hf; have := (flush0_11 _).mp hf; dsimp only at this hN; omega)]
  show (dats m 0 c).left 11 ⟨n, Nat.lt_of_succ_lt hn⟩ d = _
  rw [left_live m c 11 (fun _ _ => rfl) _ (idle11 _), after11]

/-- The fifth's the first weight's gradient so far. -/
theorem before12 (c : Dev nD) : ∀ (n : ℕ) (hn : n + 1 < cfg0.N) (d), (dats m 0 c).before 12 ⟨n + 1, hn⟩ d = sumE m c n (Nat.lt_of_succ_lt hn) := by
  intro n
  induction n with
  | zero =>
    intro hn d
    rw [Dat.before_of_pos _ 12 ⟨0 + 1, hn⟩ (Nat.succ_ne_zero 0) rfl d,
      if_neg (by intro hf; have := (flush0_12 _).mp hf; dsimp only at this; omega)]
    show (dats m 0 c).left 12 ⟨0, Nat.lt_of_succ_lt hn⟩ d = _
    rw [left_live m c 12 (fun _ _ => rfl) _ (Bool.eq_false_iff.mpr fun hi => absurd ((idle12_iff _).mp hi) (show ¬ 0 % 2 = 1 by decide)), after12]
  | succ n ih =>
    intro hn d
    have hN := lt_N ⟨n + 1 + 1, hn⟩
    have hn' : n + 1 < cfg0.N := Nat.lt_of_succ_lt hn
    rw [Dat.before_of_pos _ 12 ⟨n + 1 + 1, hn⟩ (Nat.succ_ne_zero _) rfl d,
      if_neg (by intro hf; have := (flush0_12 _).mp hf; dsimp only at this hN; omega)]
    show (dats m 0 c).left 12 ⟨n + 1, hn'⟩ d = _
    by_cases h2 : (n + 1) % 2 = 0
    · rw [left_live m c 12 (fun _ _ => rfl) _ (Bool.eq_false_iff.mpr fun hi => by have := (idle12_iff _).mp hi; dsimp only at this; omega), after12]
    · rw [left_idle m c 12 _ ((idle12_iff _).mpr (show (n + 1) % 2 = 1 by omega)), ih hn']
      exact (if_neg h2).symm

/-- The sixth's the second's. -/
theorem before13 (c : Dev nD) : ∀ (n : ℕ) (hn : n + 1 < cfg0.N) (d), (dats m 0 c).before 13 ⟨n + 1, hn⟩ d = sumO m c n (Nat.lt_of_succ_lt hn) := by
  intro n
  induction n with
  | zero =>
    intro hn d
    rw [Dat.before_of_pos _ 13 ⟨0 + 1, hn⟩ (Nat.succ_ne_zero 0) rfl d,
      if_neg (by intro hf; have := (flush0_13 _).mp hf; dsimp only at this; omega)]
    show (dats m 0 c).left 13 ⟨0, Nat.lt_of_succ_lt hn⟩ d = _
    rw [left_live m c 13 (fun _ _ => rfl) _ (Bool.eq_false_iff.mpr fun hi => ((idle13_iff _).mp hi).2 rfl), after13]
  | succ n ih =>
    intro hn d
    have hN := lt_N ⟨n + 1 + 1, hn⟩
    have hn' : n + 1 < cfg0.N := Nat.lt_of_succ_lt hn
    rw [Dat.before_of_pos _ 13 ⟨n + 1 + 1, hn⟩ (Nat.succ_ne_zero _) rfl d,
      if_neg (by intro hf; have := (flush0_13 _).mp hf; dsimp only at this hN; omega)]
    show (dats m 0 c).left 13 ⟨n + 1, hn'⟩ d = _
    by_cases h2 : (n + 1) % 2 = 0
    · rw [left_idle m c 13 _ ((idle13_iff _).mpr ⟨h2, Nat.succ_ne_zero _⟩), ih hn']
      exact (if_pos h2).symm
    · rw [left_live m c 13 (fun _ _ => rfl) _ (Bool.eq_false_iff.mpr fun hi => h2 ((idle13_iff _).mp hi).1), after13]

/-! ## The body's obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ Rets.ret (dats m 0 c) 0 t ∗ Rets.ret (dats m 0 c) 1 t ∗ Rets.ret (dats m 0 c) 2 t ∗ Rets.ret (dats m 0 c) 3 t ∗ Rets.ret (dats m 0 c) 4 t ∗ Rets.ret (dats m 0 c) 5 t ∗ Rets.ret (dats m 0 c) 6 t ∗ Rets.ret (dats m 0 c) 7 t ∗ Rets.ret (dats m 0 c) 8 t ∗ Rets.ret (dats m 0 c) 9 t ∗ Rets.ret (dats m 0 c) 10 t ∗ Rets.ret (dats m 0 c) 11 t ∗ Rets.ret (dats m 0 c) 12 t ∗ Rets.ret (dats m 0 c) 13 t)

theorem bodyPost_eq (c : Dev nD) (t : Fin cfg0.N) : bodyPost m c t =
    iprop(Pipeline.ΦA spec0 c ∗ (dats m 0 c).owesAt () t.castSucc
    ∗ owns (c : Thread nD τ) (st0_0 t) fullShare (iblk m c 0 t)
    ∗ owns (c : Thread nD τ) (st0_1 t) fullShare (X0_1 m c t)
    ∗ owns (c : Thread nD τ) (st0_2 t) fullShare (iblk m c 2 t)
    ∗ owns (c : Thread nD τ) (st0_3 t) fullShare (X0_3 m c t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ Rets.ret (dats m 0 c) 8 t ∗ Rets.ret (dats m 0 c) 9 t
    ∗ owns (c : Thread nD τ) (st0_10 t) fullShare (if t.val % 2 = 0 then gateE m c t else gateO m c t : Vec F S272x1024 .bf16) ∗ owns (c : Thread nD τ) (st0_11 t) fullShare (accW m c t.val t.isLt)
    ∗ Rets.ret (dats m 0 c) 12 t ∗ Rets.ret (dats m 0 c) 13 t) := by
  unfold bodyPost
  rw [show (dats m 0 c).Φ t.succ = Pipeline.ΦA spec0 c from rfl, show (dats m 0 c).owesAt () t.succ = (dats m 0 c).owesAt () t.castSucc from rfl,
    Rets.ret_live (dats m 0 c) (w := 0) (t := t) rfl, Rets.ret_live (dats m 0 c) (w := 1) (t := t) rfl, Rets.ret_live (dats m 0 c) (w := 2) (t := t) rfl, Rets.ret_live (dats m 0 c) (w := 3) (t := t) rfl, Rets.ret_live (dats m 0 c) (w := 4) (t := t) rfl, Rets.ret_live (dats m 0 c) (w := 5) (t := t) rfl, Rets.ret_live (dats m 0 c) (w := 6) (t := t) rfl, Rets.ret_live (dats m 0 c) (w := 7) (t := t) rfl,
    Rets.ret_live (dats m 0 c) (idle10 t), Rets.ret_live (dats m 0 c) (idle11 t),
    after0, after1, after2, after3, after4, after5, after6, after7, after10, after11]

/-- A point of the second branch returns the first output's buffer as it found it. -/
theorem ret8 (c : Dev nD) (t : Fin cfg0.N) (h : t.val % 2 = 1) :
    iprop(∃ d, owns (c : Thread nD τ) (st0_8 t) fullShare ((dats m 0 c).before 8 t d)) ⊢ Rets.ret (dats m 0 c) 8 t := by
  rw [Rets.ret_flush (dats m 0 c) ((flush0_8 t).mpr h)]
  iintro ⟨%d, H⟩
  rw [← before8 m c t.val t.isLt h d]
  iexact H

/-- A point of the first branch returns the second output's and, but for the first point, the sixth's. -/
theorem ret9 (c : Dev nD) (t : Fin cfg0.N) (h : t.val % 2 = 0) :
    iprop(∃ d, owns (c : Thread nD τ) (st0_9 t) fullShare ((dats m 0 c).before 9 t d)) ⊢ Rets.ret (dats m 0 c) 9 t := by
  rw [Rets.ret_idle (dats m 0 c) ((idle9_iff t).mpr h) (Bool.eq_false_iff.mpr fun hf => by have := (flush0_9 t).mp hf; omega)]

theorem ret13 (c : Dev nD) (t : Fin cfg0.N) (h : t.val % 2 = 0) (h0 : t.val ≠ 0) :
    iprop(∃ d, owns (c : Thread nD τ) (st0_13 t) fullShare ((dats m 0 c).before 13 t d)) ⊢ Rets.ret (dats m 0 c) 13 t := by
  have hN := lt_N t
  rw [Rets.ret_idle (dats m 0 c) ((idle13_iff t).mpr ⟨h, h0⟩) (Bool.eq_false_iff.mpr fun hf => by have := (flush0_13 t).mp hf; omega)]

/-- A point of the second branch returns the fifth's. -/
theorem ret12 (c : Dev nD) (n : ℕ) (hn : n + 1 < cfg0.N) (h : (n + 1) % 2 = 1) :
    iprop(∃ d, owns (c : Thread nD τ) (st0_12 ⟨n + 1, hn⟩) fullShare ((dats m 0 c).before 12 ⟨n + 1, hn⟩ d)) ⊢ Rets.ret (dats m 0 c) 12 ⟨n + 1, hn⟩ := by
  by_cases hf : (cfg0.win 12).flush ⟨n + 1, hn⟩ = true
  · rw [Rets.ret_flush (dats m 0 c) hf, after12, show sumE m c (n + 1) hn = sumE m c n (Nat.lt_of_succ_lt hn) from if_neg (by omega)]
    iintro ⟨%d, H⟩
    rw [← before12 m c n hn d]
    iexact H
  · rw [Rets.ret_idle (dats m 0 c) ((idle12_iff _).mpr h) (Bool.eq_false_iff.mpr hf)]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have hN := lt_N t
  rw [bodyPost_eq]
  unfold bodyPre
  simp only [before0, before1, before2, before3, before4, before5, before6, before7]
  rw [show (dats m 0 c).Φ t.castSucc = Pipeline.ΦA spec0 c from rfl]
  by_cases h0 : t.val = 0
  · obtain ⟨n, hn⟩ := t
    obtain rfl : n = 0 := h0
    rw [Rets.ret_live (dats m 0 c) (w := 8) (t := ⟨0, hn⟩) (Bool.eq_false_iff.mpr fun h => absurd ((idle8_iff _).mp h) (show ¬ 0 % 2 = 1 by decide)), after8,
      Rets.ret_live (dats m 0 c) (w := 12) (t := ⟨0, hn⟩) (Bool.eq_false_iff.mpr fun h => absurd ((idle12_iff _).mp h) (show ¬ 0 % 2 = 1 by decide)), after12,
      Rets.ret_live (dats m 0 c) (w := 13) (t := ⟨0, hn⟩) (Bool.eq_false_iff.mpr fun h => ((idle13_iff _).mp h).2 rfl), after13,
      if_pos (show (⟨0, hn⟩ : Fin cfg0.N).val % 2 = 0 from rfl), pointE_even ⟨0, hn⟩ rfl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩, ⟨%d12, H12⟩, ⟨%d13, H13⟩⟩
    iapply (run_first c (grid0.coords ⟨0, hn⟩) _ _ _ _ _ _ _ _ _ _ _ _ _ _ _ _ _ _ _ _ _ _ _ _ _ _ _ _ (iblk m c 0 ⟨0, hn⟩) (X0_1 m c ⟨0, hn⟩) (iblk m c 4 ⟨0, hn⟩) (iblk m c 5 ⟨0, hn⟩) (iblk m c 6 ⟨0, hn⟩) ((cond1_iff _).mpr rfl) ((cond2_iff _).mpr rfl) (fun h => absurd ((cond3_iff _).mp h) (show ¬ 0 % 2 = 1 by decide)) Set.univ _)
    isplitl [H0]; · iexact H0
    isplitl [H1]; · iexact H1
    isplitl [H4]; · iexact H4
    isplitl [H5]; · iexact H5
    isplitl [H6]; · iexact H6
    isplitl [H8]; · iexists _; iexact H8
    isplitl [H10]; · iexists _; iexact H10
    isplitl [H11]; · iexists _; iexact H11
    isplitl [H12]; · iexists _; iexact H12
    isplitl [H13]; · iexists _; iexact H13
    iintro ⟨H0, H1, H4, H5, H6, H8, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (ret9 m c ⟨0, hn⟩ rfl); iexact H9
    isplitl [H10]; · iexact H10
    isplitl [H11]; · iexact H11
    isplitl [H12]; · iexact H12
    iexact H13
  obtain ⟨n, hn⟩ := t
  obtain ⟨n, rfl⟩ : ∃ k, n = k + 1 := ⟨n - 1, by dsimp only at h0; omega⟩
  have c1 : ¬ k0_cond1 (grid0.coords ⟨n + 1, hn⟩) = 1#1 := fun h => h0 ((cond1_iff _).mp h)
  by_cases h2 : (n + 1) % 2 = 0
  · have c2 : k0_cond2 (grid0.coords ⟨n + 1, hn⟩) = 1#1 := (cond2_iff _).mpr h2
    have c3 : ¬ k0_cond3 (grid0.coords ⟨n + 1, hn⟩) = 1#1 := fun h => by have := (cond3_iff _).mp h; dsimp only at this; omega
    simp only [before11, before12]
    rw [Rets.ret_live (dats m 0 c) (w := 8) (t := ⟨n + 1, hn⟩) (Bool.eq_false_iff.mpr fun h => by have := (idle8_iff _).mp h; dsimp only at this; omega), after8,
      Rets.ret_live (dats m 0 c) (w := 12) (t := ⟨n + 1, hn⟩) (Bool.eq_false_iff.mpr fun h => by have := (idle12_iff _).mp h; dsimp only at this; omega), after12,
      if_pos (show (⟨n + 1, hn⟩ : Fin cfg0.N).val % 2 = 0 from h2), pointE_even ⟨n + 1, hn⟩ h2,
      show accW m c (n + 1) hn = stepE m c ⟨n + 1, hn⟩ (accW m c n (Nat.lt_of_succ_lt hn)) from if_pos h2,
      show sumE m c (n + 1) hn = k0_pay6 (colE m c ⟨n + 1, hn⟩) (sumE m c n (Nat.lt_of_succ_lt hn)) from if_pos h2]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩, ⟨%d12, H12⟩, H13⟩
    iapply (run_even c (grid0.coords ⟨n + 1, hn⟩) _ _ _ _ _ _ _ _ _ _ _ _ _ _ _ _ _ _ _ _ _ _ _ _ _ _ _ _ (iblk m c 0 ⟨n + 1, hn⟩) (X0_1 m c ⟨n + 1, hn⟩) (iblk m c 4 ⟨n + 1, hn⟩) (iblk m c 5 ⟨n + 1, hn⟩) (iblk m c 6 ⟨n + 1, hn⟩) (accW m c n (Nat.lt_of_succ_lt hn)) (sumE m c n (Nat.lt_of_succ_lt hn)) c1 c2 c3 Set.univ _)
    isplitl [H0]; · iexact H0
    isplitl [H1]; · iexact H1
    isplitl [H4]; · iexact H4
    isplitl [H5]; · iexact H5
    isplitl [H6]; · iexact H6
    isplitl [H8]; · iexists _; iexact H8
    isplitl [H10]; · iexists _; iexact H10
    isplitl [H11]; · iexact H11
    isplitl [H12]; · iexact H12
    iintro ⟨H0, H1, H4, H5, H6, H8, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (ret9 m c ⟨n + 1, hn⟩ h2); iexact H9
    isplitl [H10]; · iexact H10
    isplitl [H11]; · iexact H11
    isplitl [H12]; · iexact H12
    iapply (ret13 m c ⟨n + 1, hn⟩ h2 h0); iexact H13
  · have h2' : (n + 1) % 2 = 1 := by omega
    have c2 : ¬ k0_cond2 (grid0.coords ⟨n + 1, hn⟩) = 1#1 := fun h => h2 ((cond2_iff _).mp h)
    have c3 : k0_cond3 (grid0.coords ⟨n + 1, hn⟩) = 1#1 := (cond3_iff _).mpr h2'
    simp only [before11, before13]
    rw [Rets.ret_live (dats m 0 c) (w := 9) (t := ⟨n + 1, hn⟩) (Bool.eq_false_iff.mpr fun h => h2 ((idle9_iff _).mp h)), after9,
      Rets.ret_live (dats m 0 c) (w := 13) (t := ⟨n + 1, hn⟩) (Bool.eq_false_iff.mpr fun h => h2 ((idle13_iff _).mp h).1), after13,
      if_neg (show ¬ (⟨n + 1, hn⟩ : Fin cfg0.N).val % 2 = 0 from h2),
      show accW m c (n + 1) hn = stepO m c ⟨n + 1, hn⟩ (accW m c n (Nat.lt_of_succ_lt hn)) from if_neg h2,
      show sumO m c (n + 1) hn = k0_pay9 (colO m c ⟨n + 1, hn⟩) (sumO m c n (Nat.lt_of_succ_lt hn)) from if_neg h2]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩, ⟨%d10, H10⟩, ⟨%d11, H11⟩, H12, ⟨%d13, H13⟩⟩
    iapply (run_odd c (grid0.coords ⟨n + 1, hn⟩) _ _ _ _ _ _ _ _ _ _ _ _ _ _ _ _ _ _ _ _ _ _ _ _ _ _ _ _ (iblk m c 2 ⟨n + 1, hn⟩) (X0_3 m c ⟨n + 1, hn⟩) (iblk m c 4 ⟨n + 1, hn⟩) (iblk m c 5 ⟨n + 1, hn⟩) (iblk m c 7 ⟨n + 1, hn⟩) (accW m c n (Nat.lt_of_succ_lt hn)) (sumO m c n (Nat.lt_of_succ_lt hn)) c1 c2 c3 Set.univ _)
    isplitl [H2]; · iexact H2
    isplitl [H3]; · iexact H3
    isplitl [H4]; · iexact H4
    isplitl [H5]; · iexact H5
    isplitl [H7]; · iexact H7
    isplitl [H9]; · iexists _; iexact H9
    isplitl [H10]; · iexists _; iexact H10
    isplitl [H11]; · iexact H11
    isplitl [H13]; · iexact H13
    iintro ⟨H2, H3, H4, H5, H7, H9, H10, H11, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (ret8 m c ⟨n + 1, hn⟩ h2'); iexact H8
    isplitl [H9]; · iexact H9
    isplitl [H10]; · iexact H10
    isplitl [H11]; · iexact H11
    isplitl [H12]; · iapply (ret12 m c n hn h2'); iexact H12
    iexact H13

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option backward.isDefEq.respectTransparency.types false in
set_option maxHeartbeats 800000 in
/-- Every fair run of the call ends with the arrays at what the points wrote back and every counter at zero. -/
theorem runs : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m)
    (hmain := hmain m Variants.none) (hA := A_eq m) (hin := fun _ => .rfl) (hout := fun _ => .rfl)

/-- The call leaves its arguments as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.TailIdeal.Run

end
-- ==== Proof.TailBackValue.lean ====
/- `TailIdeal`'s results as mathematics. Each branch's hidden rows are its output times the gate's smooth step; a point takes
   272 rows back through that branch's norm. Each element of a branch's gradient is the reference's
   (`Cert.NormBack.element`, with nothing added), each norm weight's gradient is the sum over all rows of the normalised
   value times the gradient that the projection pulls back, and the projection's own gradient, whose first 1024 rows are
   the first branch's and whose last 1024 the second's, is the sum over all rows of the scaled normalised value times
   the rows' gradient. Five arrays are the reference's five results; the gates' gradient is not among them. -/
module

public import proofs.«01_k».proof.Proof.TailBackRun
public import proofs.«01_k».proof.Proof.NormBack
public import proofs.«01_k».proof.Proof.Gen.TailReferenceIdeal.Run
public import proofs.«01_k».proof.Proof.Gen.TailReferenceIdeal.Read
public import proofs.«01_k».proof.Defs
public import proofs.«01_k».proof.Proof.Gen.Tail
public import proofs.«01_k».proof.Proof.Gen.TailReferenceIdeal
public import Idealize.ShloMosaic.Lib.MatmulPlain
public import Idealize.ShloMosaic.Lib.ValueIdx
public import Idealize.ShloMosaic.Lib.Pointwise

@[expose] public section

set_option maxRecDepth 16384

noncomputable section

namespace Cert.TailIdeal.Run

open Idealize.ShloMosaic hiding ix1 ix2
open Idealize.ShloMosaic.TcCoe Idealize.ShloMosaic.ValueIdx
open Idealize.SL.Sem
open Idealize.ShloMosaic.Pipeline (Dat Cfg Window)
open Cert.TailIdeal.Gen

/-! ## The mathematics -/

theorem zero_word : (Ideal.ofBits .f32 0#32 : EReal) = 0 := Ideal.ofBits_zero_f32

/-- The logistic step of a gate, and the gate times it. -/
def step (g : EReal) : EReal :=
  Ideal.div (Ideal.ofBits .f32 0x3F800000#32) (Ideal.ofBits .f32 0x3F800000#32 + Ideal.exp (-g))
def silu (g : EReal) : EReal := g * step g

/-- The mean square of a row, with the norm's small constant. -/
def spread (h : Fin 1024 → EReal) : EReal :=
  Ideal.div (∑ k, h k * h k) (Ideal.ofBits .f32 0x44800000#32) + Ideal.ofBits .f32 0x3727C5AC#32

/-- A row normalised. -/
def normed (h : Fin 1024 → EReal) (j : Fin 1024) : EReal := h j * Ideal.rsqrt (spread h)

/-- A row's gradient, back through its norm. -/
def back (h g : Fin 1024 → EReal) (j : Fin 1024) : EReal :=
  Ideal.rsqrt (spread h) * (g j - normed h j * Ideal.div (∑ k, g k * normed h k) (Ideal.ofBits .f32 0x44800000#32))

/-- A column's place among the first 1024 of 2048, and among the last. -/
def lo (j : Fin 1024) : Fin 2048 := ⟨j.val, by omega⟩
def hi (j : Fin 1024) : Fin 2048 := ⟨1024 + j.val, by omega⟩
/-- The first branch's gate among the projection's columns, and the second's. -/
def gateLo (j : Fin 1024) : Fin 3584 := ⟨j.val, by omega⟩
def gateHi (j : Fin 1024) : Fin 3584 := ⟨1024 + j.val, by omega⟩

/-- A branch's hidden row, and the gradient that the projection pulls back to a column. -/
def hidden (o : Vec Ideal S2176x1024 .f32) (p : Vec Ideal S2176x3584 .f32) (at_ : Fin 1024 → Fin 3584) (r : Fin 2176) (k : Fin 1024) : EReal :=
  o (ix2 r k) * silu (p (ix2 r (at_ k)))
def pull (d : Vec Ideal S2176x1024 .f32) (w : Vec Ideal S2048x1024 .bf16) (r : Fin 2176) (J : Fin 2048) : EReal :=
  ∑ k : Fin 1024, d (ix2 r k) * w (ix2 J k)

theorem idx2 {n0 n1 : ℕ} (i : (⟨2, ![n0, n1]⟩ : Shape).Idx) (a : Fin n0) (b : Fin n1) (h0 : (i 0).val = a.val) (h1 : (i 1).val = b.val) : i = ix2 a b := by
  funext x
  match x with
    | ⟨0, _⟩ => exact Fin.ext h0
    | ⟨1, _⟩ => exact Fin.ext h1

/-! ## The payloads, at an element -/

/-- A block's hidden row, what the projection pulls back to it, and a column of two blocks' products. -/
def hid (o g : Vec Ideal S272x1024 .f32) (r : Fin 272) (k : Fin 1024) : EReal := o (ix2 r k) * silu (g (ix2 r k))
def pulled (d : Vec Ideal S272x1024 .f32) (w : Vec Ideal S1024x1024 .bf16) (r : Fin 272) (j : Fin 1024) : EReal :=
  ∑ k : Fin 1024, d (ix2 r k) * w (ix2 j k)
def fold (o g d : Vec Ideal S272x1024 .f32) (w : Vec Ideal S1024x1024 .bf16) (j : Fin 1024) : EReal :=
  ∑ x : Fin 272, normed (hid o g x) j * pulled d w x j
def cross (d n : Vec Ideal S272x1024 .f32) (w : Vec Ideal S1x1024 .f32) (j b : Fin 1024) : EReal :=
  ∑ x : Fin 272, d (ix2 x b) * (n (ix2 x j) * w (ix2 0 j))

theorem pay1_apply (j : S2048x1024.Idx) : k0_pay1 (F := Ideal) j = 0 := by
  unfold k0_pay1
  pointwise
theorem pay2_apply (j : S1x1024.Idx) : k0_pay2 (F := Ideal) j = 0 := by
  unfold k0_pay2
  pointwise
theorem pay3_apply (j : S1x1024.Idx) : k0_pay3 (F := Ideal) j = 0 := by
  unfold k0_pay3
  pointwise

theorem pay11_apply (d : Vec Ideal S272x1024 .f32) (w : Vec Ideal S1024x1024 .bf16) (r : Fin 272) (j : Fin 1024) :
    k0_pay11 (F := Ideal) (k0_pay4 d) w (ix2 r j) = pulled d w r j := by
  unfold k0_pay11
  refine (Ideal.matmul_transposedRhs_apply (M := 272) (K := 1024) (N := 1024) (φ₁ := .bf16) (φ₂ := .bf16) none (k0_pay4 d) w (constant S272x1024 .f32 0#32) r j).trans ?_
  rw [show (constant S272x1024 .f32 0#32 : FVec Ideal S272x1024 .f32) (ix2 r j) = 0 from zero_word, zero_add]
  rfl

theorem pay12_apply (g : Vec Ideal S272x1024 .f32) (r : Fin 272) (j : Fin 1024) : k0_pay12 (F := Ideal) g (ix2 r j) = step (g (ix2 r j)) := by
  refine Eq.trans (b := Ideal.div (Ideal.ofBits .f32 0x3F800000#32) (Ideal.ofBits .f32 0x3F800000#32 + Ideal.exp (Ideal.ofBits .f32 0#32 - g (ix2 r j)))) ?_ ?_
  · rfl
  · rw [zero_word, zero_sub]
    rfl

theorem pay13_apply (o g : Vec Ideal S272x1024 .f32) (r : Fin 272) (j : Fin 1024) : k0_pay13 (F := Ideal) o g (ix2 r j) = hid o g r j := by
  refine Eq.trans (b := o (ix2 r j) * (g (ix2 r j) * k0_pay12 g (ix2 r j))) rfl ?_
  rw [pay12_apply]
  rfl

theorem pay14_apply (o g : Vec Ideal S272x1024 .f32) (r : Fin 272) (z : Fin 1) :
    k0_pay14 (F := Ideal) o g (ix2 r z) = Ideal.rsqrt (spread (hid o g r)) := by
  refine Eq.trans (b := Ideal.rsqrt (spread fun k => k0_pay13 (F := Ideal) o g (ix2 r k))) ?_ ?_
  · unfold k0_pay14 spread
    pointwise
    rfl
  · simp only [pay13_apply]

theorem pay15_apply (o g : Vec Ideal S272x1024 .f32) (r : Fin 272) (j : Fin 1024) :
    k0_pay15 (F := Ideal) o g (ix2 r j) = normed (hid o g r) j := by
  unfold normed
  rw [← pay14_apply o g r 0, ← pay13_apply]
  unfold k0_pay15
  pointwise
  rfl

theorem pay16_apply (d o g : Vec Ideal S272x1024 .f32) (w : Vec Ideal S1024x1024 .bf16) (z : Fin 1) (j : Fin 1024) :
    k0_pay16 (F := Ideal) (k0_pay4 d) w o g (ix2 z j) = fold o g d w j := by
  refine Eq.trans (b := ∑ x : Fin 272, k0_pay11 (F := Ideal) (k0_pay4 d) w (ix2 x j) * k0_pay15 (F := Ideal) o g (ix2 x j)) ?_ ?_
  · unfold k0_pay16
    pointwise
    rfl
  · refine Finset.sum_congr rfl fun x _ => ?_
    rw [pay11_apply, pay15_apply, mul_comm]

theorem pay17_apply (d o g : Vec Ideal S272x1024 .f32) (w : Vec Ideal S1024x1024 .bf16) (v : Vec Ideal S1x1024 .f32) (r : Fin 272) (j : Fin 1024) :
    k0_pay17 (F := Ideal) (k0_pay4 d) w o g v (ix2 r j) = back (hid o g r) (fun k => pulled d w r k * v (ix2 0 k)) j := by
  unfold back
  rw [← pay14_apply o g r 0]
  simp only [← pay15_apply, ← pay11_apply]
  unfold k0_pay17
  pointwise
  rfl

theorem pay18_apply (d o g : Vec Ideal S272x1024 .f32) (w : Vec Ideal S1024x1024 .bf16) (v : Vec Ideal S1x1024 .f32) (r : Fin 272) (j : Fin 1024) :
    k0_pay18 (F := Ideal) (k0_pay4 d) w o g v (ix2 r j) = back (hid o g r) (fun k => pulled d w r k * v (ix2 0 k)) j * silu (g (ix2 r j)) := by
  refine Eq.trans (b := k0_pay17 (F := Ideal) (k0_pay4 d) w o g v (ix2 r j) * (g (ix2 r j) * k0_pay12 g (ix2 r j))) rfl ?_
  rw [pay17_apply, pay12_apply]
  rfl

theorem pay6_apply (u v : Vec Ideal S1x1024 .f32) (i : S1x1024.Idx) : k0_pay6 (F := Ideal) u v i = v i + u i := by
  unfold k0_pay6
  rw [shapeCast_self]
  rfl

theorem pay7_apply (d n : Vec Ideal S272x1024 .f32) (w : Vec Ideal S1x1024 .f32) (x : Vec Ideal S1024x1024 .f32) (j b : Fin 1024) :
    k0_pay7 (F := Ideal) d w n x (ix2 j b) = x (ix2 j b) + cross d n w j b := by
  refine Eq.trans (b := x (ix2 j b) + ∑ r : Fin 272, (n (ix2 r j) * w (ix2 0 j)) * k0_pay4 (F := Ideal) d (ix2 r b)) ?_ ?_
  · unfold k0_pay7
    pointwise
    rfl
  · refine congrArg (x (ix2 j b) + ·) (Finset.sum_congr rfl fun r _ => ?_)
    rw [mul_comm]
    rfl

/-! The second branch's payloads are the first's. -/

theorem pay24_apply (o g : Vec Ideal S272x1024 .f32) (r : Fin 272) (j : Fin 1024) :
    k0_pay24 (F := Ideal) o g (ix2 r j) = normed (hid o g r) j := pay15_apply o g r j
theorem pay25_apply (d o g : Vec Ideal S272x1024 .f32) (w : Vec Ideal S1024x1024 .bf16) (z : Fin 1) (j : Fin 1024) :
    k0_pay25 (F := Ideal) (k0_pay4 d) w o g (ix2 z j) = fold o g d w j := pay16_apply d o g w z j
theorem pay27_apply (d o g : Vec Ideal S272x1024 .f32) (w : Vec Ideal S1024x1024 .bf16) (v : Vec Ideal S1x1024 .f32) (r : Fin 272) (j : Fin 1024) :
    k0_pay27 (F := Ideal) (k0_pay4 d) w o g v (ix2 r j) = back (hid o g r) (fun k => pulled d w r k * v (ix2 0 k)) j * silu (g (ix2 r j)) :=
  pay18_apply d o g w v r j
theorem pay9_apply (u v : Vec Ideal S1x1024 .f32) (i : S1x1024.Idx) : k0_pay9 (F := Ideal) u v i = v i + u i := pay6_apply u v i
theorem pay10_apply (d n : Vec Ideal S272x1024 .f32) (w : Vec Ideal S1x1024 .f32) (x : Vec Ideal S1024x1024 .f32) (j b : Fin 1024) :
    k0_pay10 (F := Ideal) d w n x (ix2 j b) = x (ix2 j b) + cross d n w j b := pay7_apply d n w x j b

/-! ## The reference, at an element -/

/-- What a norm gives back to a row, as the reference's three terms. -/
theorem back_eq (h g : Fin 1024 → EReal) (j : Fin 1024) :
    back h g j = g j * Ideal.rsqrt (spread h)
      + h j * Ideal.div ((∑ k, h k * g k) * (Ideal.ofBits .f32 0xBF000000#32 * Ideal.div (Ideal.rsqrt (spread h)) (spread h))) (Ideal.ofBits .f32 0x44800000#32)
      + Ideal.div ((∑ k, h k * g k) * (Ideal.ofBits .f32 0xBF000000#32 * Ideal.div (Ideal.rsqrt (spread h)) (spread h))) (Ideal.ofBits .f32 0x44800000#32) * h j := by
  obtain ⟨e, he, ee⟩ := Cert.NormBack.word_eps
  unfold back normed spread
  rw [ee, Cert.NormBack.word_1024, Cert.NormBack.word_neg_half]
  have := Cert.NormBack.element (∑ k : Fin 1024, h k * h k) 0 (Finset.sum_nonneg fun k _ => Cert.NormBack.sq_nonneg _) h g j e he
  simpa only [zero_add] using this

section Reference

open Cert.TailReferenceIdeal.Read

variable (x0 x1 : Vec Ideal S2176x1024 .f32) (x2 : Vec Ideal S2176x3584 .f32) (x3 : Vec Ideal S2176x1024 .f32) (x4 : Vec Ideal S2048x1024 .bf16)
  (x5 x6 : Vec Ideal S1x1024 .f32)

theorem ref_pull (r : Fin 2176) (J : Fin 2048) : val_main_v53 (F := Ideal) x3 x4 (ix2 r J) = pull x3 x4 r J := by
  rw [val_main_v53_apply]
  unfold pull
  refine Finset.sum_congr rfl fun k _ => congrArg₂ (· * ·) ?_ ?_
  · rw [idx2 (lidx_main_v53 (ix2 r J) k) r k rfl rfl]
  · rw [val_main_v2_apply, idx2 (ridx_main_v53 (ix2 r J) k) J k rfl rfl]
    rfl

theorem ref_hidden1 (r : Fin 2176) (j : Fin 1024) : val_main_v10 (F := Ideal) x0 x2 (ix2 r j) = hidden x0 x2 gateLo r j := by
  rw [val_main_v10_apply, val_main_v9_apply, val_main_v8_apply, val_main_v7_apply, val_main_v6_apply, val_main_v5_apply, val_main_v4_apply, val_main_v3_apply,
    val_main_v0_apply, idx2 (idx_main_v0 (ix2 r j)) r (gateLo j) rfl rfl]
  rfl

theorem ref_silu1 (r : Fin 2176) (j : Fin 1024) : val_main_v9 (F := Ideal) x2 (ix2 r j) = silu (x2 (ix2 r (gateLo j))) := by
  rw [val_main_v9_apply, val_main_v8_apply, val_main_v7_apply, val_main_v6_apply, val_main_v5_apply, val_main_v4_apply, val_main_v3_apply,
    val_main_v0_apply, idx2 (idx_main_v0 (ix2 r j)) r (gateLo j) rfl rfl]
  rfl

theorem ref_spread1 (r : Fin 2176) : val_main_v17 (F := Ideal) x0 x2 (ix2 r 0) = spread (hidden x0 x2 gateLo r) := by
  rw [val_main_v17_apply, val_main_v15_apply, val_main_v14_apply, val_main_v16_apply, val_main_v13_apply, val_main_v12_apply]
  unfold spread
  refine congrArg₂ (fun x y : EReal => x + y) (congrArg₂ Ideal.div ?_ rfl) rfl
  refine (congrArg₂ (fun x y : EReal => x + y) zero_word (Finset.sum_congr rfl fun k _ => ?_)).trans (zero_add _)
  rw [val_main_v11_apply, idx2 (idx_main_v12 (idx_main_v13 (ix2 r 0)) k) r k rfl rfl, ref_hidden1]
  rfl

theorem ref_root1 (r : Fin 2176) : val_main_v18 (F := Ideal) x0 x2 (ix2 r 0) = Ideal.rsqrt (spread (hidden x0 x2 gateLo r)) := by
  rw [val_main_v18_apply, ref_spread1]
  rfl

theorem ref_norm1 (r : Fin 2176) (j : Fin 1024) : val_main_v23 (F := Ideal) x0 x2 (ix2 r j) = normed (hidden x0 x2 gateLo r) j := by
  rw [val_main_v23_apply, val_main_v22_apply, idx2 (idx_main_v22 (ix2 r j)) r 0 rfl rfl, ref_root1, ref_hidden1]
  rfl

theorem ref_scaled1 (r : Fin 2176) (j : Fin 1024) : val_main_v25 (F := Ideal) x0 x2 x5 (ix2 r j) = normed (hidden x0 x2 gateLo r) j * x5 (ix2 0 j) := by
  rw [val_main_v25_apply, val_main_v24_apply, idx2 (idx_main_v24 (ix2 r j)) 0 j rfl rfl, ref_norm1]
  rfl

theorem ref_pull1 (r : Fin 2176) (j : Fin 1024) : val_main_v54 (F := Ideal) x3 x4 (ix2 r j) = pull x3 x4 r (lo j) := by
  rw [val_main_v54_apply, idx2 (idx_main_v54 (ix2 r j)) r (lo j) rfl rfl, ref_pull]

theorem ref_weight1 (j : Fin 1024) (i : Cert.TailReferenceIdeal.S1x1024.Idx) (hj : (i 1).val = j.val) :
    val_main_v78 (F := Ideal) x0 x2 x3 x4 i = ∑ r : Fin 2176, normed (hidden x0 x2 gateLo r) j * pull x3 x4 r (lo j) := by
  rw [val_main_v78_apply, val_main_v77_apply]
  refine (congrArg₂ (fun x y : EReal => x + y) zero_word (Finset.sum_congr rfl fun r _ => ?_)).trans (zero_add _)
  have h0 : (i 0).val < 1 := (i 0).isLt
  rw [idx2 (idx_main_v77 (idx_main_v78 i) r) r j rfl (by show (i 0).val * 1024 + (i 1).val = j.val; omega), val_main_v76_apply, ref_norm1, ref_pull1]
  rfl

theorem ref_g1 (r : Fin 2176) (j : Fin 1024) : val_main_v80 (F := Ideal) x3 x4 x5 (ix2 r j) = pull x3 x4 r (lo j) * x5 (ix2 0 j) := by
  rw [val_main_v80_apply, val_main_v79_apply, idx2 (idx_main_v79 (ix2 r j)) 0 j rfl rfl, ref_pull1]
  rfl

/-- The root's gradient, spread over the row's elements. -/
theorem ref_mean1 (r : Fin 2176) (j : Fin 1024) :
    val_main_v90 (F := Ideal) x0 x2 x3 x4 x5 (ix2 r j) = Ideal.div ((∑ k : Fin 1024, hidden x0 x2 gateLo r k * (pull x3 x4 r (lo k) * x5 (ix2 0 k)))
      * (Ideal.ofBits .f32 0xBF000000#32 * Ideal.div (Ideal.rsqrt (spread (hidden x0 x2 gateLo r))) (spread (hidden x0 x2 gateLo r)))) (Ideal.ofBits .f32 0x44800000#32) := by
  rw [val_main_v90_apply, val_main_v89_apply, Fin.sum_univ_one, idx2 (idx_main_v89 (idx_main_v90 (ix2 r j)) 0) r 0 rfl rfl]
  refine (congrArg₂ (fun x y : EReal => x + y) zero_word ?_).trans (zero_add _)
  rw [val_main_v88_apply, val_main_v87_apply, val_main_v86_apply, val_main_v83_apply, val_main_v82_apply, val_main_v21_apply, val_main_v20_apply, val_main_v19_apply, ref_root1, ref_spread1]
  refine congrArg₂ Ideal.div (congrArg₂ (fun x y : EReal => x * y) ?_ rfl) rfl
  refine (congrArg₂ (fun x y : EReal => x + y) zero_word (Finset.sum_congr rfl fun k _ => ?_)).trans (zero_add _)
  rw [idx2 (idx_main_v82 (idx_main_v83 (ix2 r 0)) k) r k (by show r.val * 1 + 0 = r.val; omega) rfl, val_main_v81_apply, ref_g1, ref_hidden1]
  rfl

/-- An element of the reference's gradient, as the kernel writes it. -/
theorem ref_element1 (r : Fin 2176) (j : Fin 1024) :
    val_main_v95 (F := Ideal) x0 x2 x3 x4 x5 (ix2 r j)
      = back (hidden x0 x2 gateLo r) (fun k => pull x3 x4 r (lo k) * x5 (ix2 0 k)) j * silu (x2 (ix2 r (gateLo j))) := by
  rw [val_main_v95_apply, val_main_v94_apply, val_main_v93_apply, val_main_v92_apply, val_main_v91_apply, val_main_v85_apply, val_main_v84_apply, ref_g1, ref_mean1,
    ref_hidden1, ref_silu1, idx2 (idx_main_v84 (ix2 r j)) r 0 rfl rfl, ref_root1]
  refine congrArg (fun x : EReal => x * silu (x2 (ix2 r (gateLo j)))) ?_
  exact (back_eq (hidden x0 x2 gateLo r) (fun k => pull x3 x4 r (lo k) * x5 (ix2 0 k)) j).symm

theorem ref_hidden2 (r : Fin 2176) (j : Fin 1024) : val_main_v33 (F := Ideal) x1 x2 (ix2 r j) = hidden x1 x2 gateHi r j := by
  rw [val_main_v33_apply, val_main_v32_apply, val_main_v31_apply, val_main_v30_apply, val_main_v29_apply, val_main_v28_apply, val_main_v27_apply, val_main_v26_apply,
    val_main_v1_apply, idx2 (idx_main_v1 (ix2 r j)) r (gateHi j) rfl rfl]
  rfl

theorem ref_silu2 (r : Fin 2176) (j : Fin 1024) : val_main_v32 (F := Ideal) x2 (ix2 r j) = silu (x2 (ix2 r (gateHi j))) := by
  rw [val_main_v32_apply, val_main_v31_apply, val_main_v30_apply, val_main_v29_apply, val_main_v28_apply, val_main_v27_apply, val_main_v26_apply,
    val_main_v1_apply, idx2 (idx_main_v1 (ix2 r j)) r (gateHi j) rfl rfl]
  rfl

theorem ref_spread2 (r : Fin 2176) : val_main_v40 (F := Ideal) x1 x2 (ix2 r 0) = spread (hidden x1 x2 gateHi r) := by
  rw [val_main_v40_apply, val_main_v38_apply, val_main_v37_apply, val_main_v39_apply, val_main_v36_apply, val_main_v35_apply]
  unfold spread
  refine congrArg₂ (fun x y : EReal => x + y) (congrArg₂ Ideal.div ?_ rfl) rfl
  refine (congrArg₂ (fun x y : EReal => x + y) zero_word (Finset.sum_congr rfl fun k _ => ?_)).trans (zero_add _)
  rw [val_main_v34_apply, idx2 (idx_main_v35 (idx_main_v36 (ix2 r 0)) k) r k rfl rfl, ref_hidden2]
  rfl

theorem ref_root2 (r : Fin 2176) : val_main_v41 (F := Ideal) x1 x2 (ix2 r 0) = Ideal.rsqrt (spread (hidden x1 x2 gateHi r)) := by
  rw [val_main_v41_apply, ref_spread2]
  rfl

theorem ref_norm2 (r : Fin 2176) (j : Fin 1024) : val_main_v46 (F := Ideal) x1 x2 (ix2 r j) = normed (hidden x1 x2 gateHi r) j := by
  rw [val_main_v46_apply, val_main_v45_apply, idx2 (idx_main_v45 (ix2 r j)) r 0 rfl rfl, ref_root2, ref_hidden2]
  rfl

theorem ref_scaled2 (r : Fin 2176) (j : Fin 1024) : val_main_v48 (F := Ideal) x1 x2 x6 (ix2 r j) = normed (hidden x1 x2 gateHi r) j * x6 (ix2 0 j) := by
  rw [val_main_v48_apply, val_main_v47_apply, idx2 (idx_main_v47 (ix2 r j)) 0 j rfl rfl, ref_norm2]
  rfl

theorem ref_pull2 (r : Fin 2176) (j : Fin 1024) : val_main_v55 (F := Ideal) x3 x4 (ix2 r j) = pull x3 x4 r (hi j) := by
  rw [val_main_v55_apply, idx2 (idx_main_v55 (ix2 r j)) r (hi j) rfl rfl, ref_pull]

theorem ref_weight2 (j : Fin 1024) (i : Cert.TailReferenceIdeal.S1x1024.Idx) (hj : (i 1).val = j.val) :
    val_main_v58 (F := Ideal) x1 x2 x3 x4 i = ∑ r : Fin 2176, normed (hidden x1 x2 gateHi r) j * pull x3 x4 r (hi j) := by
  rw [val_main_v58_apply, val_main_v57_apply]
  refine (congrArg₂ (fun x y : EReal => x + y) zero_word (Finset.sum_congr rfl fun r _ => ?_)).trans (zero_add _)
  have h0 : (i 0).val < 1 := (i 0).isLt
  rw [idx2 (idx_main_v57 (idx_main_v58 i) r) r j rfl (by show (i 0).val * 1024 + (i 1).val = j.val; omega), val_main_v56_apply, ref_norm2, ref_pull2]
  rfl

theorem ref_g2 (r : Fin 2176) (j : Fin 1024) : val_main_v60 (F := Ideal) x3 x4 x6 (ix2 r j) = pull x3 x4 r (hi j) * x6 (ix2 0 j) := by
  rw [val_main_v60_apply, val_main_v59_apply, idx2 (idx_main_v59 (ix2 r j)) 0 j rfl rfl, ref_pull2]
  rfl

/-- The root's gradient, spread over the row's elements. -/
theorem ref_mean2 (r : Fin 2176) (j : Fin 1024) :
    val_main_v70 (F := Ideal) x1 x2 x3 x4 x6 (ix2 r j) = Ideal.div ((∑ k : Fin 1024, hidden x1 x2 gateHi r k * (pull x3 x4 r (hi k) * x6 (ix2 0 k)))
      * (Ideal.ofBits .f32 0xBF000000#32 * Ideal.div (Ideal.rsqrt (spread (hidden x1 x2 gateHi r))) (spread (hidden x1 x2 gateHi r)))) (Ideal.ofBits .f32 0x44800000#32) := by
  rw [val_main_v70_apply, val_main_v69_apply, Fin.sum_univ_one, idx2 (idx_main_v69 (idx_main_v70 (ix2 r j)) 0) r 0 rfl rfl]
  refine (congrArg₂ (fun x y : EReal => x + y) zero_word ?_).trans (zero_add _)
  rw [val_main_v68_apply, val_main_v67_apply, val_main_v66_apply, val_main_v63_apply, val_main_v62_apply, val_main_v44_apply, val_main_v43_apply, val_main_v42_apply, ref_root2, ref_spread2]
  refine congrArg₂ Ideal.div (congrArg₂ (fun x y : EReal => x * y) ?_ rfl) rfl
  refine (congrArg₂ (fun x y : EReal => x + y) zero_word (Finset.sum_congr rfl fun k _ => ?_)).trans (zero_add _)
  rw [idx2 (idx_main_v62 (idx_main_v63 (ix2 r 0)) k) r k (by show r.val * 1 + 0 = r.val; omega) rfl, val_main_v61_apply, ref_g2, ref_hidden2]
  rfl

/-- An element of the reference's gradient, as the kernel writes it. -/
theorem ref_element2 (r : Fin 2176) (j : Fin 1024) :
    val_main_v75 (F := Ideal) x1 x2 x3 x4 x6 (ix2 r j)
      = back (hidden x1 x2 gateHi r) (fun k => pull x3 x4 r (hi k) * x6 (ix2 0 k)) j * silu (x2 (ix2 r (gateHi j))) := by
  rw [val_main_v75_apply, val_main_v74_apply, val_main_v73_apply, val_main_v72_apply, val_main_v71_apply, val_main_v65_apply, val_main_v64_apply, ref_g2, ref_mean2,
    ref_hidden2, ref_silu2, idx2 (idx_main_v64 (ix2 r j)) r 0 rfl rfl, ref_root2]
  refine congrArg (fun x : EReal => x * silu (x2 (ix2 r (gateHi j)))) ?_
  exact (back_eq (hidden x1 x2 gateHi r) (fun k => pull x3 x4 r (hi k) * x6 (ix2 0 k)) j).symm

/-- The two branches' scaled rows, side by side. -/
theorem ref_joined1 (r : Fin 2176) (j : Fin 1024) :
    val_main_v49 (F := Ideal) x0 x1 x2 x5 x6 (ix2 r (lo j)) = normed (hidden x0 x2 gateLo r) j * x5 (ix2 0 j) := by
  rw [← ref_scaled1]
  unfold val_main_v49
  refine concatenate_pair_apply_left (t := Cert.TailReferenceIdeal.S2176x2048) (s₁ := Cert.TailReferenceIdeal.S2176x1024) (s₂ := Cert.TailReferenceIdeal.S2176x1024) 1 _ _ _ (ix2 r (lo j)) rfl (ix2 r j) fun b => ?_
  match b with
    | ⟨0, _⟩ => rfl
    | ⟨1, _⟩ => rfl

theorem ref_joined2 (r : Fin 2176) (j : Fin 1024) :
    val_main_v49 (F := Ideal) x0 x1 x2 x5 x6 (ix2 r (hi j)) = normed (hidden x1 x2 gateHi r) j * x6 (ix2 0 j) := by
  rw [← ref_scaled2]
  unfold val_main_v49
  refine concatenate_pair_apply_right (t := Cert.TailReferenceIdeal.S2176x2048) (s₁ := Cert.TailReferenceIdeal.S2176x1024) (s₂ := Cert.TailReferenceIdeal.S2176x1024) 1 _ _ _ (ix2 r (hi j)) rfl rfl (ix2 r j) (fun b hb => ?_) ?_
  · match b with
      | ⟨0, _⟩ => rfl
      | ⟨1, _⟩ => exact absurd rfl hb
  · show j.val + 1024 = 1024 + j.val
    omega

theorem ref_cross (J : Fin 2048) (b : Fin 1024) :
    val_main_v52 (F := Ideal) x0 x1 x2 x3 x5 x6 (ix2 J b) = ∑ r : Fin 2176, x3 (ix2 r b) * val_main_v49 (F := Ideal) x0 x1 x2 x5 x6 (ix2 r J) := by
  rw [val_main_v52_apply, val_main_v51_apply]
  refine Finset.sum_congr rfl fun r _ => congrArg₂ (· * ·) ?_ ?_
  · rw [idx2 (lidx_main_v51 (idx_main_v52 (ix2 J b)) r) r b rfl rfl]
  · rw [idx2 (ridx_main_v51 (idx_main_v52 (ix2 J b)) r) r J rfl rfl]

theorem ref_cross1 (j b : Fin 1024) :
    val_main_v52 (F := Ideal) x0 x1 x2 x3 x5 x6 (ix2 (lo j) b) = ∑ r : Fin 2176, x3 (ix2 r b) * (normed (hidden x0 x2 gateLo r) j * x5 (ix2 0 j)) :=
  (ref_cross x0 x1 x2 x3 x5 x6 (lo j) b).trans (Finset.sum_congr rfl fun r _ => congrArg (fun x : EReal => x3 (ix2 r b) * x) (ref_joined1 x0 x1 x2 x5 x6 r j))
theorem ref_cross2 (j b : Fin 1024) :
    val_main_v52 (F := Ideal) x0 x1 x2 x3 x5 x6 (ix2 (hi j) b) = ∑ r : Fin 2176, x3 (ix2 r b) * (normed (hidden x1 x2 gateHi r) j * x6 (ix2 0 j)) :=
  (ref_cross x0 x1 x2 x3 x5 x6 (hi j) b).trans (Finset.sum_congr rfl fun r _ => congrArg (fun x : EReal => x3 (ix2 r b) * x) (ref_joined2 x0 x1 x2 x5 x6 r j))

end Reference

/-! ## The blocks -/

theorem index_0 : ∀ t : Fin grid0.N, win0_0.index t 0 = t.val / 2 ∧ win0_0.index t 1 = 0 := by decide +kernel
theorem index_1 : ∀ t : Fin grid0.N, win0_1.index t 0 = t.val / 2 ∧ win0_1.index t 1 = 0 := by decide +kernel
theorem index_2 : ∀ t : Fin grid0.N, win0_2.index t 0 = t.val / 2 ∧ win0_2.index t 1 = 0 := by decide +kernel
theorem index_3 : ∀ t : Fin grid0.N, win0_3.index t 0 = t.val / 2 ∧ win0_3.index t 1 = 1 := by decide +kernel
theorem index_4 : ∀ t : Fin grid0.N, win0_4.index t 0 = t.val / 2 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = t.val / 2 ∧ win0_8.index t 1 = 0 := by decide +kernel
theorem index_9 : ∀ t : Fin grid0.N, win0_9.index t 0 = t.val / 2 ∧ win0_9.index t 1 = 0 := by decide +kernel
theorem index_11 : ∀ t : Fin grid0.N, win0_11.index t 0 = 0 ∧ win0_11.index t 1 = 0 := by decide +kernel
theorem index_12 : ∀ t : Fin grid0.N, win0_12.index t 0 = 0 ∧ win0_12.index t 1 = 0 := by decide +kernel
theorem index_13 : ∀ t : Fin grid0.N, win0_13.index t 0 = 0 ∧ win0_13.index t 1 = 0 := by decide +kernel

variable (m : (ℓ : Loc nD τ sig) → Buf (Elt Ideal) ℓ) (c : Dev nD)

/-- The two branches' outputs, the projection that holds their gates, the rows' gradient, the output projection, and the
    two norms' weights. -/
abbrev oaOf : Vec Ideal S2176x1024 .f32 := m ((c : Thread nD τ).loc main_arg0)
abbrev obOf : Vec Ideal S2176x1024 .f32 := m ((c : Thread nD τ).loc main_arg1)
abbrev prOf : Vec Ideal S2176x3584 .f32 := m ((c : Thread nD τ).loc main_arg2)
abbrev dhOf : Vec Ideal S2176x1024 .f32 := m ((c : Thread nD τ).loc main_arg3)
abbrev woOf : Vec Ideal S2048x1024 .bf16 := m ((c : Thread nD τ).loc main_arg4)
abbrev waOf : Vec Ideal S1x1024 .f32 := m ((c : Thread nD τ).loc main_arg5)
abbrev wbOf : Vec Ideal S1x1024 .f32 := m ((c : Thread nD τ).loc main_arg6)

theorem block_0 (t : Fin cfg0.N) (a : Fin 272) (b : Fin 1024) (J : Fin 2176) (hJ : J.val = 272 * (t.val / 2) + a.val) :
    (iblk m c 0 t : Vec Ideal S272x1024 .f32) (ix2 a b) = oaOf m c (ix2 J b) := by
  obtain ⟨e0, e1⟩ := index_0 t
  unfold iblk
  rw [View.read_apply]
  refine congrArg (oaOf m c) (funext fun x => Fin.ext ?_)
  match x with
    | ⟨0, _⟩ => show win0_0.index t 0 * 272 + 1 * a.val = J.val; rw [e0]; omega
    | ⟨1, _⟩ => show win0_0.index t 1 * 1024 + 1 * b.val = b.val; rw [e1]; omega

theorem block_1 (t : Fin cfg0.N) (a : Fin 272) (b : Fin 1024) (J : Fin 2176) (hJ : J.val = 272 * (t.val / 2) + a.val) :
    (X0_1 m c t : Vec Ideal S272x1024 .f32) (ix2 a b) = prOf m c (ix2 J (gateLo b)) := by
  obtain ⟨e0, e1⟩ := index_1 t
  unfold X0_1 Pipeline.Window.fill
  rw [dif_pos (moved0_1 t (ix2 a b))]
  unfold iblk
  rw [View.read_apply]
  refine congrArg (prOf m c) (funext fun x => Fin.ext ?_)
  match x with
    | ⟨0, _⟩ => show win0_1.index t 0 * 272 + 1 * a.val = J.val; rw [e0]; omega
    | ⟨1, _⟩ => show win0_1.index t 1 * 1024 + 1 * b.val = b.val; rw [e1]; omega

theorem block_2 (t : Fin cfg0.N) (a : Fin 272) (b : Fin 1024) (J : Fin 2176) (hJ : J.val = 272 * (t.val / 2) + a.val) :
    (iblk m c 2 t : Vec Ideal S272x1024 .f32) (ix2 a b) = obOf m c (ix2 J b) := by
  obtain ⟨e0, e1⟩ := index_2 t
  unfold iblk
  rw [View.read_apply]
  refine congrArg (obOf m c) (funext fun x => Fin.ext ?_)
  match x with
    | ⟨0, _⟩ => show win0_2.index t 0 * 272 + 1 * a.val = J.val; rw [e0]; omega
    | ⟨1, _⟩ => show win0_2.index t 1 * 1024 + 1 * b.val = b.val; rw [e1]; omega

theorem block_3 (t : Fin cfg0.N) (a : Fin 272) (b : Fin 1024) (J : Fin 2176) (hJ : J.val = 272 * (t.val / 2) + a.val) :
    (X0_3 m c t : Vec Ideal S272x1024 .f32) (ix2 a b) = prOf m c (ix2 J (gateHi b)) := by
  obtain ⟨e0, e1⟩ := index_3 t
  unfold X0_3 Pipeline.Window.fill
  rw [dif_pos (moved0_3 t (ix2 a b))]
  unfold iblk
  rw [View.read_apply]
  refine congrArg (prOf m c) (funext fun x => Fin.ext ?_)
  match x with
    | ⟨0, _⟩ => show win0_3.index t 0 * 272 + 1 * a.val = J.val; rw [e0]; omega
    | ⟨1, _⟩ => show win0_3.index t 1 * 1024 + 1 * b.val = 1024 + b.val; rw [e1]; omega

theorem block_4 (t : Fin cfg0.N) (a : Fin 272) (b : Fin 1024) (J : Fin 2176) (hJ : J.val = 272 * (t.val / 2) + a.val) :
    (iblk m c 4 t : Vec Ideal S272x1024 .f32) (ix2 a b) = dhOf m c (ix2 J b) := by
  obtain ⟨e0, e1⟩ := index_4 t
  unfold iblk
  rw [View.read_apply]
  refine congrArg (dhOf m c) (funext fun x => Fin.ext ?_)
  match x with
    | ⟨0, _⟩ => show win0_4.index t 0 * 272 + 1 * a.val = J.val; rw [e0]; omega
    | ⟨1, _⟩ => show win0_4.index t 1 * 1024 + 1 * b.val = b.val; rw [e1]; omega

theorem block_6 (t : Fin cfg0.N) (a : Fin 1) (b : Fin 1024) :
    (iblk m c 6 t : Vec Ideal S1x1024 .f32) (ix2 a b) = waOf m c (ix2 a b) := by
  obtain ⟨e0, e1⟩ := index_6 t
  unfold iblk
  rw [View.read_apply]
  refine congrArg (waOf m c) (funext fun x => Fin.ext ?_)
  match x with
    | ⟨0, _⟩ => show win0_6.index t 0 * 1 + 1 * a.val = a.val; rw [e0]; omega
    | ⟨1, _⟩ => show win0_6.index t 1 * 1024 + 1 * b.val = b.val; rw [e1]; omega

theorem block_7 (t : Fin cfg0.N) (a : Fin 1) (b : Fin 1024) :
    (iblk m c 7 t : Vec Ideal S1x1024 .f32) (ix2 a b) = wbOf m c (ix2 a b) := by
  obtain ⟨e0, e1⟩ := index_7 t
  unfold iblk
  rw [View.read_apply]
  refine congrArg (wbOf m c) (funext fun x => Fin.ext ?_)
  match x with
    | ⟨0, _⟩ => show win0_7.index t 0 * 1 + 1 * a.val = a.val; rw [e0]; omega
    | ⟨1, _⟩ => show win0_7.index t 1 * 1024 + 1 * b.val = b.val; rw [e1]; omega

theorem block_5 (t : Fin cfg0.N) (a : Fin 2048) (b : Fin 1024) :
    (iblk m c 5 t : Vec Ideal S2048x1024 .bf16) (ix2 a b) = woOf m c (ix2 a b) := by
  obtain ⟨e0, e1⟩ := index_5 t
  unfold iblk
  rw [View.read_apply]
  refine congrArg (woOf m c) (funext fun x => Fin.ext ?_)
  match x with
    | ⟨0, _⟩ => show win0_5.index t 0 * 2048 + 1 * a.val = a.val; rw [e0]; omega
    | ⟨1, _⟩ => show win0_5.index t 1 * 1024 + 1 * b.val = b.val; rw [e1]; omega

/-! ## The two halves of the projection's gradient -/

theorem top_apply {e : EltTy} (x : Vec Ideal S2048x1024 e) (j b : Fin 1024) : top x (ix2 j b) = x (ix2 (lo j) b) := by
  unfold top VecWindow.window
  refine congrArg x (funext fun a => Fin.ext ?_)
  match a with
    | ⟨0, _⟩ => show 0 + 1 * j.val = j.val; omega
    | ⟨1, _⟩ => show 0 + 1 * b.val = b.val; omega
theorem bot_apply {e : EltTy} (x : Vec Ideal S2048x1024 e) (j b : Fin 1024) : bot x (ix2 j b) = x (ix2 (hi j) b) := by
  unfold bot VecWindow.window
  refine congrArg x (funext fun a => Fin.ext ?_)
  match a with
    | ⟨0, _⟩ => show 1024 + 1 * j.val = 1024 + j.val; omega
    | ⟨1, _⟩ => show 0 + 1 * b.val = b.val; omega

theorem top_putTop {e : EltTy} (x : Vec Ideal S2048x1024 e) (w : Vec Ideal S1024x1024 e) : top (putTop x w) = w := VecWindow.window_put_same _ _ _ _ _
theorem bot_putBot {e : EltTy} (x : Vec Ideal S2048x1024 e) (w : Vec Ideal S1024x1024 e) : bot (putBot x w) = w := VecWindow.window_put_same _ _ _ _ _
theorem top_putBot {e : EltTy} (x : Vec Ideal S2048x1024 e) (w : Vec Ideal S1024x1024 e) : top (putBot x w) = top x :=
  VecWindow.window_put_of_disjoint _ _ _ _ _ _ _ 0 (.inl (by decide))
theorem bot_putTop {e : EltTy} (x : Vec Ideal S2048x1024 e) (w : Vec Ideal S1024x1024 e) : bot (putTop x w) = bot x :=
  VecWindow.window_put_of_disjoint _ _ _ _ _ _ _ 0 (.inr (by decide))

/-! ## The first branch's rows -/

theorem hid1 (t : Fin cfg0.N) (a : Fin 272) (R : Fin 2176) (hR : R.val = 272 * (t.val / 2) + a.val) :
    hid (iblk m c 0 t) (X0_1 m c t) a = hidden (oaOf m c) (prOf m c) gateLo R := by
  funext k
  exact congrArg₂ (fun x y : EReal => x * silu y) (block_0 m c t a k R hR) (block_1 m c t a k R hR)

theorem pulled1 (t : Fin cfg0.N) (a : Fin 272) (R : Fin 2176) (hR : R.val = 272 * (t.val / 2) + a.val) (j : Fin 1024) :
    pulled (iblk m c 4 t) (top (iblk m c 5 t)) a j = pull (dhOf m c) (woOf m c) R (lo j) := by
  refine Finset.sum_congr rfl fun k _ => ?_
  exact congrArg₂ (fun x y : EReal => x * y) (block_4 m c t a k R hR) ((top_apply _ j k).trans (block_5 m c t (lo j) k))

theorem out1 (t : Fin cfg0.N) (a : Fin 272) (j : Fin 1024) (R : Fin 2176) (hR : R.val = 272 * (t.val / 2) + a.val) :
    (outE m c t : Vec Ideal S272x1024 .f32) (ix2 a j)
      = Cert.TailReferenceIdeal.Read.val_main_v95 (F := Ideal) (oaOf m c) (prOf m c) (dhOf m c) (woOf m c) (waOf m c) (ix2 R j) := by
  unfold outE
  rw [pay18_apply, ref_element1, hid1 m c t a R hR]
  simp only [pulled1 m c t a R hR, block_6 m c t, block_1 m c t a j R hR]

/-- One row's part of the norm weight's gradient, and of the projection's, and nothing past the last row. -/
def share1 (j : Fin 1024) (r : ℕ) : EReal :=
  if h : r < 2176 then normed (hidden (oaOf m c) (prOf m c) gateLo ⟨r, h⟩) j * pull (dhOf m c) (woOf m c) ⟨r, h⟩ (lo j) else 0
def part1 (j b : Fin 1024) (r : ℕ) : EReal :=
  if h : r < 2176 then dhOf m c (ix2 ⟨r, h⟩ b) * (normed (hidden (oaOf m c) (prOf m c) gateLo ⟨r, h⟩) j * waOf m c (ix2 0 j)) else 0

theorem fold1 (t : Fin cfg0.N) (j : Fin 1024) :
    fold (iblk m c 0 t) (X0_1 m c t) (iblk m c 4 t) (top (iblk m c 5 t)) j = ∑ x ∈ Finset.range 272, share1 m c j (272 * (t.val / 2) + x) := by
  have hN := lt_N t
  rw [Finset.sum_range]
  refine Finset.sum_congr rfl fun x _ => ?_
  have hx := x.isLt
  have hb : 272 * (t.val / 2) + x.val < 2176 := by omega
  unfold share1
  rw [dif_pos hb, hid1 m c t x ⟨_, hb⟩ rfl, pulled1 m c t x ⟨_, hb⟩ rfl j]

theorem cross1 (t : Fin cfg0.N) (j b : Fin 1024) :
    cross (iblk m c 4 t) (normE m c t) (iblk m c 6 t) j b = ∑ x ∈ Finset.range 272, part1 m c j b (272 * (t.val / 2) + x) := by
  have hN := lt_N t
  rw [Finset.sum_range]
  refine Finset.sum_congr rfl fun x _ => ?_
  have hx := x.isLt
  have hb : 272 * (t.val / 2) + x.val < 2176 := by omega
  unfold part1 normE
  rw [dif_pos hb, pay15_apply, hid1 m c t x ⟨_, hb⟩ rfl]
  exact congrArg₂ (fun p q : EReal => p * (normed (hidden (oaOf m c) (prOf m c) gateLo ⟨_, hb⟩) j * q)) (block_4 m c t x b ⟨_, hb⟩ rfl) (block_6 m c t 0 j)

theorem share1_all (j : Fin 1024) :
    ∑ r ∈ Finset.range 2176, share1 m c j r = ∑ r : Fin 2176, normed (hidden (oaOf m c) (prOf m c) gateLo r) j * pull (dhOf m c) (woOf m c) r (lo j) := by
  rw [Finset.sum_range]
  refine Finset.sum_congr rfl fun r _ => ?_
  unfold share1
  rw [dif_pos r.isLt]
theorem part1_all (j b : Fin 1024) :
    ∑ r ∈ Finset.range 2176, part1 m c j b r = ∑ r : Fin 2176, dhOf m c (ix2 r b) * (normed (hidden (oaOf m c) (prOf m c) gateLo r) j * waOf m c (ix2 0 j)) := by
  rw [Finset.sum_range]
  refine Finset.sum_congr rfl fun r _ => ?_
  unfold part1
  rw [dif_pos r.isLt]

/-! ## The second branch's rows -/

theorem hid2 (t : Fin cfg0.N) (a : Fin 272) (R : Fin 2176) (hR : R.val = 272 * (t.val / 2) + a.val) :
    hid (iblk m c 2 t) (X0_3 m c t) a = hidden (obOf m c) (prOf m c) gateHi R := by
  funext k
  exact congrArg₂ (fun x y : EReal => x * silu y) (block_2 m c t a k R hR) (block_3 m c t a k R hR)

theorem pulled2 (t : Fin cfg0.N) (a : Fin 272) (R : Fin 2176) (hR : R.val = 272 * (t.val / 2) + a.val) (j : Fin 1024) :
    pulled (iblk m c 4 t) (bot (iblk m c 5 t)) a j = pull (dhOf m c) (woOf m c) R (hi j) := by
  refine Finset.sum_congr rfl fun k _ => ?_
  exact congrArg₂ (fun x y : EReal => x * y) (block_4 m c t a k R hR) ((bot_apply _ j k).trans (block_5 m c t (hi j) k))

theorem out2 (t : Fin cfg0.N) (a : Fin 272) (j : Fin 1024) (R : Fin 2176) (hR : R.val = 272 * (t.val / 2) + a.val) :
    (outO m c t : Vec Ideal S272x1024 .f32) (ix2 a j)
      = Cert.TailReferenceIdeal.Read.val_main_v75 (F := Ideal) (obOf m c) (prOf m c) (dhOf m c) (woOf m c) (wbOf m c) (ix2 R j) := by
  unfold outO
  rw [pay27_apply, ref_element2, hid2 m c t a R hR]
  simp only [pulled2 m c t a R hR, block_7 m c t, block_3 m c t a j R hR]

/-- One row's part of the norm weight's gradient, and of the projection's, and nothing past the last row. -/
def share2 (j : Fin 1024) (r : ℕ) : EReal :=
  if h : r < 2176 then normed (hidden (obOf m c) (prOf m c) gateHi ⟨r, h⟩) j * pull (dhOf m c) (woOf m c) ⟨r, h⟩ (hi j) else 0
def part2 (j b : Fin 1024) (r : ℕ) : EReal :=
  if h : r < 2176 then dhOf m c (ix2 ⟨r, h⟩ b) * (normed (hidden (obOf m c) (prOf m c) gateHi ⟨r, h⟩) j * wbOf m c (ix2 0 j)) else 0

theorem fold2 (t : Fin cfg0.N) (j : Fin 1024) :
    fold (iblk m c 2 t) (X0_3 m c t) (iblk m c 4 t) (bot (iblk m c 5 t)) j = ∑ x ∈ Finset.range 272, share2 m c j (272 * (t.val / 2) + x) := by
  have hN := lt_N t
  rw [Finset.sum_range]
  refine Finset.sum_congr rfl fun x _ => ?_
  have hx := x.isLt
  have hb : 272 * (t.val / 2) + x.val < 2176 := by omega
  unfold share2
  rw [dif_pos hb, hid2 m c t x ⟨_, hb⟩ rfl, pulled2 m c t x ⟨_, hb⟩ rfl j]

theorem cross2 (t : Fin cfg0.N) (j b : Fin 1024) :
    cross (iblk m c 4 t) (normO m c t) (iblk m c 7 t) j b = ∑ x ∈ Finset.range 272, part2 m c j b (272 * (t.val / 2) + x) := by
  have hN := lt_N t
  rw [Finset.sum_range]
  refine Finset.sum_congr rfl fun x _ => ?_
  have hx := x.isLt
  have hb : 272 * (t.val / 2) + x.val < 2176 := by omega
  unfold part2 normO
  rw [dif_pos hb, pay24_apply, hid2 m c t x ⟨_, hb⟩ rfl]
  exact congrArg₂ (fun p q : EReal => p * (normed (hidden (obOf m c) (prOf m c) gateHi ⟨_, hb⟩) j * q)) (block_4 m c t x b ⟨_, hb⟩ rfl) (block_7 m c t 0 j)

theorem share2_all (j : Fin 1024) :
    ∑ r ∈ Finset.range 2176, share2 m c j r = ∑ r : Fin 2176, normed (hidden (obOf m c) (prOf m c) gateHi r) j * pull (dhOf m c) (woOf m c) r (hi j) := by
  rw [Finset.sum_range]
  refine Finset.sum_congr rfl fun r _ => ?_
  unfold share2
  rw [dif_pos r.isLt]
theorem part2_all (j b : Fin 1024) :
    ∑ r ∈ Finset.range 2176, part2 m c j b r = ∑ r : Fin 2176, dhOf m c (ix2 r b) * (normed (hidden (obOf m c) (prOf m c) gateHi r) j * wbOf m c (ix2 0 j)) := by
  rw [Finset.sum_range]
  refine Finset.sum_congr rfl fun r _ => ?_
  unfold part2
  rw [dif_pos r.isLt]

/-! ## The sums over the points -/

theorem sumE_at (z : Fin 1) (j : Fin 1024) : ∀ (n : ℕ) (hn : n < cfg0.N),
    (sumE m c n hn : Vec Ideal S1x1024 .f32) (ix2 z j) = ∑ r ∈ Finset.range (272 * (n / 2 + 1)), share1 m c j r
  | 0, hn => by
    unfold sumE colE
    rw [pay6_apply, pay2_apply, pay16_apply, fold1 m c ⟨0, hn⟩ j, zero_add]
    refine Finset.sum_congr rfl fun x _ => congrArg (share1 m c j) ?_
    show 272 * (0 / 2) + x = x
    omega
  | n + 1, hn => by
    unfold sumE colE
    by_cases h : (n + 1) % 2 = 0
    · rw [if_pos h, pay6_apply, sumE_at z j n (Nat.lt_of_succ_lt hn), pay16_apply, fold1 m c ⟨n + 1, hn⟩ j,
        show 272 * ((n + 1) / 2 + 1) = 272 * (n / 2 + 1) + 272 by omega, Finset.sum_range_add]
      show _ + (∑ x ∈ Finset.range 272, share1 m c j (272 * ((n + 1) / 2) + x)) = _
      rw [show (n + 1) / 2 = n / 2 + 1 by omega]
    · rw [if_neg h, sumE_at z j n (Nat.lt_of_succ_lt hn), show (n + 1) / 2 = n / 2 by omega]

theorem sumO_at (z : Fin 1) (j : Fin 1024) : ∀ (n : ℕ) (hn : n < cfg0.N),
    (sumO m c n hn : Vec Ideal S1x1024 .f32) (ix2 z j) = ∑ r ∈ Finset.range (272 * ((n + 1) / 2)), share2 m c j r
  | 0, hn => by
    unfold sumO
    rw [pay3_apply]
    rfl
  | n + 1, hn => by
    unfold sumO colO
    by_cases h : (n + 1) % 2 = 0
    · rw [if_pos h, sumO_at z j n (Nat.lt_of_succ_lt hn), show (n + 1 + 1) / 2 = (n + 1) / 2 by omega]
    · rw [if_neg h, pay9_apply, sumO_at z j n (Nat.lt_of_succ_lt hn), pay25_apply, fold2 m c ⟨n + 1, hn⟩ j,
        show 272 * ((n + 1 + 1) / 2) = 272 * ((n + 1) / 2) + 272 by omega, Finset.sum_range_add]

theorem stepE_top (t : Fin cfg0.N) (x : Vec Ideal S2048x1024 .f32) (j b : Fin 1024) :
    (stepE m c t x : Vec Ideal S2048x1024 .f32) (ix2 (lo j) b) = x (ix2 (lo j) b) + ∑ r ∈ Finset.range 272, part1 m c j b (272 * (t.val / 2) + r) := by
  rw [← top_apply (stepE m c t x), ← top_apply x]
  unfold stepE
  rw [top_putTop, pay7_apply, cross1]
theorem stepE_bot (t : Fin cfg0.N) (x : Vec Ideal S2048x1024 .f32) (j b : Fin 1024) :
    (stepE m c t x : Vec Ideal S2048x1024 .f32) (ix2 (hi j) b) = x (ix2 (hi j) b) := by
  rw [← bot_apply (stepE m c t x), ← bot_apply x]
  unfold stepE
  rw [bot_putTop]
theorem stepO_bot (t : Fin cfg0.N) (x : Vec Ideal S2048x1024 .f32) (j b : Fin 1024) :
    (stepO m c t x : Vec Ideal S2048x1024 .f32) (ix2 (hi j) b) = x (ix2 (hi j) b) + ∑ r ∈ Finset.range 272, part2 m c j b (272 * (t.val / 2) + r) := by
  rw [← bot_apply (stepO m c t x), ← bot_apply x]
  unfold stepO
  rw [bot_putBot, pay10_apply, cross2]
theorem stepO_top (t : Fin cfg0.N) (x : Vec Ideal S2048x1024 .f32) (j b : Fin 1024) :
    (stepO m c t x : Vec Ideal S2048x1024 .f32) (ix2 (lo j) b) = x (ix2 (lo j) b) := by
  rw [← top_apply (stepO m c t x), ← top_apply x]
  unfold stepO
  rw [top_putBot]

theorem accW_top (j b : Fin 1024) : ∀ (n : ℕ) (hn : n < cfg0.N),
    (accW m c n hn : Vec Ideal S2048x1024 .f32) (ix2 (lo j) b) = ∑ r ∈ Finset.range (272 * (n / 2 + 1)), part1 m c j b r
  | 0, hn => by
    unfold accW
    rw [stepE_top, pay1_apply, zero_add]
    refine Finset.sum_congr rfl fun x _ => congrArg (part1 m c j b) ?_
    show 272 * (0 / 2) + x = x
    omega
  | n + 1, hn => by
    unfold accW
    by_cases h : (n + 1) % 2 = 0
    · rw [if_pos h, stepE_top, accW_top j b n (Nat.lt_of_succ_lt hn),
        show 272 * ((n + 1) / 2 + 1) = 272 * (n / 2 + 1) + 272 by omega, Finset.sum_range_add]
      show _ + (∑ x ∈ Finset.range 272, part1 m c j b (272 * ((n + 1) / 2) + x)) = _
      rw [show (n + 1) / 2 = n / 2 + 1 by omega]
    · rw [if_neg h, stepO_top, accW_top j b n (Nat.lt_of_succ_lt hn), show (n + 1) / 2 = n / 2 by omega]

theorem accW_bot (j b : Fin 1024) : ∀ (n : ℕ) (hn : n < cfg0.N),
    (accW m c n hn : Vec Ideal S2048x1024 .f32) (ix2 (hi j) b) = ∑ r ∈ Finset.range (272 * ((n + 1) / 2)), part2 m c j b r
  | 0, hn => by
    unfold accW
    rw [stepE_bot, pay1_apply]
    rfl
  | n + 1, hn => by
    unfold accW
    by_cases h : (n + 1) % 2 = 0
    · rw [if_pos h, stepE_bot, accW_bot j b n (Nat.lt_of_succ_lt hn), show (n + 1 + 1) / 2 = (n + 1) / 2 by omega]
    · rw [if_neg h, stepO_bot, accW_bot j b n (Nat.lt_of_succ_lt hn),
        show 272 * ((n + 1 + 1) / 2) = 272 * ((n + 1) / 2) + 272 by omega, Finset.sum_range_add]

/-! ## The arrays -/

/-- The reference's five results. -/
abbrev res95 : Vec Ideal S2176x1024 .f32 := Cert.TailReferenceIdeal.Read.val_main_v95 (F := Ideal) (oaOf m c) (prOf m c) (dhOf m c) (woOf m c) (waOf m c)
abbrev res75 : Vec Ideal S2176x1024 .f32 := Cert.TailReferenceIdeal.Read.val_main_v75 (F := Ideal) (obOf m c) (prOf m c) (dhOf m c) (woOf m c) (wbOf m c)
abbrev res52 : Vec Ideal S2048x1024 .f32 := Cert.TailReferenceIdeal.Read.val_main_v52 (F := Ideal) (oaOf m c) (obOf m c) (prOf m c) (dhOf m c) (waOf m c) (wbOf m c)
abbrev res78 : Vec Ideal S1x1024 .f32 := Cert.TailReferenceIdeal.Read.val_main_v78 (F := Ideal) (oaOf m c) (prOf m c) (dhOf m c) (woOf m c)
abbrev res58 : Vec Ideal S1x1024 .f32 := Cert.TailReferenceIdeal.Read.val_main_v58 (F := Ideal) (obOf m c) (prOf m c) (dhOf m c) (woOf m c)

theorem read_8 (t : Fin cfg0.N) (hf : (cfg0.win 8).flush t = true) :
    (dats m 0 c).flushed 8 t = ((cfg0.win 8).blk t).view.read (Elt Ideal)
      (res95 m c) := by
  have hN := lt_N t
  have ht := (flush0_8 t).mp hf
  show (cfg0.win 8).cut (grid0.coords t) ((dats m 0 c).after 8 t) = _
  rw [after8]
  funext j
  rw [View.read_apply]
  obtain ⟨e0, e1⟩ := index_8 t
  have b0 : (j 0).val < 272 := (j 0).isLt
  have b1 : (j 1).val < 1024 := (j 1).isLt
  have hR : 272 * (t.val / 2) + (j 0).val < 2176 := by omega
  have hp : (pointE t : Fin cfg0.N).val / 2 = t.val / 2 := by show (t.val - t.val % 2) / 2 = t.val / 2; omega
  refine Eq.trans (b := res95 m c
    (ix2 ⟨272 * (t.val / 2) + (j 0).val, hR⟩ ⟨(j 1).val, b1⟩)) ?_ ?_
  · refine Eq.trans (congrArg (outE m c (pointE t)) (?_ : _ = ix2 ⟨(j 0).val, b0⟩ ⟨(j 1).val, b1⟩)) ?_
    · funext a; match a with
        | ⟨0, _⟩ => rfl
        | ⟨1, _⟩ => rfl
    exact out1 m c _ _ _ _ (by rw [hp])
  · refine congrArg (res95 m c) (Eq.symm (idx2 _ _ _ ?_ ?_))
    · show win0_8.index t 0 * 272 + 1 * (j 0).val = 272 * (t.val / 2) + (j 0).val; rw [e0]; omega
    · show win0_8.index t 1 * 1024 + 1 * (j 1).val = (j 1).val; rw [e1]; omega

theorem arr_8 : (dats m 0 c).arrAt 8 cfg0.N = res95 m c :=
  (dats m 0 c).arrAt_eq_of_cover 8 _ (read_8 m c) fun i => by
    have hN : cfg0.N = 16 := N_0
    have b0 : (i 0).val < 2176 := (i 0).isLt
    have b1 : (i 1).val < 1024 := (i 1).isLt
    obtain ⟨t, ht⟩ : ∃ t : Fin cfg0.N, t.val = 2 * ((i 0).val / 272) + 1 := ⟨⟨_, by omega⟩, rfl⟩
    obtain ⟨e0, e1⟩ := index_8 t
    refine ⟨t, (flush0_8 t).mpr (by omega), ?_⟩
    show i ∈ ((View.whole main_v0_0).slice (win0_8.rect t)).set
    rw [View.set_slice_whole, Rect.mem_set_unit]
    intro x
    match x with
      | ⟨0, _⟩ =>
        show win0_8.index t 0 * 272 ≤ (i 0).val ∧ (i 0).val < win0_8.index t 0 * 272 + 272
        rw [e0]; omega
      | ⟨1, _⟩ =>
        show win0_8.index t 1 * 1024 ≤ (i 1).val ∧ (i 1).val < win0_8.index t 1 * 1024 + 1024
        rw [e1]; omega

theorem read_9 (t : Fin cfg0.N) (hf : (cfg0.win 9).flush t = true) :
    (dats m 0 c).flushed 9 t = ((cfg0.win 9).blk t).view.read (Elt Ideal)
      (res75 m c) := by
  have hN := lt_N t
  have ht := (flush0_9 t).mp hf
  show (cfg0.win 9).cut (grid0.coords t) ((dats m 0 c).after 9 t) = _
  rw [after9]
  funext j
  rw [View.read_apply]
  obtain ⟨e0, e1⟩ := index_9 t
  have b0 : (j 0).val < 272 := (j 0).isLt
  have b1 : (j 1).val < 1024 := (j 1).isLt
  have hR : 272 * (t.val / 2) + (j 0).val < 2176 := by omega
  have hp : (t : Fin cfg0.N).val / 2 = t.val / 2 := by rfl
  refine Eq.trans (b := res75 m c
    (ix2 ⟨272 * (t.val / 2) + (j 0).val, hR⟩ ⟨(j 1).val, b1⟩)) ?_ ?_
  · refine Eq.trans (congrArg (outO m c (t)) (?_ : _ = ix2 ⟨(j 0).val, b0⟩ ⟨(j 1).val, b1⟩)) ?_
    · funext a; match a with
        | ⟨0, _⟩ => rfl
        | ⟨1, _⟩ => rfl
    exact out2 m c _ _ _ _ rfl
  · refine congrArg (res75 m c) (Eq.symm (idx2 _ _ _ ?_ ?_))
    · show win0_9.index t 0 * 272 + 1 * (j 0).val = 272 * (t.val / 2) + (j 0).val; rw [e0]; omega
    · show win0_9.index t 1 * 1024 + 1 * (j 1).val = (j 1).val; rw [e1]; omega

theorem arr_9 : (dats m 0 c).arrAt 9 cfg0.N = res75 m c :=
  (dats m 0 c).arrAt_eq_of_cover 9 _ (read_9 m c) fun i => by
    have hN : cfg0.N = 16 := N_0
    have b0 : (i 0).val < 2176 := (i 0).isLt
    have b1 : (i 1).val < 1024 := (i 1).isLt
    obtain ⟨t, ht⟩ : ∃ t : Fin cfg0.N, t.val = 2 * ((i 0).val / 272) + 1 := ⟨⟨_, by omega⟩, rfl⟩
    obtain ⟨e0, e1⟩ := index_9 t
    refine ⟨t, (flush0_9 t).mpr (by omega), ?_⟩
    show i ∈ ((View.whole main_v0_1).slice (win0_9.rect t)).set
    rw [View.set_slice_whole, Rect.mem_set_unit]
    intro x
    match x with
      | ⟨0, _⟩ =>
        show win0_9.index t 0 * 272 ≤ (i 0).val ∧ (i 0).val < win0_9.index t 0 * 272 + 272
        rw [e0]; omega
      | ⟨1, _⟩ =>
        show win0_9.index t 1 * 1024 ≤ (i 1).val ∧ (i 1).val < win0_9.index t 1 * 1024 + 1024
        rw [e1]; omega

theorem read_11 (t : Fin cfg0.N) (hf : (cfg0.win 11).flush t = true) :
    (dats m 0 c).flushed 11 t = ((cfg0.win 11).blk t).view.read (Elt Ideal)
      (res52 m c) := by
  have hN := lt_N t
  have ht : t.val = 15 := by have := (flush0_11 t).mp hf; omega
  show (cfg0.win 11).cut (grid0.coords t) ((dats m 0 c).after 11 t) = _
  rw [after11]
  funext j
  rw [View.read_apply]
  obtain ⟨e0, e1⟩ := index_11 t
  have b0 : (j 0).val < 2048 := (j 0).isLt
  have b1 : (j 1).val < 1024 := (j 1).isLt
  by_cases hl : (j 0).val < 1024
  · refine Eq.trans (b := (∑ r ∈ Finset.range 2176, part1 m c ⟨(j 0).val, hl⟩ ⟨(j 1).val, b1⟩ r : EReal)) ?_ ?_
    · refine Eq.trans (congrArg (accW m c t.val t.isLt) (?_ : _ = ix2 (lo ⟨(j 0).val, hl⟩) ⟨(j 1).val, b1⟩)) ?_
      · funext a; match a with
          | ⟨0, _⟩ => rfl
          | ⟨1, _⟩ => rfl
      rw [accW_top, ht]
    · refine Eq.symm (Eq.trans (congrArg (res52 m c) (idx2 _ (lo ⟨(j 0).val, hl⟩) ⟨(j 1).val, b1⟩ ?_ ?_)) ?_)
      · show win0_11.index t 0 * 2048 + 1 * (j 0).val = (j 0).val; rw [e0]; omega
      · show win0_11.index t 1 * 1024 + 1 * (j 1).val = (j 1).val; rw [e1]; omega
      · exact (ref_cross1 _ _ _ _ _ _ _ _).trans (part1_all m c _ _).symm
  · have hh : (j 0).val - 1024 < 1024 := by omega
    refine Eq.trans (b := (∑ r ∈ Finset.range 2176, part2 m c ⟨(j 0).val - 1024, hh⟩ ⟨(j 1).val, b1⟩ r : EReal)) ?_ ?_
    · refine Eq.trans (congrArg (accW m c t.val t.isLt) (?_ : _ = ix2 (hi ⟨(j 0).val - 1024, hh⟩) ⟨(j 1).val, b1⟩)) ?_
      · funext a; match a with
          | ⟨0, _⟩ => exact Fin.ext (show (j 0).val = 1024 + ((j 0).val - 1024) by omega)
          | ⟨1, _⟩ => rfl
      rw [accW_bot, ht]
    · refine Eq.symm (Eq.trans (congrArg (res52 m c) (idx2 _ (hi ⟨(j 0).val - 1024, hh⟩) ⟨(j 1).val, b1⟩ ?_ ?_)) ?_)
      · show win0_11.index t 0 * 2048 + 1 * (j 0).val = 1024 + ((j 0).val - 1024); rw [e0]; omega
      · show win0_11.index t 1 * 1024 + 1 * (j 1).val = (j 1).val; rw [e1]; omega
      · exact (ref_cross2 _ _ _ _ _ _ _ _).trans (part2_all m c _ _).symm

theorem arr_11 : (dats m 0 c).arrAt 11 cfg0.N = res52 m c :=
  (dats m 0 c).arrAt_eq_of_cover 11 _ (read_11 m c) fun i => by
    have hN : cfg0.N = 16 := N_0
    have b0 : (i 0).val < 2048 := (i 0).isLt
    have b1 : (i 1).val < 1024 := (i 1).isLt
    obtain ⟨t, ht⟩ : ∃ t : Fin cfg0.N, t.val = 15 := ⟨⟨_, by omega⟩, rfl⟩
    obtain ⟨e0, e1⟩ := index_11 t
    refine ⟨t, (flush0_11 t).mpr (by omega), ?_⟩
    show i ∈ ((View.whole main_v0_3).slice (win0_11.rect t)).set
    rw [View.set_slice_whole, Rect.mem_set_unit]
    intro x
    match x with
      | ⟨0, _⟩ =>
        show win0_11.index t 0 * 2048 ≤ (i 0).val ∧ (i 0).val < win0_11.index t 0 * 2048 + 2048
        rw [e0]; omega
      | ⟨1, _⟩ =>
        show win0_11.index t 1 * 1024 ≤ (i 1).val ∧ (i 1).val < win0_11.index t 1 * 1024 + 1024
        rw [e1]; omega

theorem read_12 (t : Fin cfg0.N) (hf : (cfg0.win 12).flush t = true) :
    (dats m 0 c).flushed 12 t = ((cfg0.win 12).blk t).view.read (Elt Ideal)
      (res78 m c) := by
  have hN := lt_N t
  have ht : t.val = 15 := by have := (flush0_12 t).mp hf; omega
  show (cfg0.win 12).cut (grid0.coords t) ((dats m 0 c).after 12 t) = _
  rw [after12]
  funext j
  rw [View.read_apply]
  obtain ⟨e0, e1⟩ := index_12 t
  have b0 : (j 0).val < 1 := (j 0).isLt
  have b1 : (j 1).val < 1024 := (j 1).isLt
  refine Eq.trans (b := (∑ r ∈ Finset.range 2176, share1 m c ⟨(j 1).val, b1⟩ r : EReal)) ?_ ?_
  · refine Eq.trans (congrArg (sumE m c t.val t.isLt) (?_ : _ = ix2 ⟨(j 0).val, b0⟩ ⟨(j 1).val, b1⟩)) ?_
    · funext a; match a with
        | ⟨0, _⟩ => rfl
        | ⟨1, _⟩ => rfl
    rw [sumE_at, ht]
  · refine Eq.symm ?_
    refine Eq.trans (ref_weight1 _ _ _ _ ⟨(j 1).val, b1⟩ _ ?_) (share1_all m c _).symm
    show win0_12.index t 1 * 1024 + 1 * (j 1).val = (j 1).val; rw [e1]; omega

theorem arr_12 : (dats m 0 c).arrAt 12 cfg0.N = res78 m c :=
  (dats m 0 c).arrAt_eq_of_cover 12 _ (read_12 m c) fun i => by
    have hN : cfg0.N = 16 := N_0
    have b0 : (i 0).val < 1 := (i 0).isLt
    have b1 : (i 1).val < 1024 := (i 1).isLt
    obtain ⟨t, ht⟩ : ∃ t : Fin cfg0.N, t.val = 15 := ⟨⟨_, by omega⟩, rfl⟩
    obtain ⟨e0, e1⟩ := index_12 t
    refine ⟨t, (flush0_12 t).mpr (by omega), ?_⟩
    show i ∈ ((View.whole main_v0_4).slice (win0_12.rect t)).set
    rw [View.set_slice_whole, Rect.mem_set_unit]
    intro x
    match x with
      | ⟨0, _⟩ =>
        show win0_12.index t 0 * 1 ≤ (i 0).val ∧ (i 0).val < win0_12.index t 0 * 1 + 1
        rw [e0]; omega
      | ⟨1, _⟩ =>
        show win0_12.index t 1 * 1024 ≤ (i 1).val ∧ (i 1).val < win0_12.index t 1 * 1024 + 1024
        rw [e1]; omega

theorem read_13 (t : Fin cfg0.N) (hf : (cfg0.win 13).flush t = true) :
    (dats m 0 c).flushed 13 t = ((cfg0.win 13).blk t).view.read (Elt Ideal)
      (res58 m c) := by
  have hN := lt_N t
  have ht : t.val = 15 := by have := (flush0_13 t).mp hf; omega
  show (cfg0.win 13).cut (grid0.coords t) ((dats m 0 c).after 13 t) = _
  rw [after13]
  funext j
  rw [View.read_apply]
  obtain ⟨e0, e1⟩ := index_13 t
  have b0 : (j 0).val < 1 := (j 0).isLt
  have b1 : (j 1).val < 1024 := (j 1).isLt
  refine Eq.trans (b := (∑ r ∈ Finset.range 2176, share2 m c ⟨(j 1).val, b1⟩ r : EReal)) ?_ ?_
  · refine Eq.trans (congrArg (sumO m c t.val t.isLt) (?_ : _ = ix2 ⟨(j 0).val, b0⟩ ⟨(j 1).val, b1⟩)) ?_
    · funext a; match a with
        | ⟨0, _⟩ => rfl
        | ⟨1, _⟩ => rfl
    rw [sumO_at, ht]
  · refine Eq.symm ?_
    refine Eq.trans (ref_weight2 _ _ _ _ ⟨(j 1).val, b1⟩ _ ?_) (share2_all m c _).symm
    show win0_13.index t 1 * 1024 + 1 * (j 1).val = (j 1).val; rw [e1]; omega

theorem arr_13 : (dats m 0 c).arrAt 13 cfg0.N = res58 m c :=
  (dats m 0 c).arrAt_eq_of_cover 13 _ (read_13 m c) fun i => by
    have hN : cfg0.N = 16 := N_0
    have b0 : (i 0).val < 1 := (i 0).isLt
    have b1 : (i 1).val < 1024 := (i 1).isLt
    obtain ⟨t, ht⟩ : ∃ t : Fin cfg0.N, t.val = 15 := ⟨⟨_, by omega⟩, rfl⟩
    obtain ⟨e0, e1⟩ := index_13 t
    refine ⟨t, (flush0_13 t).mpr (by omega), ?_⟩
    show i ∈ ((View.whole main_v0_5).slice (win0_13.rect t)).set
    rw [View.set_slice_whole, Rect.mem_set_unit]
    intro x
    match x with
      | ⟨0, _⟩ =>
        show win0_13.index t 0 * 1 ≤ (i 0).val ∧ (i 0).val < win0_13.index t 0 * 1 + 1
        rw [e0]; omega
      | ⟨1, _⟩ =>
        show win0_13.index t 1 * 1024 ≤ (i 1).val ∧ (i 1).val < win0_13.index t 1 * 1024 + 1024
        rw [e1]; omega

/-! ## The claims -/

theorem frame_ideal : Cert.quiescent_TailIdeal := fun m ρ _ => framed m ρ

/-- The kernel bodies of the two printed programs are the same table. -/
theorem bodies_eq : @Cert.Tail.defs₀ Bits _ _ = @Cert.TailIdeal.defs₀ Bits _ _ := by
  unfold Cert.Tail.defs₀ Cert.TailIdeal.defs₀
  refine congrArg Defs.onTc (funext fun l => funext fun x => ?_)
  match l, x with
    | 0, (_, _) => rfl

theorem defs_eq : @Cert.Tail.defs Bits _ _ = @Cert.TailIdeal.defs Bits _ _ := by
  unfold Cert.Tail.defs Cert.TailIdeal.defs
  exact congrArg (Pipeline.defs (@Cert.TailIdeal.pcfgs Bits _)) bodies_eq

theorem frame_bits : Cert.quiescent_Tail := fun m ρ _ => by
  rw [defs_eq]
  exact framed (F := Bits) m ρ

theorem frame_reference : Cert.quiescent_TailReferenceIdeal := fun m ρ _ =>
  (θ_run Cert.TailReferenceIdeal.defs _ _).mono
    (fun r h => ⟨fun c => (h c).2.2.2.2.2, sem_eq_zero_of_no_sems (by decide) r.2⟩) (Cert.TailReferenceIdeal.Value.run m ρ)

theorem algebraic : Cert.algebraic_TailIdeal_TailReferenceIdeal := by
  intro m g m' g' _ hargs
  refine ⟨fun c => res95 m c,
    fun c => res75 m c,
    fun c => res52 m c,
    fun c => res78 m c,
    fun c => res58 m c, ?_, ?_⟩
  · refine (θ_run Cert.TailIdeal.defs _ _).mono (fun r h c => ?_) (θ_run_and (runs (F := Ideal) m g) (framed (F := Ideal) m g))
    exact ⟨((h.1.1 c).1 8).trans (arr_8 m c), ((h.1.1 c).1 9).trans (arr_9 m c), ((h.1.1 c).1 11).trans (arr_11 m c),
      ((h.1.1 c).1 12).trans (arr_12 m c), ((h.1.1 c).1 13).trans (arr_13 m c), h.2.1 c⟩
  · refine (θ_run Cert.TailReferenceIdeal.defs _ _).mono (fun r h c => ?_) (Cert.TailReferenceIdeal.Value.run (F := Ideal) m' g')
    obtain ⟨a0, a1, a2, a3, a4, a5, a6⟩ := hargs c
    refine ⟨(h c).1.trans ?_, (h c).2.1.trans ?_, (h c).2.2.1.trans ?_, (h c).2.2.2.1.trans ?_, (h c).2.2.2.2.1.trans ?_, (h c).2.2.2.2.2⟩
    · rw [Cert.TailReferenceIdeal.Read.val_main_v95_eq, a0, a2, a3, a4, a5]
    · rw [Cert.TailReferenceIdeal.Read.val_main_v75_eq, a1, a2, a3, a4, a6]
    · rw [Cert.TailReferenceIdeal.Read.val_main_v52_eq, a0, a1, a2, a3, a5, a6]
    · rw [Cert.TailReferenceIdeal.Read.val_main_v78_eq, a0, a2, a3, a4]
    · rw [Cert.TailReferenceIdeal.Read.val_main_v58_eq, a1, a2, a3, a4]

end Cert.TailIdeal.Run

end

end
-- ==== Proof.HeadRun.lean ====
/- What a point of `HeadIdeal`'s grid leaves in its three outputs, as the kernel's payloads of the point's blocks: the rows'
   gradient, and the two column sums over what the point before left, which the first point starts at zero. -/
module

public import proofs.«01_k».proof.Proof.Gen.HeadIdeal.Frame
public import Idealize.ShloMosaic.Lib.Pipeline.ReadBack
public import Idealize.ShloMosaic.Lib.Pipeline.ValueKit

@[expose] public section

set_option maxRecDepth 16384

noncomputable section

namespace Cert.HeadIdeal.Run

open Idealize.ShloMosaic hiding ix1 ix2
open Idealize.ShloMosaic.TcCoe Idealize.ShloMosaic.ValueIdx
open Idealize.SL.Sem
open Cert.HeadIdeal.Gen

variable {F : FTy → Type} [FloatOps F]

/-- The first 1024 rows of the output projection, and the last. -/
def top {e : EltTy} (x : Vec F S2048x1024 e) : Vec F S1024x1024 e :=
  View.ld x (Rect.unit (s := S2048x1024) ![0, 0] S1024x1024.size inb_S2048x1024_S1024x1024_0_0)
def bot {e : EltTy} (x : Vec F S2048x1024 e) : Vec F S1024x1024 e :=
  View.ld x (Rect.unit (s := S2048x1024) ![1024, 0] S1024x1024.size inb_S2048x1024_S1024x1024_1024_0)

/-- Whether a point's rows count towards the loss. -/
def counts (i : grid0.Coords) : BitVec 1 := Scalar.cmpi .sgt (BitVec.ofNat 32 (i 0).val) 0#32

section Payloads

variable (i : grid0.Coords) (x0 x1 x2 x3 x4 x5 : Vec F S128x1024 .f32) (x6 : Vec F S2048x1024 .bf16) (x7 x8 x9 : Vec F S1x1024 .f32)

/-- The root of a row's mean square, the row normalised, and its error. -/
def rootV : Vec F S128x1 .f32 := k0_pay11 (k0_pay8 x0 x1 x7) x2 x3 x8 (k0_pay9 x3) (Scalar.ofBits .f32 0x3F800000#32) x4 (top x6) (bot x6)
def normV : Vec F S128x1024 .f32 := k0_pay12 (k0_pay8 x0 x1 x7) x2 x3 x8 (k0_pay9 x3) (Scalar.ofBits .f32 0x3F800000#32) x4 (top x6) (bot x6)
def errV : Vec F S128x1024 .f32 := k0_pay13 (k0_pay8 x0 x1 x7) x2 x3 x8 (k0_pay9 x3) (Scalar.ofBits .f32 0x3F800000#32) x4 (top x6) (bot x6) x9 x5
/-- The rows' gradient, and the two column sums over `s`. -/
def gradV : Vec F S128x1024 .f32 := k0_pay5 (rootV x0 x1 x2 x3 x4 x6 x7 x8) (normV x0 x1 x2 x3 x4 x6 x7 x8) x9 (counts i) (errV x0 x1 x2 x3 x4 x5 x6 x7 x8 x9)
def lossV (s : Vec F S1x1024 .f32) : Vec F S1x1024 .f32 := k0_pay2 (counts i) (errV x0 x1 x2 x3 x4 x5 x6 x7 x8 x9) s
def weightV (s : Vec F S1x1024 .f32) : Vec F S1x1024 .f32 := k0_pay4 (normV x0 x1 x2 x3 x4 x6 x7 x8) (counts i) (errV x0 x1 x2 x3 x4 x5 x6 x7 x8 x9) s

end Payloads

theorem off2 : (![0, 0] : Fin 2 → ℕ) = fun _ => 0 := by funext x; fin_cases x <;> rfl

section Outs

variable (c : Dev nD) (i : grid0.Coords) (arg1 : Memref sig .tc .vmem S128x1024 .f32) (harg1 : arg1.IsWhole)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S2048x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S128x1024 .f32) (harg11 : arg11.IsWhole)
  (arg12 : Memref sig .tc .vmem S1x1024 .f32) (harg12 : arg12.IsWhole)
  (arg13 : Memref sig .tc .vmem S1x1024 .f32) (harg13 : arg13.IsWhole)
  (x0 x1 x2 x3 x4 x5 : Vec F S128x1024 .f32) (x6 : Vec F S2048x1024 .bf16) (x7 x8 x9 : Vec F S1x1024 .f32)
  (s11 s12 : Vec F S1x1024 .f32)

theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = gradV i x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 _ _ _ _ _ _ _ _ _ _)]
  unfold kernelRun0_A
  dsimp only
  rw [View.canon_cons_unit_zero off2]
  simp only [kernelRun0_A.sl.cst_19, kernelRun0_A.sl.v71, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, Memref.IsWhole.read_unread]
  simp only [View.ld_unit_zero (S := S128x1024) off2, View.ld_unit_zero (S := S1x1024) off2]
  rfl

theorem out_A_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = lossV i x0 x1 x2 x3 x4 x5 x6 x7 x8 x9 k0_pay6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 _ _ _ _ _ _ _ _ _ _)]
  unfold kernelRun0_A
  dsimp only
  rw [View.canon_cons_unit_zero off2]
  simp only [kernelRun0_A.sl.cst_19, kernelRun0_A.sl.v71, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, Memref.IsWhole.read_unread]
  unfold kernelRun0_A.sl.v78
  try unfold kernelRun0_A.sl.H11_1
  rw [View.readCov_fill _ _ _ _ _ (fun x => by fin_cases x <;> rfl)]
  simp only [View.ld_unit_zero (S := S128x1024) off2, View.ld_unit_zero (S := S1x1024) off2]
  rfl

theorem out_A_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = weightV i x0 x1 x2 x3 x4 x5 x6 x7 x8 x9 k0_pay7 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 _ _ _ _ _ _ _ _ _ _)]
  unfold kernelRun0_A
  dsimp only
  rw [View.canon_cons_unit_zero off2]
  simp only [kernelRun0_A.sl.cst_19, kernelRun0_A.sl.v71, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, Memref.IsWhole.read_unread]
  unfold kernelRun0_A.sl.v87
  try unfold kernelRun0_A.sl.H12_1
  rw [View.readCov_fill _ _ _ _ _ (fun x => by fin_cases x <;> rfl)]
  simp only [View.ld_unit_zero (S := S128x1024) off2, View.ld_unit_zero (S := S1x1024) off2]
  rfl

theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 s11 s12
      = gradV i x0 x1 x2 x3 x4 x5 x6 x7 x8 x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 _ _ _ _ _ _ _ _ _ _ _ _)]
  unfold kernelRun0_B
  dsimp only
  rw [View.canon_cons_unit_zero off2]
  simp only [kernelRun0_B.sl.cst_19, kernelRun0_B.sl.v71, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, Memref.IsWhole.read_unread]
  simp only [View.ld_unit_zero (S := S128x1024) off2, View.ld_unit_zero (S := S1x1024) off2]
  rfl

theorem out_B_11 (hc0 : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 s11 s12
      = lossV i x0 x1 x2 x3 x4 x5 x6 x7 x8 x9 s11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 _ _ _ _ _ _ _ _ _ _ _ _)]
  unfold kernelRun0_B
  dsimp only
  rw [View.canon_cons_unit_zero off2]
  simp only [kernelRun0_B.sl.cst_19, kernelRun0_B.sl.v71, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, Memref.IsWhole.read_unread]
  simp only [View.ld_unit_zero (S := S128x1024) off2, View.ld_unit_zero (S := S1x1024) off2]
  rfl

theorem out_B_12 (hc0 : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 s11 s12
      = weightV i x0 x1 x2 x3 x4 x5 x6 x7 x8 x9 s12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 _ _ _ _ _ _ _ _ _ _ _ _)]
  unfold kernelRun0_B
  dsimp only
  rw [View.canon_cons_unit_zero off2]
  simp only [kernelRun0_B.sl.cst_19, kernelRun0_B.sl.v71, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, Memref.IsWhole.read_unread]
  simp only [View.ld_unit_zero (S := S128x1024) off2, View.ld_unit_zero (S := S1x1024) off2]
  rfl

end Outs

section Points

variable (m : (ℓ : Loc nD τ sig) → Buf (Elt F) ℓ) (c : Dev nD)

abbrev gradAt (t : Fin cfg0.N) : Vec F S128x1024 .f32 :=
  gradV (grid0.coords t) (iblk m c 0 t) (X0_1 m c t) (iblk m c 2 t) (X0_3 m c t) (iblk m c 4 t) (iblk m c 5 t) (iblk m c 6 t) (iblk m c 7 t) (iblk m c 8 t) (iblk m c 9 t)
abbrev lossAt (t : Fin cfg0.N) (s : Vec F S1x1024 .f32) : Vec F S1x1024 .f32 :=
  lossV (grid0.coords t) (iblk m c 0 t) (X0_1 m c t) (iblk m c 2 t) (X0_3 m c t) (iblk m c 4 t) (iblk m c 5 t) (iblk m c 6 t) (iblk m c 7 t) (iblk m c 8 t) (iblk m c 9 t) s
abbrev weightAt (t : Fin cfg0.N) (s : Vec F S1x1024 .f32) : Vec F S1x1024 .f32 :=
  weightV (grid0.coords t) (iblk m c 0 t) (X0_1 m c t) (iblk m c 2 t) (X0_3 m c t) (iblk m c 4 t) (iblk m c 5 t) (iblk m c 6 t) (iblk m c 7 t) (iblk m c 8 t) (iblk m c 9 t) s

theorem lt_N (t : Fin cfg0.N) : t.val < 17 := lt_of_lt_of_eq t.isLt (show cfg0.N = 17 from N_0)

/-- The rows' gradient after every point. -/
theorem grad_at (t : Fin cfg0.N) : (outsAt0 m c t.val t.isLt).1 = gradAt m c t := by
  by_cases h : t.val % 17 = 0
  · rw [outsAt0_A m c t h]
    dsimp only
    rw [out_A_10]
  · rw [outsAt0_B m c t h]
    dsimp only
    rw [out_B_10]

/-- The sums after the first point, and after a later one. -/
theorem loss_first (hn : 0 < cfg0.N) : (outsAt0 m c 0 hn).2.1 = lossAt m c ⟨0, hn⟩ k0_pay6 := by
  refine (congrArg (fun p => p.2.1) (outsAt0_A m c ⟨0, hn⟩ rfl)).trans ?_
  dsimp only
  rw [out_A_11]
theorem weight_first (hn : 0 < cfg0.N) : (outsAt0 m c 0 hn).2.2 = weightAt m c ⟨0, hn⟩ k0_pay7 := by
  refine (congrArg (fun p => p.2.2) (outsAt0_A m c ⟨0, hn⟩ rfl)).trans ?_
  dsimp only
  rw [out_A_12]
theorem loss_next (n : ℕ) (hn : n + 1 < cfg0.N) :
    (outsAt0 m c (n + 1) hn).2.1 = lossAt m c ⟨n + 1, hn⟩ (outsAt0 m c n (Nat.lt_of_succ_lt hn)).2.1 := by
  have hN : n + 1 < 17 := lt_N ⟨n + 1, hn⟩
  refine (congrArg (fun p => p.2.1) (outsAt0_B m c ⟨n + 1, hn⟩ (fun h => by have h' : (n + 1) % 17 = 0 := h; omega))).trans ?_
  dsimp only
  rw [out_B_11]
  rfl
theorem weight_next (n : ℕ) (hn : n + 1 < cfg0.N) :
    (outsAt0 m c (n + 1) hn).2.2 = weightAt m c ⟨n + 1, hn⟩ (outsAt0 m c n (Nat.lt_of_succ_lt hn)).2.2 := by
  have hN : n + 1 < 17 := lt_N ⟨n + 1, hn⟩
  refine (congrArg (fun p => p.2.2) (outsAt0_B m c ⟨n + 1, hn⟩ (fun h => by have h' : (n + 1) % 17 = 0 := h; omega))).trans ?_
  dsimp only
  rw [out_B_12]
  rfl

end Points

end Cert.HeadIdeal.Run

end

end
-- ==== Proof.HeadValue.lean ====
/- `HeadIdeal`'s results as mathematics. A row of the hidden state is the incoming row plus the two gated, normalised
   branches times the output projection; its final norm less the target is the row's error, which the first 128 rows have
   none of. The kernel's two column sums are the sums of the squared errors and of the normalised rows times their
   cotangents over all rows, and each row's gradient is the reference's (`Cert.NormBack.element`, with nothing added). -/
module

public import proofs.«01_k».proof.Proof.HeadRun
public import proofs.«01_k».proof.Proof.TailBackValue
public import proofs.«01_k».proof.Proof.Gen.HeadReferenceIdeal.Run
public import proofs.«01_k».proof.Proof.Gen.HeadReferenceIdeal.Read
public import proofs.«01_k».proof.Defs
public import proofs.«01_k».proof.Proof.Gen.Head
public import proofs.«01_k».proof.Proof.Gen.HeadReferenceIdeal
public import Idealize.ShloMosaic.Lib.KernelVsHost
public import Idealize.ShloMosaic.Lib.MatmulPlain
public import Idealize.ShloMosaic.Lib.ValueIdx
public import Idealize.ShloMosaic.Lib.Pointwise

@[expose] public section

set_option maxRecDepth 16384

noncomputable section

namespace Cert.HeadIdeal.Run

open Idealize.ShloMosaic hiding ix1 ix2
open Idealize.ShloMosaic.TcCoe Idealize.ShloMosaic.ValueIdx
open Idealize.SL.Sem
open Idealize.ShloMosaic.Pipeline (Dat Cfg Window)
open Cert.HeadIdeal.Gen
open Cert.TailIdeal.Run (zero_word step silu spread normed back lo hi gateLo gateHi hidden idx2 back_eq)

/-! ## The payloads, at an element -/

/-- The step with the gate negated as the kernel does it. -/
def stepS (g : EReal) : EReal :=
  Ideal.div (Ideal.ofBits .f32 0x3F800000#32) (Ideal.ofBits .f32 0x3F800000#32 + Ideal.exp (Ideal.ofBits .f32 0#32 - g))
theorem stepS_eq (g : EReal) : stepS g = step g := by
  unfold stepS
  rw [zero_word, zero_sub]
  rfl

/-- A block's hidden row. -/
def hid (o g : Vec Ideal S128x1024 .f32) (r : Fin 128) (k : Fin 1024) : EReal := o (ix2 r k) * silu (g (ix2 r k))
def hidS (o g : Vec Ideal S128x1024 .f32) (r : Fin 128) (k : Fin 1024) : EReal := o (ix2 r k) * (g (ix2 r k) * stepS (g (ix2 r k)))
theorem hidS_eq (o g : Vec Ideal S128x1024 .f32) (r : Fin 128) : hidS o g r = hid o g r := by
  funext k
  unfold hidS
  rw [stepS_eq]
  rfl

section Payloads

variable (i : grid0.Coords) (x0 x1 x2 x3 x4 x5 : Vec Ideal S128x1024 .f32) (x6 : Vec Ideal S2048x1024 .bf16) (x7 x8 x9 : Vec Ideal S1x1024 .f32)

theorem pay8_apply (r : Fin 128) (j : Fin 1024) : k0_pay8 (F := Ideal) x0 x1 x7 (ix2 r j) = normed (hid x0 x1 r) j * x7 (ix2 0 j) := by
  rw [← hidS_eq]
  unfold k0_pay8 normed spread hidS stepS
  pointwise
  rfl

/-- A row of the hidden state after the block. -/
def rowB (r : Fin 128) (j : Fin 1024) : EReal :=
  (x4 (ix2 r j) + ∑ k : Fin 1024, normed (hid x0 x1 r) k * x7 (ix2 0 k) * top x6 (ix2 k j))
    + ∑ k : Fin 1024, normed (hid x2 x3 r) k * x8 (ix2 0 k) * bot x6 (ix2 k j)

theorem pay10_apply (r : Fin 128) (j : Fin 1024) :
    k0_pay10 (F := Ideal) (k0_pay8 x0 x1 x7) x2 x3 x8 (k0_pay9 x3) (Scalar.ofBits .f32 0x3F800000#32) x4 (top x6) (bot x6) (ix2 r j)
      = rowB x0 x1 x2 x3 x4 x6 x7 x8 r j := by
  unfold rowB
  rw [← hidS_eq x2 x3]
  simp only [← pay8_apply x0 x1 x7]
  generalize k0_pay8 x0 x1 x7 = u
  generalize top x6 = w
  generalize bot x6 = w'
  unfold k0_pay10 k0_pay9 normed spread hidS stepS
  pointwise
  rfl

theorem root_apply (r : Fin 128) (z : Fin 1) :
    rootV x0 x1 x2 x3 x4 x6 x7 x8 (ix2 r z) = Ideal.rsqrt (spread (rowB x0 x1 x2 x3 x4 x6 x7 x8 r)) := by
  have e : rowB x0 x1 x2 x3 x4 x6 x7 x8 r = fun j => k0_pay10 (F := Ideal) (k0_pay8 x0 x1 x7) x2 x3 x8 (k0_pay9 x3) (Scalar.ofBits .f32 0x3F800000#32) x4 (top x6) (bot x6) (ix2 r j) :=
    funext fun j => (pay10_apply x0 x1 x2 x3 x4 x6 x7 x8 r j).symm
  rw [e]
  unfold rootV k0_pay11 spread
  generalize k0_pay10 (k0_pay8 x0 x1 x7) x2 x3 x8 (k0_pay9 x3) (Scalar.ofBits .f32 0x3F800000#32) x4 (top x6) (bot x6) = h
  pointwise
  rfl

theorem norm_apply (r : Fin 128) (j : Fin 1024) :
    normV x0 x1 x2 x3 x4 x6 x7 x8 (ix2 r j) = normed (rowB x0 x1 x2 x3 x4 x6 x7 x8 r) j := by
  unfold normed
  rw [← root_apply x0 x1 x2 x3 x4 x6 x7 x8 r 0, ← pay10_apply]
  unfold normV rootV k0_pay12
  pointwise
  rfl

theorem err_apply (r : Fin 128) (j : Fin 1024) :
    errV x0 x1 x2 x3 x4 x5 x6 x7 x8 x9 (ix2 r j) = normed (rowB x0 x1 x2 x3 x4 x6 x7 x8 r) j * x9 (ix2 0 j) - x5 (ix2 r j) := by
  rw [← norm_apply]
  unfold errV normV k0_pay13
  pointwise
  rfl

/-- A value that counts, or nothing. -/
def masked (b : BitVec 1) (x : EReal) : EReal := if b = 1#1 then x else 0

theorem pay1_apply (b : BitVec 1) (v : FVec Ideal S128x1024 .f32) (y : S128x1024.Idx) : k0_pay1 (F := Ideal) b v y = masked b (v y) := by
  unfold k0_pay1 masked
  by_cases h : b = 1#1
  · rw [if_pos h]
    subst h
    rfl
  · rw [if_neg h, show b = 0#1 by revert h; revert b; decide]
    exact zero_word

theorem pay3_apply (b : BitVec 1) (v : FVec Ideal S128x1024 .f32) (y : S128x1024.Idx) :
    k0_pay3 (F := Ideal) b v y = masked b (v y) * Ideal.ofBits .f32 0x3A800000#32 := by
  rw [← pay1_apply]
  rfl

theorem pay2_apply (b : BitVec 1) (v : FVec Ideal S128x1024 .f32) (s : Vec Ideal S1x1024 .f32) (z : Fin 1) (j : Fin 1024) :
    k0_pay2 (F := Ideal) b v s (ix2 z j) = s (ix2 z j) + ∑ x : Fin 128, masked b (v (ix2 x j)) * masked b (v (ix2 x j)) := by
  simp only [← pay1_apply]
  unfold k0_pay2
  generalize k0_pay1 (F := Ideal) b v = e
  pointwise
  rfl

theorem pay4_apply (n : FVec Ideal S128x1024 .f32) (b : BitVec 1) (v : FVec Ideal S128x1024 .f32) (s : Vec Ideal S1x1024 .f32) (z : Fin 1) (j : Fin 1024) :
    k0_pay4 (F := Ideal) n b v s (ix2 z j) = s (ix2 z j) + ∑ x : Fin 128, masked b (v (ix2 x j)) * Ideal.ofBits .f32 0x3A800000#32 * n (ix2 x j) := by
  simp only [← pay3_apply]
  unfold k0_pay4
  generalize k0_pay3 (F := Ideal) b v = e
  pointwise
  rfl

theorem loss_apply (s : Vec Ideal S1x1024 .f32) (z : Fin 1) (j : Fin 1024) :
    lossV i x0 x1 x2 x3 x4 x5 x6 x7 x8 x9 s (ix2 z j) = s (ix2 z j) + ∑ x : Fin 128,
      masked (counts i) (errV x0 x1 x2 x3 x4 x5 x6 x7 x8 x9 (ix2 x j)) * masked (counts i) (errV x0 x1 x2 x3 x4 x5 x6 x7 x8 x9 (ix2 x j)) :=
  pay2_apply _ _ s z j

theorem weight_apply (s : Vec Ideal S1x1024 .f32) (z : Fin 1) (j : Fin 1024) :
    weightV i x0 x1 x2 x3 x4 x5 x6 x7 x8 x9 s (ix2 z j) = s (ix2 z j) + ∑ x : Fin 128,
      masked (counts i) (errV x0 x1 x2 x3 x4 x5 x6 x7 x8 x9 (ix2 x j)) * Ideal.ofBits .f32 0x3A800000#32 * normed (rowB x0 x1 x2 x3 x4 x6 x7 x8 x) j := by
  simp only [← norm_apply]
  exact pay4_apply _ _ _ s z j

theorem grad_apply (r : Fin 128) (j : Fin 1024) :
    gradV i x0 x1 x2 x3 x4 x5 x6 x7 x8 x9 (ix2 r j) = back (rowB x0 x1 x2 x3 x4 x6 x7 x8 r)
      (fun k => masked (counts i) (errV x0 x1 x2 x3 x4 x5 x6 x7 x8 x9 (ix2 r k)) * Ideal.ofBits .f32 0x3A800000#32 * x9 (ix2 0 k)) j := by
  unfold back
  rw [← root_apply x0 x1 x2 x3 x4 x6 x7 x8 r 0]
  simp only [← norm_apply, ← pay3_apply]
  unfold gradV k0_pay5
  generalize rootV x0 x1 x2 x3 x4 x6 x7 x8 = q
  generalize normV x0 x1 x2 x3 x4 x6 x7 x8 = n
  generalize k0_pay3 (counts i) (errV x0 x1 x2 x3 x4 x5 x6 x7 x8 x9) = e
  pointwise
  rfl

end Payloads

/-! ## The reference, at an element -/

section Reference

open Cert.HeadReferenceIdeal.Read

variable (x0 x1 : Vec Ideal S2176x1024 .f32) (x2 : Vec Ideal S2176x3584 .f32) (x3 : Vec Ideal S2176x1024 .f32) (x4 : Vec Ideal S2048x1024 .f32)
  (x5 : Vec Ideal S2048x1024 .bf16) (x6 x7 x8 : Vec Ideal S1x1024 .f32)

theorem ref_hidden1 (r : Fin 2176) (j : Fin 1024) : val_main_v10 (F := Ideal) x0 x2 (ix2 r j) = hidden x0 x2 gateLo r j := by
  rw [val_main_v10_apply, val_main_v9_apply, val_main_v8_apply, val_main_v7_apply, val_main_v6_apply, val_main_v5_apply, val_main_v4_apply, val_main_v3_apply,
    val_main_v1_apply, idx2 (idx_main_v1 (ix2 r j)) r (gateLo j) rfl rfl]
  rfl

theorem ref_spread1 (r : Fin 2176) : val_main_v17 (F := Ideal) x0 x2 (ix2 r 0) = spread (hidden x0 x2 gateLo r) := by
  rw [val_main_v17_apply, val_main_v15_apply, val_main_v14_apply, val_main_v16_apply, val_main_v13_apply, val_main_v12_apply]
  unfold spread
  refine congrArg₂ (fun x y : EReal => x + y) (congrArg₂ Ideal.div ?_ rfl) rfl
  refine (congrArg₂ (fun x y : EReal => x + y) zero_word (Finset.sum_congr rfl fun k _ => ?_)).trans (zero_add _)
  rw [val_main_v11_apply, idx2 (idx_main_v12 (idx_main_v13 (ix2 r 0)) k) r k rfl rfl, ref_hidden1]
  rfl

theorem ref_scaled1 (r : Fin 2176) (j : Fin 1024) : val_main_v22 (F := Ideal) x0 x2 x6 (ix2 r j) = normed (hidden x0 x2 gateLo r) j * x6 (ix2 0 j) := by
  rw [val_main_v22_apply, val_main_v21_apply, idx2 (idx_main_v21 (ix2 r j)) 0 j rfl rfl, val_main_v20_apply, val_main_v19_apply,
    idx2 (idx_main_v19 (ix2 r j)) r 0 rfl rfl, val_main_v18_apply, ref_spread1, ref_hidden1]
  rfl

theorem ref_hidden2 (r : Fin 2176) (j : Fin 1024) : val_main_v30 (F := Ideal) x1 x2 (ix2 r j) = hidden x1 x2 gateHi r j := by
  rw [val_main_v30_apply, val_main_v29_apply, val_main_v28_apply, val_main_v27_apply, val_main_v26_apply, val_main_v25_apply, val_main_v24_apply, val_main_v23_apply,
    val_main_v2_apply, idx2 (idx_main_v2 (ix2 r j)) r (gateHi j) rfl rfl]
  rfl

theorem ref_spread2 (r : Fin 2176) : val_main_v37 (F := Ideal) x1 x2 (ix2 r 0) = spread (hidden x1 x2 gateHi r) := by
  rw [val_main_v37_apply, val_main_v35_apply, val_main_v34_apply, val_main_v36_apply, val_main_v33_apply, val_main_v32_apply]
  unfold spread
  refine congrArg₂ (fun x y : EReal => x + y) (congrArg₂ Ideal.div ?_ rfl) rfl
  refine (congrArg₂ (fun x y : EReal => x + y) zero_word (Finset.sum_congr rfl fun k _ => ?_)).trans (zero_add _)
  rw [val_main_v31_apply, idx2 (idx_main_v32 (idx_main_v33 (ix2 r 0)) k) r k rfl rfl, ref_hidden2]
  rfl

theorem ref_scaled2 (r : Fin 2176) (j : Fin 1024) : val_main_v42 (F := Ideal) x1 x2 x7 (ix2 r j) = normed (hidden x1 x2 gateHi r) j * x7 (ix2 0 j) := by
  rw [val_main_v42_apply, val_main_v41_apply, idx2 (idx_main_v41 (ix2 r j)) 0 j rfl rfl, val_main_v40_apply, val_main_v39_apply,
    idx2 (idx_main_v39 (ix2 r j)) r 0 rfl rfl, val_main_v38_apply, ref_spread2, ref_hidden2]
  rfl

/-- The two branches' scaled rows, side by side. -/
theorem ref_joined1 (r : Fin 2176) (j : Fin 1024) :
    val_main_v43 (F := Ideal) x0 x1 x2 x6 x7 (ix2 r (lo j)) = normed (hidden x0 x2 gateLo r) j * x6 (ix2 0 j) := by
  rw [← ref_scaled1]
  unfold val_main_v43
  refine concatenate_pair_apply_left (t := Cert.HeadReferenceIdeal.S2176x2048) (s₁ := Cert.HeadReferenceIdeal.S2176x1024) (s₂ := Cert.HeadReferenceIdeal.S2176x1024) 1 _ _ _ (ix2 r (lo j)) rfl (ix2 r j) fun b => ?_
  match b with
    | ⟨0, _⟩ => rfl
    | ⟨1, _⟩ => rfl

theorem ref_joined2 (r : Fin 2176) (j : Fin 1024) :
    val_main_v43 (F := Ideal) x0 x1 x2 x6 x7 (ix2 r (hi j)) = normed (hidden x1 x2 gateHi r) j * x7 (ix2 0 j) := by
  rw [← ref_scaled2]
  unfold val_main_v43
  refine concatenate_pair_apply_right (t := Cert.HeadReferenceIdeal.S2176x2048) (s₁ := Cert.HeadReferenceIdeal.S2176x1024) (s₂ := Cert.HeadReferenceIdeal.S2176x1024) 1 _ _ _ (ix2 r (hi j)) rfl rfl (ix2 r j) (fun b hb => ?_) ?_
  · match b with
      | ⟨0, _⟩ => rfl
      | ⟨1, _⟩ => exact absurd rfl hb
  · show j.val + 1024 = 1024 + j.val
    omega

/-- A row of the hidden state after the block. -/
def row (r : Fin 2176) (j : Fin 1024) : EReal :=
  (x3 (ix2 r j) + ∑ k : Fin 1024, normed (hidden x0 x2 gateLo r) k * x6 (ix2 0 k) * x5 (ix2 (lo k) j))
    + ∑ k : Fin 1024, normed (hidden x1 x2 gateHi r) k * x7 (ix2 0 k) * x5 (ix2 (hi k) j)

theorem sum_split (f : Fin 2048 → EReal) : ∑ k, f k = ∑ k : Fin 1024, f (lo k) + ∑ k : Fin 1024, f (hi k) :=
  Fin.sum_univ_add (a := 1024) (b := 1024) f

theorem ref_row (r : Fin 2176) (j : Fin 1024) : val_main_v45 (F := Ideal) x0 x1 x2 x3 x5 x6 x7 (ix2 r j) = row x0 x1 x2 x3 x5 x6 x7 r j := by
  rw [val_main_v45_apply, val_main_v44_apply]
  refine (congrArg (fun x : EReal => x3 (ix2 r j) + x) ((sum_split _).trans ?_)).trans (add_assoc _ _ _).symm
  refine congrArg₂ (fun x y : EReal => x + y) (Finset.sum_congr rfl fun k _ => congrArg₂ (fun x y : EReal => x * y) ?_ ?_)
    (Finset.sum_congr rfl fun k _ => congrArg₂ (fun x y : EReal => x * y) ?_ ?_)
  · rw [idx2 (lidx_main_v44 (ix2 r j) (lo k)) r (lo k) rfl rfl, ref_joined1]
  · rw [idx2 (ridx_main_v44 (ix2 r j) (lo k)) (lo k) j rfl rfl]
    rfl
  · rw [idx2 (lidx_main_v44 (ix2 r j) (hi k)) r (hi k) rfl rfl, ref_joined2]
  · rw [idx2 (ridx_main_v44 (ix2 r j) (hi k)) (hi k) j rfl rfl]
    rfl

theorem ref_spread3 (r : Fin 2176) : val_main_v52 (F := Ideal) x0 x1 x2 x3 x5 x6 x7 (ix2 r 0) = spread (row x0 x1 x2 x3 x5 x6 x7 r) := by
  rw [val_main_v52_apply, val_main_v50_apply, val_main_v49_apply, val_main_v51_apply, val_main_v48_apply, val_main_v47_apply]
  unfold spread
  refine congrArg₂ (fun x y : EReal => x + y) (congrArg₂ Ideal.div ?_ rfl) rfl
  refine (congrArg₂ (fun x y : EReal => x + y) zero_word (Finset.sum_congr rfl fun k _ => ?_)).trans (zero_add _)
  rw [val_main_v46_apply, idx2 (idx_main_v47 (idx_main_v48 (ix2 r 0)) k) r k rfl rfl, ref_row]
  rfl

theorem ref_root3 (r : Fin 2176) : val_main_v53 (F := Ideal) x0 x1 x2 x3 x5 x6 x7 (ix2 r 0) = Ideal.rsqrt (spread (row x0 x1 x2 x3 x5 x6 x7 r)) := by
  rw [val_main_v53_apply, ref_spread3]
  rfl

theorem ref_norm3 (r : Fin 2176) (j : Fin 1024) : val_main_v58 (F := Ideal) x0 x1 x2 x3 x5 x6 x7 (ix2 r j) = normed (row x0 x1 x2 x3 x5 x6 x7 r) j := by
  rw [val_main_v58_apply, val_main_v57_apply, idx2 (idx_main_v57 (ix2 r j)) r 0 rfl rfl, ref_root3, ref_row]
  rfl

/-- A row's error: of the rows that have a target, the final norm less the target. -/
def errR (R : ℕ) (j : Fin 1024) : EReal :=
  if h : 128 ≤ R ∧ R < 2176 then
    normed (row x0 x1 x2 x3 x5 x6 x7 ⟨R, h.2⟩) j * x8 (ix2 0 j) - x4 (ix2 ⟨R - 128, by omega⟩ j)
  else 0

theorem ref_err (a : Fin 2048) (j : Fin 1024) :
    val_main_v62 (F := Ideal) x0 x1 x2 x3 x4 x5 x6 x7 x8 (ix2 a j) = errR x0 x1 x2 x3 x4 x5 x6 x7 x8 (128 + a.val) j := by
  have ha := a.isLt
  unfold errR
  rw [dif_pos ⟨by omega, by omega⟩, val_main_v62_apply, val_main_v61_apply,
    idx2 (idx_main_v61 (ix2 a j)) ⟨128 + a.val, by omega⟩ j (by first | rfl | (show a.val + 128 = 128 + a.val; omega)) (by first | rfl | (show 0 + j.val = j.val; omega)),
    val_main_v60_apply, val_main_v59_apply,
    idx2 (idx_main_v59 (ix2 ⟨128 + a.val, _⟩ j)) 0 j rfl rfl, ref_norm3,
    show (⟨128 + a.val - 128, by omega⟩ : Fin 2048) = a from Fin.ext (by show 128 + a.val - 128 = a.val; omega)]
  rfl

/-- The errors' cotangent, with the rows that have no target at zero. -/
theorem ref_cot (R : Fin 2176) (j : Fin 1024) :
    val_main_v65 (F := Ideal) x0 x1 x2 x3 x4 x5 x6 x7 x8 (ix2 R j)
      = errR x0 x1 x2 x3 x4 x5 x6 x7 x8 R.val j * Ideal.ofBits .f32 0x3A800000#32 := by
  unfold val_main_v65
  by_cases h : 128 ≤ R.val
  · have hR := R.isLt
    rw [pad_apply_of_inside _ _ _ _ _ _ _ (ix2 R j) (ix2 (⟨R.val - 128, by omega⟩ : Fin 2048) j) (fun a => ?_)]
    · rw [val_main_v64_apply, ref_err, val_main_v63_apply]
      show errR x0 x1 x2 x3 x4 x5 x6 x7 x8 (128 + (R.val - 128)) j * _ = _
      rw [show 128 + (R.val - 128) = R.val by omega]
      rfl
    · match a with
        | ⟨0, _⟩ => show R.val = 128 + (R.val - 128) * (0 + 1); omega
        | ⟨1, _⟩ => show j.val = 0 + j.val * (0 + 1); omega
  · rw [pad_apply_of_not_inside _ _ _ _ _ _ _ (ix2 R j) 0 (fun h' => h h'.1)]
    unfold errR
    rw [dif_neg (fun h' => h h'.1), zero_mul]
    exact zero_word

theorem ref_weight (j : Fin 1024) (i : Cert.HeadReferenceIdeal.S1x1024.Idx) (hj : (i 1).val = j.val) :
    val_main_v68 (F := Ideal) x0 x1 x2 x3 x4 x5 x6 x7 x8 i = ∑ r : Fin 2176,
      errR x0 x1 x2 x3 x4 x5 x6 x7 x8 r.val j * Ideal.ofBits .f32 0x3A800000#32 * normed (row x0 x1 x2 x3 x5 x6 x7 r) j := by
  rw [val_main_v68_apply, val_main_v67_apply]
  refine (congrArg₂ (fun x y : EReal => x + y) zero_word (Finset.sum_congr rfl fun r _ => ?_)).trans (zero_add _)
  have h0 : (i 0).val < 1 := (i 0).isLt
  rw [idx2 (idx_main_v67 (idx_main_v68 i) r) r j rfl (by show (i 0).val * 1024 + (i 1).val = j.val; omega), val_main_v66_apply, ref_norm3, ref_cot]
  exact mul_comm _ _

theorem ref_loss (j : Fin 1024) (i : Cert.HeadReferenceIdeal.S1x1024.Idx) (hj : (i 1).val = j.val) :
    val_main_v87 (F := Ideal) x0 x1 x2 x3 x4 x5 x6 x7 x8 i = ∑ a : Fin 2048,
      errR x0 x1 x2 x3 x4 x5 x6 x7 x8 (128 + a.val) j * errR x0 x1 x2 x3 x4 x5 x6 x7 x8 (128 + a.val) j := by
  rw [val_main_v87_apply, val_main_v86_apply]
  refine (congrArg₂ (fun x y : EReal => x + y) zero_word (Finset.sum_congr rfl fun a _ => ?_)).trans (zero_add _)
  rw [idx2 (idx_main_v86 (idx_main_v87 i) a) a j rfl hj, val_main_v85_apply, ref_err]
  rfl

theorem ref_g (r : Fin 2176) (j : Fin 1024) : val_main_v70 (F := Ideal) x0 x1 x2 x3 x4 x5 x6 x7 x8 (ix2 r j)
    = errR x0 x1 x2 x3 x4 x5 x6 x7 x8 r.val j * Ideal.ofBits .f32 0x3A800000#32 * x8 (ix2 0 j) := by
  rw [val_main_v70_apply, val_main_v69_apply, idx2 (idx_main_v69 (ix2 r j)) 0 j rfl rfl, ref_cot]
  rfl

/-- The root's gradient, spread over the row's elements. -/
theorem ref_mean (r : Fin 2176) (j : Fin 1024) :
    val_main_v80 (F := Ideal) x0 x1 x2 x3 x4 x5 x6 x7 x8 (ix2 r j) = Ideal.div ((∑ k : Fin 1024, row x0 x1 x2 x3 x5 x6 x7 r k
      * (errR x0 x1 x2 x3 x4 x5 x6 x7 x8 r.val k * Ideal.ofBits .f32 0x3A800000#32 * x8 (ix2 0 k)))
      * (Ideal.ofBits .f32 0xBF000000#32 * Ideal.div (Ideal.rsqrt (spread (row x0 x1 x2 x3 x5 x6 x7 r))) (spread (row x0 x1 x2 x3 x5 x6 x7 r)))) (Ideal.ofBits .f32 0x44800000#32) := by
  rw [val_main_v80_apply, val_main_v79_apply, Fin.sum_univ_one, idx2 (idx_main_v79 (idx_main_v80 (ix2 r j)) 0) r 0 rfl rfl]
  refine (congrArg₂ (fun x y : EReal => x + y) zero_word ?_).trans (zero_add _)
  rw [val_main_v78_apply, val_main_v77_apply, val_main_v76_apply, val_main_v73_apply, val_main_v72_apply, val_main_v56_apply, val_main_v55_apply, val_main_v54_apply, ref_root3, ref_spread3]
  refine congrArg₂ Ideal.div (congrArg₂ (fun x y : EReal => x * y) ?_ rfl) rfl
  refine (congrArg₂ (fun x y : EReal => x + y) zero_word (Finset.sum_congr rfl fun k _ => ?_)).trans (zero_add _)
  rw [idx2 (idx_main_v72 (idx_main_v73 (ix2 r 0)) k) r k (by show r.val * 1 + 0 = r.val; omega) rfl, val_main_v71_apply, ref_g, ref_row]
  rfl

/-- An element of the reference's gradient, as the kernel writes it. -/
theorem ref_element (r : Fin 2176) (j : Fin 1024) :
    val_main_v84 (F := Ideal) x0 x1 x2 x3 x4 x5 x6 x7 x8 (ix2 r j)
      = back (row x0 x1 x2 x3 x5 x6 x7 r) (fun k => errR x0 x1 x2 x3 x4 x5 x6 x7 x8 r.val k * Ideal.ofBits .f32 0x3A800000#32 * x8 (ix2 0 k)) j := by
  rw [val_main_v84_apply, val_main_v83_apply, val_main_v82_apply, val_main_v81_apply, val_main_v75_apply, val_main_v74_apply, ref_g, ref_mean,
    ref_row, idx2 (idx_main_v74 (ix2 r j)) r 0 rfl rfl, ref_root3]
  exact (back_eq (row x0 x1 x2 x3 x5 x6 x7 r) (fun k => errR x0 x1 x2 x3 x4 x5 x6 x7 x8 r.val k * Ideal.ofBits .f32 0x3A800000#32 * x8 (ix2 0 k)) j).symm

end Reference

/-! ## The blocks -/

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 1 := by decide +kernel
theorem index_4 : ∀ t : Fin grid0.N, win0_4.index t 0 = t.val ∧ win0_4.index t 1 = 0 := by decide +kernel
theorem index_5 : ∀ t : Fin grid0.N, win0_5.index t 0 = t.val - 1 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = t.val ∧ win0_10.index t 1 = 0 := by decide +kernel
theorem index_11 : ∀ t : Fin grid0.N, win0_11.index t 0 = 0 ∧ win0_11.index t 1 = 0 := by decide +kernel
theorem index_12 : ∀ t : Fin grid0.N, win0_12.index t 0 = 0 ∧ win0_12.index t 1 = 0 := by decide +kernel

theorem counts_first : ∀ t : Fin grid0.N, t.val = 0 → counts (grid0.coords t) = 0#1 := by decide +kernel
theorem counts_later : ∀ t : Fin grid0.N, t.val ≠ 0 → counts (grid0.coords t) = 1#1 := by decide +kernel

variable (m : (ℓ : Loc nD τ sig) → Buf (Elt Ideal) ℓ) (c : Dev nD)

/-- The two branches' outputs, the projection that holds their gates, the incoming rows, the target, the output projection,
    and the three norms' weights. -/
abbrev oaOf : Vec Ideal S2176x1024 .f32 := m ((c : Thread nD τ).loc main_arg0)
abbrev obOf : Vec Ideal S2176x1024 .f32 := m ((c : Thread nD τ).loc main_arg1)
abbrev prOf : Vec Ideal S2176x3584 .f32 := m ((c : Thread nD τ).loc main_arg2)
abbrev hrOf : Vec Ideal S2176x1024 .f32 := m ((c : Thread nD τ).loc main_arg3)
abbrev tgOf : Vec Ideal S2048x1024 .f32 := m ((c : Thread nD τ).loc main_arg4)
abbrev woOf : Vec Ideal S2048x1024 .bf16 := m ((c : Thread nD τ).loc main_arg5)
abbrev waOf : Vec Ideal S1x1024 .f32 := m ((c : Thread nD τ).loc main_arg6)
abbrev wbOf : Vec Ideal S1x1024 .f32 := m ((c : Thread nD τ).loc main_arg7)
abbrev wfOf : Vec Ideal S1x1024 .f32 := m ((c : Thread nD τ).loc main_arg8)

theorem block_0 (t : Fin cfg0.N) (a : Fin 128) (b : Fin 1024) (J : Fin 2176) (hJ : J.val = 128 * t.val + a.val) :
    (iblk m c 0 t : Vec Ideal S128x1024 .f32) (ix2 a b) = oaOf m c (ix2 J b) := by
  obtain ⟨e0, e1⟩ := index_0 t
  unfold iblk
  rw [View.read_apply]
  refine congrArg (oaOf m c) (funext fun x => Fin.ext ?_)
  match x with
    | ⟨0, _⟩ => show win0_0.index t 0 * 128 + 1 * a.val = J.val; rw [e0]; omega
    | ⟨1, _⟩ => show win0_0.index t 1 * 1024 + 1 * b.val = b.val; rw [e1]; omega

theorem block_1 (t : Fin cfg0.N) (a : Fin 128) (b : Fin 1024) (J : Fin 2176) (hJ : J.val = 128 * t.val + a.val) :
    (X0_1 m c t : Vec Ideal S128x1024 .f32) (ix2 a b) = prOf m c (ix2 J (gateLo b)) := by
  obtain ⟨e0, e1⟩ := index_1 t
  unfold X0_1 Pipeline.Window.fill
  rw [dif_pos (moved0_1 t (ix2 a b))]
  unfold iblk
  rw [View.read_apply]
  refine congrArg (prOf m c) (funext fun x => Fin.ext ?_)
  match x with
    | ⟨0, _⟩ => show win0_1.index t 0 * 128 + 1 * a.val = J.val; rw [e0]; omega
    | ⟨1, _⟩ => show win0_1.index t 1 * 1024 + 1 * b.val = b.val; rw [e1]; omega

theorem block_2 (t : Fin cfg0.N) (a : Fin 128) (b : Fin 1024) (J : Fin 2176) (hJ : J.val = 128 * t.val + a.val) :
    (iblk m c 2 t : Vec Ideal S128x1024 .f32) (ix2 a b) = obOf m c (ix2 J b) := by
  obtain ⟨e0, e1⟩ := index_2 t
  unfold iblk
  rw [View.read_apply]
  refine congrArg (obOf m c) (funext fun x => Fin.ext ?_)
  match x with
    | ⟨0, _⟩ => show win0_2.index t 0 * 128 + 1 * a.val = J.val; rw [e0]; omega
    | ⟨1, _⟩ => show win0_2.index t 1 * 1024 + 1 * b.val = b.val; rw [e1]; omega

theorem block_3 (t : Fin cfg0.N) (a : Fin 128) (b : Fin 1024) (J : Fin 2176) (hJ : J.val = 128 * t.val + a.val) :
    (X0_3 m c t : Vec Ideal S128x1024 .f32) (ix2 a b) = prOf m c (ix2 J (gateHi b)) := by
  obtain ⟨e0, e1⟩ := index_3 t
  unfold X0_3 Pipeline.Window.fill
  rw [dif_pos (moved0_3 t (ix2 a b))]
  unfold iblk
  rw [View.read_apply]
  refine congrArg (prOf m c) (funext fun x => Fin.ext ?_)
  match x with
    | ⟨0, _⟩ => show win0_3.index t 0 * 128 + 1 * a.val = J.val; rw [e0]; omega
    | ⟨1, _⟩ => show win0_3.index t 1 * 1024 + 1 * b.val = 1024 + b.val; rw [e1]; omega

theorem block_4 (t : Fin cfg0.N) (a : Fin 128) (b : Fin 1024) (J : Fin 2176) (hJ : J.val = 128 * t.val + a.val) :
    (iblk m c 4 t : Vec Ideal S128x1024 .f32) (ix2 a b) = hrOf m c (ix2 J b) := by
  obtain ⟨e0, e1⟩ := index_4 t
  unfold iblk
  rw [View.read_apply]
  refine congrArg (hrOf m c) (funext fun x => Fin.ext ?_)
  match x with
    | ⟨0, _⟩ => show win0_4.index t 0 * 128 + 1 * a.val = J.val; rw [e0]; omega
    | ⟨1, _⟩ => show win0_4.index t 1 * 1024 + 1 * b.val = b.val; rw [e1]; omega

theorem block_5 (t : Fin cfg0.N) (a : Fin 128) (b : Fin 1024) (J : Fin 2048) (hJ : J.val = 128 * (t.val - 1) + a.val) :
    (iblk m c 5 t : Vec Ideal S128x1024 .f32) (ix2 a b) = tgOf m c (ix2 J b) := by
  obtain ⟨e0, e1⟩ := index_5 t
  unfold iblk
  rw [View.read_apply]
  refine congrArg (tgOf m c) (funext fun x => Fin.ext ?_)
  match x with
    | ⟨0, _⟩ => show win0_5.index t 0 * 128 + 1 * a.val = J.val; rw [e0]; omega
    | ⟨1, _⟩ => show win0_5.index t 1 * 1024 + 1 * b.val = b.val; rw [e1]; omega

theorem block_6 (t : Fin cfg0.N) (a : Fin 2048) (b : Fin 1024) :
    (iblk m c 6 t : Vec Ideal S2048x1024 .bf16) (ix2 a b) = woOf m c (ix2 a b) := by
  obtain ⟨e0, e1⟩ := index_6 t
  unfold iblk
  rw [View.read_apply]
  refine congrArg (woOf m c) (funext fun x => Fin.ext ?_)
  match x with
    | ⟨0, _⟩ => show win0_6.index t 0 * 2048 + 1 * a.val = a.val; rw [e0]; omega
    | ⟨1, _⟩ => show win0_6.index t 1 * 1024 + 1 * b.val = b.val; rw [e1]; omega

theorem block_7 (t : Fin cfg0.N) (a : Fin 1) (b : Fin 1024) :
    (iblk m c 7 t : Vec Ideal S1x1024 .f32) (ix2 a b) = waOf m c (ix2 a b) := by
  obtain ⟨e0, e1⟩ := index_7 t
  unfold iblk
  rw [View.read_apply]
  refine congrArg (waOf m c) (funext fun x => Fin.ext ?_)
  match x with
    | ⟨0, _⟩ => show win0_7.index t 0 * 1 + 1 * a.val = a.val; rw [e0]; omega
    | ⟨1, _⟩ => show win0_7.index t 1 * 1024 + 1 * b.val = b.val; rw [e1]; omega

theorem block_8 (t : Fin cfg0.N) (a : Fin 1) (b : Fin 1024) :
    (iblk m c 8 t : Vec Ideal S1x1024 .f32) (ix2 a b) = wbOf m c (ix2 a b) := by
  obtain ⟨e0, e1⟩ := index_8 t
  unfold iblk
  rw [View.read_apply]
  refine congrArg (wbOf m c) (funext fun x => Fin.ext ?_)
  match x with
    | ⟨0, _⟩ => show win0_8.index t 0 * 1 + 1 * a.val = a.val; rw [e0]; omega
    | ⟨1, _⟩ => show win0_8.index t 1 * 1024 + 1 * b.val = b.val; rw [e1]; omega

theorem block_9 (t : Fin cfg0.N) (a : Fin 1) (b : Fin 1024) :
    (iblk m c 9 t : Vec Ideal S1x1024 .f32) (ix2 a b) = wfOf m c (ix2 a b) := by
  obtain ⟨e0, e1⟩ := index_9 t
  unfold iblk
  rw [View.read_apply]
  refine congrArg (wfOf m c) (funext fun x => Fin.ext ?_)
  match x with
    | ⟨0, _⟩ => show win0_9.index t 0 * 1 + 1 * a.val = a.val; rw [e0]; omega
    | ⟨1, _⟩ => show win0_9.index t 1 * 1024 + 1 * b.val = b.val; rw [e1]; omega

theorem top_apply (x : Vec Ideal S2048x1024 .bf16) (j b : Fin 1024) : top x (ix2 j b) = x (ix2 (lo j) b) := by
  unfold top
  rw [View.ld_unit]
  refine congrArg x (funext fun a => Fin.ext ?_)
  match a with
    | ⟨0, _⟩ => show 0 + j.val = j.val; omega
    | ⟨1, _⟩ => show 0 + b.val = b.val; omega
theorem bot_apply (x : Vec Ideal S2048x1024 .bf16) (j b : Fin 1024) : bot x (ix2 j b) = x (ix2 (hi j) b) := by
  unfold bot
  rw [View.ld_unit]
  refine congrArg x (funext fun a => Fin.ext ?_)
  match a with
    | ⟨0, _⟩ => show 1024 + j.val = 1024 + j.val; rfl
    | ⟨1, _⟩ => show 0 + b.val = b.val; omega

/-! ## A point's rows -/

/-- The reference's rows and errors of the arrays. -/
abbrev rowOf : Fin 2176 → Fin 1024 → EReal := row (oaOf m c) (obOf m c) (prOf m c) (hrOf m c) (woOf m c) (waOf m c) (wbOf m c)
abbrev errOf : ℕ → Fin 1024 → EReal := errR (oaOf m c) (obOf m c) (prOf m c) (hrOf m c) (tgOf m c) (woOf m c) (waOf m c) (wbOf m c) (wfOf m c)

abbrev rowAt (t : Fin cfg0.N) : Fin 128 → Fin 1024 → EReal :=
  rowB (iblk m c 0 t) (X0_1 m c t) (iblk m c 2 t) (X0_3 m c t) (iblk m c 4 t) (iblk m c 6 t) (iblk m c 7 t) (iblk m c 8 t)
abbrev errAt (t : Fin cfg0.N) : Vec Ideal S128x1024 .f32 :=
  errV (iblk m c 0 t) (X0_1 m c t) (iblk m c 2 t) (X0_3 m c t) (iblk m c 4 t) (iblk m c 5 t) (iblk m c 6 t) (iblk m c 7 t) (iblk m c 8 t) (iblk m c 9 t)

theorem hid1 (t : Fin cfg0.N) (a : Fin 128) (R : Fin 2176) (hR : R.val = 128 * t.val + a.val) :
    hid (iblk m c 0 t) (X0_1 m c t) a = hidden (oaOf m c) (prOf m c) gateLo R := by
  funext k
  exact congrArg₂ (fun x y : EReal => x * silu y) (block_0 m c t a k R hR) (block_1 m c t a k R hR)

theorem hid2 (t : Fin cfg0.N) (a : Fin 128) (R : Fin 2176) (hR : R.val = 128 * t.val + a.val) :
    hid (iblk m c 2 t) (X0_3 m c t) a = hidden (obOf m c) (prOf m c) gateHi R := by
  funext k
  exact congrArg₂ (fun x y : EReal => x * silu y) (block_2 m c t a k R hR) (block_3 m c t a k R hR)

theorem row_at (t : Fin cfg0.N) (a : Fin 128) (R : Fin 2176) (hR : R.val = 128 * t.val + a.val) : rowAt m c t a = rowOf m c R := by
  funext j
  unfold rowAt rowB rowOf row
  rw [hid1 m c t a R hR, hid2 m c t a R hR]
  refine congrArg₂ (fun x y : EReal => x + y) (congrArg₂ (fun x y : EReal => x + y) (block_4 m c t a j R hR) (Finset.sum_congr rfl fun k _ => ?_))
    (Finset.sum_congr rfl fun k _ => ?_)
  · exact congrArg₂ (fun x y : EReal => normed (hidden (oaOf m c) (prOf m c) gateLo R) k * x * y) (block_7 m c t 0 k) ((top_apply _ k j).trans (block_6 m c t (lo k) j))
  · exact congrArg₂ (fun x y : EReal => normed (hidden (obOf m c) (prOf m c) gateHi R) k * x * y) (block_8 m c t 0 k) ((bot_apply _ k j).trans (block_6 m c t (hi k) j))

theorem err_at (t : Fin cfg0.N) (a : Fin 128) (R : Fin 2176) (hR : R.val = 128 * t.val + a.val) (j : Fin 1024) :
    masked (counts (grid0.coords t)) (errAt m c t (ix2 a j)) = errOf m c R.val j := by
  have ha := a.isLt
  have hR' := R.isLt
  unfold errOf errR masked
  by_cases h : t.val = 0
  · rw [counts_first t h, if_neg (by decide), dif_neg (by omega)]
  · rw [counts_later t h, if_pos rfl, dif_pos ⟨by omega, hR'⟩]
    unfold errAt
    rw [err_apply]
    refine congrArg₂ (fun x y : EReal => x - y) (congrArg₂ (fun x y : EReal => x * y) ?_ (block_9 m c t 0 j)) (block_5 m c t a j _ ?_)
    · exact congrArg (fun h => normed h j) (row_at m c t a R hR)
    · show R.val - 128 = 128 * (t.val - 1) + a.val
      omega

theorem out10 (t : Fin cfg0.N) (a : Fin 128) (j : Fin 1024) (R : Fin 2176) (hR : R.val = 128 * t.val + a.val) :
    (outsAt0 m c t.val t.isLt).1 (ix2 a j)
      = Cert.HeadReferenceIdeal.Read.val_main_v84 (F := Ideal) (oaOf m c) (obOf m c) (prOf m c) (hrOf m c) (tgOf m c) (woOf m c) (waOf m c) (wbOf m c) (wfOf m c) (ix2 R j) := by
  rw [grad_at, ref_element]
  unfold gradAt
  rw [grad_apply]
  refine congrArg₂ (fun h g => back h g j) (row_at m c t a R hR) (funext fun k => ?_)
  exact congrArg₂ (fun x y : EReal => x * Ideal.ofBits .f32 0x3A800000#32 * y) (err_at m c t a R hR k) (block_9 m c t 0 k)

/-! ## The sums over the points -/

/-- One row's part of the loss, and of the norm weight's gradient. -/
def partL (j : Fin 1024) (r : ℕ) : EReal := errOf m c r j * errOf m c r j
def partW (j : Fin 1024) (r : ℕ) : EReal :=
  if h : r < 2176 then errOf m c r j * Ideal.ofBits .f32 0x3A800000#32 * normed (rowOf m c ⟨r, h⟩) j else 0

theorem loss_step (t : Fin cfg0.N) (s : Vec Ideal S1x1024 .f32) (z : Fin 1) (j : Fin 1024) :
    lossAt m c t s (ix2 z j) = s (ix2 z j) + ∑ x ∈ Finset.range 128, partL m c j (128 * t.val + x) := by
  have hN := lt_N t
  unfold lossAt
  rw [loss_apply, Finset.sum_range]
  refine congrArg (fun x : EReal => s (ix2 z j) + x) (Finset.sum_congr rfl fun x _ => ?_)
  have hx := x.isLt
  have e := err_at m c t x ⟨128 * t.val + x.val, by omega⟩ rfl j
  exact congrArg₂ (fun x y : EReal => x * y) e e

theorem weight_step (t : Fin cfg0.N) (s : Vec Ideal S1x1024 .f32) (z : Fin 1) (j : Fin 1024) :
    weightAt m c t s (ix2 z j) = s (ix2 z j) + ∑ x ∈ Finset.range 128, partW m c j (128 * t.val + x) := by
  have hN := lt_N t
  unfold weightAt
  rw [weight_apply, Finset.sum_range]
  refine congrArg (fun x : EReal => s (ix2 z j) + x) (Finset.sum_congr rfl fun x _ => ?_)
  have hx := x.isLt
  have hb : 128 * t.val + x.val < 2176 := by omega
  unfold partW
  rw [dif_pos hb]
  exact congrArg₂ (fun (x : EReal) h => x * Ideal.ofBits .f32 0x3A800000#32 * normed h j) (err_at m c t x ⟨_, hb⟩ rfl j) (row_at m c t x ⟨_, hb⟩ rfl)

theorem loss_sum (z : Fin 1) (j : Fin 1024) : ∀ (n : ℕ) (hn : n < cfg0.N),
    (outsAt0 m c n hn).2.1 (ix2 z j) = ∑ r ∈ Finset.range (128 * (n + 1)), partL m c j r
  | 0, hn => by
    rw [loss_first, loss_step]
    refine (congrArg₂ (fun x y : EReal => x + y) zero_word (Finset.sum_congr rfl fun x _ => ?_)).trans (zero_add _)
    exact congrArg (partL m c j) (by show 128 * 0 + x = x; omega)
  | n + 1, hn => by
    rw [loss_next, loss_step, loss_sum z j n (Nat.lt_of_succ_lt hn), show 128 * (n + 1 + 1) = 128 * (n + 1) + 128 by omega, Finset.sum_range_add]

theorem weight_sum (z : Fin 1) (j : Fin 1024) : ∀ (n : ℕ) (hn : n < cfg0.N),
    (outsAt0 m c n hn).2.2 (ix2 z j) = ∑ r ∈ Finset.range (128 * (n + 1)), partW m c j r
  | 0, hn => by
    rw [weight_first, weight_step]
    refine (congrArg₂ (fun x y : EReal => x + y) zero_word (Finset.sum_congr rfl fun x _ => ?_)).trans (zero_add _)
    exact congrArg (partW m c j) (by show 128 * 0 + x = x; omega)
  | n + 1, hn => by
    rw [weight_next, weight_step, weight_sum z j n (Nat.lt_of_succ_lt hn), show 128 * (n + 1 + 1) = 128 * (n + 1) + 128 by omega, Finset.sum_range_add]

theorem partL_all (j : Fin 1024) : ∑ r ∈ Finset.range 2176, partL m c j r = ∑ a : Fin 2048, errOf m c (128 + a.val) j * errOf m c (128 + a.val) j := by
  rw [show 2176 = 128 + 2048 from rfl, Finset.sum_range_add, Finset.sum_eq_zero, zero_add, Finset.sum_range]
  · rfl
  · intro x hx
    have := Finset.mem_range.mp hx
    unfold partL errOf errR
    rw [dif_neg (by omega), zero_mul]

theorem partW_all (j : Fin 1024) :
    ∑ r ∈ Finset.range 2176, partW m c j r = ∑ r : Fin 2176, errOf m c r.val j * Ideal.ofBits .f32 0x3A800000#32 * normed (rowOf m c r) j := by
  rw [Finset.sum_range]
  refine Finset.sum_congr rfl fun r _ => ?_
  unfold partW
  rw [dif_pos r.isLt]

/-! ## The arrays -/

/-- The reference's three results. -/
abbrev res84 : Vec Ideal S2176x1024 .f32 := Cert.HeadReferenceIdeal.Read.val_main_v84 (F := Ideal) (oaOf m c) (obOf m c) (prOf m c) (hrOf m c) (tgOf m c) (woOf m c) (waOf m c) (wbOf m c) (wfOf m c)
abbrev res87 : Vec Ideal S1x1024 .f32 := Cert.HeadReferenceIdeal.Read.val_main_v87 (F := Ideal) (oaOf m c) (obOf m c) (prOf m c) (hrOf m c) (tgOf m c) (woOf m c) (waOf m c) (wbOf m c) (wfOf m c)
abbrev res68 : Vec Ideal S1x1024 .f32 := Cert.HeadReferenceIdeal.Read.val_main_v68 (F := Ideal) (oaOf m c) (obOf m c) (prOf m c) (hrOf m c) (tgOf m c) (woOf m c) (waOf m c) (wbOf m c) (wfOf m c)

theorem read_10 (t : Fin cfg0.N) :
    (dats m 0 c).flushed 10 t = ((cfg0.win 10).blk t).view.read (Elt Ideal) (res84 m c) := by
  have hN := lt_N t
  show (cfg0.win 10).cut (grid0.coords t) ((dats m 0 c).after 10 t) = _
  rw [after0_10]
  funext j
  rw [View.read_apply]
  obtain ⟨e0, e1⟩ := index_10 t
  have b0 : (j 0).val < 128 := (j 0).isLt
  have b1 : (j 1).val < 1024 := (j 1).isLt
  have hR : 128 * t.val + (j 0).val < 2176 := by omega
  refine Eq.trans (b := res84 m c (ix2 ⟨128 * t.val + (j 0).val, hR⟩ ⟨(j 1).val, b1⟩)) ?_ ?_
  · refine Eq.trans (congrArg (outsAt0 m c t.val t.isLt).1 (?_ : _ = ix2 ⟨(j 0).val, b0⟩ ⟨(j 1).val, b1⟩)) ?_
    · funext a; match a with
        | ⟨0, _⟩ => rfl
        | ⟨1, _⟩ => rfl
    exact out10 m c t _ _ _ rfl
  · refine congrArg (res84 m c) (Eq.symm (idx2 _ _ _ ?_ ?_))
    · show win0_10.index t 0 * 128 + 1 * (j 0).val = 128 * t.val + (j 0).val; rw [e0]; omega
    · show win0_10.index t 1 * 1024 + 1 * (j 1).val = (j 1).val; rw [e1]; omega

theorem arr_10 : (dats m 0 c).arrAt 10 cfg0.N = res84 m c :=
  (dats m 0 c).arrAt_eq_of_cover 10 _ (fun t _ => read_10 m c t) fun i => by
    have hN : cfg0.N = 17 := N_0
    have b0 : (i 0).val < 2176 := (i 0).isLt
    have b1 : (i 1).val < 1024 := (i 1).isLt
    obtain ⟨t, ht⟩ : ∃ t : Fin cfg0.N, t.val = (i 0).val / 128 := ⟨⟨_, by omega⟩, rfl⟩
    obtain ⟨e0, e1⟩ := index_10 t
    refine ⟨t, flush0_10 t, ?_⟩
    show i ∈ ((View.whole main_v0_0).slice (win0_10.rect t)).set
    rw [View.set_slice_whole, Rect.mem_set_unit]
    intro x
    match x with
      | ⟨0, _⟩ =>
        show win0_10.index t 0 * 128 ≤ (i 0).val ∧ (i 0).val < win0_10.index t 0 * 128 + 128
        rw [e0]; omega
      | ⟨1, _⟩ =>
        show win0_10.index t 1 * 1024 ≤ (i 1).val ∧ (i 1).val < win0_10.index t 1 * 1024 + 1024
        rw [e1]; omega

theorem read_11 (t : Fin cfg0.N) (hf : (cfg0.win 11).flush t = true) :
    (dats m 0 c).flushed 11 t = ((cfg0.win 11).blk t).view.read (Elt Ideal) (res87 m c) := by
  have hN := lt_N t
  have ht : t.val = 16 := by have := (flush0_11 t).mp hf; omega
  show (cfg0.win 11).cut (grid0.coords t) ((dats m 0 c).after 11 t) = _
  rw [after0_11]
  funext j
  rw [View.read_apply]
  obtain ⟨e0, e1⟩ := index_11 t
  have b0 : (j 0).val < 1 := (j 0).isLt
  have b1 : (j 1).val < 1024 := (j 1).isLt
  refine Eq.trans (b := (∑ r ∈ Finset.range 2176, partL m c ⟨(j 1).val, b1⟩ r : EReal)) ?_ ?_
  · refine Eq.trans (congrArg (outsAt0 m c t.val t.isLt).2.1 (?_ : _ = ix2 ⟨(j 0).val, b0⟩ ⟨(j 1).val, b1⟩)) ?_
    · funext a; match a with
        | ⟨0, _⟩ => rfl
        | ⟨1, _⟩ => rfl
    rw [loss_sum, ht]
  · refine Eq.symm ?_
    refine Eq.trans (ref_loss _ _ _ _ _ _ _ _ _ ⟨(j 1).val, b1⟩ _ ?_) (partL_all m c _).symm
    show win0_11.index t 1 * 1024 + 1 * (j 1).val = (j 1).val; rw [e1]; omega

theorem arr_11 : (dats m 0 c).arrAt 11 cfg0.N = res87 m c :=
  (dats m 0 c).arrAt_eq_of_cover 11 _ (read_11 m c) fun i => by
    have hN : cfg0.N = 17 := N_0
    have b0 : (i 0).val < 1 := (i 0).isLt
    have b1 : (i 1).val < 1024 := (i 1).isLt
    obtain ⟨t, ht⟩ : ∃ t : Fin cfg0.N, t.val = 16 := ⟨⟨_, by omega⟩, rfl⟩
    obtain ⟨e0, e1⟩ := index_11 t
    refine ⟨t, (flush0_11 t).mpr (by omega), ?_⟩
    show i ∈ ((View.whole main_v0_1).slice (win0_11.rect t)).set
    rw [View.set_slice_whole, Rect.mem_set_unit]
    intro x
    match x with
      | ⟨0, _⟩ =>
        show win0_11.index t 0 * 1 ≤ (i 0).val ∧ (i 0).val < win0_11.index t 0 * 1 + 1
        rw [e0]; omega
      | ⟨1, _⟩ =>
        show win0_11.index t 1 * 1024 ≤ (i 1).val ∧ (i 1).val < win0_11.index t 1 * 1024 + 1024
        rw [e1]; omega

theorem read_12 (t : Fin cfg0.N) (hf : (cfg0.win 12).flush t = true) :
    (dats m 0 c).flushed 12 t = ((cfg0.win 12).blk t).view.read (Elt Ideal) (res68 m c) := by
  have hN := lt_N t
  have ht : t.val = 16 := by have := (flush0_12 t).mp hf; omega
  show (cfg0.win 12).cut (grid0.coords t) ((dats m 0 c).after 12 t) = _
  rw [after0_12]
  funext j
  rw [View.read_apply]
  obtain ⟨e0, e1⟩ := index_12 t
  have b0 : (j 0).val < 1 := (j 0).isLt
  have b1 : (j 1).val < 1024 := (j 1).isLt
  refine Eq.trans (b := (∑ r ∈ Finset.range 2176, partW m c ⟨(j 1).val, b1⟩ r : EReal)) ?_ ?_
  · refine Eq.trans (congrArg (outsAt0 m c t.val t.isLt).2.2 (?_ : _ = ix2 ⟨(j 0).val, b0⟩ ⟨(j 1).val, b1⟩)) ?_
    · funext a; match a with
        | ⟨0, _⟩ => rfl
        | ⟨1, _⟩ => rfl
    rw [weight_sum, ht]
  · refine Eq.symm ?_
    refine Eq.trans (ref_weight _ _ _ _ _ _ _ _ _ ⟨(j 1).val, b1⟩ _ ?_) (partW_all m c _).symm
    show win0_12.index t 1 * 1024 + 1 * (j 1).val = (j 1).val; rw [e1]; omega

theorem arr_12 : (dats m 0 c).arrAt 12 cfg0.N = res68 m c :=
  (dats m 0 c).arrAt_eq_of_cover 12 _ (read_12 m c) fun i => by
    have hN : cfg0.N = 17 := N_0
    have b0 : (i 0).val < 1 := (i 0).isLt
    have b1 : (i 1).val < 1024 := (i 1).isLt
    obtain ⟨t, ht⟩ : ∃ t : Fin cfg0.N, t.val = 16 := ⟨⟨_, by omega⟩, rfl⟩
    obtain ⟨e0, e1⟩ := index_12 t
    refine ⟨t, (flush0_12 t).mpr (by omega), ?_⟩
    show i ∈ ((View.whole main_v0_2).slice (win0_12.rect t)).set
    rw [View.set_slice_whole, Rect.mem_set_unit]
    intro x
    match x with
      | ⟨0, _⟩ =>
        show win0_12.index t 0 * 1 ≤ (i 0).val ∧ (i 0).val < win0_12.index t 0 * 1 + 1
        rw [e0]; omega
      | ⟨1, _⟩ =>
        show win0_12.index t 1 * 1024 ≤ (i 1).val ∧ (i 1).val < win0_12.index t 1 * 1024 + 1024
        rw [e1]; omega

/-! ## The claims -/

theorem frame_ideal : Cert.quiescent_HeadIdeal := fun m ρ _ => Cert.HeadIdeal.Gen.frame m ρ

/-- The kernel bodies of the two printed programs are the same table. -/
theorem bodies_eq : @Cert.Head.defs₀ Bits _ _ = @Cert.HeadIdeal.defs₀ Bits _ _ := by
  unfold Cert.Head.defs₀ Cert.HeadIdeal.defs₀
  refine congrArg Defs.onTc (funext fun l => funext fun x => ?_)
  match l, x with
    | 0, (_, _) => rfl

theorem defs_eq : @Cert.Head.defs Bits _ _ = @Cert.HeadIdeal.defs Bits _ _ := by
  unfold Cert.Head.defs Cert.HeadIdeal.defs
  exact congrArg (Pipeline.defs (@Cert.HeadIdeal.pcfgs Bits _)) bodies_eq

theorem frame_bits : Cert.quiescent_Head := fun m ρ _ => by
  rw [defs_eq]
  exact Cert.HeadIdeal.Gen.frame (F := Bits) m ρ

theorem frame_reference : Cert.quiescent_HeadReferenceIdeal := fun m ρ _ =>
  (θ_run Cert.HeadReferenceIdeal.defs _ _).mono
    (fun r h => ⟨fun c => (h c).2.2.2, sem_eq_zero_of_no_sems (by decide) r.2⟩) (Cert.HeadReferenceIdeal.Value.run m ρ)

/-- The reference's values of equal arguments. -/
theorem args_eq {B : Type} (f : Vec Ideal S2176x1024 .f32 → Vec Ideal S2176x1024 .f32 → Vec Ideal S2176x3584 .f32 → Vec Ideal S2176x1024 .f32
      → Vec Ideal S2048x1024 .f32 → Vec Ideal S2048x1024 .bf16 → Vec Ideal S1x1024 .f32 → Vec Ideal S1x1024 .f32 → Vec Ideal S1x1024 .f32 → B)
    {x0 y0 x1 y1 x2 y2 x3 y3 x4 y4 x5 y5 x6 y6 x7 y7 x8 y8} (a0 : x0 = y0) (a1 : x1 = y1) (a2 : x2 = y2) (a3 : x3 = y3) (a4 : x4 = y4)
    (a5 : x5 = y5) (a6 : x6 = y6) (a7 : x7 = y7) (a8 : x8 = y8) : f x0 x1 x2 x3 x4 x5 x6 x7 x8 = f y0 y1 y2 y3 y4 y5 y6 y7 y8 := by
  subst a0 a1 a2 a3 a4 a5 a6 a7 a8
  rfl

theorem algebraic : Cert.algebraic_HeadIdeal_HeadReferenceIdeal := by
  intro m g m' g' _ hargs
  refine ⟨fun c => res84 m c, fun c => res87 m c, fun c => res68 m c, ?_, ?_⟩
  · refine (θ_run Cert.HeadIdeal.defs _ _).mono (fun r h c => ?_) (θ_run_and (run_main_quiescent (F := Ideal) m g) (Cert.HeadIdeal.Gen.frame (F := Ideal) m g))
    exact ⟨((h.1.1 c).1 10).trans (arr_10 m c), ((h.1.1 c).1 11).trans (arr_11 m c), ((h.1.1 c).1 12).trans (arr_12 m c), h.2.1 c⟩
  · refine (θ_run Cert.HeadReferenceIdeal.defs _ _).mono (fun r h c => ?_) (Cert.HeadReferenceIdeal.Value.run (F := Ideal) m' g')
    obtain ⟨a0, a1, a2, a3, a4, a5, a6, a7, a8⟩ := hargs c
    refine ⟨(h c).1.trans ?_, (h c).2.1.trans ?_, (h c).2.2.1.trans ?_, (h c).2.2.2⟩
    · exact (Cert.HeadReferenceIdeal.Read.val_main_v84_eq _).trans (args_eq Cert.HeadReferenceIdeal.Read.val_main_v84 a0 a1 a2 a3 a4 a5 a6 a7 a8)
    · exact (Cert.HeadReferenceIdeal.Read.val_main_v87_eq _).trans (args_eq Cert.HeadReferenceIdeal.Read.val_main_v87 a0 a1 a2 a3 a4 a5 a6 a7 a8)
    · exact (Cert.HeadReferenceIdeal.Read.val_main_v68_eq _).trans (args_eq Cert.HeadReferenceIdeal.Read.val_main_v68 a0 a1 a2 a3 a4 a5 a6 a7 a8)

end Cert.HeadIdeal.Run

end

end
-- ==== Proof.lean ====
module

public import proofs.«01_k».proof.Defs
public import proofs.«01_k».proof.Proof.Value
public import proofs.«01_k».proof.Proof.InProjValue
public import proofs.«01_k».proof.Proof.GradWValue
public import proofs.«01_k».proof.Proof.InGradValue
public import proofs.«01_k».proof.Proof.TailBackRun
public import proofs.«01_k».proof.Proof.TailBackValue
public import proofs.«01_k».proof.Proof.HeadRun
public import proofs.«01_k».proof.Proof.HeadValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal.Run
public import proofs.«01_k».proof.Proof.Gen.InProjReferenceIdeal.Read
public import proofs.«01_k».proof.Proof.Gen.GradW
public import proofs.«01_k».proof.Proof.Gen.GradW.Skeleton
public import proofs.«01_k».proof.Proof.Gen.GradW.Launch
public import proofs.«01_k».proof.Proof.Gen.GradW.Points
public import proofs.«01_k».proof.Proof.Gen.GradW.Frame
public import proofs.«01_k».proof.Proof.Gen.GradWIdeal
public import proofs.«01_k».proof.Proof.Gen.GradWIdeal.Skeleton
public import proofs.«01_k».proof.Proof.Gen.GradWIdeal.Launch
public import proofs.«01_k».proof.Proof.Gen.GradWIdeal.Points
public import proofs.«01_k».proof.Proof.Gen.GradWIdeal.Frame
public import proofs.«01_k».proof.Proof.Gen.GradWReferenceIdeal.Run
public import proofs.«01_k».proof.Proof.Gen.GradWReferenceIdeal.Read
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradReferenceIdeal.Run
public import proofs.«01_k».proof.Proof.Gen.InGradReferenceIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal.Run
public import proofs.«01_k».proof.Proof.Gen.TailReferenceIdeal.Read
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadReferenceIdeal.Run
public import proofs.«01_k».proof.Proof.Gen.HeadReferenceIdeal.Read
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.GradW.Gen.facts, Cert.GradWIdeal.Gen.facts, Cert.GradWReferenceIdeal.Gen.facts,
    Cert.InGrad.Gen.facts, Cert.InGradIdeal.Gen.facts, Cert.InGradReferenceIdeal.Gen.facts,
    Cert.Tail.Gen.facts, Cert.TailIdeal.Gen.facts, Cert.TailReferenceIdeal.Gen.facts,
    Cert.Head.Gen.facts, Cert.HeadIdeal.Gen.facts, Cert.HeadReferenceIdeal.Gen.facts, Cert.Lift.finite_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    Cert.InProjIdeal.Run.frame_bits, Cert.InProjIdeal.Run.frame_ideal, Cert.InProjIdeal.Run.frame_reference,
    Cert.GradWIdeal.Run.frame_bits, Cert.GradWIdeal.Run.frame_ideal, Cert.GradWIdeal.Run.frame_reference,
    Cert.InGradIdeal.Run.frame_bits, Cert.InGradIdeal.Run.frame_ideal, Cert.InGradIdeal.Run.frame_reference,
    Cert.TailIdeal.Run.frame_bits, Cert.TailIdeal.Run.frame_ideal, Cert.TailIdeal.Run.frame_reference,
    Cert.HeadIdeal.Run.frame_bits, Cert.HeadIdeal.Run.frame_ideal, Cert.HeadIdeal.Run.frame_reference,
    trivial, Cert.Lift.algebraic, trivial, Cert.InProjIdeal.Run.algebraic, trivial, Cert.GradWIdeal.Run.algebraic,
    trivial, Cert.InGradIdeal.Run.algebraic, trivial, Cert.TailIdeal.Run.algebraic,
    trivial, Cert.HeadIdeal.Run.algebraic⟩

end Cert.Proof

end
